-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2560x16384 : Shape := ⟨3, ![2, 2560, 16384]⟩
abbrev S2x2560x32 : Shape := ⟨3, ![2, 2560, 32]⟩
abbrev S2x2560x64 : Shape := ⟨3, ![2, 2560, 64]⟩
abbrev S64x512x256 : Shape := ⟨3, ![64, 512, 256]⟩
abbrev S64 : Shape := ⟨1, ![64]⟩
abbrev S512x32x64 : Shape := ⟨3, ![512, 32, 64]⟩
abbrev S512 : Shape := ⟨1, ![512]⟩
abbrev S20x256x8x4x64x8 : Shape := ⟨6, ![20, 256, 8, 4, 64, 8]⟩
abbrev S20x64x8x8x4x256 : Shape := ⟨6, ![20, 64, 8, 8, 4, 256]⟩
abbrev S20x64x256x256 : Shape := ⟨4, ![20, 64, 256, 256]⟩
abbrev S5120x16384 : Shape := ⟨2, ![5120, 16384]⟩
abbrev S5120x32 : Shape := ⟨2, ![5120, 32]⟩
abbrev S32x5120 : Shape := ⟨2, ![32, 5120]⟩
abbrev S8x1x4x5120 : Shape := ⟨4, ![8, 1, 4, 5120]⟩
abbrev S8x4x4x5120 : Shape := ⟨4, ![8, 4, 4, 5120]⟩
abbrev S8x16x5120 : Shape := ⟨3, ![8, 16, 5120]⟩
abbrev S5120x64 : Shape := ⟨2, ![5120, 64]⟩
abbrev S64x5120 : Shape := ⟨2, ![64, 5120]⟩
abbrev S64x1x5120 : Shape := ⟨3, ![64, 1, 5120]⟩
abbrev S512x1 : Shape := ⟨2, ![512, 1]⟩
abbrev S512x128 : Shape := ⟨2, ![512, 128]⟩
abbrev S64x8x8x4x64 : Shape := ⟨5, ![64, 8, 8, 4, 64]⟩
abbrev S64x64x8x8x4 : Shape := ⟨5, ![64, 64, 8, 8, 4]⟩
abbrev S64x64x8x8x1x4 : Shape := ⟨6, ![64, 64, 8, 8, 1, 4]⟩
abbrev S64x64x8x8x8x4 : Shape := ⟨6, ![64, 64, 8, 8, 8, 4]⟩
abbrev S5120x64x512 : Shape := ⟨3, ![5120, 64, 512]⟩
abbrev S256x8192 : Shape := ⟨2, ![256, 8192]⟩
abbrev S8x16x256 : Shape := ⟨3, ![8, 16, 256]⟩
abbrev S32x1x256 : Shape := ⟨3, ![32, 1, 256]⟩
abbrev S64x256x256 : Shape := ⟨3, ![64, 256, 256]⟩
abbrev S32x512x256 : Shape := ⟨3, ![32, 512, 256]⟩
abbrev S4x8x256x256 : Shape := ⟨4, ![4, 8, 256, 256]⟩
abbrev S32x2x512x128 : Shape := ⟨4, ![32, 2, 512, 128]⟩
abbrev S2x4x256x2x128 : Shape := ⟨5, ![2, 4, 256, 2, 128]⟩
abbrev S2x4x256x128 : Shape := ⟨4, ![2, 4, 256, 128]⟩
abbrev S4 : Shape := ⟨1, ![4]⟩
abbrev S2 : Shape := ⟨1, ![2]⟩
abbrev S_ : Shape := ⟨0, ![]⟩
abbrev S256x256 : Shape := ⟨2, ![256, 256]⟩
abbrev S1 : Shape := ⟨1, ![1]⟩
abbrev S1x8x256x256 : Shape := ⟨4, ![1, 8, 256, 256]⟩
abbrev S8x256x256 : Shape := ⟨3, ![8, 256, 256]⟩
abbrev S1x1x256x256 : Shape := ⟨4, ![1, 1, 256, 256]⟩
abbrev S8x2x16x256 : Shape := ⟨4, ![8, 2, 16, 256]⟩
abbrev S8x1x16x256 : Shape := ⟨4, ![8, 1, 16, 256]⟩
abbrev S1x256x256 : Shape := ⟨3, ![1, 256, 256]⟩
abbrev S8x128 : Shape := ⟨2, ![8, 128]⟩
abbrev S256x128 : Shape := ⟨2, ![256, 128]⟩
abbrev S32x8x128 : Shape := ⟨3, ![32, 8, 128]⟩
abbrev S1x8x128 : Shape := ⟨3, ![1, 8, 128]⟩
abbrev S32x16x128 : Shape := ⟨3, ![32, 16, 128]⟩
abbrev S32x1x16x128 : Shape := ⟨4, ![32, 1, 16, 128]⟩
abbrev S1x1x512x128 : Shape := ⟨4, ![1, 1, 512, 128]⟩
abbrev S512x256 : Shape := ⟨2, ![512, 256]⟩
abbrev S1x1x256 : Shape := ⟨3, ![1, 1, 256]⟩
abbrev S1x256 : Shape := ⟨2, ![1, 256]⟩
abbrev S1x512x256 : Shape := ⟨3, ![1, 512, 256]⟩
abbrev S256x512 : Shape := ⟨2, ![256, 512]⟩
abbrev S256x2x128 : Shape := ⟨3, ![256, 2, 128]⟩
abbrev S1x1x256x2x128 : Shape := ⟨5, ![1, 1, 256, 2, 128]⟩
abbrev S1x1x256x128 : Shape := ⟨4, ![1, 1, 256, 128]⟩
abbrev S1x1x256x1x128 : Shape := ⟨5, ![1, 1, 256, 1, 128]⟩

abbrev nBuf : Space → Nat
  | .hbm => 31
  | .vmem => 14
  | .smem => 1
  | _ => 0

abbrev bufTy : (tb : Table) → Fin (tcTables nBuf tb) → BufTy
  | .hbm, ⟨0, _⟩ => ⟨S2x2560x16384, .fp8e5m2⟩
  | .hbm, ⟨1, _⟩ => ⟨S2x2560x32, .f32⟩
  | .hbm, ⟨2, _⟩ => ⟨S2x2560x16384, .fp8e4m3⟩
  | .hbm, ⟨3, _⟩ => ⟨S2x2560x64, .f32⟩
  | .hbm, ⟨4, _⟩ => ⟨S64x512x256, .fp8e4m3⟩
  | .hbm, ⟨5, _⟩ => ⟨S64, .f32⟩
  | .hbm, ⟨6, _⟩ => ⟨S512x32x64, .fp8e4m3⟩
  | .hbm, ⟨7, _⟩ => ⟨S512, .f32⟩
  | .hbm, ⟨8, _⟩ => ⟨S20x256x8x4x64x8, .fp8e5m2⟩
  | .hbm, ⟨9, _⟩ => ⟨S20x64x8x8x4x256, .fp8e5m2⟩
  | .hbm, ⟨10, _⟩ => ⟨S20x64x256x256, .fp8e5m2⟩
  | .hbm, ⟨11, _⟩ => ⟨S5120x16384, .fp8e4m3⟩
  | .hbm, ⟨12, _⟩ => ⟨S5120x32, .f32⟩
  | .hbm, ⟨13, _⟩ => ⟨S32x5120, .f32⟩
  | .hbm, ⟨14, _⟩ => ⟨S32x5120, .bf16⟩
  | .hbm, ⟨15, _⟩ => ⟨S8x1x4x5120, .bf16⟩
  | .hbm, ⟨16, _⟩ => ⟨S8x4x4x5120, .bf16⟩
  | .hbm, ⟨17, _⟩ => ⟨S8x16x5120, .bf16⟩
  | .hbm, ⟨18, _⟩ => ⟨S5120x64, .f32⟩
  | .hbm, ⟨19, _⟩ => ⟨S64x5120, .f32⟩
  | .hbm, ⟨20, _⟩ => ⟨S64x1x5120, .f32⟩
  | .hbm, ⟨21, _⟩ => ⟨S512x1, .f32⟩
  | .hbm, ⟨22, _⟩ => ⟨S512x128, .f32⟩
  | .hbm, ⟨23, _⟩ => ⟨S64x8x8x4x64, .fp8e4m3⟩
  | .hbm, ⟨24, _⟩ => ⟨S64x64x8x8x4, .fp8e4m3⟩
  | .hbm, ⟨25, _⟩ => ⟨S64x64x8x8x1x4, .fp8e4m3⟩
  | .hbm, ⟨26, _⟩ => ⟨S64x64x8x8x8x4, .fp8e4m3⟩
  | .hbm, ⟨27, _⟩ => ⟨S64x512x256, .fp8e4m3⟩
  | .hbm, ⟨28, _⟩ => ⟨S5120x16384, .bf16⟩
  | .hbm, ⟨29, _⟩ => ⟨S5120x64x512, .bf16⟩
  | .hbm, ⟨30, _⟩ => ⟨S64x512x256, .f32⟩
  | .local _ .vmem, ⟨0, _⟩ => ⟨S256x8192, .fp8e4m3⟩
  | .local _ .vmem, ⟨1, _⟩ => ⟨S256x8192, .fp8e4m3⟩
  | .local _ .vmem, ⟨2, _⟩ => ⟨S8x16x256, .bf16⟩
  | .local _ .vmem, ⟨3, _⟩ => ⟨S8x16x256, .bf16⟩
  | .local _ .vmem, ⟨4, _⟩ => ⟨S32x1x256, .f32⟩
  | .local _ .vmem, ⟨5, _⟩ => ⟨S32x1x256, .f32⟩
  | .local _ .vmem, ⟨6, _⟩ => ⟨S64x256x256, .fp8e4m3⟩
  | .local _ .vmem, ⟨7, _⟩ => ⟨S512x128, .f32⟩
  | .local _ .vmem, ⟨8, _⟩ => ⟨S32x512x256, .fp8e4m3⟩
  | .local _ .vmem, ⟨9, _⟩ => ⟨S4x8x256x256, .fp8e5m2⟩
  | .local _ .vmem, ⟨10, _⟩ => ⟨S32x2x512x128, .bf16⟩
  | .local _ .vmem, ⟨11, _⟩ => ⟨S32x512x256, .f32⟩
  | .local _ .vmem, ⟨12, _⟩ => ⟨S2x4x256x2x128, .bf16⟩
  | .local _ .vmem, ⟨13, _⟩ => ⟨S2x4x256x128, .bf16⟩
  | .local _ .smem, ⟨0, _⟩ => ⟨S64, .f32⟩
  | _, _ => ⟨S2x2560x16384, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![2, 20], ![false, false]⟩

def k0_mult1 (i : grid0.Coords) : BitVec 32 :=
  let arg1 : BitVec 32 := BitVec.ofNat 32 (i 1).val
  let c256_i32 : BitVec 32 := 256#32
  let v2 : BitVec 32 := Scalar.muli arg1 c256_i32
  v2
@[reducible] def k0_t1_loop : Scf.Loop 32 :=
  let c0_i32_4 : BitVec 32 := 0#32
  let c8_i32 : BitVec 32 := 8#32
  let v20 : BitVec 32 := Scalar.addi c0_i32_4 c8_i32
  let c1_i32 : BitVec 32 := 1#32
  ⟨c0_i32_4, v20, c1_i32⟩
def k0_cond3 (i : grid0.Coords) (k0_t1 : Fin k0_t1_loop.trips) : BitVec 1 :=
  let arg0 : BitVec 32 := BitVec.ofNat 32 (i 0).val
  let c20_i32 : BitVec 32 := 20#32
  let v0 : BitVec 32 := Scalar.muli arg0 c20_i32
  let arg1 : BitVec 32 := BitVec.ofNat 32 (i 1).val
  let v1 : BitVec 32 := Scalar.addi v0 arg1
  let c8_i32_11 : BitVec 32 := 8#32
  let v28 : BitVec 32 := Scalar.muli v1 c8_i32_11
  let c0_i32_4 : BitVec 32 := 0#32
  let c1_i32 : BitVec 32 := 1#32
  let arg22 : BitVec 32 := Scf.iv c0_i32_4 c1_i32 k0_t1
  let v29 : BitVec 32 := Scalar.addi v28 arg22
  let c4_i32 : BitVec 32 := 4#32
  let v30 : BitVec 32 := Scalar.addi v29 c4_i32
  let c1_i32_12 : BitVec 32 := 1#32
  let v31 : BitVec 32 := Scalar.subi v30 c1_i32_12
  let c320_i32 : BitVec 32 := 320#32
  let v32 : BitVec 1 := Scalar.cmpi .slt v31 c320_i32
  let v33 : BitVec 32 := Scalar.extui v32
  let c0_i32_13 : BitVec 32 := 0#32
  let v34 : BitVec 1 := Scalar.cmpi .ne v33 c0_i32_13
  v34

def k0_off1 (i : grid0.Coords) (k0_t1 : Fin k0_t1_loop.trips) : Fin 1 → Nat :=
  let arg0 : BitVec 32 := BitVec.ofNat 32 (i 0).val
  let c20_i32 : BitVec 32 := 20#32
  let v0 : BitVec 32 := Scalar.muli arg0 c20_i32
  let arg1 : BitVec 32 := BitVec.ofNat 32 (i 1).val
  let v1 : BitVec 32 := Scalar.addi v0 arg1
  let c8_i32_11 : BitVec 32 := 8#32
  let v28 : BitVec 32 := Scalar.muli v1 c8_i32_11
  let c0_i32_4 : BitVec 32 := 0#32
  let c1_i32 : BitVec 32 := 1#32
  let arg22 : BitVec 32 := Scf.iv c0_i32_4 c1_i32 k0_t1
  let v29 : BitVec 32 := Scalar.addi v28 arg22
  let c4_i32_55 : BitVec 32 := 4#32
  let v100 : BitVec 32 := Scalar.addi v29 c4_i32_55
  let c1_i32_56 : BitVec 32 := 1#32
  let v101 : BitVec 32 := Scalar.subi v100 c1_i32_56
  let c4_i32_77 : BitVec 32 := 4#32
  let c0_i32_78 : BitVec 32 := 0#32
  let v140 : BitVec 1 := Scalar.cmpi .eq c4_i32_77 c0_i32_78
  let c1_i32_79 : BitVec 32 := 1#32
  let v141 : BitVec 32 := Scalar.select v140 c1_i32_79 c4_i32_77
  let v142 : BitVec 32 := Scalar.remsi v101 v141
  let c0_i32_81 : BitVec 32 := 0#32
  let v144 : BitVec 1 := Scalar.cmpi .slt v142 c0_i32_81
  let c0_i32_82 : BitVec 32 := 0#32
  let v145 : BitVec 1 := Scalar.cmpi .slt v141 c0_i32_82
  let v146 : BitVec 1 := Scalar.xori v144 v145
  let c0_i32_80 : BitVec 32 := 0#32
  let v143 : BitVec 1 := Scalar.cmpi .ne v142 c0_i32_80
  let v147 : BitVec 1 := Scalar.andi v146 v143
  let v148 : BitVec 32 := Scalar.addi v142 v141
  let v149 : BitVec 32 := Scalar.select v147 v148 v142
  ![v149.toNat]
def k0_off2 (i : grid0.Coords) (k0_t1 : Fin k0_t1_loop.trips) : Fin 4 → Nat :=
  let arg0 : BitVec 32 := BitVec.ofNat 32 (i 0).val
  let c20_i32 : BitVec 32 := 20#32
  let v0 : BitVec 32 := Scalar.muli arg0 c20_i32
  let arg1 : BitVec 32 := BitVec.ofNat 32 (i 1).val
  let v1 : BitVec 32 := Scalar.addi v0 arg1
  let c8_i32_11 : BitVec 32 := 8#32
  let v28 : BitVec 32 := Scalar.muli v1 c8_i32_11
  let c0_i32_4 : BitVec 32 := 0#32
  let c1_i32 : BitVec 32 := 1#32
  let arg22 : BitVec 32 := Scf.iv c0_i32_4 c1_i32 k0_t1
  let v29 : BitVec 32 := Scalar.addi v28 arg22
  let c4_i32_55 : BitVec 32 := 4#32
  let v100 : BitVec 32 := Scalar.addi v29 c4_i32_55
  let c1_i32_56 : BitVec 32 := 1#32
  let v101 : BitVec 32 := Scalar.subi v100 c1_i32_56
  let c4_i32_77 : BitVec 32 := 4#32
  let c0_i32_78 : BitVec 32 := 0#32
  let v140 : BitVec 1 := Scalar.cmpi .eq c4_i32_77 c0_i32_78
  let c1_i32_79 : BitVec 32 := 1#32
  let v141 : BitVec 32 := Scalar.select v140 c1_i32_79 c4_i32_77
  let v142 : BitVec 32 := Scalar.remsi v101 v141
  let c0_i32_81 : BitVec 32 := 0#32
  let v144 : BitVec 1 := Scalar.cmpi .slt v142 c0_i32_81
  let c0_i32_82 : BitVec 32 := 0#32
  let v145 : BitVec 1 := Scalar.cmpi .slt v141 c0_i32_82
  let v146 : BitVec 1 := Scalar.xori v144 v145
  let c0_i32_80 : BitVec 32 := 0#32
  let v143 : BitVec 1 := Scalar.cmpi .ne v142 c0_i32_80
  let v147 : BitVec 1 := Scalar.andi v146 v143
  let v148 : BitVec 32 := Scalar.addi v142 v141
  let v149 : BitVec 32 := Scalar.select v147 v148 v142
  let c0_i32_83 : BitVec 32 := 0#32
  let c0_i32_84 : BitVec 32 := 0#32
  let c0_i32_85 : BitVec 32 := 0#32
  ![v149.toNat, 0, 0, 0]
def k0_off3 (i : grid0.Coords) (k0_t1 : Fin k0_t1_loop.trips) : Fin 4 → Nat :=
  let arg0 : BitVec 32 := BitVec.ofNat 32 (i 0).val
  let c20_i32 : BitVec 32 := 20#32
  let v0 : BitVec 32 := Scalar.muli arg0 c20_i32
  let arg1 : BitVec 32 := BitVec.ofNat 32 (i 1).val
  let v1 : BitVec 32 := Scalar.addi v0 arg1
  let c8_i32_11 : BitVec 32 := 8#32
  let v28 : BitVec 32 := Scalar.muli v1 c8_i32_11
  let c0_i32_4 : BitVec 32 := 0#32
  let c1_i32 : BitVec 32 := 1#32
  let arg22 : BitVec 32 := Scf.iv c0_i32_4 c1_i32 k0_t1
  let v29 : BitVec 32 := Scalar.addi v28 arg22
  let c4_i32_55 : BitVec 32 := 4#32
  let v100 : BitVec 32 := Scalar.addi v29 c4_i32_55
  let c1_i32_56 : BitVec 32 := 1#32
  let v101 : BitVec 32 := Scalar.subi v100 c1_i32_56
  let c0_i32_58 : BitVec 32 := 0#32
  let v103 : BitVec 1 := Scalar.cmpi .sgt v101 c0_i32_58
  let v104 : BitVec 32 := Scalar.extui v103
  let c0_i32_59 : BitVec 32 := 0#32
  let v105 : BitVec 1 := Scalar.cmpi .slt v101 c0_i32_59
  let v106 : BitVec 32 := Scalar.extui v105
  let v107 : BitVec 32 := Scalar.subi v104 v106
  let c8_i32_57 : BitVec 32 := 8#32
  let c0_i32_60 : BitVec 32 := 0#32
  let v108 : BitVec 1 := Scalar.cmpi .sgt c8_i32_57 c0_i32_60
  let v109 : BitVec 32 := Scalar.extui v108
  let c0_i32_61 : BitVec 32 := 0#32
  let v110 : BitVec 1 := Scalar.cmpi .slt c8_i32_57 c0_i32_61
  let v111 : BitVec 32 := Scalar.extui v110
  let v112 : BitVec 32 := Scalar.subi v109 v111
  let v113 : BitVec 1 := Scalar.cmpi .ne v107 v112
  let v114 : BitVec 32 := Scalar.remsi v101 c8_i32_57
  let c0_i32_62 : BitVec 32 := 0#32
  let v115 : BitVec 1 := Scalar.cmpi .ne v114 c0_i32_62
  let v116 : BitVec 1 := Scalar.andi v113 v115
  let v102 : BitVec 32 := Scalar.divsi v101 c8_i32_57
  let c1_i32_63 : BitVec 32 := 1#32
  let v117 : BitVec 32 := Scalar.subi v102 c1_i32_63
  let v118 : BitVec 32 := Scalar.select v116 v117 v102
  let c20_i32_64 : BitVec 32 := 20#32
  let c0_i32_65 : BitVec 32 := 0#32
  let v119 : BitVec 1 := Scalar.cmpi .eq c20_i32_64 c0_i32_65
  let c1_i32_66 : BitVec 32 := 1#32
  let v120 : BitVec 32 := Scalar.select v119 c1_i32_66 c20_i32_64
  let v121 : BitVec 32 := Scalar.remsi v118 v120
  let c0_i32_68 : BitVec 32 := 0#32
  let v123 : BitVec 1 := Scalar.cmpi .slt v121 c0_i32_68
  let c0_i32_69 : BitVec 32 := 0#32
  let v124 : BitVec 1 := Scalar.cmpi .slt v120 c0_i32_69
  let v125 : BitVec 1 := Scalar.xori v123 v124
  let c0_i32_67 : BitVec 32 := 0#32
  let v122 : BitVec 1 := Scalar.cmpi .ne v121 c0_i32_67
  let v126 : BitVec 1 := Scalar.andi v125 v122
  let v127 : BitVec 32 := Scalar.addi v121 v120
  let v128 : BitVec 32 := Scalar.select v126 v127 v121
  let c8_i32_70 : BitVec 32 := 8#32
  let c0_i32_71 : BitVec 32 := 0#32
  let v129 : BitVec 1 := Scalar.cmpi .eq c8_i32_70 c0_i32_71
  let c1_i32_72 : BitVec 32 := 1#32
  let v130 : BitVec 32 := Scalar.select v129 c1_i32_72 c8_i32_70
  let v131 : BitVec 32 := Scalar.remsi v101 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let c8_i32_76 : BitVec 32 := 8#32
  let v139 : BitVec 32 := Scalar.muli v138 c8_i32_76
  let c0_i32_86 : BitVec 32 := 0#32
  let c0_i32_87 : BitVec 32 := 0#32
  ![v128.toNat, v139.toNat, 0, 0]
def k0_off4 (i : grid0.Coords) (k0_t1 : Fin k0_t1_loop.trips) : Fin 1 → Nat :=
  let arg0 : BitVec 32 := BitVec.ofNat 32 (i 0).val
  let c20_i32 : BitVec 32 := 20#32
  let v0 : BitVec 32 := Scalar.muli arg0 c20_i32
  let arg1 : BitVec 32 := BitVec.ofNat 32 (i 1).val
  let v1 : BitVec 32 := Scalar.addi v0 arg1
  let c8_i32_11 : BitVec 32 := 8#32
  let v28 : BitVec 32 := Scalar.muli v1 c8_i32_11
  let c0_i32_4 : BitVec 32 := 0#32
  let c1_i32 : BitVec 32 := 1#32
  let arg22 : BitVec 32 := Scf.iv c0_i32_4 c1_i32 k0_t1
  let v29 : BitVec 32 := Scalar.addi v28 arg22
  let c4_i32_34 : BitVec 32 := 4#32
  let c0_i32_35 : BitVec 32 := 0#32
  let v73 : BitVec 1 := Scalar.cmpi .eq c4_i32_34 c0_i32_35
  let c1_i32_36 : BitVec 32 := 1#32
  let v74 : BitVec 32 := Scalar.select v73 c1_i32_36 c4_i32_34
  let v75 : BitVec 32 := Scalar.remsi v29 v74
  let c0_i32_38 : BitVec 32 := 0#32
  let v77 : BitVec 1 := Scalar.cmpi .slt v75 c0_i32_38
  let c0_i32_39 : BitVec 32 := 0#32
  let v78 : BitVec 1 := Scalar.cmpi .slt v74 c0_i32_39
  let v79 : BitVec 1 := Scalar.xori v77 v78
  let c0_i32_37 : BitVec 32 := 0#32
  let v76 : BitVec 1 := Scalar.cmpi .ne v75 c0_i32_37
  let v80 : BitVec 1 := Scalar.andi v79 v76
  let v81 : BitVec 32 := Scalar.addi v75 v74
  let v82 : BitVec 32 := Scalar.select v80 v81 v75
  ![v82.toNat]
def k0_off5 (i : grid0.Coords) (k0_t1 : Fin k0_t1_loop.trips) : Fin 4 → Nat :=
  let arg0 : BitVec 32 := BitVec.ofNat 32 (i 0).val
  let c20_i32 : BitVec 32 := 20#32
  let v0 : BitVec 32 := Scalar.muli arg0 c20_i32
  let arg1 : BitVec 32 := BitVec.ofNat 32 (i 1).val
  let v1 : BitVec 32 := Scalar.addi v0 arg1
  let c8_i32_11 : BitVec 32 := 8#32
  let v28 : BitVec 32 := Scalar.muli v1 c8_i32_11
  let c0_i32_4 : BitVec 32 := 0#32
  let c1_i32 : BitVec 32 := 1#32
  let arg22 : BitVec 32 := Scf.iv c0_i32_4 c1_i32 k0_t1
  let v29 : BitVec 32 := Scalar.addi v28 arg22
  let c4_i32_34 : BitVec 32 := 4#32
  let c0_i32_35 : BitVec 32 := 0#32
  let v73 : BitVec 1 := Scalar.cmpi .eq c4_i32_34 c0_i32_35
  let c1_i32_36 : BitVec 32 := 1#32
  let v74 : BitVec 32 := Scalar.select v73 c1_i32_36 c4_i32_34
  let v75 : BitVec 32 := Scalar.remsi v29 v74
  let c0_i32_38 : BitVec 32 := 0#32
  let v77 : BitVec 1 := Scalar.cmpi .slt v75 c0_i32_38
  let c0_i32_39 : BitVec 32 := 0#32
  let v78 : BitVec 1 := Scalar.cmpi .slt v74 c0_i32_39
  let v79 : BitVec 1 := Scalar.xori v77 v78
  let c0_i32_37 : BitVec 32 := 0#32
  let v76 : BitVec 1 := Scalar.cmpi .ne v75 c0_i32_37
  let v80 : BitVec 1 := Scalar.andi v79 v76
  let v81 : BitVec 32 := Scalar.addi v75 v74
  let v82 : BitVec 32 := Scalar.select v80 v81 v75
  let c0_i32_40 : BitVec 32 := 0#32
  let c0_i32_41 : BitVec 32 := 0#32
  let c0_i32_42 : BitVec 32 := 0#32
  ![v82.toNat, 0, 0, 0]
def k0_off6 (i : grid0.Coords) (k0_t1 : Fin k0_t1_loop.trips) : Fin 4 → Nat :=
  let arg0 : BitVec 32 := BitVec.ofNat 32 (i 0).val
  let c20_i32 : BitVec 32 := 20#32
  let v0 : BitVec 32 := Scalar.muli arg0 c20_i32
  let arg1 : BitVec 32 := BitVec.ofNat 32 (i 1).val
  let v1 : BitVec 32 := Scalar.addi v0 arg1
  let c8_i32_11 : BitVec 32 := 8#32
  let v28 : BitVec 32 := Scalar.muli v1 c8_i32_11
  let c0_i32_4 : BitVec 32 := 0#32
  let c1_i32 : BitVec 32 := 1#32
  let arg22 : BitVec 32 := Scf.iv c0_i32_4 c1_i32 k0_t1
  let v29 : BitVec 32 := Scalar.addi v28 arg22
  let c0_i32_15 : BitVec 32 := 0#32
  let v36 : BitVec 1 := Scalar.cmpi .sgt v29 c0_i32_15
  let v37 : BitVec 32 := Scalar.extui v36
  let c0_i32_16 : BitVec 32 := 0#32
  let v38 : BitVec 1 := Scalar.cmpi .slt v29 c0_i32_16
  let v39 : BitVec 32 := Scalar.extui v38
  let v40 : BitVec 32 := Scalar.subi v37 v39
  let c8_i32_14 : BitVec 32 := 8#32
  let c0_i32_17 : BitVec 32 := 0#32
  let v41 : BitVec 1 := Scalar.cmpi .sgt c8_i32_14 c0_i32_17
  let v42 : BitVec 32 := Scalar.extui v41
  let c0_i32_18 : BitVec 32 := 0#32
  let v43 : BitVec 1 := Scalar.cmpi .slt c8_i32_14 c0_i32_18
  let v44 : BitVec 32 := Scalar.extui v43
  let v45 : BitVec 32 := Scalar.subi v42 v44
  let v46 : BitVec 1 := Scalar.cmpi .ne v40 v45
  let v47 : BitVec 32 := Scalar.remsi v29 c8_i32_14
  let c0_i32_19 : BitVec 32 := 0#32
  let v48 : BitVec 1 := Scalar.cmpi .ne v47 c0_i32_19
  let v49 : BitVec 1 := Scalar.andi v46 v48
  let v35 : BitVec 32 := Scalar.divsi v29 c8_i32_14
  let c1_i32_20 : BitVec 32 := 1#32
  let v50 : BitVec 32 := Scalar.subi v35 c1_i32_20
  let v51 : BitVec 32 := Scalar.select v49 v50 v35
  let c20_i32_21 : BitVec 32 := 20#32
  let c0_i32_22 : BitVec 32 := 0#32
  let v52 : BitVec 1 := Scalar.cmpi .eq c20_i32_21 c0_i32_22
  let c1_i32_23 : BitVec 32 := 1#32
  let v53 : BitVec 32 := Scalar.select v52 c1_i32_23 c20_i32_21
  let v54 : BitVec 32 := Scalar.remsi v51 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let c8_i32_27 : BitVec 32 := 8#32
  let c0_i32_28 : BitVec 32 := 0#32
  let v62 : BitVec 1 := Scalar.cmpi .eq c8_i32_27 c0_i32_28
  let c1_i32_29 : BitVec 32 := 1#32
  let v63 : BitVec 32 := Scalar.select v62 c1_i32_29 c8_i32_27
  let v64 : BitVec 32 := Scalar.remsi v29 v63
  let c0_i32_31 : BitVec 32 := 0#32
  let v66 : BitVec 1 := Scalar.cmpi .slt v64 c0_i32_31
  let c0_i32_32 : BitVec 32 := 0#32
  let v67 : BitVec 1 := Scalar.cmpi .slt v63 c0_i32_32
  let v68 : BitVec 1 := Scalar.xori v66 v67
  let c0_i32_30 : BitVec 32 := 0#32
  let v65 : BitVec 1 := Scalar.cmpi .ne v64 c0_i32_30
  let v69 : BitVec 1 := Scalar.andi v68 v65
  let v70 : BitVec 32 := Scalar.addi v64 v63
  let v71 : BitVec 32 := Scalar.select v69 v70 v64
  let c8_i32_33 : BitVec 32 := 8#32
  let v72 : BitVec 32 := Scalar.muli v71 c8_i32_33
  let c0_i32_43 : BitVec 32 := 0#32
  let c0_i32_44 : BitVec 32 := 0#32
  ![v61.toNat, v72.toNat, 0, 0]
@[reducible] def k0_t2_loop : Scf.Loop 32 :=
  let c0_i32_51 : BitVec 32 := 0#32
  let c4_i32_52 : BitVec 32 := 4#32
  let v99 : BitVec 32 := Scalar.addi c0_i32_51 c4_i32_52
  let c1_i32_53 : BitVec 32 := 1#32
  ⟨c0_i32_51, v99, c1_i32_53⟩
def k0_off7 (i : grid0.Coords) (k0_t1 : Fin k0_t1_loop.trips) (k0_t2 : Fin k0_t2_loop.trips) (c0_i32_56 : BitVec 32) : Fin 4 → Nat :=
  let arg0 : BitVec 32 := BitVec.ofNat 32 (i 0).val
  let c20_i32 : BitVec 32 := 20#32
  let v0 : BitVec 32 := Scalar.muli arg0 c20_i32
  let arg1 : BitVec 32 := BitVec.ofNat 32 (i 1).val
  let v1 : BitVec 32 := Scalar.addi v0 arg1
  let c8_i32_11 : BitVec 32 := 8#32
  let v28 : BitVec 32 := Scalar.muli v1 c8_i32_11
  let c0_i32_4 : BitVec 32 := 0#32
  let c1_i32 : BitVec 32 := 1#32
  let arg22 : BitVec 32 := Scf.iv c0_i32_4 c1_i32 k0_t1
  let v29 : BitVec 32 := Scalar.addi v28 arg22
  let c4_i32_45 : BitVec 32 := 4#32
  let c0_i32_46 : BitVec 32 := 0#32
  let v89 : BitVec 1 := Scalar.cmpi .eq c4_i32_45 c0_i32_46
  let c1_i32_47 : BitVec 32 := 1#32
  let v90 : BitVec 32 := Scalar.select v89 c1_i32_47 c4_i32_45
  let v91 : BitVec 32 := Scalar.remsi v29 v90
  let c0_i32_49 : BitVec 32 := 0#32
  let v93 : BitVec 1 := Scalar.cmpi .slt v91 c0_i32_49
  let c0_i32_50 : BitVec 32 := 0#32
  let v94 : BitVec 1 := Scalar.cmpi .slt v90 c0_i32_50
  let v95 : BitVec 1 := Scalar.xori v93 v94
  let c0_i32_48 : BitVec 32 := 0#32
  let v92 : BitVec 1 := Scalar.cmpi .ne v91 c0_i32_48
  let v96 : BitVec 1 := Scalar.andi v95 v92
  let v97 : BitVec 32 := Scalar.addi v91 v90
  let v98 : BitVec 32 := Scalar.select v96 v97 v91
  let v104 : Index := Scalar.indexCast v98
  let c2_i32_55 : BitVec 32 := 2#32
  let c0_i32_51 : BitVec 32 := 0#32
  let c1_i32_53 : BitVec 32 := 1#32
  let arg23 : BitVec 32 := Scf.iv c0_i32_51 c1_i32_53 k0_t2
  let v100 : BitVec 32 := Scalar.muli c2_i32_55 arg23
  let v101 : BitVec 32 := Scalar.addi v100 c0_i32_56
  let v105 : Index := Scalar.indexCast v101
  let c0 : Index := 0#32
  let c0_58 : Index := 0#32
  ![v104.toNat, v105.toNat, 0, 0]
def k0_off8 (k0_t1 : Fin k0_t1_loop.trips) (k0_t2 : Fin k0_t2_loop.trips) (c0_i32_56 : BitVec 32) : Fin 3 → Nat :=
  let c0_i32_4 : BitVec 32 := 0#32
  let c1_i32 : BitVec 32 := 1#32
  let arg22 : BitVec 32 := Scf.iv c0_i32_4 c1_i32 k0_t1
  let c8_i32_57 : BitVec 32 := 8#32
  let v102 : BitVec 32 := Scalar.muli arg22 c8_i32_57
  let c2_i32_55 : BitVec 32 := 2#32
  let c0_i32_51 : BitVec 32 := 0#32
  let c1_i32_53 : BitVec 32 := 1#32
  let arg23 : BitVec 32 := Scf.iv c0_i32_51 c1_i32_53 k0_t2
  let v100 : BitVec 32 := Scalar.muli c2_i32_55 arg23
  let v101 : BitVec 32 := Scalar.addi v100 c0_i32_56
  let v103 : BitVec 32 := Scalar.addi v102 v101
  let v115 : Index := Scalar.indexCast v103
  let c0_62 : Index := 0#32
  let c0_63 : Index := 0#32
  ![v115.toNat, 0, 0]
def k0_mult2 (k0_t1 : Fin k0_t1_loop.trips) (k0_t2 : Fin k0_t2_loop.trips) : BitVec 32 :=
  let c0_i32_4 : BitVec 32 := 0#32
  let c1_i32 : BitVec 32 := 1#32
  let arg22 : BitVec 32 := Scf.iv c0_i32_4 c1_i32 k0_t1
  let c8_i32_57 : BitVec 32 := 8#32
  let v102 : BitVec 32 := Scalar.muli arg22 c8_i32_57
  let c2_i32_55 : BitVec 32 := 2#32
  let c0_i32_51 : BitVec 32 := 0#32
  let c1_i32_53 : BitVec 32 := 1#32
  let arg23 : BitVec 32 := Scf.iv c0_i32_51 c1_i32_53 k0_t2
  let v100 : BitVec 32 := Scalar.muli c2_i32_55 arg23
  let c0_i32_56 : BitVec 32 := 0#32
  let v101 : BitVec 32 := Scalar.addi v100 c0_i32_56
  let v103 : BitVec 32 := Scalar.addi v102 v101
  let c8_i32_65 : BitVec 32 := 8#32
  let v123 : BitVec 32 := Scalar.muli v103 c8_i32_65
  v123
def k0_off9 (k0_t1 : Fin k0_t1_loop.trips) (k0_t2 : Fin k0_t2_loop.trips) (c0_i32_56 : BitVec 32) : Fin 2 → Nat :=
  let c0_i32_4 : BitVec 32 := 0#32
  let c1_i32 : BitVec 32 := 1#32
  let arg22 : BitVec 32 := Scf.iv c0_i32_4 c1_i32 k0_t1
  let c8_i32_57 : BitVec 32 := 8#32
  let v102 : BitVec 32 := Scalar.muli arg22 c8_i32_57
  let c2_i32_55 : BitVec 32 := 2#32
  let c0_i32_51 : BitVec 32 := 0#32
  let c1_i32_53 : BitVec 32 := 1#32
  let arg23 : BitVec 32 := Scf.iv c0_i32_51 c1_i32_53 k0_t2
  let v100 : BitVec 32 := Scalar.muli c2_i32_55 arg23
  let v101 : BitVec 32 := Scalar.addi v100 c0_i32_56
  let v103 : BitVec 32 := Scalar.addi v102 v101
  let c8_i32_65 : BitVec 32 := 8#32
  let v123 : BitVec 32 := Scalar.muli v103 c8_i32_65
  let v124 : BitVec 32 := v123
  let v125 : Index := Scalar.indexCast v124
  let c0_66 : Index := 0#32
  ![v125.toNat, 0]
def k0_mult3 (k0_t1 : Fin k0_t1_loop.trips) (k0_t2 : Fin k0_t2_loop.trips) : BitVec 32 :=
  let c0_i32_4 : BitVec 32 := 0#32
  let c1_i32 : BitVec 32 := 1#32
  let arg22 : BitVec 32 := Scf.iv c0_i32_4 c1_i32 k0_t1
  let c8_i32_69 : BitVec 32 := 8#32
  let v140 : BitVec 32 := Scalar.muli arg22 c8_i32_69
  let c2_i32_67 : BitVec 32 := 2#32
  let c0_i32_51 : BitVec 32 := 0#32
  let c1_i32_53 : BitVec 32 := 1#32
  let arg23 : BitVec 32 := Scf.iv c0_i32_51 c1_i32_53 k0_t2
  let v138 : BitVec 32 := Scalar.muli c2_i32_67 arg23
  let c1_i32_68 : BitVec 32 := 1#32
  let v139 : BitVec 32 := Scalar.addi v138 c1_i32_68
  let v141 : BitVec 32 := Scalar.addi v140 v139
  let c8_i32_79 : BitVec 32 := 8#32
  let v161 : BitVec 32 := Scalar.muli v141 c8_i32_79
  v161
def k0_mult4 (k0_t1 : Fin k0_t1_loop.trips) (k0_t2 : Fin k0_t2_loop.trips) : BitVec 32 :=
  let c0_i32_4 : BitVec 32 := 0#32
  let c1_i32 : BitVec 32 := 1#32
  let arg22 : BitVec 32 := Scf.iv c0_i32_4 c1_i32 k0_t1
  let c8_i32_81 : BitVec 32 := 8#32
  let v176 : BitVec 32 := Scalar.muli arg22 c8_i32_81
  let c8_i32_82 : BitVec 32 := 8#32
  let v177 : BitVec 32 := Scalar.muli v176 c8_i32_82
  let c0_i32_51 : BitVec 32 := 0#32
  let c1_i32_53 : BitVec 32 := 1#32
  let arg23 : BitVec 32 := Scf.iv c0_i32_51 c1_i32_53 k0_t2
  let c16_i32_83 : BitVec 32 := 16#32
  let v178 : BitVec 32 := Scalar.muli arg23 c16_i32_83
  let v179 : BitVec 32 := Scalar.addi v177 v178
  v179
def k0_off10 (k0_t1 : Fin k0_t1_loop.trips) (k0_t2 : Fin k0_t2_loop.trips) : Fin 4 → Nat :=
  let c0_84 : Index := 0#32
  let c0_85 : Index := 0#32
  let c0_i32_4 : BitVec 32 := 0#32
  let c1_i32 : BitVec 32 := 1#32
  let arg22 : BitVec 32 := Scf.iv c0_i32_4 c1_i32 k0_t1
  let c8_i32_81 : BitVec 32 := 8#32
  let v176 : BitVec 32 := Scalar.muli arg22 c8_i32_81
  let c8_i32_82 : BitVec 32 := 8#32
  let v177 : BitVec 32 := Scalar.muli v176 c8_i32_82
  let c0_i32_51 : BitVec 32 := 0#32
  let c1_i32_53 : BitVec 32 := 1#32
  let arg23 : BitVec 32 := Scf.iv c0_i32_51 c1_i32_53 k0_t2
  let c16_i32_83 : BitVec 32 := 16#32
  let v178 : BitVec 32 := Scalar.muli arg23 c16_i32_83
  let v179 : BitVec 32 := Scalar.addi v177 v178
  let v180 : BitVec 32 := v179
  let v183 : Index := Scalar.indexCast v180
  let c0_86 : Index := 0#32
  ![0, 0, v183.toNat, 0]
def k0_off11 (k0_t1 : Fin k0_t1_loop.trips) (k0_t2 : Fin k0_t2_loop.trips) : Fin 4 → Nat :=
  let c0_87 : Index := 0#32
  let c1 : Index := 1#32
  let c0_i32_4 : BitVec 32 := 0#32
  let c1_i32 : BitVec 32 := 1#32
  let arg22 : BitVec 32 := Scf.iv c0_i32_4 c1_i32 k0_t1
  let c8_i32_81 : BitVec 32 := 8#32
  let v176 : BitVec 32 := Scalar.muli arg22 c8_i32_81
  let c8_i32_82 : BitVec 32 := 8#32
  let v177 : BitVec 32 := Scalar.muli v176 c8_i32_82
  let c0_i32_51 : BitVec 32 := 0#32
  let c1_i32_53 : BitVec 32 := 1#32
  let arg23 : BitVec 32 := Scf.iv c0_i32_51 c1_i32_53 k0_t2
  let c16_i32_83 : BitVec 32 := 16#32
  let v178 : BitVec 32 := Scalar.muli arg23 c16_i32_83
  let v179 : BitVec 32 := Scalar.addi v177 v178
  let v180 : BitVec 32 := v179
  let v189 : Index := Scalar.indexCast v180
  let c0_88 : Index := 0#32
  ![0, 1, v189.toNat, 0]
@[reducible] def k0_t3_loop : Scf.Loop 32 :=
  let c0_i32_6 : BitVec 32 := 0#32
  let c16_i32 : BitVec 32 := 16#32
  let v21 : BitVec 32 := Scalar.addi c0_i32_6 c16_i32
  let c1_i32_7 : BitVec 32 := 1#32
  ⟨c0_i32_6, v21, c1_i32_7⟩
def k0_off12 (k0_t3 : Fin k0_t3_loop.trips) (c0_i32_18 : BitVec 32) : Fin 4 → Nat :=
  let c2_i32_17 : BitVec 32 := 2#32
  let c0_i32_6 : BitVec 32 := 0#32
  let c1_i32_7 : BitVec 32 := 1#32
  let arg22 : BitVec 32 := Scf.iv c0_i32_6 c1_i32_7 k0_t3
  let v38 : BitVec 32 := Scalar.muli c2_i32_17 arg22
  let v39 : BitVec 32 := Scalar.addi v38 c0_i32_18
  let v40 : Index := Scalar.indexCast v39
  let c0 : Index := 0#32
  let c0_19 : Index := 0#32
  let c0_20 : Index := 0#32
  ![v40.toNat, 0, 0, 0]
def k0_off13 (k0_t3 : Fin k0_t3_loop.trips) (c0_i32_18 : BitVec 32) : Fin 4 → Nat :=
  let c2_i32_17 : BitVec 32 := 2#32
  let c0_i32_6 : BitVec 32 := 0#32
  let c1_i32_7 : BitVec 32 := 1#32
  let arg22 : BitVec 32 := Scf.iv c0_i32_6 c1_i32_7 k0_t3
  let v38 : BitVec 32 := Scalar.muli c2_i32_17 arg22
  let v39 : BitVec 32 := Scalar.addi v38 c0_i32_18
  let v43 : Index := Scalar.indexCast v39
  let c1 : Index := 1#32
  let c0_21 : Index := 0#32
  let c0_22 : Index := 0#32
  ![v43.toNat, 1, 0, 0]
def k0_off14 (k0_t3 : Fin k0_t3_loop.trips) (c0_i32_18 : BitVec 32) : Fin 3 → Nat :=
  let c2_i32_17 : BitVec 32 := 2#32
  let c0_i32_6 : BitVec 32 := 0#32
  let c1_i32_7 : BitVec 32 := 1#32
  let arg22 : BitVec 32 := Scf.iv c0_i32_6 c1_i32_7 k0_t3
  let v38 : BitVec 32 := Scalar.muli c2_i32_17 arg22
  let v39 : BitVec 32 := Scalar.addi v38 c0_i32_18
  let v47 : Index := Scalar.indexCast v39
  let c0_23 : Index := 0#32
  let c0_24 : Index := 0#32
  ![v47.toNat, 0, 0]
def k0_mult5 (k0_t3 : Fin k0_t3_loop.trips) : BitVec 32 :=
  let c2_i32_17 : BitVec 32 := 2#32
  let c0_i32_6 : BitVec 32 := 0#32
  let c1_i32_7 : BitVec 32 := 1#32
  let arg22 : BitVec 32 := Scf.iv c0_i32_6 c1_i32_7 k0_t3
  let v38 : BitVec 32 := Scalar.muli c2_i32_17 arg22
  let c0_i32_18 : BitVec 32 := 0#32
  let v39 : BitVec 32 := Scalar.addi v38 c0_i32_18
  let c256_i32_25 : BitVec 32 := 256#32
  let v53 : BitVec 32 := Scalar.muli v39 c256_i32_25
  v53
def k0_off15 (k0_t3 : Fin k0_t3_loop.trips) (c0_i32_18 : BitVec 32) : Fin 2 → Nat :=
  let c0_26 : Index := 0#32
  let c2_i32_17 : BitVec 32 := 2#32
  let c0_i32_6 : BitVec 32 := 0#32
  let c1_i32_7 : BitVec 32 := 1#32
  let arg22 : BitVec 32 := Scf.iv c0_i32_6 c1_i32_7 k0_t3
  let v38 : BitVec 32 := Scalar.muli c2_i32_17 arg22
  let v39 : BitVec 32 := Scalar.addi v38 c0_i32_18
  let c256_i32_25 : BitVec 32 := 256#32
  let v53 : BitVec 32 := Scalar.muli v39 c256_i32_25
  let v54 : BitVec 32 := v53
  let v55 : Index := Scalar.indexCast v54
  ![0, v55.toNat]
def k0_off16 (k0_t3 : Fin k0_t3_loop.trips) (c0_i32_18 : BitVec 32) : Fin 3 → Nat :=
  let c2_i32_17 : BitVec 32 := 2#32
  let c0_i32_6 : BitVec 32 := 0#32
  let c1_i32_7 : BitVec 32 := 1#32
  let arg22 : BitVec 32 := Scf.iv c0_i32_6 c1_i32_7 k0_t3
  let v38 : BitVec 32 := Scalar.muli c2_i32_17 arg22
  let v39 : BitVec 32 := Scalar.addi v38 c0_i32_18
  let v58 : Index := Scalar.indexCast v39
  let c0_27 : Index := 0#32
  let c0_28 : Index := 0#32
  ![v58.toNat, 0, 0]
def k0_off17 (i : grid0.Coords) (k0_t3 : Fin k0_t3_loop.trips) (c0_i32_18 : BitVec 32) : Fin 1 → Nat :=
  let arg0 : BitVec 32 := BitVec.ofNat 32 (i 0).val
  let c32_i32_34 : BitVec 32 := 32#32
  let v72 : BitVec 32 := Scalar.muli arg0 c32_i32_34
  let c2_i32_17 : BitVec 32 := 2#32
  let c0_i32_6 : BitVec 32 := 0#32
  let c1_i32_7 : BitVec 32 := 1#32
  let arg22 : BitVec 32 := Scf.iv c0_i32_6 c1_i32_7 k0_t3
  let v38 : BitVec 32 := Scalar.muli c2_i32_17 arg22
  let v39 : BitVec 32 := Scalar.addi v38 c0_i32_18
  let v73 : BitVec 32 := Scalar.addi v72 v39
  let v74 : Index := Scalar.indexCast v73
  ![v74.toNat]
def k0_cond4 (i : grid0.Coords) (k0_t3 : Fin k0_t3_loop.trips) : BitVec 1 :=
  let arg0 : BitVec 32 := BitVec.ofNat 32 (i 0).val
  let c20_i32 : BitVec 32 := 20#32
  let v0 : BitVec 32 := Scalar.muli arg0 c20_i32
  let arg1 : BitVec 32 := BitVec.ofNat 32 (i 1).val
  let v1 : BitVec 32 := Scalar.addi v0 arg1
  let c16_i32_35 : BitVec 32 := 16#32
  let v79 : BitVec 32 := Scalar.muli v1 c16_i32_35
  let c0_i32_6 : BitVec 32 := 0#32
  let c1_i32_7 : BitVec 32 := 1#32
  let arg22 : BitVec 32 := Scf.iv c0_i32_6 c1_i32_7 k0_t3
  let v80 : BitVec 32 := Scalar.addi v79 arg22
  let c2_i32_36 : BitVec 32 := 2#32
  let v81 : BitVec 1 := Scalar.cmpi .sge v80 c2_i32_36
  let v82 : BitVec 32 := Scalar.extui v81
  let c0_i32_37 : BitVec 32 := 0#32
  let v83 : BitVec 1 := Scalar.cmpi .ne v82 c0_i32_37
  v83

def k0_off18 (k0_t3 : Fin k0_t3_loop.trips) : Fin 1 → Nat :=
  let c0_i32_6 : BitVec 32 := 0#32
  let c1_i32_7 : BitVec 32 := 1#32
  let arg22 : BitVec 32 := Scf.iv c0_i32_6 c1_i32_7 k0_t3
  let c2_i32_157 : BitVec 32 := 2#32
  let c0_i32_158 : BitVec 32 := 0#32
  let v269 : BitVec 1 := Scalar.cmpi .eq c2_i32_157 c0_i32_158
  let c1_i32_159 : BitVec 32 := 1#32
  let v270 : BitVec 32 := Scalar.select v269 c1_i32_159 c2_i32_157
  let v271 : BitVec 32 := Scalar.remsi arg22 v270
  let c0_i32_161 : BitVec 32 := 0#32
  let v273 : BitVec 1 := Scalar.cmpi .slt v271 c0_i32_161
  let c0_i32_162 : BitVec 32 := 0#32
  let v274 : BitVec 1 := Scalar.cmpi .slt v270 c0_i32_162
  let v275 : BitVec 1 := Scalar.xori v273 v274
  let c0_i32_160 : BitVec 32 := 0#32
  let v272 : BitVec 1 := Scalar.cmpi .ne v271 c0_i32_160
  let v276 : BitVec 1 := Scalar.andi v275 v272
  let v277 : BitVec 32 := Scalar.addi v271 v270
  let v278 : BitVec 32 := Scalar.select v276 v277 v271
  ![v278.toNat]
def k0_off19 (i : grid0.Coords) (k0_t3 : Fin k0_t3_loop.trips) : Fin 3 → Nat :=
  let arg1 : BitVec 32 := BitVec.ofNat 32 (i 1).val
  let c256_i32 : BitVec 32 := 256#32
  let v2 : BitVec 32 := Scalar.muli arg1 c256_i32
  let v3 : BitVec 32 := v2
  let arg0 : BitVec 32 := BitVec.ofNat 32 (i 0).val
  let c32_i32_163 : BitVec 32 := 32#32
  let v279 : BitVec 32 := Scalar.muli arg0 c32_i32_163
  let c2_i32_164 : BitVec 32 := 2#32
  let c0_i32_6 : BitVec 32 := 0#32
  let c1_i32_7 : BitVec 32 := 1#32
  let arg22 : BitVec 32 := Scf.iv c0_i32_6 c1_i32_7 k0_t3
  let v280 : BitVec 32 := Scalar.muli c2_i32_164 arg22
  let v281 : BitVec 32 := Scalar.addi v279 v280
  let c0_i32_172 : BitVec 32 := 0#32
  ![v3.toNat, v281.toNat, 0]
def k0_off20 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_157 : BitVec 32 := 2#32
  let c0_i32_158 : BitVec 32 := 0#32
  let v269 : BitVec 1 := Scalar.cmpi .eq c2_i32_157 c0_i32_158
  let c1_i32_159 : BitVec 32 := 1#32
  let v270 : BitVec 32 := Scalar.select v269 c1_i32_159 c2_i32_157
  let v271 : BitVec 32 := Scalar.remsi arg22 v270
  let c0_i32_161 : BitVec 32 := 0#32
  let v273 : BitVec 1 := Scalar.cmpi .slt v271 c0_i32_161
  let c0_i32_162 : BitVec 32 := 0#32
  let v274 : BitVec 1 := Scalar.cmpi .slt v270 c0_i32_162
  let v275 : BitVec 1 := Scalar.xori v273 v274
  let c0_i32_160 : BitVec 32 := 0#32
  let v272 : BitVec 1 := Scalar.cmpi .ne v271 c0_i32_160
  let v276 : BitVec 1 := Scalar.andi v275 v272
  let v277 : BitVec 32 := Scalar.addi v271 v270
  let v278 : BitVec 32 := Scalar.select v276 v277 v271
  let c0_i32_171 : BitVec 32 := 0#32
  let c0_i32_173 : BitVec 32 := 0#32
  let c0_i32_174 : BitVec 32 := 0#32
  let c0_i32_175 : BitVec 32 := 0#32
  ![v278.toNat, 0, 0, 0, 0]
def k0_off21 (i : grid0.Coords) (k0_t3 : Fin k0_t3_loop.trips) : Fin 3 → Nat :=
  let arg1 : BitVec 32 := BitVec.ofNat 32 (i 1).val
  let c256_i32 : BitVec 32 := 256#32
  let v2 : BitVec 32 := Scalar.muli arg1 c256_i32
  let v3 : BitVec 32 := v2
  let arg0 : BitVec 32 := BitVec.ofNat 32 (i 0).val
  let c32_i32_165 : BitVec 32 := 32#32
  let v282 : BitVec 32 := Scalar.muli arg0 c32_i32_165
  let c2_i32_166 : BitVec 32 := 2#32
  let c0_i32_6 : BitVec 32 := 0#32
  let c1_i32_7 : BitVec 32 := 1#32
  let arg22 : BitVec 32 := Scf.iv c0_i32_6 c1_i32_7 k0_t3
  let v283 : BitVec 32 := Scalar.muli c2_i32_166 arg22
  let v284 : BitVec 32 := Scalar.addi v282 v283
  let c128_i32_177 : BitVec 32 := 128#32
  ![v3.toNat, v284.toNat, 128]
def k0_off22 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_157 : BitVec 32 := 2#32
  let c0_i32_158 : BitVec 32 := 0#32
  let v269 : BitVec 1 := Scalar.cmpi .eq c2_i32_157 c0_i32_158
  let c1_i32_159 : BitVec 32 := 1#32
  let v270 : BitVec 32 := Scalar.select v269 c1_i32_159 c2_i32_157
  let v271 : BitVec 32 := Scalar.remsi arg22 v270
  let c0_i32_161 : BitVec 32 := 0#32
  let v273 : BitVec 1 := Scalar.cmpi .slt v271 c0_i32_161
  let c0_i32_162 : BitVec 32 := 0#32
  let v274 : BitVec 1 := Scalar.cmpi .slt v270 c0_i32_162
  let v275 : BitVec 1 := Scalar.xori v273 v274
  let c0_i32_160 : BitVec 32 := 0#32
  let v272 : BitVec 1 := Scalar.cmpi .ne v271 c0_i32_160
  let v276 : BitVec 1 := Scalar.andi v275 v272
  let v277 : BitVec 32 := Scalar.addi v271 v270
  let v278 : BitVec 32 := Scalar.select v276 v277 v271
  let c1_i32_176 : BitVec 32 := 1#32
  let c0_i32_178 : BitVec 32 := 0#32
  let c0_i32_179 : BitVec 32 := 0#32
  let c0_i32_180 : BitVec 32 := 0#32
  ![v278.toNat, 1, 0, 0, 0]
def k0_off23 (i : grid0.Coords) (k0_t3 : Fin k0_t3_loop.trips) : Fin 3 → Nat :=
  let arg1 : BitVec 32 := BitVec.ofNat 32 (i 1).val
  let c256_i32 : BitVec 32 := 256#32
  let v2 : BitVec 32 := Scalar.muli arg1 c256_i32
  let v3 : BitVec 32 := v2
  let arg0 : BitVec 32 := BitVec.ofNat 32 (i 0).val
  let c32_i32_167 : BitVec 32 := 32#32
  let v285 : BitVec 32 := Scalar.muli arg0 c32_i32_167
  let c2_i32_168 : BitVec 32 := 2#32
  let c0_i32_6 : BitVec 32 := 0#32
  let c1_i32_7 : BitVec 32 := 1#32
  let arg22 : BitVec 32 := Scf.iv c0_i32_6 c1_i32_7 k0_t3
  let v286 : BitVec 32 := Scalar.muli c2_i32_168 arg22
  let v287 : BitVec 32 := Scalar.addi v285 v286
  let c256_i32_182 : BitVec 32 := 256#32
  ![v3.toNat, v287.toNat, 256]
def k0_off24 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_157 : BitVec 32 := 2#32
  let c0_i32_158 : BitVec 32 := 0#32
  let v269 : BitVec 1 := Scalar.cmpi .eq c2_i32_157 c0_i32_158
  let c1_i32_159 : BitVec 32 := 1#32
  let v270 : BitVec 32 := Scalar.select v269 c1_i32_159 c2_i32_157
  let v271 : BitVec 32 := Scalar.remsi arg22 v270
  let c0_i32_161 : BitVec 32 := 0#32
  let v273 : BitVec 1 := Scalar.cmpi .slt v271 c0_i32_161
  let c0_i32_162 : BitVec 32 := 0#32
  let v274 : BitVec 1 := Scalar.cmpi .slt v270 c0_i32_162
  let v275 : BitVec 1 := Scalar.xori v273 v274
  let c0_i32_160 : BitVec 32 := 0#32
  let v272 : BitVec 1 := Scalar.cmpi .ne v271 c0_i32_160
  let v276 : BitVec 1 := Scalar.andi v275 v272
  let v277 : BitVec 32 := Scalar.addi v271 v270
  let v278 : BitVec 32 := Scalar.select v276 v277 v271
  let c2_i32_181 : BitVec 32 := 2#32
  let c0_i32_183 : BitVec 32 := 0#32
  let c0_i32_184 : BitVec 32 := 0#32
  let c0_i32_185 : BitVec 32 := 0#32
  ![v278.toNat, 2, 0, 0, 0]
def k0_off25 (i : grid0.Coords) (k0_t3 : Fin k0_t3_loop.trips) : Fin 3 → Nat :=
  let arg1 : BitVec 32 := BitVec.ofNat 32 (i 1).val
  let c256_i32 : BitVec 32 := 256#32
  let v2 : BitVec 32 := Scalar.muli arg1 c256_i32
  let v3 : BitVec 32 := v2
  let arg0 : BitVec 32 := BitVec.ofNat 32 (i 0).val
  let c32_i32_169 : BitVec 32 := 32#32
  let v288 : BitVec 32 := Scalar.muli arg0 c32_i32_169
  let c2_i32_170 : BitVec 32 := 2#32
  let c0_i32_6 : BitVec 32 := 0#32
  let c1_i32_7 : BitVec 32 := 1#32
  let arg22 : BitVec 32 := Scf.iv c0_i32_6 c1_i32_7 k0_t3
  let v289 : BitVec 32 := Scalar.muli c2_i32_170 arg22
  let v290 : BitVec 32 := Scalar.addi v288 v289
  let c384_i32_187 : BitVec 32 := 384#32
  ![v3.toNat, v290.toNat, 384]
def k0_off26 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_157 : BitVec 32 := 2#32
  let c0_i32_158 : BitVec 32 := 0#32
  let v269 : BitVec 1 := Scalar.cmpi .eq c2_i32_157 c0_i32_158
  let c1_i32_159 : BitVec 32 := 1#32
  let v270 : BitVec 32 := Scalar.select v269 c1_i32_159 c2_i32_157
  let v271 : BitVec 32 := Scalar.remsi arg22 v270
  let c0_i32_161 : BitVec 32 := 0#32
  let v273 : BitVec 1 := Scalar.cmpi .slt v271 c0_i32_161
  let c0_i32_162 : BitVec 32 := 0#32
  let v274 : BitVec 1 := Scalar.cmpi .slt v270 c0_i32_162
  let v275 : BitVec 1 := Scalar.xori v273 v274
  let c0_i32_160 : BitVec 32 := 0#32
  let v272 : BitVec 1 := Scalar.cmpi .ne v271 c0_i32_160
  let v276 : BitVec 1 := Scalar.andi v275 v272
  let v277 : BitVec 32 := Scalar.addi v271 v270
  let v278 : BitVec 32 := Scalar.select v276 v277 v271
  let c3_i32_186 : BitVec 32 := 3#32
  let c0_i32_188 : BitVec 32 := 0#32
  let c0_i32_189 : BitVec 32 := 0#32
  let c0_i32_190 : BitVec 32 := 0#32
  ![v278.toNat, 3, 0, 0, 0]
def k0_mult6 (i : grid0.Coords) (k0_t3 : Fin k0_t3_loop.trips) : BitVec 32 :=
  let arg0 : BitVec 32 := BitVec.ofNat 32 (i 0).val
  let c32_i32_197 : BitVec 32 := 32#32
  let v321 : BitVec 32 := Scalar.muli arg0 c32_i32_197
  let c2_i32_198 : BitVec 32 := 2#32
  let c0_i32_6 : BitVec 32 := 0#32
  let c1_i32_7 : BitVec 32 := 1#32
  let arg22 : BitVec 32 := Scf.iv c0_i32_6 c1_i32_7 k0_t3
  let v322 : BitVec 32 := Scalar.muli c2_i32_198 arg22
  let v323 : BitVec 32 := Scalar.addi v321 v322
  let c256_i32_199 : BitVec 32 := 256#32
  let v324 : BitVec 32 := Scalar.muli v323 c256_i32_199
  let c0_i32_200 : BitVec 32 := 0#32
  let v325 : BitVec 32 := Scalar.addi v324 c0_i32_200
  v325
def k0_mult7 (i : grid0.Coords) (k0_t3 : Fin k0_t3_loop.trips) : BitVec 32 :=
  let arg0 : BitVec 32 := BitVec.ofNat 32 (i 0).val
  let c32_i32_197 : BitVec 32 := 32#32
  let v321 : BitVec 32 := Scalar.muli arg0 c32_i32_197
  let c2_i32_198 : BitVec 32 := 2#32
  let c0_i32_6 : BitVec 32 := 0#32
  let c1_i32_7 : BitVec 32 := 1#32
  let arg22 : BitVec 32 := Scf.iv c0_i32_6 c1_i32_7 k0_t3
  let v322 : BitVec 32 := Scalar.muli c2_i32_198 arg22
  let v323 : BitVec 32 := Scalar.addi v321 v322
  let c256_i32_199 : BitVec 32 := 256#32
  let v324 : BitVec 32 := Scalar.muli v323 c256_i32_199
  let c128_i32_201 : BitVec 32 := 128#32
  let v327 : BitVec 32 := Scalar.addi v324 c128_i32_201
  v327
def k0_mult8 (i : grid0.Coords) (k0_t3 : Fin k0_t3_loop.trips) : BitVec 32 :=
  let arg0 : BitVec 32 := BitVec.ofNat 32 (i 0).val
  let c32_i32_197 : BitVec 32 := 32#32
  let v321 : BitVec 32 := Scalar.muli arg0 c32_i32_197
  let c2_i32_198 : BitVec 32 := 2#32
  let c0_i32_6 : BitVec 32 := 0#32
  let c1_i32_7 : BitVec 32 := 1#32
  let arg22 : BitVec 32 := Scf.iv c0_i32_6 c1_i32_7 k0_t3
  let v322 : BitVec 32 := Scalar.muli c2_i32_198 arg22
  let v323 : BitVec 32 := Scalar.addi v321 v322
  let c256_i32_199 : BitVec 32 := 256#32
  let v324 : BitVec 32 := Scalar.muli v323 c256_i32_199
  let c256_i32_202 : BitVec 32 := 256#32
  let v329 : BitVec 32 := Scalar.addi v324 c256_i32_202
  v329
def k0_mult9 (i : grid0.Coords) (k0_t3 : Fin k0_t3_loop.trips) : BitVec 32 :=
  let arg0 : BitVec 32 := BitVec.ofNat 32 (i 0).val
  let c32_i32_197 : BitVec 32 := 32#32
  let v321 : BitVec 32 := Scalar.muli arg0 c32_i32_197
  let c2_i32_198 : BitVec 32 := 2#32
  let c0_i32_6 : BitVec 32 := 0#32
  let c1_i32_7 : BitVec 32 := 1#32
  let arg22 : BitVec 32 := Scf.iv c0_i32_6 c1_i32_7 k0_t3
  let v322 : BitVec 32 := Scalar.muli c2_i32_198 arg22
  let v323 : BitVec 32 := Scalar.addi v321 v322
  let c256_i32_199 : BitVec 32 := 256#32
  let v324 : BitVec 32 := Scalar.muli v323 c256_i32_199
  let c384_i32_203 : BitVec 32 := 384#32
  let v331 : BitVec 32 := Scalar.addi v324 c384_i32_203
  v331
def k0_off27 (i : grid0.Coords) (k0_t3 : Fin k0_t3_loop.trips) (c0_i32_200 : BitVec 32) : Fin 2 → Nat :=
  let arg1 : BitVec 32 := BitVec.ofNat 32 (i 1).val
  let c256_i32 : BitVec 32 := 256#32
  let v2 : BitVec 32 := Scalar.muli arg1 c256_i32
  let v3 : BitVec 32 := v2
  let arg0 : BitVec 32 := BitVec.ofNat 32 (i 0).val
  let c32_i32_197 : BitVec 32 := 32#32
  let v321 : BitVec 32 := Scalar.muli arg0 c32_i32_197
  let c2_i32_198 : BitVec 32 := 2#32
  let c0_i32_6 : BitVec 32 := 0#32
  let c1_i32_7 : BitVec 32 := 1#32
  let arg22 : BitVec 32 := Scf.iv c0_i32_6 c1_i32_7 k0_t3
  let v322 : BitVec 32 := Scalar.muli c2_i32_198 arg22
  let v323 : BitVec 32 := Scalar.addi v321 v322
  let c256_i32_199 : BitVec 32 := 256#32
  let v324 : BitVec 32 := Scalar.muli v323 c256_i32_199
  let v325 : BitVec 32 := Scalar.addi v324 c0_i32_200
  let v326 : BitVec 32 := v325
  ![v3.toNat, v326.toNat]
def k0_off28 (k0_t3 : Fin k0_t3_loop.trips) : Fin 4 → Nat :=
  let c0_i32_6 : BitVec 32 := 0#32
  let c1_i32_7 : BitVec 32 := 1#32
  let arg22 : BitVec 32 := Scf.iv c0_i32_6 c1_i32_7 k0_t3
  let c2_i32_191 : BitVec 32 := 2#32
  let c0_i32_192 : BitVec 32 := 0#32
  let v311 : BitVec 1 := Scalar.cmpi .eq c2_i32_191 c0_i32_192
  let c1_i32_193 : BitVec 32 := 1#32
  let v312 : BitVec 32 := Scalar.select v311 c1_i32_193 c2_i32_191
  let v313 : BitVec 32 := Scalar.remsi arg22 v312
  let c0_i32_195 : BitVec 32 := 0#32
  let v315 : BitVec 1 := Scalar.cmpi .slt v313 c0_i32_195
  let c0_i32_196 : BitVec 32 := 0#32
  let v316 : BitVec 1 := Scalar.cmpi .slt v312 c0_i32_196
  let v317 : BitVec 1 := Scalar.xori v315 v316
  let c0_i32_194 : BitVec 32 := 0#32
  let v314 : BitVec 1 := Scalar.cmpi .ne v313 c0_i32_194
  let v318 : BitVec 1 := Scalar.andi v317 v314
  let v319 : BitVec 32 := Scalar.addi v313 v312
  let v320 : BitVec 32 := Scalar.select v318 v319 v313
  let c0_i32_204 : BitVec 32 := 0#32
  let c0_i32_205 : BitVec 32 := 0#32
  let c0_i32_206 : BitVec 32 := 0#32
  ![v320.toNat, 0, 0, 0]
def k0_off29 (k0_t3 : Fin k0_t3_loop.trips) : Fin 4 → Nat :=
  let c0_i32_6 : BitVec 32 := 0#32
  let c1_i32_7 : BitVec 32 := 1#32
  let arg22 : BitVec 32 := Scf.iv c0_i32_6 c1_i32_7 k0_t3
  let c2_i32_191 : BitVec 32 := 2#32
  let c0_i32_192 : BitVec 32 := 0#32
  let v311 : BitVec 1 := Scalar.cmpi .eq c2_i32_191 c0_i32_192
  let c1_i32_193 : BitVec 32 := 1#32
  let v312 : BitVec 32 := Scalar.select v311 c1_i32_193 c2_i32_191
  let v313 : BitVec 32 := Scalar.remsi arg22 v312
  let c0_i32_195 : BitVec 32 := 0#32
  let v315 : BitVec 1 := Scalar.cmpi .slt v313 c0_i32_195
  let c0_i32_196 : BitVec 32 := 0#32
  let v316 : BitVec 1 := Scalar.cmpi .slt v312 c0_i32_196
  let v317 : BitVec 1 := Scalar.xori v315 v316
  let c0_i32_194 : BitVec 32 := 0#32
  let v314 : BitVec 1 := Scalar.cmpi .ne v313 c0_i32_194
  let v318 : BitVec 1 := Scalar.andi v317 v314
  let v319 : BitVec 32 := Scalar.addi v313 v312
  let v320 : BitVec 32 := Scalar.select v318 v319 v313
  let c1_i32_207 : BitVec 32 := 1#32
  let c0_i32_208 : BitVec 32 := 0#32
  let c0_i32_209 : BitVec 32 := 0#32
  ![v320.toNat, 1, 0, 0]
def k0_off30 (k0_t3 : Fin k0_t3_loop.trips) : Fin 4 → Nat :=
  let c0_i32_6 : BitVec 32 := 0#32
  let c1_i32_7 : BitVec 32 := 1#32
  let arg22 : BitVec 32 := Scf.iv c0_i32_6 c1_i32_7 k0_t3
  let c2_i32_191 : BitVec 32 := 2#32
  let c0_i32_192 : BitVec 32 := 0#32
  let v311 : BitVec 1 := Scalar.cmpi .eq c2_i32_191 c0_i32_192
  let c1_i32_193 : BitVec 32 := 1#32
  let v312 : BitVec 32 := Scalar.select v311 c1_i32_193 c2_i32_191
  let v313 : BitVec 32 := Scalar.remsi arg22 v312
  let c0_i32_195 : BitVec 32 := 0#32
  let v315 : BitVec 1 := Scalar.cmpi .slt v313 c0_i32_195
  let c0_i32_196 : BitVec 32 := 0#32
  let v316 : BitVec 1 := Scalar.cmpi .slt v312 c0_i32_196
  let v317 : BitVec 1 := Scalar.xori v315 v316
  let c0_i32_194 : BitVec 32 := 0#32
  let v314 : BitVec 1 := Scalar.cmpi .ne v313 c0_i32_194
  let v318 : BitVec 1 := Scalar.andi v317 v314
  let v319 : BitVec 32 := Scalar.addi v313 v312
  let v320 : BitVec 32 := Scalar.select v318 v319 v313
  let c2_i32_210 : BitVec 32 := 2#32
  let c0_i32_211 : BitVec 32 := 0#32
  let c0_i32_212 : BitVec 32 := 0#32
  ![v320.toNat, 2, 0, 0]
def k0_off31 (k0_t3 : Fin k0_t3_loop.trips) : Fin 4 → Nat :=
  let c0_i32_6 : BitVec 32 := 0#32
  let c1_i32_7 : BitVec 32 := 1#32
  let arg22 : BitVec 32 := Scf.iv c0_i32_6 c1_i32_7 k0_t3
  let c2_i32_191 : BitVec 32 := 2#32
  let c0_i32_192 : BitVec 32 := 0#32
  let v311 : BitVec 1 := Scalar.cmpi .eq c2_i32_191 c0_i32_192
  let c1_i32_193 : BitVec 32 := 1#32
  let v312 : BitVec 32 := Scalar.select v311 c1_i32_193 c2_i32_191
  let v313 : BitVec 32 := Scalar.remsi arg22 v312
  let c0_i32_195 : BitVec 32 := 0#32
  let v315 : BitVec 1 := Scalar.cmpi .slt v313 c0_i32_195
  let c0_i32_196 : BitVec 32 := 0#32
  let v316 : BitVec 1 := Scalar.cmpi .slt v312 c0_i32_196
  let v317 : BitVec 1 := Scalar.xori v315 v316
  let c0_i32_194 : BitVec 32 := 0#32
  let v314 : BitVec 1 := Scalar.cmpi .ne v313 c0_i32_194
  let v318 : BitVec 1 := Scalar.andi v317 v314
  let v319 : BitVec 32 := Scalar.addi v313 v312
  let v320 : BitVec 32 := Scalar.select v318 v319 v313
  let c3_i32_213 : BitVec 32 := 3#32
  let c0_i32_214 : BitVec 32 := 0#32
  let c0_i32_215 : BitVec 32 := 0#32
  ![v320.toNat, 3, 0, 0]
def k0_off32 (k0_t3 : Fin k0_t3_loop.trips) : Fin 4 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v85 : Index := Scalar.indexCast v37
  let c0_38 : Index := 0#32
  let c0_39 : Index := 0#32
  let c0_40 : Index := 0#32
  ![v85.toNat, 0, 0, 0]
def k0_off33 (k0_t3 : Fin k0_t3_loop.trips) : Fin 4 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v90 : Index := Scalar.indexCast v37
  let c1_41 : Index := 1#32
  let c0_42 : Index := 0#32
  let c0_43 : Index := 0#32
  ![v90.toNat, 1, 0, 0]
def k0_mult10 (k0_t3 : Fin k0_t3_loop.trips) : BitVec 32 :=
  let c2_i32_44 : BitVec 32 := 2#32
  let c0_i32_6 : BitVec 32 := 0#32
  let c1_i32_7 : BitVec 32 := 1#32
  let arg22 : BitVec 32 := Scf.iv c0_i32_6 c1_i32_7 k0_t3
  let v94 : BitVec 32 := Scalar.muli c2_i32_44 arg22
  let c1_i32_45 : BitVec 32 := 1#32
  let v95 : BitVec 32 := Scalar.addi v94 c1_i32_45
  let c256_i32_54 : BitVec 32 := 256#32
  let v109 : BitVec 32 := Scalar.muli v95 c256_i32_54
  v109
def k0_off34 (k0_t3 : Fin k0_t3_loop.trips) : Fin 4 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v136 : Index := Scalar.indexCast v37
  let c2 : Index := 2#32
  let c0_65 : Index := 0#32
  let c0_66 : Index := 0#32
  ![v136.toNat, 2, 0, 0]
def k0_off35 (k0_t3 : Fin k0_t3_loop.trips) : Fin 4 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v141 : Index := Scalar.indexCast v37
  let c3 : Index := 3#32
  let c0_67 : Index := 0#32
  let c0_68 : Index := 0#32
  ![v141.toNat, 3, 0, 0]
def k0_off36 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v146 : Index := Scalar.indexCast v37
  let c0_69 : Index := 0#32
  let c0_70 : Index := 0#32
  let c0_71 : Index := 0#32
  let c0_72 : Index := 0#32
  ![v146.toNat, 0, 0, 0, 0]
def k0_off37 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v146 : Index := Scalar.indexCast v37
  let c0_69 : Index := 0#32
  let c0_70 : Index := 0#32
  let c0_71 : Index := 0#32
  let c0_72 : Index := 0#32
  ![v146.toNat, 0, 0, 0, 0]
def k0_off38 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v151 : Index := Scalar.indexCast v37
  let c0_73 : Index := 0#32
  let c0_74 : Index := 0#32
  let c1_75 : Index := 1#32
  let c0_76 : Index := 0#32
  ![v151.toNat, 0, 0, 1, 0]
def k0_off39 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v151 : Index := Scalar.indexCast v37
  let c0_73 : Index := 0#32
  let c0_74 : Index := 0#32
  let c0_76 : Index := 0#32
  ![v151.toNat, 0, 0, 0, 0]
def k0_off40 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v156 : Index := Scalar.indexCast v37
  let c1_77 : Index := 1#32
  let c0_78 : Index := 0#32
  let c0_79 : Index := 0#32
  let c0_80 : Index := 0#32
  ![v156.toNat, 1, 0, 0, 0]
def k0_off41 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v156 : Index := Scalar.indexCast v37
  let c1_77 : Index := 1#32
  let c0_78 : Index := 0#32
  let c0_79 : Index := 0#32
  let c0_80 : Index := 0#32
  ![v156.toNat, 1, 0, 0, 0]
def k0_off42 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v161 : Index := Scalar.indexCast v37
  let c1_81 : Index := 1#32
  let c0_82 : Index := 0#32
  let c1_83 : Index := 1#32
  let c0_84 : Index := 0#32
  ![v161.toNat, 1, 0, 1, 0]
def k0_off43 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v161 : Index := Scalar.indexCast v37
  let c1_81 : Index := 1#32
  let c0_82 : Index := 0#32
  let c0_84 : Index := 0#32
  ![v161.toNat, 1, 0, 0, 0]
def k0_off44 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v166 : Index := Scalar.indexCast v37
  let c2_85 : Index := 2#32
  let c0_86 : Index := 0#32
  let c0_87 : Index := 0#32
  let c0_88 : Index := 0#32
  ![v166.toNat, 2, 0, 0, 0]
def k0_off45 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v166 : Index := Scalar.indexCast v37
  let c2_85 : Index := 2#32
  let c0_86 : Index := 0#32
  let c0_87 : Index := 0#32
  let c0_88 : Index := 0#32
  ![v166.toNat, 2, 0, 0, 0]
def k0_off46 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v171 : Index := Scalar.indexCast v37
  let c2_89 : Index := 2#32
  let c0_90 : Index := 0#32
  let c1_91 : Index := 1#32
  let c0_92 : Index := 0#32
  ![v171.toNat, 2, 0, 1, 0]
def k0_off47 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v171 : Index := Scalar.indexCast v37
  let c2_89 : Index := 2#32
  let c0_90 : Index := 0#32
  let c0_92 : Index := 0#32
  ![v171.toNat, 2, 0, 0, 0]
def k0_off48 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v176 : Index := Scalar.indexCast v37
  let c3_93 : Index := 3#32
  let c0_94 : Index := 0#32
  let c0_95 : Index := 0#32
  let c0_96 : Index := 0#32
  ![v176.toNat, 3, 0, 0, 0]
def k0_off49 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v176 : Index := Scalar.indexCast v37
  let c3_93 : Index := 3#32
  let c0_94 : Index := 0#32
  let c0_95 : Index := 0#32
  let c0_96 : Index := 0#32
  ![v176.toNat, 3, 0, 0, 0]
def k0_off50 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v181 : Index := Scalar.indexCast v37
  let c3_97 : Index := 3#32
  let c0_98 : Index := 0#32
  let c1_99 : Index := 1#32
  let c0_100 : Index := 0#32
  ![v181.toNat, 3, 0, 1, 0]
def k0_off51 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_11 : BitVec 32 := 2#32
  let c0_i32_12 : BitVec 32 := 0#32
  let v28 : BitVec 1 := Scalar.cmpi .eq c2_i32_11 c0_i32_12
  let c1_i32_13 : BitVec 32 := 1#32
  let v29 : BitVec 32 := Scalar.select v28 c1_i32_13 c2_i32_11
  let v30 : BitVec 32 := Scalar.remsi arg22 v29
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let c0_i32_14 : BitVec 32 := 0#32
  let v31 : BitVec 1 := Scalar.cmpi .ne v30 c0_i32_14
  let v35 : BitVec 1 := Scalar.andi v34 v31
  let v36 : BitVec 32 := Scalar.addi v30 v29
  let v37 : BitVec 32 := Scalar.select v35 v36 v30
  let v181 : Index := Scalar.indexCast v37
  let c3_97 : Index := 3#32
  let c0_98 : Index := 0#32
  let c0_100 : Index := 0#32
  ![v181.toNat, 3, 0, 0, 0]
def k0_off52 (k0_t3 : Fin k0_t3_loop.trips) : Fin 1 → Nat :=
  let c0_i32_6 : BitVec 32 := 0#32
  let c1_i32_7 : BitVec 32 := 1#32
  let arg22 : BitVec 32 := Scf.iv c0_i32_6 c1_i32_7 k0_t3
  let c2_i32_101 : BitVec 32 := 2#32
  let c0_i32_102 : BitVec 32 := 0#32
  let v185 : BitVec 1 := Scalar.cmpi .eq c2_i32_101 c0_i32_102
  let c1_i32_103 : BitVec 32 := 1#32
  let v186 : BitVec 32 := Scalar.select v185 c1_i32_103 c2_i32_101
  let v187 : BitVec 32 := Scalar.remsi arg22 v186
  let c0_i32_105 : BitVec 32 := 0#32
  let v189 : BitVec 1 := Scalar.cmpi .slt v187 c0_i32_105
  let c0_i32_106 : BitVec 32 := 0#32
  let v190 : BitVec 1 := Scalar.cmpi .slt v186 c0_i32_106
  let v191 : BitVec 1 := Scalar.xori v189 v190
  let c0_i32_104 : BitVec 32 := 0#32
  let v188 : BitVec 1 := Scalar.cmpi .ne v187 c0_i32_104
  let v192 : BitVec 1 := Scalar.andi v191 v188
  let v193 : BitVec 32 := Scalar.addi v187 v186
  let v194 : BitVec 32 := Scalar.select v192 v193 v187
  ![v194.toNat]
def k0_off53 (i : grid0.Coords) (k0_t3 : Fin k0_t3_loop.trips) : Fin 3 → Nat :=
  let arg1 : BitVec 32 := BitVec.ofNat 32 (i 1).val
  let c256_i32 : BitVec 32 := 256#32
  let v2 : BitVec 32 := Scalar.muli arg1 c256_i32
  let v3 : BitVec 32 := v2
  let arg0 : BitVec 32 := BitVec.ofNat 32 (i 0).val
  let c32_i32_107 : BitVec 32 := 32#32
  let v195 : BitVec 32 := Scalar.muli arg0 c32_i32_107
  let c2_i32_108 : BitVec 32 := 2#32
  let c0_i32_6 : BitVec 32 := 0#32
  let c1_i32_7 : BitVec 32 := 1#32
  let arg22 : BitVec 32 := Scf.iv c0_i32_6 c1_i32_7 k0_t3
  let v196 : BitVec 32 := Scalar.muli c2_i32_108 arg22
  let v197 : BitVec 32 := Scalar.addi v195 v196
  let c0_i32_116 : BitVec 32 := 0#32
  ![v3.toNat, v197.toNat, 0]
def k0_off54 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_101 : BitVec 32 := 2#32
  let c0_i32_102 : BitVec 32 := 0#32
  let v185 : BitVec 1 := Scalar.cmpi .eq c2_i32_101 c0_i32_102
  let c1_i32_103 : BitVec 32 := 1#32
  let v186 : BitVec 32 := Scalar.select v185 c1_i32_103 c2_i32_101
  let v187 : BitVec 32 := Scalar.remsi arg22 v186
  let c0_i32_105 : BitVec 32 := 0#32
  let v189 : BitVec 1 := Scalar.cmpi .slt v187 c0_i32_105
  let c0_i32_106 : BitVec 32 := 0#32
  let v190 : BitVec 1 := Scalar.cmpi .slt v186 c0_i32_106
  let v191 : BitVec 1 := Scalar.xori v189 v190
  let c0_i32_104 : BitVec 32 := 0#32
  let v188 : BitVec 1 := Scalar.cmpi .ne v187 c0_i32_104
  let v192 : BitVec 1 := Scalar.andi v191 v188
  let v193 : BitVec 32 := Scalar.addi v187 v186
  let v194 : BitVec 32 := Scalar.select v192 v193 v187
  let c0_i32_115 : BitVec 32 := 0#32
  let c0_i32_117 : BitVec 32 := 0#32
  let c0_i32_118 : BitVec 32 := 0#32
  let c0_i32_119 : BitVec 32 := 0#32
  ![v194.toNat, 0, 0, 0, 0]
def k0_off55 (i : grid0.Coords) (k0_t3 : Fin k0_t3_loop.trips) : Fin 3 → Nat :=
  let arg1 : BitVec 32 := BitVec.ofNat 32 (i 1).val
  let c256_i32 : BitVec 32 := 256#32
  let v2 : BitVec 32 := Scalar.muli arg1 c256_i32
  let v3 : BitVec 32 := v2
  let arg0 : BitVec 32 := BitVec.ofNat 32 (i 0).val
  let c32_i32_109 : BitVec 32 := 32#32
  let v198 : BitVec 32 := Scalar.muli arg0 c32_i32_109
  let c2_i32_110 : BitVec 32 := 2#32
  let c0_i32_6 : BitVec 32 := 0#32
  let c1_i32_7 : BitVec 32 := 1#32
  let arg22 : BitVec 32 := Scf.iv c0_i32_6 c1_i32_7 k0_t3
  let v199 : BitVec 32 := Scalar.muli c2_i32_110 arg22
  let v200 : BitVec 32 := Scalar.addi v198 v199
  let c128_i32 : BitVec 32 := 128#32
  ![v3.toNat, v200.toNat, 128]
def k0_off56 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_101 : BitVec 32 := 2#32
  let c0_i32_102 : BitVec 32 := 0#32
  let v185 : BitVec 1 := Scalar.cmpi .eq c2_i32_101 c0_i32_102
  let c1_i32_103 : BitVec 32 := 1#32
  let v186 : BitVec 32 := Scalar.select v185 c1_i32_103 c2_i32_101
  let v187 : BitVec 32 := Scalar.remsi arg22 v186
  let c0_i32_105 : BitVec 32 := 0#32
  let v189 : BitVec 1 := Scalar.cmpi .slt v187 c0_i32_105
  let c0_i32_106 : BitVec 32 := 0#32
  let v190 : BitVec 1 := Scalar.cmpi .slt v186 c0_i32_106
  let v191 : BitVec 1 := Scalar.xori v189 v190
  let c0_i32_104 : BitVec 32 := 0#32
  let v188 : BitVec 1 := Scalar.cmpi .ne v187 c0_i32_104
  let v192 : BitVec 1 := Scalar.andi v191 v188
  let v193 : BitVec 32 := Scalar.addi v187 v186
  let v194 : BitVec 32 := Scalar.select v192 v193 v187
  let c1_i32_120 : BitVec 32 := 1#32
  let c0_i32_121 : BitVec 32 := 0#32
  let c0_i32_122 : BitVec 32 := 0#32
  let c0_i32_123 : BitVec 32 := 0#32
  ![v194.toNat, 1, 0, 0, 0]
def k0_off57 (i : grid0.Coords) (k0_t3 : Fin k0_t3_loop.trips) : Fin 3 → Nat :=
  let arg1 : BitVec 32 := BitVec.ofNat 32 (i 1).val
  let c256_i32 : BitVec 32 := 256#32
  let v2 : BitVec 32 := Scalar.muli arg1 c256_i32
  let v3 : BitVec 32 := v2
  let arg0 : BitVec 32 := BitVec.ofNat 32 (i 0).val
  let c32_i32_111 : BitVec 32 := 32#32
  let v201 : BitVec 32 := Scalar.muli arg0 c32_i32_111
  let c2_i32_112 : BitVec 32 := 2#32
  let c0_i32_6 : BitVec 32 := 0#32
  let c1_i32_7 : BitVec 32 := 1#32
  let arg22 : BitVec 32 := Scf.iv c0_i32_6 c1_i32_7 k0_t3
  let v202 : BitVec 32 := Scalar.muli c2_i32_112 arg22
  let v203 : BitVec 32 := Scalar.addi v201 v202
  let c256_i32_125 : BitVec 32 := 256#32
  ![v3.toNat, v203.toNat, 256]
def k0_off58 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_101 : BitVec 32 := 2#32
  let c0_i32_102 : BitVec 32 := 0#32
  let v185 : BitVec 1 := Scalar.cmpi .eq c2_i32_101 c0_i32_102
  let c1_i32_103 : BitVec 32 := 1#32
  let v186 : BitVec 32 := Scalar.select v185 c1_i32_103 c2_i32_101
  let v187 : BitVec 32 := Scalar.remsi arg22 v186
  let c0_i32_105 : BitVec 32 := 0#32
  let v189 : BitVec 1 := Scalar.cmpi .slt v187 c0_i32_105
  let c0_i32_106 : BitVec 32 := 0#32
  let v190 : BitVec 1 := Scalar.cmpi .slt v186 c0_i32_106
  let v191 : BitVec 1 := Scalar.xori v189 v190
  let c0_i32_104 : BitVec 32 := 0#32
  let v188 : BitVec 1 := Scalar.cmpi .ne v187 c0_i32_104
  let v192 : BitVec 1 := Scalar.andi v191 v188
  let v193 : BitVec 32 := Scalar.addi v187 v186
  let v194 : BitVec 32 := Scalar.select v192 v193 v187
  let c2_i32_124 : BitVec 32 := 2#32
  let c0_i32_126 : BitVec 32 := 0#32
  let c0_i32_127 : BitVec 32 := 0#32
  let c0_i32_128 : BitVec 32 := 0#32
  ![v194.toNat, 2, 0, 0, 0]
def k0_off59 (i : grid0.Coords) (k0_t3 : Fin k0_t3_loop.trips) : Fin 3 → Nat :=
  let arg1 : BitVec 32 := BitVec.ofNat 32 (i 1).val
  let c256_i32 : BitVec 32 := 256#32
  let v2 : BitVec 32 := Scalar.muli arg1 c256_i32
  let v3 : BitVec 32 := v2
  let arg0 : BitVec 32 := BitVec.ofNat 32 (i 0).val
  let c32_i32_113 : BitVec 32 := 32#32
  let v204 : BitVec 32 := Scalar.muli arg0 c32_i32_113
  let c2_i32_114 : BitVec 32 := 2#32
  let c0_i32_6 : BitVec 32 := 0#32
  let c1_i32_7 : BitVec 32 := 1#32
  let arg22 : BitVec 32 := Scf.iv c0_i32_6 c1_i32_7 k0_t3
  let v205 : BitVec 32 := Scalar.muli c2_i32_114 arg22
  let v206 : BitVec 32 := Scalar.addi v204 v205
  let c384_i32 : BitVec 32 := 384#32
  ![v3.toNat, v206.toNat, 384]
def k0_off60 (k0_t3 : Fin k0_t3_loop.trips) : Fin 5 → Nat :=
  let c0_i32_6 : BitVec 32 := 0#32
  let c1_i32_7 : BitVec 32 := 1#32
  let arg22 : BitVec 32 := Scf.iv c0_i32_6 c1_i32_7 k0_t3
  let c2_i32_101 : BitVec 32 := 2#32
  let c0_i32_102 : BitVec 32 := 0#32
  let v185 : BitVec 1 := Scalar.cmpi .eq c2_i32_101 c0_i32_102
  let c1_i32_103 : BitVec 32 := 1#32
  let v186 : BitVec 32 := Scalar.select v185 c1_i32_103 c2_i32_101
  let v187 : BitVec 32 := Scalar.remsi arg22 v186
  let c0_i32_105 : BitVec 32 := 0#32
  let v189 : BitVec 1 := Scalar.cmpi .slt v187 c0_i32_105
  let c0_i32_106 : BitVec 32 := 0#32
  let v190 : BitVec 1 := Scalar.cmpi .slt v186 c0_i32_106
  let v191 : BitVec 1 := Scalar.xori v189 v190
  let c0_i32_104 : BitVec 32 := 0#32
  let v188 : BitVec 1 := Scalar.cmpi .ne v187 c0_i32_104
  let v192 : BitVec 1 := Scalar.andi v191 v188
  let v193 : BitVec 32 := Scalar.addi v187 v186
  let v194 : BitVec 32 := Scalar.select v192 v193 v187
  let c3_i32 : BitVec 32 := 3#32
  let c0_i32_129 : BitVec 32 := 0#32
  let c0_i32_130 : BitVec 32 := 0#32
  let c0_i32_131 : BitVec 32 := 0#32
  ![v194.toNat, 3, 0, 0, 0]
def k0_mult11 (i : grid0.Coords) (k0_t3 : Fin k0_t3_loop.trips) : BitVec 32 :=
  let arg0 : BitVec 32 := BitVec.ofNat 32 (i 0).val
  let c32_i32_138 : BitVec 32 := 32#32
  let v237 : BitVec 32 := Scalar.muli arg0 c32_i32_138
  let c2_i32_139 : BitVec 32 := 2#32
  let c0_i32_6 : BitVec 32 := 0#32
  let c1_i32_7 : BitVec 32 := 1#32
  let arg22 : BitVec 32 := Scf.iv c0_i32_6 c1_i32_7 k0_t3
  let v238 : BitVec 32 := Scalar.muli c2_i32_139 arg22
  let v239 : BitVec 32 := Scalar.addi v237 v238
  let c256_i32_140 : BitVec 32 := 256#32
  let v240 : BitVec 32 := Scalar.muli v239 c256_i32_140
  let c0_i32_141 : BitVec 32 := 0#32
  let v241 : BitVec 32 := Scalar.addi v240 c0_i32_141
  v241
def k0_mult12 (i : grid0.Coords) (k0_t3 : Fin k0_t3_loop.trips) : BitVec 32 :=
  let arg0 : BitVec 32 := BitVec.ofNat 32 (i 0).val
  let c32_i32_138 : BitVec 32 := 32#32
  let v237 : BitVec 32 := Scalar.muli arg0 c32_i32_138
  let c2_i32_139 : BitVec 32 := 2#32
  let c0_i32_6 : BitVec 32 := 0#32
  let c1_i32_7 : BitVec 32 := 1#32
  let arg22 : BitVec 32 := Scf.iv c0_i32_6 c1_i32_7 k0_t3
  let v238 : BitVec 32 := Scalar.muli c2_i32_139 arg22
  let v239 : BitVec 32 := Scalar.addi v237 v238
  let c256_i32_140 : BitVec 32 := 256#32
  let v240 : BitVec 32 := Scalar.muli v239 c256_i32_140
  let c128_i32_142 : BitVec 32 := 128#32
  let v243 : BitVec 32 := Scalar.addi v240 c128_i32_142
  v243
def k0_mult13 (i : grid0.Coords) (k0_t3 : Fin k0_t3_loop.trips) : BitVec 32 :=
  let arg0 : BitVec 32 := BitVec.ofNat 32 (i 0).val
  let c32_i32_138 : BitVec 32 := 32#32
  let v237 : BitVec 32 := Scalar.muli arg0 c32_i32_138
  let c2_i32_139 : BitVec 32 := 2#32
  let c0_i32_6 : BitVec 32 := 0#32
  let c1_i32_7 : BitVec 32 := 1#32
  let arg22 : BitVec 32 := Scf.iv c0_i32_6 c1_i32_7 k0_t3
  let v238 : BitVec 32 := Scalar.muli c2_i32_139 arg22
  let v239 : BitVec 32 := Scalar.addi v237 v238
  let c256_i32_140 : BitVec 32 := 256#32
  let v240 : BitVec 32 := Scalar.muli v239 c256_i32_140
  let c256_i32_143 : BitVec 32 := 256#32
  let v245 : BitVec 32 := Scalar.addi v240 c256_i32_143
  v245
def k0_mult14 (i : grid0.Coords) (k0_t3 : Fin k0_t3_loop.trips) : BitVec 32 :=
  let arg0 : BitVec 32 := BitVec.ofNat 32 (i 0).val
  let c32_i32_138 : BitVec 32 := 32#32
  let v237 : BitVec 32 := Scalar.muli arg0 c32_i32_138
  let c2_i32_139 : BitVec 32 := 2#32
  let c0_i32_6 : BitVec 32 := 0#32
  let c1_i32_7 : BitVec 32 := 1#32
  let arg22 : BitVec 32 := Scf.iv c0_i32_6 c1_i32_7 k0_t3
  let v238 : BitVec 32 := Scalar.muli c2_i32_139 arg22
  let v239 : BitVec 32 := Scalar.addi v237 v238
  let c256_i32_140 : BitVec 32 := 256#32
  let v240 : BitVec 32 := Scalar.muli v239 c256_i32_140
  let c384_i32_144 : BitVec 32 := 384#32
  let v247 : BitVec 32 := Scalar.addi v240 c384_i32_144
  v247
def k0_off61 (i : grid0.Coords) (k0_t3 : Fin k0_t3_loop.trips) (c0_i32_141 : BitVec 32) : Fin 2 → Nat :=
  let arg1 : BitVec 32 := BitVec.ofNat 32 (i 1).val
  let c256_i32 : BitVec 32 := 256#32
  let v2 : BitVec 32 := Scalar.muli arg1 c256_i32
  let v3 : BitVec 32 := v2
  let arg0 : BitVec 32 := BitVec.ofNat 32 (i 0).val
  let c32_i32_138 : BitVec 32 := 32#32
  let v237 : BitVec 32 := Scalar.muli arg0 c32_i32_138
  let c2_i32_139 : BitVec 32 := 2#32
  let c0_i32_6 : BitVec 32 := 0#32
  let c1_i32_7 : BitVec 32 := 1#32
  let arg22 : BitVec 32 := Scf.iv c0_i32_6 c1_i32_7 k0_t3
  let v238 : BitVec 32 := Scalar.muli c2_i32_139 arg22
  let v239 : BitVec 32 := Scalar.addi v237 v238
  let c256_i32_140 : BitVec 32 := 256#32
  let v240 : BitVec 32 := Scalar.muli v239 c256_i32_140
  let v241 : BitVec 32 := Scalar.addi v240 c0_i32_141
  let v242 : BitVec 32 := v241
  ![v3.toNat, v242.toNat]
def k0_off62 (k0_t3 : Fin k0_t3_loop.trips) : Fin 4 → Nat :=
  let c0_i32_6 : BitVec 32 := 0#32
  let c1_i32_7 : BitVec 32 := 1#32
  let arg22 : BitVec 32 := Scf.iv c0_i32_6 c1_i32_7 k0_t3
  let c2_i32_132 : BitVec 32 := 2#32
  let c0_i32_133 : BitVec 32 := 0#32
  let v227 : BitVec 1 := Scalar.cmpi .eq c2_i32_132 c0_i32_133
  let c1_i32_134 : BitVec 32 := 1#32
  let v228 : BitVec 32 := Scalar.select v227 c1_i32_134 c2_i32_132
  let v229 : BitVec 32 := Scalar.remsi arg22 v228
  let c0_i32_136 : BitVec 32 := 0#32
  let v231 : BitVec 1 := Scalar.cmpi .slt v229 c0_i32_136
  let c0_i32_137 : BitVec 32 := 0#32
  let v232 : BitVec 1 := Scalar.cmpi .slt v228 c0_i32_137
  let v233 : BitVec 1 := Scalar.xori v231 v232
  let c0_i32_135 : BitVec 32 := 0#32
  let v230 : BitVec 1 := Scalar.cmpi .ne v229 c0_i32_135
  let v234 : BitVec 1 := Scalar.andi v233 v230
  let v235 : BitVec 32 := Scalar.addi v229 v228
  let v236 : BitVec 32 := Scalar.select v234 v235 v229
  let c0_i32_145 : BitVec 32 := 0#32
  let c0_i32_146 : BitVec 32 := 0#32
  let c0_i32_147 : BitVec 32 := 0#32
  ![v236.toNat, 0, 0, 0]
def k0_off63 (k0_t3 : Fin k0_t3_loop.trips) : Fin 4 → Nat :=
  let c0_i32_6 : BitVec 32 := 0#32
  let c1_i32_7 : BitVec 32 := 1#32
  let arg22 : BitVec 32 := Scf.iv c0_i32_6 c1_i32_7 k0_t3
  let c2_i32_132 : BitVec 32 := 2#32
  let c0_i32_133 : BitVec 32 := 0#32
  let v227 : BitVec 1 := Scalar.cmpi .eq c2_i32_132 c0_i32_133
  let c1_i32_134 : BitVec 32 := 1#32
  let v228 : BitVec 32 := Scalar.select v227 c1_i32_134 c2_i32_132
  let v229 : BitVec 32 := Scalar.remsi arg22 v228
  let c0_i32_136 : BitVec 32 := 0#32
  let v231 : BitVec 1 := Scalar.cmpi .slt v229 c0_i32_136
  let c0_i32_137 : BitVec 32 := 0#32
  let v232 : BitVec 1 := Scalar.cmpi .slt v228 c0_i32_137
  let v233 : BitVec 1 := Scalar.xori v231 v232
  let c0_i32_135 : BitVec 32 := 0#32
  let v230 : BitVec 1 := Scalar.cmpi .ne v229 c0_i32_135
  let v234 : BitVec 1 := Scalar.andi v233 v230
  let v235 : BitVec 32 := Scalar.addi v229 v228
  let v236 : BitVec 32 := Scalar.select v234 v235 v229
  let c1_i32_148 : BitVec 32 := 1#32
  let c0_i32_149 : BitVec 32 := 0#32
  let c0_i32_150 : BitVec 32 := 0#32
  ![v236.toNat, 1, 0, 0]
def k0_off64 (k0_t3 : Fin k0_t3_loop.trips) : Fin 4 → Nat :=
  let c0_i32_6 : BitVec 32 := 0#32
  let c1_i32_7 : BitVec 32 := 1#32
  let arg22 : BitVec 32 := Scf.iv c0_i32_6 c1_i32_7 k0_t3
  let c2_i32_132 : BitVec 32 := 2#32
  let c0_i32_133 : BitVec 32 := 0#32
  let v227 : BitVec 1 := Scalar.cmpi .eq c2_i32_132 c0_i32_133
  let c1_i32_134 : BitVec 32 := 1#32
  let v228 : BitVec 32 := Scalar.select v227 c1_i32_134 c2_i32_132
  let v229 : BitVec 32 := Scalar.remsi arg22 v228
  let c0_i32_136 : BitVec 32 := 0#32
  let v231 : BitVec 1 := Scalar.cmpi .slt v229 c0_i32_136
  let c0_i32_137 : BitVec 32 := 0#32
  let v232 : BitVec 1 := Scalar.cmpi .slt v228 c0_i32_137
  let v233 : BitVec 1 := Scalar.xori v231 v232
  let c0_i32_135 : BitVec 32 := 0#32
  let v230 : BitVec 1 := Scalar.cmpi .ne v229 c0_i32_135
  let v234 : BitVec 1 := Scalar.andi v233 v230
  let v235 : BitVec 32 := Scalar.addi v229 v228
  let v236 : BitVec 32 := Scalar.select v234 v235 v229
  let c2_i32_151 : BitVec 32 := 2#32
  let c0_i32_152 : BitVec 32 := 0#32
  let c0_i32_153 : BitVec 32 := 0#32
  ![v236.toNat, 2, 0, 0]
def k0_off65 (k0_t3 : Fin k0_t3_loop.trips) : Fin 4 → Nat :=
  let c0_i32_6 : BitVec 32 := 0#32
  let c1_i32_7 : BitVec 32 := 1#32
  let arg22 : BitVec 32 := Scf.iv c0_i32_6 c1_i32_7 k0_t3
  let c2_i32_132 : BitVec 32 := 2#32
  let c0_i32_133 : BitVec 32 := 0#32
  let v227 : BitVec 1 := Scalar.cmpi .eq c2_i32_132 c0_i32_133
  let c1_i32_134 : BitVec 32 := 1#32
  let v228 : BitVec 32 := Scalar.select v227 c1_i32_134 c2_i32_132
  let v229 : BitVec 32 := Scalar.remsi arg22 v228
  let c0_i32_136 : BitVec 32 := 0#32
  let v231 : BitVec 1 := Scalar.cmpi .slt v229 c0_i32_136
  let c0_i32_137 : BitVec 32 := 0#32
  let v232 : BitVec 1 := Scalar.cmpi .slt v228 c0_i32_137
  let v233 : BitVec 1 := Scalar.xori v231 v232
  let c0_i32_135 : BitVec 32 := 0#32
  let v230 : BitVec 1 := Scalar.cmpi .ne v229 c0_i32_135
  let v234 : BitVec 1 := Scalar.andi v233 v230
  let v235 : BitVec 32 := Scalar.addi v229 v228
  let v236 : BitVec 32 := Scalar.select v234 v235 v229
  let c3_i32_154 : BitVec 32 := 3#32
  let c0_i32_155 : BitVec 32 := 0#32
  let c0_i32_156 : BitVec 32 := 0#32
  ![v236.toNat, 3, 0, 0]
def k0_cond5 (i : grid0.Coords) : BitVec 1 :=
  let arg1 : BitVec 32 := BitVec.ofNat 32 (i 1).val
  let c19_i32 : BitVec 32 := 19#32
  let v22 : BitVec 1 := Scalar.cmpi .eq arg1 c19_i32
  let v23 : BitVec 32 := Scalar.extui v22
  let c0_i32_9 : BitVec 32 := 0#32
  let v24 : BitVec 1 := Scalar.cmpi .ne v23 c0_i32_9
  v24

def k0_off66 (i : grid0.Coords) : Fin 3 → Nat :=
  let arg0 : BitVec 32 := BitVec.ofNat 32 (i 0).val
  let c32_i32 : BitVec 32 := 32#32
  let v13 : BitVec 32 := Scalar.muli arg0 c32_i32
  let c0_i32_11 : BitVec 32 := 0#32
  let c0_i32_12 : BitVec 32 := 0#32
  ![v13.toNat, 0, 0]
def k0_cond6 (i : grid0.Coords) : BitVec 1 :=
  let arg0 : BitVec 32 := BitVec.ofNat 32 (i 0).val
  let c20_i32 : BitVec 32 := 20#32
  let v0 : BitVec 32 := Scalar.muli arg0 c20_i32
  let arg1 : BitVec 32 := BitVec.ofNat 32 (i 1).val
  let v1 : BitVec 32 := Scalar.addi v0 arg1
  let c39_i32 : BitVec 32 := 39#32
  let v25 : BitVec 1 := Scalar.cmpi .eq v1 c39_i32
  let v26 : BitVec 32 := Scalar.extui v25
  let c0_i32_10 : BitVec 32 := 0#32
  let v27 : BitVec 1 := Scalar.cmpi .ne v26 c0_i32_10
  v27

def k0_mult15 (i : grid0.Coords) : BitVec 32 :=
  let arg0 : BitVec 32 := BitVec.ofNat 32 (i 0).val
  let c32_i32_19 : BitVec 32 := 32#32
  let v36 : BitVec 32 := Scalar.muli arg0 c32_i32_19
  let c0_i32_20 : BitVec 32 := 0#32
  let v37 : BitVec 32 := Scalar.addi v36 c0_i32_20
  let c256_i32_21 : BitVec 32 := 256#32
  let v38 : BitVec 32 := Scalar.muli v37 c256_i32_21
  let c0_i32_22 : BitVec 32 := 0#32
  let v39 : BitVec 32 := Scalar.addi v38 c0_i32_22
  v39
def k0_mult16 (i : grid0.Coords) : BitVec 32 :=
  let arg0 : BitVec 32 := BitVec.ofNat 32 (i 0).val
  let c32_i32_19 : BitVec 32 := 32#32
  let v36 : BitVec 32 := Scalar.muli arg0 c32_i32_19
  let c0_i32_20 : BitVec 32 := 0#32
  let v37 : BitVec 32 := Scalar.addi v36 c0_i32_20
  let c256_i32_21 : BitVec 32 := 256#32
  let v38 : BitVec 32 := Scalar.muli v37 c256_i32_21
  let c128_i32 : BitVec 32 := 128#32
  let v41 : BitVec 32 := Scalar.addi v38 c128_i32
  v41
def k0_mult17 (i : grid0.Coords) : BitVec 32 :=
  let arg0 : BitVec 32 := BitVec.ofNat 32 (i 0).val
  let c32_i32_19 : BitVec 32 := 32#32
  let v36 : BitVec 32 := Scalar.muli arg0 c32_i32_19
  let c0_i32_20 : BitVec 32 := 0#32
  let v37 : BitVec 32 := Scalar.addi v36 c0_i32_20
  let c256_i32_21 : BitVec 32 := 256#32
  let v38 : BitVec 32 := Scalar.muli v37 c256_i32_21
  let c256_i32_23 : BitVec 32 := 256#32
  let v43 : BitVec 32 := Scalar.addi v38 c256_i32_23
  v43
def k0_mult18 (i : grid0.Coords) : BitVec 32 :=
  let arg0 : BitVec 32 := BitVec.ofNat 32 (i 0).val
  let c32_i32_19 : BitVec 32 := 32#32
  let v36 : BitVec 32 := Scalar.muli arg0 c32_i32_19
  let c0_i32_20 : BitVec 32 := 0#32
  let v37 : BitVec 32 := Scalar.addi v36 c0_i32_20
  let c256_i32_21 : BitVec 32 := 256#32
  let v38 : BitVec 32 := Scalar.muli v37 c256_i32_21
  let c384_i32 : BitVec 32 := 384#32
  let v45 : BitVec 32 := Scalar.addi v38 c384_i32
  v45
def k0_off67 (i : grid0.Coords) (c0_i32_12 : BitVec 32) : Fin 3 → Nat :=
  let arg1 : BitVec 32 := BitVec.ofNat 32 (i 1).val
  let c256_i32 : BitVec 32 := 256#32
  let v2 : BitVec 32 := Scalar.muli arg1 c256_i32
  let v3 : BitVec 32 := v2
  let arg0 : BitVec 32 := BitVec.ofNat 32 (i 0).val
  let c32_i32_11 : BitVec 32 := 32#32
  let v28 : BitVec 32 := Scalar.muli arg0 c32_i32_11
  let v29 : BitVec 32 := Scalar.addi v28 c0_i32_12
  let c0_i32_27 : BitVec 32 := 0#32
  ![v3.toNat, v29.toNat, 0]
def k0_off68 (i : grid0.Coords) (c0_i32_14 : BitVec 32) : Fin 3 → Nat :=
  let arg1 : BitVec 32 := BitVec.ofNat 32 (i 1).val
  let c256_i32 : BitVec 32 := 256#32
  let v2 : BitVec 32 := Scalar.muli arg1 c256_i32
  let v3 : BitVec 32 := v2
  let arg0 : BitVec 32 := BitVec.ofNat 32 (i 0).val
  let c32_i32_13 : BitVec 32 := 32#32
  let v30 : BitVec 32 := Scalar.muli arg0 c32_i32_13
  let v31 : BitVec 32 := Scalar.addi v30 c0_i32_14
  let c128_i32_34 : BitVec 32 := 128#32
  ![v3.toNat, v31.toNat, 128]
def k0_off69 (i : grid0.Coords) (c0_i32_16 : BitVec 32) : Fin 3 → Nat :=
  let arg1 : BitVec 32 := BitVec.ofNat 32 (i 1).val
  let c256_i32 : BitVec 32 := 256#32
  let v2 : BitVec 32 := Scalar.muli arg1 c256_i32
  let v3 : BitVec 32 := v2
  let arg0 : BitVec 32 := BitVec.ofNat 32 (i 0).val
  let c32_i32_15 : BitVec 32 := 32#32
  let v32 : BitVec 32 := Scalar.muli arg0 c32_i32_15
  let v33 : BitVec 32 := Scalar.addi v32 c0_i32_16
  let c256_i32_41 : BitVec 32 := 256#32
  ![v3.toNat, v33.toNat, 256]
def k0_off70 (i : grid0.Coords) (c0_i32_18 : BitVec 32) : Fin 3 → Nat :=
  let arg1 : BitVec 32 := BitVec.ofNat 32 (i 1).val
  let c256_i32 : BitVec 32 := 256#32
  let v2 : BitVec 32 := Scalar.muli arg1 c256_i32
  let v3 : BitVec 32 := v2
  let arg0 : BitVec 32 := BitVec.ofNat 32 (i 0).val
  let c32_i32_17 : BitVec 32 := 32#32
  let v34 : BitVec 32 := Scalar.muli arg0 c32_i32_17
  let v35 : BitVec 32 := Scalar.addi v34 c0_i32_18
  let c384_i32_47 : BitVec 32 := 384#32
  ![v3.toNat, v35.toNat, 384]
def k0_off71 (i : grid0.Coords) (c0_i32_20 : BitVec 32) (c0_i32_22 : BitVec 32) : Fin 2 → Nat :=
  let arg1 : BitVec 32 := BitVec.ofNat 32 (i 1).val
  let c256_i32 : BitVec 32 := 256#32
  let v2 : BitVec 32 := Scalar.muli arg1 c256_i32
  let v3 : BitVec 32 := v2
  let arg0 : BitVec 32 := BitVec.ofNat 32 (i 0).val
  let c32_i32_19 : BitVec 32 := 32#32
  let v36 : BitVec 32 := Scalar.muli arg0 c32_i32_19
  let v37 : BitVec 32 := Scalar.addi v36 c0_i32_20
  let c256_i32_21 : BitVec 32 := 256#32
  let v38 : BitVec 32 := Scalar.muli v37 c256_i32_21
  let v39 : BitVec 32 := Scalar.addi v38 c0_i32_22
  let v40 : BitVec 32 := v39
  ![v3.toNat, v40.toNat]
def k0_mult19 (i : grid0.Coords) : BitVec 32 :=
  let arg0 : BitVec 32 := BitVec.ofNat 32 (i 0).val
  let c32_i32_79 : BitVec 32 := 32#32
  let v95 : BitVec 32 := Scalar.muli arg0 c32_i32_79
  let c2_i32_80 : BitVec 32 := 2#32
  let v96 : BitVec 32 := Scalar.addi v95 c2_i32_80
  let c256_i32_81 : BitVec 32 := 256#32
  let v97 : BitVec 32 := Scalar.muli v96 c256_i32_81
  let c0_i32_82 : BitVec 32 := 0#32
  let v98 : BitVec 32 := Scalar.addi v97 c0_i32_82
  v98
def k0_mult20 (i : grid0.Coords) : BitVec 32 :=
  let arg0 : BitVec 32 := BitVec.ofNat 32 (i 0).val
  let c32_i32_79 : BitVec 32 := 32#32
  let v95 : BitVec 32 := Scalar.muli arg0 c32_i32_79
  let c2_i32_80 : BitVec 32 := 2#32
  let v96 : BitVec 32 := Scalar.addi v95 c2_i32_80
  let c256_i32_81 : BitVec 32 := 256#32
  let v97 : BitVec 32 := Scalar.muli v96 c256_i32_81
  let c128_i32_83 : BitVec 32 := 128#32
  let v100 : BitVec 32 := Scalar.addi v97 c128_i32_83
  v100
def k0_mult21 (i : grid0.Coords) : BitVec 32 :=
  let arg0 : BitVec 32 := BitVec.ofNat 32 (i 0).val
  let c32_i32_79 : BitVec 32 := 32#32
  let v95 : BitVec 32 := Scalar.muli arg0 c32_i32_79
  let c2_i32_80 : BitVec 32 := 2#32
  let v96 : BitVec 32 := Scalar.addi v95 c2_i32_80
  let c256_i32_81 : BitVec 32 := 256#32
  let v97 : BitVec 32 := Scalar.muli v96 c256_i32_81
  let c256_i32_84 : BitVec 32 := 256#32
  let v102 : BitVec 32 := Scalar.addi v97 c256_i32_84
  v102
def k0_mult22 (i : grid0.Coords) : BitVec 32 :=
  let arg0 : BitVec 32 := BitVec.ofNat 32 (i 0).val
  let c32_i32_79 : BitVec 32 := 32#32
  let v95 : BitVec 32 := Scalar.muli arg0 c32_i32_79
  let c2_i32_80 : BitVec 32 := 2#32
  let v96 : BitVec 32 := Scalar.addi v95 c2_i32_80
  let c256_i32_81 : BitVec 32 := 256#32
  let v97 : BitVec 32 := Scalar.muli v96 c256_i32_81
  let c384_i32_85 : BitVec 32 := 384#32
  let v104 : BitVec 32 := Scalar.addi v97 c384_i32_85
  v104
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x256x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x512x256 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== ReferenceIdeal.lean ====
abbrev S2x2560x16384 : Shape := ⟨3, ![2, 2560, 16384]⟩
abbrev S2x2560x32 : Shape := ⟨3, ![2, 2560, 32]⟩
abbrev S2x2560x64 : Shape := ⟨3, ![2, 2560, 64]⟩
abbrev S64x512x256 : Shape := ⟨3, ![64, 512, 256]⟩
abbrev S64 : Shape := ⟨1, ![64]⟩
abbrev S512x32x64 : Shape := ⟨3, ![512, 32, 64]⟩
abbrev S512 : Shape := ⟨1, ![512]⟩
abbrev S2x2560x32x512 : Shape := ⟨4, ![2, 2560, 32, 512]⟩
abbrev S2x2560x32x1 : Shape := ⟨4, ![2, 2560, 32, 1]⟩
abbrev S2x2560x64x256 : Shape := ⟨4, ![2, 2560, 64, 256]⟩
abbrev S2x2560x64x1 : Shape := ⟨4, ![2, 2560, 64, 1]⟩
abbrev S512x64x2x2560 : Shape := ⟨4, ![512, 64, 2, 2560]⟩
abbrev S2x2560x64x512 : Shape := ⟨4, ![2, 2560, 64, 512]⟩
abbrev S1x1x1x512 : Shape := ⟨4, ![1, 1, 1, 512]⟩
abbrev S64x256x2x2560 : Shape := ⟨4, ![64, 256, 2, 2560]⟩
abbrev S64x1 : Shape := ⟨2, ![64, 1]⟩
abbrev S1x1x64x1 : Shape := ⟨4, ![1, 1, 64, 1]⟩
abbrev S5120x16384 : Shape := ⟨2, ![5120, 16384]⟩
abbrev S5120x64x512 : Shape := ⟨3, ![5120, 64, 512]⟩

abbrev nBuf : Space → Nat
  | .hbm => 39
  | .vmem => 8
  | .smem => 0
  | _ => 0

abbrev bufTy : (tb : Table) → Fin (tcTables nBuf tb) → BufTy
  | .hbm, ⟨0, _⟩ => ⟨S2x2560x16384, .fp8e5m2⟩
  | .hbm, ⟨1, _⟩ => ⟨S2x2560x32, .f32⟩
  | .hbm, ⟨2, _⟩ => ⟨S2x2560x16384, .fp8e4m3⟩
  | .hbm, ⟨3, _⟩ => ⟨S2x2560x64, .f32⟩
  | .hbm, ⟨4, _⟩ => ⟨S64x512x256, .fp8e4m3⟩
  | .hbm, ⟨5, _⟩ => ⟨S64, .f32⟩
  | .hbm, ⟨6, _⟩ => ⟨S512x32x64, .fp8e4m3⟩
  | .hbm, ⟨7, _⟩ => ⟨S512, .f32⟩
  | .hbm, ⟨8, _⟩ => ⟨S2x2560x16384, .bf16⟩
  | .hbm, ⟨9, _⟩ => ⟨S2x2560x16384, .bf16⟩
  | .hbm, ⟨10, _⟩ => ⟨S64x512x256, .bf16⟩
  | .hbm, ⟨11, _⟩ => ⟨S512x32x64, .bf16⟩
  | .hbm, ⟨12, _⟩ => ⟨S2x2560x32x512, .bf16⟩
  | .hbm, ⟨13, _⟩ => ⟨S2x2560x32, .bf16⟩
  | .hbm, ⟨14, _⟩ => ⟨S2x2560x32x1, .bf16⟩
  | .hbm, ⟨15, _⟩ => ⟨S2x2560x32x512, .bf16⟩
  | .hbm, ⟨16, _⟩ => ⟨S2x2560x32x512, .bf16⟩
  | .hbm, ⟨17, _⟩ => ⟨S2x2560x64x256, .bf16⟩
  | .hbm, ⟨18, _⟩ => ⟨S2x2560x64, .bf16⟩
  | .hbm, ⟨19, _⟩ => ⟨S2x2560x64x1, .bf16⟩
  | .hbm, ⟨20, _⟩ => ⟨S2x2560x64x256, .bf16⟩
  | .hbm, ⟨21, _⟩ => ⟨S2x2560x64x256, .bf16⟩
  | .hbm, ⟨22, _⟩ => ⟨S512x64x2x2560, .f32⟩
  | .hbm, ⟨23, _⟩ => ⟨S2x2560x64x512, .f32⟩
  | .hbm, ⟨24, _⟩ => ⟨S1x1x1x512, .f32⟩
  | .hbm, ⟨25, _⟩ => ⟨S2x2560x64x512, .f32⟩
  | .hbm, ⟨26, _⟩ => ⟨S2x2560x64x512, .f32⟩
  | .hbm, ⟨27, _⟩ => ⟨S2x2560x64x512, .bf16⟩
  | .hbm, ⟨28, _⟩ => ⟨S64x512x256, .f32⟩
  | .hbm, ⟨29, _⟩ => ⟨S64x256x2x2560, .f32⟩
  | .hbm, ⟨30, _⟩ => ⟨S2x2560x64x256, .f32⟩
  | .hbm, ⟨31, _⟩ => ⟨S64x1, .f32⟩
  | .hbm, ⟨32, _⟩ => ⟨S1x1x64x1, .f32⟩
  | .hbm, ⟨33, _⟩ => ⟨S2x2560x64x256, .f32⟩
  | .hbm, ⟨34, _⟩ => ⟨S2x2560x64x256, .f32⟩
  | .hbm, ⟨35, _⟩ => ⟨S2x2560x16384, .f32⟩
  | .hbm, ⟨36, _⟩ => ⟨S2x2560x16384, .bf16⟩
  | .hbm, ⟨37, _⟩ => ⟨S5120x16384, .bf16⟩
  | .hbm, ⟨38, _⟩ => ⟨S5120x64x512, .bf16⟩
  | .local _ .vmem, ⟨0, _⟩ => ⟨S2x2560x16384, .fp8e5m2⟩
  | .local _ .vmem, ⟨1, _⟩ => ⟨S2x2560x16384, .fp8e4m3⟩
  | .local _ .vmem, ⟨2, _⟩ => ⟨S64x512x256, .fp8e4m3⟩
  | .local _ .vmem, ⟨3, _⟩ => ⟨S512x32x64, .fp8e4m3⟩
  | .local _ .vmem, ⟨4, _⟩ => ⟨S2x2560x16384, .bf16⟩
  | .local _ .vmem, ⟨5, _⟩ => ⟨S2x2560x16384, .bf16⟩
  | .local _ .vmem, ⟨6, _⟩ => ⟨S64x512x256, .bf16⟩
  | .local _ .vmem, ⟨7, _⟩ => ⟨S512x32x64, .bf16⟩
  | _, _ => ⟨S2x2560x16384, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x2560x16384 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2560x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x512x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x32x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2560x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2560x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x32x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KI.Off.lean ====
module

public import proofs.«01_k».proof.Proof.Gen.KernelIdeal
public import Idealize.ShloMosaic.Lib.Ring

/-! The closed forms of the kernel's ring indices: the dy ring's slot of a global copy number modulo 4, the output rings'
    slot of a step's pair number modulo 2, and the conditions on the grid point. -/

@[expose] public section

noncomputable section

namespace Cert.KernelIdeal.Hand

open Cert.KernelIdeal Cert.KernelIdeal.Gen
open Idealize.ShloMosaic Idealize.ShloMosaic.TcCoe

/-- The grid point's step number. -/
abbrev stepOf (i : grid0.Coords) : ℕ := 20 * (i 0).val + (i 1).val

/-- The dy copy a trip of the first loop waits for. -/
abbrev cnt (i : grid0.Coords) (k : Fin k0_t1_loop.trips) : ℕ := 8 * stepOf i + k.val

theorem k0_off1_eq : ∀ (i : grid0.Coords) (k0_t1 : Fin k0_t1_loop.trips), k0_off1 i k0_t1 = ![(Ring.sl 4 (cnt i k0_t1 + 3)).val] := by decide +kernel
instance closedOff_k0_off1 (i : grid0.Coords) (k0_t1 : Fin k0_t1_loop.trips) : ClosedOff (k0_off1 i k0_t1) := ⟨![(Ring.sl 4 (cnt i k0_t1 + 3)).val], k0_off1_eq i k0_t1⟩
theorem k0_off2_eq : ∀ (i : grid0.Coords) (k0_t1 : Fin k0_t1_loop.trips), k0_off2 i k0_t1 = ![(Ring.sl 4 (cnt i k0_t1 + 3)).val, 0, 0, 0] := by decide +kernel
instance closedOff_k0_off2 (i : grid0.Coords) (k0_t1 : Fin k0_t1_loop.trips) : ClosedOff (k0_off2 i k0_t1) := ⟨![(Ring.sl 4 (cnt i k0_t1 + 3)).val, 0, 0, 0], k0_off2_eq i k0_t1⟩
theorem k0_off4_eq : ∀ (i : grid0.Coords) (k0_t1 : Fin k0_t1_loop.trips), k0_off4 i k0_t1 = ![(Ring.sl 4 (cnt i k0_t1)).val] := by decide +kernel
instance closedOff_k0_off4 (i : grid0.Coords) (k0_t1 : Fin k0_t1_loop.trips) : ClosedOff (k0_off4 i k0_t1) := ⟨![(Ring.sl 4 (cnt i k0_t1)).val], k0_off4_eq i k0_t1⟩
theorem k0_off5_eq : ∀ (i : grid0.Coords) (k0_t1 : Fin k0_t1_loop.trips), k0_off5 i k0_t1 = ![(Ring.sl 4 (cnt i k0_t1)).val, 0, 0, 0] := by decide +kernel
instance closedOff_k0_off5 (i : grid0.Coords) (k0_t1 : Fin k0_t1_loop.trips) : ClosedOff (k0_off5 i k0_t1) := ⟨![(Ring.sl 4 (cnt i k0_t1)).val, 0, 0, 0], k0_off5_eq i k0_t1⟩
theorem k0_off18_eq : ∀ (k0_t3 : Fin k0_t3_loop.trips), k0_off18 k0_t3 = ![(Ring.sl 2 k0_t3.val).val] := by decide +kernel
instance closedOff_k0_off18 (k0_t3 : Fin k0_t3_loop.trips) : ClosedOff (k0_off18 k0_t3) := ⟨![(Ring.sl 2 k0_t3.val).val], k0_off18_eq k0_t3⟩
theorem k0_off52_eq : ∀ (k0_t3 : Fin k0_t3_loop.trips), k0_off52 k0_t3 = ![(Ring.sl 2 k0_t3.val).val] := by decide +kernel
instance closedOff_k0_off52 (k0_t3 : Fin k0_t3_loop.trips) : ClosedOff (k0_off52 k0_t3) := ⟨![(Ring.sl 2 k0_t3.val).val], k0_off52_eq k0_t3⟩
theorem k0_off20_eq : ∀ (k0_t3 : Fin k0_t3_loop.trips), k0_off20 k0_t3 = ![(Ring.sl 2 k0_t3.val).val, 0, 0, 0, 0] := by decide +kernel
instance closedOff_k0_off20 (k0_t3 : Fin k0_t3_loop.trips) : ClosedOff (k0_off20 k0_t3) := ⟨![(Ring.sl 2 k0_t3.val).val, 0, 0, 0, 0], k0_off20_eq k0_t3⟩
theorem k0_off22_eq : ∀ (k0_t3 : Fin k0_t3_loop.trips), k0_off22 k0_t3 = ![(Ring.sl 2 k0_t3.val).val, 1, 0, 0, 0] := by decide +kernel
instance closedOff_k0_off22 (k0_t3 : Fin k0_t3_loop.trips) : ClosedOff (k0_off22 k0_t3) := ⟨![(Ring.sl 2 k0_t3.val).val, 1, 0, 0, 0], k0_off22_eq k0_t3⟩
theorem k0_off24_eq : ∀ (k0_t3 : Fin k0_t3_loop.trips), k0_off24 k0_t3 = ![(Ring.sl 2 k0_t3.val).val, 2, 0, 0, 0] := by decide +kernel
instance closedOff_k0_off24 (k0_t3 : Fin k0_t3_loop.trips) : ClosedOff (k0_off24 k0_t3) := ⟨![(Ring.sl 2 k0_t3.val).val, 2, 0, 0, 0], k0_off24_eq k0_t3⟩
theorem k0_off26_eq : ∀ (k0_t3 : Fin k0_t3_loop.trips), k0_off26 k0_t3 = ![(Ring.sl 2 k0_t3.val).val, 3, 0, 0, 0] := by decide +kernel
instance closedOff_k0_off26 (k0_t3 : Fin k0_t3_loop.trips) : ClosedOff (k0_off26 k0_t3) := ⟨![(Ring.sl 2 k0_t3.val).val, 3, 0, 0, 0], k0_off26_eq k0_t3⟩
theorem k0_off54_eq : ∀ (k0_t3 : Fin k0_t3_loop.trips), k0_off54 k0_t3 = ![(Ring.sl 2 k0_t3.val).val, 0, 0, 0, 0] := by decide +kernel
instance closedOff_k0_off54 (k0_t3 : Fin k0_t3_loop.trips) : ClosedOff (k0_off54 k0_t3) := ⟨![(Ring.sl 2 k0_t3.val).val, 0, 0, 0, 0], k0_off54_eq k0_t3⟩
theorem k0_off56_eq : ∀ (k0_t3 : Fin k0_t3_loop.trips), k0_off56 k0_t3 = ![(Ring.sl 2 k0_t3.val).val, 1, 0, 0, 0] := by decide +kernel
instance closedOff_k0_off56 (k0_t3 : Fin k0_t3_loop.trips) : ClosedOff (k0_off56 k0_t3) := ⟨![(Ring.sl 2 k0_t3.val).val, 1, 0, 0, 0], k0_off56_eq k0_t3⟩
theorem k0_off58_eq : ∀ (k0_t3 : Fin k0_t3_loop.trips), k0_off58 k0_t3 = ![(Ring.sl 2 k0_t3.val).val, 2, 0, 0, 0] := by decide +kernel
instance closedOff_k0_off58 (k0_t3 : Fin k0_t3_loop.trips) : ClosedOff (k0_off58 k0_t3) := ⟨![(Ring.sl 2 k0_t3.val).val, 2, 0, 0, 0], k0_off58_eq k0_t3⟩
theorem k0_off60_eq : ∀ (k0_t3 : Fin k0_t3_loop.trips), k0_off60 k0_t3 = ![(Ring.sl 2 k0_t3.val).val, 3, 0, 0, 0] := by decide +kernel
instance closedOff_k0_off60 (k0_t3 : Fin k0_t3_loop.trips) : ClosedOff (k0_off60 k0_t3) := ⟨![(Ring.sl 2 k0_t3.val).val, 3, 0, 0, 0], k0_off60_eq k0_t3⟩
theorem k0_off28_eq : ∀ (k0_t3 : Fin k0_t3_loop.trips), k0_off28 k0_t3 = ![(Ring.sl 2 k0_t3.val).val, 0, 0, 0] := by decide +kernel
instance closedOff_k0_off28 (k0_t3 : Fin k0_t3_loop.trips) : ClosedOff (k0_off28 k0_t3) := ⟨![(Ring.sl 2 k0_t3.val).val, 0, 0, 0], k0_off28_eq k0_t3⟩
theorem k0_off29_eq : ∀ (k0_t3 : Fin k0_t3_loop.trips), k0_off29 k0_t3 = ![(Ring.sl 2 k0_t3.val).val, 1, 0, 0] := by decide +kernel
instance closedOff_k0_off29 (k0_t3 : Fin k0_t3_loop.trips) : ClosedOff (k0_off29 k0_t3) := ⟨![(Ring.sl 2 k0_t3.val).val, 1, 0, 0], k0_off29_eq k0_t3⟩
theorem k0_off30_eq : ∀ (k0_t3 : Fin k0_t3_loop.trips), k0_off30 k0_t3 = ![(Ring.sl 2 k0_t3.val).val, 2, 0, 0] := by decide +kernel
instance closedOff_k0_off30 (k0_t3 : Fin k0_t3_loop.trips) : ClosedOff (k0_off30 k0_t3) := ⟨![(Ring.sl 2 k0_t3.val).val, 2, 0, 0], k0_off30_eq k0_t3⟩
theorem k0_off31_eq : ∀ (k0_t3 : Fin k0_t3_loop.trips), k0_off31 k0_t3 = ![(Ring.sl 2 k0_t3.val).val, 3, 0, 0] := by decide +kernel
instance closedOff_k0_off31 (k0_t3 : Fin k0_t3_loop.trips) : ClosedOff (k0_off31 k0_t3) := ⟨![(Ring.sl 2 k0_t3.val).val, 3, 0, 0], k0_off31_eq k0_t3⟩
theorem k0_off62_eq : ∀ (k0_t3 : Fin k0_t3_loop.trips), k0_off62 k0_t3 = ![(Ring.sl 2 k0_t3.val).val, 0, 0, 0] := by decide +kernel
instance closedOff_k0_off62 (k0_t3 : Fin k0_t3_loop.trips) : ClosedOff (k0_off62 k0_t3) := ⟨![(Ring.sl 2 k0_t3.val).val, 0, 0, 0], k0_off62_eq k0_t3⟩
theorem k0_off63_eq : ∀ (k0_t3 : Fin k0_t3_loop.trips), k0_off63 k0_t3 = ![(Ring.sl 2 k0_t3.val).val, 1, 0, 0] := by decide +kernel
instance closedOff_k0_off63 (k0_t3 : Fin k0_t3_loop.trips) : ClosedOff (k0_off63 k0_t3) := ⟨![(Ring.sl 2 k0_t3.val).val, 1, 0, 0], k0_off63_eq k0_t3⟩
theorem k0_off64_eq : ∀ (k0_t3 : Fin k0_t3_loop.trips), k0_off64 k0_t3 = ![(Ring.sl 2 k0_t3.val).val, 2, 0, 0] := by decide +kernel
instance closedOff_k0_off64 (k0_t3 : Fin k0_t3_loop.trips) : ClosedOff (k0_off64 k0_t3) := ⟨![(Ring.sl 2 k0_t3.val).val, 2, 0, 0], k0_off64_eq k0_t3⟩
theorem k0_off65_eq : ∀ (k0_t3 : Fin k0_t3_loop.trips), k0_off65 k0_t3 = ![(Ring.sl 2 k0_t3.val).val, 3, 0, 0] := by decide +kernel
instance closedOff_k0_off65 (k0_t3 : Fin k0_t3_loop.trips) : ClosedOff (k0_off65 k0_t3) := ⟨![(Ring.sl 2 k0_t3.val).val, 3, 0, 0], k0_off65_eq k0_t3⟩
theorem k0_off3_eq : ∀ (i : grid0.Coords) (k0_t1 : Fin k0_t1_loop.trips), k0_off3 i k0_t1 = ![(cnt i k0_t1 + 3) / 8 % 20, 8 * ((cnt i k0_t1 + 3) % 8), 0, 0] := by decide +kernel
instance closedOff_k0_off3 (i : grid0.Coords) (k0_t1 : Fin k0_t1_loop.trips) : ClosedOff (k0_off3 i k0_t1) := ⟨![(cnt i k0_t1 + 3) / 8 % 20, 8 * ((cnt i k0_t1 + 3) % 8), 0, 0], k0_off3_eq i k0_t1⟩
theorem k0_off6_eq : ∀ (i : grid0.Coords) (k0_t1 : Fin k0_t1_loop.trips), k0_off6 i k0_t1 = ![cnt i k0_t1 / 8 % 20, 8 * (cnt i k0_t1 % 8), 0, 0] := by decide +kernel
instance closedOff_k0_off6 (i : grid0.Coords) (k0_t1 : Fin k0_t1_loop.trips) : ClosedOff (k0_off6 i k0_t1) := ⟨![cnt i k0_t1 / 8 % 20, 8 * (cnt i k0_t1 % 8), 0, 0], k0_off6_eq i k0_t1⟩
theorem k0_off7_0_eq : ∀ (i : grid0.Coords) (k0_t1 : Fin k0_t1_loop.trips) (k0_t2 : Fin k0_t2_loop.trips), k0_off7 i k0_t1 k0_t2 0#32 = ![(Ring.sl 4 (cnt i k0_t1)).val, 2 * k0_t2.val + 0, 0, 0] := by decide +kernel
instance closedOff_k0_off7_0 (i : grid0.Coords) (k0_t1 : Fin k0_t1_loop.trips) (k0_t2 : Fin k0_t2_loop.trips) : ClosedOff (k0_off7 i k0_t1 k0_t2 0#32) := ⟨![(Ring.sl 4 (cnt i k0_t1)).val, 2 * k0_t2.val + 0, 0, 0], k0_off7_0_eq i k0_t1 k0_t2⟩
theorem k0_off7_1_eq : ∀ (i : grid0.Coords) (k0_t1 : Fin k0_t1_loop.trips) (k0_t2 : Fin k0_t2_loop.trips), k0_off7 i k0_t1 k0_t2 1#32 = ![(Ring.sl 4 (cnt i k0_t1)).val, 2 * k0_t2.val + 1, 0, 0] := by decide +kernel
instance closedOff_k0_off7_1 (i : grid0.Coords) (k0_t1 : Fin k0_t1_loop.trips) (k0_t2 : Fin k0_t2_loop.trips) : ClosedOff (k0_off7 i k0_t1 k0_t2 1#32) := ⟨![(Ring.sl 4 (cnt i k0_t1)).val, 2 * k0_t2.val + 1, 0, 0], k0_off7_1_eq i k0_t1 k0_t2⟩
theorem k0_off32_eq : ∀ (k0_t3 : Fin k0_t3_loop.trips), k0_off32 k0_t3 = ![(Ring.sl 2 k0_t3.val).val, 0, 0, 0] := by decide +kernel
instance closedOff_k0_off32 (k0_t3 : Fin k0_t3_loop.trips) : ClosedOff (k0_off32 k0_t3) := ⟨![(Ring.sl 2 k0_t3.val).val, 0, 0, 0], k0_off32_eq k0_t3⟩
theorem k0_off33_eq : ∀ (k0_t3 : Fin k0_t3_loop.trips), k0_off33 k0_t3 = ![(Ring.sl 2 k0_t3.val).val, 1, 0, 0] := by decide +kernel
instance closedOff_k0_off33 (k0_t3 : Fin k0_t3_loop.trips) : ClosedOff (k0_off33 k0_t3) := ⟨![(Ring.sl 2 k0_t3.val).val, 1, 0, 0], k0_off33_eq k0_t3⟩
theorem k0_off34_eq : ∀ (k0_t3 : Fin k0_t3_loop.trips), k0_off34 k0_t3 = ![(Ring.sl 2 k0_t3.val).val, 2, 0, 0] := by decide +kernel
instance closedOff_k0_off34 (k0_t3 : Fin k0_t3_loop.trips) : ClosedOff (k0_off34 k0_t3) := ⟨![(Ring.sl 2 k0_t3.val).val, 2, 0, 0], k0_off34_eq k0_t3⟩
theorem k0_off35_eq : ∀ (k0_t3 : Fin k0_t3_loop.trips), k0_off35 k0_t3 = ![(Ring.sl 2 k0_t3.val).val, 3, 0, 0] := by decide +kernel
instance closedOff_k0_off35 (k0_t3 : Fin k0_t3_loop.trips) : ClosedOff (k0_off35 k0_t3) := ⟨![(Ring.sl 2 k0_t3.val).val, 3, 0, 0], k0_off35_eq k0_t3⟩
theorem k0_off36_eq : ∀ (k0_t3 : Fin k0_t3_loop.trips), k0_off36 k0_t3 = ![(Ring.sl 2 k0_t3.val).val, 0, 0, 0, 0] := by decide +kernel
instance closedOff_k0_off36 (k0_t3 : Fin k0_t3_loop.trips) : ClosedOff (k0_off36 k0_t3) := ⟨![(Ring.sl 2 k0_t3.val).val, 0, 0, 0, 0], k0_off36_eq k0_t3⟩
theorem k0_off37_eq : ∀ (k0_t3 : Fin k0_t3_loop.trips), k0_off37 k0_t3 = ![(Ring.sl 2 k0_t3.val).val, 0, 0, 0, 0] := by decide +kernel
instance closedOff_k0_off37 (k0_t3 : Fin k0_t3_loop.trips) : ClosedOff (k0_off37 k0_t3) := ⟨![(Ring.sl 2 k0_t3.val).val, 0, 0, 0, 0], k0_off37_eq k0_t3⟩
theorem k0_off38_eq : ∀ (k0_t3 : Fin k0_t3_loop.trips), k0_off38 k0_t3 = ![(Ring.sl 2 k0_t3.val).val, 0, 0, 1, 0] := by decide +kernel
instance closedOff_k0_off38 (k0_t3 : Fin k0_t3_loop.trips) : ClosedOff (k0_off38 k0_t3) := ⟨![(Ring.sl 2 k0_t3.val).val, 0, 0, 1, 0], k0_off38_eq k0_t3⟩
theorem k0_off39_eq : ∀ (k0_t3 : Fin k0_t3_loop.trips), k0_off39 k0_t3 = ![(Ring.sl 2 k0_t3.val).val, 0, 0, 0, 0] := by decide +kernel
instance closedOff_k0_off39 (k0_t3 : Fin k0_t3_loop.trips) : ClosedOff (k0_off39 k0_t3) := ⟨![(Ring.sl 2 k0_t3.val).val, 0, 0, 0, 0], k0_off39_eq k0_t3⟩
theorem k0_off40_eq : ∀ (k0_t3 : Fin k0_t3_loop.trips), k0_off40 k0_t3 = ![(Ring.sl 2 k0_t3.val).val, 1, 0, 0, 0] := by decide +kernel
instance closedOff_k0_off40 (k0_t3 : Fin k0_t3_loop.trips) : ClosedOff (k0_off40 k0_t3) := ⟨![(Ring.sl 2 k0_t3.val).val, 1, 0, 0, 0], k0_off40_eq k0_t3⟩
theorem k0_off41_eq : ∀ (k0_t3 : Fin k0_t3_loop.trips), k0_off41 k0_t3 = ![(Ring.sl 2 k0_t3.val).val, 1, 0, 0, 0] := by decide +kernel
instance closedOff_k0_off41 (k0_t3 : Fin k0_t3_loop.trips) : ClosedOff (k0_off41 k0_t3) := ⟨![(Ring.sl 2 k0_t3.val).val, 1, 0, 0, 0], k0_off41_eq k0_t3⟩
theorem k0_off42_eq : ∀ (k0_t3 : Fin k0_t3_loop.trips), k0_off42 k0_t3 = ![(Ring.sl 2 k0_t3.val).val, 1, 0, 1, 0] := by decide +kernel
instance closedOff_k0_off42 (k0_t3 : Fin k0_t3_loop.trips) : ClosedOff (k0_off42 k0_t3) := ⟨![(Ring.sl 2 k0_t3.val).val, 1, 0, 1, 0], k0_off42_eq k0_t3⟩
theorem k0_off43_eq : ∀ (k0_t3 : Fin k0_t3_loop.trips), k0_off43 k0_t3 = ![(Ring.sl 2 k0_t3.val).val, 1, 0, 0, 0] := by decide +kernel
instance closedOff_k0_off43 (k0_t3 : Fin k0_t3_loop.trips) : ClosedOff (k0_off43 k0_t3) := ⟨![(Ring.sl 2 k0_t3.val).val, 1, 0, 0, 0], k0_off43_eq k0_t3⟩
theorem k0_off44_eq : ∀ (k0_t3 : Fin k0_t3_loop.trips), k0_off44 k0_t3 = ![(Ring.sl 2 k0_t3.val).val, 2, 0, 0, 0] := by decide +kernel
instance closedOff_k0_off44 (k0_t3 : Fin k0_t3_loop.trips) : ClosedOff (k0_off44 k0_t3) := ⟨![(Ring.sl 2 k0_t3.val).val, 2, 0, 0, 0], k0_off44_eq k0_t3⟩
theorem k0_off45_eq : ∀ (k0_t3 : Fin k0_t3_loop.trips), k0_off45 k0_t3 = ![(Ring.sl 2 k0_t3.val).val, 2, 0, 0, 0] := by decide +kernel
instance closedOff_k0_off45 (k0_t3 : Fin k0_t3_loop.trips) : ClosedOff (k0_off45 k0_t3) := ⟨![(Ring.sl 2 k0_t3.val).val, 2, 0, 0, 0], k0_off45_eq k0_t3⟩
theorem k0_off46_eq : ∀ (k0_t3 : Fin k0_t3_loop.trips), k0_off46 k0_t3 = ![(Ring.sl 2 k0_t3.val).val, 2, 0, 1, 0] := by decide +kernel
instance closedOff_k0_off46 (k0_t3 : Fin k0_t3_loop.trips) : ClosedOff (k0_off46 k0_t3) := ⟨![(Ring.sl 2 k0_t3.val).val, 2, 0, 1, 0], k0_off46_eq k0_t3⟩
theorem k0_off47_eq : ∀ (k0_t3 : Fin k0_t3_loop.trips), k0_off47 k0_t3 = ![(Ring.sl 2 k0_t3.val).val, 2, 0, 0, 0] := by decide +kernel
instance closedOff_k0_off47 (k0_t3 : Fin k0_t3_loop.trips) : ClosedOff (k0_off47 k0_t3) := ⟨![(Ring.sl 2 k0_t3.val).val, 2, 0, 0, 0], k0_off47_eq k0_t3⟩
theorem k0_off48_eq : ∀ (k0_t3 : Fin k0_t3_loop.trips), k0_off48 k0_t3 = ![(Ring.sl 2 k0_t3.val).val, 3, 0, 0, 0] := by decide +kernel
instance closedOff_k0_off48 (k0_t3 : Fin k0_t3_loop.trips) : ClosedOff (k0_off48 k0_t3) := ⟨![(Ring.sl 2 k0_t3.val).val, 3, 0, 0, 0], k0_off48_eq k0_t3⟩
theorem k0_off49_eq : ∀ (k0_t3 : Fin k0_t3_loop.trips), k0_off49 k0_t3 = ![(Ring.sl 2 k0_t3.val).val, 3, 0, 0, 0] := by decide +kernel
instance closedOff_k0_off49 (k0_t3 : Fin k0_t3_loop.trips) : ClosedOff (k0_off49 k0_t3) := ⟨![(Ring.sl 2 k0_t3.val).val, 3, 0, 0, 0], k0_off49_eq k0_t3⟩
theorem k0_off50_eq : ∀ (k0_t3 : Fin k0_t3_loop.trips), k0_off50 k0_t3 = ![(Ring.sl 2 k0_t3.val).val, 3, 0, 1, 0] := by decide +kernel
instance closedOff_k0_off50 (k0_t3 : Fin k0_t3_loop.trips) : ClosedOff (k0_off50 k0_t3) := ⟨![(Ring.sl 2 k0_t3.val).val, 3, 0, 1, 0], k0_off50_eq k0_t3⟩
theorem k0_off51_eq : ∀ (k0_t3 : Fin k0_t3_loop.trips), k0_off51 k0_t3 = ![(Ring.sl 2 k0_t3.val).val, 3, 0, 0, 0] := by decide +kernel
instance closedOff_k0_off51 (k0_t3 : Fin k0_t3_loop.trips) : ClosedOff (k0_off51 k0_t3) := ⟨![(Ring.sl 2 k0_t3.val).val, 3, 0, 0, 0], k0_off51_eq k0_t3⟩

/-- The pair number of a trip of the second loop, over the whole grid. -/
abbrev pno (i : grid0.Coords) (k : Fin k0_t3_loop.trips) : ℕ := 16 * stepOf i + k.val

theorem cond3_iff : ∀ (i : grid0.Coords) (k0_t1 : Fin k0_t1_loop.trips), k0_cond3 i k0_t1 = 1#1 ↔ cnt i k0_t1 + 3 < 320 := by decide +kernel
theorem cond4_iff : ∀ (i : grid0.Coords) (k0_t3 : Fin k0_t3_loop.trips), k0_cond4 i k0_t3 = 1#1 ↔ 2 ≤ pno i k0_t3 := by decide +kernel
theorem cond5_iff : ∀ (i : grid0.Coords), k0_cond5 i = 1#1 ↔ (i 1).val = 19 := by decide +kernel
theorem cond6_iff : ∀ (i : grid0.Coords), k0_cond6 i = 1#1 ↔ stepOf i = 39 := by decide +kernel

theorem trips1 : k0_t1_loop.trips = 8 := by decide +kernel
theorem trips2 : k0_t2_loop.trips = 4 := by decide +kernel
theorem trips3 : k0_t3_loop.trips = 16 := by decide +kernel

end Cert.KernelIdeal.Hand
-- ==== Proof.KI.Names.lean ====
module

public import proofs.«01_k».proof.Proof.KI.Off
public import proofs.«01_k».proof.Proof.Gen.KernelIdeal.Skeleton
public import proofs.«01_k».proof.Proof.Gen.KernelIdeal.Points
public import Idealize.ShloMosaic.Lib.Ring
public import Idealize.ShloMosaic.Lib.Ring.Trips
public import Idealize.ShloMosaic.Lib.Tactic

/-! Names for the slices the kernel's copies use: the dy ring's slots, cells and source blocks, the two output rings'
    slots and cells, and the result arrays' pieces; each slice the program computes is one of them. -/

@[expose] public section

noncomputable section

namespace Cert.KernelIdeal.Hand

open Cert.KernelIdeal Cert.KernelIdeal.Gen
open Idealize.ShloMosaic Idealize.ShloMosaic.TcCoe Idealize.ShloMosaic.Tactic

abbrev dyM : Memref sig .tc .hbm S20x64x256x256 .fp8e5m2 := Memref.whole main_v2
abbrev dxM : Memref sig .tc .hbm S5120x16384 .bf16 := Memref.whole main_v20_0
abbrev dhM : Memref sig .tc .hbm S5120x64x512 .bf16 := Memref.whole main_v20_1
abbrev dRM : Memref sig .tc .hbm S64x512x256 .f32 := Memref.whole main_v20_2
abbrev ringM : Memref sig .tc .vmem S4x8x256x256 .fp8e5m2 := Memref.whole cc0_scratch0
abbrev dhtM : Memref sig .tc .vmem S32x2x512x128 .bf16 := Memref.whole cc0_scratch1
abbrev accM : Memref sig .tc .vmem S32x512x256 .f32 := Memref.whole cc0_scratch2
abbrev hstM : Memref sig .tc .vmem S2x4x256x2x128 .bf16 := Memref.whole cc0_scratch3
abbrev xstM : Memref sig .tc .vmem S2x4x256x128 .bf16 := Memref.whole cc0_scratch4

abbrev csDOff (s : Fin 4) : Fin 1 → Nat := ![s.val]
theorem csDOff_inb (s : Fin 4) : ∀ a, csDOff s a + S1.size a ≤ S4.size a := by
  have := s.isLt; intro a; fin_cases a; show s.val + 1 ≤ 4; omega
/-- The dy ring's cell of slot `s`. -/
def csD (s : Fin 4) : DmaSems sig S_ := (cc0_scratch5.slice (Rect.unit (s := S4) (csDOff s) S1.size (csDOff_inb s))).squeeze S_ squeezes_S1_S_
theorem csD_congr (s : Fin 4) {off : Fin 1 → Nat} (e : off = csDOff s) (hh) :
    (cc0_scratch5.slice (Rect.unit (s := S4) off S1.size hh)).squeeze S_ squeezes_S1_S_ = csD s :=
  congrArg (fun A : DmaSems sig S1 => A.squeeze S_ squeezes_S1_S_) (SemArray.slice_unit_congr _ e _ _)

abbrev csHOff (s : Fin 2) : Fin 1 → Nat := ![s.val]
theorem csHOff_inb (s : Fin 2) : ∀ a, csHOff s a + S1.size a ≤ S2.size a := by
  have := s.isLt; intro a; fin_cases a; show s.val + 1 ≤ 2; omega
/-- The dh copies' cell of slot `s`. -/
def csH (s : Fin 2) : DmaSems sig S_ := (cc0_scratch6.slice (Rect.unit (s := S2) (csHOff s) S1.size (csHOff_inb s))).squeeze S_ squeezes_S1_S_
theorem csH_congr (s : Fin 2) {off : Fin 1 → Nat} (e : off = csHOff s) (hh) :
    (cc0_scratch6.slice (Rect.unit (s := S2) off S1.size hh)).squeeze S_ squeezes_S1_S_ = csH s :=
  congrArg (fun A : DmaSems sig S1 => A.squeeze S_ squeezes_S1_S_) (SemArray.slice_unit_congr _ e _ _)

abbrev csXOff (s : Fin 2) : Fin 1 → Nat := ![s.val]
theorem csXOff_inb (s : Fin 2) : ∀ a, csXOff s a + S1.size a ≤ S2.size a := by
  have := s.isLt; intro a; fin_cases a; show s.val + 1 ≤ 2; omega
/-- The dx copies' cell of slot `s`. -/
def csX (s : Fin 2) : DmaSems sig S_ := (cc0_scratch7.slice (Rect.unit (s := S2) (csXOff s) S1.size (csXOff_inb s))).squeeze S_ squeezes_S1_S_
theorem csX_congr (s : Fin 2) {off : Fin 1 → Nat} (e : off = csXOff s) (hh) :
    (cc0_scratch7.slice (Rect.unit (s := S2) off S1.size hh)).squeeze S_ squeezes_S1_S_ = csX s :=
  congrArg (fun A : DmaSems sig S1 => A.squeeze S_ squeezes_S1_S_) (SemArray.slice_unit_congr _ e _ _)

abbrev dslOff (s : Fin 4) : Fin 4 → Nat := ![s.val, 0, 0, 0]
theorem dslOff_inb (s : Fin 4) : ∀ a, dslOff s a + S1x8x256x256.size a ≤ S4x8x256x256.size a := by
  have := s.isLt; intro a; fin_cases a
  · show s.val + 1 ≤ 4; omega
  · show 0 + 8 ≤ 8; omega
  · show 0 + 256 ≤ 256; omega
  · show 0 + 256 ≤ 256; omega
instance (s : Fin 4) : ClosedOff (dslOff s) := ⟨dslOff s, rfl⟩
/-- Slot `s` of the dy ring. -/
def dsl (s : Fin 4) : Memref sig .tc .vmem S8x256x256 .fp8e5m2 :=
  (ringM.slice (Rect.unit (s := S4x8x256x256) (dslOff s) S1x8x256x256.size (dslOff_inb s)) (fun _ => rfl)).squeeze S8x256x256 squeezes_S1x8x256x256_S8x256x256

theorem dsl_congr (s : Fin 4) {off : Fin 4 → Nat} (e : off = dslOff s) (hh hs) :
    (ringM.slice (Rect.unit (s := S4x8x256x256) off S1x8x256x256.size hh) hs).squeeze S8x256x256 squeezes_S1x8x256x256_S8x256x256 = dsl s :=
  congrArg (fun M : Memref sig .tc .vmem S1x8x256x256 .fp8e5m2 => M.squeeze S8x256x256 squeezes_S1x8x256x256_S8x256x256) (Memref.slice_unit_congr _ e _ _ _ _)

abbrev dbkOff (b : Fin 160) : Fin 4 → Nat := ![b.val / 8, 8 * (b.val % 8), 0, 0]
theorem dbkOff_inb (b : Fin 160) : ∀ a, dbkOff b a + S1x8x256x256.size a ≤ S20x64x256x256.size a := by
  have := b.isLt; intro a; fin_cases a
  · show b.val / 8 + 1 ≤ 20; omega
  · show 8 * (b.val % 8) + 8 ≤ 64; omega
  · show 0 + 256 ≤ 256; omega
  · show 0 + 256 ≤ 256; omega
instance (b : Fin 160) : ClosedOff (dbkOff b) := ⟨dbkOff b, rfl⟩
/-- Block `b` of the relaid dy array. -/
def dbk (b : Fin 160) : Memref sig .tc .hbm S8x256x256 .fp8e5m2 :=
  (dyM.slice (Rect.unit (s := S20x64x256x256) (dbkOff b) S1x8x256x256.size (dbkOff_inb b)) (fun _ => rfl)).squeeze S8x256x256 squeezes_S1x8x256x256_S8x256x256

theorem dbk_congr (b : Fin 160) {off : Fin 4 → Nat} (e : off = dbkOff b) (hh hs) :
    (dyM.slice (Rect.unit (s := S20x64x256x256) off S1x8x256x256.size hh) hs).squeeze S8x256x256 squeezes_S1x8x256x256_S8x256x256 = dbk b :=
  congrArg (fun M : Memref sig .tc .hbm S1x8x256x256 .fp8e5m2 => M.squeeze S8x256x256 squeezes_S1x8x256x256_S8x256x256) (Memref.slice_unit_congr _ e _ _ _ _)

abbrev hslOff (s : Fin 2) (q : Fin 4) : Fin 5 → Nat := ![s.val, q.val, 0, 0, 0]
theorem hslOff_inb (s : Fin 2) (q : Fin 4) : ∀ a, hslOff s q a + S1x1x256x2x128.size a ≤ S2x4x256x2x128.size a := by
  have := s.isLt; have := q.isLt; intro a; fin_cases a
  · show s.val + 1 ≤ 2; omega
  · show q.val + 1 ≤ 4; omega
  · show 0 + 256 ≤ 256; omega
  · show 0 + 2 ≤ 2; omega
  · show 0 + 128 ≤ 128; omega
instance (s : Fin 2) (q : Fin 4) : ClosedOff (hslOff s q) := ⟨hslOff s q, rfl⟩
/-- Slot `s`, lane group `q` of the dh staging buffer. -/
def hsl (s : Fin 2) (q : Fin 4) : Memref sig .tc .vmem S256x2x128 .bf16 :=
  (hstM.slice (Rect.unit (s := S2x4x256x2x128) (hslOff s q) S1x1x256x2x128.size (hslOff_inb s q)) (fun _ => rfl)).squeeze S256x2x128 squeezes_S1x1x256x2x128_S256x2x128

theorem hsl_congr (s : Fin 2) (q : Fin 4) {off : Fin 5 → Nat} (e : off = hslOff s q) (hh hs) :
    (hstM.slice (Rect.unit (s := S2x4x256x2x128) off S1x1x256x2x128.size hh) hs).squeeze S256x2x128 squeezes_S1x1x256x2x128_S256x2x128 = hsl s q :=
  congrArg (fun M : Memref sig .tc .vmem S1x1x256x2x128 .bf16 => M.squeeze S256x2x128 squeezes_S1x1x256x2x128_S256x2x128) (Memref.slice_unit_congr _ e _ _ _ _)

abbrev xslOff (s : Fin 2) (q : Fin 4) : Fin 4 → Nat := ![s.val, q.val, 0, 0]
theorem xslOff_inb (s : Fin 2) (q : Fin 4) : ∀ a, xslOff s q a + S1x1x256x128.size a ≤ S2x4x256x128.size a := by
  have := s.isLt; have := q.isLt; intro a; fin_cases a
  · show s.val + 1 ≤ 2; omega
  · show q.val + 1 ≤ 4; omega
  · show 0 + 256 ≤ 256; omega
  · show 0 + 128 ≤ 128; omega
instance (s : Fin 2) (q : Fin 4) : ClosedOff (xslOff s q) := ⟨xslOff s q, rfl⟩
/-- Slot `s`, lane group `q` of the dx staging buffer. -/
def xsl (s : Fin 2) (q : Fin 4) : Memref sig .tc .vmem S256x128 .bf16 :=
  (xstM.slice (Rect.unit (s := S2x4x256x128) (xslOff s q) S1x1x256x128.size (xslOff_inb s q)) (fun _ => rfl)).squeeze S256x128 squeezes_S1x1x256x128_S256x128

theorem xsl_congr (s : Fin 2) (q : Fin 4) {off : Fin 4 → Nat} (e : off = xslOff s q) (hh hs) :
    (xstM.slice (Rect.unit (s := S2x4x256x128) off S1x1x256x128.size hh) hs).squeeze S256x128 squeezes_S1x1x256x128_S256x128 = xsl s q :=
  congrArg (fun M : Memref sig .tc .vmem S1x1x256x128 .bf16 => M.squeeze S256x128 squeezes_S1x1x256x128_S256x128) (Memref.slice_unit_congr _ e _ _ _ _)

abbrev hpcOff (v : Fin 640) (q : Fin 4) : Fin 3 → Nat := ![256 * (v.val / 16 % 20), 32 * (v.val / 320) + 2 * (v.val % 16), 128 * q.val]
theorem hpcOff_inb (v : Fin 640) (q : Fin 4) : ∀ a, hpcOff v q a + S256x2x128.size a ≤ S5120x64x512.size a := by
  have := v.isLt; have := q.isLt; intro a; fin_cases a
  · show 256 * (v.val / 16 % 20) + 256 ≤ 5120; omega
  · show 32 * (v.val / 320) + 2 * (v.val % 16) + 2 ≤ 64; omega
  · show 128 * q.val + 128 ≤ 512; omega
instance (v : Fin 640) (q : Fin 4) : ClosedOff (hpcOff v q) := ⟨hpcOff v q, rfl⟩
/-- Piece `v`, lane group `q` of the dh result: a token block, a pair of rows, 128 lanes. -/
def hpc (v : Fin 640) (q : Fin 4) : Memref sig .tc .hbm S256x2x128 .bf16 :=
  dhM.slice (Rect.unit (s := S5120x64x512) (hpcOff v q) S256x2x128.size (hpcOff_inb v q)) (fun _ => rfl)

theorem hpc_congr (v : Fin 640) (q : Fin 4) {off : Fin 3 → Nat} (e : off = hpcOff v q) (hh hs) :
    dhM.slice (Rect.unit (s := S5120x64x512) off S256x2x128.size hh) hs = hpc v q := Memref.slice_unit_congr _ e _ _ _ fun _ => rfl

abbrev xpcOff (v : Fin 640) (q : Fin 4) : Fin 2 → Nat := ![256 * (v.val / 16 % 20), 8192 * (v.val / 320) + 512 * (v.val % 16) + 128 * q.val]
theorem xpcOff_inb (v : Fin 640) (q : Fin 4) : ∀ a, xpcOff v q a + S256x128.size a ≤ S5120x16384.size a := by
  have := v.isLt; have := q.isLt; intro a; fin_cases a
  · show 256 * (v.val / 16 % 20) + 256 ≤ 5120; omega
  · show 8192 * (v.val / 320) + 512 * (v.val % 16) + 128 * q.val + 128 ≤ 16384; omega
instance (v : Fin 640) (q : Fin 4) : ClosedOff (xpcOff v q) := ⟨xpcOff v q, rfl⟩
/-- Piece `v`, lane group `q` of the dx result: a token block, 128 lanes. -/
def xpc (v : Fin 640) (q : Fin 4) : Memref sig .tc .hbm S256x128 .bf16 :=
  dxM.slice (Rect.unit (s := S5120x16384) (xpcOff v q) S256x128.size (xpcOff_inb v q)) (fun _ => rfl)

theorem xpc_congr (v : Fin 640) (q : Fin 4) {off : Fin 2 → Nat} (e : off = xpcOff v q) (hh hs) :
    dxM.slice (Rect.unit (s := S5120x16384) off S256x128.size hh) hs = xpc v q := Memref.slice_unit_congr _ e _ _ _ fun _ => rfl

abbrev rpcOff (h : Fin 2) : Fin 3 → Nat := ![32 * h.val, 0, 0]
theorem rpcOff_inb (h : Fin 2) : ∀ a, rpcOff h a + S32x512x256.size a ≤ S64x512x256.size a := by
  have := h.isLt; intro a; fin_cases a
  · show 32 * h.val + 32 ≤ 64; omega
  · show 0 + 512 ≤ 512; omega
  · show 0 + 256 ≤ 256; omega
instance (h : Fin 2) : ClosedOff (rpcOff h) := ⟨rpcOff h, rfl⟩
/-- Half `h` of the dr result. -/
def rpc (h : Fin 2) : Memref sig .tc .hbm S32x512x256 .f32 :=
  dRM.slice (Rect.unit (s := S64x512x256) (rpcOff h) S32x512x256.size (rpcOff_inb h)) (fun _ => rfl)

theorem rpc_congr (h : Fin 2) {off : Fin 3 → Nat} (e : off = rpcOff h) (hh hs) :
    dRM.slice (Rect.unit (s := S64x512x256) off S32x512x256.size hh) hs = rpc h := Memref.slice_unit_congr _ e _ _ _ fun _ => rfl

/-! ## The program's slices by these names -/

theorem isl (i : grid0.Coords) : (i 0).val < 2 ∧ (i 1).val < 20 := ⟨(i 0).isLt, (i 1).isLt⟩
theorem k3l (k : Fin k0_t3_loop.trips) : k.val < 16 := Nat.lt_of_lt_of_eq k.isLt trips3
theorem k1l (k : Fin k0_t1_loop.trips) : k.val < 8 := Nat.lt_of_lt_of_eq k.isLt trips1

theorem pno_lt (i : grid0.Coords) (k : Fin k0_t3_loop.trips) : pno i k < 640 := by
  have := isl i; have := k3l k; show 16 * (20 * (i 0).val + (i 1).val) + k.val < 640; omega

theorem dbkOff_sl (n : ℕ) : dbkOff (Ring.sl 160 n) = ![n / 8 % 20, 8 * (n % 8), 0, 0] := by
  have e : (Ring.sl 160 n).val = n % 160 := Ring.sl_val 160 n
  have h1 : n % 160 / 8 = n / 8 % 20 := by omega
  have h2 : n % 160 % 8 = n % 8 := by omega
  simp only [dbkOff, e, h1, h2]

theorem hpcOff_pno (i : grid0.Coords) (k : Fin k0_t3_loop.trips) (q : Fin 4) :
    hpcOff ⟨pno i k, pno_lt i k⟩ q = ![256 * (i 1).val, 32 * (i 0).val + 2 * k.val, 128 * q.val] := by
  have := isl i; have := k3l k
  have e1 : pno i k / 16 % 20 = (i 1).val := by show (16 * (20 * (i 0).val + (i 1).val) + k.val) / 16 % 20 = _; omega
  have e2 : pno i k / 320 = (i 0).val := by show (16 * (20 * (i 0).val + (i 1).val) + k.val) / 320 = _; omega
  have e3 : pno i k % 16 = k.val := by show (16 * (20 * (i 0).val + (i 1).val) + k.val) % 16 = _; omega
  simp only [hpcOff, e1, e2, e3]

theorem xpcOff_pno (i : grid0.Coords) (k : Fin k0_t3_loop.trips) (q : Fin 4) :
    xpcOff ⟨pno i k, pno_lt i k⟩ q = ![256 * (i 1).val, 8192 * (i 0).val + 512 * k.val + 128 * q.val] := by
  have := isl i; have := k3l k
  have e1 : pno i k / 16 % 20 = (i 1).val := by show (16 * (20 * (i 0).val + (i 1).val) + k.val) / 16 % 20 = _; omega
  have e2 : pno i k / 320 = (i 0).val := by show (16 * (20 * (i 0).val + (i 1).val) + k.val) / 320 = _; omega
  have e3 : pno i k % 16 = k.val := by show (16 * (20 * (i 0).val + (i 1).val) + k.val) % 16 = _; omega
  simp only [xpcOff, e1, e2, e3]

@[sl_canon] theorem cn_csD_0  (hh) :
    (cc0_scratch5.slice (Rect.unit (s := S4) (![0]) S1.size hh)).squeeze S_ squeezes_S1_S_ = csD (0) := csD_congr _ (by decide) _
@[sl_canon] theorem cn_dsl_0 (hh hs) :
    (ringM.slice (Rect.unit (s := S4x8x256x256) (![0, 0, 0, 0]) S1x8x256x256.size hh) hs).squeeze S8x256x256 squeezes_S1x8x256x256_S8x256x256 = dsl 0 := dsl_congr _ (by decide) _ _
@[sl_canon] theorem cn_dbk_0 (hh hs) :
    (dyM.slice (Rect.unit (s := S20x64x256x256) (![0, 0, 0, 0]) S1x8x256x256.size hh) hs).squeeze S8x256x256 squeezes_S1x8x256x256_S8x256x256 = dbk 0 := dbk_congr _ (by decide) _ _
@[sl_canon] theorem cn_csD_1  (hh) :
    (cc0_scratch5.slice (Rect.unit (s := S4) (![1]) S1.size hh)).squeeze S_ squeezes_S1_S_ = csD (1) := csD_congr _ (by decide) _
@[sl_canon] theorem cn_dsl_1 (hh hs) :
    (ringM.slice (Rect.unit (s := S4x8x256x256) (![1, 0, 0, 0]) S1x8x256x256.size hh) hs).squeeze S8x256x256 squeezes_S1x8x256x256_S8x256x256 = dsl 1 := dsl_congr _ (by decide) _ _
@[sl_canon] theorem cn_dbk_1 (hh hs) :
    (dyM.slice (Rect.unit (s := S20x64x256x256) (![0, 8, 0, 0]) S1x8x256x256.size hh) hs).squeeze S8x256x256 squeezes_S1x8x256x256_S8x256x256 = dbk 1 := dbk_congr _ (by decide) _ _
@[sl_canon] theorem cn_csD_2  (hh) :
    (cc0_scratch5.slice (Rect.unit (s := S4) (![2]) S1.size hh)).squeeze S_ squeezes_S1_S_ = csD (2) := csD_congr _ (by decide) _
@[sl_canon] theorem cn_dsl_2 (hh hs) :
    (ringM.slice (Rect.unit (s := S4x8x256x256) (![2, 0, 0, 0]) S1x8x256x256.size hh) hs).squeeze S8x256x256 squeezes_S1x8x256x256_S8x256x256 = dsl 2 := dsl_congr _ (by decide) _ _
@[sl_canon] theorem cn_dbk_2 (hh hs) :
    (dyM.slice (Rect.unit (s := S20x64x256x256) (![0, 16, 0, 0]) S1x8x256x256.size hh) hs).squeeze S8x256x256 squeezes_S1x8x256x256_S8x256x256 = dbk 2 := dbk_congr _ (by decide) _ _
@[sl_canon] theorem cn_off1 (i : grid0.Coords) (k : Fin k0_t1_loop.trips) (hh) :
    (cc0_scratch5.slice (Rect.unit (s := S4) (k0_off1 i k) S1.size hh)).squeeze S_ squeezes_S1_S_ = csD (Ring.sl 4 (cnt i k + 3)) := csD_congr _ (k0_off1_eq i k) _
@[sl_canon] theorem cn_off4 (i : grid0.Coords) (k : Fin k0_t1_loop.trips) (hh) :
    (cc0_scratch5.slice (Rect.unit (s := S4) (k0_off4 i k) S1.size hh)).squeeze S_ squeezes_S1_S_ = csD (Ring.sl 4 (cnt i k)) := csD_congr _ (k0_off4_eq i k) _
@[sl_canon] theorem cn_off2 (i : grid0.Coords) (k : Fin k0_t1_loop.trips) (hh hs) :
    (ringM.slice (Rect.unit (s := S4x8x256x256) (k0_off2 i k) S1x8x256x256.size hh) hs).squeeze S8x256x256 squeezes_S1x8x256x256_S8x256x256 = dsl (Ring.sl 4 (cnt i k + 3)) := dsl_congr _ (k0_off2_eq i k) _ _
@[sl_canon] theorem cn_off5 (i : grid0.Coords) (k : Fin k0_t1_loop.trips) (hh hs) :
    (ringM.slice (Rect.unit (s := S4x8x256x256) (k0_off5 i k) S1x8x256x256.size hh) hs).squeeze S8x256x256 squeezes_S1x8x256x256_S8x256x256 = dsl (Ring.sl 4 (cnt i k)) := dsl_congr _ (k0_off5_eq i k) _ _
@[sl_canon] theorem cn_off3 (i : grid0.Coords) (k : Fin k0_t1_loop.trips) (hh hs) :
    (dyM.slice (Rect.unit (s := S20x64x256x256) (k0_off3 i k) S1x8x256x256.size hh) hs).squeeze S8x256x256 squeezes_S1x8x256x256_S8x256x256 = dbk (Ring.sl 160 (cnt i k + 3)) := dbk_congr _ ((k0_off3_eq i k).trans (dbkOff_sl _).symm) _ _
@[sl_canon] theorem cn_off6 (i : grid0.Coords) (k : Fin k0_t1_loop.trips) (hh hs) :
    (dyM.slice (Rect.unit (s := S20x64x256x256) (k0_off6 i k) S1x8x256x256.size hh) hs).squeeze S8x256x256 squeezes_S1x8x256x256_S8x256x256 = dbk (Ring.sl 160 (cnt i k)) := dbk_congr _ ((k0_off6_eq i k).trans (dbkOff_sl _).symm) _ _
@[sl_canon] theorem cn_off18 (k : Fin k0_t3_loop.trips) (hh) :
    (cc0_scratch6.slice (Rect.unit (s := S2) (k0_off18 k) S1.size hh)).squeeze S_ squeezes_S1_S_ = csH (Ring.sl 2 k.val) := csH_congr _ (k0_off18_eq k) _
@[sl_canon] theorem cn_off52 (k : Fin k0_t3_loop.trips) (hh) :
    (cc0_scratch6.slice (Rect.unit (s := S2) (k0_off52 k) S1.size hh)).squeeze S_ squeezes_S1_S_ = csH (Ring.sl 2 k.val) := csH_congr _ (k0_off52_eq k) _
@[sl_canon] theorem cn_csH_0  (hh) :
    (cc0_scratch6.slice (Rect.unit (s := S2) (![0]) S1.size hh)).squeeze S_ squeezes_S1_S_ = csH (0) := csH_congr _ (by decide) _
@[sl_canon] theorem cn_csH_1  (hh) :
    (cc0_scratch6.slice (Rect.unit (s := S2) (![1]) S1.size hh)).squeeze S_ squeezes_S1_S_ = csH (1) := csH_congr _ (by decide) _
@[sl_canon] theorem cn_off18x (k : Fin k0_t3_loop.trips) (hh) :
    (cc0_scratch7.slice (Rect.unit (s := S2) (k0_off18 k) S1.size hh)).squeeze S_ squeezes_S1_S_ = csX (Ring.sl 2 k.val) := csX_congr _ (k0_off18_eq k) _
@[sl_canon] theorem cn_off52x (k : Fin k0_t3_loop.trips) (hh) :
    (cc0_scratch7.slice (Rect.unit (s := S2) (k0_off52 k) S1.size hh)).squeeze S_ squeezes_S1_S_ = csX (Ring.sl 2 k.val) := csX_congr _ (k0_off52_eq k) _
@[sl_canon] theorem cn_csX_0  (hh) :
    (cc0_scratch7.slice (Rect.unit (s := S2) (![0]) S1.size hh)).squeeze S_ squeezes_S1_S_ = csX (0) := csX_congr _ (by decide) _
@[sl_canon] theorem cn_csX_1  (hh) :
    (cc0_scratch7.slice (Rect.unit (s := S2) (![1]) S1.size hh)).squeeze S_ squeezes_S1_S_ = csX (1) := csX_congr _ (by decide) _
@[sl_canon] theorem cn_off20 (k : Fin k0_t3_loop.trips) (hh hs) :
    (hstM.slice (Rect.unit (s := S2x4x256x2x128) (k0_off20 k) S1x1x256x2x128.size hh) hs).squeeze S256x2x128 squeezes_S1x1x256x2x128_S256x2x128 = hsl (Ring.sl 2 k.val) 0 := hsl_congr _ _ (k0_off20_eq k) _ _
@[sl_canon] theorem cn_off54 (k : Fin k0_t3_loop.trips) (hh hs) :
    (hstM.slice (Rect.unit (s := S2x4x256x2x128) (k0_off54 k) S1x1x256x2x128.size hh) hs).squeeze S256x2x128 squeezes_S1x1x256x2x128_S256x2x128 = hsl (Ring.sl 2 k.val) 0 := hsl_congr _ _ (k0_off54_eq k) _ _
@[sl_canon] theorem cn_off28 (k : Fin k0_t3_loop.trips) (hh hs) :
    (xstM.slice (Rect.unit (s := S2x4x256x128) (k0_off28 k) S1x1x256x128.size hh) hs).squeeze S256x128 squeezes_S1x1x256x128_S256x128 = xsl (Ring.sl 2 k.val) 0 := xsl_congr _ _ (k0_off28_eq k) _ _
@[sl_canon] theorem cn_off62 (k : Fin k0_t3_loop.trips) (hh hs) :
    (xstM.slice (Rect.unit (s := S2x4x256x128) (k0_off62 k) S1x1x256x128.size hh) hs).squeeze S256x128 squeezes_S1x1x256x128_S256x128 = xsl (Ring.sl 2 k.val) 0 := xsl_congr _ _ (k0_off62_eq k) _ _
@[sl_canon] theorem cn_hsl_0_0 (hh hs) :
    (hstM.slice (Rect.unit (s := S2x4x256x2x128) (![0, 0, 0, 0, 0]) S1x1x256x2x128.size hh) hs).squeeze S256x2x128 squeezes_S1x1x256x2x128_S256x2x128 = hsl 0 0 := hsl_congr _ _ (by decide) _ _
@[sl_canon] theorem cn_xsl_0_0 (hh hs) :
    (xstM.slice (Rect.unit (s := S2x4x256x128) (![0, 0, 0, 0]) S1x1x256x128.size hh) hs).squeeze S256x128 squeezes_S1x1x256x128_S256x128 = xsl 0 0 := xsl_congr _ _ (by decide) _ _
@[sl_canon] theorem cn_hsl_1_0 (hh hs) :
    (hstM.slice (Rect.unit (s := S2x4x256x2x128) (![1, 0, 0, 0, 0]) S1x1x256x2x128.size hh) hs).squeeze S256x2x128 squeezes_S1x1x256x2x128_S256x2x128 = hsl 1 0 := hsl_congr _ _ (by decide) _ _
@[sl_canon] theorem cn_xsl_1_0 (hh hs) :
    (xstM.slice (Rect.unit (s := S2x4x256x128) (![1, 0, 0, 0]) S1x1x256x128.size hh) hs).squeeze S256x128 squeezes_S1x1x256x128_S256x128 = xsl 1 0 := xsl_congr _ _ (by decide) _ _
@[sl_canon] theorem cn_off53 (i : grid0.Coords) (k : Fin k0_t3_loop.trips) (hh hs) :
    dhM.slice (Rect.unit (s := S5120x64x512) (k0_off53 i k) S256x2x128.size hh) hs = hpc ⟨pno i k, pno_lt i k⟩ 0 := hpc_congr _ _ ((k0_off53_eq i k).trans (hpcOff_pno i k 0).symm) _ _
@[sl_canon] theorem cn_off61_0 (i : grid0.Coords) (k : Fin k0_t3_loop.trips) (hh hs) :
    dxM.slice (Rect.unit (s := S5120x16384) (k0_off61 i k 0#32) S256x128.size hh) hs = xpc ⟨pno i k, pno_lt i k⟩ 0 := xpc_congr _ _ ((k0_off61_eq i k ⟨0, by decide⟩).trans (xpcOff_pno i k 0).symm) _ _
@[sl_canon] theorem cn_off22 (k : Fin k0_t3_loop.trips) (hh hs) :
    (hstM.slice (Rect.unit (s := S2x4x256x2x128) (k0_off22 k) S1x1x256x2x128.size hh) hs).squeeze S256x2x128 squeezes_S1x1x256x2x128_S256x2x128 = hsl (Ring.sl 2 k.val) 1 := hsl_congr _ _ (k0_off22_eq k) _ _
@[sl_canon] theorem cn_off56 (k : Fin k0_t3_loop.trips) (hh hs) :
    (hstM.slice (Rect.unit (s := S2x4x256x2x128) (k0_off56 k) S1x1x256x2x128.size hh) hs).squeeze S256x2x128 squeezes_S1x1x256x2x128_S256x2x128 = hsl (Ring.sl 2 k.val) 1 := hsl_congr _ _ (k0_off56_eq k) _ _
@[sl_canon] theorem cn_off29 (k : Fin k0_t3_loop.trips) (hh hs) :
    (xstM.slice (Rect.unit (s := S2x4x256x128) (k0_off29 k) S1x1x256x128.size hh) hs).squeeze S256x128 squeezes_S1x1x256x128_S256x128 = xsl (Ring.sl 2 k.val) 1 := xsl_congr _ _ (k0_off29_eq k) _ _
@[sl_canon] theorem cn_off63 (k : Fin k0_t3_loop.trips) (hh hs) :
    (xstM.slice (Rect.unit (s := S2x4x256x128) (k0_off63 k) S1x1x256x128.size hh) hs).squeeze S256x128 squeezes_S1x1x256x128_S256x128 = xsl (Ring.sl 2 k.val) 1 := xsl_congr _ _ (k0_off63_eq k) _ _
@[sl_canon] theorem cn_hsl_0_1 (hh hs) :
    (hstM.slice (Rect.unit (s := S2x4x256x2x128) (![0, 1, 0, 0, 0]) S1x1x256x2x128.size hh) hs).squeeze S256x2x128 squeezes_S1x1x256x2x128_S256x2x128 = hsl 0 1 := hsl_congr _ _ (by decide) _ _
@[sl_canon] theorem cn_xsl_0_1 (hh hs) :
    (xstM.slice (Rect.unit (s := S2x4x256x128) (![0, 1, 0, 0]) S1x1x256x128.size hh) hs).squeeze S256x128 squeezes_S1x1x256x128_S256x128 = xsl 0 1 := xsl_congr _ _ (by decide) _ _
@[sl_canon] theorem cn_hsl_1_1 (hh hs) :
    (hstM.slice (Rect.unit (s := S2x4x256x2x128) (![1, 1, 0, 0, 0]) S1x1x256x2x128.size hh) hs).squeeze S256x2x128 squeezes_S1x1x256x2x128_S256x2x128 = hsl 1 1 := hsl_congr _ _ (by decide) _ _
@[sl_canon] theorem cn_xsl_1_1 (hh hs) :
    (xstM.slice (Rect.unit (s := S2x4x256x128) (![1, 1, 0, 0]) S1x1x256x128.size hh) hs).squeeze S256x128 squeezes_S1x1x256x128_S256x128 = xsl 1 1 := xsl_congr _ _ (by decide) _ _
@[sl_canon] theorem cn_off55 (i : grid0.Coords) (k : Fin k0_t3_loop.trips) (hh hs) :
    dhM.slice (Rect.unit (s := S5120x64x512) (k0_off55 i k) S256x2x128.size hh) hs = hpc ⟨pno i k, pno_lt i k⟩ 1 := hpc_congr _ _ ((k0_off55_eq i k).trans (hpcOff_pno i k 1).symm) _ _
@[sl_canon] theorem cn_off61_1 (i : grid0.Coords) (k : Fin k0_t3_loop.trips) (hh hs) :
    dxM.slice (Rect.unit (s := S5120x16384) (k0_off61 i k 128#32) S256x128.size hh) hs = xpc ⟨pno i k, pno_lt i k⟩ 1 := xpc_congr _ _ ((k0_off61_eq i k ⟨1, by decide⟩).trans (xpcOff_pno i k 1).symm) _ _
@[sl_canon] theorem cn_off24 (k : Fin k0_t3_loop.trips) (hh hs) :
    (hstM.slice (Rect.unit (s := S2x4x256x2x128) (k0_off24 k) S1x1x256x2x128.size hh) hs).squeeze S256x2x128 squeezes_S1x1x256x2x128_S256x2x128 = hsl (Ring.sl 2 k.val) 2 := hsl_congr _ _ (k0_off24_eq k) _ _
@[sl_canon] theorem cn_off58 (k : Fin k0_t3_loop.trips) (hh hs) :
    (hstM.slice (Rect.unit (s := S2x4x256x2x128) (k0_off58 k) S1x1x256x2x128.size hh) hs).squeeze S256x2x128 squeezes_S1x1x256x2x128_S256x2x128 = hsl (Ring.sl 2 k.val) 2 := hsl_congr _ _ (k0_off58_eq k) _ _
@[sl_canon] theorem cn_off30 (k : Fin k0_t3_loop.trips) (hh hs) :
    (xstM.slice (Rect.unit (s := S2x4x256x128) (k0_off30 k) S1x1x256x128.size hh) hs).squeeze S256x128 squeezes_S1x1x256x128_S256x128 = xsl (Ring.sl 2 k.val) 2 := xsl_congr _ _ (k0_off30_eq k) _ _
@[sl_canon] theorem cn_off64 (k : Fin k0_t3_loop.trips) (hh hs) :
    (xstM.slice (Rect.unit (s := S2x4x256x128) (k0_off64 k) S1x1x256x128.size hh) hs).squeeze S256x128 squeezes_S1x1x256x128_S256x128 = xsl (Ring.sl 2 k.val) 2 := xsl_congr _ _ (k0_off64_eq k) _ _
@[sl_canon] theorem cn_hsl_0_2 (hh hs) :
    (hstM.slice (Rect.unit (s := S2x4x256x2x128) (![0, 2, 0, 0, 0]) S1x1x256x2x128.size hh) hs).squeeze S256x2x128 squeezes_S1x1x256x2x128_S256x2x128 = hsl 0 2 := hsl_congr _ _ (by decide) _ _
@[sl_canon] theorem cn_xsl_0_2 (hh hs) :
    (xstM.slice (Rect.unit (s := S2x4x256x128) (![0, 2, 0, 0]) S1x1x256x128.size hh) hs).squeeze S256x128 squeezes_S1x1x256x128_S256x128 = xsl 0 2 := xsl_congr _ _ (by decide) _ _
@[sl_canon] theorem cn_hsl_1_2 (hh hs) :
    (hstM.slice (Rect.unit (s := S2x4x256x2x128) (![1, 2, 0, 0, 0]) S1x1x256x2x128.size hh) hs).squeeze S256x2x128 squeezes_S1x1x256x2x128_S256x2x128 = hsl 1 2 := hsl_congr _ _ (by decide) _ _
@[sl_canon] theorem cn_xsl_1_2 (hh hs) :
    (xstM.slice (Rect.unit (s := S2x4x256x128) (![1, 2, 0, 0]) S1x1x256x128.size hh) hs).squeeze S256x128 squeezes_S1x1x256x128_S256x128 = xsl 1 2 := xsl_congr _ _ (by decide) _ _
@[sl_canon] theorem cn_off57 (i : grid0.Coords) (k : Fin k0_t3_loop.trips) (hh hs) :
    dhM.slice (Rect.unit (s := S5120x64x512) (k0_off57 i k) S256x2x128.size hh) hs = hpc ⟨pno i k, pno_lt i k⟩ 2 := hpc_congr _ _ ((k0_off57_eq i k).trans (hpcOff_pno i k 2).symm) _ _
@[sl_canon] theorem cn_off61_2 (i : grid0.Coords) (k : Fin k0_t3_loop.trips) (hh hs) :
    dxM.slice (Rect.unit (s := S5120x16384) (k0_off61 i k 256#32) S256x128.size hh) hs = xpc ⟨pno i k, pno_lt i k⟩ 2 := xpc_congr _ _ ((k0_off61_eq i k ⟨2, by decide⟩).trans (xpcOff_pno i k 2).symm) _ _
@[sl_canon] theorem cn_off26 (k : Fin k0_t3_loop.trips) (hh hs) :
    (hstM.slice (Rect.unit (s := S2x4x256x2x128) (k0_off26 k) S1x1x256x2x128.size hh) hs).squeeze S256x2x128 squeezes_S1x1x256x2x128_S256x2x128 = hsl (Ring.sl 2 k.val) 3 := hsl_congr _ _ (k0_off26_eq k) _ _
@[sl_canon] theorem cn_off60 (k : Fin k0_t3_loop.trips) (hh hs) :
    (hstM.slice (Rect.unit (s := S2x4x256x2x128) (k0_off60 k) S1x1x256x2x128.size hh) hs).squeeze S256x2x128 squeezes_S1x1x256x2x128_S256x2x128 = hsl (Ring.sl 2 k.val) 3 := hsl_congr _ _ (k0_off60_eq k) _ _
@[sl_canon] theorem cn_off31 (k : Fin k0_t3_loop.trips) (hh hs) :
    (xstM.slice (Rect.unit (s := S2x4x256x128) (k0_off31 k) S1x1x256x128.size hh) hs).squeeze S256x128 squeezes_S1x1x256x128_S256x128 = xsl (Ring.sl 2 k.val) 3 := xsl_congr _ _ (k0_off31_eq k) _ _
@[sl_canon] theorem cn_off65 (k : Fin k0_t3_loop.trips) (hh hs) :
    (xstM.slice (Rect.unit (s := S2x4x256x128) (k0_off65 k) S1x1x256x128.size hh) hs).squeeze S256x128 squeezes_S1x1x256x128_S256x128 = xsl (Ring.sl 2 k.val) 3 := xsl_congr _ _ (k0_off65_eq k) _ _
@[sl_canon] theorem cn_hsl_0_3 (hh hs) :
    (hstM.slice (Rect.unit (s := S2x4x256x2x128) (![0, 3, 0, 0, 0]) S1x1x256x2x128.size hh) hs).squeeze S256x2x128 squeezes_S1x1x256x2x128_S256x2x128 = hsl 0 3 := hsl_congr _ _ (by decide) _ _
@[sl_canon] theorem cn_xsl_0_3 (hh hs) :
    (xstM.slice (Rect.unit (s := S2x4x256x128) (![0, 3, 0, 0]) S1x1x256x128.size hh) hs).squeeze S256x128 squeezes_S1x1x256x128_S256x128 = xsl 0 3 := xsl_congr _ _ (by decide) _ _
@[sl_canon] theorem cn_hsl_1_3 (hh hs) :
    (hstM.slice (Rect.unit (s := S2x4x256x2x128) (![1, 3, 0, 0, 0]) S1x1x256x2x128.size hh) hs).squeeze S256x2x128 squeezes_S1x1x256x2x128_S256x2x128 = hsl 1 3 := hsl_congr _ _ (by decide) _ _
@[sl_canon] theorem cn_xsl_1_3 (hh hs) :
    (xstM.slice (Rect.unit (s := S2x4x256x128) (![1, 3, 0, 0]) S1x1x256x128.size hh) hs).squeeze S256x128 squeezes_S1x1x256x128_S256x128 = xsl 1 3 := xsl_congr _ _ (by decide) _ _
@[sl_canon] theorem cn_off59 (i : grid0.Coords) (k : Fin k0_t3_loop.trips) (hh hs) :
    dhM.slice (Rect.unit (s := S5120x64x512) (k0_off59 i k) S256x2x128.size hh) hs = hpc ⟨pno i k, pno_lt i k⟩ 3 := hpc_congr _ _ ((k0_off59_eq i k).trans (hpcOff_pno i k 3).symm) _ _
@[sl_canon] theorem cn_off61_3 (i : grid0.Coords) (k : Fin k0_t3_loop.trips) (hh hs) :
    dxM.slice (Rect.unit (s := S5120x16384) (k0_off61 i k 384#32) S256x128.size hh) hs = xpc ⟨pno i k, pno_lt i k⟩ 3 := xpc_congr _ _ ((k0_off61_eq i k ⟨3, by decide⟩).trans (xpcOff_pno i k 3).symm) _ _
@[sl_canon] theorem cn_off66 (i : grid0.Coords) (hh hs) :
    dRM.slice (Rect.unit (s := S64x512x256) (k0_off66 i) S32x512x256.size hh) hs = rpc (i 0) := rpc_congr _ (k0_off66_eq i) _ _

end Cert.KernelIdeal.Hand
-- ==== Proof.KI.Res.lean ====
module

public import proofs.«01_k».proof.Proof.KI.Names
public import proofs.«01_k».proof.Proof.Gen.KernelIdeal.Loops
public import proofs.«01_k».proof.Proof.Gen.KernelIdeal.Launch
public import Idealize.ShloMosaic.Lib.Pipeline.FrameBody
public import Idealize.ShloMosaic.Lib.MixedBatch
public import Idealize.ShloMosaic.Lib.WordCmp
public import Idealize.ShloMosaic.Lib.Ring.Tabled

/-! The resources the kernel's body works on: the dy ring, the two output rings, the result arrays by pieces. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (c : Dev nD)

/-- A window held, on its own elements, at contents `f`. -/
abbrev hld {sp : Space} {s : Shape} {e : EltTy} (M : Memref sig .tc sp s e) (f : Buf (Elt F) (M.view.loc (c : Thread nD τ))) : sProp 𝕄 :=
  M.view.loc (c : Thread nD τ) ↦[M.view.set]{fullShare} f
/-- A window held at some contents. -/
abbrev hldE {sp : Space} {s : Shape} {e : EltTy} (M : Memref sig .tc sp s e) : sProp 𝕄 := iprop(∃ f, hld (F := F) c M f)
/-- A copy cell at zero. -/
abbrev cellZ (S : DmaSems sig S_) : sProp 𝕄 := semVal ((c : Thread nD τ), SemLoc.dma S.sem) 0

/-! ## The dy ring -/

section
variable (XA : Buf (Elt F) (dyM.view.loc (c : Thread nD τ)))

/-- The ring slot's read share of the dy array, on the elements `S`. -/
abbrev dtok (s : Fin 4) (S : Finset (Idx (dyM.view.loc (c : Thread nD τ)))) : sProp 𝕄 :=
  dyM.view.loc (c : Thread nD τ) ↦[S]{Transfers.shareTok fullShare 4 s} XA
/-- What copy `j` leaves in slot `s`, over prior contents `f`. -/
abbrev dland (s : Fin 4) (j : ℕ) (f : Buf (Elt F) ((dsl s).view.loc (c : Thread nD τ))) : Buf (Elt F) ((dsl s).view.loc (c : Thread nD τ)) :=
  (dsl s).view.writes (Elt F) f [⟨Rect.whole S8x256x256, ReadAs.same.apply ((dbk (Ring.sl 160 j)).view.read (Elt F) XA)⟩]
/-- A slot of the dy ring: free, or with copy `j` in flight into it. -/
def dslot (s : Fin 4) : Option ℕ → sProp 𝕄
  | none => iprop(cellZ c (csD s) ∗ hldE c (dsl s) ∗ dtok c XA s Finset.univ)
  | some j => iprop((∃ f, Transfers.Flight (countersEmb (U := Pipeline.UD sig nD τ)) (c : Thread nD τ) (SemLoc.dma (csD s).sem) () 16384
        iprop(hld c (dsl s) (dland c XA s j f) ∗ dtok c XA s (dbk (Ring.sl 160 j)).view.set))
      ∗ dtok c XA s (Finset.univ \ (dbk (Ring.sl 160 j)).view.set))

/-- The slots' states when the copies below `d` are issued and those below `n` waited for. -/
def dst (n d : ℕ) (s : Fin 4) : Option ℕ :=
  let j := n + (s.val + 4 - n % 4) % 4
  if j < d then some j else none

theorem dst_at (n d k : ℕ) (h1 : n ≤ k) (h2 : k < n + 4) : dst n d (Ring.sl 4 k) = if k < d then some k else none := by
  have e : (Ring.sl 4 k).val = k % 4 := Ring.sl_val 4 k
  have : n + ((Ring.sl 4 k).val + 4 - n % 4) % 4 = k := by rw [e]; omega
  simp only [dst, this]

theorem dst_issue (n d : ℕ) (h : d < n + 4) (s : Fin 4) (hs : s ≠ Ring.sl 4 d) : dst n (d + 1) s = dst n d s := by
  have hs' : s.val ≠ d % 4 := fun h => hs (Fin.ext (h.trans (Ring.sl_val 4 d).symm))
  have := s.isLt
  unfold dst; simp only
  congr 1
  refine propext ?_
  omega

theorem dst_wait (n d : ℕ) (hd : d ≤ n + 4) (s : Fin 4) (hs : s ≠ Ring.sl 4 n) : dst (n + 1) d s = dst n d s := by
  have hs' : s.val ≠ n % 4 := fun h => hs (Fin.ext (h.trans (Ring.sl_val 4 n).symm))
  have := s.isLt
  have e : n + 1 + (s.val + 4 - (n + 1) % 4) % 4 = n + (s.val + 4 - n % 4) % 4 := by omega
  unfold dst; simp only [e]

theorem dst_wait_self (n d : ℕ) (hd : d ≤ n + 4) : dst (n + 1) d (Ring.sl 4 n) = none := by
  have e : (Ring.sl 4 n).val = n % 4 := Ring.sl_val 4 n
  have : n + 1 + ((Ring.sl 4 n).val + 4 - (n + 1) % 4) % 4 = n + 4 := by rw [e]; omega
  unfold dst; simp only [this]; rw [if_neg (by omega)]

/-- The ring with the copies below `d` issued and those below `n` waited for. -/
abbrev dring (n d : ℕ) : sProp 𝕄 := Ring.AtW (σ := fun _ => Option ℕ) (dslot c XA) (dst n d)
end

end Cert.KernelIdeal.Hand
-- ==== Proof.KI.Out.lean ====
module

public import proofs.«01_k».proof.Proof.KI.Res

/-! The two output rings: a slot free or with a pair of heads' copies in flight, the pieces of the two results ahead, in flight
    or done; and the values a trip of the dx half's loop leaves. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section
variable (c : Dev nD)
  (HOK : ∀ (v : Fin 640) (q : Fin 4), Buf (Elt F) ((hpc v q).view.loc (c : Thread nD τ)) → Prop)
  (XOK : ∀ (v : Fin 640) (q : Fin 4), Buf (Elt F) ((xpc v q).view.loc (c : Thread nD τ)) → Prop)

/-- The four dh copies of pair `v` in flight out of slot `s`. -/
def flH (s : Fin 2) (v : Fin 640) : sProp 𝕄 :=
  iprop(∃ a0 a1 a2 a3 g0 g1 g2 g3, Transfers.Batched (countersEmb (U := Pipeline.UD sig nD τ)) (c : Thread nD τ) (SemLoc.dma (csH s).sem) () 4096 4
      [iprop(hld c (hpc v 0) a0 ∗ hld c (hsl s 0) g0), iprop(hld c (hpc v 1) a1 ∗ hld c (hsl s 1) g1), iprop(hld c (hpc v 2) a2 ∗ hld c (hsl s 2) g2), iprop(hld c (hpc v 3) a3 ∗ hld c (hsl s 3) g3)] 0
    ∗ ⌜HOK v 0 a0 ∧ HOK v 1 a1 ∧ HOK v 2 a2 ∧ HOK v 3 a3⌝)
/-- The four dx copies of pair `v` in flight out of slot `s`. -/
def flX (s : Fin 2) (v : Fin 640) : sProp 𝕄 :=
  iprop(∃ a0 a1 a2 a3 g0 g1 g2 g3, Transfers.Batched (countersEmb (U := Pipeline.UD sig nD τ)) (c : Thread nD τ) (SemLoc.dma (csX s).sem) () 2048 4
      [iprop(hld c (xpc v 0) a0 ∗ hld c (xsl s 0) g0), iprop(hld c (xpc v 1) a1 ∗ hld c (xsl s 1) g1), iprop(hld c (xpc v 2) a2 ∗ hld c (xsl s 2) g2), iprop(hld c (xpc v 3) a3 ∗ hld c (xsl s 3) g3)] 0
    ∗ ⌜XOK v 0 a0 ∧ XOK v 1 a1 ∧ XOK v 2 a2 ∧ XOK v 3 a3⌝)

/-- A slot of the output rings: free, or with pair `v` in flight. -/
def oslot (s : Fin 2) : Option (Fin 640) → sProp 𝕄
  | none => iprop(cellZ c (csH s) ∗ cellZ c (csX s) ∗ (hldE c (hsl s 0) ∗ hldE c (hsl s 1) ∗ hldE c (hsl s 2) ∗ hldE c (hsl s 3)) ∗ (hldE c (xsl s 0) ∗ hldE c (xsl s 1) ∗ hldE c (xsl s 2) ∗ hldE c (xsl s 3)))
  | some v => iprop(flH c HOK s v ∗ flX c XOK s v)
theorem oslot_none (s : Fin 2) : oslot c HOK XOK s none
    = iprop(cellZ c (csH s) ∗ cellZ c (csX s) ∗ (hldE c (hsl s 0) ∗ hldE c (hsl s 1) ∗ hldE c (hsl s 2) ∗ hldE c (hsl s 3)) ∗ (hldE c (xsl s 0) ∗ hldE c (xsl s 1) ∗ hldE c (xsl s 2) ∗ hldE c (xsl s 3))) := rfl
theorem oslot_some (s : Fin 2) (v : Fin 640) : oslot c HOK XOK s (some v) = iprop(flH c HOK s v ∗ flX c XOK s v) := rfl

/-- The pieces of pair `v` in the two results: ahead (0), in flight (1), done (2). -/
def opc (v : Fin 640) : Fin 3 → sProp 𝕄
  | 0 => iprop((hldE c (hpc v 0) ∗ hldE c (hpc v 1) ∗ hldE c (hpc v 2) ∗ hldE c (hpc v 3)) ∗ (hldE c (xpc v 0) ∗ hldE c (xpc v 1) ∗ hldE c (xpc v 2) ∗ hldE c (xpc v 3)))
  | 1 => iprop(emp)
  | 2 => iprop((∃ a0 a1 a2 a3, (hld c (hpc v 0) a0 ∗ hld c (hpc v 1) a1 ∗ hld c (hpc v 2) a2 ∗ hld c (hpc v 3) a3) ∗ ⌜HOK v 0 a0 ∧ HOK v 1 a1 ∧ HOK v 2 a2 ∧ HOK v 3 a3⌝)
      ∗ (∃ a0 a1 a2 a3, (hld c (xpc v 0) a0 ∗ hld c (xpc v 1) a1 ∗ hld c (xpc v 2) a2 ∗ hld c (xpc v 3) a3) ∗ ⌜XOK v 0 a0 ∧ XOK v 1 a1 ∧ XOK v 2 a2 ∧ XOK v 3 a3⌝))
theorem opc_0 (v : Fin 640) : opc c HOK XOK v 0
    = iprop((hldE c (hpc v 0) ∗ hldE c (hpc v 1) ∗ hldE c (hpc v 2) ∗ hldE c (hpc v 3)) ∗ (hldE c (xpc v 0) ∗ hldE c (xpc v 1) ∗ hldE c (xpc v 2) ∗ hldE c (xpc v 3))) := rfl
theorem opc_1 (v : Fin 640) : opc c HOK XOK v 1 = iprop(emp) := rfl
theorem opc_2 (v : Fin 640) : opc c HOK XOK v 2
    = iprop((∃ a0 a1 a2 a3, (hld c (hpc v 0) a0 ∗ hld c (hpc v 1) a1 ∗ hld c (hpc v 2) a2 ∗ hld c (hpc v 3) a3) ∗ ⌜HOK v 0 a0 ∧ HOK v 1 a1 ∧ HOK v 2 a2 ∧ HOK v 3 a3⌝)
      ∗ (∃ a0 a1 a2 a3, (hld c (xpc v 0) a0 ∗ hld c (xpc v 1) a1 ∗ hld c (xpc v 2) a2 ∗ hld c (xpc v 3) a3) ∗ ⌜XOK v 0 a0 ∧ XOK v 1 a1 ∧ XOK v 2 a2 ∧ XOK v 3 a3⌝)) := rfl

/-- Slot `s` when the pairs below `u` are issued and those below `u - 2` waited for. -/
def ost (u : ℕ) (s : Fin 2) : Option (Fin 640) :=
  let j := u + (s.val + u) % 2
  if h : 2 ≤ j ∧ j < 642 then some ⟨j - 2, by omega⟩ else none
/-- The pieces of pair `v` then. -/
def pst (u : ℕ) (v : Fin 640) : Fin 3 := if v.val + 2 < u then 2 else if v.val < u then 1 else 0

theorem ost_self (u : ℕ) (h : 2 ≤ u) (h' : u < 642) : ost u (Ring.sl 2 u) = some ⟨u - 2, by omega⟩ := by
  have e : (Ring.sl 2 u).val = u % 2 := Ring.sl_val 2 u
  have e2 : u + ((Ring.sl 2 u).val + u) % 2 = u := by rw [e]; omega
  unfold ost; simp only [e2]; rw [dif_pos ⟨h, h'⟩]
theorem ost_self_lt (u : ℕ) (h : u < 2) : ost u (Ring.sl 2 u) = none := by
  have e : (Ring.sl 2 u).val = u % 2 := Ring.sl_val 2 u
  have e2 : u + ((Ring.sl 2 u).val + u) % 2 = u := by rw [e]; omega
  unfold ost; simp only [e2]; rw [dif_neg (by omega)]
theorem ost_succ_self (u : ℕ) (h : u < 640) : ost (u + 1) (Ring.sl 2 u) = some ⟨u, h⟩ := by
  have e : (Ring.sl 2 u).val = u % 2 := Ring.sl_val 2 u
  have e2 : u + 1 + ((Ring.sl 2 u).val + (u + 1)) % 2 = u + 2 := by rw [e]; omega
  unfold ost; simp only [e2]; rw [dif_pos (by omega)]
  exact congrArg some (Fin.ext (by simp))
theorem ost_succ_ne (u : ℕ) (s : Fin 2) (hs : s ≠ Ring.sl 2 u) : ost (u + 1) s = ost u s := by
  have hs' : s.val ≠ u % 2 := fun h => hs (Fin.ext (h.trans (Ring.sl_val 2 u).symm))
  have := s.isLt
  have e2 : u + 1 + (s.val + (u + 1)) % 2 = u + (s.val + u) % 2 := by omega
  unfold ost; simp only [e2]

theorem pst_self (u : ℕ) (h : u < 640) : pst u ⟨u, h⟩ = 0 := by
  unfold pst; rw [if_neg (by simp), if_neg (by simp)]
theorem pst_succ_self (u : ℕ) (h : u < 640) : pst (u + 1) ⟨u, h⟩ = 1 := by
  unfold pst; rw [if_neg (by simp), if_pos (by simp)]
theorem pst_back (u : ℕ) (h : 2 ≤ u) (h' : u - 2 < 640) : pst u ⟨u - 2, h'⟩ = 1 := by
  unfold pst; rw [if_neg (by simp; omega), if_pos (by simp; omega)]
theorem pst_succ_back (u : ℕ) (h : 2 ≤ u) (h' : u - 2 < 640) : pst (u + 1) ⟨u - 2, h'⟩ = 2 := by
  unfold pst; rw [if_pos (by simp; omega)]
theorem pst_succ_ne (u : ℕ) (v : Fin 640) (h1 : v.val ≠ u) (h2 : v.val + 2 ≠ u) : pst (u + 1) v = pst u v := by
  unfold pst
  split_ifs <;> first | rfl | omega
end

/-! ## The values a trip of the dx half's loop leaves -/

section
variable (c : Dev nD) (i : grid0.Coords)
  (arg2 : Memref sig .tc .smem S64 .f32) (harg2 : arg2.IsWhole) (arg3 : Memref sig .tc .vmem S256x8192 .fp8e4m3) (harg3 : arg3.IsWhole)
  (arg4 : Memref sig .tc .vmem S8x16x256 .bf16) (harg4 : arg4.IsWhole) (arg5 : Memref sig .tc .vmem S32x1x256 .f32) (harg5 : arg5.IsWhole)
  (arg6 : Memref sig .tc .vmem S64x256x256 .fp8e4m3) (harg6 : arg6.IsWhole) (arg7 : Memref sig .tc .vmem S512x128 .f32) (harg7 : arg7.IsWhole)
  (arg8 : Memref sig .tc .vmem S32x512x256 .fp8e4m3) (harg8 : arg8.IsWhole)
  (f2 : Buf (Elt F) (arg2.view.loc (c : Thread nD τ))) (f3 : Buf (Elt F) (arg3.view.loc (c : Thread nD τ)))
  (f5 : Buf (Elt F) (arg5.view.loc (c : Thread nD τ))) (f8 : Buf (Elt F) (arg8.view.loc (c : Thread nD τ)))
  (k : Fin k0_t3_loop.trips) (fd : Buf (Elt F) (dhtM.view.loc (c : Thread nD τ))) (fa : Buf (Elt F) (accM.view.loc (c : Thread nD τ)))

abbrev ld12 (p : Fin 2) : Vec F S1x1x512x128 .bf16 :=
  dhtM.view.readAt (Elt F) (Rect.unit (s := S32x2x512x128) (k0_off12 k (BitVec.ofNat 32 p.val)) S1x1x512x128.size (k0_off12_inb k p)).toLoadRect fd
abbrev ld13 (p : Fin 2) : Vec F S1x1x512x128 .bf16 :=
  dhtM.view.readAt (Elt F) (Rect.unit (s := S32x2x512x128) (k0_off13 k (BitVec.ofNat 32 p.val)) S1x1x512x128.size (k0_off13_inb k p)).toLoadRect fd
abbrev ld14 (p : Fin 2) : Vec F S1x1x256 .f32 :=
  arg5.view.readAt (Elt F) (Rect.unit (s := S32x1x256) (k0_off14 k (BitVec.ofNat 32 p.val)) S1x1x256.size (k0_off14_inb k p)).toLoadRect f5
abbrev ld15 (p : Fin 2) : Vec F S256x256 .fp8e4m3 :=
  arg3.view.readAt (Elt F) (Rect.unit (s := S256x8192) (k0_off15 k (BitVec.ofNat 32 p.val)) S256x256.size (k0_off15_inb k p)).toLoadRect f3
abbrev ld16a (p : Fin 2) : Vec F S1x512x256 .f32 :=
  accM.view.readAt (Elt F) (Rect.unit (s := S32x512x256) (k0_off16 k (BitVec.ofNat 32 p.val)) S1x512x256.size (k0_off16_inb k p)).toLoadRect fa
abbrev ld16r (p : Fin 2) : Vec F S1x512x256 .fp8e4m3 :=
  arg8.view.readAt (Elt F) (Rect.unit (s := S32x512x256) (k0_off16 k (BitVec.ofNat 32 p.val)) S1x512x256.size (k0_off16_inb k p)).toLoadRect f8
abbrev ld17 (p : Fin 2) : Elt F .f32 :=
  arg2.view.readAt (Elt F) (Rect.unit (s := S64) (k0_off17 i k (BitVec.ofNat 32 p.val)) S1.size (k0_off17_inb i k p)).toLoadRect f2
    (Shape.Idx.first (numel1_S1 ▸ Nat.zero_lt_one))

/-- The accumulator after the trip: two heads' products added. -/
def accAfter : Buf (Elt F) (accM.view.loc (c : Thread nD τ)) :=
  accM.view.writes (Elt F) fa
    [⟨Rect.unit (s := S32x512x256) (k0_off16 k 1#32) S1x512x256.size (k0_off16_inb k 1),
        k0_pay22 (k0_pay20 (ld12 c k fd 1)) (ld13 c k fd 1) (ld14 c arg5 f5 k 1) (ld15 c arg3 f3 k 1) (ld16a c k fa 1)⟩,
      ⟨Rect.unit (s := S32x512x256) (k0_off16 k 0#32) S1x512x256.size (k0_off16_inb k 0),
        k0_pay15 (k0_pay14 (ld12 c k fd 0) (ld13 c k fd 0) (ld14 c arg5 f5 k 0) (ld15 c arg3 f3 k 0) (ld16a c k fa 0))⟩]

/-- Quarter `0` of the dh staging slot after the trip, from `h`. -/
def hOut0 (h : Buf (Elt F) (hstM.view.loc (c : Thread nD τ))) : Buf (Elt F) (hstM.view.loc (c : Thread nD τ)) :=
  let h' : Buf (Elt F) (hstM.view.loc (c : Thread nD τ)) :=
    View.write (Elt F) (hstM.access (Rect.unit (s := S2x4x256x2x128) (k0_off37 k) S1x1x256x2x128.size (k0_off37_inb k))) h
      (updateSlice (hstM.view.readAt (Elt F) (Rect.unit (s := S2x4x256x2x128) (k0_off37 k) S1x1x256x2x128.size (k0_off37_inb k)).toLoadRect h)
        (k0_pay28 (k0_pay16 (k0_pay13 (ld12 c k fd 0) (ld13 c k fd 0)))) ![0, 0, 0, 0, 0] slices_S1x1x256x2x128_S1x1x256x1x128_0_0_0_0_0) Finset.univ
  View.write (Elt F) (hstM.access (Rect.unit (s := S2x4x256x2x128) (k0_off39 k) S1x1x256x2x128.size (k0_off39_inb k))) h'
    (updateSlice (hstM.view.readAt (Elt F) (Rect.unit (s := S2x4x256x2x128) (k0_off39 k) S1x1x256x2x128.size (k0_off39_inb k)).toLoadRect h')
      (k0_pay29 (k0_pay23 (k0_pay20 (ld12 c k fd 1)) (ld13 c k fd 1))) ![0, 0, 0, 1, 0] slices_S1x1x256x2x128_S1x1x256x1x128_0_0_0_1_0) Finset.univ
/-- What the dh copy of that quarter carries. -/
def hPay0 (h : Buf (Elt F) (hstM.view.loc (c : Thread nD τ))) : S256x2x128.Idx → Elt F .bf16 :=
  ReadAs.same.apply ((hsl (Ring.sl 2 k.val) 0).view.read (Elt F) (hOut0 c k fd h))

/-- Quarter `1` of the dh staging slot after the trip, from `h`. -/
def hOut1 (h : Buf (Elt F) (hstM.view.loc (c : Thread nD τ))) : Buf (Elt F) (hstM.view.loc (c : Thread nD τ)) :=
  let h' : Buf (Elt F) (hstM.view.loc (c : Thread nD τ)) :=
    View.write (Elt F) (hstM.access (Rect.unit (s := S2x4x256x2x128) (k0_off41 k) S1x1x256x2x128.size (k0_off41_inb k))) h
      (updateSlice (hstM.view.readAt (Elt F) (Rect.unit (s := S2x4x256x2x128) (k0_off41 k) S1x1x256x2x128.size (k0_off41_inb k)).toLoadRect h)
        (k0_pay30 (k0_pay16 (k0_pay13 (ld12 c k fd 0) (ld13 c k fd 0)))) ![0, 0, 0, 0, 0] slices_S1x1x256x2x128_S1x1x256x1x128_0_0_0_0_0) Finset.univ
  View.write (Elt F) (hstM.access (Rect.unit (s := S2x4x256x2x128) (k0_off43 k) S1x1x256x2x128.size (k0_off43_inb k))) h'
    (updateSlice (hstM.view.readAt (Elt F) (Rect.unit (s := S2x4x256x2x128) (k0_off43 k) S1x1x256x2x128.size (k0_off43_inb k)).toLoadRect h')
      (k0_pay31 (k0_pay23 (k0_pay20 (ld12 c k fd 1)) (ld13 c k fd 1))) ![0, 0, 0, 1, 0] slices_S1x1x256x2x128_S1x1x256x1x128_0_0_0_1_0) Finset.univ
/-- What the dh copy of that quarter carries. -/
def hPay1 (h : Buf (Elt F) (hstM.view.loc (c : Thread nD τ))) : S256x2x128.Idx → Elt F .bf16 :=
  ReadAs.same.apply ((hsl (Ring.sl 2 k.val) 1).view.read (Elt F) (hOut1 c k fd h))

/-- Quarter `2` of the dh staging slot after the trip, from `h`. -/
def hOut2 (h : Buf (Elt F) (hstM.view.loc (c : Thread nD τ))) : Buf (Elt F) (hstM.view.loc (c : Thread nD τ)) :=
  let h' : Buf (Elt F) (hstM.view.loc (c : Thread nD τ)) :=
    View.write (Elt F) (hstM.access (Rect.unit (s := S2x4x256x2x128) (k0_off45 k) S1x1x256x2x128.size (k0_off45_inb k))) h
      (updateSlice (hstM.view.readAt (Elt F) (Rect.unit (s := S2x4x256x2x128) (k0_off45 k) S1x1x256x2x128.size (k0_off45_inb k)).toLoadRect h)
        (k0_pay32 (k0_pay16 (k0_pay13 (ld12 c k fd 0) (ld13 c k fd 0)))) ![0, 0, 0, 0, 0] slices_S1x1x256x2x128_S1x1x256x1x128_0_0_0_0_0) Finset.univ
  View.write (Elt F) (hstM.access (Rect.unit (s := S2x4x256x2x128) (k0_off47 k) S1x1x256x2x128.size (k0_off47_inb k))) h'
    (updateSlice (hstM.view.readAt (Elt F) (Rect.unit (s := S2x4x256x2x128) (k0_off47 k) S1x1x256x2x128.size (k0_off47_inb k)).toLoadRect h')
      (k0_pay34 (k0_pay33 (k0_pay23 (k0_pay20 (ld12 c k fd 1)) (ld13 c k fd 1)))) ![0, 0, 0, 1, 0] slices_S1x1x256x2x128_S1x1x256x1x128_0_0_0_1_0) Finset.univ
/-- What the dh copy of that quarter carries. -/
def hPay2 (h : Buf (Elt F) (hstM.view.loc (c : Thread nD τ))) : S256x2x128.Idx → Elt F .bf16 :=
  ReadAs.same.apply ((hsl (Ring.sl 2 k.val) 2).view.read (Elt F) (hOut2 c k fd h))

/-- Quarter `3` of the dh staging slot after the trip, from `h`. -/
def hOut3 (h : Buf (Elt F) (hstM.view.loc (c : Thread nD τ))) : Buf (Elt F) (hstM.view.loc (c : Thread nD τ)) :=
  let h' : Buf (Elt F) (hstM.view.loc (c : Thread nD τ)) :=
    View.write (Elt F) (hstM.access (Rect.unit (s := S2x4x256x2x128) (k0_off49 k) S1x1x256x2x128.size (k0_off49_inb k))) h
      (updateSlice (hstM.view.readAt (Elt F) (Rect.unit (s := S2x4x256x2x128) (k0_off49 k) S1x1x256x2x128.size (k0_off49_inb k)).toLoadRect h)
        (k0_pay35 (k0_pay16 (k0_pay13 (ld12 c k fd 0) (ld13 c k fd 0)))) ![0, 0, 0, 0, 0] slices_S1x1x256x2x128_S1x1x256x1x128_0_0_0_0_0) Finset.univ
  View.write (Elt F) (hstM.access (Rect.unit (s := S2x4x256x2x128) (k0_off51 k) S1x1x256x2x128.size (k0_off51_inb k))) h'
    (updateSlice (hstM.view.readAt (Elt F) (Rect.unit (s := S2x4x256x2x128) (k0_off51 k) S1x1x256x2x128.size (k0_off51_inb k)).toLoadRect h')
      (k0_pay36 (k0_pay23 (k0_pay20 (ld12 c k fd 1)) (ld13 c k fd 1))) ![0, 0, 0, 1, 0] slices_S1x1x256x2x128_S1x1x256x1x128_0_0_0_1_0) Finset.univ
/-- What the dh copy of that quarter carries. -/
def hPay3 (h : Buf (Elt F) (hstM.view.loc (c : Thread nD τ))) : S256x2x128.Idx → Elt F .bf16 :=
  ReadAs.same.apply ((hsl (Ring.sl 2 k.val) 3).view.read (Elt F) (hOut3 c k fd h))

/-- Quarter `0` of the dx staging slot after the trip, from `x`. -/
def xOut0 (x : Buf (Elt F) (xstM.view.loc (c : Thread nD τ))) : Buf (Elt F) (xstM.view.loc (c : Thread nD τ)) :=
  View.write (Elt F) (xstM.access (Rect.unit (s := S2x4x256x128) (k0_off32 k) S1x1x256x128.size (k0_off32_inb k))) x
    (k0_pay18 (k0_pay13 (ld12 c k fd 0) (ld13 c k fd 0)) (ld16r c arg8 f8 k 0) (ld17 c i arg2 f2 k 0)) Finset.univ
/-- What the dx copy of that quarter carries. -/
def xPay0 (x : Buf (Elt F) (xstM.view.loc (c : Thread nD τ))) : S256x128.Idx → Elt F .bf16 :=
  ReadAs.same.apply ((xsl (Ring.sl 2 k.val) 0).view.read (Elt F) (xOut0 c i arg2 arg8 f2 f8 k fd x))

/-- Quarter `1` of the dx staging slot after the trip, from `x`. -/
def xOut1 (x : Buf (Elt F) (xstM.view.loc (c : Thread nD τ))) : Buf (Elt F) (xstM.view.loc (c : Thread nD τ)) :=
  View.write (Elt F) (xstM.access (Rect.unit (s := S2x4x256x128) (k0_off33 k) S1x1x256x128.size (k0_off33_inb k))) x
    (k0_pay19 (k0_pay13 (ld12 c k fd 0) (ld13 c k fd 0)) (ld16r c arg8 f8 k 0) (ld17 c i arg2 f2 k 0)) Finset.univ
/-- What the dx copy of that quarter carries. -/
def xPay1 (x : Buf (Elt F) (xstM.view.loc (c : Thread nD τ))) : S256x128.Idx → Elt F .bf16 :=
  ReadAs.same.apply ((xsl (Ring.sl 2 k.val) 1).view.read (Elt F) (xOut1 c i arg2 arg8 f2 f8 k fd x))

/-- Quarter `2` of the dx staging slot after the trip, from `x`. -/
def xOut2 (x : Buf (Elt F) (xstM.view.loc (c : Thread nD τ))) : Buf (Elt F) (xstM.view.loc (c : Thread nD τ)) :=
  View.write (Elt F) (xstM.access (Rect.unit (s := S2x4x256x128) (k0_off34 k) S1x1x256x128.size (k0_off34_inb k))) x
    (k0_pay25 (k0_pay20 (ld12 c k fd 1)) (ld13 c k fd 1) (ld16r c arg8 f8 k 1) (ld17 c i arg2 f2 k 1)) Finset.univ
/-- What the dx copy of that quarter carries. -/
def xPay2 (x : Buf (Elt F) (xstM.view.loc (c : Thread nD τ))) : S256x128.Idx → Elt F .bf16 :=
  ReadAs.same.apply ((xsl (Ring.sl 2 k.val) 2).view.read (Elt F) (xOut2 c i arg2 arg8 f2 f8 k fd x))

/-- Quarter `3` of the dx staging slot after the trip, from `x`. -/
def xOut3 (x : Buf (Elt F) (xstM.view.loc (c : Thread nD τ))) : Buf (Elt F) (xstM.view.loc (c : Thread nD τ)) :=
  View.write (Elt F) (xstM.access (Rect.unit (s := S2x4x256x128) (k0_off35 k) S1x1x256x128.size (k0_off35_inb k))) x
    (k0_pay27 (k0_pay26 (k0_pay20 (ld12 c k fd 1)) (ld13 c k fd 1) (ld16r c arg8 f8 k 1) (ld17 c i arg2 f2 k 1))) Finset.univ
/-- What the dx copy of that quarter carries. -/
def xPay3 (x : Buf (Elt F) (xstM.view.loc (c : Thread nD τ))) : S256x128.Idx → Elt F .bf16 :=
  ReadAs.same.apply ((xsl (Ring.sl 2 k.val) 3).view.read (Elt F) (xOut3 c i arg2 arg8 f2 f8 k fd x))

variable
  (HOK : ∀ (v : Fin 640) (q : Fin 4), Buf (Elt F) ((hpc v q).view.loc (c : Thread nD τ)) → Prop)
  (XOK : ∀ (v : Fin 640) (q : Fin 4), Buf (Elt F) ((xpc v q).view.loc (c : Thread nD τ)) → Prop)

/-- The trip's copies leave the pieces as `HOK`, `XOK` ask, whatever the pieces and the staging slots held. -/
structure TripOK : Prop where
  h0 : ∀ p h, HOK ⟨pno i k, pno_lt i k⟩ 0 ((hpc ⟨pno i k, pno_lt i k⟩ 0).view.writes (Elt F) p [⟨Rect.whole S256x2x128, hPay0 c k fd h⟩])
  x0 : ∀ p x, XOK ⟨pno i k, pno_lt i k⟩ 0 ((xpc ⟨pno i k, pno_lt i k⟩ 0).view.writes (Elt F) p [⟨Rect.whole S256x128, xPay0 c i arg2 arg8 f2 f8 k fd x⟩])
  h1 : ∀ p h, HOK ⟨pno i k, pno_lt i k⟩ 1 ((hpc ⟨pno i k, pno_lt i k⟩ 1).view.writes (Elt F) p [⟨Rect.whole S256x2x128, hPay1 c k fd h⟩])
  x1 : ∀ p x, XOK ⟨pno i k, pno_lt i k⟩ 1 ((xpc ⟨pno i k, pno_lt i k⟩ 1).view.writes (Elt F) p [⟨Rect.whole S256x128, xPay1 c i arg2 arg8 f2 f8 k fd x⟩])
  h2 : ∀ p h, HOK ⟨pno i k, pno_lt i k⟩ 2 ((hpc ⟨pno i k, pno_lt i k⟩ 2).view.writes (Elt F) p [⟨Rect.whole S256x2x128, hPay2 c k fd h⟩])
  x2 : ∀ p x, XOK ⟨pno i k, pno_lt i k⟩ 2 ((xpc ⟨pno i k, pno_lt i k⟩ 2).view.writes (Elt F) p [⟨Rect.whole S256x128, xPay2 c i arg2 arg8 f2 f8 k fd x⟩])
  h3 : ∀ p h, HOK ⟨pno i k, pno_lt i k⟩ 3 ((hpc ⟨pno i k, pno_lt i k⟩ 3).view.writes (Elt F) p [⟨Rect.whole S256x2x128, hPay3 c k fd h⟩])
  x3 : ∀ p x, XOK ⟨pno i k, pno_lt i k⟩ 3 ((xpc ⟨pno i k, pno_lt i k⟩ 3).view.writes (Elt F) p [⟨Rect.whole S256x128, xPay3 c i arg2 arg8 f2 f8 k fd x⟩])

end

end Cert.KernelIdeal.Hand
-- ==== Proof.KI.Loop3.lean ====
module

public import proofs.«01_k».proof.Proof.KI.Out

/-! One trip of the dx half's loop: the slot's earlier copies waited for, two heads' products, four and four copies issued. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section
variable (c : Dev nD) (i : grid0.Coords)
  (arg2 : Memref sig .tc .smem S64 .f32) (harg2 : arg2.IsWhole) (arg3 : Memref sig .tc .vmem S256x8192 .fp8e4m3) (harg3 : arg3.IsWhole)
  (arg4 : Memref sig .tc .vmem S8x16x256 .bf16) (harg4 : arg4.IsWhole) (arg5 : Memref sig .tc .vmem S32x1x256 .f32) (harg5 : arg5.IsWhole)
  (arg6 : Memref sig .tc .vmem S64x256x256 .fp8e4m3) (harg6 : arg6.IsWhole) (arg7 : Memref sig .tc .vmem S512x128 .f32) (harg7 : arg7.IsWhole)
  (arg8 : Memref sig .tc .vmem S32x512x256 .fp8e4m3) (harg8 : arg8.IsWhole)
  (f2 : Buf (Elt F) (arg2.view.loc (c : Thread nD τ))) (f3 : Buf (Elt F) (arg3.view.loc (c : Thread nD τ)))
  (f5 : Buf (Elt F) (arg5.view.loc (c : Thread nD τ))) (f8 : Buf (Elt F) (arg8.view.loc (c : Thread nD τ)))
  (HOK : ∀ (v : Fin 640) (q : Fin 4), Buf (Elt F) ((hpc v q).view.loc (c : Thread nD τ)) → Prop)
  (XOK : ∀ (v : Fin 640) (q : Fin 4), Buf (Elt F) ((xpc v q).view.loc (c : Thread nD τ)) → Prop)

abbrev trip3 (w0 w1 : BitVec 32) (k : Fin k0_t3_loop.trips) : Prog (TpuEff nD τ sig (Elt F) Λ₀ .tc) Unit :=
  k0_t3_body (F := F) i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 w0 w1 k ()

theorem trip3_free (w0 w1 : BitVec 32) (k : Fin k0_t3_loop.trips) (hk : pno i k < 2)
    (fd : Buf (Elt F) (dhtM.view.loc (c : Thread nD τ))) (fa : Buf (Elt F) (accM.view.loc (c : Thread nD τ)))
    (hok : TripOK c i arg2 arg8 f2 f8 k fd HOK XOK) :
    iprop(hld c arg2 f2 ∗ hld c arg3 f3 ∗ hld c arg5 f5 ∗ hld c arg8 f8 ∗ hld c dhtM fd ∗ hld c accM fa ∗ oslot c HOK XOK (Ring.sl 2 k.val) none ∗ opc c HOK XOK ⟨pno i k, pno_lt i k⟩ 0 ∗ (∃ W, owes (c : Thread nD τ) 0 W))
      ⊢ wp frame (wpE (defs₀ (F := F)) Variants.none (c : Thread nD τ) none) Set.univ (trip3 i arg2 harg2 arg3 harg3 arg4 harg4 arg5 harg5 arg6 harg6 arg7 harg7 arg8 harg8 w0 w1 k)
        fun _ => iprop(hld c arg2 f2 ∗ hld c arg3 f3 ∗ hld c arg5 f5 ∗ hld c arg8 f8 ∗ hld c dhtM fd ∗ hld c accM (accAfter c arg3 arg5 f3 f5 k fd fa)
          ∗ oslot c HOK XOK (Ring.sl 2 k.val) (some ⟨pno i k, pno_lt i k⟩) ∗ (∃ W, owes (c : Thread nD τ) 0 W)) := by
  have hk3 : k.val < 16 := k3l k
  have hC : ¬ k0_cond4 i k = 1#1 := fun h => by have := (cond4_iff i k).mp h; omega
  have planH : Transfers.BatchOf (c : Thread nD τ) (SemLoc.dma (csH (Ring.sl 2 k.val)).sem) 4 := trivial
  have planX : Transfers.BatchOf (c : Thread nD τ) (SemLoc.dma (csX (Ring.sl 2 k.val)).sem) 4 := trivial
  rw [oslot_none, opc_0]
  iintro ⟨H2, H3, H5, H8, Hd, Ha, ⟨HcH, HcX, ⟨⟨%h0, Hh0⟩, ⟨%h1, Hh1⟩, ⟨%h2, Hh2⟩, ⟨%h3, Hh3⟩⟩, ⟨⟨%x0, Hx0⟩, ⟨%x1, Hx1⟩, ⟨%x2, Hx2⟩, ⟨%x3, Hx3⟩⟩⟩, ⟨⟨⟨%p0, Hp0⟩, ⟨%p1, Hp1⟩, ⟨%p2, Hp2⟩, ⟨%p3, Hp3⟩⟩, ⟨⟨%y0, Hy0⟩, ⟨%y1, Hy1⟩, ⟨%y2, Hy2⟩, ⟨%y3, Hy3⟩⟩⟩, ⟨%W, HW⟩⟩
  dsimp only [trip3]
  sl_unfold [k0_t3_body]
  sl_exec
  sl_step
  isplitl [H2]; · iexact H2
  isplitl [H3]; · iexact H3
  isplitl [H5]; · iexact H5
  isplitl [H8]; · iexact H8
  isplitl [Hd]; · iexact Hd
  isplitl [Ha]; · iexact Ha
  isplitl [HcH HcX]
  · rw [oslot_some]
    isplitl [HcH]
    · unfold flH
      iexists _, _, _, _, _, _, _, _
      isplitl [HcH]; · iexact HcH
      ipureintro
      exact ⟨hok.h0 _ _, hok.h1 _ _, hok.h2 _ _, hok.h3 _ _⟩
    · unfold flX
      iexists _, _, _, _, _, _, _, _
      isplitl [HcX]; · iexact HcX
      ipureintro
      exact ⟨hok.x0 _ _, hok.x1 _ _, hok.x2 _ _, hok.x3 _ _⟩
  iexists _; iexact HW

theorem trip3_wait (w0 w1 : BitVec 32) (k : Fin k0_t3_loop.trips) (hk : 2 ≤ pno i k) (hv : pno i k - 2 < 640)
    (fd : Buf (Elt F) (dhtM.view.loc (c : Thread nD τ))) (fa : Buf (Elt F) (accM.view.loc (c : Thread nD τ)))
    (hok : TripOK c i arg2 arg8 f2 f8 k fd HOK XOK) :
    iprop(hld c arg2 f2 ∗ hld c arg3 f3 ∗ hld c arg5 f5 ∗ hld c arg8 f8 ∗ hld c dhtM fd ∗ hld c accM fa ∗ oslot c HOK XOK (Ring.sl 2 k.val) (some ⟨pno i k - 2, hv⟩) ∗ opc c HOK XOK ⟨pno i k, pno_lt i k⟩ 0 ∗ (∃ W, owes (c : Thread nD τ) 0 W))
      ⊢ wp frame (wpE (defs₀ (F := F)) Variants.none (c : Thread nD τ) none) Set.univ (trip3 i arg2 harg2 arg3 harg3 arg4 harg4 arg5 harg5 arg6 harg6 arg7 harg7 arg8 harg8 w0 w1 k)
        fun _ => iprop(hld c arg2 f2 ∗ hld c arg3 f3 ∗ hld c arg5 f5 ∗ hld c arg8 f8 ∗ hld c dhtM fd ∗ hld c accM (accAfter c arg3 arg5 f3 f5 k fd fa)
          ∗ oslot c HOK XOK (Ring.sl 2 k.val) (some ⟨pno i k, pno_lt i k⟩) ∗ opc c HOK XOK ⟨pno i k - 2, hv⟩ 2 ∗ (∃ W, owes (c : Thread nD τ) 0 W)) := by
  have hk3 : k.val < 16 := k3l k
  have hC : k0_cond4 i k = 1#1 := (cond4_iff i k).mpr hk
  have planH : Transfers.BatchOf (c : Thread nD τ) (SemLoc.dma (csH (Ring.sl 2 k.val)).sem) 4 := trivial
  have planX : Transfers.BatchOf (c : Thread nD τ) (SemLoc.dma (csX (Ring.sl 2 k.val)).sem) 4 := trivial
  rw [oslot_some, opc_0]
  unfold flH flX
  iintro ⟨H2, H3, H5, H8, Hd, Ha, ⟨⟨%a0, %a1, %a2, %a3, %g0, %g1, %g2, %g3, HcH, %hH⟩, ⟨%b0, %b1, %b2, %b3, %e0, %e1, %e2, %e3, HcX, %hX⟩⟩, ⟨⟨⟨%p0, Hp0⟩, ⟨%p1, Hp1⟩, ⟨%p2, Hp2⟩, ⟨%p3, Hp3⟩⟩, ⟨⟨%y0, Hy0⟩, ⟨%y1, Hy1⟩, ⟨%y2, Hy2⟩, ⟨%y3, Hy3⟩⟩⟩, ⟨%W, HW⟩⟩
  dsimp only [trip3]
  sl_unfold [k0_t3_body]
  sl_exec
  sl_step
  isplitl [H2]; · iexact H2
  isplitl [H3]; · iexact H3
  isplitl [H5]; · iexact H5
  isplitl [H8]; · iexact H8
  isplitl [Hd]; · iexact Hd
  isplitl [Ha]; · iexact Ha
  isplitl [HcH HcX]
  · rw [oslot_some]
    isplitl [HcH]
    · unfold flH
      iexists _, _, _, _, _, _, _, _
      isplitl [HcH]; · iexact HcH
      ipureintro
      exact ⟨hok.h0 _ _, hok.h1 _ _, hok.h2 _ _, hok.h3 _ _⟩
    · unfold flX
      iexists _, _, _, _, _, _, _, _
      isplitl [HcX]; · iexact HcX
      ipureintro
      exact ⟨hok.x0 _ _, hok.x1 _ _, hok.x2 _ _, hok.x3 _ _⟩
  isplitl [HcH_dst0 HcH_dst1 HcH_dst2 HcH_dst3 HcX_dst0 HcX_dst1 HcX_dst2 HcX_dst3]
  · rw [opc_2]
    isplitl [HcH_dst0 HcH_dst1 HcH_dst2 HcH_dst3]
    · iexists _, _, _, _
      isplitl [HcH_dst0 HcH_dst1 HcH_dst2 HcH_dst3]
      · isplitl [HcH_dst0]; · iexact HcH_dst0
        isplitl [HcH_dst1]; · iexact HcH_dst1
        isplitl [HcH_dst2]; · iexact HcH_dst2
        iexact HcH_dst3
      ipureintro; exact hH
    · iexists _, _, _, _
      isplitl [HcX_dst0 HcX_dst1 HcX_dst2 HcX_dst3]
      · isplitl [HcX_dst0]; · iexact HcX_dst0
        isplitl [HcX_dst1]; · iexact HcX_dst1
        isplitl [HcX_dst2]; · iexact HcX_dst2
        iexact HcX_dst3
      ipureintro; exact hX
  iexists _; iexact HW

end

end Cert.KernelIdeal.Hand
-- ==== Proof.KI.Loop2.lean ====
module

public import proofs.«01_k».proof.Proof.KI.Res

/-! One trip of the innermost loop of the dh half: two blocks of dy rows read from the ring's current slot, two boxes of
    the transposed dh buffer stored; and the whole inner loop. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- The first `n` of `T` steps taken, from `a`. -/
def iterFin {α : Type} (T : ℕ) (f : Fin T → α → α) (a : α) : ℕ → α
  | 0 => a
  | n + 1 => if h : n < T then f ⟨n, h⟩ (iterFin T f a n) else iterFin T f a n
theorem iterFin_zero {α : Type} (T : ℕ) (f : Fin T → α → α) (a : α) : iterFin T f a 0 = a := by unfold iterFin; rfl
theorem iterFin_succ {α : Type} (T : ℕ) (f : Fin T → α → α) (a : α) (k : Fin T) :
    iterFin T f a (k.val + 1) = f k (iterFin T f a k.val) := by
  have : iterFin T f a (k.val + 1) = if h : k.val < T then f ⟨k.val, h⟩ (iterFin T f a k.val) else iterFin T f a k.val := by
    conv_lhs => unfold iterFin
  rw [this, dif_pos k.isLt]

/-- The values one inner trip stores at the tokens 0…127 of the block: two groups of eight rows, from the two dy boxes
    `r`, the dy scales `d`, the two blocks of `l` and their scales. -/
def dhV0 (r0 r1 : Vec F S1x1x256x256 .fp8e5m2) (d : Vec F S8x16x256 .bf16) (l0 l1 : Vec F S1x256x256 .fp8e4m3) (s0 s1 : Vec F S8x128 .f32) :
    FVec F S32x1x16x128 .bf16 :=
  k0_pay3 (k0_pay12 k0_pay1 (k0_pay7 k0_pay1 r0 d l0 s0) r1 d l1 s1)
/-- The same at the tokens 128…255. -/
def dhV1 (r0 r1 : Vec F S1x1x256x256 .fp8e5m2) (d : Vec F S8x16x256 .bf16) (l0 l1 : Vec F S1x256x256 .fp8e4m3) (s0 s1 : Vec F S8x128 .f32) :
    FVec F S32x1x16x128 .bf16 :=
  k0_pay4 (k0_pay8 k0_pay1 r0 d l0 s0) (k0_pay11 k0_pay1 r1 d l1 s1)

abbrev ldD (M : Memref sig .tc .vmem S8x16x256 .bf16) (c : Dev nD) (f : Buf (Elt F) (M.view.loc (c : Thread nD τ))) : Vec F S8x16x256 .bf16 :=
  M.view.readAt (Elt F) (Rect.unit (s := S8x16x256) ![0, 0, 0] S8x16x256.size inb_S8x16x256_S8x16x256_0_0_0).toLoadRect f
abbrev ldL (M : Memref sig .tc .vmem S64x256x256 .fp8e4m3) (c : Dev nD) (f : Buf (Elt F) (M.view.loc (c : Thread nD τ)))
    (k1 : Fin k0_t1_loop.trips) (k2 : Fin k0_t2_loop.trips) (w : Fin 2) : Vec F S1x256x256 .fp8e4m3 :=
  M.view.readAt (Elt F) (Rect.unit (s := S64x256x256) (k0_off8 k1 k2 (BitVec.ofNat 32 w.val)) S1x256x256.size (k0_off8_inb k1 k2 w)).toLoadRect f
abbrev ldS (M : Memref sig .tc .vmem S512x128 .f32) (c : Dev nD) (f : Buf (Elt F) (M.view.loc (c : Thread nD τ)))
    (k1 : Fin k0_t1_loop.trips) (k2 : Fin k0_t2_loop.trips) (w : Fin 2) : Vec F S8x128 .f32 :=
  M.view.readAt (Elt F) (Rect.unit (s := S512x128) (k0_off9 k1 k2 (BitVec.ofNat 32 w.val)) S8x128.size (k0_off9_inb k1 k2 w)).toLoadRect f
abbrev ldR (c : Dev nD) (i : grid0.Coords) (k1 : Fin k0_t1_loop.trips) (k2 : Fin k0_t2_loop.trips) (w : Fin 2)
    (f : Buf (Elt F) (ringM.view.loc (c : Thread nD τ))) : Vec F S1x1x256x256 .fp8e5m2 :=
  ringM.view.readAt (Elt F) (Rect.unit (s := S4x8x256x256) (k0_off7 i k1 k2 (BitVec.ofNat 32 w.val)) S1x1x256x256.size (k0_off7_inb i k1 k2 w)).toLoadRect f

section
variable (c : Dev nD) (i : grid0.Coords)
  (arg2 : Memref sig .tc .smem S64 .f32) (harg2 : arg2.IsWhole) (arg3 : Memref sig .tc .vmem S256x8192 .fp8e4m3) (harg3 : arg3.IsWhole)
  (arg4 : Memref sig .tc .vmem S8x16x256 .bf16) (harg4 : arg4.IsWhole) (arg5 : Memref sig .tc .vmem S32x1x256 .f32) (harg5 : arg5.IsWhole)
  (arg6 : Memref sig .tc .vmem S64x256x256 .fp8e4m3) (harg6 : arg6.IsWhole) (arg7 : Memref sig .tc .vmem S512x128 .f32) (harg7 : arg7.IsWhole)
  (arg8 : Memref sig .tc .vmem S32x512x256 .fp8e4m3) (harg8 : arg8.IsWhole)
  (f4 : Buf (Elt F) (arg4.view.loc (c : Thread nD τ))) (f6 : Buf (Elt F) (arg6.view.loc (c : Thread nD τ)))
  (f7 : Buf (Elt F) (arg7.view.loc (c : Thread nD τ)))

abbrev trip2 (k1 : Fin k0_t1_loop.trips) (w22 w98 w51 w53 : BitVec 32) (k2 : Fin k0_t2_loop.trips) : Prog (TpuEff nD τ sig (Elt F) Λ₀ .tc) Unit :=
  k0_t2_body (F := F) i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 k1 w22 w98 w51 w53 k2 ()

/-- The transposed dh buffer after an inner trip, from contents `fo`, the ring's slot at `fr`. -/
def dhtAfter (k1 : Fin k0_t1_loop.trips) (k2 : Fin k0_t2_loop.trips) (fr : Buf (Elt F) (ringM.view.loc (c : Thread nD τ)))
    (fo : Buf (Elt F) (dhtM.view.loc (c : Thread nD τ))) : Buf (Elt F) (dhtM.view.loc (c : Thread nD τ)) :=
  dhtM.view.writes (Elt F) fo
    [⟨Rect.unit (s := S32x2x512x128) (k0_off11 k1 k2) S32x1x16x128.size (k0_off11_inb k1 k2),
        dhV1 (ldR c i k1 k2 0 fr) (ldR c i k1 k2 1 fr) (ldD arg4 c f4) (ldL arg6 c f6 k1 k2 0) (ldL arg6 c f6 k1 k2 1) (ldS arg7 c f7 k1 k2 0) (ldS arg7 c f7 k1 k2 1)⟩,
      ⟨Rect.unit (s := S32x2x512x128) (k0_off10 k1 k2) S32x1x16x128.size (k0_off10_inb k1 k2),
        dhV0 (ldR c i k1 k2 0 fr) (ldR c i k1 k2 1 fr) (ldD arg4 c f4) (ldL arg6 c f6 k1 k2 0) (ldL arg6 c f6 k1 k2 1) (ldS arg7 c f7 k1 k2 0) (ldS arg7 c f7 k1 k2 1)⟩]

theorem trip2_run (k1 : Fin k0_t1_loop.trips) (w22 w98 w51 w53 : BitVec 32) (k2 : Fin k0_t2_loop.trips)
    (fr : Buf (Elt F) ((dsl (Ring.sl 4 (cnt i k1))).view.loc (c : Thread nD τ))) (fo : Buf (Elt F) (dhtM.view.loc (c : Thread nD τ))) :
    iprop(hld c (dsl (Ring.sl 4 (cnt i k1))) fr ∗ hld c arg4 f4 ∗ hld c arg6 f6 ∗ hld c arg7 f7 ∗ hld c dhtM fo)
      ⊢ wp frame (wpE (defs₀ (F := F)) Variants.none (c : Thread nD τ) none) Set.univ (trip2 i arg2 harg2 arg3 harg3 arg4 harg4 arg5 harg5 arg6 harg6 arg7 harg7 arg8 harg8 k1 w22 w98 w51 w53 k2)
        fun _ => iprop(hld c (dsl (Ring.sl 4 (cnt i k1))) fr ∗ hld c arg4 f4 ∗ hld c arg6 f6 ∗ hld c arg7 f7
          ∗ hld c dhtM (dhtAfter c i arg4 arg6 arg7 f4 f6 f7 k1 k2 fr fo)) := by
  iintro ⟨Hr, H4, H6, H7, Ho⟩
  have hk2 : k2.val < 4 := Nat.lt_of_lt_of_eq k2.isLt trips2
  have hk1 : k1.val < 8 := k1l k1
  dsimp only [trip2]
  sl_unfold [k0_t2_body]
  sl_exec
  sl_step
  isplitl [Hr]; · iexact Hr
  isplitl [H4]; · iexact H4
  isplitl [H6]; · iexact H6
  isplitl [H7]; · iexact H7
  iexact Ho

/-- The buffer through the first `n` inner trips of a chunk. -/
def dhtIter (k1 : Fin k0_t1_loop.trips) (fr : Buf (Elt F) (ringM.view.loc (c : Thread nD τ)))
    (fo : Buf (Elt F) (dhtM.view.loc (c : Thread nD τ))) (n : ℕ) : Buf (Elt F) (dhtM.view.loc (c : Thread nD τ)) :=
  iterFin k0_t2_loop.trips (fun k2 => dhtAfter c i arg4 arg6 arg7 f4 f6 f7 k1 k2 fr) fo n

/-- What the inner loop holds before trip `n`. -/
def inv2 (k1 : Fin k0_t1_loop.trips) (fr : Buf (Elt F) ((dsl (Ring.sl 4 (cnt i k1))).view.loc (c : Thread nD τ)))
    (fo : Buf (Elt F) (dhtM.view.loc (c : Thread nD τ))) (n : ℕ) (_ : Unit) : sProp 𝕄 :=
  iprop(hld c (dsl (Ring.sl 4 (cnt i k1))) fr ∗ hld c arg4 f4 ∗ hld c arg6 f6 ∗ hld c arg7 f7
    ∗ hld c dhtM (dhtIter c i arg4 arg6 arg7 f4 f6 f7 k1 fr fo n))

set_option warn.classDefReducibility false in
/-- The inner loop's invariant. -/
@[sl_loop] def loopInv2 (k1 : Fin k0_t1_loop.trips) (w22 w98 w51 w53 : BitVec 32)
    (fr : Buf (Elt F) ((dsl (Ring.sl 4 (cnt i k1))).view.loc (c : Thread nD τ))) (fo : Buf (Elt F) (dhtM.view.loc (c : Thread nD τ))) :
    LoopInvTy_k0_t2 (F := F) Unit ℕ (Pipeline.UD sig nD τ) ℕ Variants.none c none Set.univ i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 k1 w22 w98 w51 w53 where
  inv n u := inv2 c i arg4 arg6 arg7 f4 f6 f7 k1 fr fo n u
  step k _ := by
    unfold inv2
    have e : dhtIter c i arg4 arg6 arg7 f4 f6 f7 k1 fr fo (k.val + 1)
        = dhtAfter c i arg4 arg6 arg7 f4 f6 f7 k1 k fr (dhtIter c i arg4 arg6 arg7 f4 f6 f7 k1 fr fo k.val) := by
      unfold dhtIter; exact iterFin_succ _ _ _ k
    rw [e]
    exact trip2_run c i arg2 harg2 arg3 harg3 arg4 harg4 arg5 harg5 arg6 harg6 arg7 harg7 arg8 harg8 f4 f6 f7 k1 w22 w98 w51 w53 k fr _
end

end Cert.KernelIdeal.Hand
-- ==== Proof.KI.Loop3b.lean ====
module

public import proofs.«01_k».proof.Proof.KI.Loop3
public import proofs.«01_k».proof.Proof.KI.Loop2

/-! The dx half's loop, whole. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section
variable (c : Dev nD) (i : grid0.Coords)
  (arg2 : Memref sig .tc .smem S64 .f32) (harg2 : arg2.IsWhole) (arg3 : Memref sig .tc .vmem S256x8192 .fp8e4m3) (harg3 : arg3.IsWhole)
  (arg4 : Memref sig .tc .vmem S8x16x256 .bf16) (harg4 : arg4.IsWhole) (arg5 : Memref sig .tc .vmem S32x1x256 .f32) (harg5 : arg5.IsWhole)
  (arg6 : Memref sig .tc .vmem S64x256x256 .fp8e4m3) (harg6 : arg6.IsWhole) (arg7 : Memref sig .tc .vmem S512x128 .f32) (harg7 : arg7.IsWhole)
  (arg8 : Memref sig .tc .vmem S32x512x256 .fp8e4m3) (harg8 : arg8.IsWhole)
  (f2 : Buf (Elt F) (arg2.view.loc (c : Thread nD τ))) (f3 : Buf (Elt F) (arg3.view.loc (c : Thread nD τ)))
  (f5 : Buf (Elt F) (arg5.view.loc (c : Thread nD τ))) (f8 : Buf (Elt F) (arg8.view.loc (c : Thread nD τ)))
  (HOK : ∀ (v : Fin 640) (q : Fin 4), Buf (Elt F) ((hpc v q).view.loc (c : Thread nD τ)) → Prop)
  (XOK : ∀ (v : Fin 640) (q : Fin 4), Buf (Elt F) ((xpc v q).view.loc (c : Thread nD τ)) → Prop)

attribute [local irreducible] k0_t3_body

/-- The output rings and the pieces, the pairs below `u` issued. -/
def outs (u : ℕ) : sProp 𝕄 :=
  iprop(Ring.AtW (σ := fun _ => Option (Fin 640)) (oslot c HOK XOK) (ost u) ∗ Ring.AtW (σ := fun _ => Fin 3) (opc c HOK XOK) (pst u))

theorem outs_eq (u : ℕ) (h : u < 640) : outs c HOK XOK u
    = iprop((oslot c HOK XOK (Ring.sl 2 u) (ost u (Ring.sl 2 u)) ∗ Ring.restL (oslot c HOK XOK) (ost u) [Ring.sl 2 u])
      ∗ (opc c HOK XOK ⟨u, h⟩ (pst u ⟨u, h⟩) ∗ Ring.restL (opc c HOK XOK) (pst u) [⟨u, h⟩])) := by
  unfold outs
  rw [Ring.AtW_focusL (oslot c HOK XOK) (ost u) [Ring.sl 2 u] (List.nodup_singleton _),
    Ring.AtW_focusL (opc c HOK XOK) (pst u) [⟨u, h⟩] (List.nodup_singleton _)]
  rfl
theorem outs_eq2 (u : ℕ) (h : u < 640) (h2 : 2 ≤ u) : outs c HOK XOK u
    = iprop((oslot c HOK XOK (Ring.sl 2 u) (ost u (Ring.sl 2 u)) ∗ Ring.restL (oslot c HOK XOK) (ost u) [Ring.sl 2 u])
      ∗ ((opc c HOK XOK ⟨u, h⟩ (pst u ⟨u, h⟩) ∗ opc c HOK XOK ⟨u - 2, by omega⟩ (pst u ⟨u - 2, by omega⟩))
        ∗ Ring.restL (opc c HOK XOK) (pst u) [⟨u, h⟩, ⟨u - 2, by omega⟩])) := by
  unfold outs
  rw [Ring.AtW_focusL (oslot c HOK XOK) (ost u) [Ring.sl 2 u] (List.nodup_singleton _),
    Ring.AtW_focusL (opc c HOK XOK) (pst u) [⟨u, h⟩, ⟨u - 2, by omega⟩]
      (List.nodup_cons.mpr ⟨fun hh => by have := congrArg Fin.val (List.mem_singleton.mp hh); simp at this; omega, List.nodup_singleton _⟩)]
  rfl

theorem slots_close (u : ℕ) (h : u < 640) :
    iprop(oslot c HOK XOK (Ring.sl 2 u) (some ⟨u, h⟩) ∗ Ring.restL (oslot c HOK XOK) (ost u) [Ring.sl 2 u])
      ⊢ Ring.AtW (σ := fun _ => Option (Fin 640)) (oslot c HOK XOK) (ost (u + 1)) := by
  refine .trans (Laws.sep_mono (Entails.of_eq ?_) .rfl) (Ring.AtW_refocusL (oslot c HOK XOK) (ost u) (ost (u + 1)) [Ring.sl 2 u] (List.nodup_singleton _) ?_)
  · show _ = oslot c HOK XOK (Ring.sl 2 u) (ost (u + 1) (Ring.sl 2 u))
    rw [ost_succ_self u h]
  · exact fun s hs => ost_succ_ne u s fun e => hs (List.mem_singleton.mpr e)
theorem pieces_close (u : ℕ) (h : u < 640) (h2 : u < 2) :
    iprop(emp ∗ Ring.restL (opc c HOK XOK) (pst u) [⟨u, h⟩]) ⊢ Ring.AtW (σ := fun _ => Fin 3) (opc c HOK XOK) (pst (u + 1)) := by
  refine .trans (Laws.sep_mono (Entails.of_eq ?_) .rfl) (Ring.AtW_refocusL (opc c HOK XOK) (pst u) (pst (u + 1)) [⟨u, h⟩] (List.nodup_singleton _) ?_)
  · show _ = opc c HOK XOK ⟨u, h⟩ (pst (u + 1) ⟨u, h⟩)
    rw [pst_succ_self u h, opc_1]
  · exact fun v hv => pst_succ_ne u v (fun e => hv (List.mem_singleton.mpr (Fin.ext e))) (by omega)
theorem pieces_close2 (u : ℕ) (h : u < 640) (h2 : 2 ≤ u) (h3 : u - 2 < 640) :
    iprop((emp ∗ opc c HOK XOK ⟨u - 2, h3⟩ 2) ∗ Ring.restL (opc c HOK XOK) (pst u) [⟨u, h⟩, ⟨u - 2, h3⟩])
      ⊢ Ring.AtW (σ := fun _ => Fin 3) (opc c HOK XOK) (pst (u + 1)) := by
  refine .trans (Laws.sep_mono (Entails.of_eq ?_) .rfl) (Ring.AtW_refocusL (opc c HOK XOK) (pst u) (pst (u + 1)) [⟨u, h⟩, ⟨u - 2, h3⟩]
    (List.nodup_cons.mpr ⟨fun hh => by have := congrArg Fin.val (List.mem_singleton.mp hh); simp at this; omega, List.nodup_singleton _⟩) ?_)
  · show _ = iprop(opc c HOK XOK ⟨u, h⟩ (pst (u + 1) ⟨u, h⟩) ∗ opc c HOK XOK ⟨u - 2, h3⟩ (pst (u + 1) ⟨u - 2, h3⟩))
    rw [pst_succ_self u h, opc_1, pst_succ_back u h2 h3]
  · refine fun v hv => pst_succ_ne u v (fun e => hv ?_) (fun e => hv ?_)
    · exact List.mem_cons.mpr (Or.inl (Fin.ext e))
    · exact List.mem_cons.mpr (Or.inr (List.mem_singleton.mpr (Fin.ext (by simp; omega))))

/-- Pair `pno`'s slot is the trip's. -/
theorem sl_pno (k : Fin k0_t3_loop.trips) : Ring.sl 2 (pno i k) = Ring.sl 2 k.val := by
  refine Fin.ext ?_
  rw [Ring.sl_val, Ring.sl_val]
  show (16 * (20 * (i 0).val + (i 1).val) + k.val) % 2 = _
  omega

/-- One trip, over the rings and the pieces whole. -/
theorem trip3_run (w0 w1 : BitVec 32) (k : Fin k0_t3_loop.trips)
    (fd : Buf (Elt F) (dhtM.view.loc (c : Thread nD τ))) (fa : Buf (Elt F) (accM.view.loc (c : Thread nD τ)))
    (hok : TripOK c i arg2 arg8 f2 f8 k fd HOK XOK) :
    iprop(hld c arg2 f2 ∗ hld c arg3 f3 ∗ hld c arg5 f5 ∗ hld c arg8 f8 ∗ hld c dhtM fd ∗ hld c accM fa ∗ outs c HOK XOK (pno i k) ∗ (∃ W, owes (c : Thread nD τ) 0 W))
      ⊢ wp frame (wpE (defs₀ (F := F)) Variants.none (c : Thread nD τ) none) Set.univ (trip3 i arg2 harg2 arg3 harg3 arg4 harg4 arg5 harg5 arg6 harg6 arg7 harg7 arg8 harg8 w0 w1 k)
        fun _ => iprop(hld c arg2 f2 ∗ hld c arg3 f3 ∗ hld c arg5 f5 ∗ hld c arg8 f8 ∗ hld c dhtM fd ∗ hld c accM (accAfter c arg3 arg5 f3 f5 k fd fa)
          ∗ outs c HOK XOK (pno i k + 1) ∗ (∃ W, owes (c : Thread nD τ) 0 W)) := by
  have hu := pno_lt i k
  rcases Nat.lt_or_ge (pno i k) 2 with h2 | h2
  · rw [outs_eq c HOK XOK (pno i k) hu, ost_self_lt _ h2, pst_self _ hu, sl_pno]
    iintro ⟨H2, H3, H5, H8, Hd, Ha, ⟨⟨Hs, Hsr⟩, ⟨Hp, Hpr⟩⟩, HW⟩
    iapply (wp_wand_r frame (wpE (defs₀ (F := F)) Variants.none (c : Thread nD τ) none) Set.univ)
    isplitr [Hsr Hpr]
    · iapply (trip3_free c i arg2 harg2 arg3 harg3 arg4 harg4 arg5 harg5 arg6 harg6 arg7 harg7 arg8 harg8 f2 f3 f5 f8 HOK XOK w0 w1 k h2 fd fa hok)
      isplitl [H2]; · iexact H2
      isplitl [H3]; · iexact H3
      isplitl [H5]; · iexact H5
      isplitl [H8]; · iexact H8
      isplitl [Hd]; · iexact Hd
      isplitl [Ha]; · iexact Ha
      isplitl [Hs]; · iexact Hs
      isplitl [Hp]; · iexact Hp
      iexact HW
    · iintro %u ⟨H2, H3, H5, H8, Hd, Ha, Hs, HW⟩
      isplitl [H2]; · iexact H2
      isplitl [H3]; · iexact H3
      isplitl [H5]; · iexact H5
      isplitl [H8]; · iexact H8
      isplitl [Hd]; · iexact Hd
      isplitl [Ha]; · iexact Ha
      isplitr [HW]
      · unfold outs
        isplitl [Hs Hsr]
        · iapply (slots_close c HOK XOK (pno i k) hu)
          rw [sl_pno]
          isplitl [Hs]; · iexact Hs
          iexact Hsr
        · iapply (pieces_close c HOK XOK (pno i k) hu h2)
          isplitr
          · iempintro
          · iexact Hpr
      · iexact HW
  · have h3 : pno i k - 2 < 640 := by omega
    rw [outs_eq2 c HOK XOK (pno i k) hu h2, ost_self _ h2 (by omega), pst_self _ hu, pst_back _ h2 h3, sl_pno]
    iintro ⟨H2, H3, H5, H8, Hd, Ha, ⟨⟨Hs, Hsr⟩, ⟨⟨Hp, -⟩, Hpr⟩⟩, HW⟩
    iapply (wp_wand_r frame (wpE (defs₀ (F := F)) Variants.none (c : Thread nD τ) none) Set.univ)
    isplitr [Hsr Hpr]
    · iapply (trip3_wait c i arg2 harg2 arg3 harg3 arg4 harg4 arg5 harg5 arg6 harg6 arg7 harg7 arg8 harg8 f2 f3 f5 f8 HOK XOK w0 w1 k h2 h3 fd fa hok)
      isplitl [H2]; · iexact H2
      isplitl [H3]; · iexact H3
      isplitl [H5]; · iexact H5
      isplitl [H8]; · iexact H8
      isplitl [Hd]; · iexact Hd
      isplitl [Ha]; · iexact Ha
      isplitl [Hs]; · iexact Hs
      isplitl [Hp]; · iexact Hp
      iexact HW
    · iintro %u ⟨H2, H3, H5, H8, Hd, Ha, Hs, Hb, HW⟩
      isplitl [H2]; · iexact H2
      isplitl [H3]; · iexact H3
      isplitl [H5]; · iexact H5
      isplitl [H8]; · iexact H8
      isplitl [Hd]; · iexact Hd
      isplitl [Ha]; · iexact Ha
      isplitr [HW]
      · unfold outs
        isplitl [Hs Hsr]
        · iapply (slots_close c HOK XOK (pno i k) hu)
          rw [sl_pno]
          isplitl [Hs]; · iexact Hs
          iexact Hsr
        · iapply (pieces_close2 c HOK XOK (pno i k) hu h2 h3)
          isplitr [Hpr]
          · isplitr
            · iempintro
            · iexact Hb
          · iexact Hpr
      · iexact HW

/-- The accumulator through the first `n` trips of a step. -/
def accIter (fd : Buf (Elt F) (dhtM.view.loc (c : Thread nD τ))) (fa : Buf (Elt F) (accM.view.loc (c : Thread nD τ))) (n : ℕ) :
    Buf (Elt F) (accM.view.loc (c : Thread nD τ)) :=
  iterFin k0_t3_loop.trips (fun k => accAfter c arg3 arg5 f3 f5 k fd) fa n

/-- What the dx half's loop holds before trip `n`. -/
def inv3 (fd : Buf (Elt F) (dhtM.view.loc (c : Thread nD τ))) (fa : Buf (Elt F) (accM.view.loc (c : Thread nD τ))) (n : ℕ) (_ : Unit) : sProp 𝕄 :=
  iprop(hld c arg2 f2 ∗ hld c arg3 f3 ∗ hld c arg5 f5 ∗ hld c arg8 f8 ∗ hld c dhtM fd ∗ hld c accM (accIter c arg3 arg5 f3 f5 fd fa n) ∗ outs c HOK XOK (16 * stepOf i + n) ∗ (∃ W, owes (c : Thread nD τ) 0 W))

theorem step3 (w0 w1 : BitVec 32) (fd : Buf (Elt F) (dhtM.view.loc (c : Thread nD τ))) (fa : Buf (Elt F) (accM.view.loc (c : Thread nD τ)))
    (hok : ∀ k, TripOK c i arg2 arg8 f2 f8 k fd HOK XOK) (k : Fin k0_t3_loop.trips) :
    inv3 c i arg2 arg3 arg5 arg8 f2 f3 f5 f8 HOK XOK fd fa k.val () ⊢ wp frame (wpE (defs₀ (F := F)) Variants.none (c : Thread nD τ) none) Set.univ (trip3 i arg2 harg2 arg3 harg3 arg4 harg4 arg5 harg5 arg6 harg6 arg7 harg7 arg8 harg8 w0 w1 k)
      fun u => inv3 c i arg2 arg3 arg5 arg8 f2 f3 f5 f8 HOK XOK fd fa (k.val + 1) u := by
  unfold inv3
  have e : accIter c arg3 arg5 f3 f5 fd fa (k.val + 1) = accAfter c arg3 arg5 f3 f5 k fd (accIter c arg3 arg5 f3 f5 fd fa k.val) := by
    unfold accIter; exact iterFin_succ _ _ _ k
  have e2 : 16 * stepOf i + (k.val + 1) = pno i k + 1 := by unfold pno; omega
  have e3 : 16 * stepOf i + k.val = pno i k := by unfold pno; omega
  rw [e, e2, e3]
  exact trip3_run c i arg2 harg2 arg3 harg3 arg4 harg4 arg5 harg5 arg6 harg6 arg7 harg7 arg8 harg8 f2 f3 f5 f8 HOK XOK w0 w1 k fd (accIter c arg3 arg5 f3 f5 fd fa k.val) (hok k)

set_option warn.classDefReducibility false in
/-- The dx half's loop's invariant. -/
@[sl_loop] def loopInv3 (w0 w1 : BitVec 32) (fd : Buf (Elt F) (dhtM.view.loc (c : Thread nD τ))) (fa : Buf (Elt F) (accM.view.loc (c : Thread nD τ)))
    (hok : ∀ k, TripOK c i arg2 arg8 f2 f8 k fd HOK XOK) :
    LoopInvTy_k0_t3 (F := F) Unit ℕ (Pipeline.UD sig nD τ) ℕ Variants.none c none Set.univ i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 w0 w1 where
  inv n u := inv3 c i arg2 arg3 arg5 arg8 f2 f3 f5 f8 HOK XOK fd fa n u
  step k u := by
    cases u
    exact step3 c i arg2 harg2 arg3 harg3 arg4 harg4 arg5 harg5 arg6 harg6 arg7 harg7 arg8 harg8 f2 f3 f5 f8 HOK XOK w0 w1 fd fa hok k
end

end Cert.KernelIdeal.Hand
-- ==== Proof.KI.Tail.lean ====
module

public import proofs.«01_k».proof.Proof.KI.Loop3b

/-! The end of the body: the half's dr copy, and at the last grid point the output rings drained. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section
variable (c : Dev nD) (i : grid0.Coords)
  (arg2 : Memref sig .tc .smem S64 .f32) (harg2 : arg2.IsWhole) (arg3 : Memref sig .tc .vmem S256x8192 .fp8e4m3) (harg3 : arg3.IsWhole)
  (arg4 : Memref sig .tc .vmem S8x16x256 .bf16) (harg4 : arg4.IsWhole) (arg5 : Memref sig .tc .vmem S32x1x256 .f32) (harg5 : arg5.IsWhole)
  (arg6 : Memref sig .tc .vmem S64x256x256 .fp8e4m3) (harg6 : arg6.IsWhole) (arg7 : Memref sig .tc .vmem S512x128 .f32) (harg7 : arg7.IsWhole)
  (arg8 : Memref sig .tc .vmem S32x512x256 .fp8e4m3) (harg8 : arg8.IsWhole)
  (HOK : ∀ (v : Fin 640) (q : Fin 4), Buf (Elt F) ((hpc v q).view.loc (c : Thread nD τ)) → Prop)
  (XOK : ∀ (v : Fin 640) (q : Fin 4), Buf (Elt F) ((xpc v q).view.loc (c : Thread nD τ)) → Prop)
  (ROK : ∀ h : Fin 2, Buf (Elt F) ((rpc h).view.loc (c : Thread nD τ)) → Prop)

/-- The body after its two loops. -/
def tailP : Prog (TpuEff nD τ sig (Elt F) Λ₀ .tc) PUnit := do
  if k0_h5 : k0_cond5 i = 1#1 then do
    let v28 : Memref sig .tc .hbm S32x512x256 .f32 := dRM.slice (Rect.unit (s := S64x512x256) (k0_off66 i) S32x512x256.size (k0_off66_inb i k0_h5)) (fun _ => rfl)
    Prog.lift (.enqueueDma accM (.here v28) (.dma cc0_scratch8.sem) (Memref.isWhole_whole _ : (accM).IsWhole).wordExact (View.wordExact_bits rfl) ⟨Or.inl rfl, trivial⟩)
    let v29 : Memref sig .tc .hbm S32x512x256 .f32 := dRM.slice (Rect.unit (s := S64x512x256) (k0_off66 i) S32x512x256.size (k0_off66_inb i k0_h5)) (fun _ => rfl)
    Prog.lift (.waitDma2 cc0_scratch8.sem accM v29 (Memref.isWhole_whole _ : (accM).IsWhole).wordExact (View.wordExact_bits rfl))
    pure ⟨⟩
  else do
    pure ⟨⟩
  if k0_h6 : k0_cond6 i = 1#1 then do
    k0_part15 i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 (BitVec.ofNat 32 (i 0).val) k0_h6
    k0_part16 i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 k0_h6
    k0_part17 i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 (BitVec.ofNat 32 (i 0).val) k0_h6
    k0_part18 i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 k0_h6
    let v136 : DmaSems sig S1 := cc0_scratch7.slice (Rect.unit (s := S2) ![1] S1.size inb_S2_S1_1)
    let v137 : DmaSems sig S_ := v136.squeeze S_ squeezes_S1_S_
    let v138 : Memref sig .tc .hbm S256x128 .bf16 := dxM.slice (Rect.unit (s := S5120x16384) (k0_off71 i 2#32 256#32) S256x128.size (k0_off71_inb i k0_h6 1 2)) (fun _ => rfl)
    let v139 : Memref sig .tc .vmem S1x1x256x128 .bf16 := xstM.slice (Rect.unit (s := S2x4x256x128) ![1, 2, 0, 0] S1x1x256x128.size inb_S2x4x256x128_S1x1x256x128_1_2_0_0) (fun _ => rfl)
    let v140 : Memref sig .tc .vmem S256x128 .bf16 := v139.squeeze S256x128 squeezes_S1x1x256x128_S256x128
    Prog.lift (.waitDma2 v137.sem v140 v138 (((Memref.isWhole_whole _ : (xstM).IsWhole).wordExact_slice rfl _ wordsbf16_S2x4x256x128_S1x1x256x128_1_2_0_0).reshape _ _) ((Memref.isWhole_whole _ : (dxM).IsWhole).wordExact_slice rfl _ (k0_off71_wordsbf16 i k0_h6 1 2)))
    let v141 : DmaSems sig S1 := cc0_scratch7.slice (Rect.unit (s := S2) ![1] S1.size inb_S2_S1_1)
    let v142 : DmaSems sig S_ := v141.squeeze S_ squeezes_S1_S_
    let v143 : Memref sig .tc .hbm S256x128 .bf16 := dxM.slice (Rect.unit (s := S5120x16384) (k0_off71 i 2#32 384#32) S256x128.size (k0_off71_inb i k0_h6 1 3)) (fun _ => rfl)
    let v144 : Memref sig .tc .vmem S1x1x256x128 .bf16 := xstM.slice (Rect.unit (s := S2x4x256x128) ![1, 3, 0, 0] S1x1x256x128.size inb_S2x4x256x128_S1x1x256x128_1_3_0_0) (fun _ => rfl)
    let v145 : Memref sig .tc .vmem S256x128 .bf16 := v144.squeeze S256x128 squeezes_S1x1x256x128_S256x128
    Prog.lift (.waitDma2 v142.sem v145 v143 (((Memref.isWhole_whole _ : (xstM).IsWhole).wordExact_slice rfl _ wordsbf16_S2x4x256x128_S1x1x256x128_1_3_0_0).reshape _ _) ((Memref.isWhole_whole _ : (dxM).IsWhole).wordExact_slice rfl _ (k0_off71_wordsbf16 i k0_h6 1 3)))
    pure ⟨⟩
  else do
    pure ⟨⟩
  pure ⟨⟩

/-- A half of the dr result: ahead, or done. -/
def rhalf (h : Fin 2) : Bool → sProp 𝕄
  | false => hldE c (rpc h)
  | true => iprop(∃ g, hld c (rpc h) g ∗ ⌜ROK h g⌝)

/-- The output rings drained and every piece done. -/
def outsFin : sProp 𝕄 :=
  iprop((oslot c HOK XOK 0 none ∗ oslot c HOK XOK 1 none) ∗ Ring.AtW (σ := fun _ => Fin 3) (opc c HOK XOK) (fun _ => 2))

theorem outs_640 : outs c HOK XOK 640
    = iprop((oslot c HOK XOK 0 (some 638) ∗ oslot c HOK XOK 1 (some 639))
      ∗ ((opc c HOK XOK 638 1 ∗ opc c HOK XOK 639 1) ∗ Ring.restL (opc c HOK XOK) (pst 640) [638, 639])) := by
  unfold outs
  rw [Ring.AtW_eq_list (oslot c HOK XOK) (ost 640) [0, 1] (by decide) (by decide),
    Ring.AtW_focusL (opc c HOK XOK) (pst 640) [638, 639] (by decide)]
  rfl

theorem outs_fin : iprop((oslot c HOK XOK 0 none ∗ oslot c HOK XOK 1 none)
      ∗ ((opc c HOK XOK 638 2 ∗ opc c HOK XOK 639 2) ∗ Ring.restL (opc c HOK XOK) (pst 640) [638, 639])) ⊢ outsFin c HOK XOK := by
  unfold outsFin
  refine Laws.sep_mono .rfl ?_
  refine (Ring.AtW_refocusL (opc c HOK XOK) (pst 640) (fun _ => 2) [638, 639] (by decide) ?_)
  intro v hv
  have h1 : v.val ≠ 638 := fun e => hv (List.mem_cons.mpr (Or.inl (Fin.ext e)))
  have h2 : v.val ≠ 639 := fun e => hv (List.mem_cons.mpr (Or.inr (List.mem_singleton.mpr (Fin.ext e))))
  have := v.isLt
  show 2 = pst 640 v
  unfold pst; rw [if_pos (by omega)]

theorem slot_back (s : Fin 2) (g0 g1 g2 g3 e0 e1 e2 e3) :
    iprop(cellZ c (csH s) ∗ cellZ c (csX s) ∗ hld c (hsl s 0) g0 ∗ hld c (hsl s 1) g1 ∗ hld c (hsl s 2) g2 ∗ hld c (hsl s 3) g3
      ∗ hld c (xsl s 0) e0 ∗ hld c (xsl s 1) e1 ∗ hld c (xsl s 2) e2 ∗ hld c (xsl s 3) e3) ⊢ oslot c HOK XOK s none := by
  rw [oslot_none]
  iintro ⟨HH, HX, H0, H1, H2, H3, X0, X1, X2, X3⟩
  isplitl [HH]; · iexact HH
  isplitl [HX]; · iexact HX
  isplitl [H0 H1 H2 H3]
  · isplitl [H0]; · iexists _; iexact H0
    isplitl [H1]; · iexists _; iexact H1
    isplitl [H2]; · iexists _; iexact H2
    iexists _; iexact H3
  isplitl [X0]; · iexists _; iexact X0
  isplitl [X1]; · iexists _; iexact X1
  isplitl [X2]; · iexists _; iexact X2
  iexists _; iexact X3

theorem piece_back (v : Fin 640) (a0 a1 a2 a3 b0 b1 b2 b3) (hH : HOK v 0 a0 ∧ HOK v 1 a1 ∧ HOK v 2 a2 ∧ HOK v 3 a3)
    (hX : XOK v 0 b0 ∧ XOK v 1 b1 ∧ XOK v 2 b2 ∧ XOK v 3 b3) :
    iprop(hld c (hpc v 0) a0 ∗ hld c (hpc v 1) a1 ∗ hld c (hpc v 2) a2 ∗ hld c (hpc v 3) a3
      ∗ hld c (xpc v 0) b0 ∗ hld c (xpc v 1) b1 ∗ hld c (xpc v 2) b2 ∗ hld c (xpc v 3) b3) ⊢ opc c HOK XOK v 2 := by
  rw [opc_2]
  iintro ⟨H0, H1, H2, H3, X0, X1, X2, X3⟩
  isplitl [H0 H1 H2 H3]
  · iexists a0, a1, a2, a3
    isplitl [H0 H1 H2 H3]
    · isplitl [H0]; · iexact H0
      isplitl [H1]; · iexact H1
      isplitl [H2]; · iexact H2
      iexact H3
    ipureintro; exact hH
  iexists b0, b1, b2, b3
  isplitl [X0 X1 X2 X3]
  · isplitl [X0]; · iexact X0
    isplitl [X1]; · iexact X1
    isplitl [X2]; · iexact X2
    iexact X3
  ipureintro; exact hX

theorem tail_mid (h5 : ¬ (i 1).val = 19) (fa : Buf (Elt F) (accM.view.loc (c : Thread nD τ))) (b0 b1 : Bool) :
    iprop(hld c accM fa ∗ cellZ c cc0_scratch8 ∗ rhalf c ROK 0 b0 ∗ rhalf c ROK 1 b1 ∗ (∃ W, owes (c : Thread nD τ) 0 W))
      ⊢ wp frame (wpE (defs₀ (F := F)) Variants.none (c : Thread nD τ) none) Set.univ (tailP i arg2 harg2 arg3 harg3 arg4 harg4 arg5 harg5 arg6 harg6 arg7 harg7 arg8 harg8)
        fun _ => iprop(hld c accM fa ∗ cellZ c cc0_scratch8 ∗ rhalf c ROK 0 b0 ∗ rhalf c ROK 1 b1 ∗ (∃ W, owes (c : Thread nD τ) 0 W)) := by
  have C5 : ¬ k0_cond5 i = 1#1 := fun h => h5 ((cond5_iff i).mp h)
  have C6 : ¬ k0_cond6 i = 1#1 := fun h => by have := (cond6_iff i).mp h; have := isl i; unfold stepOf at *; omega
  iintro ⟨Ha, Hc, Hr0, Hr1, ⟨%W, HW⟩⟩
  unfold tailP
  sl_exec
  sl_step
  isplitl [Ha]; · iexact Ha
  isplitl [Hc]; · iexact Hc
  isplitl [Hr0]; · iexact Hr0
  isplitl [Hr1]; · iexact Hr1
  iexists _; iexact HW

theorem tail_half (h5 : (i 1).val = 19) (h0 : (i 0).val = 0) (fa : Buf (Elt F) (accM.view.loc (c : Thread nD τ)))
    (hr : ∀ p, ROK (i 0) ((rpc (i 0)).view.writes (Elt F) p [⟨Rect.whole S32x512x256, ReadAs.same.apply (accM.view.read (Elt F) fa)⟩])) :
    iprop(hld c accM fa ∗ cellZ c cc0_scratch8 ∗ rhalf c ROK (i 0) false ∗ (∃ W, owes (c : Thread nD τ) 0 W))
      ⊢ wp frame (wpE (defs₀ (F := F)) Variants.none (c : Thread nD τ) none) Set.univ (tailP i arg2 harg2 arg3 harg3 arg4 harg4 arg5 harg5 arg6 harg6 arg7 harg7 arg8 harg8)
        fun _ => iprop(hld c accM fa ∗ cellZ c cc0_scratch8 ∗ rhalf c ROK (i 0) true ∗ (∃ W, owes (c : Thread nD τ) 0 W)) := by
  have C5 : k0_cond5 i = 1#1 := (cond5_iff i).mpr h5
  have C6 : ¬ k0_cond6 i = 1#1 := fun h => by have := (cond6_iff i).mp h; have := isl i; unfold stepOf at *; omega
  dsimp only [rhalf]
  iintro ⟨Ha, Hc, ⟨%p, Hr⟩, ⟨%W, HW⟩⟩
  unfold tailP
  sl_exec
  sl_step
  isplitl [Ha]; · iexact Ha
  isplitl [Hc]; · iexact Hc
  isplitl [Hr]
  · iexists _
    isplitl [Hr]; · iexact Hr
    ipureintro; exact hr _
  iexists _; iexact HW

theorem tail_last (h5 : (i 1).val = 19) (h0 : (i 0).val = 1) (fa : Buf (Elt F) (accM.view.loc (c : Thread nD τ)))
    (hr : ∀ p, ROK (i 0) ((rpc (i 0)).view.writes (Elt F) p [⟨Rect.whole S32x512x256, ReadAs.same.apply (accM.view.read (Elt F) fa)⟩])) :
    iprop(hld c accM fa ∗ cellZ c cc0_scratch8 ∗ rhalf c ROK (i 0) false ∗ outs c HOK XOK 640 ∗ (∃ W, owes (c : Thread nD τ) 0 W))
      ⊢ wp frame (wpE (defs₀ (F := F)) Variants.none (c : Thread nD τ) none) Set.univ (tailP i arg2 harg2 arg3 harg3 arg4 harg4 arg5 harg5 arg6 harg6 arg7 harg7 arg8 harg8)
        fun _ => iprop(hld c accM fa ∗ cellZ c cc0_scratch8 ∗ rhalf c ROK (i 0) true ∗ outsFin c HOK XOK ∗ (∃ W, owes (c : Thread nD τ) 0 W)) := by
  have C5 : k0_cond5 i = 1#1 := (cond5_iff i).mpr h5
  have C6 : k0_cond6 i = 1#1 := (cond6_iff i).mpr (by unfold stepOf; omega)
  rw [outs_640]
  dsimp only [rhalf]
  rw [oslot_some, oslot_some]
  unfold flH flX
  iintro ⟨Ha, Hc, ⟨%p, Hr⟩, ⟨⟨⟨⟨%a0, %a1, %a2, %a3, %g0, %g1, %g2, %g3, HcH, %hH⟩, ⟨%b0, %b1, %b2, %b3, %e0, %e1, %e2, %e3, HcX, %hX⟩⟩,
    ⟨⟨%a0', %a1', %a2', %a3', %g0', %g1', %g2', %g3', HcH', %hH'⟩, ⟨%b0', %b1', %b2', %b3', %e0', %e1', %e2', %e3', HcX', %hX'⟩⟩⟩, ⟨-, Hrest⟩⟩, ⟨%W, HW⟩⟩
  unfold tailP
  sl_exec
  sl_step
  isplitl [Ha]; · iexact Ha
  isplitl [Hc]; · iexact Hc
  isplitl [Hr]
  · iexists _
    isplitl [Hr]; · iexact Hr
    ipureintro; exact hr _
  isplitr [HW]
  · iapply (outs_fin c HOK XOK)
    isplitl [HcH_src0 HcX_src0 HcH_src1 HcX_src1 HcH_src2 HcX_src2 HcH_src3 HcX_src3 HcH HcX HcH'_src0 HcX'_src0 HcH'_src1 HcX'_src1 HcH'_src2 HcX'_src2 HcH'_src3 HcX'_src3 HcH' HcX']
    · isplitl [HcH_src0 HcX_src0 HcH_src1 HcX_src1 HcH_src2 HcX_src2 HcH_src3 HcX_src3 HcH HcX]
      · iapply (slot_back c HOK XOK 0)
        isplitl [HcH]; · iexact HcH
        isplitl [HcX]; · iexact HcX
        isplitl [HcH_src0]; · iexact HcH_src0
        isplitl [HcH_src1]; · iexact HcH_src1
        isplitl [HcH_src2]; · iexact HcH_src2
        isplitl [HcH_src3]; · iexact HcH_src3
        isplitl [HcX_src0]; · iexact HcX_src0
        isplitl [HcX_src1]; · iexact HcX_src1
        isplitl [HcX_src2]; · iexact HcX_src2
        iexact HcX_src3
      · iapply (slot_back c HOK XOK 1)
        isplitl [HcH']; · iexact HcH'
        isplitl [HcX']; · iexact HcX'
        isplitl [HcH'_src0]; · iexact HcH'_src0
        isplitl [HcH'_src1]; · iexact HcH'_src1
        isplitl [HcH'_src2]; · iexact HcH'_src2
        isplitl [HcH'_src3]; · iexact HcH'_src3
        isplitl [HcX'_src0]; · iexact HcX'_src0
        isplitl [HcX'_src1]; · iexact HcX'_src1
        isplitl [HcX'_src2]; · iexact HcX'_src2
        iexact HcX'_src3
    · isplitr [Hrest]
      · isplitl [HcH_dst0 HcX_dst0 HcH_dst1 HcX_dst1 HcH_dst2 HcX_dst2 HcH_dst3 HcX_dst3]
        · iapply (piece_back c HOK XOK 638 _ _ _ _ _ _ _ _ hH hX)
          isplitl [HcH_dst0]; · iexact HcH_dst0
          isplitl [HcH_dst1]; · iexact HcH_dst1
          isplitl [HcH_dst2]; · iexact HcH_dst2
          isplitl [HcH_dst3]; · iexact HcH_dst3
          isplitl [HcX_dst0]; · iexact HcX_dst0
          isplitl [HcX_dst1]; · iexact HcX_dst1
          isplitl [HcX_dst2]; · iexact HcX_dst2
          iexact HcX_dst3
        · iapply (piece_back c HOK XOK 639 _ _ _ _ _ _ _ _ hH' hX')
          isplitl [HcH'_dst0]; · iexact HcH'_dst0
          isplitl [HcH'_dst1]; · iexact HcH'_dst1
          isplitl [HcH'_dst2]; · iexact HcH'_dst2
          isplitl [HcH'_dst3]; · iexact HcH'_dst3
          isplitl [HcX'_dst0]; · iexact HcX'_dst0
          isplitl [HcX'_dst1]; · iexact HcX'_dst1
          isplitl [HcX'_dst2]; · iexact HcX'_dst2
          iexact HcX'_dst3
      · iexact Hrest
  iexists _; iexact HW

/-- The dr halves before step `t`: a half is done when its last step is. -/
def rh (t : ℕ) : sProp 𝕄 := iprop(rhalf c ROK 0 (decide (20 ≤ t)) ∗ rhalf c ROK 1 (decide (40 ≤ t)))
/-- The output rings and the pieces before step `t`, and after the last. -/
def outsAt (t : ℕ) : sProp 𝕄 := if t = 40 then outsFin c HOK XOK else outs c HOK XOK (16 * t)

theorem tail_run (fa : Buf (Elt F) (accM.view.loc (c : Thread nD τ)))
    (hr : (i 1).val = 19 → ∀ p, ROK (i 0) ((rpc (i 0)).view.writes (Elt F) p [⟨Rect.whole S32x512x256, ReadAs.same.apply (accM.view.read (Elt F) fa)⟩])) :
    iprop(hld c accM fa ∗ cellZ c cc0_scratch8 ∗ rh c ROK (stepOf i) ∗ outs c HOK XOK (16 * stepOf i + 16) ∗ (∃ W, owes (c : Thread nD τ) 0 W))
      ⊢ wp frame (wpE (defs₀ (F := F)) Variants.none (c : Thread nD τ) none) Set.univ (tailP i arg2 harg2 arg3 harg3 arg4 harg4 arg5 harg5 arg6 harg6 arg7 harg7 arg8 harg8)
        fun _ => iprop(hld c accM fa ∗ cellZ c cc0_scratch8 ∗ rh c ROK (stepOf i + 1) ∗ outsAt c HOK XOK (stepOf i + 1) ∗ (∃ W, owes (c : Thread nD τ) 0 W)) := by
  have hi := isl i
  have hs : stepOf i = 20 * (i 0).val + (i 1).val := rfl
  unfold rh outsAt
  by_cases h5 : (i 1).val = 19
  · rcases (show (i 0).val = 0 ∨ (i 0).val = 1 by omega) with h0 | h0
    · have e0 : i 0 = (0 : Fin 2) := Fin.ext h0
      have hst : stepOf i = 19 := by omega
      have T := tail_half c i arg2 harg2 arg3 harg3 arg4 harg4 arg5 harg5 arg6 harg6 arg7 harg7 arg8 harg8 ROK h5 h0 fa (hr h5)
      rw [e0] at T
      rw [hst, if_neg (by decide)]
      iintro ⟨Ha, Hc, ⟨Hr0, Hr1⟩, Ho, HW⟩
      iapply (wp_wand_r frame (wpE (defs₀ (F := F)) Variants.none (c : Thread nD τ) none) Set.univ)
      isplitr [Hr1 Ho]
      · iapply T
        isplitl [Ha]; · iexact Ha
        isplitl [Hc]; · iexact Hc
        isplitl [Hr0]; · iexact Hr0
        iexact HW
      · iintro %u ⟨Ha, Hc, Hr0, HW⟩
        isplitl [Ha]; · iexact Ha
        isplitl [Hc]; · iexact Hc
        isplitl [Hr0 Hr1]
        · isplitl [Hr0]; · iexact Hr0
          iexact Hr1
        isplitl [Ho]; · iexact Ho
        iexact HW
    · have e0 : i 0 = (1 : Fin 2) := Fin.ext h0
      have hst : stepOf i = 39 := by omega
      have T := tail_last c i arg2 harg2 arg3 harg3 arg4 harg4 arg5 harg5 arg6 harg6 arg7 harg7 arg8 harg8 HOK XOK ROK h5 h0 fa (hr h5)
      rw [e0] at T
      rw [hst, if_pos (by decide)]
      iintro ⟨Ha, Hc, ⟨Hr0, Hr1⟩, Ho, HW⟩
      iapply (wp_wand_r frame (wpE (defs₀ (F := F)) Variants.none (c : Thread nD τ) none) Set.univ)
      isplitr [Hr0]
      · iapply T
        isplitl [Ha]; · iexact Ha
        isplitl [Hc]; · iexact Hc
        isplitl [Hr1]; · iexact Hr1
        isplitl [Ho]; · iexact Ho
        iexact HW
      · iintro %u ⟨Ha, Hc, Hr1, Ho, HW⟩
        isplitl [Ha]; · iexact Ha
        isplitl [Hc]; · iexact Hc
        isplitl [Hr0 Hr1]
        · isplitl [Hr0]; · iexact Hr0
          iexact Hr1
        isplitl [Ho]; · iexact Ho
        iexact HW
  · have T := tail_mid c i arg2 harg2 arg3 harg3 arg4 harg4 arg5 harg5 arg6 harg6 arg7 harg7 arg8 harg8 ROK h5 fa (decide (20 ≤ stepOf i)) (decide (40 ≤ stepOf i))
    have d1 : decide (20 ≤ stepOf i + 1) = decide (20 ≤ stepOf i) := decide_eq_decide.mpr (by omega)
    have d2 : decide (40 ≤ stepOf i + 1) = decide (40 ≤ stepOf i) := decide_eq_decide.mpr (by omega)
    have d3 : 16 * (stepOf i + 1) = 16 * stepOf i + 16 := by omega
    rw [d1, d2, d3, if_neg (by omega)]
    iintro ⟨Ha, Hc, ⟨Hr0, Hr1⟩, Ho, HW⟩
    iapply (wp_wand_r frame (wpE (defs₀ (F := F)) Variants.none (c : Thread nD τ) none) Set.univ)
    isplitr [Ho]
    · iapply T
      isplitl [Ha]; · iexact Ha
      isplitl [Hc]; · iexact Hc
      isplitl [Hr0]; · iexact Hr0
      isplitl [Hr1]; · iexact Hr1
      iexact HW
    · iintro %u ⟨Ha, Hc, Hr0, Hr1, HW⟩
      isplitl [Ha]; · iexact Ha
      isplitl [Hc]; · iexact Hc
      isplitl [Hr0 Hr1]
      · isplitl [Hr0]; · iexact Hr0
        iexact Hr1
      isplitl [Ho]; · iexact Ho
      iexact HW
end

end Cert.KernelIdeal.Hand
-- ==== Proof.KI.Loop1.lean ====
module

public import proofs.«01_k».proof.Proof.KI.Loop2

/-! One trip of the dh half's loop: a copy issued three chunks ahead, the chunk's own copy waited for, the inner loop. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section
variable (c : Dev nD) (XA : Buf (Elt F) (dyM.view.loc (c : Thread nD τ)))

theorem dslot_none (s : Fin 4) : dslot c XA s none = iprop(cellZ c (csD s) ∗ hldE c (dsl s) ∗ dtok c XA s Finset.univ) := rfl
theorem dslot_some (s : Fin 4) (j : ℕ) : dslot c XA s (some j)
    = iprop((∃ f, Transfers.Flight (countersEmb (U := Pipeline.UD sig nD τ)) (c : Thread nD τ) (SemLoc.dma (csD s).sem) () 16384
        iprop(hld c (dsl s) (dland c XA s j f) ∗ dtok c XA s (dbk (Ring.sl 160 j)).view.set))
      ∗ dtok c XA s (Finset.univ \ (dbk (Ring.sl 160 j)).view.set)) := rfl

/-- The ring before chunk `n`, three copies ahead as far as there are chunks. -/
def dringN (n : ℕ) : sProp 𝕄 := dring c XA n (min (n + 3) 320)

theorem sl4_ne (n : ℕ) : Ring.sl 4 (n + 3) ≠ Ring.sl 4 n := fun h => by
  have := congrArg Fin.val h
  rw [Ring.sl_val, Ring.sl_val] at this
  omega

theorem sl4_nodup (n : ℕ) : [Ring.sl 4 (n + 3), Ring.sl 4 n].Nodup := by
  rw [List.nodup_cons]; exact ⟨fun h => sl4_ne n (List.mem_singleton.mp h), List.nodup_singleton _⟩

/-- The ring opened where a copy is to be issued: the slot three ahead free, the current slot's copy in flight. -/
theorem dring_open (n : ℕ) (h : n + 3 < 320) :
    dringN c XA n = iprop((dslot c XA (Ring.sl 4 (n + 3)) none ∗ dslot c XA (Ring.sl 4 n) (some n))
      ∗ Ring.restL (dslot c XA) (dst n (n + 3)) [Ring.sl 4 (n + 3), Ring.sl 4 n]) := by
  have e : min (n + 3) 320 = n + 3 := by omega
  unfold dringN; rw [e]
  refine (Ring.AtW_focusL (dslot c XA) (dst n (n + 3)) _ (sl4_nodup n)).trans ?_
  show iprop((dslot c XA (Ring.sl 4 (n + 3)) (dst n (n + 3) (Ring.sl 4 (n + 3))) ∗ dslot c XA (Ring.sl 4 n) (dst n (n + 3) (Ring.sl 4 n))) ∗ _) = _
  rw [dst_at n (n + 3) (n + 3) (by omega) (by omega), if_neg (by omega), dst_at n (n + 3) n (by omega) (by omega), if_pos (by omega)]
/-- The ring closed again one chunk on. -/
theorem dring_close (n : ℕ) (h : n + 3 < 320) :
    iprop((dslot c XA (Ring.sl 4 (n + 3)) (some (n + 3)) ∗ dslot c XA (Ring.sl 4 n) none)
      ∗ Ring.restL (dslot c XA) (dst n (n + 3)) [Ring.sl 4 (n + 3), Ring.sl 4 n]) ⊢ dringN c XA (n + 1) := by
  have e : min (n + 1 + 3) 320 = n + 3 + 1 := by omega
  unfold dringN; rw [e]
  refine .trans ?_ (Ring.AtW_refocusL (dslot c XA) (dst n (n + 3)) (dst (n + 1) (n + 3 + 1)) [Ring.sl 4 (n + 3), Ring.sl 4 n] (sl4_nodup n) ?_)
  · refine Laws.sep_mono (Entails.of_eq ?_) .rfl
    have e1 : dst (n + 1) (n + 3 + 1) (Ring.sl 4 (n + 3)) = some (n + 3) := by
      rw [dst_at (n + 1) (n + 3 + 1) (n + 3) (by omega) (by omega), if_pos (by omega)]
    have e2 : dst (n + 1) (n + 3 + 1) (Ring.sl 4 n) = none := dst_wait_self n (n + 3 + 1) (by omega)
    show _ = iprop(dslot c XA (Ring.sl 4 (n + 3)) (dst (n + 1) (n + 3 + 1) (Ring.sl 4 (n + 3))) ∗ dslot c XA (Ring.sl 4 n) (dst (n + 1) (n + 3 + 1) (Ring.sl 4 n)))
    rw [e1, e2]
  · intro s hs
    simp only [List.mem_cons, List.not_mem_nil, _root_.or_false, not_or, not_false_eq_true, and_true] at hs
    rw [dst_wait n (n + 3 + 1) (by omega) s hs.2, dst_issue n (n + 3) (by omega) s hs.1]

/-- The ring opened where nothing is left to issue. -/
theorem dring_openL (n : ℕ) (h : ¬ n + 3 < 320) (hn : n < 320) :
    dringN c XA n = iprop(dslot c XA (Ring.sl 4 n) (some n) ∗ Ring.restL (dslot c XA) (dst n 320) [Ring.sl 4 n]) := by
  have e : min (n + 3) 320 = 320 := by omega
  unfold dringN; rw [e]
  refine (Ring.AtW_focusL (dslot c XA) (dst n 320) [Ring.sl 4 n] (by simp)).trans ?_
  show iprop(dslot c XA (Ring.sl 4 n) (dst n 320 (Ring.sl 4 n)) ∗ _) = _
  rw [dst_at n 320 n (by omega) (by omega), if_pos hn]
theorem dring_closeL (n : ℕ) (h : ¬ n + 3 < 320) (hn : n < 320) :
    iprop(dslot c XA (Ring.sl 4 n) none ∗ Ring.restL (dslot c XA) (dst n 320) [Ring.sl 4 n]) ⊢ dringN c XA (n + 1) := by
  have e : min (n + 1 + 3) 320 = 320 := by omega
  unfold dringN; rw [e]
  refine .trans ?_ (Ring.AtW_refocusL (dslot c XA) (dst n 320) (dst (n + 1) 320) [Ring.sl 4 n] (by simp) ?_)
  · refine Laws.sep_mono (Entails.of_eq ?_) .rfl
    have e2 : dst (n + 1) 320 (Ring.sl 4 n) = none := dst_wait_self n 320 (by omega)
    show _ = dslot c XA (Ring.sl 4 n) (dst (n + 1) 320 (Ring.sl 4 n))
    rw [e2]
  · intro s hs
    simp only [List.mem_cons, List.not_mem_nil, _root_.or_false] at hs
    exact dst_wait n 320 (by omega) s hs
end

section
variable (c : Dev nD) (XA : Buf (Elt F) (dyM.view.loc (c : Thread nD τ))) (i : grid0.Coords)
  (arg2 : Memref sig .tc .smem S64 .f32) (harg2 : arg2.IsWhole) (arg3 : Memref sig .tc .vmem S256x8192 .fp8e4m3) (harg3 : arg3.IsWhole)
  (arg4 : Memref sig .tc .vmem S8x16x256 .bf16) (harg4 : arg4.IsWhole) (arg5 : Memref sig .tc .vmem S32x1x256 .f32) (harg5 : arg5.IsWhole)
  (arg6 : Memref sig .tc .vmem S64x256x256 .fp8e4m3) (harg6 : arg6.IsWhole) (arg7 : Memref sig .tc .vmem S512x128 .f32) (harg7 : arg7.IsWhole)
  (arg8 : Memref sig .tc .vmem S32x512x256 .fp8e4m3) (harg8 : arg8.IsWhole)
  (f4 : Buf (Elt F) (arg4.view.loc (c : Thread nD τ))) (f6 : Buf (Elt F) (arg6.view.loc (c : Thread nD τ)))
  (f7 : Buf (Elt F) (arg7.view.loc (c : Thread nD τ)))

abbrev trip1 (w1 : BitVec 32) (k1 : Fin k0_t1_loop.trips) : Prog (TpuEff nD τ sig (Elt F) Λ₀ .tc) Unit :=
  k0_t1_body (F := F) i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 w1 k1 ()

/-- The transposed dh buffer after a chunk, from `fo`. -/
def dhtChunk (k1 : Fin k0_t1_loop.trips) (fo : Buf (Elt F) (dhtM.view.loc (c : Thread nD τ))) : Buf (Elt F) (dhtM.view.loc (c : Thread nD τ)) :=
  dhtIter c i arg4 arg6 arg7 f4 f6 f7 k1 (dland c XA (Ring.sl 4 (cnt i k1)) (cnt i k1) (dsl (Ring.sl 4 (cnt i k1))).view.junk) fo k0_t2_loop.trips

theorem trip1_run (w1 : BitVec 32) (k1 : Fin k0_t1_loop.trips) (fo : Buf (Elt F) (dhtM.view.loc (c : Thread nD τ))) :
    iprop(dringN c XA (cnt i k1) ∗ hld c arg4 f4 ∗ hld c arg6 f6 ∗ hld c arg7 f7 ∗ hld c dhtM fo ∗ (∃ W, owes (c : Thread nD τ) 0 W))
      ⊢ wp frame (wpE (defs₀ (F := F)) Variants.none (c : Thread nD τ) none) Set.univ (trip1 i arg2 harg2 arg3 harg3 arg4 harg4 arg5 harg5 arg6 harg6 arg7 harg7 arg8 harg8 w1 k1)
        fun _ => iprop(dringN c XA (cnt i k1 + 1) ∗ hld c arg4 f4 ∗ hld c arg6 f6 ∗ hld c arg7 f7
          ∗ hld c dhtM (dhtChunk c XA i arg4 arg6 arg7 f4 f6 f7 k1 fo) ∗ (∃ W, owes (c : Thread nD τ) 0 W)) := by
  have hk1 : k1.val < 8 := k1l k1
  rcases Classical.em (k0_cond3 i k1 = 1#1) with hc | hc
  · have hn := (cond3_iff i k1).mp hc
    rw [dring_open c XA _ hn]
    rw [dslot_none, dslot_some]
    iintro ⟨⟨⟨⟨Hz, ⟨%fz, Hs⟩, Ht⟩, ⟨⟨%ff, HF⟩, Hx⟩⟩, Hrest⟩, H4, H6, H7, Ho, ⟨%W, HW⟩⟩
    dsimp only [trip1]
    sl_unfold [k0_t1_body]
    sl_exec
    sl_step
    isplitl [Hrest Hz Ht Hx HF HF_dst]
    · iapply (dring_close c XA _ hn)
      isplitr [Hrest]
      · rw [dslot_none, dslot_some]
        isplitl [Hz Ht]
        · isplitl [Hz]
          · iexists fz; iexact Hz
          · iexact Ht
        · isplitl [HF]; · iexact HF
          isplitl [HF_dst]
          · iexists _; iexact HF_dst
          · iexact Hx
      · iexact Hrest
    isplitl [H4]; · iexact H4
    isplitl [H6]; · iexact H6
    isplitl [H7]; · iexact H7
    isplitl [Ho]; · iexact Ho
    iexists _; iexact HW
  · have hn : ¬ cnt i k1 + 3 < 320 := fun h => hc ((cond3_iff i k1).mpr h)
    have hn' : cnt i k1 < 320 := by have := isl i; show 8 * (20 * (i 0).val + (i 1).val) + k1.val < 320; omega
    rw [dring_openL c XA _ hn hn', dslot_some]
    iintro ⟨⟨⟨⟨%ff, HF⟩, Hx⟩, Hrest⟩, H4, H6, H7, Ho, ⟨%W, HW⟩⟩
    dsimp only [trip1]
    sl_unfold [k0_t1_body]
    sl_exec
    sl_step
    isplitl [Hrest Hx HF HF_dst]
    · iapply (dring_closeL c XA _ hn hn')
      isplitr [Hrest]
      · rw [dslot_none]
        isplitl [HF]; · iexact HF
        isplitl [HF_dst]
        · iexists _; iexact HF_dst
        · iexact Hx
      · iexact Hrest
    isplitl [H4]; · iexact H4
    isplitl [H6]; · iexact H6
    isplitl [H7]; · iexact H7
    isplitl [Ho]; · iexact Ho
    iexists _; iexact HW

end

end Cert.KernelIdeal.Hand
-- ==== Proof.KI.Loop1b.lean ====
module

public import proofs.«01_k».proof.Proof.KI.Loop1

/-! The dh half's loop, whole. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section
variable (c : Dev nD) (XA : Buf (Elt F) (dyM.view.loc (c : Thread nD τ))) (i : grid0.Coords)
  (arg2 : Memref sig .tc .smem S64 .f32) (harg2 : arg2.IsWhole) (arg3 : Memref sig .tc .vmem S256x8192 .fp8e4m3) (harg3 : arg3.IsWhole)
  (arg4 : Memref sig .tc .vmem S8x16x256 .bf16) (harg4 : arg4.IsWhole) (arg5 : Memref sig .tc .vmem S32x1x256 .f32) (harg5 : arg5.IsWhole)
  (arg6 : Memref sig .tc .vmem S64x256x256 .fp8e4m3) (harg6 : arg6.IsWhole) (arg7 : Memref sig .tc .vmem S512x128 .f32) (harg7 : arg7.IsWhole)
  (arg8 : Memref sig .tc .vmem S32x512x256 .fp8e4m3) (harg8 : arg8.IsWhole)
  (f4 : Buf (Elt F) (arg4.view.loc (c : Thread nD τ))) (f6 : Buf (Elt F) (arg6.view.loc (c : Thread nD τ)))
  (f7 : Buf (Elt F) (arg7.view.loc (c : Thread nD τ)))

/-- The transposed dh buffer through the first `n` chunks of a step, from `fo`. -/
def dhtIter1 (fo : Buf (Elt F) (dhtM.view.loc (c : Thread nD τ))) (n : ℕ) : Buf (Elt F) (dhtM.view.loc (c : Thread nD τ)) :=
  iterFin k0_t1_loop.trips (fun k1 => dhtChunk c XA i arg4 arg6 arg7 f4 f6 f7 k1) fo n

/-- What the chunk loop holds before trip `n`. -/
def inv1 (fo : Buf (Elt F) (dhtM.view.loc (c : Thread nD τ))) (n : ℕ) (_ : Unit) : sProp 𝕄 :=
  iprop(dringN c XA (8 * stepOf i + n) ∗ hld c arg4 f4 ∗ hld c arg6 f6 ∗ hld c arg7 f7
    ∗ hld c dhtM (dhtIter1 c XA i arg4 arg6 arg7 f4 f6 f7 fo n) ∗ (∃ W, owes (c : Thread nD τ) 0 W))

attribute [local irreducible] k0_t1_body

theorem step1 (w1 : BitVec 32) (fo : Buf (Elt F) (dhtM.view.loc (c : Thread nD τ))) (k : Fin k0_t1_loop.trips) :
    inv1 c XA i arg4 arg6 arg7 f4 f6 f7 fo k.val () ⊢ wp frame (wpE (defs₀ (F := F)) Variants.none (c : Thread nD τ) none) Set.univ (trip1 i arg2 harg2 arg3 harg3 arg4 harg4 arg5 harg5 arg6 harg6 arg7 harg7 arg8 harg8 w1 k)
      fun u => inv1 c XA i arg4 arg6 arg7 f4 f6 f7 fo (k.val + 1) u := by
  unfold inv1
  have e : dhtIter1 c XA i arg4 arg6 arg7 f4 f6 f7 fo (k.val + 1)
      = dhtChunk c XA i arg4 arg6 arg7 f4 f6 f7 k (dhtIter1 c XA i arg4 arg6 arg7 f4 f6 f7 fo k.val) := by
    unfold dhtIter1; exact iterFin_succ _ _ _ k
  have e2 : 8 * stepOf i + (k.val + 1) = cnt i k + 1 := by unfold cnt; omega
  have e3 : 8 * stepOf i + k.val = cnt i k := by unfold cnt; omega
  rw [e, e2, e3]
  have h := trip1_run c XA i arg2 harg2 arg3 harg3 arg4 harg4 arg5 harg5 arg6 harg6 arg7 harg7 arg8 harg8 f4 f6 f7 w1 k (dhtIter1 c XA i arg4 arg6 arg7 f4 f6 f7 fo k.val)
  exact h

set_option warn.classDefReducibility false in
/-- The chunk loop's invariant. -/
@[sl_loop] def loopInv1 (w1 : BitVec 32) (fo : Buf (Elt F) (dhtM.view.loc (c : Thread nD τ))) :
    LoopInvTy_k0_t1 (F := F) Unit ℕ (Pipeline.UD sig nD τ) ℕ Variants.none c none Set.univ i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 w1 where
  inv n u := inv1 c XA i arg4 arg6 arg7 f4 f6 f7 fo n u
  step k u := by
    cases u
    exact step1 c XA i arg2 harg2 arg3 harg3 arg4 harg4 arg5 harg5 arg6 harg6 arg7 harg7 arg8 harg8 f4 f6 f7 w1 fo k
end

end Cert.KernelIdeal.Hand
-- ==== Proof.KI.Body.lean ====
module

public import proofs.«01_k».proof.Proof.KI.Tail
public import proofs.«01_k».proof.Proof.KI.Loop1b

/-! The body at one grid point, by the point's case. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- The step's number as the program computes it, tested for zero. -/
abbrev c1 (i : grid0.Coords) : BitVec 1 :=
  Scalar.cmpi .ne (Scalar.extui (Scalar.cmpi .eq (Scalar.addi (Scalar.muli (BitVec.ofNat 32 (i 0).val) 20#32) (BitVec.ofNat 32 (i 1).val)) 0#32)) 0#32
abbrev c2 (i : grid0.Coords) : BitVec 1 :=
  Scalar.cmpi .ne (Scalar.extui (Scalar.cmpi .eq (BitVec.ofNat 32 (i 1).val) 0#32)) 0#32
theorem c1_iff : ∀ i : grid0.Coords, c1 i = 1#1 ↔ stepOf i = 0 := by decide +kernel
theorem c2_iff : ∀ i : grid0.Coords, c2 i = 1#1 ↔ (i 1).val = 0 := by decide +kernel

section
variable (c : Dev nD) (XA : Buf (Elt F) (dyM.view.loc (c : Thread nD τ)))

/-- The ring all free, by its four slots. -/
theorem dring_zero : dring c XA 0 0 = iprop(dslot c XA 0 none ∗ dslot c XA 1 none ∗ dslot c XA 2 none ∗ dslot c XA 3 none) := by
  exact (Ring.AtW_eq_list (dslot c XA) (dst 0 0) [0, 1, 2, 3] (by decide) (by decide)).trans rfl
/-- The ring after the prologue, by its four slots. -/
theorem dring_three : dring c XA 0 3 = iprop(dslot c XA 0 (some 0) ∗ dslot c XA 1 (some 1) ∗ dslot c XA 2 (some 2) ∗ dslot c XA 3 none) := by
  exact (Ring.AtW_eq_list (dslot c XA) (dst 0 3) [0, 1, 2, 3] (by decide) (by decide)).trans rfl

variable (i : grid0.Coords)
  (arg2 : Memref sig .tc .smem S64 .f32) (harg2 : arg2.IsWhole) (arg3 : Memref sig .tc .vmem S256x8192 .fp8e4m3) (harg3 : arg3.IsWhole)
  (arg4 : Memref sig .tc .vmem S8x16x256 .bf16) (harg4 : arg4.IsWhole) (arg5 : Memref sig .tc .vmem S32x1x256 .f32) (harg5 : arg5.IsWhole)
  (arg6 : Memref sig .tc .vmem S64x256x256 .fp8e4m3) (harg6 : arg6.IsWhole) (arg7 : Memref sig .tc .vmem S512x128 .f32) (harg7 : arg7.IsWhole)
  (arg8 : Memref sig .tc .vmem S32x512x256 .fp8e4m3) (harg8 : arg8.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))
  (f8 : Buf (Elt F) (arg8.view.loc (c : Thread nD τ)))
  (HOK : ∀ (v : Fin 640) (q : Fin 4), Buf (Elt F) ((hpc v q).view.loc (c : Thread nD τ)) → Prop)
  (XOK : ∀ (v : Fin 640) (q : Fin 4), Buf (Elt F) ((xpc v q).view.loc (c : Thread nD τ)) → Prop)
  (ROK : ∀ h : Fin 2, Buf (Elt F) ((rpc h).view.loc (c : Thread nD τ)) → Prop)

abbrev bodyP : Prog (TpuEff nD τ sig (Elt F) Λ₀ .tc) PUnit :=
  cc0_monarch_dx (F := F) i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8

/-- The operands, read only. -/
def reads : sProp 𝕄 := iprop(hld c arg2 f2 ∗ hld c arg3 f3 ∗ hld c arg4 f4 ∗ hld c arg5 f5 ∗ hld c arg6 f6 ∗ hld c arg7 f7 ∗ hld c arg8 f8)

/-- The accumulator zeroed. -/
def accZ : Buf (Elt F) (accM.view.loc (c : Thread nD τ)) :=
  accM.view.writes (Elt F) accM.view.junk [⟨Rect.unit (s := S32x512x256) ![0, 0, 0] S32x512x256.size inb_S32x512x256_S32x512x256_0_0_0, k0_pay2⟩]

attribute [local irreducible] k0_t3_body k0_t1_body

/-- A grid point that starts no half. -/
theorem body_mid (h1 : ¬ (i 1).val = 0) (fo : Buf (Elt F) (dhtM.view.loc (c : Thread nD τ))) (fa : Buf (Elt F) (accM.view.loc (c : Thread nD τ)))
    (hok : ∀ k, TripOK c i arg2 arg8 f2 f8 k (dhtIter1 c XA i arg4 arg6 arg7 f4 f6 f7 fo k0_t1_loop.trips) HOK XOK)
    (hr : (i 1).val = 19 → ∀ p, ROK (i 0) ((rpc (i 0)).view.writes (Elt F) p [⟨Rect.whole S32x512x256, ReadAs.same.apply (accM.view.read (Elt F) (accIter c arg3 arg5 f3 f5 (dhtIter1 c XA i arg4 arg6 arg7 f4 f6 f7 fo k0_t1_loop.trips) (fa) k0_t3_loop.trips))⟩])) :
    iprop(reads c arg2 arg3 arg4 arg5 arg6 arg7 arg8 f2 f3 f4 f5 f6 f7 f8 ∗ dringN c XA (8 * stepOf i + 0) ∗ hld c dhtM fo ∗ hld c accM fa ∗ cellZ c cc0_scratch8 ∗ rh c ROK (stepOf i) ∗ outs c HOK XOK (16 * stepOf i + 0) ∗ (∃ W, owes (c : Thread nD τ) 0 W))
      ⊢ wp frame (wpE (defs₀ (F := F)) Variants.none (c : Thread nD τ) none) Set.univ (bodyP i arg2 harg2 arg3 harg3 arg4 harg4 arg5 harg5 arg6 harg6 arg7 harg7 arg8 harg8)
        fun _ => iprop(reads c arg2 arg3 arg4 arg5 arg6 arg7 arg8 f2 f3 f4 f5 f6 f7 f8
          ∗ dringN c XA (8 * stepOf i + 8) ∗ hld c dhtM (dhtIter1 c XA i arg4 arg6 arg7 f4 f6 f7 fo k0_t1_loop.trips)
          ∗ hld c accM (accIter c arg3 arg5 f3 f5 (dhtIter1 c XA i arg4 arg6 arg7 f4 f6 f7 fo k0_t1_loop.trips) (fa) k0_t3_loop.trips) ∗ cellZ c cc0_scratch8 ∗ rh c ROK (stepOf i + 1) ∗ outsAt c HOK XOK (stepOf i + 1) ∗ (∃ W, owes (c : Thread nD τ) 0 W)) := by
  have C1 : ¬ c1 i = 1#1 := fun h => by have := (c1_iff i).mp h; unfold stepOf at this; omega
  have C2 : ¬ c2 i = 1#1 := fun h => h1 ((c2_iff i).mp h)
  dsimp only [c1] at C1
  dsimp only [c2] at C2
  unfold reads dringN outs
  iintro ⟨⟨H2, H3, H4, H5, H6, H7, H8⟩, Hr, Hd, Ha, Hc, Hrh, ⟨Ho, Hp⟩, ⟨%W, HW⟩⟩
  dsimp only [bodyP]
  simp only [cc0_monarch_dx_eq_skeleton]; unfold cc0_monarch_dx_skel
  sl_exec
  dsimp only [loopInv1, loopInv3]
  iapply (wp_wand_r frame (wpE (defs₀ (F := F)) Variants.none (c : Thread nD τ) none) Set.univ)
  isplitl [Ha Hc Hrh Ho Hp HW]
  · iapply (tail_run c i arg2 harg2 arg3 harg3 arg4 harg4 arg5 harg5 arg6 harg6 arg7 harg7 arg8 harg8 HOK XOK ROK (accIter c arg3 arg5 f3 f5 (dhtIter1 c XA i arg4 arg6 arg7 f4 f6 f7 fo k0_t1_loop.trips) (fa) k0_t3_loop.trips) hr)
    isplitl [Ha]; · iexact Ha
    isplitl [Hc]; · iexact Hc
    isplitl [Hrh]; · iexact Hrh
    isplitl [Ho Hp]
    · unfold outs
      isplitl [Ho]; · iexact Ho
      iexact Hp
    iexists _; iexact HW
  iintro %u ⟨Ha, Hc, Hrh, Ho, HW⟩
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  isplitl [Hr]; · iexact Hr
  isplitl [Hd]; · iexact Hd
  isplitl [Ha]; · iexact Ha
  isplitl [Hc]; · iexact Hc
  isplitl [Hrh]; · iexact Hrh
  isplitl [Ho]; · iexact Ho
  iexact HW

/-- The first grid point of a half, but for the first of all. -/
theorem body_half (h1 : (i 1).val = 0) (h0 : ¬ stepOf i = 0) (fo : Buf (Elt F) (dhtM.view.loc (c : Thread nD τ))) (fa : Buf (Elt F) (accM.view.loc (c : Thread nD τ)))
    (hok : ∀ k, TripOK c i arg2 arg8 f2 f8 k (dhtIter1 c XA i arg4 arg6 arg7 f4 f6 f7 fo k0_t1_loop.trips) HOK XOK)
    (hr : (i 1).val = 19 → ∀ p, ROK (i 0) ((rpc (i 0)).view.writes (Elt F) p [⟨Rect.whole S32x512x256, ReadAs.same.apply (accM.view.read (Elt F) (accIter c arg3 arg5 f3 f5 (dhtIter1 c XA i arg4 arg6 arg7 f4 f6 f7 fo k0_t1_loop.trips) (accZ c) k0_t3_loop.trips))⟩])) :
    iprop(reads c arg2 arg3 arg4 arg5 arg6 arg7 arg8 f2 f3 f4 f5 f6 f7 f8 ∗ dringN c XA (8 * stepOf i + 0) ∗ hld c dhtM fo ∗ hld c accM fa ∗ cellZ c cc0_scratch8 ∗ rh c ROK (stepOf i) ∗ outs c HOK XOK (16 * stepOf i + 0) ∗ (∃ W, owes (c : Thread nD τ) 0 W))
      ⊢ wp frame (wpE (defs₀ (F := F)) Variants.none (c : Thread nD τ) none) Set.univ (bodyP i arg2 harg2 arg3 harg3 arg4 harg4 arg5 harg5 arg6 harg6 arg7 harg7 arg8 harg8)
        fun _ => iprop(reads c arg2 arg3 arg4 arg5 arg6 arg7 arg8 f2 f3 f4 f5 f6 f7 f8
          ∗ dringN c XA (8 * stepOf i + 8) ∗ hld c dhtM (dhtIter1 c XA i arg4 arg6 arg7 f4 f6 f7 fo k0_t1_loop.trips)
          ∗ hld c accM (accIter c arg3 arg5 f3 f5 (dhtIter1 c XA i arg4 arg6 arg7 f4 f6 f7 fo k0_t1_loop.trips) (accZ c) k0_t3_loop.trips) ∗ cellZ c cc0_scratch8 ∗ rh c ROK (stepOf i + 1) ∗ outsAt c HOK XOK (stepOf i + 1) ∗ (∃ W, owes (c : Thread nD τ) 0 W)) := by
  have C1 : ¬ c1 i = 1#1 := fun h => h0 ((c1_iff i).mp h)
  have C2 : c2 i = 1#1 := (c2_iff i).mpr h1
  obtain ⟨fz, hz⟩ : ∃ fz, accZ (F := F) c = fz := ⟨accZ (F := F) c, rfl⟩
  rw [hz] at hr ⊢
  dsimp only [c1] at C1
  dsimp only [c2] at C2
  unfold reads outs
  iintro ⟨⟨H2, H3, H4, H5, H6, H7, H8⟩, Hr, Hd, Ha, Hc, Hrh, ⟨Ho, Hp⟩, ⟨%W, HW⟩⟩
  dsimp only [bodyP]
  simp only [cc0_monarch_dx_eq_skeleton]; unfold cc0_monarch_dx_skel
  sl_exec
  ihave Ha : hld c accM fz $$ [Ha]
  · rw [← hz]; iexact Ha
  unfold dringN
  sl_exec
  dsimp only [loopInv1, loopInv3]
  iapply (wp_wand_r frame (wpE (defs₀ (F := F)) Variants.none (c : Thread nD τ) none) Set.univ)
  isplitl [Ha Hc Hrh Ho Hp HW]
  · iapply (tail_run c i arg2 harg2 arg3 harg3 arg4 harg4 arg5 harg5 arg6 harg6 arg7 harg7 arg8 harg8 HOK XOK ROK (accIter c arg3 arg5 f3 f5 (dhtIter1 c XA i arg4 arg6 arg7 f4 f6 f7 fo k0_t1_loop.trips) (fz) k0_t3_loop.trips) hr)
    isplitl [Ha]; · iexact Ha
    isplitl [Hc]; · iexact Hc
    isplitl [Hrh]; · iexact Hrh
    isplitl [Ho Hp]
    · unfold outs
      isplitl [Ho]; · iexact Ho
      iexact Hp
    iexists _; iexact HW
  iintro %u ⟨Ha, Hc, Hrh, Ho, HW⟩
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  isplitl [Hr]; · iexact Hr
  isplitl [Hd]; · iexact Hd
  isplitl [Ha]; · iexact Ha
  isplitl [Hc]; · iexact Hc
  isplitl [Hrh]; · iexact Hrh
  isplitl [Ho]; · iexact Ho
  iexact HW

/-- The first grid point. -/
theorem body_first (h1 : (i 1).val = 0) (h0 : stepOf i = 0) (fo : Buf (Elt F) (dhtM.view.loc (c : Thread nD τ))) (fa : Buf (Elt F) (accM.view.loc (c : Thread nD τ)))
    (hok : ∀ k, TripOK c i arg2 arg8 f2 f8 k (dhtIter1 c XA i arg4 arg6 arg7 f4 f6 f7 fo k0_t1_loop.trips) HOK XOK)
    (hr : (i 1).val = 19 → ∀ p, ROK (i 0) ((rpc (i 0)).view.writes (Elt F) p [⟨Rect.whole S32x512x256, ReadAs.same.apply (accM.view.read (Elt F) (accIter c arg3 arg5 f3 f5 (dhtIter1 c XA i arg4 arg6 arg7 f4 f6 f7 fo k0_t1_loop.trips) (accZ c) k0_t3_loop.trips))⟩])) :
    iprop(reads c arg2 arg3 arg4 arg5 arg6 arg7 arg8 f2 f3 f4 f5 f6 f7 f8 ∗ dring c XA 0 0 ∗ hld c dhtM fo ∗ hld c accM fa ∗ cellZ c cc0_scratch8 ∗ rh c ROK (stepOf i) ∗ outs c HOK XOK (16 * stepOf i + 0) ∗ (∃ W, owes (c : Thread nD τ) 0 W))
      ⊢ wp frame (wpE (defs₀ (F := F)) Variants.none (c : Thread nD τ) none) Set.univ (bodyP i arg2 harg2 arg3 harg3 arg4 harg4 arg5 harg5 arg6 harg6 arg7 harg7 arg8 harg8)
        fun _ => iprop(reads c arg2 arg3 arg4 arg5 arg6 arg7 arg8 f2 f3 f4 f5 f6 f7 f8
          ∗ dringN c XA (8 * stepOf i + 8) ∗ hld c dhtM (dhtIter1 c XA i arg4 arg6 arg7 f4 f6 f7 fo k0_t1_loop.trips)
          ∗ hld c accM (accIter c arg3 arg5 f3 f5 (dhtIter1 c XA i arg4 arg6 arg7 f4 f6 f7 fo k0_t1_loop.trips) (accZ c) k0_t3_loop.trips) ∗ cellZ c cc0_scratch8 ∗ rh c ROK (stepOf i + 1) ∗ outsAt c HOK XOK (stepOf i + 1) ∗ (∃ W, owes (c : Thread nD τ) 0 W)) := by
  have C1 : c1 i = 1#1 := (c1_iff i).mpr h0
  have C2 : c2 i = 1#1 := (c2_iff i).mpr h1
  obtain ⟨fz, hz⟩ : ∃ fz, accZ (F := F) c = fz := ⟨accZ (F := F) c, rfl⟩
  rw [hz] at hr ⊢
  dsimp only [c1] at C1
  dsimp only [c2] at C2
  rw [dring_zero, dslot_none, dslot_none, dslot_none]
  unfold reads outs
  iintro ⟨⟨H2, H3, H4, H5, H6, H7, H8⟩, ⟨⟨Hz0, ⟨%z0, Hs0⟩, Ht0⟩, ⟨Hz1, ⟨%z1, Hs1⟩, Ht1⟩, ⟨Hz2, ⟨%z2, Hs2⟩, Ht2⟩, Hl⟩, Hd, Ha, Hc, Hrh, ⟨Ho, Hp⟩, ⟨%W, HW⟩⟩
  dsimp only [bodyP]
  simp only [cc0_monarch_dx_eq_skeleton]; unfold cc0_monarch_dx_skel
  sl_exec
  have hring : dring c XA (8 * stepOf i + 0) (min (8 * stepOf i + 0 + 3) 320) = dring c XA 0 3 := by rw [h0]; rfl
  ihave Hr : dring c XA (8 * stepOf i + 0) (min (8 * stepOf i + 0 + 3) 320) $$ [Hz0 Ht0 Hz1 Ht1 Hz2 Ht2 Hl]
  · rw [hring, dring_three, dslot_some, dslot_some, dslot_some]
    isplitl [Hz0 Ht0]
    · isplitl [Hz0]; · iexists z0; iexact Hz0
      iexact Ht0
    isplitl [Hz1 Ht1]
    · isplitl [Hz1]; · iexists z1; iexact Hz1
      iexact Ht1
    isplitl [Hz2 Ht2]
    · isplitl [Hz2]; · iexists z2; iexact Hz2
      iexact Ht2
    iexact Hl
  ihave Ha : hld c accM fz $$ [Ha]
  · rw [← hz]; iexact Ha
  unfold dringN
  sl_exec
  dsimp only [loopInv1, loopInv3]
  iapply (wp_wand_r frame (wpE (defs₀ (F := F)) Variants.none (c : Thread nD τ) none) Set.univ)
  isplitl [Ha Hc Hrh Ho Hp HW]
  · iapply (tail_run c i arg2 harg2 arg3 harg3 arg4 harg4 arg5 harg5 arg6 harg6 arg7 harg7 arg8 harg8 HOK XOK ROK (accIter c arg3 arg5 f3 f5 (dhtIter1 c XA i arg4 arg6 arg7 f4 f6 f7 fo k0_t1_loop.trips) (fz) k0_t3_loop.trips) hr)
    isplitl [Ha]; · iexact Ha
    isplitl [Hc]; · iexact Hc
    isplitl [Hrh]; · iexact Hrh
    isplitl [Ho Hp]
    · unfold outs
      isplitl [Ho]; · iexact Ho
      iexact Hp
    iexists _; iexact HW
  iintro %u ⟨Ha, Hc, Hrh, Ho, HW⟩
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  isplitl [Hr]; · iexact Hr
  isplitl [Hd]; · iexact Hd
  isplitl [Ha]; · iexact Ha
  isplitl [Hc]; · iexact Hc
  isplitl [Hrh]; · iexact Hrh
  isplitl [Ho]; · iexact Ho
  iexact HW

end

end Cert.KernelIdeal.Hand
-- ==== Proof.KI.Split.lean ====
module

public import proofs.«01_k».proof.Proof.KI.Out
public import Idealize.ShloMosaic.Lib.Pipeline.ValueKit.Geometry

/-! Cutting the buffers the launch hands over whole into the pieces the body works on, and joining them back. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-! ## A buffer cut into `n` groups of four pieces -/

section four
variable {ℓ : Loc nD τ sig} {n : ℕ} (S : Fin n → Fin 4 → Finset (Idx ℓ))
  (hd : ∀ v q v' q', (v ≠ v' ∨ q ≠ q') → Disjoint (S v q) (S v' q')) (hc : ∀ i, ∃ v q, i ∈ S v q)

include hd in
theorem four_disjoint (v v' : Fin n) (h : v ≠ v') : Disjoint (Finset.univ.biUnion (S v)) (Finset.univ.biUnion (S v')) := by
  rw [Finset.disjoint_biUnion_left]; intro q _
  rw [Finset.disjoint_biUnion_right]; intro q' _
  exact hd v q v' q' (Or.inl h)

include hc in
theorem four_cover : Finset.univ.biUnion (fun v => Finset.univ.biUnion (S v)) = Finset.univ := by
  ext i
  simp only [Finset.mem_biUnion, Finset.mem_univ, true_and, iff_true]
  obtain ⟨v, q, h⟩ := hc i
  exact ⟨v, q, h⟩

include hd in
theorem four_one (v : Fin n) (f : Buf (Elt F) ℓ) :
    (ℓ ↦[Finset.univ.biUnion (S v)]{fullShare} f : sProp 𝕄)
      = iprop((ℓ ↦[S v 0]{fullShare} f) ∗ (ℓ ↦[S v 1]{fullShare} f) ∗ (ℓ ↦[S v 2]{fullShare} f) ∗ (ℓ ↦[S v 3]{fullShare} f)) :=
  (pointsTo_biUnion Finset.univ (S v) (fun q _ q' _ h => hd v q v q' (Or.inr h))).trans
    (BI.bigSep_univ_eq_bigSepL [(0 : Fin 4), 1, 2, 3] (by decide) (by decide) _)

include hd hc in
theorem four_cut (f : Buf (Elt F) ℓ) :
    (ℓ ↦{fullShare} f : sProp 𝕄)
      = bigSep Finset.univ fun v => iprop((ℓ ↦[S v 0]{fullShare} f) ∗ (ℓ ↦[S v 1]{fullShare} f) ∗ (ℓ ↦[S v 2]{fullShare} f) ∗ (ℓ ↦[S v 3]{fullShare} f)) := by
  rw [Ring.pointsTo_blocks (fun v => Finset.univ.biUnion (S v)) (four_disjoint S hd) (four_cover S hc) f]
  exact congrArg (bigSep Finset.univ) (funext fun v => four_one S hd v f)

abbrev fourE (v : Fin n) : sProp 𝕄 :=
  iprop((∃ f : Buf (Elt F) ℓ, ℓ ↦[S v 0]{fullShare} f) ∗ (∃ f : Buf (Elt F) ℓ, ℓ ↦[S v 1]{fullShare} f) ∗ (∃ f : Buf (Elt F) ℓ, ℓ ↦[S v 2]{fullShare} f) ∗ (∃ f : Buf (Elt F) ℓ, ℓ ↦[S v 3]{fullShare} f))

include hd hc in
theorem four_cutE : (iprop(∃ f : Buf (Elt F) ℓ, ℓ ↦{fullShare} f) : sProp 𝕄) ⊢ bigSep Finset.univ (fourE (F := F) S) := by
  have h : ∀ f : Buf (Elt F) ℓ, (ℓ ↦{fullShare} f : sProp 𝕄) ⊢ bigSep Finset.univ (fourE (F := F) S) := fun f => by
    rw [four_cut S hd hc f]
    exact BI.bigSep_mono fun v _ => show _ ⊢ fourE (F := F) S v from by
      iintro ⟨H0, H1, H2, H3⟩
      isplitl [H0]; · iexists f; iexact H0
      isplitl [H1]; · iexists f; iexact H1
      isplitl [H2]; · iexists f; iexact H2
      iexists f; iexact H3
  iintro ⟨%f, H⟩
  iapply (h f); iexact H

include hd hc in
theorem four_glueE (f₀ : Buf (Elt F) ℓ) : bigSep Finset.univ (fourE (F := F) S) ⊢ (iprop(∃ f : Buf (Elt F) ℓ, ℓ ↦{fullShare} f) : sProp 𝕄) := by
  have h : ∀ v, fourE (F := F) S v ⊢ (iprop(∃ f : Buf (Elt F) ℓ, ℓ ↦[Finset.univ.biUnion (S v)]{fullShare} f) : sProp 𝕄) := fun v =>
    (Entails.of_eq (BI.bigSep_univ_eq_bigSepL [(0 : Fin 4), 1, 2, 3] (by decide) (by decide) (fun q => iprop(∃ f : Buf (Elt F) ℓ, ℓ ↦[S v q]{fullShare} f))).symm).trans
      (Ring.pointsTo_sub_blocks_join_exists (S v) (fun q q' h => hd v q v q' (Or.inr h)) _ rfl f₀)
  exact (BI.bigSep_mono fun v _ => h v).trans
    (Ring.pointsTo_blocks_join_exists (fun v => Finset.univ.biUnion (S v)) (four_disjoint S hd) (four_cover S hc) f₀)
end four

/-! ## The pieces of the results and of the staging buffers, as sets of elements -/

variable (c : Dev nD)

abbrev hS (v : Fin 640) (q : Fin 4) : Finset (Idx ((c : Thread nD τ).loc main_v20_1)) := (hpc v q).view.set
abbrev xS (v : Fin 640) (q : Fin 4) : Finset (Idx ((c : Thread nD τ).loc main_v20_0)) := (xpc v q).view.set
abbrev rS (h : Fin 2) : Finset (Idx ((c : Thread nD τ).loc main_v20_2)) := (rpc h).view.set
abbrev hsS (s : Fin 2) (q : Fin 4) : Finset (Idx ((c : Thread nD τ).loc cc0_scratch3)) := (hsl s q).view.set
abbrev xsS (s : Fin 2) (q : Fin 4) : Finset (Idx ((c : Thread nD τ).loc cc0_scratch4)) := (xsl s q).view.set
abbrev dsS (s : Fin 4) : Finset (Idx ((c : Thread nD τ).loc cc0_scratch0)) := (dsl s).view.set

theorem hS_eq (v q) : hS c v q = (Rect.unit (s := S5120x64x512) (hpcOff v q) S256x2x128.size (hpcOff_inb v q)).set := View.set_slice_whole _ _
theorem xS_eq (v q) : xS c v q = (Rect.unit (s := S5120x16384) (xpcOff v q) S256x128.size (xpcOff_inb v q)).set := View.set_slice_whole _ _
theorem rS_eq (h) : rS c h = (Rect.unit (s := S64x512x256) (rpcOff h) S32x512x256.size (rpcOff_inb h)).set := View.set_slice_whole _ _
theorem hsS_eq (s q) : hsS c s q = (Rect.unit (s := S2x4x256x2x128) (hslOff s q) S1x1x256x2x128.size (hslOff_inb s q)).set :=
  (View.set_reshape _ _).trans (View.set_slice_whole _ _)
theorem xsS_eq (s q) : xsS c s q = (Rect.unit (s := S2x4x256x128) (xslOff s q) S1x1x256x128.size (xslOff_inb s q)).set :=
  (View.set_reshape _ _).trans (View.set_slice_whole _ _)
theorem dsS_eq (s) : dsS c s = (Rect.unit (s := S4x8x256x256) (dslOff s) S1x8x256x256.size (dslOff_inb s)).set :=
  (View.set_reshape _ _).trans (View.set_slice_whole _ _)

theorem hS_mem (v q) (i : S5120x64x512.Idx) : i ∈ hS c v q ↔
    (256 * (v.val / 16 % 20) ≤ (i 0).val ∧ (i 0).val < 256 * (v.val / 16 % 20) + 256)
    ∧ (32 * (v.val / 320) + 2 * (v.val % 16) ≤ (i 1).val ∧ (i 1).val < 32 * (v.val / 320) + 2 * (v.val % 16) + 2)
    ∧ (128 * q.val ≤ (i 2).val ∧ (i 2).val < 128 * q.val + 128) := by
  rw [hS_eq, Rect.mem_set_unit]; exact ValueKit.forall_fin_iff_conj (n := 3)
theorem xS_mem (v q) (i : S5120x16384.Idx) : i ∈ xS c v q ↔
    (256 * (v.val / 16 % 20) ≤ (i 0).val ∧ (i 0).val < 256 * (v.val / 16 % 20) + 256)
    ∧ (8192 * (v.val / 320) + 512 * (v.val % 16) + 128 * q.val ≤ (i 1).val ∧ (i 1).val < 8192 * (v.val / 320) + 512 * (v.val % 16) + 128 * q.val + 128) := by
  rw [xS_eq, Rect.mem_set_unit]; exact ValueKit.forall_fin_iff_conj (n := 2)
theorem rS_mem (h) (i : S64x512x256.Idx) : i ∈ rS c h ↔
    (32 * h.val ≤ (i 0).val ∧ (i 0).val < 32 * h.val + 32) ∧ (0 ≤ (i 1).val ∧ (i 1).val < 0 + 512) ∧ (0 ≤ (i 2).val ∧ (i 2).val < 0 + 256) := by
  rw [rS_eq, Rect.mem_set_unit]; exact ValueKit.forall_fin_iff_conj (n := 3)
theorem hsS_mem (s q) (i : S2x4x256x2x128.Idx) : i ∈ hsS c s q ↔
    (s.val ≤ (i 0).val ∧ (i 0).val < s.val + 1) ∧ (q.val ≤ (i 1).val ∧ (i 1).val < q.val + 1) ∧ (0 ≤ (i 2).val ∧ (i 2).val < 0 + 256)
    ∧ (0 ≤ (i 3).val ∧ (i 3).val < 0 + 2) ∧ (0 ≤ (i 4).val ∧ (i 4).val < 0 + 128) := by
  rw [hsS_eq, Rect.mem_set_unit]; exact ValueKit.forall_fin_iff_conj (n := 5)
theorem xsS_mem (s q) (i : S2x4x256x128.Idx) : i ∈ xsS c s q ↔
    (s.val ≤ (i 0).val ∧ (i 0).val < s.val + 1) ∧ (q.val ≤ (i 1).val ∧ (i 1).val < q.val + 1) ∧ (0 ≤ (i 2).val ∧ (i 2).val < 0 + 256)
    ∧ (0 ≤ (i 3).val ∧ (i 3).val < 0 + 128) := by
  rw [xsS_eq, Rect.mem_set_unit]; exact ValueKit.forall_fin_iff_conj (n := 4)

theorem hS_disjoint (v q v' q') (h : v ≠ v' ∨ q ≠ q') : Disjoint (hS c v q) (hS c v' q') := by
  rw [Finset.disjoint_left]; intro i h1 h2
  obtain ⟨⟨a1, a2⟩, ⟨b1, b2⟩, ⟨d1, d2⟩⟩ := (hS_mem c v q i).mp h1
  obtain ⟨⟨a1', a2'⟩, ⟨b1', b2'⟩, ⟨d1', d2'⟩⟩ := (hS_mem c v' q' i).mp h2
  have := v.isLt; have := v'.isLt
  rcases h with h | h
  · refine h (Fin.ext ?_); omega
  · refine h (Fin.ext ?_); omega
theorem hS_cover (i : S5120x64x512.Idx) : ∃ v q, i ∈ hS c v q := by
  have h0 : (i 0).val < 5120 := (i 0).isLt
  have h1 : (i 1).val < 64 := (i 1).isLt
  have h2 : (i 2).val < 512 := (i 2).isLt
  refine ⟨⟨320 * ((i 1).val / 32) + 16 * ((i 0).val / 256) + (i 1).val % 32 / 2, by omega⟩, ⟨(i 2).val / 128, by omega⟩, (hS_mem c _ _ i).mpr ?_⟩
  refine ⟨⟨?_, ?_⟩, ⟨?_, ?_⟩, ⟨?_, ?_⟩⟩ <;> dsimp only <;> omega
theorem xS_disjoint (v q v' q') (h : v ≠ v' ∨ q ≠ q') : Disjoint (xS c v q) (xS c v' q') := by
  rw [Finset.disjoint_left]; intro i h1 h2
  obtain ⟨⟨a1, a2⟩, ⟨b1, b2⟩⟩ := (xS_mem c v q i).mp h1
  obtain ⟨⟨a1', a2'⟩, ⟨b1', b2'⟩⟩ := (xS_mem c v' q' i).mp h2
  have := v.isLt; have := v'.isLt; have := q.isLt; have := q'.isLt
  rcases h with h | h
  · refine h (Fin.ext ?_); omega
  · refine h (Fin.ext ?_); omega
theorem xS_cover (i : S5120x16384.Idx) : ∃ v q, i ∈ xS c v q := by
  have h0 : (i 0).val < 5120 := (i 0).isLt
  have h1 : (i 1).val < 16384 := (i 1).isLt
  refine ⟨⟨320 * ((i 1).val / 8192) + 16 * ((i 0).val / 256) + (i 1).val % 8192 / 512, by omega⟩, ⟨(i 1).val % 512 / 128, by omega⟩, (xS_mem c _ _ i).mpr ?_⟩
  refine ⟨⟨?_, ?_⟩, ⟨?_, ?_⟩⟩ <;> dsimp only <;> omega
theorem rS_disjoint (h h' : Fin 2) (e : h ≠ h') : Disjoint (rS c h) (rS c h') := by
  rw [Finset.disjoint_left]; intro i h1 h2
  obtain ⟨⟨a1, a2⟩, -, -⟩ := (rS_mem c h i).mp h1
  obtain ⟨⟨a1', a2'⟩, -, -⟩ := (rS_mem c h' i).mp h2
  refine e (Fin.ext ?_); omega
theorem rS_cover : Finset.univ.biUnion (rS c) = Finset.univ := by
  ext i
  simp only [Finset.mem_biUnion, Finset.mem_univ, true_and, iff_true]
  have h0 : (i 0).val < 64 := (i 0).isLt
  have h1 : (i 1).val < 512 := (i 1).isLt
  have h2 : (i 2).val < 256 := (i 2).isLt
  refine ⟨⟨(i 0).val / 32, by omega⟩, (rS_mem c _ i).mpr ⟨⟨?_, ?_⟩, ⟨?_, ?_⟩, ⟨?_, ?_⟩⟩⟩ <;> dsimp only <;> omega
theorem hsS_disjoint (v q v' q') (h : v ≠ v' ∨ q ≠ q') : Disjoint (hsS c v q) (hsS c v' q') := by
  rw [Finset.disjoint_left]; intro i h1 h2
  obtain ⟨⟨a1, a2⟩, ⟨b1, b2⟩, -⟩ := (hsS_mem c v q i).mp h1
  obtain ⟨⟨a1', a2'⟩, ⟨b1', b2'⟩, -⟩ := (hsS_mem c v' q' i).mp h2
  rcases h with h | h
  · refine h (Fin.ext ?_); omega
  · refine h (Fin.ext ?_); omega
theorem hsS_cover (i : S2x4x256x2x128.Idx) : ∃ v q, i ∈ hsS c v q := by
  have h0 : (i 0).val < 2 := (i 0).isLt
  have h1 : (i 1).val < 4 := (i 1).isLt
  have h2 : (i 2).val < 256 := (i 2).isLt
  have h3 : (i 3).val < 2 := (i 3).isLt
  have h4 : (i 4).val < 128 := (i 4).isLt
  refine ⟨⟨(i 0).val, h0⟩, ⟨(i 1).val, h1⟩, (hsS_mem c _ _ i).mpr ⟨⟨?_, ?_⟩, ⟨?_, ?_⟩, ⟨?_, ?_⟩, ⟨?_, ?_⟩, ⟨?_, ?_⟩⟩⟩ <;> dsimp only <;> omega
theorem xsS_disjoint (v q v' q') (h : v ≠ v' ∨ q ≠ q') : Disjoint (xsS c v q) (xsS c v' q') := by
  rw [Finset.disjoint_left]; intro i h1 h2
  obtain ⟨⟨a1, a2⟩, ⟨b1, b2⟩, -⟩ := (xsS_mem c v q i).mp h1
  obtain ⟨⟨a1', a2'⟩, ⟨b1', b2'⟩, -⟩ := (xsS_mem c v' q' i).mp h2
  rcases h with h | h
  · refine h (Fin.ext ?_); omega
  · refine h (Fin.ext ?_); omega
theorem xsS_cover (i : S2x4x256x128.Idx) : ∃ v q, i ∈ xsS c v q := by
  have h0 : (i 0).val < 2 := (i 0).isLt
  have h1 : (i 1).val < 4 := (i 1).isLt
  have h2 : (i 2).val < 256 := (i 2).isLt
  have h4 : (i 3).val < 128 := (i 3).isLt
  refine ⟨⟨(i 0).val, h0⟩, ⟨(i 1).val, h1⟩, (xsS_mem c _ _ i).mpr ⟨⟨?_, ?_⟩, ⟨?_, ?_⟩, ⟨?_, ?_⟩, ⟨?_, ?_⟩⟩⟩ <;> dsimp only <;> omega
theorem dsS_disjoint (s s' : Fin 4) (h : s ≠ s') : Disjoint (dsS c s) (dsS c s') := by
  rw [dsS_eq, dsS_eq]
  exact Ring.lead_disjoint (s := S4x8x256x256) (0 : Fin 4) 1 dslOff S1x8x256x256.size dslOff_inb (by decide) rfl s s' h
theorem dsS_cover : Finset.univ.biUnion (dsS c) = Finset.univ := by
  refine (Finset.biUnion_congr rfl fun s _ => dsS_eq c s).trans ?_
  exact Ring.lead_cover (s := S4x8x256x256) (0 : Fin 4) 1 dslOff S1x8x256x256.size dslOff_inb (by decide) (by decide) rfl (by decide) rfl

end Cert.KernelIdeal.Hand
-- ==== Proof.KI.Glue.lean ====
module

public import proofs.«01_k».proof.Proof.KI.Split
public import proofs.«01_k».proof.Proof.KI.Tail
public import proofs.«01_k».proof.Proof.KI.Loop1b

/-! Joining the pieces of a result into the whole result, with what is known of each element; the two rings and the
    pieces at the start and at the end of the launch. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

section glue
variable {ℓ : Loc nD τ sig}

/-- Disjoint pieces, each at contents of which `P` holds element by element, join to their union at contents of which
    `P` holds element by element. `P` sees of the contents only the element it speaks of. -/
theorem glueP {B : Type} [Fintype B] [DecidableEq B] (I : B → Finset (Idx ℓ)) (hd : ∀ b b', b ≠ b' → Disjoint (I b) (I b'))
    (S : Finset (Idx ℓ)) (hS : Finset.univ.biUnion I = S) (P : Idx ℓ → Buf (Elt F) ℓ → Prop)
    (hP : ∀ i f g, f i = g i → P i f → P i g) (f₀ : Buf (Elt F) ℓ) :
    bigSep Finset.univ (fun b => iprop(∃ f : Buf (Elt F) ℓ, ⌜∀ i ∈ I b, P i f⌝ ∗ ℓ ↦[I b]{fullShare} f))
      ⊢ (iprop(∃ g : Buf (Elt F) ℓ, ⌜∀ i ∈ S, P i g⌝ ∗ ℓ ↦[S]{fullShare} g) : sProp 𝕄) := by
  have : Nonempty (Buf (Elt F) ℓ) := ⟨f₀⟩
  refine (Idealize.SL.BI.bigSep_exists_pi Finset.univ (fun b (f : Buf (Elt F) ℓ) => (iprop(⌜∀ i ∈ I b, P i f⌝ ∗ ℓ ↦[I b]{fullShare} f) : sProp 𝕄))).trans ?_
  iintro ⟨%fs, H⟩
  ihave H := (Idealize.SL.BI.bigSep_pure_sep Finset.univ (fun b => ∀ i ∈ I b, P i (fs b)) (fun b => (ℓ ↦[I b]{fullShare} fs b : sProp 𝕄))) $$ H
  icases H with ⟨%hp, H⟩
  ihave H := (pointsTo_biUnion_join Finset.univ I fs f₀ (fun b _ b' _ h => hd b b' h)) $$ H
  icases H with ⟨%g, %hg, H⟩
  iexists g
  isplitr
  · ipureintro
    intro i hi
    rw [← hS] at hi
    obtain ⟨b, hb, hib⟩ := Finset.mem_biUnion.mp hi
    exact hP i (fs b) g (hg b hb i hib).symm (hp b hb i hib)
  · rw [← hS]; iexact H

/-- The same for groups of four pieces. -/
theorem four_glueP {n : ℕ} (S : Fin n → Fin 4 → Finset (Idx ℓ))
    (hd : ∀ v q v' q', (v ≠ v' ∨ q ≠ q') → Disjoint (S v q) (S v' q')) (hc : ∀ i, ∃ v q, i ∈ S v q)
    (P : Idx ℓ → Buf (Elt F) ℓ → Prop) (hP : ∀ i f g, f i = g i → P i f → P i g) (f₀ : Buf (Elt F) ℓ) :
    bigSep Finset.univ (fun v => iprop(∃ a0 a1 a2 a3 : Buf (Elt F) ℓ,
        ((ℓ ↦[S v 0]{fullShare} a0) ∗ (ℓ ↦[S v 1]{fullShare} a1) ∗ (ℓ ↦[S v 2]{fullShare} a2) ∗ (ℓ ↦[S v 3]{fullShare} a3))
        ∗ ⌜(∀ i ∈ S v 0, P i a0) ∧ (∀ i ∈ S v 1, P i a1) ∧ (∀ i ∈ S v 2, P i a2) ∧ (∀ i ∈ S v 3, P i a3)⌝))
      ⊢ (iprop(∃ g : Buf (Elt F) ℓ, ⌜∀ i, P i g⌝ ∗ ℓ ↦{fullShare} g) : sProp 𝕄) := by
  have h : ∀ v, (iprop(∃ a0 a1 a2 a3 : Buf (Elt F) ℓ,
        ((ℓ ↦[S v 0]{fullShare} a0) ∗ (ℓ ↦[S v 1]{fullShare} a1) ∗ (ℓ ↦[S v 2]{fullShare} a2) ∗ (ℓ ↦[S v 3]{fullShare} a3))
        ∗ ⌜(∀ i ∈ S v 0, P i a0) ∧ (∀ i ∈ S v 1, P i a1) ∧ (∀ i ∈ S v 2, P i a2) ∧ (∀ i ∈ S v 3, P i a3)⌝) : sProp 𝕄)
      ⊢ iprop(∃ f : Buf (Elt F) ℓ, ⌜∀ i ∈ Finset.univ.biUnion (S v), P i f⌝ ∗ ℓ ↦[Finset.univ.biUnion (S v)]{fullShare} f) := fun v => by
    refine .trans ?_ (glueP (S v) (fun q q' h => hd v q v q' (Or.inr h)) _ rfl P hP f₀)
    rw [BI.bigSep_univ_eq_bigSepL [(0 : Fin 4), 1, 2, 3] (by decide) (by decide) (fun q => iprop(∃ f : Buf (Elt F) ℓ, ⌜∀ i ∈ S v q, P i f⌝ ∗ ℓ ↦[S v q]{fullShare} f))]
    show _ ⊢ iprop((∃ f : Buf (Elt F) ℓ, ⌜∀ i ∈ S v 0, P i f⌝ ∗ ℓ ↦[S v 0]{fullShare} f) ∗ (∃ f : Buf (Elt F) ℓ, ⌜∀ i ∈ S v 1, P i f⌝ ∗ ℓ ↦[S v 1]{fullShare} f)
      ∗ (∃ f : Buf (Elt F) ℓ, ⌜∀ i ∈ S v 2, P i f⌝ ∗ ℓ ↦[S v 2]{fullShare} f) ∗ (∃ f : Buf (Elt F) ℓ, ⌜∀ i ∈ S v 3, P i f⌝ ∗ ℓ ↦[S v 3]{fullShare} f))
    iintro ⟨%a0, %a1, %a2, %a3, ⟨H0, H1, H2, H3⟩, %hh⟩
    isplitl [H0]
    · iexists a0; isplitr; · ipureintro; exact hh.1
      iexact H0
    isplitl [H1]
    · iexists a1; isplitr; · ipureintro; exact hh.2.1
      iexact H1
    isplitl [H2]
    · iexists a2; isplitr; · ipureintro; exact hh.2.2.1
      iexact H2
    iexists a3; isplitr; · ipureintro; exact hh.2.2.2
    iexact H3
  refine (BI.bigSep_mono fun v _ => h v).trans ?_
  refine (glueP (fun v => Finset.univ.biUnion (S v)) (four_disjoint S hd) Finset.univ (four_cover S hc) P hP f₀).trans ?_
  iintro ⟨%g, %hg, H⟩
  iexists g
  isplitr
  · ipureintro; exact fun i => hg i (Finset.mem_univ i)
  · iexact H
end glue

variable (c : Dev nD)

/-! ## The dy ring -/

section
variable (XA : Buf (Elt F) (dyM.view.loc (c : Thread nD τ)))

/-- The share of the dy array no slot of the ring holds. -/
abbrev drest : sProp 𝕄 := dyM.view.loc (c : Thread nD τ) ↦[Finset.univ]{Transfers.shareDrop fullShare 4} XA

theorem dring_free (n : ℕ) (st : Fin 4 → Option ℕ) (h : ∀ s, st s = none) :
    Ring.AtW (σ := fun _ => Option ℕ) (dslot c XA) st
      = iprop(dslot c XA 0 none ∗ dslot c XA 1 none ∗ dslot c XA 2 none ∗ dslot c XA 3 none) := by
  rw [Ring.AtW_eq_list (dslot c XA) st [0, 1, 2, 3] (by decide) (by decide)]
  show iprop(dslot c XA 0 (st 0) ∗ dslot c XA 1 (st 1) ∗ dslot c XA 2 (st 2) ∗ dslot c XA 3 (st 3)) = _
  rw [h, h, h, h]

theorem ring_cut (f : Buf (Elt F) ((c : Thread nD τ).loc cc0_scratch0)) :
    (((c : Thread nD τ).loc cc0_scratch0) ↦{fullShare} f : sProp 𝕄)
      ⊢ iprop(hldE c (dsl 0) ∗ hldE c (dsl 1) ∗ hldE c (dsl 2) ∗ hldE c (dsl 3)) := by
  rw [Ring.pointsTo_blocks (dsS c) (dsS_disjoint c) (dsS_cover c) f,
    BI.bigSep_univ_eq_bigSepL [(0 : Fin 4), 1, 2, 3] (by decide) (by decide)]
  show iprop(hld c (dsl 0) f ∗ hld c (dsl 1) f ∗ hld c (dsl 2) f ∗ hld c (dsl 3) f) ⊢ _
  iintro ⟨H0, H1, H2, H3⟩
  isplitl [H0]; · iexists _; iexact H0
  isplitl [H1]; · iexists _; iexact H1
  isplitl [H2]; · iexists _; iexact H2
  iexists _; iexact H3
theorem ring_glue : iprop(hldE c (dsl 0) ∗ hldE c (dsl 1) ∗ hldE c (dsl 2) ∗ hldE c (dsl 3))
    ⊢ (iprop(∃ f : Buf (Elt F) ((c : Thread nD τ).loc cc0_scratch0), ((c : Thread nD τ).loc cc0_scratch0) ↦{fullShare} f) : sProp 𝕄) := by
  refine .trans (Entails.of_eq ?_) (Ring.pointsTo_blocks_join_exists (dsS c) (dsS_disjoint c) (dsS_cover c) (ringM.view.junk))
  exact (BI.bigSep_univ_eq_bigSepL [(0 : Fin 4), 1, 2, 3] (by decide) (by decide) (fun s => iprop(∃ f : Buf (Elt F) ((c : Thread nD τ).loc cc0_scratch0), ((c : Thread nD τ).loc cc0_scratch0) ↦[dsS c s]{fullShare} f))).symm

theorem dtoks : (((c : Thread nD τ).loc main_v2) ↦{fullShare} XA : sProp 𝕄)
    ⊣⊢ iprop(drest c XA ∗ dtok c XA 0 Finset.univ ∗ dtok c XA 1 Finset.univ ∗ dtok c XA 2 Finset.univ ∗ dtok c XA 3 Finset.univ) := by
  have h := Transfers.pointsTo_toks (Val := Elt F) (Ix := Unit) (Name := ℕ) (U := Pipeline.UD sig nD τ) (Lvl := ℕ) (ℓ := (c : Thread nD τ).loc main_v2) (S := Finset.univ) (f := XA) fullShare 4
  rw [BI.bigSep_univ_eq_bigSepL [(0 : Fin 4), 1, 2, 3] (by decide) (by decide)] at h
  exact h

end

/-! ## The results and the staging buffers -/

section
variable (HOK : ∀ (v : Fin 640) (q : Fin 4), Buf (Elt F) ((hpc v q).view.loc (c : Thread nD τ)) → Prop)
  (XOK : ∀ (v : Fin 640) (q : Fin 4), Buf (Elt F) ((xpc v q).view.loc (c : Thread nD τ)) → Prop)

/-- A family of pairs is a pair of families. -/
theorem sep_out {M I : Type} [URA M] (s : Finset I) (Φ Ψ : I → sProp M) : bigSep s (fun i => iprop(Φ i ∗ Ψ i)) ⊢ iprop(bigSep s Φ ∗ bigSep s Ψ) :=
  Entails.of_eq (BI.bigSep_sep s Φ Ψ)
theorem sep_in {M I : Type} [URA M] (s : Finset I) (Φ Ψ : I → sProp M) : iprop(bigSep s Φ ∗ bigSep s Ψ) ⊢ bigSep s (fun i => iprop(Φ i ∗ Ψ i)) :=
  Entails.of_eq (BI.bigSep_sep s Φ Ψ).symm
theorem two_eq {M : Type} [URA M] (Φ : Fin 2 → sProp M) : bigSep Finset.univ Φ = iprop(Φ 0 ∗ Φ 1) :=
  BI.bigSep_univ_eq_bigSepL [(0 : Fin 2), 1] (by decide) (by decide) Φ

theorem outs_start :
    iprop((cellZ c (csH 0) ∗ cellZ c (csH 1) ∗ cellZ c (csX 0) ∗ cellZ c (csX 1))
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)
      ∗ (∃ f : Buf (Elt F) ((c : Thread nD τ).loc main_v20_0), ((c : Thread nD τ).loc main_v20_0) ↦{fullShare} f)
      ∗ (∃ f : Buf (Elt F) ((c : Thread nD τ).loc main_v20_1), ((c : Thread nD τ).loc main_v20_1) ↦{fullShare} f))
      ⊢ outs c HOK XOK 0 := by
  have e : ∀ v, opc c HOK XOK v (pst 0 v) = iprop(fourE (F := F) (hS c) v ∗ fourE (F := F) (xS c) v) := fun v => by
    have : pst 0 v = 0 := by unfold pst; rw [if_neg (by omega), if_neg (by omega)]
    rw [this]; rfl
  have e2 : Ring.AtW (σ := fun _ => Fin 3) (opc c HOK XOK) (pst 0) = bigSep Finset.univ fun v => iprop(fourE (F := F) (hS c) v ∗ fourE (F := F) (xS c) v) :=
    BI.bigSep_congr fun v _ => e v
  have e3 : Ring.AtW (σ := fun _ => Option (Fin 640)) (oslot c HOK XOK) (ost 0) = iprop(oslot c HOK XOK 0 none ∗ oslot c HOK XOK 1 none) := by
    rw [Ring.AtW_eq_list (oslot c HOK XOK) (ost 0) [0, 1] (by decide) (by decide)]
    rfl
  unfold outs
  rw [e2, e3, oslot_none, oslot_none]
  iintro ⟨⟨C0, C1, D0, D1⟩, H3, H4, HX, HH⟩
  ihave H3 := (four_cutE (hsS c) (hsS_disjoint c) (hsS_cover c)) $$ H3
  ihave H4 := (four_cutE (xsS c) (xsS_disjoint c) (xsS_cover c)) $$ H4
  ihave HX := (four_cutE (xS c) (xS_disjoint c) (xS_cover c)) $$ HX
  ihave HH := (four_cutE (hS c) (hS_disjoint c) (hS_cover c)) $$ HH
  ihave H3 := (Entails.of_eq (two_eq (fourE (F := F) (hsS c)))) $$ H3
  ihave H4 := (Entails.of_eq (two_eq (fourE (F := F) (xsS c)))) $$ H4
  icases H3 with ⟨H30, H31⟩
  icases H4 with ⟨H40, H41⟩
  isplitr [HX HH]
  · isplitl [C0 D0 H30 H40]
    · isplitl [C0]; · iexact C0
      isplitl [D0]; · iexact D0
      isplitl [H30]; · iexact H30
      iexact H40
    isplitl [C1]; · iexact C1
    isplitl [D1]; · iexact D1
    isplitl [H31]; · iexact H31
    iexact H41
  · iapply (sep_in Finset.univ (fourE (F := F) (hS c)) (fourE (F := F) (xS c)))
    isplitl [HH]; · iexact HH
    iexact HX

theorem outs_end
    (PH : Idx ((c : Thread nD τ).loc main_v20_1) → Buf (Elt F) ((c : Thread nD τ).loc main_v20_1) → Prop) (hPH : ∀ i f g, f i = g i → PH i f → PH i g)
    (PX : Idx ((c : Thread nD τ).loc main_v20_0) → Buf (Elt F) ((c : Thread nD τ).loc main_v20_0) → Prop) (hPX : ∀ i f g, f i = g i → PX i f → PX i g) :
    outsFin c (fun v q f => ∀ i ∈ hS c v q, PH i f) (fun v q f => ∀ i ∈ xS c v q, PX i f)
      ⊢ (iprop((cellZ c (csH 0) ∗ cellZ c (csH 1) ∗ cellZ c (csX 0) ∗ cellZ c (csX 1))
        ∗ (∃ f : Buf (Elt F) ((c : Thread nD τ).loc cc0_scratch3), ((c : Thread nD τ).loc cc0_scratch3) ↦{fullShare} f)
        ∗ (∃ f : Buf (Elt F) ((c : Thread nD τ).loc cc0_scratch4), ((c : Thread nD τ).loc cc0_scratch4) ↦{fullShare} f)
        ∗ (∃ f : Buf (Elt F) ((c : Thread nD τ).loc main_v20_0), ⌜∀ i, PX i f⌝ ∗ ((c : Thread nD τ).loc main_v20_0) ↦{fullShare} f)
        ∗ (∃ f : Buf (Elt F) ((c : Thread nD τ).loc main_v20_1), ⌜∀ i, PH i f⌝ ∗ ((c : Thread nD τ).loc main_v20_1) ↦{fullShare} f)) : sProp 𝕄) := by
  have e : ∀ v, opc c (fun v q f => ∀ i ∈ hS c v q, PH i f) (fun v q f => ∀ i ∈ xS c v q, PX i f) v 2
      = iprop((∃ a0 a1 a2 a3, (hld c (hpc v 0) a0 ∗ hld c (hpc v 1) a1 ∗ hld c (hpc v 2) a2 ∗ hld c (hpc v 3) a3)
          ∗ ⌜(∀ i ∈ hS c v 0, PH i a0) ∧ (∀ i ∈ hS c v 1, PH i a1) ∧ (∀ i ∈ hS c v 2, PH i a2) ∧ (∀ i ∈ hS c v 3, PH i a3)⌝)
        ∗ (∃ a0 a1 a2 a3, (hld c (xpc v 0) a0 ∗ hld c (xpc v 1) a1 ∗ hld c (xpc v 2) a2 ∗ hld c (xpc v 3) a3)
          ∗ ⌜(∀ i ∈ xS c v 0, PX i a0) ∧ (∀ i ∈ xS c v 1, PX i a1) ∧ (∀ i ∈ xS c v 2, PX i a2) ∧ (∀ i ∈ xS c v 3, PX i a3)⌝)) := fun v => opc_2 c _ _ v
  have e2 := BI.bigSep_congr (s := (Finset.univ : Finset (Fin 640))) fun v _ => e v
  have gH : bigSep Finset.univ (fun v => iprop(∃ a0 a1 a2 a3, (hld c (hpc v 0) a0 ∗ hld c (hpc v 1) a1 ∗ hld c (hpc v 2) a2 ∗ hld c (hpc v 3) a3)
          ∗ ⌜(∀ i ∈ hS c v 0, PH i a0) ∧ (∀ i ∈ hS c v 1, PH i a1) ∧ (∀ i ∈ hS c v 2, PH i a2) ∧ (∀ i ∈ hS c v 3, PH i a3)⌝))
      ⊢ (iprop(∃ f : Buf (Elt F) ((c : Thread nD τ).loc main_v20_1), ⌜∀ i, PH i f⌝ ∗ ((c : Thread nD τ).loc main_v20_1) ↦{fullShare} f) : sProp 𝕄) :=
    four_glueP (hS c) (hS_disjoint c) (hS_cover c) PH hPH dhM.view.junk
  have gX : bigSep Finset.univ (fun v => iprop(∃ a0 a1 a2 a3, (hld c (xpc v 0) a0 ∗ hld c (xpc v 1) a1 ∗ hld c (xpc v 2) a2 ∗ hld c (xpc v 3) a3)
          ∗ ⌜(∀ i ∈ xS c v 0, PX i a0) ∧ (∀ i ∈ xS c v 1, PX i a1) ∧ (∀ i ∈ xS c v 2, PX i a2) ∧ (∀ i ∈ xS c v 3, PX i a3)⌝))
      ⊢ (iprop(∃ f : Buf (Elt F) ((c : Thread nD τ).loc main_v20_0), ⌜∀ i, PX i f⌝ ∗ ((c : Thread nD τ).loc main_v20_0) ↦{fullShare} f) : sProp 𝕄) :=
    four_glueP (xS c) (xS_disjoint c) (xS_cover c) PX hPX dxM.view.junk
  unfold outsFin
  rw [oslot_none, oslot_none]
  unfold Ring.AtW
  rw [e2]
  iintro ⟨⟨⟨C0, D0, H30, H40⟩, ⟨C1, D1, H31, H41⟩⟩, HP⟩
  ihave HP := (sep_out Finset.univ _ _) $$ HP
  icases HP with ⟨HH, HX⟩
  ihave HH := gH $$ HH
  ihave HX := gX $$ HX
  ihave H3 : bigSep Finset.univ (fourE (F := F) (hsS c)) $$ [H30 H31]
  · rw [two_eq]
    isplitl [H30]; · iexact H30
    iexact H31
  ihave H4 : bigSep Finset.univ (fourE (F := F) (xsS c)) $$ [H40 H41]
  · rw [two_eq]
    isplitl [H40]; · iexact H40
    iexact H41
  ihave H3 := (four_glueE (hsS c) (hsS_disjoint c) (hsS_cover c) hstM.view.junk) $$ H3
  ihave H4 := (four_glueE (xsS c) (xsS_disjoint c) (xsS_cover c) xstM.view.junk) $$ H4
  isplitl [C0 C1 D0 D1]
  · isplitl [C0]; · iexact C0
    isplitl [C1]; · iexact C1
    isplitl [D0]; · iexact D0
    iexact D1
  isplitl [H3]; · iexact H3
  isplitl [H4]; · iexact H4
  isplitl [HX]; · iexact HX
  iexact HH
end

/-! ## The dr result -/

section
variable (PR : Idx ((c : Thread nD τ).loc main_v20_2) → Buf (Elt F) ((c : Thread nD τ).loc main_v20_2) → Prop) (hPR : ∀ i f g, f i = g i → PR i f → PR i g)

theorem rh_start (ROK : ∀ h : Fin 2, Buf (Elt F) ((rpc h).view.loc (c : Thread nD τ)) → Prop) :
    (iprop(∃ f : Buf (Elt F) ((c : Thread nD τ).loc main_v20_2), ((c : Thread nD τ).loc main_v20_2) ↦{fullShare} f) : sProp 𝕄) ⊢ rh c ROK 0 := by
  have h : ∀ f, (((c : Thread nD τ).loc main_v20_2) ↦{fullShare} f : sProp 𝕄) = iprop(hld c (rpc 0) f ∗ hld c (rpc 1) f) := fun f => by
    rw [Ring.pointsTo_blocks (rS c) (rS_disjoint c) (rS_cover c) f, two_eq]; rfl
  show _ ⊢ iprop(hldE c (rpc 0) ∗ hldE c (rpc 1))
  iintro ⟨%f, H⟩
  ihave H := (Entails.of_eq (h f)) $$ H
  icases H with ⟨H0, H1⟩
  isplitl [H0]; · iexists _; iexact H0
  iexists _; iexact H1

include hPR in
theorem rh_end : rh c (fun h f => ∀ i ∈ rS c h, PR i f) 40
    ⊢ (iprop(∃ f : Buf (Elt F) ((c : Thread nD τ).loc main_v20_2), ⌜∀ i, PR i f⌝ ∗ ((c : Thread nD τ).loc main_v20_2) ↦{fullShare} f) : sProp 𝕄) := by
  show iprop((∃ g, hld c (rpc 0) g ∗ ⌜∀ i ∈ rS c 0, PR i g⌝) ∗ (∃ g, hld c (rpc 1) g ∗ ⌜∀ i ∈ rS c 1, PR i g⌝)) ⊢ _
  iintro ⟨⟨%g0, H0, %h0⟩, ⟨%g1, H1, %h1⟩⟩
  ihave H : bigSep Finset.univ (fun b => iprop(∃ f : Buf (Elt F) ((c : Thread nD τ).loc main_v20_2), ⌜∀ i ∈ rS c b, PR i f⌝ ∗ ((c : Thread nD τ).loc main_v20_2) ↦[rS c b]{fullShare} f)) $$ [H0 H1]
  · rw [two_eq]
    isplitl [H0]
    · iexists g0; isplitr; · ipureintro; exact h0
      iexact H0
    iexists g1; isplitr; · ipureintro; exact h1
    iexact H1
  ihave H := (glueP (rS c) (rS_disjoint c) Finset.univ (rS_cover c) PR hPR dRM.view.junk) $$ H
  icases H with ⟨%g, %hg, H⟩
  iexists g
  isplitr
  · ipureintro; exact fun i => hg i (Finset.mem_univ i)
  · iexact H
end

end Cert.KernelIdeal.Hand
-- ==== Proof.KI.Run.lean ====
module

public import proofs.«01_k».proof.Proof.KI.Body
public import proofs.«01_k».proof.Proof.KI.Glue
public import proofs.«01_k».proof.Proof.Gen.KernelIdeal.Frame
public import Idealize.ShloMosaic.Lib.Pipeline.FrameValue

/-! The launch: the invariant between grid points, the body at every point, the run of `main`. What the three results
    hold is left to a `Spec`: for each element of each result, a property the kernel's writes give it. The frame takes
    the trivial one. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

theorem stepOf_coords : ∀ t : Fin cfg0.N, stepOf (grid0.coords t) = t.val := by decide +kernel
theorem coords1 : ∀ t : Fin cfg0.N, (grid0.coords t 1).val = t.val % 20 := by decide +kernel
theorem coords0 : ∀ t : Fin cfg0.N, (grid0.coords t 0).val = t.val / 20 := by decide +kernel

variable (m : (ℓ : Loc nD τ sig) → Buf (Elt F) ℓ) (ρ : Dev nD → PrngReg)

/-- What the operands' staging buffers hold at a point: each its block. -/
structure Stg (c : Dev nD) (t : Fin cfg0.N) where
  f2 : Buf (Elt F) ((st0_0 t).view.loc (c : Thread nD τ))
  f3 : Buf (Elt F) ((st0_1 t).view.loc (c : Thread nD τ))
  f4 : Buf (Elt F) ((st0_2 t).view.loc (c : Thread nD τ))
  f5 : Buf (Elt F) ((st0_3 t).view.loc (c : Thread nD τ))
  f6 : Buf (Elt F) ((st0_4 t).view.loc (c : Thread nD τ))
  f7 : Buf (Elt F) ((st0_5 t).view.loc (c : Thread nD τ))
  f8 : Buf (Elt F) ((st0_6 t).view.loc (c : Thread nD τ))
  e2 : (st0_0 t).view.read (Elt F) f2 = iblk m c 0 t
  e3 : (st0_1 t).view.read (Elt F) f3 = iblk m c 1 t
  e4 : (st0_2 t).view.read (Elt F) f4 = iblk m c 2 t
  e5 : (st0_3 t).view.read (Elt F) f5 = iblk m c 3 t
  e6 : (st0_4 t).view.read (Elt F) f6 = iblk m c 4 t
  e7 : (st0_5 t).view.read (Elt F) f7 = iblk m c 5 t
  e8 : (st0_6 t).view.read (Elt F) f8 = iblk m c 6 t

/-- The dy array as the kernel finds it. -/
abbrev XA (c : Dev nD) : Buf (Elt F) (dyM.view.loc (c : Thread nD τ)) := V m c main_v2

/-- The dh chunk after a point's computing loop. -/
abbrev dhtAt (c : Dev nD) (t : Fin cfg0.N) (S : Stg m c t) (fo : Buf (Elt F) (dhtM.view.loc (c : Thread nD τ))) : Buf (Elt F) (dhtM.view.loc (c : Thread nD τ)) :=
  dhtIter1 c (XA m c) (grid0.coords t) (st0_2 t) (st0_4 t) (st0_5 t) S.f4 S.f6 S.f7 fo k0_t1_loop.trips
/-- The accumulator after a point's storing loop, entered at `fa`. -/
abbrev accAt (c : Dev nD) (t : Fin cfg0.N) (S : Stg m c t) (fo : Buf (Elt F) (dhtM.view.loc (c : Thread nD τ))) (fa : Buf (Elt F) (accM.view.loc (c : Thread nD τ))) : Buf (Elt F) (accM.view.loc (c : Thread nD τ)) :=
  accIter c (st0_1 t) (st0_3 t) S.f3 S.f5 (dhtAt m c t S fo) fa k0_t3_loop.trips

/-- What is to hold of each element of the three results, what the accumulator is to hold between points, and that the
    kernel's writes give it. -/
structure Spec (c : Dev nD) where
  PH : Idx ((c : Thread nD τ).loc main_v20_1) → Buf (Elt F) ((c : Thread nD τ).loc main_v20_1) → Prop
  PX : Idx ((c : Thread nD τ).loc main_v20_0) → Buf (Elt F) ((c : Thread nD τ).loc main_v20_0) → Prop
  PR : Idx ((c : Thread nD τ).loc main_v20_2) → Buf (Elt F) ((c : Thread nD τ).loc main_v20_2) → Prop
  locH : ∀ i f g, f i = g i → PH i f → PH i g
  locX : ∀ i f g, f i = g i → PX i f → PX i g
  locR : ∀ i f g, f i = g i → PR i f → PR i g
  AOK : ℕ → Buf (Elt F) (accM.view.loc (c : Thread nD τ)) → Prop
  trip : ∀ (t : Fin cfg0.N) (S : Stg m c t) fo k, TripOK c (grid0.coords t) (st0_0 t) (st0_6 t) S.f2 S.f8 k (dhtAt m c t S fo)
    (fun v q f => ∀ i ∈ hS c v q, PH i f) (fun v q f => ∀ i ∈ xS c v q, PX i f)
  accS : ∀ (t : Fin cfg0.N) (S : Stg m c t) fo, t.val % 20 = 0 → AOK (t.val + 1) (accAt m c t S fo (accZ c))
  accN : ∀ (t : Fin cfg0.N) (S : Stg m c t) fo fa, t.val % 20 ≠ 0 → AOK t.val fa → AOK (t.val + 1) (accAt m c t S fo fa)
  accR : ∀ (t : Fin cfg0.N) fa, t.val % 20 = 19 → AOK (t.val + 1) fa → ∀ p, ∀ i ∈ rS c (grid0.coords t 0),
    PR i ((rpc (grid0.coords t 0)).view.writes (Elt F) p [⟨Rect.whole S32x512x256, ReadAs.same.apply (accM.view.read (Elt F) fa)⟩])

variable {m} in
abbrev Spec.HOK {c : Dev nD} (s : Spec m c) : ∀ (v : Fin 640) (q : Fin 4), Buf (Elt F) ((hpc v q).view.loc (c : Thread nD τ)) → Prop := fun v q f => ∀ i ∈ hS c v q, s.PH i f
variable {m} in
abbrev Spec.XOK {c : Dev nD} (s : Spec m c) : ∀ (v : Fin 640) (q : Fin 4), Buf (Elt F) ((xpc v q).view.loc (c : Thread nD τ)) → Prop := fun v q f => ∀ i ∈ xS c v q, s.PX i f
variable {m} in
abbrev Spec.ROK {c : Dev nD} (s : Spec m c) : ∀ h : Fin 2, Buf (Elt F) ((rpc h).view.loc (c : Thread nD τ)) → Prop := fun h f => ∀ i ∈ rS c h, s.PR i f

/-- The trivial one. -/
def Spec.triv (c : Dev nD) : Spec m c where
  PH _ _ := True
  PX _ _ := True
  PR _ _ := True
  locH _ _ _ _ _ := trivial
  locX _ _ _ _ _ := trivial
  locR _ _ _ _ _ := trivial
  AOK _ _ := True
  trip _ _ _ _ := ⟨fun _ _ _ _ => trivial, fun _ _ _ _ => trivial, fun _ _ _ _ => trivial, fun _ _ _ _ => trivial, fun _ _ _ _ => trivial, fun _ _ _ _ => trivial, fun _ _ _ _ => trivial, fun _ _ _ _ => trivial⟩
  accS _ _ _ _ := trivial
  accN _ _ _ _ _ _ := trivial
  accR _ _ _ _ _ _ _ := trivial

variable (sp : (c : Dev nD) → Spec m c)

/-- The dy ring between points: filled by the first point. -/
def ringAt (c : Dev nD) (t : ℕ) : sProp 𝕄 := if t = 0 then dring c (XA m c) 0 0 else dringN c (XA m c) (8 * t)

/-- The invariant before point `t`. -/
def inv (c : Dev nD) (t : ℕ) : sProp 𝕄 :=
  iprop(ringAt m c t ∗ drest c (XA m c) ∗ (∃ f, hld c dhtM f) ∗ (∃ fa, hld c accM fa ∗ ⌜t % 20 ≠ 0 → (sp c).AOK t fa⌝)
    ∗ cellZ c cc0_scratch8 ∗ rh c (sp c).ROK t ∗ outsAt c (sp c).HOK (sp c).XOK t ∗ (∃ r, prngReg c r))

/-- The body at a point, from what the operands' staging buffers hold: the three cases in one. -/
theorem body_at (c : Dev nD) (t : Fin cfg0.N) (S : Stg m c t) :
    iprop(reads c (st0_0 t) (st0_1 t) (st0_2 t) (st0_3 t) (st0_4 t) (st0_5 t) (st0_6 t) S.f2 S.f3 S.f4 S.f5 S.f6 S.f7 S.f8
        ∗ inv m sp c t.val ∗ (∃ W, owes (c : Thread nD τ) 0 W))
      ⊢ wp frame (wpE (defs₀ (F := F)) Variants.none (c : Thread nD τ) none) Set.univ (bodyAt0 t)
        fun _ => iprop(reads c (st0_0 t) (st0_1 t) (st0_2 t) (st0_3 t) (st0_4 t) (st0_5 t) (st0_6 t) S.f2 S.f3 S.f4 S.f5 S.f6 S.f7 S.f8
          ∗ inv m sp c (t.val + 1) ∗ (∃ W, owes (c : Thread nD τ) 0 W)) := by
  have es := stepOf_coords t
  have e1 := coords1 t
  have ht : t.val < 40 := lt_of_lt_of_eq t.isLt N_0
  have hring : ringAt m c (t.val + 1) = dringN c (XA m c) (8 * t.val + 8) := by
    unfold ringAt; rw [if_neg (by omega), Nat.mul_add]
  have houts : outsAt c (sp c).HOK (sp c).XOK t.val = outs c (sp c).HOK (sp c).XOK (16 * t.val) := by
    unfold outsAt; rw [if_neg (by omega)]
  unfold inv
  rw [hring, houts]
  iintro ⟨HR, ⟨Hr, Hd, ⟨%fo, Ho⟩, ⟨%fa, Ha, %hfa⟩, Hc, Hrh, Hout, Hp⟩, HW⟩
  by_cases h1 : t.val % 20 = 0
  · have hA := (sp c).accS t S fo h1
    have hr : (grid0.coords t 1).val = 19 → ∀ p, (sp c).ROK (grid0.coords t 0) ((rpc (grid0.coords t 0)).view.writes (Elt F) p [⟨Rect.whole S32x512x256, ReadAs.same.apply (accM.view.read (Elt F) (accAt m c t S fo (accZ c)))⟩]) :=
      fun h => by omega
    by_cases h0 : t.val = 0
    · have B := body_first (F := F) c (XA m c) (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _)
        S.f2 S.f3 S.f4 S.f5 S.f6 S.f7 S.f8 (sp c).HOK (sp c).XOK (sp c).ROK (e1.trans h1) (es.trans h0) fo fa ((sp c).trip t S fo) hr
      rw [es] at B
      have hr0 : ringAt m c t.val = dring c (XA m c) 0 0 := by unfold ringAt; rw [if_pos h0]
      ihave Hr := (Entails.of_eq hr0) $$ Hr
      iapply (wp_wand_r frame (wpE (defs₀ (F := F)) Variants.none (c : Thread nD τ) none) Set.univ)
      isplitl [HR Hr Ho Ha Hc Hrh Hout HW]
      · iapply B
        isplitl [HR]; · iexact HR
        isplitl [Hr]; · iexact Hr
        isplitl [Ho]; · iexact Ho
        isplitl [Ha]; · iexact Ha
        isplitl [Hc]; · iexact Hc
        isplitl [Hrh]; · iexact Hrh
        isplitl [Hout]; · iexact Hout
        iexact HW
      iintro %u ⟨HR, Hr, Ho, Ha, Hc, Hrh, Hout, HW⟩
      isplitl [HR]; · iexact HR
      isplitr [HW]
      · isplitl [Hr]; · iexact Hr
        isplitl [Hd]; · iexact Hd
        isplitl [Ho]; · iexists _; iexact Ho
        isplitl [Ha]
        · iexists _
          isplitl [Ha]; · iexact Ha
          ipureintro; exact fun _ => hA
        isplitl [Hc]; · iexact Hc
        isplitl [Hrh]; · iexact Hrh
        isplitl [Hout]; · iexact Hout
        iexact Hp
      iexact HW
    · have B := body_half (F := F) c (XA m c) (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _)
        S.f2 S.f3 S.f4 S.f5 S.f6 S.f7 S.f8 (sp c).HOK (sp c).XOK (sp c).ROK (e1.trans h1) (by rw [es]; exact h0) fo fa ((sp c).trip t S fo) hr
      rw [es] at B
      have hr0 : ringAt m c t.val = dringN c (XA m c) (8 * t.val) := by unfold ringAt; rw [if_neg h0]
      ihave Hr := (Entails.of_eq hr0) $$ Hr
      iapply (wp_wand_r frame (wpE (defs₀ (F := F)) Variants.none (c : Thread nD τ) none) Set.univ)
      isplitl [HR Hr Ho Ha Hc Hrh Hout HW]
      · iapply B
        isplitl [HR]; · iexact HR
        isplitl [Hr]; · iexact Hr
        isplitl [Ho]; · iexact Ho
        isplitl [Ha]; · iexact Ha
        isplitl [Hc]; · iexact Hc
        isplitl [Hrh]; · iexact Hrh
        isplitl [Hout]; · iexact Hout
        iexact HW
      iintro %u ⟨HR, Hr, Ho, Ha, Hc, Hrh, Hout, HW⟩
      isplitl [HR]; · iexact HR
      isplitr [HW]
      · isplitl [Hr]; · iexact Hr
        isplitl [Hd]; · iexact Hd
        isplitl [Ho]; · iexists _; iexact Ho
        isplitl [Ha]
        · iexists _
          isplitl [Ha]; · iexact Ha
          ipureintro; exact fun _ => hA
        isplitl [Hc]; · iexact Hc
        isplitl [Hrh]; · iexact Hrh
        isplitl [Hout]; · iexact Hout
        iexact Hp
      iexact HW
  · have hA := (sp c).accN t S fo fa h1 (hfa h1)
    have hr : (grid0.coords t 1).val = 19 → ∀ p, (sp c).ROK (grid0.coords t 0) ((rpc (grid0.coords t 0)).view.writes (Elt F) p [⟨Rect.whole S32x512x256, ReadAs.same.apply (accM.view.read (Elt F) (accAt m c t S fo fa))⟩]) :=
      fun h p => (sp c).accR t _ (by omega) hA p
    have B := body_mid (F := F) c (XA m c) (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _)
      S.f2 S.f3 S.f4 S.f5 S.f6 S.f7 S.f8 (sp c).HOK (sp c).XOK (sp c).ROK (by rw [e1]; exact h1) fo fa ((sp c).trip t S fo) hr
    rw [es] at B
    have hr0 : ringAt m c t.val = dringN c (XA m c) (8 * t.val) := by unfold ringAt; rw [if_neg (by omega)]
    ihave Hr := (Entails.of_eq hr0) $$ Hr
    iapply (wp_wand_r frame (wpE (defs₀ (F := F)) Variants.none (c : Thread nD τ) none) Set.univ)
    isplitl [HR Hr Ho Ha Hc Hrh Hout HW]
    · iapply B
      isplitl [HR]; · iexact HR
      isplitl [Hr]; · iexact Hr
      isplitl [Ho]; · iexact Ho
      isplitl [Ha]; · iexact Ha
      isplitl [Hc]; · iexact Hc
      isplitl [Hrh]; · iexact Hrh
      isplitl [Hout]; · iexact Hout
      iexact HW
    iintro %u ⟨HR, Hr, Ho, Ha, Hc, Hrh, Hout, HW⟩
    isplitl [HR]; · iexact HR
    isplitr [HW]
    · isplitl [Hr]; · iexact Hr
      isplitl [Hd]; · iexact Hd
      isplitl [Ho]; · iexists _; iexact Ho
      isplitl [Ha]
      · iexists _
        isplitl [Ha]; · iexact Ha
        ipureintro; exact fun _ => hA
      isplitl [Hc]; · iexact Hc
      isplitl [Hrh]; · iexact Hrh
      isplitl [Hout]; · iexact Hout
      iexact Hp
    iexact HW

end Cert.KernelIdeal.Hand
-- ==== Proof.KI.Launch.lean ====
module

public import proofs.«01_k».proof.Proof.KI.Run

/-! The run of `main`: entry into the invariant, exit from it, and the claims' posts. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg) (sp : (c : Dev nD) → Spec m c)

/-- The proof data. -/
def dats (_ : Fin 1) (c : Dev nD) : Dat τ (Elt F) Unit ℕ (Pipeline.UD sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t | 6 => iblk m c 6 t
  Φ t := inv m sp c t.val
  q _ := fullShare
  owed _ := 0

theorem A_eq (c : Dev nD) (w) : (dats m sp 0 c).A w = V m c (Pipeline.arrRef spec0 w) := by dsimp only [dats]
theorem after0 (c : Dev nD) (t) : (dats m sp 0 c).after 0 t = iblk m c 0 t := by dsimp only [dats]
theorem after1 (c : Dev nD) (t) : (dats m sp 0 c).after 1 t = iblk m c 1 t := by dsimp only [dats]
theorem after2 (c : Dev nD) (t) : (dats m sp 0 c).after 2 t = iblk m c 2 t := by dsimp only [dats]
theorem after3 (c : Dev nD) (t) : (dats m sp 0 c).after 3 t = iblk m c 3 t := by dsimp only [dats]
theorem after4 (c : Dev nD) (t) : (dats m sp 0 c).after 4 t = iblk m c 4 t := by dsimp only [dats]
theorem after5 (c : Dev nD) (t) : (dats m sp 0 c).after 5 t = iblk m c 5 t := by dsimp only [dats]
theorem after6 (c : Dev nD) (t) : (dats m sp 0 c).after 6 t = iblk m c 6 t := by dsimp only [dats]
theorem before0 (c : Dev nD) (t : Fin cfg0.N) (d) : (dats m sp 0 c).before 0 t d = iblk m c 0 t :=
  ((dats m sp 0 c).before_in_eq_fetched 0 rfl (fun _ => rfl) (fun _ _ _ => rfl) (fun t => by rw [after0 m sp c]; unfold Dat.blockOf iblk; rw [A_eq m sp c]; try rfl) t d).trans
    (by unfold Dat.fetched Dat.blockOf iblk; rw [A_eq m sp c]; try rfl)
theorem before1 (c : Dev nD) (t : Fin cfg0.N) (d) : (dats m sp 0 c).before 1 t d = iblk m c 1 t :=
  ((dats m sp 0 c).before_in_eq_fetched 1 rfl (fun _ => rfl) (fun _ _ _ => rfl) (fun t => by rw [after1 m sp c]; unfold Dat.blockOf iblk; rw [A_eq m sp c]; try rfl) t d).trans
    (by unfold Dat.fetched Dat.blockOf iblk; rw [A_eq m sp c]; try rfl)
theorem before2 (c : Dev nD) (t : Fin cfg0.N) (d) : (dats m sp 0 c).before 2 t d = iblk m c 2 t :=
  ((dats m sp 0 c).before_in_eq_fetched 2 rfl (fun _ => rfl) (fun _ _ _ => rfl) (fun t => by rw [after2 m sp c]; unfold Dat.blockOf iblk; rw [A_eq m sp c]; try rfl) t d).trans
    (by unfold Dat.fetched Dat.blockOf iblk; rw [A_eq m sp c]; try rfl)
theorem before3 (c : Dev nD) (t : Fin cfg0.N) (d) : (dats m sp 0 c).before 3 t d = iblk m c 3 t :=
  ((dats m sp 0 c).before_in_eq_fetched 3 rfl (fun _ => rfl) (fun _ _ _ => rfl) (fun t => by rw [after3 m sp c]; unfold Dat.blockOf iblk; rw [A_eq m sp c]; try rfl) t d).trans
    (by unfold Dat.fetched Dat.blockOf iblk; rw [A_eq m sp c]; try rfl)
theorem before4 (c : Dev nD) (t : Fin cfg0.N) (d) : (dats m sp 0 c).before 4 t d = iblk m c 4 t :=
  ((dats m sp 0 c).before_in_eq_fetched 4 rfl (fun _ => rfl) (fun _ _ _ => rfl) (fun t => by rw [after4 m sp c]; unfold Dat.blockOf iblk; rw [A_eq m sp c]; try rfl) t d).trans
    (by unfold Dat.fetched Dat.blockOf iblk; rw [A_eq m sp c]; try rfl)
theorem before5 (c : Dev nD) (t : Fin cfg0.N) (d) : (dats m sp 0 c).before 5 t d = iblk m c 5 t :=
  ((dats m sp 0 c).before_in_eq_fetched 5 rfl (fun _ => rfl) (fun _ _ _ => rfl) (fun t => by rw [after5 m sp c]; unfold Dat.blockOf iblk; rw [A_eq m sp c]; try rfl) t d).trans
    (by unfold Dat.fetched Dat.blockOf iblk; rw [A_eq m sp c]; try rfl)
theorem before6 (c : Dev nD) (t : Fin cfg0.N) (d) : (dats m sp 0 c).before 6 t d = iblk m c 6 t :=
  ((dats m sp 0 c).before_in_eq_fetched 6 rfl (fun _ => rfl) (fun _ _ _ => rfl) (fun t => by rw [after6 m sp c]; unfold Dat.blockOf iblk; rw [A_eq m sp c]; try rfl) t d).trans
    (by unfold Dat.fetched Dat.blockOf iblk; rw [A_eq m sp c]; try rfl)

/-- A whole buffer held through its memref is the buffer held. -/
theorem hld_whole {sp : Space} {S : Shape} {e : EltTy} (c : Dev nD) (M : Memref sig .tc sp S e) (f : Buf (Elt F) (M.view.loc (c : Thread nD τ))) (h : M.view.set = Finset.univ) :
    (M.view.loc (c : Thread nD τ) ↦{fullShare} f : sProp 𝕄) ⊢ hld c M f := by
  unfold hld; rw [h]
theorem hld_whole' {sp : Space} {S : Shape} {e : EltTy} (c : Dev nD) (M : Memref sig .tc sp S e) (f : Buf (Elt F) (M.view.loc (c : Thread nD τ))) (h : M.view.set = Finset.univ) :
    hld c M f ⊢ (M.view.loc (c : Thread nD τ) ↦{fullShare} f : sProp 𝕄) := by
  unfold hld; rw [h]

/-- What the body meets at a point, and what it leaves. -/
def bodyPre (c : Dev nD) (t : Fin cfg0.N) : sProp 𝕄 :=
  iprop((dats m sp 0 c).Φ t.castSucc ∗ (dats m sp 0 c).owesAt () t.castSucc
    ∗ (∃ d, owns (c : Thread nD τ) (st0_0 t) fullShare ((dats m sp 0 c).before 0 t d))
    ∗ (∃ d, owns (c : Thread nD τ) (st0_1 t) fullShare ((dats m sp 0 c).before 1 t d))
    ∗ (∃ d, owns (c : Thread nD τ) (st0_2 t) fullShare ((dats m sp 0 c).before 2 t d))
    ∗ (∃ d, owns (c : Thread nD τ) (st0_3 t) fullShare ((dats m sp 0 c).before 3 t d))
    ∗ (∃ d, owns (c : Thread nD τ) (st0_4 t) fullShare ((dats m sp 0 c).before 4 t d))
    ∗ (∃ d, owns (c : Thread nD τ) (st0_5 t) fullShare ((dats m sp 0 c).before 5 t d))
    ∗ (∃ d, owns (c : Thread nD τ) (st0_6 t) fullShare ((dats m sp 0 c).before 6 t d)))
def bodyPost (c : Dev nD) (t : Fin cfg0.N) : sProp 𝕄 :=
  iprop((dats m sp 0 c).Φ t.succ ∗ (dats m sp 0 c).owesAt () t.succ
    ∗ owns (c : Thread nD τ) (st0_0 t) fullShare ((dats m sp 0 c).after 0 t)
    ∗ owns (c : Thread nD τ) (st0_1 t) fullShare ((dats m sp 0 c).after 1 t)
    ∗ owns (c : Thread nD τ) (st0_2 t) fullShare ((dats m sp 0 c).after 2 t)
    ∗ owns (c : Thread nD τ) (st0_3 t) fullShare ((dats m sp 0 c).after 3 t)
    ∗ owns (c : Thread nD τ) (st0_4 t) fullShare ((dats m sp 0 c).after 4 t)
    ∗ owns (c : Thread nD τ) (st0_5 t) fullShare ((dats m sp 0 c).after 5 t)
    ∗ owns (c : Thread nD τ) (st0_6 t) fullShare ((dats m sp 0 c).after 6 t))

theorem sound_body (c : Dev nD) (t : Fin cfg0.N) :
    bodyPre m sp c t ⊢ wp frame (wpE (defs₀ (F := F)) Variants.none c none) Set.univ (bodyAt0 t) (fun _ => bodyPost m sp c t) := by
  unfold bodyPre bodyPost
  rw [show (dats m sp 0 c).Φ t.succ = inv m sp c (t.val + 1) from rfl, show (dats m sp 0 c).Φ t.castSucc = inv m sp c t.val from rfl,
    after0, after1, after2, after3, after4, after5, after6]
  simp only [before0, before1, before2, before3, before4, before5, before6]
  unfold Dat.owesAt Pipeline.owesWithin
  rw [show (dats m sp 0 c).owed t.castSucc = 0 from rfl, show (dats m sp 0 c).owed t.succ = 0 from rfl]
  unfold owns
  iintro ⟨HΦ, ⟨%W, -, HW⟩, ⟨%d0, %f2, %e2, H2⟩, ⟨%d1, %f3, %e3, H3⟩, ⟨%d2, %f4, %e4, H4⟩, ⟨%d3, %f5, %e5, H5⟩, ⟨%d4, %f6, %e6, H6⟩, ⟨%d5, %f7, %e7, H7⟩, ⟨%d6, %f8, %e8, H8⟩⟩
  iapply (wp_wand_r frame (wpE (defs₀ (F := F)) Variants.none (c : Thread nD τ) none) Set.univ)
  isplitl [HΦ HW H2 H3 H4 H5 H6 H7 H8]
  · iapply (body_at m sp c t ⟨f2, f3, f4, f5, f6, f7, f8, e2, e3, e4, e5, e6, e7, e8⟩)
    unfold reads
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    isplitl [HΦ]; · iexact HΦ
    iexists W; iexact HW
  unfold reads
  iintro %u ⟨⟨H2, H3, H4, H5, H6, H7, H8⟩, HΦ, ⟨%W', HW⟩⟩
  isplitl [HΦ]; · iexact HΦ
  isplitl [HW]
  · iexists W'; isplitr; · ipureintro; exact fun _ _ => Or.inl trivial
    iexact HW
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  iexists f8; isplitr; · ipureintro; exact e8
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m sp 0 c) (defs₀ (F := F)) Variants.none () Set.univ := fun t => by
  rw [bigSep_W0, bigSep_W0, defs₀_row]
  exact triple_restated (sound_body m sp c t) rfl .rfl fun _ => .rfl

/-! ## Entry and exit -/

/-- The kernel's own cells. -/
abbrev osem0 : Fin 9 → SemLoc sig := fun j => (![SemLoc.dma 10, SemLoc.dma 11, SemLoc.dma 12, SemLoc.dma 13, SemLoc.dma 14, SemLoc.dma 15, SemLoc.dma 16, SemLoc.dma 17, SemLoc.dma 18] : Fin 9 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellZ c (csD 0) ∗ cellZ c (csD 1) ∗ cellZ c (csD 2) ∗ cellZ c (csD 3) ∗ cellZ c (csH 0) ∗ cellZ c (csH 1) ∗ cellZ c (csX 0) ∗ cellZ c (csX 1) ∗ cellZ c cc0_scratch8) := by
  have hD : ∀ s : Fin 4, (csD s).sem = ⟨10 + s.val, by have := s.isLt; show 10 + s.val < 19; omega⟩ := by decide
  have hH : ∀ s : Fin 2, (csH s).sem = ⟨14 + s.val, by have := s.isLt; show 14 + s.val < 19; omega⟩ := by decide
  have hX : ∀ s : Fin 2, (csX s).sem = ⟨16 + s.val, by have := s.isLt; show 16 + s.val < 19; omega⟩ := by decide
  have h8 : cc0_scratch8.sem = 18 := by decide
  unfold cellZ
  rw [hD, hD, hD, hD, hH, hH, hX, hX, h8, Pipeline.ownSems0_eq_of_list c osem0 [0, 1, 2, 3, 4, 5, 6, 7, 8] (by decide) (by decide)]; rfl

/-- The array the kernel copies from, and the three results. -/
def H0 : Finset (Ref sig .tc) := {main_v2}
def R0 : Finset (Ref sig .tc) := {main_v20_0, main_v20_1, main_v20_2}
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} V m c b) : sProp 𝕄) = iprop(((c : Thread nD τ).loc main_v2) ↦{fullShare} V m c main_v2) := by
  rw [BI.bigSep_eq_bigSepL_of_eq [main_v2] (by decide) (by decide)]; rfl
theorem ownedPts0_eq (c : Dev nD) :
    (Pipeline.owned R0 c : sProp 𝕄)
      = iprop((∃ f : Buf (Elt F) ((c : Thread nD τ).loc main_v20_0), ((c : Thread nD τ).loc main_v20_0) ↦{fullShare} f)
        ∗ (∃ f : Buf (Elt F) ((c : Thread nD τ).loc main_v20_1), ((c : Thread nD τ).loc main_v20_1) ↦{fullShare} f)
        ∗ (∃ f : Buf (Elt F) ((c : Thread nD τ).loc main_v20_2), ((c : Thread nD τ).loc main_v20_2) ↦{fullShare} f)) := by
  unfold Pipeline.owned; rw [BI.bigSep_eq_bigSepL_of_eq [main_v20_0, main_v20_1, main_v20_2] (by decide) (by decide)]; rfl
theorem routedPts0_eq (c : Dev nD) (G : (b : Ref sig .tc) → Buf (Elt F) ((c : Thread nD τ).loc b)) :
    (Pipeline.routed R0 c G : sProp 𝕄)
      = iprop((((c : Thread nD τ).loc main_v20_0) ↦{fullShare} G main_v20_0)
        ∗ (((c : Thread nD τ).loc main_v20_1) ↦{fullShare} G main_v20_1)
        ∗ (((c : Thread nD τ).loc main_v20_2) ↦{fullShare} G main_v20_2)) := by
  unfold Pipeline.routed; rw [BI.bigSep_eq_bigSepL_of_eq [main_v20_0, main_v20_1, main_v20_2] (by decide) (by decide)]; rfl

theorem enter (c : Dev nD) : Pipeline.ΦDR osem0 spec0 H0 R0 (V m) c ⊢ inv m sp c 0 := by
  rw [Pipeline.ΦDR_eq, scopedRest0_eq, ownSems00_eq, hbmPts0_eq, ownedPts0_eq]
  have hr0 : ringAt m c 0 = iprop(dslot c (XA m c) 0 none ∗ dslot c (XA m c) 1 none ∗ dslot c (XA m c) 2 none ∗ dslot c (XA m c) 3 none) := by
    unfold ringAt; rw [if_pos rfl, dring_zero]
  have ho0 : outsAt c (sp c).HOK (sp c).XOK 0 = outs c (sp c).HOK (sp c).XOK 0 := by unfold outsAt; rw [if_neg (by decide)]
  unfold inv
  rw [hr0, ho0, dslot_none, dslot_none, dslot_none, dslot_none]
  iintro ⟨⟨⟨%r0, S0⟩, S1, ⟨%a0, S2⟩, S3, S4⟩, Hg, ⟨D0, D1, D2, D3, CH0, CH1, CX0, CX1, C8⟩, Hy, ⟨HX, HH, HR⟩⟩
  ihave S0 := (ring_cut c r0) $$ S0
  icases S0 with ⟨T0, T1, T2, T3⟩
  ihave Hy := ((dtoks c (XA m c)).mp) $$ Hy
  icases Hy with ⟨Hd, K0, K1, K2, K3⟩
  isplitl [D0 D1 D2 D3 T0 T1 T2 T3 K0 K1 K2 K3]
  · isplitl [D0 T0 K0]
    · isplitl [D0]; · iexact D0
      isplitl [T0]; · iexact T0
      iexact K0
    isplitl [D1 T1 K1]
    · isplitl [D1]; · iexact D1
      isplitl [T1]; · iexact T1
      iexact K1
    isplitl [D2 T2 K2]
    · isplitl [D2]; · iexact D2
      isplitl [T2]; · iexact T2
      iexact K2
    isplitl [D3]; · iexact D3
    isplitl [T3]; · iexact T3
    iexact K3
  isplitl [Hd]; · iexact Hd
  isplitl [S1]
  · icases S1 with ⟨%f1, S1⟩
    iexists f1; iapply (hld_whole c dhtM f1 (View.set_whole _)); iexact S1
  isplitl [S2]
  · iexists a0
    isplitl [S2]; · iapply (hld_whole c accM a0 (View.set_whole _)); iexact S2
    ipureintro; intro h; exact absurd rfl h
  isplitl [C8]; · iexact C8
  isplitl [HR]; · iapply (rh_start c (sp c).ROK); iexact HR
  isplitr [Hg]
  · iapply (outs_start c (sp c).HOK (sp c).XOK)
    isplitl [CH0 CH1 CX0 CX1]
    · isplitl [CH0]; · iexact CH0
      isplitl [CH1]; · iexact CH1
      isplitl [CX0]; · iexact CX0
      iexact CX1
    isplitl [S3]; · iexact S3
    isplitl [S4]; · iexact S4
    isplitl [HX]; · iexact HX
    iexact HH
  iexact Hg

/-- At the end the pieces are whole again, each result at contents of which what was asked holds. -/
theorem leave' (c : Dev nD) : inv m sp c 40 ⊢
    iprop(Pipeline.scopedRest (Ix := Unit) (Name := ℕ) (U := Pipeline.UD sig nD τ) (Lvl := ℕ) (Val := Elt F) spec0 c ∗ (∃ r, prngReg c r)
      ∗ Pipeline.ownSems0 (Ix := Unit) (Name := ℕ) (U := Pipeline.UD sig nD τ) (Lvl := ℕ) (Val := Elt F) (τ := τ) osem0 c
      ∗ (bigSep H0 fun b => ((c : Thread nD τ).loc b) ↦{fullShare} V m c b)
      ∗ (∃ f : Buf (Elt F) ((c : Thread nD τ).loc main_v20_0), ⌜∀ i, (sp c).PX i f⌝ ∗ ((c : Thread nD τ).loc main_v20_0) ↦{fullShare} f)
      ∗ (∃ f : Buf (Elt F) ((c : Thread nD τ).loc main_v20_1), ⌜∀ i, (sp c).PH i f⌝ ∗ ((c : Thread nD τ).loc main_v20_1) ↦{fullShare} f)
      ∗ (∃ f : Buf (Elt F) ((c : Thread nD τ).loc main_v20_2), ⌜∀ i, (sp c).PR i f⌝ ∗ ((c : Thread nD τ).loc main_v20_2) ↦{fullShare} f)) := by
  rw [scopedRest0_eq, ownSems00_eq, hbmPts0_eq]
  have hr0 : ringAt m c 40 = iprop(dslot c (XA m c) 0 none ∗ dslot c (XA m c) 1 none ∗ dslot c (XA m c) 2 none ∗ dslot c (XA m c) 3 none) := by
    unfold ringAt; rw [if_neg (by decide)]
    exact dring_free c (XA m c) 320 (dst 320 320) (by decide)
  have ho0 : outsAt c (sp c).HOK (sp c).XOK 40 = outsFin c (sp c).HOK (sp c).XOK := by unfold outsAt; rw [if_pos rfl]
  unfold inv
  rw [hr0, ho0, dslot_none, dslot_none, dslot_none, dslot_none]
  iintro ⟨⟨⟨D0, T0, K0⟩, ⟨D1, T1, K1⟩, ⟨D2, T2, K2⟩, ⟨D3, T3, K3⟩⟩, Hd, ⟨%f1, S1⟩, ⟨%a0, S2, -⟩, C8, HR, HO, Hg⟩
  ihave HO := (outs_end c (sp c).PH (sp c).locH (sp c).PX (sp c).locX) $$ HO
  icases HO with ⟨⟨CH0, CH1, CX0, CX1⟩, S3, S4, HX, HH⟩
  ihave HR := (rh_end c (sp c).PR (sp c).locR) $$ HR
  isplitl [T0 T1 T2 T3 S1 S2 S3 S4]
  · isplitl [T0 T1 T2 T3]
    · iapply (ring_glue c)
      isplitl [T0]; · iexact T0
      isplitl [T1]; · iexact T1
      isplitl [T2]; · iexact T2
      iexact T3
    isplitl [S1]; · iexists f1; iapply (hld_whole' c dhtM f1 (View.set_whole _)); iexact S1
    isplitl [S2]; · iexists a0; iapply (hld_whole' c accM a0 (View.set_whole _)); iexact S2
    isplitl [S3]; · iexact S3
    iexact S4
  isplitl [Hg]; · iexact Hg
  isplitl [D0 D1 D2 D3 CH0 CH1 CX0 CX1 C8]
  · isplitl [D0]; · iexact D0
    isplitl [D1]; · iexact D1
    isplitl [D2]; · iexact D2
    isplitl [D3]; · iexact D3
    isplitl [CH0]; · iexact CH0
    isplitl [CH1]; · iexact CH1
    isplitl [CX0]; · iexact CX0
    isplitl [CX1]; · iexact CX1
    iexact C8
  isplitl [Hd K0 K1 K2 K3]
  · iapply ((dtoks c (XA m c)).mpr)
    isplitl [Hd]; · iexact Hd
    isplitl [K0]; · iexact K0
    isplitl [K1]; · iexact K1
    isplitl [K2]; · iexact K2
    iexact K3
  isplitl [HX]; · iexact HX
  isplitl [HH]; · iexact HH
  iexact HR

theorem leave (c : Dev nD) : inv m sp c 40 ⊢ Pipeline.ΦDR osem0 spec0 H0 R0 (V m) c := by
  refine (leave' m sp c).trans ?_
  rw [Pipeline.ΦDR_eq, ownedPts0_eq]
  iintro ⟨S, Hg, Ho, Hy, ⟨%f, -, HX⟩, ⟨%g, -, HH⟩, ⟨%h, -, HR⟩⟩
  isplitl [S]; · iexact S
  isplitl [Hg]; · iexact Hg
  isplitl [Ho]; · iexact Ho
  isplitl [Hy]; · iexact Hy
  isplitl [HX]; · iexists f; iexact HX
  isplitl [HH]; · iexists g; iexact HH
  iexists h; iexact HR

/-- The results, when the properties asked of them fix them. -/
theorem leaveG (c : Dev nD) (G : (c : Dev nD) → (b : Ref sig .tc) → Buf (Elt F) ((c : Thread nD τ).loc b))
    (hX : ∀ f, (∀ i, (sp c).PX i f) → f = G c main_v20_0) (hH : ∀ f, (∀ i, (sp c).PH i f) → f = G c main_v20_1) (hR : ∀ f, (∀ i, (sp c).PR i f) → f = G c main_v20_2) :
    inv m sp c 40 ⊢ Pipeline.ΦDRG osem0 spec0 H0 R0 (V m) G c := by
  refine (leave' m sp c).trans ?_
  rw [Pipeline.ΦDRG_eq, routedPts0_eq]
  iintro ⟨S, Hg, Ho, Hy, ⟨%f, %hf, HX⟩, ⟨%g, %hg, HH⟩, ⟨%h, %hh, HR⟩⟩
  rw [← hX f hf, ← hH g hg, ← hR h hh]
  isplitl [S]; · iexact S
  isplitl [Hg]; · iexact Hg
  isplitl [Ho]; · iexact Ho
  isplitl [Hy]; · iexact Hy
  isplitl [HX]; · iexact HX
  isplitl [HH]; · iexact HH
  iexact HR

/-! ## The run -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePostR cfgs (dats m sp) 0 R0 (V m) r ∧ r.2.sem = fun _ => 0) :=
  Pipeline.θ_run_frame_dmaR (Q' := _) cfgs (dats m sp) (0 : Fin 1) launch0 osem0 defs₀ Variants.none ownSemFacts0 H0 R0 H0_sub R0_sub m ρ main
    (hbody := fun c => (body_obligation m sp c).loose) (hshare := fun c => (dats m sp 0 c).share_full fun _ => rfl)
    (howed := fun _ _ => rfl) (V := V m) (hmain := hmainD m Variants.none) (hA := A_eq m sp)
    (hin := fun c => enter m sp c) (hout := fun c => leave m sp c)

set_option backward.isDefEq.respectTransparency.types false in
theorem run_mainG (G : (c : Dev nD) → (b : Ref sig .tc) → Buf (Elt F) ((c : Thread nD τ).loc b))
    (hX : ∀ c f, (∀ i, (sp c).PX i f) → f = G c main_v20_0) (hH : ∀ c f, (∀ i, (sp c).PH i f) → f = G c main_v20_1) (hR : ∀ c f, (∀ i, (sp c).PR i f) → f = G c main_v20_2) :
    θ_run defs (onTc (τ := τ) (main (F := F))) (s₀ m ρ) (fun r => Pipeline.FramePostRG cfgs (dats m sp) 0 R0 (V m) G r ∧ r.2.sem = fun _ => 0) :=
  Pipeline.θ_run_frame_dmaRG (Q' := _) cfgs (dats m sp) (0 : Fin 1) launch0 osem0 defs₀ Variants.none ownSemFacts0 H0 R0 H0_sub R0_sub m ρ main
    (hbody := fun c => (body_obligation m sp c).loose) (hshare := fun c => (dats m sp 0 c).share_full fun _ => rfl)
    (howed := fun _ _ => rfl) (V := V m) (hmain := hmainD m Variants.none) (hA := A_eq m sp) G
    (hin := fun c => (Pipeline.ΦDRG_ΦDR osem0 spec0 H0 R0 (V m) (V m) c).trans (enter m sp c)) (hout := fun c => leaveG m sp c G (hX c) (hH c) (hR c))

/-- The arguments, off a run's post. -/
theorem args_of (r : PUnit × MemSt nD τ sig (Elt F)) (h : Pipeline.FramePostR cfgs (dats m sp) 0 R0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Finset.mem_sdiff.mpr ⟨Pipeline.mem_restRefs_of main_arg0 (by decide) (by decide), by decide⟩)).trans (V_main_arg0 m c),
    ((h c).2 main_arg1 (Finset.mem_sdiff.mpr ⟨Pipeline.mem_restRefs_of main_arg1 (by decide) (by decide), by decide⟩)).trans (V_main_arg1 m c),
    ((h c).2 main_arg2 (Finset.mem_sdiff.mpr ⟨Pipeline.mem_restRefs_of main_arg2 (by decide) (by decide), by decide⟩)).trans (V_main_arg2 m c),
    ((h c).2 main_arg3 (Finset.mem_sdiff.mpr ⟨Pipeline.mem_restRefs_of main_arg3 (by decide) (by decide), by decide⟩)).trans (V_main_arg3 m c),
    ((h c).1 6).trans (((dats m sp 0 c).arrAt_in 6 rfl _).trans ((A_eq m sp c 6).trans (V_main_arg4 m c))),
    ((h c).1 0).trans (((dats m sp 0 c).arrAt_in 0 rfl _).trans ((A_eq m sp c 0).trans (V_main_arg5 m c))),
    ((h c).2 main_arg6 (Finset.mem_sdiff.mpr ⟨Pipeline.mem_restRefs_of main_arg6 (by decide) (by decide), by decide⟩)).trans (V_main_arg6 m c),
    ((h c).2 main_arg7 (Finset.mem_sdiff.mpr ⟨Pipeline.mem_restRefs_of main_arg7 (by decide) (by decide), by decide⟩)).trans (V_main_arg7 m c)⟩

/-- The frame: every run ends with the arguments as launched and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => args_of m (fun c => Spec.triv m c) r h.1 c, h.2⟩) (run_main m ρ fun c => Spec.triv m c)

end Cert.KernelIdeal.Hand
-- ==== Proof.K.Off.lean ====
module

public import proofs.«01_k».proof.Proof.Gen.Kernel
public import Idealize.ShloMosaic.Lib.Ring

/-! The closed forms of the kernel's ring indices: the dy ring's slot of a global copy number modulo 4, the output rings'
    slot of a step's pair number modulo 2, and the conditions on the grid point. -/

@[expose] public section

noncomputable section

namespace Cert.Kernel.Hand

open Cert.Kernel Cert.Kernel.Gen
open Idealize.ShloMosaic Idealize.ShloMosaic.TcCoe

/-- The grid point's step number. -/
abbrev stepOf (i : grid0.Coords) : ℕ := 20 * (i 0).val + (i 1).val

/-- The dy copy a trip of the first loop waits for. -/
abbrev cnt (i : grid0.Coords) (k : Fin k0_t1_loop.trips) : ℕ := 8 * stepOf i + k.val

theorem k0_off1_eq : ∀ (i : grid0.Coords) (k0_t1 : Fin k0_t1_loop.trips), k0_off1 i k0_t1 = ![(Ring.sl 4 (cnt i k0_t1 + 3)).val] := by decide +kernel
instance closedOff_k0_off1 (i : grid0.Coords) (k0_t1 : Fin k0_t1_loop.trips) : ClosedOff (k0_off1 i k0_t1) := ⟨![(Ring.sl 4 (cnt i k0_t1 + 3)).val], k0_off1_eq i k0_t1⟩
theorem k0_off2_eq : ∀ (i : grid0.Coords) (k0_t1 : Fin k0_t1_loop.trips), k0_off2 i k0_t1 = ![(Ring.sl 4 (cnt i k0_t1 + 3)).val, 0, 0, 0] := by decide +kernel
instance closedOff_k0_off2 (i : grid0.Coords) (k0_t1 : Fin k0_t1_loop.trips) : ClosedOff (k0_off2 i k0_t1) := ⟨![(Ring.sl 4 (cnt i k0_t1 + 3)).val, 0, 0, 0], k0_off2_eq i k0_t1⟩
theorem k0_off4_eq : ∀ (i : grid0.Coords) (k0_t1 : Fin k0_t1_loop.trips), k0_off4 i k0_t1 = ![(Ring.sl 4 (cnt i k0_t1)).val] := by decide +kernel
instance closedOff_k0_off4 (i : grid0.Coords) (k0_t1 : Fin k0_t1_loop.trips) : ClosedOff (k0_off4 i k0_t1) := ⟨![(Ring.sl 4 (cnt i k0_t1)).val], k0_off4_eq i k0_t1⟩
theorem k0_off5_eq : ∀ (i : grid0.Coords) (k0_t1 : Fin k0_t1_loop.trips), k0_off5 i k0_t1 = ![(Ring.sl 4 (cnt i k0_t1)).val, 0, 0, 0] := by decide +kernel
instance closedOff_k0_off5 (i : grid0.Coords) (k0_t1 : Fin k0_t1_loop.trips) : ClosedOff (k0_off5 i k0_t1) := ⟨![(Ring.sl 4 (cnt i k0_t1)).val, 0, 0, 0], k0_off5_eq i k0_t1⟩
theorem k0_off18_eq : ∀ (k0_t3 : Fin k0_t3_loop.trips), k0_off18 k0_t3 = ![(Ring.sl 2 k0_t3.val).val] := by decide +kernel
instance closedOff_k0_off18 (k0_t3 : Fin k0_t3_loop.trips) : ClosedOff (k0_off18 k0_t3) := ⟨![(Ring.sl 2 k0_t3.val).val], k0_off18_eq k0_t3⟩
theorem k0_off52_eq : ∀ (k0_t3 : Fin k0_t3_loop.trips), k0_off52 k0_t3 = ![(Ring.sl 2 k0_t3.val).val] := by decide +kernel
instance closedOff_k0_off52 (k0_t3 : Fin k0_t3_loop.trips) : ClosedOff (k0_off52 k0_t3) := ⟨![(Ring.sl 2 k0_t3.val).val], k0_off52_eq k0_t3⟩
theorem k0_off20_eq : ∀ (k0_t3 : Fin k0_t3_loop.trips), k0_off20 k0_t3 = ![(Ring.sl 2 k0_t3.val).val, 0, 0, 0, 0] := by decide +kernel
instance closedOff_k0_off20 (k0_t3 : Fin k0_t3_loop.trips) : ClosedOff (k0_off20 k0_t3) := ⟨![(Ring.sl 2 k0_t3.val).val, 0, 0, 0, 0], k0_off20_eq k0_t3⟩
theorem k0_off22_eq : ∀ (k0_t3 : Fin k0_t3_loop.trips), k0_off22 k0_t3 = ![(Ring.sl 2 k0_t3.val).val, 1, 0, 0, 0] := by decide +kernel
instance closedOff_k0_off22 (k0_t3 : Fin k0_t3_loop.trips) : ClosedOff (k0_off22 k0_t3) := ⟨![(Ring.sl 2 k0_t3.val).val, 1, 0, 0, 0], k0_off22_eq k0_t3⟩
theorem k0_off24_eq : ∀ (k0_t3 : Fin k0_t3_loop.trips), k0_off24 k0_t3 = ![(Ring.sl 2 k0_t3.val).val, 2, 0, 0, 0] := by decide +kernel
instance closedOff_k0_off24 (k0_t3 : Fin k0_t3_loop.trips) : ClosedOff (k0_off24 k0_t3) := ⟨![(Ring.sl 2 k0_t3.val).val, 2, 0, 0, 0], k0_off24_eq k0_t3⟩
theorem k0_off26_eq : ∀ (k0_t3 : Fin k0_t3_loop.trips), k0_off26 k0_t3 = ![(Ring.sl 2 k0_t3.val).val, 3, 0, 0, 0] := by decide +kernel
instance closedOff_k0_off26 (k0_t3 : Fin k0_t3_loop.trips) : ClosedOff (k0_off26 k0_t3) := ⟨![(Ring.sl 2 k0_t3.val).val, 3, 0, 0, 0], k0_off26_eq k0_t3⟩
theorem k0_off54_eq : ∀ (k0_t3 : Fin k0_t3_loop.trips), k0_off54 k0_t3 = ![(Ring.sl 2 k0_t3.val).val, 0, 0, 0, 0] := by decide +kernel
instance closedOff_k0_off54 (k0_t3 : Fin k0_t3_loop.trips) : ClosedOff (k0_off54 k0_t3) := ⟨![(Ring.sl 2 k0_t3.val).val, 0, 0, 0, 0], k0_off54_eq k0_t3⟩
theorem k0_off56_eq : ∀ (k0_t3 : Fin k0_t3_loop.trips), k0_off56 k0_t3 = ![(Ring.sl 2 k0_t3.val).val, 1, 0, 0, 0] := by decide +kernel
instance closedOff_k0_off56 (k0_t3 : Fin k0_t3_loop.trips) : ClosedOff (k0_off56 k0_t3) := ⟨![(Ring.sl 2 k0_t3.val).val, 1, 0, 0, 0], k0_off56_eq k0_t3⟩
theorem k0_off58_eq : ∀ (k0_t3 : Fin k0_t3_loop.trips), k0_off58 k0_t3 = ![(Ring.sl 2 k0_t3.val).val, 2, 0, 0, 0] := by decide +kernel
instance closedOff_k0_off58 (k0_t3 : Fin k0_t3_loop.trips) : ClosedOff (k0_off58 k0_t3) := ⟨![(Ring.sl 2 k0_t3.val).val, 2, 0, 0, 0], k0_off58_eq k0_t3⟩
theorem k0_off60_eq : ∀ (k0_t3 : Fin k0_t3_loop.trips), k0_off60 k0_t3 = ![(Ring.sl 2 k0_t3.val).val, 3, 0, 0, 0] := by decide +kernel
instance closedOff_k0_off60 (k0_t3 : Fin k0_t3_loop.trips) : ClosedOff (k0_off60 k0_t3) := ⟨![(Ring.sl 2 k0_t3.val).val, 3, 0, 0, 0], k0_off60_eq k0_t3⟩
theorem k0_off28_eq : ∀ (k0_t3 : Fin k0_t3_loop.trips), k0_off28 k0_t3 = ![(Ring.sl 2 k0_t3.val).val, 0, 0, 0] := by decide +kernel
instance closedOff_k0_off28 (k0_t3 : Fin k0_t3_loop.trips) : ClosedOff (k0_off28 k0_t3) := ⟨![(Ring.sl 2 k0_t3.val).val, 0, 0, 0], k0_off28_eq k0_t3⟩
theorem k0_off29_eq : ∀ (k0_t3 : Fin k0_t3_loop.trips), k0_off29 k0_t3 = ![(Ring.sl 2 k0_t3.val).val, 1, 0, 0] := by decide +kernel
instance closedOff_k0_off29 (k0_t3 : Fin k0_t3_loop.trips) : ClosedOff (k0_off29 k0_t3) := ⟨![(Ring.sl 2 k0_t3.val).val, 1, 0, 0], k0_off29_eq k0_t3⟩
theorem k0_off30_eq : ∀ (k0_t3 : Fin k0_t3_loop.trips), k0_off30 k0_t3 = ![(Ring.sl 2 k0_t3.val).val, 2, 0, 0] := by decide +kernel
instance closedOff_k0_off30 (k0_t3 : Fin k0_t3_loop.trips) : ClosedOff (k0_off30 k0_t3) := ⟨![(Ring.sl 2 k0_t3.val).val, 2, 0, 0], k0_off30_eq k0_t3⟩
theorem k0_off31_eq : ∀ (k0_t3 : Fin k0_t3_loop.trips), k0_off31 k0_t3 = ![(Ring.sl 2 k0_t3.val).val, 3, 0, 0] := by decide +kernel
instance closedOff_k0_off31 (k0_t3 : Fin k0_t3_loop.trips) : ClosedOff (k0_off31 k0_t3) := ⟨![(Ring.sl 2 k0_t3.val).val, 3, 0, 0], k0_off31_eq k0_t3⟩
theorem k0_off62_eq : ∀ (k0_t3 : Fin k0_t3_loop.trips), k0_off62 k0_t3 = ![(Ring.sl 2 k0_t3.val).val, 0, 0, 0] := by decide +kernel
instance closedOff_k0_off62 (k0_t3 : Fin k0_t3_loop.trips) : ClosedOff (k0_off62 k0_t3) := ⟨![(Ring.sl 2 k0_t3.val).val, 0, 0, 0], k0_off62_eq k0_t3⟩
theorem k0_off63_eq : ∀ (k0_t3 : Fin k0_t3_loop.trips), k0_off63 k0_t3 = ![(Ring.sl 2 k0_t3.val).val, 1, 0, 0] := by decide +kernel
instance closedOff_k0_off63 (k0_t3 : Fin k0_t3_loop.trips) : ClosedOff (k0_off63 k0_t3) := ⟨![(Ring.sl 2 k0_t3.val).val, 1, 0, 0], k0_off63_eq k0_t3⟩
theorem k0_off64_eq : ∀ (k0_t3 : Fin k0_t3_loop.trips), k0_off64 k0_t3 = ![(Ring.sl 2 k0_t3.val).val, 2, 0, 0] := by decide +kernel
instance closedOff_k0_off64 (k0_t3 : Fin k0_t3_loop.trips) : ClosedOff (k0_off64 k0_t3) := ⟨![(Ring.sl 2 k0_t3.val).val, 2, 0, 0], k0_off64_eq k0_t3⟩
theorem k0_off65_eq : ∀ (k0_t3 : Fin k0_t3_loop.trips), k0_off65 k0_t3 = ![(Ring.sl 2 k0_t3.val).val, 3, 0, 0] := by decide +kernel
instance closedOff_k0_off65 (k0_t3 : Fin k0_t3_loop.trips) : ClosedOff (k0_off65 k0_t3) := ⟨![(Ring.sl 2 k0_t3.val).val, 3, 0, 0], k0_off65_eq k0_t3⟩
theorem k0_off3_eq : ∀ (i : grid0.Coords) (k0_t1 : Fin k0_t1_loop.trips), k0_off3 i k0_t1 = ![(cnt i k0_t1 + 3) / 8 % 20, 8 * ((cnt i k0_t1 + 3) % 8), 0, 0] := by decide +kernel
instance closedOff_k0_off3 (i : grid0.Coords) (k0_t1 : Fin k0_t1_loop.trips) : ClosedOff (k0_off3 i k0_t1) := ⟨![(cnt i k0_t1 + 3) / 8 % 20, 8 * ((cnt i k0_t1 + 3) % 8), 0, 0], k0_off3_eq i k0_t1⟩
theorem k0_off6_eq : ∀ (i : grid0.Coords) (k0_t1 : Fin k0_t1_loop.trips), k0_off6 i k0_t1 = ![cnt i k0_t1 / 8 % 20, 8 * (cnt i k0_t1 % 8), 0, 0] := by decide +kernel
instance closedOff_k0_off6 (i : grid0.Coords) (k0_t1 : Fin k0_t1_loop.trips) : ClosedOff (k0_off6 i k0_t1) := ⟨![cnt i k0_t1 / 8 % 20, 8 * (cnt i k0_t1 % 8), 0, 0], k0_off6_eq i k0_t1⟩
theorem k0_off7_0_eq : ∀ (i : grid0.Coords) (k0_t1 : Fin k0_t1_loop.trips) (k0_t2 : Fin k0_t2_loop.trips), k0_off7 i k0_t1 k0_t2 0#32 = ![(Ring.sl 4 (cnt i k0_t1)).val, 2 * k0_t2.val + 0, 0, 0] := by decide +kernel
instance closedOff_k0_off7_0 (i : grid0.Coords) (k0_t1 : Fin k0_t1_loop.trips) (k0_t2 : Fin k0_t2_loop.trips) : ClosedOff (k0_off7 i k0_t1 k0_t2 0#32) := ⟨![(Ring.sl 4 (cnt i k0_t1)).val, 2 * k0_t2.val + 0, 0, 0], k0_off7_0_eq i k0_t1 k0_t2⟩
theorem k0_off7_1_eq : ∀ (i : grid0.Coords) (k0_t1 : Fin k0_t1_loop.trips) (k0_t2 : Fin k0_t2_loop.trips), k0_off7 i k0_t1 k0_t2 1#32 = ![(Ring.sl 4 (cnt i k0_t1)).val, 2 * k0_t2.val + 1, 0, 0] := by decide +kernel
instance closedOff_k0_off7_1 (i : grid0.Coords) (k0_t1 : Fin k0_t1_loop.trips) (k0_t2 : Fin k0_t2_loop.trips) : ClosedOff (k0_off7 i k0_t1 k0_t2 1#32) := ⟨![(Ring.sl 4 (cnt i k0_t1)).val, 2 * k0_t2.val + 1, 0, 0], k0_off7_1_eq i k0_t1 k0_t2⟩
theorem k0_off32_eq : ∀ (k0_t3 : Fin k0_t3_loop.trips), k0_off32 k0_t3 = ![(Ring.sl 2 k0_t3.val).val, 0, 0, 0] := by decide +kernel
instance closedOff_k0_off32 (k0_t3 : Fin k0_t3_loop.trips) : ClosedOff (k0_off32 k0_t3) := ⟨![(Ring.sl 2 k0_t3.val).val, 0, 0, 0], k0_off32_eq k0_t3⟩
theorem k0_off33_eq : ∀ (k0_t3 : Fin k0_t3_loop.trips), k0_off33 k0_t3 = ![(Ring.sl 2 k0_t3.val).val, 1, 0, 0] := by decide +kernel
instance closedOff_k0_off33 (k0_t3 : Fin k0_t3_loop.trips) : ClosedOff (k0_off33 k0_t3) := ⟨![(Ring.sl 2 k0_t3.val).val, 1, 0, 0], k0_off33_eq k0_t3⟩
theorem k0_off34_eq : ∀ (k0_t3 : Fin k0_t3_loop.trips), k0_off34 k0_t3 = ![(Ring.sl 2 k0_t3.val).val, 2, 0, 0] := by decide +kernel
instance closedOff_k0_off34 (k0_t3 : Fin k0_t3_loop.trips) : ClosedOff (k0_off34 k0_t3) := ⟨![(Ring.sl 2 k0_t3.val).val, 2, 0, 0], k0_off34_eq k0_t3⟩
theorem k0_off35_eq : ∀ (k0_t3 : Fin k0_t3_loop.trips), k0_off35 k0_t3 = ![(Ring.sl 2 k0_t3.val).val, 3, 0, 0] := by decide +kernel
instance closedOff_k0_off35 (k0_t3 : Fin k0_t3_loop.trips) : ClosedOff (k0_off35 k0_t3) := ⟨![(Ring.sl 2 k0_t3.val).val, 3, 0, 0], k0_off35_eq k0_t3⟩
theorem k0_off36_eq : ∀ (k0_t3 : Fin k0_t3_loop.trips), k0_off36 k0_t3 = ![(Ring.sl 2 k0_t3.val).val, 0, 0, 0, 0] := by decide +kernel
instance closedOff_k0_off36 (k0_t3 : Fin k0_t3_loop.trips) : ClosedOff (k0_off36 k0_t3) := ⟨![(Ring.sl 2 k0_t3.val).val, 0, 0, 0, 0], k0_off36_eq k0_t3⟩
theorem k0_off37_eq : ∀ (k0_t3 : Fin k0_t3_loop.trips), k0_off37 k0_t3 = ![(Ring.sl 2 k0_t3.val).val, 0, 0, 0, 0] := by decide +kernel
instance closedOff_k0_off37 (k0_t3 : Fin k0_t3_loop.trips) : ClosedOff (k0_off37 k0_t3) := ⟨![(Ring.sl 2 k0_t3.val).val, 0, 0, 0, 0], k0_off37_eq k0_t3⟩
theorem k0_off38_eq : ∀ (k0_t3 : Fin k0_t3_loop.trips), k0_off38 k0_t3 = ![(Ring.sl 2 k0_t3.val).val, 0, 0, 1, 0] := by decide +kernel
instance closedOff_k0_off38 (k0_t3 : Fin k0_t3_loop.trips) : ClosedOff (k0_off38 k0_t3) := ⟨![(Ring.sl 2 k0_t3.val).val, 0, 0, 1, 0], k0_off38_eq k0_t3⟩
theorem k0_off39_eq : ∀ (k0_t3 : Fin k0_t3_loop.trips), k0_off39 k0_t3 = ![(Ring.sl 2 k0_t3.val).val, 0, 0, 0, 0] := by decide +kernel
instance closedOff_k0_off39 (k0_t3 : Fin k0_t3_loop.trips) : ClosedOff (k0_off39 k0_t3) := ⟨![(Ring.sl 2 k0_t3.val).val, 0, 0, 0, 0], k0_off39_eq k0_t3⟩
theorem k0_off40_eq : ∀ (k0_t3 : Fin k0_t3_loop.trips), k0_off40 k0_t3 = ![(Ring.sl 2 k0_t3.val).val, 1, 0, 0, 0] := by decide +kernel
instance closedOff_k0_off40 (k0_t3 : Fin k0_t3_loop.trips) : ClosedOff (k0_off40 k0_t3) := ⟨![(Ring.sl 2 k0_t3.val).val, 1, 0, 0, 0], k0_off40_eq k0_t3⟩
theorem k0_off41_eq : ∀ (k0_t3 : Fin k0_t3_loop.trips), k0_off41 k0_t3 = ![(Ring.sl 2 k0_t3.val).val, 1, 0, 0, 0] := by decide +kernel
instance closedOff_k0_off41 (k0_t3 : Fin k0_t3_loop.trips) : ClosedOff (k0_off41 k0_t3) := ⟨![(Ring.sl 2 k0_t3.val).val, 1, 0, 0, 0], k0_off41_eq k0_t3⟩
theorem k0_off42_eq : ∀ (k0_t3 : Fin k0_t3_loop.trips), k0_off42 k0_t3 = ![(Ring.sl 2 k0_t3.val).val, 1, 0, 1, 0] := by decide +kernel
instance closedOff_k0_off42 (k0_t3 : Fin k0_t3_loop.trips) : ClosedOff (k0_off42 k0_t3) := ⟨![(Ring.sl 2 k0_t3.val).val, 1, 0, 1, 0], k0_off42_eq k0_t3⟩
theorem k0_off43_eq : ∀ (k0_t3 : Fin k0_t3_loop.trips), k0_off43 k0_t3 = ![(Ring.sl 2 k0_t3.val).val, 1, 0, 0, 0] := by decide +kernel
instance closedOff_k0_off43 (k0_t3 : Fin k0_t3_loop.trips) : ClosedOff (k0_off43 k0_t3) := ⟨![(Ring.sl 2 k0_t3.val).val, 1, 0, 0, 0], k0_off43_eq k0_t3⟩
theorem k0_off44_eq : ∀ (k0_t3 : Fin k0_t3_loop.trips), k0_off44 k0_t3 = ![(Ring.sl 2 k0_t3.val).val, 2, 0, 0, 0] := by decide +kernel
instance closedOff_k0_off44 (k0_t3 : Fin k0_t3_loop.trips) : ClosedOff (k0_off44 k0_t3) := ⟨![(Ring.sl 2 k0_t3.val).val, 2, 0, 0, 0], k0_off44_eq k0_t3⟩
theorem k0_off45_eq : ∀ (k0_t3 : Fin k0_t3_loop.trips), k0_off45 k0_t3 = ![(Ring.sl 2 k0_t3.val).val, 2, 0, 0, 0] := by decide +kernel
instance closedOff_k0_off45 (k0_t3 : Fin k0_t3_loop.trips) : ClosedOff (k0_off45 k0_t3) := ⟨![(Ring.sl 2 k0_t3.val).val, 2, 0, 0, 0], k0_off45_eq k0_t3⟩
theorem k0_off46_eq : ∀ (k0_t3 : Fin k0_t3_loop.trips), k0_off46 k0_t3 = ![(Ring.sl 2 k0_t3.val).val, 2, 0, 1, 0] := by decide +kernel
instance closedOff_k0_off46 (k0_t3 : Fin k0_t3_loop.trips) : ClosedOff (k0_off46 k0_t3) := ⟨![(Ring.sl 2 k0_t3.val).val, 2, 0, 1, 0], k0_off46_eq k0_t3⟩
theorem k0_off47_eq : ∀ (k0_t3 : Fin k0_t3_loop.trips), k0_off47 k0_t3 = ![(Ring.sl 2 k0_t3.val).val, 2, 0, 0, 0] := by decide +kernel
instance closedOff_k0_off47 (k0_t3 : Fin k0_t3_loop.trips) : ClosedOff (k0_off47 k0_t3) := ⟨![(Ring.sl 2 k0_t3.val).val, 2, 0, 0, 0], k0_off47_eq k0_t3⟩
theorem k0_off48_eq : ∀ (k0_t3 : Fin k0_t3_loop.trips), k0_off48 k0_t3 = ![(Ring.sl 2 k0_t3.val).val, 3, 0, 0, 0] := by decide +kernel
instance closedOff_k0_off48 (k0_t3 : Fin k0_t3_loop.trips) : ClosedOff (k0_off48 k0_t3) := ⟨![(Ring.sl 2 k0_t3.val).val, 3, 0, 0, 0], k0_off48_eq k0_t3⟩
theorem k0_off49_eq : ∀ (k0_t3 : Fin k0_t3_loop.trips), k0_off49 k0_t3 = ![(Ring.sl 2 k0_t3.val).val, 3, 0, 0, 0] := by decide +kernel
instance closedOff_k0_off49 (k0_t3 : Fin k0_t3_loop.trips) : ClosedOff (k0_off49 k0_t3) := ⟨![(Ring.sl 2 k0_t3.val).val, 3, 0, 0, 0], k0_off49_eq k0_t3⟩
theorem k0_off50_eq : ∀ (k0_t3 : Fin k0_t3_loop.trips), k0_off50 k0_t3 = ![(Ring.sl 2 k0_t3.val).val, 3, 0, 1, 0] := by decide +kernel
instance closedOff_k0_off50 (k0_t3 : Fin k0_t3_loop.trips) : ClosedOff (k0_off50 k0_t3) := ⟨![(Ring.sl 2 k0_t3.val).val, 3, 0, 1, 0], k0_off50_eq k0_t3⟩
theorem k0_off51_eq : ∀ (k0_t3 : Fin k0_t3_loop.trips), k0_off51 k0_t3 = ![(Ring.sl 2 k0_t3.val).val, 3, 0, 0, 0] := by decide +kernel
instance closedOff_k0_off51 (k0_t3 : Fin k0_t3_loop.trips) : ClosedOff (k0_off51 k0_t3) := ⟨![(Ring.sl 2 k0_t3.val).val, 3, 0, 0, 0], k0_off51_eq k0_t3⟩

/-- The pair number of a trip of the second loop, over the whole grid. -/
abbrev pno (i : grid0.Coords) (k : Fin k0_t3_loop.trips) : ℕ := 16 * stepOf i + k.val

theorem cond3_iff : ∀ (i : grid0.Coords) (k0_t1 : Fin k0_t1_loop.trips), k0_cond3 i k0_t1 = 1#1 ↔ cnt i k0_t1 + 3 < 320 := by decide +kernel
theorem cond4_iff : ∀ (i : grid0.Coords) (k0_t3 : Fin k0_t3_loop.trips), k0_cond4 i k0_t3 = 1#1 ↔ 2 ≤ pno i k0_t3 := by decide +kernel
theorem cond5_iff : ∀ (i : grid0.Coords), k0_cond5 i = 1#1 ↔ (i 1).val = 19 := by decide +kernel
theorem cond6_iff : ∀ (i : grid0.Coords), k0_cond6 i = 1#1 ↔ stepOf i = 39 := by decide +kernel

theorem trips1 : k0_t1_loop.trips = 8 := by decide +kernel
theorem trips2 : k0_t2_loop.trips = 4 := by decide +kernel
theorem trips3 : k0_t3_loop.trips = 16 := by decide +kernel

end Cert.Kernel.Hand
-- ==== Proof.K.Names.lean ====
module

public import proofs.«01_k».proof.Proof.K.Off
public import proofs.«01_k».proof.Proof.Gen.Kernel.Skeleton
public import proofs.«01_k».proof.Proof.Gen.Kernel.Points
public import Idealize.ShloMosaic.Lib.Ring
public import Idealize.ShloMosaic.Lib.Ring.Trips
public import Idealize.ShloMosaic.Lib.Tactic

/-! Names for the slices the kernel's copies use: the dy ring's slots, cells and source blocks, the two output rings'
    slots and cells, and the result arrays' pieces; each slice the program computes is one of them. -/

@[expose] public section

noncomputable section

namespace Cert.Kernel.Hand

open Cert.Kernel Cert.Kernel.Gen
open Idealize.ShloMosaic Idealize.ShloMosaic.TcCoe Idealize.ShloMosaic.Tactic

abbrev dyM : Memref sig .tc .hbm S20x64x256x256 .fp8e5m2 := Memref.whole main_v2
abbrev dxM : Memref sig .tc .hbm S5120x16384 .bf16 := Memref.whole main_v20_0
abbrev dhM : Memref sig .tc .hbm S5120x64x512 .bf16 := Memref.whole main_v20_1
abbrev dRM : Memref sig .tc .hbm S64x512x256 .f32 := Memref.whole main_v20_2
abbrev ringM : Memref sig .tc .vmem S4x8x256x256 .fp8e5m2 := Memref.whole cc0_scratch0
abbrev dhtM : Memref sig .tc .vmem S32x2x512x128 .bf16 := Memref.whole cc0_scratch1
abbrev accM : Memref sig .tc .vmem S32x512x256 .f32 := Memref.whole cc0_scratch2
abbrev hstM : Memref sig .tc .vmem S2x4x256x2x128 .bf16 := Memref.whole cc0_scratch3
abbrev xstM : Memref sig .tc .vmem S2x4x256x128 .bf16 := Memref.whole cc0_scratch4

abbrev csDOff (s : Fin 4) : Fin 1 → Nat := ![s.val]
theorem csDOff_inb (s : Fin 4) : ∀ a, csDOff s a + S1.size a ≤ S4.size a := by
  have := s.isLt; intro a; fin_cases a; show s.val + 1 ≤ 4; omega
/-- The dy ring's cell of slot `s`. -/
def csD (s : Fin 4) : DmaSems sig S_ := (cc0_scratch5.slice (Rect.unit (s := S4) (csDOff s) S1.size (csDOff_inb s))).squeeze S_ squeezes_S1_S_
theorem csD_congr (s : Fin 4) {off : Fin 1 → Nat} (e : off = csDOff s) (hh) :
    (cc0_scratch5.slice (Rect.unit (s := S4) off S1.size hh)).squeeze S_ squeezes_S1_S_ = csD s :=
  congrArg (fun A : DmaSems sig S1 => A.squeeze S_ squeezes_S1_S_) (SemArray.slice_unit_congr _ e _ _)

abbrev csHOff (s : Fin 2) : Fin 1 → Nat := ![s.val]
theorem csHOff_inb (s : Fin 2) : ∀ a, csHOff s a + S1.size a ≤ S2.size a := by
  have := s.isLt; intro a; fin_cases a; show s.val + 1 ≤ 2; omega
/-- The dh copies' cell of slot `s`. -/
def csH (s : Fin 2) : DmaSems sig S_ := (cc0_scratch6.slice (Rect.unit (s := S2) (csHOff s) S1.size (csHOff_inb s))).squeeze S_ squeezes_S1_S_
theorem csH_congr (s : Fin 2) {off : Fin 1 → Nat} (e : off = csHOff s) (hh) :
    (cc0_scratch6.slice (Rect.unit (s := S2) off S1.size hh)).squeeze S_ squeezes_S1_S_ = csH s :=
  congrArg (fun A : DmaSems sig S1 => A.squeeze S_ squeezes_S1_S_) (SemArray.slice_unit_congr _ e _ _)

abbrev csXOff (s : Fin 2) : Fin 1 → Nat := ![s.val]
theorem csXOff_inb (s : Fin 2) : ∀ a, csXOff s a + S1.size a ≤ S2.size a := by
  have := s.isLt; intro a; fin_cases a; show s.val + 1 ≤ 2; omega
/-- The dx copies' cell of slot `s`. -/
def csX (s : Fin 2) : DmaSems sig S_ := (cc0_scratch7.slice (Rect.unit (s := S2) (csXOff s) S1.size (csXOff_inb s))).squeeze S_ squeezes_S1_S_
theorem csX_congr (s : Fin 2) {off : Fin 1 → Nat} (e : off = csXOff s) (hh) :
    (cc0_scratch7.slice (Rect.unit (s := S2) off S1.size hh)).squeeze S_ squeezes_S1_S_ = csX s :=
  congrArg (fun A : DmaSems sig S1 => A.squeeze S_ squeezes_S1_S_) (SemArray.slice_unit_congr _ e _ _)

abbrev dslOff (s : Fin 4) : Fin 4 → Nat := ![s.val, 0, 0, 0]
theorem dslOff_inb (s : Fin 4) : ∀ a, dslOff s a + S1x8x256x256.size a ≤ S4x8x256x256.size a := by
  have := s.isLt; intro a; fin_cases a
  · show s.val + 1 ≤ 4; omega
  · show 0 + 8 ≤ 8; omega
  · show 0 + 256 ≤ 256; omega
  · show 0 + 256 ≤ 256; omega
instance (s : Fin 4) : ClosedOff (dslOff s) := ⟨dslOff s, rfl⟩
/-- Slot `s` of the dy ring. -/
def dsl (s : Fin 4) : Memref sig .tc .vmem S8x256x256 .fp8e5m2 :=
  (ringM.slice (Rect.unit (s := S4x8x256x256) (dslOff s) S1x8x256x256.size (dslOff_inb s)) (fun _ => rfl)).squeeze S8x256x256 squeezes_S1x8x256x256_S8x256x256

theorem dsl_congr (s : Fin 4) {off : Fin 4 → Nat} (e : off = dslOff s) (hh hs) :
    (ringM.slice (Rect.unit (s := S4x8x256x256) off S1x8x256x256.size hh) hs).squeeze S8x256x256 squeezes_S1x8x256x256_S8x256x256 = dsl s :=
  congrArg (fun M : Memref sig .tc .vmem S1x8x256x256 .fp8e5m2 => M.squeeze S8x256x256 squeezes_S1x8x256x256_S8x256x256) (Memref.slice_unit_congr _ e _ _ _ _)

abbrev dbkOff (b : Fin 160) : Fin 4 → Nat := ![b.val / 8, 8 * (b.val % 8), 0, 0]
theorem dbkOff_inb (b : Fin 160) : ∀ a, dbkOff b a + S1x8x256x256.size a ≤ S20x64x256x256.size a := by
  have := b.isLt; intro a; fin_cases a
  · show b.val / 8 + 1 ≤ 20; omega
  · show 8 * (b.val % 8) + 8 ≤ 64; omega
  · show 0 + 256 ≤ 256; omega
  · show 0 + 256 ≤ 256; omega
instance (b : Fin 160) : ClosedOff (dbkOff b) := ⟨dbkOff b, rfl⟩
/-- Block `b` of the relaid dy array. -/
def dbk (b : Fin 160) : Memref sig .tc .hbm S8x256x256 .fp8e5m2 :=
  (dyM.slice (Rect.unit (s := S20x64x256x256) (dbkOff b) S1x8x256x256.size (dbkOff_inb b)) (fun _ => rfl)).squeeze S8x256x256 squeezes_S1x8x256x256_S8x256x256

theorem dbk_congr (b : Fin 160) {off : Fin 4 → Nat} (e : off = dbkOff b) (hh hs) :
    (dyM.slice (Rect.unit (s := S20x64x256x256) off S1x8x256x256.size hh) hs).squeeze S8x256x256 squeezes_S1x8x256x256_S8x256x256 = dbk b :=
  congrArg (fun M : Memref sig .tc .hbm S1x8x256x256 .fp8e5m2 => M.squeeze S8x256x256 squeezes_S1x8x256x256_S8x256x256) (Memref.slice_unit_congr _ e _ _ _ _)

abbrev hslOff (s : Fin 2) (q : Fin 4) : Fin 5 → Nat := ![s.val, q.val, 0, 0, 0]
theorem hslOff_inb (s : Fin 2) (q : Fin 4) : ∀ a, hslOff s q a + S1x1x256x2x128.size a ≤ S2x4x256x2x128.size a := by
  have := s.isLt; have := q.isLt; intro a; fin_cases a
  · show s.val + 1 ≤ 2; omega
  · show q.val + 1 ≤ 4; omega
  · show 0 + 256 ≤ 256; omega
  · show 0 + 2 ≤ 2; omega
  · show 0 + 128 ≤ 128; omega
instance (s : Fin 2) (q : Fin 4) : ClosedOff (hslOff s q) := ⟨hslOff s q, rfl⟩
/-- Slot `s`, lane group `q` of the dh staging buffer. -/
def hsl (s : Fin 2) (q : Fin 4) : Memref sig .tc .vmem S256x2x128 .bf16 :=
  (hstM.slice (Rect.unit (s := S2x4x256x2x128) (hslOff s q) S1x1x256x2x128.size (hslOff_inb s q)) (fun _ => rfl)).squeeze S256x2x128 squeezes_S1x1x256x2x128_S256x2x128

theorem hsl_congr (s : Fin 2) (q : Fin 4) {off : Fin 5 → Nat} (e : off = hslOff s q) (hh hs) :
    (hstM.slice (Rect.unit (s := S2x4x256x2x128) off S1x1x256x2x128.size hh) hs).squeeze S256x2x128 squeezes_S1x1x256x2x128_S256x2x128 = hsl s q :=
  congrArg (fun M : Memref sig .tc .vmem S1x1x256x2x128 .bf16 => M.squeeze S256x2x128 squeezes_S1x1x256x2x128_S256x2x128) (Memref.slice_unit_congr _ e _ _ _ _)

abbrev xslOff (s : Fin 2) (q : Fin 4) : Fin 4 → Nat := ![s.val, q.val, 0, 0]
theorem xslOff_inb (s : Fin 2) (q : Fin 4) : ∀ a, xslOff s q a + S1x1x256x128.size a ≤ S2x4x256x128.size a := by
  have := s.isLt; have := q.isLt; intro a; fin_cases a
  · show s.val + 1 ≤ 2; omega
  · show q.val + 1 ≤ 4; omega
  · show 0 + 256 ≤ 256; omega
  · show 0 + 128 ≤ 128; omega
instance (s : Fin 2) (q : Fin 4) : ClosedOff (xslOff s q) := ⟨xslOff s q, rfl⟩
/-- Slot `s`, lane group `q` of the dx staging buffer. -/
def xsl (s : Fin 2) (q : Fin 4) : Memref sig .tc .vmem S256x128 .bf16 :=
  (xstM.slice (Rect.unit (s := S2x4x256x128) (xslOff s q) S1x1x256x128.size (xslOff_inb s q)) (fun _ => rfl)).squeeze S256x128 squeezes_S1x1x256x128_S256x128

theorem xsl_congr (s : Fin 2) (q : Fin 4) {off : Fin 4 → Nat} (e : off = xslOff s q) (hh hs) :
    (xstM.slice (Rect.unit (s := S2x4x256x128) off S1x1x256x128.size hh) hs).squeeze S256x128 squeezes_S1x1x256x128_S256x128 = xsl s q :=
  congrArg (fun M : Memref sig .tc .vmem S1x1x256x128 .bf16 => M.squeeze S256x128 squeezes_S1x1x256x128_S256x128) (Memref.slice_unit_congr _ e _ _ _ _)

abbrev hpcOff (v : Fin 640) (q : Fin 4) : Fin 3 → Nat := ![256 * (v.val / 16 % 20), 32 * (v.val / 320) + 2 * (v.val % 16), 128 * q.val]
theorem hpcOff_inb (v : Fin 640) (q : Fin 4) : ∀ a, hpcOff v q a + S256x2x128.size a ≤ S5120x64x512.size a := by
  have := v.isLt; have := q.isLt; intro a; fin_cases a
  · show 256 * (v.val / 16 % 20) + 256 ≤ 5120; omega
  · show 32 * (v.val / 320) + 2 * (v.val % 16) + 2 ≤ 64; omega
  · show 128 * q.val + 128 ≤ 512; omega
instance (v : Fin 640) (q : Fin 4) : ClosedOff (hpcOff v q) := ⟨hpcOff v q, rfl⟩
/-- Piece `v`, lane group `q` of the dh result: a token block, a pair of rows, 128 lanes. -/
def hpc (v : Fin 640) (q : Fin 4) : Memref sig .tc .hbm S256x2x128 .bf16 :=
  dhM.slice (Rect.unit (s := S5120x64x512) (hpcOff v q) S256x2x128.size (hpcOff_inb v q)) (fun _ => rfl)

theorem hpc_congr (v : Fin 640) (q : Fin 4) {off : Fin 3 → Nat} (e : off = hpcOff v q) (hh hs) :
    dhM.slice (Rect.unit (s := S5120x64x512) off S256x2x128.size hh) hs = hpc v q := Memref.slice_unit_congr _ e _ _ _ fun _ => rfl

abbrev xpcOff (v : Fin 640) (q : Fin 4) : Fin 2 → Nat := ![256 * (v.val / 16 % 20), 8192 * (v.val / 320) + 512 * (v.val % 16) + 128 * q.val]
theorem xpcOff_inb (v : Fin 640) (q : Fin 4) : ∀ a, xpcOff v q a + S256x128.size a ≤ S5120x16384.size a := by
  have := v.isLt; have := q.isLt; intro a; fin_cases a
  · show 256 * (v.val / 16 % 20) + 256 ≤ 5120; omega
  · show 8192 * (v.val / 320) + 512 * (v.val % 16) + 128 * q.val + 128 ≤ 16384; omega
instance (v : Fin 640) (q : Fin 4) : ClosedOff (xpcOff v q) := ⟨xpcOff v q, rfl⟩
/-- Piece `v`, lane group `q` of the dx result: a token block, 128 lanes. -/
def xpc (v : Fin 640) (q : Fin 4) : Memref sig .tc .hbm S256x128 .bf16 :=
  dxM.slice (Rect.unit (s := S5120x16384) (xpcOff v q) S256x128.size (xpcOff_inb v q)) (fun _ => rfl)

theorem xpc_congr (v : Fin 640) (q : Fin 4) {off : Fin 2 → Nat} (e : off = xpcOff v q) (hh hs) :
    dxM.slice (Rect.unit (s := S5120x16384) off S256x128.size hh) hs = xpc v q := Memref.slice_unit_congr _ e _ _ _ fun _ => rfl

abbrev rpcOff (h : Fin 2) : Fin 3 → Nat := ![32 * h.val, 0, 0]
theorem rpcOff_inb (h : Fin 2) : ∀ a, rpcOff h a + S32x512x256.size a ≤ S64x512x256.size a := by
  have := h.isLt; intro a; fin_cases a
  · show 32 * h.val + 32 ≤ 64; omega
  · show 0 + 512 ≤ 512; omega
  · show 0 + 256 ≤ 256; omega
instance (h : Fin 2) : ClosedOff (rpcOff h) := ⟨rpcOff h, rfl⟩
/-- Half `h` of the dr result. -/
def rpc (h : Fin 2) : Memref sig .tc .hbm S32x512x256 .f32 :=
  dRM.slice (Rect.unit (s := S64x512x256) (rpcOff h) S32x512x256.size (rpcOff_inb h)) (fun _ => rfl)

theorem rpc_congr (h : Fin 2) {off : Fin 3 → Nat} (e : off = rpcOff h) (hh hs) :
    dRM.slice (Rect.unit (s := S64x512x256) off S32x512x256.size hh) hs = rpc h := Memref.slice_unit_congr _ e _ _ _ fun _ => rfl

/-! ## The program's slices by these names -/

theorem isl (i : grid0.Coords) : (i 0).val < 2 ∧ (i 1).val < 20 := ⟨(i 0).isLt, (i 1).isLt⟩
theorem k3l (k : Fin k0_t3_loop.trips) : k.val < 16 := Nat.lt_of_lt_of_eq k.isLt trips3
theorem k1l (k : Fin k0_t1_loop.trips) : k.val < 8 := Nat.lt_of_lt_of_eq k.isLt trips1

theorem pno_lt (i : grid0.Coords) (k : Fin k0_t3_loop.trips) : pno i k < 640 := by
  have := isl i; have := k3l k; show 16 * (20 * (i 0).val + (i 1).val) + k.val < 640; omega

theorem dbkOff_sl (n : ℕ) : dbkOff (Ring.sl 160 n) = ![n / 8 % 20, 8 * (n % 8), 0, 0] := by
  have e : (Ring.sl 160 n).val = n % 160 := Ring.sl_val 160 n
  have h1 : n % 160 / 8 = n / 8 % 20 := by omega
  have h2 : n % 160 % 8 = n % 8 := by omega
  simp only [dbkOff, e, h1, h2]

theorem hpcOff_pno (i : grid0.Coords) (k : Fin k0_t3_loop.trips) (q : Fin 4) :
    hpcOff ⟨pno i k, pno_lt i k⟩ q = ![256 * (i 1).val, 32 * (i 0).val + 2 * k.val, 128 * q.val] := by
  have := isl i; have := k3l k
  have e1 : pno i k / 16 % 20 = (i 1).val := by show (16 * (20 * (i 0).val + (i 1).val) + k.val) / 16 % 20 = _; omega
  have e2 : pno i k / 320 = (i 0).val := by show (16 * (20 * (i 0).val + (i 1).val) + k.val) / 320 = _; omega
  have e3 : pno i k % 16 = k.val := by show (16 * (20 * (i 0).val + (i 1).val) + k.val) % 16 = _; omega
  simp only [hpcOff, e1, e2, e3]

theorem xpcOff_pno (i : grid0.Coords) (k : Fin k0_t3_loop.trips) (q : Fin 4) :
    xpcOff ⟨pno i k, pno_lt i k⟩ q = ![256 * (i 1).val, 8192 * (i 0).val + 512 * k.val + 128 * q.val] := by
  have := isl i; have := k3l k
  have e1 : pno i k / 16 % 20 = (i 1).val := by show (16 * (20 * (i 0).val + (i 1).val) + k.val) / 16 % 20 = _; omega
  have e2 : pno i k / 320 = (i 0).val := by show (16 * (20 * (i 0).val + (i 1).val) + k.val) / 320 = _; omega
  have e3 : pno i k % 16 = k.val := by show (16 * (20 * (i 0).val + (i 1).val) + k.val) % 16 = _; omega
  simp only [xpcOff, e1, e2, e3]

@[sl_canon] theorem cn_csD_0  (hh) :
    (cc0_scratch5.slice (Rect.unit (s := S4) (![0]) S1.size hh)).squeeze S_ squeezes_S1_S_ = csD (0) := csD_congr _ (by decide) _
@[sl_canon] theorem cn_dsl_0 (hh hs) :
    (ringM.slice (Rect.unit (s := S4x8x256x256) (![0, 0, 0, 0]) S1x8x256x256.size hh) hs).squeeze S8x256x256 squeezes_S1x8x256x256_S8x256x256 = dsl 0 := dsl_congr _ (by decide) _ _
@[sl_canon] theorem cn_dbk_0 (hh hs) :
    (dyM.slice (Rect.unit (s := S20x64x256x256) (![0, 0, 0, 0]) S1x8x256x256.size hh) hs).squeeze S8x256x256 squeezes_S1x8x256x256_S8x256x256 = dbk 0 := dbk_congr _ (by decide) _ _
@[sl_canon] theorem cn_csD_1  (hh) :
    (cc0_scratch5.slice (Rect.unit (s := S4) (![1]) S1.size hh)).squeeze S_ squeezes_S1_S_ = csD (1) := csD_congr _ (by decide) _
@[sl_canon] theorem cn_dsl_1 (hh hs) :
    (ringM.slice (Rect.unit (s := S4x8x256x256) (![1, 0, 0, 0]) S1x8x256x256.size hh) hs).squeeze S8x256x256 squeezes_S1x8x256x256_S8x256x256 = dsl 1 := dsl_congr _ (by decide) _ _
@[sl_canon] theorem cn_dbk_1 (hh hs) :
    (dyM.slice (Rect.unit (s := S20x64x256x256) (![0, 8, 0, 0]) S1x8x256x256.size hh) hs).squeeze S8x256x256 squeezes_S1x8x256x256_S8x256x256 = dbk 1 := dbk_congr _ (by decide) _ _
@[sl_canon] theorem cn_csD_2  (hh) :
    (cc0_scratch5.slice (Rect.unit (s := S4) (![2]) S1.size hh)).squeeze S_ squeezes_S1_S_ = csD (2) := csD_congr _ (by decide) _
@[sl_canon] theorem cn_dsl_2 (hh hs) :
    (ringM.slice (Rect.unit (s := S4x8x256x256) (![2, 0, 0, 0]) S1x8x256x256.size hh) hs).squeeze S8x256x256 squeezes_S1x8x256x256_S8x256x256 = dsl 2 := dsl_congr _ (by decide) _ _
@[sl_canon] theorem cn_dbk_2 (hh hs) :
    (dyM.slice (Rect.unit (s := S20x64x256x256) (![0, 16, 0, 0]) S1x8x256x256.size hh) hs).squeeze S8x256x256 squeezes_S1x8x256x256_S8x256x256 = dbk 2 := dbk_congr _ (by decide) _ _
@[sl_canon] theorem cn_off1 (i : grid0.Coords) (k : Fin k0_t1_loop.trips) (hh) :
    (cc0_scratch5.slice (Rect.unit (s := S4) (k0_off1 i k) S1.size hh)).squeeze S_ squeezes_S1_S_ = csD (Ring.sl 4 (cnt i k + 3)) := csD_congr _ (k0_off1_eq i k) _
@[sl_canon] theorem cn_off4 (i : grid0.Coords) (k : Fin k0_t1_loop.trips) (hh) :
    (cc0_scratch5.slice (Rect.unit (s := S4) (k0_off4 i k) S1.size hh)).squeeze S_ squeezes_S1_S_ = csD (Ring.sl 4 (cnt i k)) := csD_congr _ (k0_off4_eq i k) _
@[sl_canon] theorem cn_off2 (i : grid0.Coords) (k : Fin k0_t1_loop.trips) (hh hs) :
    (ringM.slice (Rect.unit (s := S4x8x256x256) (k0_off2 i k) S1x8x256x256.size hh) hs).squeeze S8x256x256 squeezes_S1x8x256x256_S8x256x256 = dsl (Ring.sl 4 (cnt i k + 3)) := dsl_congr _ (k0_off2_eq i k) _ _
@[sl_canon] theorem cn_off5 (i : grid0.Coords) (k : Fin k0_t1_loop.trips) (hh hs) :
    (ringM.slice (Rect.unit (s := S4x8x256x256) (k0_off5 i k) S1x8x256x256.size hh) hs).squeeze S8x256x256 squeezes_S1x8x256x256_S8x256x256 = dsl (Ring.sl 4 (cnt i k)) := dsl_congr _ (k0_off5_eq i k) _ _
@[sl_canon] theorem cn_off3 (i : grid0.Coords) (k : Fin k0_t1_loop.trips) (hh hs) :
    (dyM.slice (Rect.unit (s := S20x64x256x256) (k0_off3 i k) S1x8x256x256.size hh) hs).squeeze S8x256x256 squeezes_S1x8x256x256_S8x256x256 = dbk (Ring.sl 160 (cnt i k + 3)) := dbk_congr _ ((k0_off3_eq i k).trans (dbkOff_sl _).symm) _ _
@[sl_canon] theorem cn_off6 (i : grid0.Coords) (k : Fin k0_t1_loop.trips) (hh hs) :
    (dyM.slice (Rect.unit (s := S20x64x256x256) (k0_off6 i k) S1x8x256x256.size hh) hs).squeeze S8x256x256 squeezes_S1x8x256x256_S8x256x256 = dbk (Ring.sl 160 (cnt i k)) := dbk_congr _ ((k0_off6_eq i k).trans (dbkOff_sl _).symm) _ _
@[sl_canon] theorem cn_off18 (k : Fin k0_t3_loop.trips) (hh) :
    (cc0_scratch6.slice (Rect.unit (s := S2) (k0_off18 k) S1.size hh)).squeeze S_ squeezes_S1_S_ = csH (Ring.sl 2 k.val) := csH_congr _ (k0_off18_eq k) _
@[sl_canon] theorem cn_off52 (k : Fin k0_t3_loop.trips) (hh) :
    (cc0_scratch6.slice (Rect.unit (s := S2) (k0_off52 k) S1.size hh)).squeeze S_ squeezes_S1_S_ = csH (Ring.sl 2 k.val) := csH_congr _ (k0_off52_eq k) _
@[sl_canon] theorem cn_csH_0  (hh) :
    (cc0_scratch6.slice (Rect.unit (s := S2) (![0]) S1.size hh)).squeeze S_ squeezes_S1_S_ = csH (0) := csH_congr _ (by decide) _
@[sl_canon] theorem cn_csH_1  (hh) :
    (cc0_scratch6.slice (Rect.unit (s := S2) (![1]) S1.size hh)).squeeze S_ squeezes_S1_S_ = csH (1) := csH_congr _ (by decide) _
@[sl_canon] theorem cn_off18x (k : Fin k0_t3_loop.trips) (hh) :
    (cc0_scratch7.slice (Rect.unit (s := S2) (k0_off18 k) S1.size hh)).squeeze S_ squeezes_S1_S_ = csX (Ring.sl 2 k.val) := csX_congr _ (k0_off18_eq k) _
@[sl_canon] theorem cn_off52x (k : Fin k0_t3_loop.trips) (hh) :
    (cc0_scratch7.slice (Rect.unit (s := S2) (k0_off52 k) S1.size hh)).squeeze S_ squeezes_S1_S_ = csX (Ring.sl 2 k.val) := csX_congr _ (k0_off52_eq k) _
@[sl_canon] theorem cn_csX_0  (hh) :
    (cc0_scratch7.slice (Rect.unit (s := S2) (![0]) S1.size hh)).squeeze S_ squeezes_S1_S_ = csX (0) := csX_congr _ (by decide) _
@[sl_canon] theorem cn_csX_1  (hh) :
    (cc0_scratch7.slice (Rect.unit (s := S2) (![1]) S1.size hh)).squeeze S_ squeezes_S1_S_ = csX (1) := csX_congr _ (by decide) _
@[sl_canon] theorem cn_off20 (k : Fin k0_t3_loop.trips) (hh hs) :
    (hstM.slice (Rect.unit (s := S2x4x256x2x128) (k0_off20 k) S1x1x256x2x128.size hh) hs).squeeze S256x2x128 squeezes_S1x1x256x2x128_S256x2x128 = hsl (Ring.sl 2 k.val) 0 := hsl_congr _ _ (k0_off20_eq k) _ _
@[sl_canon] theorem cn_off54 (k : Fin k0_t3_loop.trips) (hh hs) :
    (hstM.slice (Rect.unit (s := S2x4x256x2x128) (k0_off54 k) S1x1x256x2x128.size hh) hs).squeeze S256x2x128 squeezes_S1x1x256x2x128_S256x2x128 = hsl (Ring.sl 2 k.val) 0 := hsl_congr _ _ (k0_off54_eq k) _ _
@[sl_canon] theorem cn_off28 (k : Fin k0_t3_loop.trips) (hh hs) :
    (xstM.slice (Rect.unit (s := S2x4x256x128) (k0_off28 k) S1x1x256x128.size hh) hs).squeeze S256x128 squeezes_S1x1x256x128_S256x128 = xsl (Ring.sl 2 k.val) 0 := xsl_congr _ _ (k0_off28_eq k) _ _
@[sl_canon] theorem cn_off62 (k : Fin k0_t3_loop.trips) (hh hs) :
    (xstM.slice (Rect.unit (s := S2x4x256x128) (k0_off62 k) S1x1x256x128.size hh) hs).squeeze S256x128 squeezes_S1x1x256x128_S256x128 = xsl (Ring.sl 2 k.val) 0 := xsl_congr _ _ (k0_off62_eq k) _ _
@[sl_canon] theorem cn_hsl_0_0 (hh hs) :
    (hstM.slice (Rect.unit (s := S2x4x256x2x128) (![0, 0, 0, 0, 0]) S1x1x256x2x128.size hh) hs).squeeze S256x2x128 squeezes_S1x1x256x2x128_S256x2x128 = hsl 0 0 := hsl_congr _ _ (by decide) _ _
@[sl_canon] theorem cn_xsl_0_0 (hh hs) :
    (xstM.slice (Rect.unit (s := S2x4x256x128) (![0, 0, 0, 0]) S1x1x256x128.size hh) hs).squeeze S256x128 squeezes_S1x1x256x128_S256x128 = xsl 0 0 := xsl_congr _ _ (by decide) _ _
@[sl_canon] theorem cn_hsl_1_0 (hh hs) :
    (hstM.slice (Rect.unit (s := S2x4x256x2x128) (![1, 0, 0, 0, 0]) S1x1x256x2x128.size hh) hs).squeeze S256x2x128 squeezes_S1x1x256x2x128_S256x2x128 = hsl 1 0 := hsl_congr _ _ (by decide) _ _
@[sl_canon] theorem cn_xsl_1_0 (hh hs) :
    (xstM.slice (Rect.unit (s := S2x4x256x128) (![1, 0, 0, 0]) S1x1x256x128.size hh) hs).squeeze S256x128 squeezes_S1x1x256x128_S256x128 = xsl 1 0 := xsl_congr _ _ (by decide) _ _
@[sl_canon] theorem cn_off53 (i : grid0.Coords) (k : Fin k0_t3_loop.trips) (hh hs) :
    dhM.slice (Rect.unit (s := S5120x64x512) (k0_off53 i k) S256x2x128.size hh) hs = hpc ⟨pno i k, pno_lt i k⟩ 0 := hpc_congr _ _ ((k0_off53_eq i k).trans (hpcOff_pno i k 0).symm) _ _
@[sl_canon] theorem cn_off61_0 (i : grid0.Coords) (k : Fin k0_t3_loop.trips) (hh hs) :
    dxM.slice (Rect.unit (s := S5120x16384) (k0_off61 i k 0#32) S256x128.size hh) hs = xpc ⟨pno i k, pno_lt i k⟩ 0 := xpc_congr _ _ ((k0_off61_eq i k ⟨0, by decide⟩).trans (xpcOff_pno i k 0).symm) _ _
@[sl_canon] theorem cn_off22 (k : Fin k0_t3_loop.trips) (hh hs) :
    (hstM.slice (Rect.unit (s := S2x4x256x2x128) (k0_off22 k) S1x1x256x2x128.size hh) hs).squeeze S256x2x128 squeezes_S1x1x256x2x128_S256x2x128 = hsl (Ring.sl 2 k.val) 1 := hsl_congr _ _ (k0_off22_eq k) _ _
@[sl_canon] theorem cn_off56 (k : Fin k0_t3_loop.trips) (hh hs) :
    (hstM.slice (Rect.unit (s := S2x4x256x2x128) (k0_off56 k) S1x1x256x2x128.size hh) hs).squeeze S256x2x128 squeezes_S1x1x256x2x128_S256x2x128 = hsl (Ring.sl 2 k.val) 1 := hsl_congr _ _ (k0_off56_eq k) _ _
@[sl_canon] theorem cn_off29 (k : Fin k0_t3_loop.trips) (hh hs) :
    (xstM.slice (Rect.unit (s := S2x4x256x128) (k0_off29 k) S1x1x256x128.size hh) hs).squeeze S256x128 squeezes_S1x1x256x128_S256x128 = xsl (Ring.sl 2 k.val) 1 := xsl_congr _ _ (k0_off29_eq k) _ _
@[sl_canon] theorem cn_off63 (k : Fin k0_t3_loop.trips) (hh hs) :
    (xstM.slice (Rect.unit (s := S2x4x256x128) (k0_off63 k) S1x1x256x128.size hh) hs).squeeze S256x128 squeezes_S1x1x256x128_S256x128 = xsl (Ring.sl 2 k.val) 1 := xsl_congr _ _ (k0_off63_eq k) _ _
@[sl_canon] theorem cn_hsl_0_1 (hh hs) :
    (hstM.slice (Rect.unit (s := S2x4x256x2x128) (![0, 1, 0, 0, 0]) S1x1x256x2x128.size hh) hs).squeeze S256x2x128 squeezes_S1x1x256x2x128_S256x2x128 = hsl 0 1 := hsl_congr _ _ (by decide) _ _
@[sl_canon] theorem cn_xsl_0_1 (hh hs) :
    (xstM.slice (Rect.unit (s := S2x4x256x128) (![0, 1, 0, 0]) S1x1x256x128.size hh) hs).squeeze S256x128 squeezes_S1x1x256x128_S256x128 = xsl 0 1 := xsl_congr _ _ (by decide) _ _
@[sl_canon] theorem cn_hsl_1_1 (hh hs) :
    (hstM.slice (Rect.unit (s := S2x4x256x2x128) (![1, 1, 0, 0, 0]) S1x1x256x2x128.size hh) hs).squeeze S256x2x128 squeezes_S1x1x256x2x128_S256x2x128 = hsl 1 1 := hsl_congr _ _ (by decide) _ _
@[sl_canon] theorem cn_xsl_1_1 (hh hs) :
    (xstM.slice (Rect.unit (s := S2x4x256x128) (![1, 1, 0, 0]) S1x1x256x128.size hh) hs).squeeze S256x128 squeezes_S1x1x256x128_S256x128 = xsl 1 1 := xsl_congr _ _ (by decide) _ _
@[sl_canon] theorem cn_off55 (i : grid0.Coords) (k : Fin k0_t3_loop.trips) (hh hs) :
    dhM.slice (Rect.unit (s := S5120x64x512) (k0_off55 i k) S256x2x128.size hh) hs = hpc ⟨pno i k, pno_lt i k⟩ 1 := hpc_congr _ _ ((k0_off55_eq i k).trans (hpcOff_pno i k 1).symm) _ _
@[sl_canon] theorem cn_off61_1 (i : grid0.Coords) (k : Fin k0_t3_loop.trips) (hh hs) :
    dxM.slice (Rect.unit (s := S5120x16384) (k0_off61 i k 128#32) S256x128.size hh) hs = xpc ⟨pno i k, pno_lt i k⟩ 1 := xpc_congr _ _ ((k0_off61_eq i k ⟨1, by decide⟩).trans (xpcOff_pno i k 1).symm) _ _
@[sl_canon] theorem cn_off24 (k : Fin k0_t3_loop.trips) (hh hs) :
    (hstM.slice (Rect.unit (s := S2x4x256x2x128) (k0_off24 k) S1x1x256x2x128.size hh) hs).squeeze S256x2x128 squeezes_S1x1x256x2x128_S256x2x128 = hsl (Ring.sl 2 k.val) 2 := hsl_congr _ _ (k0_off24_eq k) _ _
@[sl_canon] theorem cn_off58 (k : Fin k0_t3_loop.trips) (hh hs) :
    (hstM.slice (Rect.unit (s := S2x4x256x2x128) (k0_off58 k) S1x1x256x2x128.size hh) hs).squeeze S256x2x128 squeezes_S1x1x256x2x128_S256x2x128 = hsl (Ring.sl 2 k.val) 2 := hsl_congr _ _ (k0_off58_eq k) _ _
@[sl_canon] theorem cn_off30 (k : Fin k0_t3_loop.trips) (hh hs) :
    (xstM.slice (Rect.unit (s := S2x4x256x128) (k0_off30 k) S1x1x256x128.size hh) hs).squeeze S256x128 squeezes_S1x1x256x128_S256x128 = xsl (Ring.sl 2 k.val) 2 := xsl_congr _ _ (k0_off30_eq k) _ _
@[sl_canon] theorem cn_off64 (k : Fin k0_t3_loop.trips) (hh hs) :
    (xstM.slice (Rect.unit (s := S2x4x256x128) (k0_off64 k) S1x1x256x128.size hh) hs).squeeze S256x128 squeezes_S1x1x256x128_S256x128 = xsl (Ring.sl 2 k.val) 2 := xsl_congr _ _ (k0_off64_eq k) _ _
@[sl_canon] theorem cn_hsl_0_2 (hh hs) :
    (hstM.slice (Rect.unit (s := S2x4x256x2x128) (![0, 2, 0, 0, 0]) S1x1x256x2x128.size hh) hs).squeeze S256x2x128 squeezes_S1x1x256x2x128_S256x2x128 = hsl 0 2 := hsl_congr _ _ (by decide) _ _
@[sl_canon] theorem cn_xsl_0_2 (hh hs) :
    (xstM.slice (Rect.unit (s := S2x4x256x128) (![0, 2, 0, 0]) S1x1x256x128.size hh) hs).squeeze S256x128 squeezes_S1x1x256x128_S256x128 = xsl 0 2 := xsl_congr _ _ (by decide) _ _
@[sl_canon] theorem cn_hsl_1_2 (hh hs) :
    (hstM.slice (Rect.unit (s := S2x4x256x2x128) (![1, 2, 0, 0, 0]) S1x1x256x2x128.size hh) hs).squeeze S256x2x128 squeezes_S1x1x256x2x128_S256x2x128 = hsl 1 2 := hsl_congr _ _ (by decide) _ _
@[sl_canon] theorem cn_xsl_1_2 (hh hs) :
    (xstM.slice (Rect.unit (s := S2x4x256x128) (![1, 2, 0, 0]) S1x1x256x128.size hh) hs).squeeze S256x128 squeezes_S1x1x256x128_S256x128 = xsl 1 2 := xsl_congr _ _ (by decide) _ _
@[sl_canon] theorem cn_off57 (i : grid0.Coords) (k : Fin k0_t3_loop.trips) (hh hs) :
    dhM.slice (Rect.unit (s := S5120x64x512) (k0_off57 i k) S256x2x128.size hh) hs = hpc ⟨pno i k, pno_lt i k⟩ 2 := hpc_congr _ _ ((k0_off57_eq i k).trans (hpcOff_pno i k 2).symm) _ _
@[sl_canon] theorem cn_off61_2 (i : grid0.Coords) (k : Fin k0_t3_loop.trips) (hh hs) :
    dxM.slice (Rect.unit (s := S5120x16384) (k0_off61 i k 256#32) S256x128.size hh) hs = xpc ⟨pno i k, pno_lt i k⟩ 2 := xpc_congr _ _ ((k0_off61_eq i k ⟨2, by decide⟩).trans (xpcOff_pno i k 2).symm) _ _
@[sl_canon] theorem cn_off26 (k : Fin k0_t3_loop.trips) (hh hs) :
    (hstM.slice (Rect.unit (s := S2x4x256x2x128) (k0_off26 k) S1x1x256x2x128.size hh) hs).squeeze S256x2x128 squeezes_S1x1x256x2x128_S256x2x128 = hsl (Ring.sl 2 k.val) 3 := hsl_congr _ _ (k0_off26_eq k) _ _
@[sl_canon] theorem cn_off60 (k : Fin k0_t3_loop.trips) (hh hs) :
    (hstM.slice (Rect.unit (s := S2x4x256x2x128) (k0_off60 k) S1x1x256x2x128.size hh) hs).squeeze S256x2x128 squeezes_S1x1x256x2x128_S256x2x128 = hsl (Ring.sl 2 k.val) 3 := hsl_congr _ _ (k0_off60_eq k) _ _
@[sl_canon] theorem cn_off31 (k : Fin k0_t3_loop.trips) (hh hs) :
    (xstM.slice (Rect.unit (s := S2x4x256x128) (k0_off31 k) S1x1x256x128.size hh) hs).squeeze S256x128 squeezes_S1x1x256x128_S256x128 = xsl (Ring.sl 2 k.val) 3 := xsl_congr _ _ (k0_off31_eq k) _ _
@[sl_canon] theorem cn_off65 (k : Fin k0_t3_loop.trips) (hh hs) :
    (xstM.slice (Rect.unit (s := S2x4x256x128) (k0_off65 k) S1x1x256x128.size hh) hs).squeeze S256x128 squeezes_S1x1x256x128_S256x128 = xsl (Ring.sl 2 k.val) 3 := xsl_congr _ _ (k0_off65_eq k) _ _
@[sl_canon] theorem cn_hsl_0_3 (hh hs) :
    (hstM.slice (Rect.unit (s := S2x4x256x2x128) (![0, 3, 0, 0, 0]) S1x1x256x2x128.size hh) hs).squeeze S256x2x128 squeezes_S1x1x256x2x128_S256x2x128 = hsl 0 3 := hsl_congr _ _ (by decide) _ _
@[sl_canon] theorem cn_xsl_0_3 (hh hs) :
    (xstM.slice (Rect.unit (s := S2x4x256x128) (![0, 3, 0, 0]) S1x1x256x128.size hh) hs).squeeze S256x128 squeezes_S1x1x256x128_S256x128 = xsl 0 3 := xsl_congr _ _ (by decide) _ _
@[sl_canon] theorem cn_hsl_1_3 (hh hs) :
    (hstM.slice (Rect.unit (s := S2x4x256x2x128) (![1, 3, 0, 0, 0]) S1x1x256x2x128.size hh) hs).squeeze S256x2x128 squeezes_S1x1x256x2x128_S256x2x128 = hsl 1 3 := hsl_congr _ _ (by decide) _ _
@[sl_canon] theorem cn_xsl_1_3 (hh hs) :
    (xstM.slice (Rect.unit (s := S2x4x256x128) (![1, 3, 0, 0]) S1x1x256x128.size hh) hs).squeeze S256x128 squeezes_S1x1x256x128_S256x128 = xsl 1 3 := xsl_congr _ _ (by decide) _ _
@[sl_canon] theorem cn_off59 (i : grid0.Coords) (k : Fin k0_t3_loop.trips) (hh hs) :
    dhM.slice (Rect.unit (s := S5120x64x512) (k0_off59 i k) S256x2x128.size hh) hs = hpc ⟨pno i k, pno_lt i k⟩ 3 := hpc_congr _ _ ((k0_off59_eq i k).trans (hpcOff_pno i k 3).symm) _ _
@[sl_canon] theorem cn_off61_3 (i : grid0.Coords) (k : Fin k0_t3_loop.trips) (hh hs) :
    dxM.slice (Rect.unit (s := S5120x16384) (k0_off61 i k 384#32) S256x128.size hh) hs = xpc ⟨pno i k, pno_lt i k⟩ 3 := xpc_congr _ _ ((k0_off61_eq i k ⟨3, by decide⟩).trans (xpcOff_pno i k 3).symm) _ _
@[sl_canon] theorem cn_off66 (i : grid0.Coords) (hh hs) :
    dRM.slice (Rect.unit (s := S64x512x256) (k0_off66 i) S32x512x256.size hh) hs = rpc (i 0) := rpc_congr _ (k0_off66_eq i) _ _

end Cert.Kernel.Hand
-- ==== Proof.K.Res.lean ====
module

public import proofs.«01_k».proof.Proof.K.Names
public import proofs.«01_k».proof.Proof.Gen.Kernel.Loops
public import proofs.«01_k».proof.Proof.Gen.Kernel.Launch
public import Idealize.ShloMosaic.Lib.Pipeline.FrameBody
public import Idealize.ShloMosaic.Lib.MixedBatch
public import Idealize.ShloMosaic.Lib.WordCmp
public import Idealize.ShloMosaic.Lib.Ring.Tabled

/-! The resources the kernel's body works on: the dy ring, the two output rings, the result arrays by pieces. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (c : Dev nD)

/-- A window held, on its own elements, at contents `f`. -/
abbrev hld {sp : Space} {s : Shape} {e : EltTy} (M : Memref sig .tc sp s e) (f : Buf (Elt F) (M.view.loc (c : Thread nD τ))) : sProp 𝕄 :=
  M.view.loc (c : Thread nD τ) ↦[M.view.set]{fullShare} f
/-- A window held at some contents. -/
abbrev hldE {sp : Space} {s : Shape} {e : EltTy} (M : Memref sig .tc sp s e) : sProp 𝕄 := iprop(∃ f, hld (F := F) c M f)
/-- A copy cell at zero. -/
abbrev cellZ (S : DmaSems sig S_) : sProp 𝕄 := semVal ((c : Thread nD τ), SemLoc.dma S.sem) 0

/-! ## The dy ring -/

section
variable (XA : Buf (Elt F) (dyM.view.loc (c : Thread nD τ)))

/-- The ring slot's read share of the dy array, on the elements `S`. -/
abbrev dtok (s : Fin 4) (S : Finset (Idx (dyM.view.loc (c : Thread nD τ)))) : sProp 𝕄 :=
  dyM.view.loc (c : Thread nD τ) ↦[S]{Transfers.shareTok fullShare 4 s} XA
/-- What copy `j` leaves in slot `s`, over prior contents `f`. -/
abbrev dland (s : Fin 4) (j : ℕ) (f : Buf (Elt F) ((dsl s).view.loc (c : Thread nD τ))) : Buf (Elt F) ((dsl s).view.loc (c : Thread nD τ)) :=
  (dsl s).view.writes (Elt F) f [⟨Rect.whole S8x256x256, ReadAs.same.apply ((dbk (Ring.sl 160 j)).view.read (Elt F) XA)⟩]
/-- A slot of the dy ring: free, or with copy `j` in flight into it. -/
def dslot (s : Fin 4) : Option ℕ → sProp 𝕄
  | none => iprop(cellZ c (csD s) ∗ hldE c (dsl s) ∗ dtok c XA s Finset.univ)
  | some j => iprop((∃ f, Transfers.Flight (countersEmb (U := Pipeline.UD sig nD τ)) (c : Thread nD τ) (SemLoc.dma (csD s).sem) () 16384
        iprop(hld c (dsl s) (dland c XA s j f) ∗ dtok c XA s (dbk (Ring.sl 160 j)).view.set))
      ∗ dtok c XA s (Finset.univ \ (dbk (Ring.sl 160 j)).view.set))

/-- The slots' states when the copies below `d` are issued and those below `n` waited for. -/
def dst (n d : ℕ) (s : Fin 4) : Option ℕ :=
  let j := n + (s.val + 4 - n % 4) % 4
  if j < d then some j else none

theorem dst_at (n d k : ℕ) (h1 : n ≤ k) (h2 : k < n + 4) : dst n d (Ring.sl 4 k) = if k < d then some k else none := by
  have e : (Ring.sl 4 k).val = k % 4 := Ring.sl_val 4 k
  have : n + ((Ring.sl 4 k).val + 4 - n % 4) % 4 = k := by rw [e]; omega
  simp only [dst, this]

theorem dst_issue (n d : ℕ) (h : d < n + 4) (s : Fin 4) (hs : s ≠ Ring.sl 4 d) : dst n (d + 1) s = dst n d s := by
  have hs' : s.val ≠ d % 4 := fun h => hs (Fin.ext (h.trans (Ring.sl_val 4 d).symm))
  have := s.isLt
  unfold dst; simp only
  congr 1
  refine propext ?_
  omega

theorem dst_wait (n d : ℕ) (hd : d ≤ n + 4) (s : Fin 4) (hs : s ≠ Ring.sl 4 n) : dst (n + 1) d s = dst n d s := by
  have hs' : s.val ≠ n % 4 := fun h => hs (Fin.ext (h.trans (Ring.sl_val 4 n).symm))
  have := s.isLt
  have e : n + 1 + (s.val + 4 - (n + 1) % 4) % 4 = n + (s.val + 4 - n % 4) % 4 := by omega
  unfold dst; simp only [e]

theorem dst_wait_self (n d : ℕ) (hd : d ≤ n + 4) : dst (n + 1) d (Ring.sl 4 n) = none := by
  have e : (Ring.sl 4 n).val = n % 4 := Ring.sl_val 4 n
  have : n + 1 + ((Ring.sl 4 n).val + 4 - (n + 1) % 4) % 4 = n + 4 := by rw [e]; omega
  unfold dst; simp only [this]; rw [if_neg (by omega)]

/-- The ring with the copies below `d` issued and those below `n` waited for. -/
abbrev dring (n d : ℕ) : sProp 𝕄 := Ring.AtW (σ := fun _ => Option ℕ) (dslot c XA) (dst n d)
end

end Cert.Kernel.Hand
-- ==== Proof.K.Out.lean ====
module

public import proofs.«01_k».proof.Proof.K.Res

/-! The two output rings: a slot free or with a pair of heads' copies in flight, the pieces of the two results ahead, in flight
    or done; and the values a trip of the dx half's loop leaves. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section
variable (c : Dev nD)
  (HOK : ∀ (v : Fin 640) (q : Fin 4), Buf (Elt F) ((hpc v q).view.loc (c : Thread nD τ)) → Prop)
  (XOK : ∀ (v : Fin 640) (q : Fin 4), Buf (Elt F) ((xpc v q).view.loc (c : Thread nD τ)) → Prop)

/-- The four dh copies of pair `v` in flight out of slot `s`. -/
def flH (s : Fin 2) (v : Fin 640) : sProp 𝕄 :=
  iprop(∃ a0 a1 a2 a3 g0 g1 g2 g3, Transfers.Batched (countersEmb (U := Pipeline.UD sig nD τ)) (c : Thread nD τ) (SemLoc.dma (csH s).sem) () 4096 4
      [iprop(hld c (hpc v 0) a0 ∗ hld c (hsl s 0) g0), iprop(hld c (hpc v 1) a1 ∗ hld c (hsl s 1) g1), iprop(hld c (hpc v 2) a2 ∗ hld c (hsl s 2) g2), iprop(hld c (hpc v 3) a3 ∗ hld c (hsl s 3) g3)] 0
    ∗ ⌜HOK v 0 a0 ∧ HOK v 1 a1 ∧ HOK v 2 a2 ∧ HOK v 3 a3⌝)
/-- The four dx copies of pair `v` in flight out of slot `s`. -/
def flX (s : Fin 2) (v : Fin 640) : sProp 𝕄 :=
  iprop(∃ a0 a1 a2 a3 g0 g1 g2 g3, Transfers.Batched (countersEmb (U := Pipeline.UD sig nD τ)) (c : Thread nD τ) (SemLoc.dma (csX s).sem) () 2048 4
      [iprop(hld c (xpc v 0) a0 ∗ hld c (xsl s 0) g0), iprop(hld c (xpc v 1) a1 ∗ hld c (xsl s 1) g1), iprop(hld c (xpc v 2) a2 ∗ hld c (xsl s 2) g2), iprop(hld c (xpc v 3) a3 ∗ hld c (xsl s 3) g3)] 0
    ∗ ⌜XOK v 0 a0 ∧ XOK v 1 a1 ∧ XOK v 2 a2 ∧ XOK v 3 a3⌝)

/-- A slot of the output rings: free, or with pair `v` in flight. -/
def oslot (s : Fin 2) : Option (Fin 640) → sProp 𝕄
  | none => iprop(cellZ c (csH s) ∗ cellZ c (csX s) ∗ (hldE c (hsl s 0) ∗ hldE c (hsl s 1) ∗ hldE c (hsl s 2) ∗ hldE c (hsl s 3)) ∗ (hldE c (xsl s 0) ∗ hldE c (xsl s 1) ∗ hldE c (xsl s 2) ∗ hldE c (xsl s 3)))
  | some v => iprop(flH c HOK s v ∗ flX c XOK s v)
theorem oslot_none (s : Fin 2) : oslot c HOK XOK s none
    = iprop(cellZ c (csH s) ∗ cellZ c (csX s) ∗ (hldE c (hsl s 0) ∗ hldE c (hsl s 1) ∗ hldE c (hsl s 2) ∗ hldE c (hsl s 3)) ∗ (hldE c (xsl s 0) ∗ hldE c (xsl s 1) ∗ hldE c (xsl s 2) ∗ hldE c (xsl s 3))) := rfl
theorem oslot_some (s : Fin 2) (v : Fin 640) : oslot c HOK XOK s (some v) = iprop(flH c HOK s v ∗ flX c XOK s v) := rfl

/-- The pieces of pair `v` in the two results: ahead (0), in flight (1), done (2). -/
def opc (v : Fin 640) : Fin 3 → sProp 𝕄
  | 0 => iprop((hldE c (hpc v 0) ∗ hldE c (hpc v 1) ∗ hldE c (hpc v 2) ∗ hldE c (hpc v 3)) ∗ (hldE c (xpc v 0) ∗ hldE c (xpc v 1) ∗ hldE c (xpc v 2) ∗ hldE c (xpc v 3)))
  | 1 => iprop(emp)
  | 2 => iprop((∃ a0 a1 a2 a3, (hld c (hpc v 0) a0 ∗ hld c (hpc v 1) a1 ∗ hld c (hpc v 2) a2 ∗ hld c (hpc v 3) a3) ∗ ⌜HOK v 0 a0 ∧ HOK v 1 a1 ∧ HOK v 2 a2 ∧ HOK v 3 a3⌝)
      ∗ (∃ a0 a1 a2 a3, (hld c (xpc v 0) a0 ∗ hld c (xpc v 1) a1 ∗ hld c (xpc v 2) a2 ∗ hld c (xpc v 3) a3) ∗ ⌜XOK v 0 a0 ∧ XOK v 1 a1 ∧ XOK v 2 a2 ∧ XOK v 3 a3⌝))
theorem opc_0 (v : Fin 640) : opc c HOK XOK v 0
    = iprop((hldE c (hpc v 0) ∗ hldE c (hpc v 1) ∗ hldE c (hpc v 2) ∗ hldE c (hpc v 3)) ∗ (hldE c (xpc v 0) ∗ hldE c (xpc v 1) ∗ hldE c (xpc v 2) ∗ hldE c (xpc v 3))) := rfl
theorem opc_1 (v : Fin 640) : opc c HOK XOK v 1 = iprop(emp) := rfl
theorem opc_2 (v : Fin 640) : opc c HOK XOK v 2
    = iprop((∃ a0 a1 a2 a3, (hld c (hpc v 0) a0 ∗ hld c (hpc v 1) a1 ∗ hld c (hpc v 2) a2 ∗ hld c (hpc v 3) a3) ∗ ⌜HOK v 0 a0 ∧ HOK v 1 a1 ∧ HOK v 2 a2 ∧ HOK v 3 a3⌝)
      ∗ (∃ a0 a1 a2 a3, (hld c (xpc v 0) a0 ∗ hld c (xpc v 1) a1 ∗ hld c (xpc v 2) a2 ∗ hld c (xpc v 3) a3) ∗ ⌜XOK v 0 a0 ∧ XOK v 1 a1 ∧ XOK v 2 a2 ∧ XOK v 3 a3⌝)) := rfl

/-- Slot `s` when the pairs below `u` are issued and those below `u - 2` waited for. -/
def ost (u : ℕ) (s : Fin 2) : Option (Fin 640) :=
  let j := u + (s.val + u) % 2
  if h : 2 ≤ j ∧ j < 642 then some ⟨j - 2, by omega⟩ else none
/-- The pieces of pair `v` then. -/
def pst (u : ℕ) (v : Fin 640) : Fin 3 := if v.val + 2 < u then 2 else if v.val < u then 1 else 0

theorem ost_self (u : ℕ) (h : 2 ≤ u) (h' : u < 642) : ost u (Ring.sl 2 u) = some ⟨u - 2, by omega⟩ := by
  have e : (Ring.sl 2 u).val = u % 2 := Ring.sl_val 2 u
  have e2 : u + ((Ring.sl 2 u).val + u) % 2 = u := by rw [e]; omega
  unfold ost; simp only [e2]; rw [dif_pos ⟨h, h'⟩]
theorem ost_self_lt (u : ℕ) (h : u < 2) : ost u (Ring.sl 2 u) = none := by
  have e : (Ring.sl 2 u).val = u % 2 := Ring.sl_val 2 u
  have e2 : u + ((Ring.sl 2 u).val + u) % 2 = u := by rw [e]; omega
  unfold ost; simp only [e2]; rw [dif_neg (by omega)]
theorem ost_succ_self (u : ℕ) (h : u < 640) : ost (u + 1) (Ring.sl 2 u) = some ⟨u, h⟩ := by
  have e : (Ring.sl 2 u).val = u % 2 := Ring.sl_val 2 u
  have e2 : u + 1 + ((Ring.sl 2 u).val + (u + 1)) % 2 = u + 2 := by rw [e]; omega
  unfold ost; simp only [e2]; rw [dif_pos (by omega)]
  exact congrArg some (Fin.ext (by simp))
theorem ost_succ_ne (u : ℕ) (s : Fin 2) (hs : s ≠ Ring.sl 2 u) : ost (u + 1) s = ost u s := by
  have hs' : s.val ≠ u % 2 := fun h => hs (Fin.ext (h.trans (Ring.sl_val 2 u).symm))
  have := s.isLt
  have e2 : u + 1 + (s.val + (u + 1)) % 2 = u + (s.val + u) % 2 := by omega
  unfold ost; simp only [e2]

theorem pst_self (u : ℕ) (h : u < 640) : pst u ⟨u, h⟩ = 0 := by
  unfold pst; rw [if_neg (by simp), if_neg (by simp)]
theorem pst_succ_self (u : ℕ) (h : u < 640) : pst (u + 1) ⟨u, h⟩ = 1 := by
  unfold pst; rw [if_neg (by simp), if_pos (by simp)]
theorem pst_back (u : ℕ) (h : 2 ≤ u) (h' : u - 2 < 640) : pst u ⟨u - 2, h'⟩ = 1 := by
  unfold pst; rw [if_neg (by simp; omega), if_pos (by simp; omega)]
theorem pst_succ_back (u : ℕ) (h : 2 ≤ u) (h' : u - 2 < 640) : pst (u + 1) ⟨u - 2, h'⟩ = 2 := by
  unfold pst; rw [if_pos (by simp; omega)]
theorem pst_succ_ne (u : ℕ) (v : Fin 640) (h1 : v.val ≠ u) (h2 : v.val + 2 ≠ u) : pst (u + 1) v = pst u v := by
  unfold pst
  split_ifs <;> first | rfl | omega
end

/-! ## The values a trip of the dx half's loop leaves -/

section
variable (c : Dev nD) (i : grid0.Coords)
  (arg2 : Memref sig .tc .smem S64 .f32) (harg2 : arg2.IsWhole) (arg3 : Memref sig .tc .vmem S256x8192 .fp8e4m3) (harg3 : arg3.IsWhole)
  (arg4 : Memref sig .tc .vmem S8x16x256 .bf16) (harg4 : arg4.IsWhole) (arg5 : Memref sig .tc .vmem S32x1x256 .f32) (harg5 : arg5.IsWhole)
  (arg6 : Memref sig .tc .vmem S64x256x256 .fp8e4m3) (harg6 : arg6.IsWhole) (arg7 : Memref sig .tc .vmem S512x128 .f32) (harg7 : arg7.IsWhole)
  (arg8 : Memref sig .tc .vmem S32x512x256 .fp8e4m3) (harg8 : arg8.IsWhole)
  (f2 : Buf (Elt F) (arg2.view.loc (c : Thread nD τ))) (f3 : Buf (Elt F) (arg3.view.loc (c : Thread nD τ)))
  (f5 : Buf (Elt F) (arg5.view.loc (c : Thread nD τ))) (f8 : Buf (Elt F) (arg8.view.loc (c : Thread nD τ)))
  (k : Fin k0_t3_loop.trips) (fd : Buf (Elt F) (dhtM.view.loc (c : Thread nD τ))) (fa : Buf (Elt F) (accM.view.loc (c : Thread nD τ)))

abbrev ld12 (p : Fin 2) : Vec F S1x1x512x128 .bf16 :=
  dhtM.view.readAt (Elt F) (Rect.unit (s := S32x2x512x128) (k0_off12 k (BitVec.ofNat 32 p.val)) S1x1x512x128.size (k0_off12_inb k p)).toLoadRect fd
abbrev ld13 (p : Fin 2) : Vec F S1x1x512x128 .bf16 :=
  dhtM.view.readAt (Elt F) (Rect.unit (s := S32x2x512x128) (k0_off13 k (BitVec.ofNat 32 p.val)) S1x1x512x128.size (k0_off13_inb k p)).toLoadRect fd
abbrev ld14 (p : Fin 2) : Vec F S1x1x256 .f32 :=
  arg5.view.readAt (Elt F) (Rect.unit (s := S32x1x256) (k0_off14 k (BitVec.ofNat 32 p.val)) S1x1x256.size (k0_off14_inb k p)).toLoadRect f5
abbrev ld15 (p : Fin 2) : Vec F S256x256 .fp8e4m3 :=
  arg3.view.readAt (Elt F) (Rect.unit (s := S256x8192) (k0_off15 k (BitVec.ofNat 32 p.val)) S256x256.size (k0_off15_inb k p)).toLoadRect f3
abbrev ld16a (p : Fin 2) : Vec F S1x512x256 .f32 :=
  accM.view.readAt (Elt F) (Rect.unit (s := S32x512x256) (k0_off16 k (BitVec.ofNat 32 p.val)) S1x512x256.size (k0_off16_inb k p)).toLoadRect fa
abbrev ld16r (p : Fin 2) : Vec F S1x512x256 .fp8e4m3 :=
  arg8.view.readAt (Elt F) (Rect.unit (s := S32x512x256) (k0_off16 k (BitVec.ofNat 32 p.val)) S1x512x256.size (k0_off16_inb k p)).toLoadRect f8
abbrev ld17 (p : Fin 2) : Elt F .f32 :=
  arg2.view.readAt (Elt F) (Rect.unit (s := S64) (k0_off17 i k (BitVec.ofNat 32 p.val)) S1.size (k0_off17_inb i k p)).toLoadRect f2
    (Shape.Idx.first (numel1_S1 ▸ Nat.zero_lt_one))

/-- The accumulator after the trip: two heads' products added. -/
def accAfter : Buf (Elt F) (accM.view.loc (c : Thread nD τ)) :=
  accM.view.writes (Elt F) fa
    [⟨Rect.unit (s := S32x512x256) (k0_off16 k 1#32) S1x512x256.size (k0_off16_inb k 1),
        k0_pay22 (k0_pay20 (ld12 c k fd 1)) (ld13 c k fd 1) (ld14 c arg5 f5 k 1) (ld15 c arg3 f3 k 1) (ld16a c k fa 1)⟩,
      ⟨Rect.unit (s := S32x512x256) (k0_off16 k 0#32) S1x512x256.size (k0_off16_inb k 0),
        k0_pay15 (k0_pay14 (ld12 c k fd 0) (ld13 c k fd 0) (ld14 c arg5 f5 k 0) (ld15 c arg3 f3 k 0) (ld16a c k fa 0))⟩]

/-- Quarter `0` of the dh staging slot after the trip, from `h`. -/
def hOut0 (h : Buf (Elt F) (hstM.view.loc (c : Thread nD τ))) : Buf (Elt F) (hstM.view.loc (c : Thread nD τ)) :=
  let h' : Buf (Elt F) (hstM.view.loc (c : Thread nD τ)) :=
    View.write (Elt F) (hstM.access (Rect.unit (s := S2x4x256x2x128) (k0_off37 k) S1x1x256x2x128.size (k0_off37_inb k))) h
      (updateSlice (hstM.view.readAt (Elt F) (Rect.unit (s := S2x4x256x2x128) (k0_off37 k) S1x1x256x2x128.size (k0_off37_inb k)).toLoadRect h)
        (k0_pay28 (k0_pay16 (k0_pay13 (ld12 c k fd 0) (ld13 c k fd 0)))) ![0, 0, 0, 0, 0] slices_S1x1x256x2x128_S1x1x256x1x128_0_0_0_0_0) Finset.univ
  View.write (Elt F) (hstM.access (Rect.unit (s := S2x4x256x2x128) (k0_off39 k) S1x1x256x2x128.size (k0_off39_inb k))) h'
    (updateSlice (hstM.view.readAt (Elt F) (Rect.unit (s := S2x4x256x2x128) (k0_off39 k) S1x1x256x2x128.size (k0_off39_inb k)).toLoadRect h')
      (k0_pay29 (k0_pay23 (k0_pay20 (ld12 c k fd 1)) (ld13 c k fd 1))) ![0, 0, 0, 1, 0] slices_S1x1x256x2x128_S1x1x256x1x128_0_0_0_1_0) Finset.univ
/-- What the dh copy of that quarter carries. -/
def hPay0 (h : Buf (Elt F) (hstM.view.loc (c : Thread nD τ))) : S256x2x128.Idx → Elt F .bf16 :=
  ReadAs.same.apply ((hsl (Ring.sl 2 k.val) 0).view.read (Elt F) (hOut0 c k fd h))

/-- Quarter `1` of the dh staging slot after the trip, from `h`. -/
def hOut1 (h : Buf (Elt F) (hstM.view.loc (c : Thread nD τ))) : Buf (Elt F) (hstM.view.loc (c : Thread nD τ)) :=
  let h' : Buf (Elt F) (hstM.view.loc (c : Thread nD τ)) :=
    View.write (Elt F) (hstM.access (Rect.unit (s := S2x4x256x2x128) (k0_off41 k) S1x1x256x2x128.size (k0_off41_inb k))) h
      (updateSlice (hstM.view.readAt (Elt F) (Rect.unit (s := S2x4x256x2x128) (k0_off41 k) S1x1x256x2x128.size (k0_off41_inb k)).toLoadRect h)
        (k0_pay30 (k0_pay16 (k0_pay13 (ld12 c k fd 0) (ld13 c k fd 0)))) ![0, 0, 0, 0, 0] slices_S1x1x256x2x128_S1x1x256x1x128_0_0_0_0_0) Finset.univ
  View.write (Elt F) (hstM.access (Rect.unit (s := S2x4x256x2x128) (k0_off43 k) S1x1x256x2x128.size (k0_off43_inb k))) h'
    (updateSlice (hstM.view.readAt (Elt F) (Rect.unit (s := S2x4x256x2x128) (k0_off43 k) S1x1x256x2x128.size (k0_off43_inb k)).toLoadRect h')
      (k0_pay31 (k0_pay23 (k0_pay20 (ld12 c k fd 1)) (ld13 c k fd 1))) ![0, 0, 0, 1, 0] slices_S1x1x256x2x128_S1x1x256x1x128_0_0_0_1_0) Finset.univ
/-- What the dh copy of that quarter carries. -/
def hPay1 (h : Buf (Elt F) (hstM.view.loc (c : Thread nD τ))) : S256x2x128.Idx → Elt F .bf16 :=
  ReadAs.same.apply ((hsl (Ring.sl 2 k.val) 1).view.read (Elt F) (hOut1 c k fd h))

/-- Quarter `2` of the dh staging slot after the trip, from `h`. -/
def hOut2 (h : Buf (Elt F) (hstM.view.loc (c : Thread nD τ))) : Buf (Elt F) (hstM.view.loc (c : Thread nD τ)) :=
  let h' : Buf (Elt F) (hstM.view.loc (c : Thread nD τ)) :=
    View.write (Elt F) (hstM.access (Rect.unit (s := S2x4x256x2x128) (k0_off45 k) S1x1x256x2x128.size (k0_off45_inb k))) h
      (updateSlice (hstM.view.readAt (Elt F) (Rect.unit (s := S2x4x256x2x128) (k0_off45 k) S1x1x256x2x128.size (k0_off45_inb k)).toLoadRect h)
        (k0_pay32 (k0_pay16 (k0_pay13 (ld12 c k fd 0) (ld13 c k fd 0)))) ![0, 0, 0, 0, 0] slices_S1x1x256x2x128_S1x1x256x1x128_0_0_0_0_0) Finset.univ
  View.write (Elt F) (hstM.access (Rect.unit (s := S2x4x256x2x128) (k0_off47 k) S1x1x256x2x128.size (k0_off47_inb k))) h'
    (updateSlice (hstM.view.readAt (Elt F) (Rect.unit (s := S2x4x256x2x128) (k0_off47 k) S1x1x256x2x128.size (k0_off47_inb k)).toLoadRect h')
      (k0_pay34 (k0_pay33 (k0_pay23 (k0_pay20 (ld12 c k fd 1)) (ld13 c k fd 1)))) ![0, 0, 0, 1, 0] slices_S1x1x256x2x128_S1x1x256x1x128_0_0_0_1_0) Finset.univ
/-- What the dh copy of that quarter carries. -/
def hPay2 (h : Buf (Elt F) (hstM.view.loc (c : Thread nD τ))) : S256x2x128.Idx → Elt F .bf16 :=
  ReadAs.same.apply ((hsl (Ring.sl 2 k.val) 2).view.read (Elt F) (hOut2 c k fd h))

/-- Quarter `3` of the dh staging slot after the trip, from `h`. -/
def hOut3 (h : Buf (Elt F) (hstM.view.loc (c : Thread nD τ))) : Buf (Elt F) (hstM.view.loc (c : Thread nD τ)) :=
  let h' : Buf (Elt F) (hstM.view.loc (c : Thread nD τ)) :=
    View.write (Elt F) (hstM.access (Rect.unit (s := S2x4x256x2x128) (k0_off49 k) S1x1x256x2x128.size (k0_off49_inb k))) h
      (updateSlice (hstM.view.readAt (Elt F) (Rect.unit (s := S2x4x256x2x128) (k0_off49 k) S1x1x256x2x128.size (k0_off49_inb k)).toLoadRect h)
        (k0_pay35 (k0_pay16 (k0_pay13 (ld12 c k fd 0) (ld13 c k fd 0)))) ![0, 0, 0, 0, 0] slices_S1x1x256x2x128_S1x1x256x1x128_0_0_0_0_0) Finset.univ
  View.write (Elt F) (hstM.access (Rect.unit (s := S2x4x256x2x128) (k0_off51 k) S1x1x256x2x128.size (k0_off51_inb k))) h'
    (updateSlice (hstM.view.readAt (Elt F) (Rect.unit (s := S2x4x256x2x128) (k0_off51 k) S1x1x256x2x128.size (k0_off51_inb k)).toLoadRect h')
      (k0_pay36 (k0_pay23 (k0_pay20 (ld12 c k fd 1)) (ld13 c k fd 1))) ![0, 0, 0, 1, 0] slices_S1x1x256x2x128_S1x1x256x1x128_0_0_0_1_0) Finset.univ
/-- What the dh copy of that quarter carries. -/
def hPay3 (h : Buf (Elt F) (hstM.view.loc (c : Thread nD τ))) : S256x2x128.Idx → Elt F .bf16 :=
  ReadAs.same.apply ((hsl (Ring.sl 2 k.val) 3).view.read (Elt F) (hOut3 c k fd h))

/-- Quarter `0` of the dx staging slot after the trip, from `x`. -/
def xOut0 (x : Buf (Elt F) (xstM.view.loc (c : Thread nD τ))) : Buf (Elt F) (xstM.view.loc (c : Thread nD τ)) :=
  View.write (Elt F) (xstM.access (Rect.unit (s := S2x4x256x128) (k0_off32 k) S1x1x256x128.size (k0_off32_inb k))) x
    (k0_pay18 (k0_pay13 (ld12 c k fd 0) (ld13 c k fd 0)) (ld16r c arg8 f8 k 0) (ld17 c i arg2 f2 k 0)) Finset.univ
/-- What the dx copy of that quarter carries. -/
def xPay0 (x : Buf (Elt F) (xstM.view.loc (c : Thread nD τ))) : S256x128.Idx → Elt F .bf16 :=
  ReadAs.same.apply ((xsl (Ring.sl 2 k.val) 0).view.read (Elt F) (xOut0 c i arg2 arg8 f2 f8 k fd x))

/-- Quarter `1` of the dx staging slot after the trip, from `x`. -/
def xOut1 (x : Buf (Elt F) (xstM.view.loc (c : Thread nD τ))) : Buf (Elt F) (xstM.view.loc (c : Thread nD τ)) :=
  View.write (Elt F) (xstM.access (Rect.unit (s := S2x4x256x128) (k0_off33 k) S1x1x256x128.size (k0_off33_inb k))) x
    (k0_pay19 (k0_pay13 (ld12 c k fd 0) (ld13 c k fd 0)) (ld16r c arg8 f8 k 0) (ld17 c i arg2 f2 k 0)) Finset.univ
/-- What the dx copy of that quarter carries. -/
def xPay1 (x : Buf (Elt F) (xstM.view.loc (c : Thread nD τ))) : S256x128.Idx → Elt F .bf16 :=
  ReadAs.same.apply ((xsl (Ring.sl 2 k.val) 1).view.read (Elt F) (xOut1 c i arg2 arg8 f2 f8 k fd x))

/-- Quarter `2` of the dx staging slot after the trip, from `x`. -/
def xOut2 (x : Buf (Elt F) (xstM.view.loc (c : Thread nD τ))) : Buf (Elt F) (xstM.view.loc (c : Thread nD τ)) :=
  View.write (Elt F) (xstM.access (Rect.unit (s := S2x4x256x128) (k0_off34 k) S1x1x256x128.size (k0_off34_inb k))) x
    (k0_pay25 (k0_pay20 (ld12 c k fd 1)) (ld13 c k fd 1) (ld16r c arg8 f8 k 1) (ld17 c i arg2 f2 k 1)) Finset.univ
/-- What the dx copy of that quarter carries. -/
def xPay2 (x : Buf (Elt F) (xstM.view.loc (c : Thread nD τ))) : S256x128.Idx → Elt F .bf16 :=
  ReadAs.same.apply ((xsl (Ring.sl 2 k.val) 2).view.read (Elt F) (xOut2 c i arg2 arg8 f2 f8 k fd x))

/-- Quarter `3` of the dx staging slot after the trip, from `x`. -/
def xOut3 (x : Buf (Elt F) (xstM.view.loc (c : Thread nD τ))) : Buf (Elt F) (xstM.view.loc (c : Thread nD τ)) :=
  View.write (Elt F) (xstM.access (Rect.unit (s := S2x4x256x128) (k0_off35 k) S1x1x256x128.size (k0_off35_inb k))) x
    (k0_pay27 (k0_pay26 (k0_pay20 (ld12 c k fd 1)) (ld13 c k fd 1) (ld16r c arg8 f8 k 1) (ld17 c i arg2 f2 k 1))) Finset.univ
/-- What the dx copy of that quarter carries. -/
def xPay3 (x : Buf (Elt F) (xstM.view.loc (c : Thread nD τ))) : S256x128.Idx → Elt F .bf16 :=
  ReadAs.same.apply ((xsl (Ring.sl 2 k.val) 3).view.read (Elt F) (xOut3 c i arg2 arg8 f2 f8 k fd x))

variable
  (HOK : ∀ (v : Fin 640) (q : Fin 4), Buf (Elt F) ((hpc v q).view.loc (c : Thread nD τ)) → Prop)
  (XOK : ∀ (v : Fin 640) (q : Fin 4), Buf (Elt F) ((xpc v q).view.loc (c : Thread nD τ)) → Prop)

/-- The trip's copies leave the pieces as `HOK`, `XOK` ask, whatever the pieces and the staging slots held. -/
structure TripOK : Prop where
  h0 : ∀ p h, HOK ⟨pno i k, pno_lt i k⟩ 0 ((hpc ⟨pno i k, pno_lt i k⟩ 0).view.writes (Elt F) p [⟨Rect.whole S256x2x128, hPay0 c k fd h⟩])
  x0 : ∀ p x, XOK ⟨pno i k, pno_lt i k⟩ 0 ((xpc ⟨pno i k, pno_lt i k⟩ 0).view.writes (Elt F) p [⟨Rect.whole S256x128, xPay0 c i arg2 arg8 f2 f8 k fd x⟩])
  h1 : ∀ p h, HOK ⟨pno i k, pno_lt i k⟩ 1 ((hpc ⟨pno i k, pno_lt i k⟩ 1).view.writes (Elt F) p [⟨Rect.whole S256x2x128, hPay1 c k fd h⟩])
  x1 : ∀ p x, XOK ⟨pno i k, pno_lt i k⟩ 1 ((xpc ⟨pno i k, pno_lt i k⟩ 1).view.writes (Elt F) p [⟨Rect.whole S256x128, xPay1 c i arg2 arg8 f2 f8 k fd x⟩])
  h2 : ∀ p h, HOK ⟨pno i k, pno_lt i k⟩ 2 ((hpc ⟨pno i k, pno_lt i k⟩ 2).view.writes (Elt F) p [⟨Rect.whole S256x2x128, hPay2 c k fd h⟩])
  x2 : ∀ p x, XOK ⟨pno i k, pno_lt i k⟩ 2 ((xpc ⟨pno i k, pno_lt i k⟩ 2).view.writes (Elt F) p [⟨Rect.whole S256x128, xPay2 c i arg2 arg8 f2 f8 k fd x⟩])
  h3 : ∀ p h, HOK ⟨pno i k, pno_lt i k⟩ 3 ((hpc ⟨pno i k, pno_lt i k⟩ 3).view.writes (Elt F) p [⟨Rect.whole S256x2x128, hPay3 c k fd h⟩])
  x3 : ∀ p x, XOK ⟨pno i k, pno_lt i k⟩ 3 ((xpc ⟨pno i k, pno_lt i k⟩ 3).view.writes (Elt F) p [⟨Rect.whole S256x128, xPay3 c i arg2 arg8 f2 f8 k fd x⟩])

end

end Cert.Kernel.Hand
-- ==== Proof.K.Loop3.lean ====
module

public import proofs.«01_k».proof.Proof.K.Out

/-! One trip of the dx half's loop: the slot's earlier copies waited for, two heads' products, four and four copies issued. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section
variable (c : Dev nD) (i : grid0.Coords)
  (arg2 : Memref sig .tc .smem S64 .f32) (harg2 : arg2.IsWhole) (arg3 : Memref sig .tc .vmem S256x8192 .fp8e4m3) (harg3 : arg3.IsWhole)
  (arg4 : Memref sig .tc .vmem S8x16x256 .bf16) (harg4 : arg4.IsWhole) (arg5 : Memref sig .tc .vmem S32x1x256 .f32) (harg5 : arg5.IsWhole)
  (arg6 : Memref sig .tc .vmem S64x256x256 .fp8e4m3) (harg6 : arg6.IsWhole) (arg7 : Memref sig .tc .vmem S512x128 .f32) (harg7 : arg7.IsWhole)
  (arg8 : Memref sig .tc .vmem S32x512x256 .fp8e4m3) (harg8 : arg8.IsWhole)
  (f2 : Buf (Elt F) (arg2.view.loc (c : Thread nD τ))) (f3 : Buf (Elt F) (arg3.view.loc (c : Thread nD τ)))
  (f5 : Buf (Elt F) (arg5.view.loc (c : Thread nD τ))) (f8 : Buf (Elt F) (arg8.view.loc (c : Thread nD τ)))
  (HOK : ∀ (v : Fin 640) (q : Fin 4), Buf (Elt F) ((hpc v q).view.loc (c : Thread nD τ)) → Prop)
  (XOK : ∀ (v : Fin 640) (q : Fin 4), Buf (Elt F) ((xpc v q).view.loc (c : Thread nD τ)) → Prop)

abbrev trip3 (w0 w1 : BitVec 32) (k : Fin k0_t3_loop.trips) : Prog (TpuEff nD τ sig (Elt F) Λ₀ .tc) Unit :=
  k0_t3_body (F := F) i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 w0 w1 k ()

theorem trip3_free (w0 w1 : BitVec 32) (k : Fin k0_t3_loop.trips) (hk : pno i k < 2)
    (fd : Buf (Elt F) (dhtM.view.loc (c : Thread nD τ))) (fa : Buf (Elt F) (accM.view.loc (c : Thread nD τ)))
    (hok : TripOK c i arg2 arg8 f2 f8 k fd HOK XOK) :
    iprop(hld c arg2 f2 ∗ hld c arg3 f3 ∗ hld c arg5 f5 ∗ hld c arg8 f8 ∗ hld c dhtM fd ∗ hld c accM fa ∗ oslot c HOK XOK (Ring.sl 2 k.val) none ∗ opc c HOK XOK ⟨pno i k, pno_lt i k⟩ 0 ∗ (∃ W, owes (c : Thread nD τ) 0 W))
      ⊢ wp frame (wpE (defs₀ (F := F)) Variants.none (c : Thread nD τ) none) Set.univ (trip3 i arg2 harg2 arg3 harg3 arg4 harg4 arg5 harg5 arg6 harg6 arg7 harg7 arg8 harg8 w0 w1 k)
        fun _ => iprop(hld c arg2 f2 ∗ hld c arg3 f3 ∗ hld c arg5 f5 ∗ hld c arg8 f8 ∗ hld c dhtM fd ∗ hld c accM (accAfter c arg3 arg5 f3 f5 k fd fa)
          ∗ oslot c HOK XOK (Ring.sl 2 k.val) (some ⟨pno i k, pno_lt i k⟩) ∗ (∃ W, owes (c : Thread nD τ) 0 W)) := by
  have hk3 : k.val < 16 := k3l k
  have hC : ¬ k0_cond4 i k = 1#1 := fun h => by have := (cond4_iff i k).mp h; omega
  have planH : Transfers.BatchOf (c : Thread nD τ) (SemLoc.dma (csH (Ring.sl 2 k.val)).sem) 4 := trivial
  have planX : Transfers.BatchOf (c : Thread nD τ) (SemLoc.dma (csX (Ring.sl 2 k.val)).sem) 4 := trivial
  rw [oslot_none, opc_0]
  iintro ⟨H2, H3, H5, H8, Hd, Ha, ⟨HcH, HcX, ⟨⟨%h0, Hh0⟩, ⟨%h1, Hh1⟩, ⟨%h2, Hh2⟩, ⟨%h3, Hh3⟩⟩, ⟨⟨%x0, Hx0⟩, ⟨%x1, Hx1⟩, ⟨%x2, Hx2⟩, ⟨%x3, Hx3⟩⟩⟩, ⟨⟨⟨%p0, Hp0⟩, ⟨%p1, Hp1⟩, ⟨%p2, Hp2⟩, ⟨%p3, Hp3⟩⟩, ⟨⟨%y0, Hy0⟩, ⟨%y1, Hy1⟩, ⟨%y2, Hy2⟩, ⟨%y3, Hy3⟩⟩⟩, ⟨%W, HW⟩⟩
  dsimp only [trip3]
  sl_unfold [k0_t3_body]
  sl_exec
  sl_step
  isplitl [H2]; · iexact H2
  isplitl [H3]; · iexact H3
  isplitl [H5]; · iexact H5
  isplitl [H8]; · iexact H8
  isplitl [Hd]; · iexact Hd
  isplitl [Ha]; · iexact Ha
  isplitl [HcH HcX]
  · rw [oslot_some]
    isplitl [HcH]
    · unfold flH
      iexists _, _, _, _, _, _, _, _
      isplitl [HcH]; · iexact HcH
      ipureintro
      exact ⟨hok.h0 _ _, hok.h1 _ _, hok.h2 _ _, hok.h3 _ _⟩
    · unfold flX
      iexists _, _, _, _, _, _, _, _
      isplitl [HcX]; · iexact HcX
      ipureintro
      exact ⟨hok.x0 _ _, hok.x1 _ _, hok.x2 _ _, hok.x3 _ _⟩
  iexists _; iexact HW

theorem trip3_wait (w0 w1 : BitVec 32) (k : Fin k0_t3_loop.trips) (hk : 2 ≤ pno i k) (hv : pno i k - 2 < 640)
    (fd : Buf (Elt F) (dhtM.view.loc (c : Thread nD τ))) (fa : Buf (Elt F) (accM.view.loc (c : Thread nD τ)))
    (hok : TripOK c i arg2 arg8 f2 f8 k fd HOK XOK) :
    iprop(hld c arg2 f2 ∗ hld c arg3 f3 ∗ hld c arg5 f5 ∗ hld c arg8 f8 ∗ hld c dhtM fd ∗ hld c accM fa ∗ oslot c HOK XOK (Ring.sl 2 k.val) (some ⟨pno i k - 2, hv⟩) ∗ opc c HOK XOK ⟨pno i k, pno_lt i k⟩ 0 ∗ (∃ W, owes (c : Thread nD τ) 0 W))
      ⊢ wp frame (wpE (defs₀ (F := F)) Variants.none (c : Thread nD τ) none) Set.univ (trip3 i arg2 harg2 arg3 harg3 arg4 harg4 arg5 harg5 arg6 harg6 arg7 harg7 arg8 harg8 w0 w1 k)
        fun _ => iprop(hld c arg2 f2 ∗ hld c arg3 f3 ∗ hld c arg5 f5 ∗ hld c arg8 f8 ∗ hld c dhtM fd ∗ hld c accM (accAfter c arg3 arg5 f3 f5 k fd fa)
          ∗ oslot c HOK XOK (Ring.sl 2 k.val) (some ⟨pno i k, pno_lt i k⟩) ∗ opc c HOK XOK ⟨pno i k - 2, hv⟩ 2 ∗ (∃ W, owes (c : Thread nD τ) 0 W)) := by
  have hk3 : k.val < 16 := k3l k
  have hC : k0_cond4 i k = 1#1 := (cond4_iff i k).mpr hk
  have planH : Transfers.BatchOf (c : Thread nD τ) (SemLoc.dma (csH (Ring.sl 2 k.val)).sem) 4 := trivial
  have planX : Transfers.BatchOf (c : Thread nD τ) (SemLoc.dma (csX (Ring.sl 2 k.val)).sem) 4 := trivial
  rw [oslot_some, opc_0]
  unfold flH flX
  iintro ⟨H2, H3, H5, H8, Hd, Ha, ⟨⟨%a0, %a1, %a2, %a3, %g0, %g1, %g2, %g3, HcH, %hH⟩, ⟨%b0, %b1, %b2, %b3, %e0, %e1, %e2, %e3, HcX, %hX⟩⟩, ⟨⟨⟨%p0, Hp0⟩, ⟨%p1, Hp1⟩, ⟨%p2, Hp2⟩, ⟨%p3, Hp3⟩⟩, ⟨⟨%y0, Hy0⟩, ⟨%y1, Hy1⟩, ⟨%y2, Hy2⟩, ⟨%y3, Hy3⟩⟩⟩, ⟨%W, HW⟩⟩
  dsimp only [trip3]
  sl_unfold [k0_t3_body]
  sl_exec
  sl_step
  isplitl [H2]; · iexact H2
  isplitl [H3]; · iexact H3
  isplitl [H5]; · iexact H5
  isplitl [H8]; · iexact H8
  isplitl [Hd]; · iexact Hd
  isplitl [Ha]; · iexact Ha
  isplitl [HcH HcX]
  · rw [oslot_some]
    isplitl [HcH]
    · unfold flH
      iexists _, _, _, _, _, _, _, _
      isplitl [HcH]; · iexact HcH
      ipureintro
      exact ⟨hok.h0 _ _, hok.h1 _ _, hok.h2 _ _, hok.h3 _ _⟩
    · unfold flX
      iexists _, _, _, _, _, _, _, _
      isplitl [HcX]; · iexact HcX
      ipureintro
      exact ⟨hok.x0 _ _, hok.x1 _ _, hok.x2 _ _, hok.x3 _ _⟩
  isplitl [HcH_dst0 HcH_dst1 HcH_dst2 HcH_dst3 HcX_dst0 HcX_dst1 HcX_dst2 HcX_dst3]
  · rw [opc_2]
    isplitl [HcH_dst0 HcH_dst1 HcH_dst2 HcH_dst3]
    · iexists _, _, _, _
      isplitl [HcH_dst0 HcH_dst1 HcH_dst2 HcH_dst3]
      · isplitl [HcH_dst0]; · iexact HcH_dst0
        isplitl [HcH_dst1]; · iexact HcH_dst1
        isplitl [HcH_dst2]; · iexact HcH_dst2
        iexact HcH_dst3
      ipureintro; exact hH
    · iexists _, _, _, _
      isplitl [HcX_dst0 HcX_dst1 HcX_dst2 HcX_dst3]
      · isplitl [HcX_dst0]; · iexact HcX_dst0
        isplitl [HcX_dst1]; · iexact HcX_dst1
        isplitl [HcX_dst2]; · iexact HcX_dst2
        iexact HcX_dst3
      ipureintro; exact hX
  iexists _; iexact HW

end

end Cert.Kernel.Hand
-- ==== Proof.K.Loop2.lean ====
module

public import proofs.«01_k».proof.Proof.K.Res

/-! One trip of the innermost loop of the dh half: two blocks of dy rows read from the ring's current slot, two boxes of
    the transposed dh buffer stored; and the whole inner loop. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- The first `n` of `T` steps taken, from `a`. -/
def iterFin {α : Type} (T : ℕ) (f : Fin T → α → α) (a : α) : ℕ → α
  | 0 => a
  | n + 1 => if h : n < T then f ⟨n, h⟩ (iterFin T f a n) else iterFin T f a n
theorem iterFin_zero {α : Type} (T : ℕ) (f : Fin T → α → α) (a : α) : iterFin T f a 0 = a := by unfold iterFin; rfl
theorem iterFin_succ {α : Type} (T : ℕ) (f : Fin T → α → α) (a : α) (k : Fin T) :
    iterFin T f a (k.val + 1) = f k (iterFin T f a k.val) := by
  have : iterFin T f a (k.val + 1) = if h : k.val < T then f ⟨k.val, h⟩ (iterFin T f a k.val) else iterFin T f a k.val := by
    conv_lhs => unfold iterFin
  rw [this, dif_pos k.isLt]

/-- The values one inner trip stores at the tokens 0…127 of the block: two groups of eight rows, from the two dy boxes
    `r`, the dy scales `d`, the two blocks of `l` and their scales. -/
def dhV0 (r0 r1 : Vec F S1x1x256x256 .fp8e5m2) (d : Vec F S8x16x256 .bf16) (l0 l1 : Vec F S1x256x256 .fp8e4m3) (s0 s1 : Vec F S8x128 .f32) :
    FVec F S32x1x16x128 .bf16 :=
  k0_pay3 (k0_pay12 k0_pay1 (k0_pay7 k0_pay1 r0 d l0 s0) r1 d l1 s1)
/-- The same at the tokens 128…255. -/
def dhV1 (r0 r1 : Vec F S1x1x256x256 .fp8e5m2) (d : Vec F S8x16x256 .bf16) (l0 l1 : Vec F S1x256x256 .fp8e4m3) (s0 s1 : Vec F S8x128 .f32) :
    FVec F S32x1x16x128 .bf16 :=
  k0_pay4 (k0_pay8 k0_pay1 r0 d l0 s0) (k0_pay11 k0_pay1 r1 d l1 s1)

abbrev ldD (M : Memref sig .tc .vmem S8x16x256 .bf16) (c : Dev nD) (f : Buf (Elt F) (M.view.loc (c : Thread nD τ))) : Vec F S8x16x256 .bf16 :=
  M.view.readAt (Elt F) (Rect.unit (s := S8x16x256) ![0, 0, 0] S8x16x256.size inb_S8x16x256_S8x16x256_0_0_0).toLoadRect f
abbrev ldL (M : Memref sig .tc .vmem S64x256x256 .fp8e4m3) (c : Dev nD) (f : Buf (Elt F) (M.view.loc (c : Thread nD τ)))
    (k1 : Fin k0_t1_loop.trips) (k2 : Fin k0_t2_loop.trips) (w : Fin 2) : Vec F S1x256x256 .fp8e4m3 :=
  M.view.readAt (Elt F) (Rect.unit (s := S64x256x256) (k0_off8 k1 k2 (BitVec.ofNat 32 w.val)) S1x256x256.size (k0_off8_inb k1 k2 w)).toLoadRect f
abbrev ldS (M : Memref sig .tc .vmem S512x128 .f32) (c : Dev nD) (f : Buf (Elt F) (M.view.loc (c : Thread nD τ)))
    (k1 : Fin k0_t1_loop.trips) (k2 : Fin k0_t2_loop.trips) (w : Fin 2) : Vec F S8x128 .f32 :=
  M.view.readAt (Elt F) (Rect.unit (s := S512x128) (k0_off9 k1 k2 (BitVec.ofNat 32 w.val)) S8x128.size (k0_off9_inb k1 k2 w)).toLoadRect f
abbrev ldR (c : Dev nD) (i : grid0.Coords) (k1 : Fin k0_t1_loop.trips) (k2 : Fin k0_t2_loop.trips) (w : Fin 2)
    (f : Buf (Elt F) (ringM.view.loc (c : Thread nD τ))) : Vec F S1x1x256x256 .fp8e5m2 :=
  ringM.view.readAt (Elt F) (Rect.unit (s := S4x8x256x256) (k0_off7 i k1 k2 (BitVec.ofNat 32 w.val)) S1x1x256x256.size (k0_off7_inb i k1 k2 w)).toLoadRect f

section
variable (c : Dev nD) (i : grid0.Coords)
  (arg2 : Memref sig .tc .smem S64 .f32) (harg2 : arg2.IsWhole) (arg3 : Memref sig .tc .vmem S256x8192 .fp8e4m3) (harg3 : arg3.IsWhole)
  (arg4 : Memref sig .tc .vmem S8x16x256 .bf16) (harg4 : arg4.IsWhole) (arg5 : Memref sig .tc .vmem S32x1x256 .f32) (harg5 : arg5.IsWhole)
  (arg6 : Memref sig .tc .vmem S64x256x256 .fp8e4m3) (harg6 : arg6.IsWhole) (arg7 : Memref sig .tc .vmem S512x128 .f32) (harg7 : arg7.IsWhole)
  (arg8 : Memref sig .tc .vmem S32x512x256 .fp8e4m3) (harg8 : arg8.IsWhole)
  (f4 : Buf (Elt F) (arg4.view.loc (c : Thread nD τ))) (f6 : Buf (Elt F) (arg6.view.loc (c : Thread nD τ)))
  (f7 : Buf (Elt F) (arg7.view.loc (c : Thread nD τ)))

abbrev trip2 (k1 : Fin k0_t1_loop.trips) (w22 w98 w51 w53 : BitVec 32) (k2 : Fin k0_t2_loop.trips) : Prog (TpuEff nD τ sig (Elt F) Λ₀ .tc) Unit :=
  k0_t2_body (F := F) i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 k1 w22 w98 w51 w53 k2 ()

/-- The transposed dh buffer after an inner trip, from contents `fo`, the ring's slot at `fr`. -/
def dhtAfter (k1 : Fin k0_t1_loop.trips) (k2 : Fin k0_t2_loop.trips) (fr : Buf (Elt F) (ringM.view.loc (c : Thread nD τ)))
    (fo : Buf (Elt F) (dhtM.view.loc (c : Thread nD τ))) : Buf (Elt F) (dhtM.view.loc (c : Thread nD τ)) :=
  dhtM.view.writes (Elt F) fo
    [⟨Rect.unit (s := S32x2x512x128) (k0_off11 k1 k2) S32x1x16x128.size (k0_off11_inb k1 k2),
        dhV1 (ldR c i k1 k2 0 fr) (ldR c i k1 k2 1 fr) (ldD arg4 c f4) (ldL arg6 c f6 k1 k2 0) (ldL arg6 c f6 k1 k2 1) (ldS arg7 c f7 k1 k2 0) (ldS arg7 c f7 k1 k2 1)⟩,
      ⟨Rect.unit (s := S32x2x512x128) (k0_off10 k1 k2) S32x1x16x128.size (k0_off10_inb k1 k2),
        dhV0 (ldR c i k1 k2 0 fr) (ldR c i k1 k2 1 fr) (ldD arg4 c f4) (ldL arg6 c f6 k1 k2 0) (ldL arg6 c f6 k1 k2 1) (ldS arg7 c f7 k1 k2 0) (ldS arg7 c f7 k1 k2 1)⟩]

theorem trip2_run (k1 : Fin k0_t1_loop.trips) (w22 w98 w51 w53 : BitVec 32) (k2 : Fin k0_t2_loop.trips)
    (fr : Buf (Elt F) ((dsl (Ring.sl 4 (cnt i k1))).view.loc (c : Thread nD τ))) (fo : Buf (Elt F) (dhtM.view.loc (c : Thread nD τ))) :
    iprop(hld c (dsl (Ring.sl 4 (cnt i k1))) fr ∗ hld c arg4 f4 ∗ hld c arg6 f6 ∗ hld c arg7 f7 ∗ hld c dhtM fo)
      ⊢ wp frame (wpE (defs₀ (F := F)) Variants.none (c : Thread nD τ) none) Set.univ (trip2 i arg2 harg2 arg3 harg3 arg4 harg4 arg5 harg5 arg6 harg6 arg7 harg7 arg8 harg8 k1 w22 w98 w51 w53 k2)
        fun _ => iprop(hld c (dsl (Ring.sl 4 (cnt i k1))) fr ∗ hld c arg4 f4 ∗ hld c arg6 f6 ∗ hld c arg7 f7
          ∗ hld c dhtM (dhtAfter c i arg4 arg6 arg7 f4 f6 f7 k1 k2 fr fo)) := by
  iintro ⟨Hr, H4, H6, H7, Ho⟩
  have hk2 : k2.val < 4 := Nat.lt_of_lt_of_eq k2.isLt trips2
  have hk1 : k1.val < 8 := k1l k1
  dsimp only [trip2]
  sl_unfold [k0_t2_body]
  sl_exec
  sl_step
  isplitl [Hr]; · iexact Hr
  isplitl [H4]; · iexact H4
  isplitl [H6]; · iexact H6
  isplitl [H7]; · iexact H7
  iexact Ho

/-- The buffer through the first `n` inner trips of a chunk. -/
def dhtIter (k1 : Fin k0_t1_loop.trips) (fr : Buf (Elt F) (ringM.view.loc (c : Thread nD τ)))
    (fo : Buf (Elt F) (dhtM.view.loc (c : Thread nD τ))) (n : ℕ) : Buf (Elt F) (dhtM.view.loc (c : Thread nD τ)) :=
  iterFin k0_t2_loop.trips (fun k2 => dhtAfter c i arg4 arg6 arg7 f4 f6 f7 k1 k2 fr) fo n

/-- What the inner loop holds before trip `n`. -/
def inv2 (k1 : Fin k0_t1_loop.trips) (fr : Buf (Elt F) ((dsl (Ring.sl 4 (cnt i k1))).view.loc (c : Thread nD τ)))
    (fo : Buf (Elt F) (dhtM.view.loc (c : Thread nD τ))) (n : ℕ) (_ : Unit) : sProp 𝕄 :=
  iprop(hld c (dsl (Ring.sl 4 (cnt i k1))) fr ∗ hld c arg4 f4 ∗ hld c arg6 f6 ∗ hld c arg7 f7
    ∗ hld c dhtM (dhtIter c i arg4 arg6 arg7 f4 f6 f7 k1 fr fo n))

set_option warn.classDefReducibility false in
/-- The inner loop's invariant. -/
@[sl_loop] def loopInv2 (k1 : Fin k0_t1_loop.trips) (w22 w98 w51 w53 : BitVec 32)
    (fr : Buf (Elt F) ((dsl (Ring.sl 4 (cnt i k1))).view.loc (c : Thread nD τ))) (fo : Buf (Elt F) (dhtM.view.loc (c : Thread nD τ))) :
    LoopInvTy_k0_t2 (F := F) Unit ℕ (Pipeline.UD sig nD τ) ℕ Variants.none c none Set.univ i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 k1 w22 w98 w51 w53 where
  inv n u := inv2 c i arg4 arg6 arg7 f4 f6 f7 k1 fr fo n u
  step k _ := by
    unfold inv2
    have e : dhtIter c i arg4 arg6 arg7 f4 f6 f7 k1 fr fo (k.val + 1)
        = dhtAfter c i arg4 arg6 arg7 f4 f6 f7 k1 k fr (dhtIter c i arg4 arg6 arg7 f4 f6 f7 k1 fr fo k.val) := by
      unfold dhtIter; exact iterFin_succ _ _ _ k
    rw [e]
    exact trip2_run c i arg2 harg2 arg3 harg3 arg4 harg4 arg5 harg5 arg6 harg6 arg7 harg7 arg8 harg8 f4 f6 f7 k1 w22 w98 w51 w53 k fr _
end

end Cert.Kernel.Hand
-- ==== Proof.K.Loop3b.lean ====
module

public import proofs.«01_k».proof.Proof.K.Loop3
public import proofs.«01_k».proof.Proof.K.Loop2

/-! The dx half's loop, whole. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section
variable (c : Dev nD) (i : grid0.Coords)
  (arg2 : Memref sig .tc .smem S64 .f32) (harg2 : arg2.IsWhole) (arg3 : Memref sig .tc .vmem S256x8192 .fp8e4m3) (harg3 : arg3.IsWhole)
  (arg4 : Memref sig .tc .vmem S8x16x256 .bf16) (harg4 : arg4.IsWhole) (arg5 : Memref sig .tc .vmem S32x1x256 .f32) (harg5 : arg5.IsWhole)
  (arg6 : Memref sig .tc .vmem S64x256x256 .fp8e4m3) (harg6 : arg6.IsWhole) (arg7 : Memref sig .tc .vmem S512x128 .f32) (harg7 : arg7.IsWhole)
  (arg8 : Memref sig .tc .vmem S32x512x256 .fp8e4m3) (harg8 : arg8.IsWhole)
  (f2 : Buf (Elt F) (arg2.view.loc (c : Thread nD τ))) (f3 : Buf (Elt F) (arg3.view.loc (c : Thread nD τ)))
  (f5 : Buf (Elt F) (arg5.view.loc (c : Thread nD τ))) (f8 : Buf (Elt F) (arg8.view.loc (c : Thread nD τ)))
  (HOK : ∀ (v : Fin 640) (q : Fin 4), Buf (Elt F) ((hpc v q).view.loc (c : Thread nD τ)) → Prop)
  (XOK : ∀ (v : Fin 640) (q : Fin 4), Buf (Elt F) ((xpc v q).view.loc (c : Thread nD τ)) → Prop)

attribute [local irreducible] k0_t3_body

/-- The output rings and the pieces, the pairs below `u` issued. -/
def outs (u : ℕ) : sProp 𝕄 :=
  iprop(Ring.AtW (σ := fun _ => Option (Fin 640)) (oslot c HOK XOK) (ost u) ∗ Ring.AtW (σ := fun _ => Fin 3) (opc c HOK XOK) (pst u))

theorem outs_eq (u : ℕ) (h : u < 640) : outs c HOK XOK u
    = iprop((oslot c HOK XOK (Ring.sl 2 u) (ost u (Ring.sl 2 u)) ∗ Ring.restL (oslot c HOK XOK) (ost u) [Ring.sl 2 u])
      ∗ (opc c HOK XOK ⟨u, h⟩ (pst u ⟨u, h⟩) ∗ Ring.restL (opc c HOK XOK) (pst u) [⟨u, h⟩])) := by
  unfold outs
  rw [Ring.AtW_focusL (oslot c HOK XOK) (ost u) [Ring.sl 2 u] (List.nodup_singleton _),
    Ring.AtW_focusL (opc c HOK XOK) (pst u) [⟨u, h⟩] (List.nodup_singleton _)]
  rfl
theorem outs_eq2 (u : ℕ) (h : u < 640) (h2 : 2 ≤ u) : outs c HOK XOK u
    = iprop((oslot c HOK XOK (Ring.sl 2 u) (ost u (Ring.sl 2 u)) ∗ Ring.restL (oslot c HOK XOK) (ost u) [Ring.sl 2 u])
      ∗ ((opc c HOK XOK ⟨u, h⟩ (pst u ⟨u, h⟩) ∗ opc c HOK XOK ⟨u - 2, by omega⟩ (pst u ⟨u - 2, by omega⟩))
        ∗ Ring.restL (opc c HOK XOK) (pst u) [⟨u, h⟩, ⟨u - 2, by omega⟩])) := by
  unfold outs
  rw [Ring.AtW_focusL (oslot c HOK XOK) (ost u) [Ring.sl 2 u] (List.nodup_singleton _),
    Ring.AtW_focusL (opc c HOK XOK) (pst u) [⟨u, h⟩, ⟨u - 2, by omega⟩]
      (List.nodup_cons.mpr ⟨fun hh => by have := congrArg Fin.val (List.mem_singleton.mp hh); simp at this; omega, List.nodup_singleton _⟩)]
  rfl

theorem slots_close (u : ℕ) (h : u < 640) :
    iprop(oslot c HOK XOK (Ring.sl 2 u) (some ⟨u, h⟩) ∗ Ring.restL (oslot c HOK XOK) (ost u) [Ring.sl 2 u])
      ⊢ Ring.AtW (σ := fun _ => Option (Fin 640)) (oslot c HOK XOK) (ost (u + 1)) := by
  refine .trans (Laws.sep_mono (Entails.of_eq ?_) .rfl) (Ring.AtW_refocusL (oslot c HOK XOK) (ost u) (ost (u + 1)) [Ring.sl 2 u] (List.nodup_singleton _) ?_)
  · show _ = oslot c HOK XOK (Ring.sl 2 u) (ost (u + 1) (Ring.sl 2 u))
    rw [ost_succ_self u h]
  · exact fun s hs => ost_succ_ne u s fun e => hs (List.mem_singleton.mpr e)
theorem pieces_close (u : ℕ) (h : u < 640) (h2 : u < 2) :
    iprop(emp ∗ Ring.restL (opc c HOK XOK) (pst u) [⟨u, h⟩]) ⊢ Ring.AtW (σ := fun _ => Fin 3) (opc c HOK XOK) (pst (u + 1)) := by
  refine .trans (Laws.sep_mono (Entails.of_eq ?_) .rfl) (Ring.AtW_refocusL (opc c HOK XOK) (pst u) (pst (u + 1)) [⟨u, h⟩] (List.nodup_singleton _) ?_)
  · show _ = opc c HOK XOK ⟨u, h⟩ (pst (u + 1) ⟨u, h⟩)
    rw [pst_succ_self u h, opc_1]
  · exact fun v hv => pst_succ_ne u v (fun e => hv (List.mem_singleton.mpr (Fin.ext e))) (by omega)
theorem pieces_close2 (u : ℕ) (h : u < 640) (h2 : 2 ≤ u) (h3 : u - 2 < 640) :
    iprop((emp ∗ opc c HOK XOK ⟨u - 2, h3⟩ 2) ∗ Ring.restL (opc c HOK XOK) (pst u) [⟨u, h⟩, ⟨u - 2, h3⟩])
      ⊢ Ring.AtW (σ := fun _ => Fin 3) (opc c HOK XOK) (pst (u + 1)) := by
  refine .trans (Laws.sep_mono (Entails.of_eq ?_) .rfl) (Ring.AtW_refocusL (opc c HOK XOK) (pst u) (pst (u + 1)) [⟨u, h⟩, ⟨u - 2, h3⟩]
    (List.nodup_cons.mpr ⟨fun hh => by have := congrArg Fin.val (List.mem_singleton.mp hh); simp at this; omega, List.nodup_singleton _⟩) ?_)
  · show _ = iprop(opc c HOK XOK ⟨u, h⟩ (pst (u + 1) ⟨u, h⟩) ∗ opc c HOK XOK ⟨u - 2, h3⟩ (pst (u + 1) ⟨u - 2, h3⟩))
    rw [pst_succ_self u h, opc_1, pst_succ_back u h2 h3]
  · refine fun v hv => pst_succ_ne u v (fun e => hv ?_) (fun e => hv ?_)
    · exact List.mem_cons.mpr (Or.inl (Fin.ext e))
    · exact List.mem_cons.mpr (Or.inr (List.mem_singleton.mpr (Fin.ext (by simp; omega))))

/-- Pair `pno`'s slot is the trip's. -/
theorem sl_pno (k : Fin k0_t3_loop.trips) : Ring.sl 2 (pno i k) = Ring.sl 2 k.val := by
  refine Fin.ext ?_
  rw [Ring.sl_val, Ring.sl_val]
  show (16 * (20 * (i 0).val + (i 1).val) + k.val) % 2 = _
  omega

/-- One trip, over the rings and the pieces whole. -/
theorem trip3_run (w0 w1 : BitVec 32) (k : Fin k0_t3_loop.trips)
    (fd : Buf (Elt F) (dhtM.view.loc (c : Thread nD τ))) (fa : Buf (Elt F) (accM.view.loc (c : Thread nD τ)))
    (hok : TripOK c i arg2 arg8 f2 f8 k fd HOK XOK) :
    iprop(hld c arg2 f2 ∗ hld c arg3 f3 ∗ hld c arg5 f5 ∗ hld c arg8 f8 ∗ hld c dhtM fd ∗ hld c accM fa ∗ outs c HOK XOK (pno i k) ∗ (∃ W, owes (c : Thread nD τ) 0 W))
      ⊢ wp frame (wpE (defs₀ (F := F)) Variants.none (c : Thread nD τ) none) Set.univ (trip3 i arg2 harg2 arg3 harg3 arg4 harg4 arg5 harg5 arg6 harg6 arg7 harg7 arg8 harg8 w0 w1 k)
        fun _ => iprop(hld c arg2 f2 ∗ hld c arg3 f3 ∗ hld c arg5 f5 ∗ hld c arg8 f8 ∗ hld c dhtM fd ∗ hld c accM (accAfter c arg3 arg5 f3 f5 k fd fa)
          ∗ outs c HOK XOK (pno i k + 1) ∗ (∃ W, owes (c : Thread nD τ) 0 W)) := by
  have hu := pno_lt i k
  rcases Nat.lt_or_ge (pno i k) 2 with h2 | h2
  · rw [outs_eq c HOK XOK (pno i k) hu, ost_self_lt _ h2, pst_self _ hu, sl_pno]
    iintro ⟨H2, H3, H5, H8, Hd, Ha, ⟨⟨Hs, Hsr⟩, ⟨Hp, Hpr⟩⟩, HW⟩
    iapply (wp_wand_r frame (wpE (defs₀ (F := F)) Variants.none (c : Thread nD τ) none) Set.univ)
    isplitr [Hsr Hpr]
    · iapply (trip3_free c i arg2 harg2 arg3 harg3 arg4 harg4 arg5 harg5 arg6 harg6 arg7 harg7 arg8 harg8 f2 f3 f5 f8 HOK XOK w0 w1 k h2 fd fa hok)
      isplitl [H2]; · iexact H2
      isplitl [H3]; · iexact H3
      isplitl [H5]; · iexact H5
      isplitl [H8]; · iexact H8
      isplitl [Hd]; · iexact Hd
      isplitl [Ha]; · iexact Ha
      isplitl [Hs]; · iexact Hs
      isplitl [Hp]; · iexact Hp
      iexact HW
    · iintro %u ⟨H2, H3, H5, H8, Hd, Ha, Hs, HW⟩
      isplitl [H2]; · iexact H2
      isplitl [H3]; · iexact H3
      isplitl [H5]; · iexact H5
      isplitl [H8]; · iexact H8
      isplitl [Hd]; · iexact Hd
      isplitl [Ha]; · iexact Ha
      isplitr [HW]
      · unfold outs
        isplitl [Hs Hsr]
        · iapply (slots_close c HOK XOK (pno i k) hu)
          rw [sl_pno]
          isplitl [Hs]; · iexact Hs
          iexact Hsr
        · iapply (pieces_close c HOK XOK (pno i k) hu h2)
          isplitr
          · iempintro
          · iexact Hpr
      · iexact HW
  · have h3 : pno i k - 2 < 640 := by omega
    rw [outs_eq2 c HOK XOK (pno i k) hu h2, ost_self _ h2 (by omega), pst_self _ hu, pst_back _ h2 h3, sl_pno]
    iintro ⟨H2, H3, H5, H8, Hd, Ha, ⟨⟨Hs, Hsr⟩, ⟨⟨Hp, -⟩, Hpr⟩⟩, HW⟩
    iapply (wp_wand_r frame (wpE (defs₀ (F := F)) Variants.none (c : Thread nD τ) none) Set.univ)
    isplitr [Hsr Hpr]
    · iapply (trip3_wait c i arg2 harg2 arg3 harg3 arg4 harg4 arg5 harg5 arg6 harg6 arg7 harg7 arg8 harg8 f2 f3 f5 f8 HOK XOK w0 w1 k h2 h3 fd fa hok)
      isplitl [H2]; · iexact H2
      isplitl [H3]; · iexact H3
      isplitl [H5]; · iexact H5
      isplitl [H8]; · iexact H8
      isplitl [Hd]; · iexact Hd
      isplitl [Ha]; · iexact Ha
      isplitl [Hs]; · iexact Hs
      isplitl [Hp]; · iexact Hp
      iexact HW
    · iintro %u ⟨H2, H3, H5, H8, Hd, Ha, Hs, Hb, HW⟩
      isplitl [H2]; · iexact H2
      isplitl [H3]; · iexact H3
      isplitl [H5]; · iexact H5
      isplitl [H8]; · iexact H8
      isplitl [Hd]; · iexact Hd
      isplitl [Ha]; · iexact Ha
      isplitr [HW]
      · unfold outs
        isplitl [Hs Hsr]
        · iapply (slots_close c HOK XOK (pno i k) hu)
          rw [sl_pno]
          isplitl [Hs]; · iexact Hs
          iexact Hsr
        · iapply (pieces_close2 c HOK XOK (pno i k) hu h2 h3)
          isplitr [Hpr]
          · isplitr
            · iempintro
            · iexact Hb
          · iexact Hpr
      · iexact HW

/-- The accumulator through the first `n` trips of a step. -/
def accIter (fd : Buf (Elt F) (dhtM.view.loc (c : Thread nD τ))) (fa : Buf (Elt F) (accM.view.loc (c : Thread nD τ))) (n : ℕ) :
    Buf (Elt F) (accM.view.loc (c : Thread nD τ)) :=
  iterFin k0_t3_loop.trips (fun k => accAfter c arg3 arg5 f3 f5 k fd) fa n

/-- What the dx half's loop holds before trip `n`. -/
def inv3 (fd : Buf (Elt F) (dhtM.view.loc (c : Thread nD τ))) (fa : Buf (Elt F) (accM.view.loc (c : Thread nD τ))) (n : ℕ) (_ : Unit) : sProp 𝕄 :=
  iprop(hld c arg2 f2 ∗ hld c arg3 f3 ∗ hld c arg5 f5 ∗ hld c arg8 f8 ∗ hld c dhtM fd ∗ hld c accM (accIter c arg3 arg5 f3 f5 fd fa n) ∗ outs c HOK XOK (16 * stepOf i + n) ∗ (∃ W, owes (c : Thread nD τ) 0 W))

theorem step3 (w0 w1 : BitVec 32) (fd : Buf (Elt F) (dhtM.view.loc (c : Thread nD τ))) (fa : Buf (Elt F) (accM.view.loc (c : Thread nD τ)))
    (hok : ∀ k, TripOK c i arg2 arg8 f2 f8 k fd HOK XOK) (k : Fin k0_t3_loop.trips) :
    inv3 c i arg2 arg3 arg5 arg8 f2 f3 f5 f8 HOK XOK fd fa k.val () ⊢ wp frame (wpE (defs₀ (F := F)) Variants.none (c : Thread nD τ) none) Set.univ (trip3 i arg2 harg2 arg3 harg3 arg4 harg4 arg5 harg5 arg6 harg6 arg7 harg7 arg8 harg8 w0 w1 k)
      fun u => inv3 c i arg2 arg3 arg5 arg8 f2 f3 f5 f8 HOK XOK fd fa (k.val + 1) u := by
  unfold inv3
  have e : accIter c arg3 arg5 f3 f5 fd fa (k.val + 1) = accAfter c arg3 arg5 f3 f5 k fd (accIter c arg3 arg5 f3 f5 fd fa k.val) := by
    unfold accIter; exact iterFin_succ _ _ _ k
  have e2 : 16 * stepOf i + (k.val + 1) = pno i k + 1 := by unfold pno; omega
  have e3 : 16 * stepOf i + k.val = pno i k := by unfold pno; omega
  rw [e, e2, e3]
  exact trip3_run c i arg2 harg2 arg3 harg3 arg4 harg4 arg5 harg5 arg6 harg6 arg7 harg7 arg8 harg8 f2 f3 f5 f8 HOK XOK w0 w1 k fd (accIter c arg3 arg5 f3 f5 fd fa k.val) (hok k)

set_option warn.classDefReducibility false in
/-- The dx half's loop's invariant. -/
@[sl_loop] def loopInv3 (w0 w1 : BitVec 32) (fd : Buf (Elt F) (dhtM.view.loc (c : Thread nD τ))) (fa : Buf (Elt F) (accM.view.loc (c : Thread nD τ)))
    (hok : ∀ k, TripOK c i arg2 arg8 f2 f8 k fd HOK XOK) :
    LoopInvTy_k0_t3 (F := F) Unit ℕ (Pipeline.UD sig nD τ) ℕ Variants.none c none Set.univ i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 w0 w1 where
  inv n u := inv3 c i arg2 arg3 arg5 arg8 f2 f3 f5 f8 HOK XOK fd fa n u
  step k u := by
    cases u
    exact step3 c i arg2 harg2 arg3 harg3 arg4 harg4 arg5 harg5 arg6 harg6 arg7 harg7 arg8 harg8 f2 f3 f5 f8 HOK XOK w0 w1 fd fa hok k
end

end Cert.Kernel.Hand
-- ==== Proof.K.Tail.lean ====
module

public import proofs.«01_k».proof.Proof.K.Loop3b

/-! The end of the body: the half's dr copy, and at the last grid point the output rings drained. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section
variable (c : Dev nD) (i : grid0.Coords)
  (arg2 : Memref sig .tc .smem S64 .f32) (harg2 : arg2.IsWhole) (arg3 : Memref sig .tc .vmem S256x8192 .fp8e4m3) (harg3 : arg3.IsWhole)
  (arg4 : Memref sig .tc .vmem S8x16x256 .bf16) (harg4 : arg4.IsWhole) (arg5 : Memref sig .tc .vmem S32x1x256 .f32) (harg5 : arg5.IsWhole)
  (arg6 : Memref sig .tc .vmem S64x256x256 .fp8e4m3) (harg6 : arg6.IsWhole) (arg7 : Memref sig .tc .vmem S512x128 .f32) (harg7 : arg7.IsWhole)
  (arg8 : Memref sig .tc .vmem S32x512x256 .fp8e4m3) (harg8 : arg8.IsWhole)
  (HOK : ∀ (v : Fin 640) (q : Fin 4), Buf (Elt F) ((hpc v q).view.loc (c : Thread nD τ)) → Prop)
  (XOK : ∀ (v : Fin 640) (q : Fin 4), Buf (Elt F) ((xpc v q).view.loc (c : Thread nD τ)) → Prop)
  (ROK : ∀ h : Fin 2, Buf (Elt F) ((rpc h).view.loc (c : Thread nD τ)) → Prop)

/-- The body after its two loops. -/
def tailP : Prog (TpuEff nD τ sig (Elt F) Λ₀ .tc) PUnit := do
  if k0_h5 : k0_cond5 i = 1#1 then do
    let v28 : Memref sig .tc .hbm S32x512x256 .f32 := dRM.slice (Rect.unit (s := S64x512x256) (k0_off66 i) S32x512x256.size (k0_off66_inb i k0_h5)) (fun _ => rfl)
    Prog.lift (.enqueueDma accM (.here v28) (.dma cc0_scratch8.sem) (Memref.isWhole_whole _ : (accM).IsWhole).wordExact (View.wordExact_bits rfl) ⟨Or.inl rfl, trivial⟩)
    let v29 : Memref sig .tc .hbm S32x512x256 .f32 := dRM.slice (Rect.unit (s := S64x512x256) (k0_off66 i) S32x512x256.size (k0_off66_inb i k0_h5)) (fun _ => rfl)
    Prog.lift (.waitDma2 cc0_scratch8.sem accM v29 (Memref.isWhole_whole _ : (accM).IsWhole).wordExact (View.wordExact_bits rfl))
    pure ⟨⟩
  else do
    pure ⟨⟩
  if k0_h6 : k0_cond6 i = 1#1 then do
    k0_part15 i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 (BitVec.ofNat 32 (i 0).val) k0_h6
    k0_part16 i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 k0_h6
    k0_part17 i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 (BitVec.ofNat 32 (i 0).val) k0_h6
    k0_part18 i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 k0_h6
    let v136 : DmaSems sig S1 := cc0_scratch7.slice (Rect.unit (s := S2) ![1] S1.size inb_S2_S1_1)
    let v137 : DmaSems sig S_ := v136.squeeze S_ squeezes_S1_S_
    let v138 : Memref sig .tc .hbm S256x128 .bf16 := dxM.slice (Rect.unit (s := S5120x16384) (k0_off71 i 2#32 256#32) S256x128.size (k0_off71_inb i k0_h6 1 2)) (fun _ => rfl)
    let v139 : Memref sig .tc .vmem S1x1x256x128 .bf16 := xstM.slice (Rect.unit (s := S2x4x256x128) ![1, 2, 0, 0] S1x1x256x128.size inb_S2x4x256x128_S1x1x256x128_1_2_0_0) (fun _ => rfl)
    let v140 : Memref sig .tc .vmem S256x128 .bf16 := v139.squeeze S256x128 squeezes_S1x1x256x128_S256x128
    Prog.lift (.waitDma2 v137.sem v140 v138 (((Memref.isWhole_whole _ : (xstM).IsWhole).wordExact_slice rfl _ wordsbf16_S2x4x256x128_S1x1x256x128_1_2_0_0).reshape _ _) ((Memref.isWhole_whole _ : (dxM).IsWhole).wordExact_slice rfl _ (k0_off71_wordsbf16 i k0_h6 1 2)))
    let v141 : DmaSems sig S1 := cc0_scratch7.slice (Rect.unit (s := S2) ![1] S1.size inb_S2_S1_1)
    let v142 : DmaSems sig S_ := v141.squeeze S_ squeezes_S1_S_
    let v143 : Memref sig .tc .hbm S256x128 .bf16 := dxM.slice (Rect.unit (s := S5120x16384) (k0_off71 i 2#32 384#32) S256x128.size (k0_off71_inb i k0_h6 1 3)) (fun _ => rfl)
    let v144 : Memref sig .tc .vmem S1x1x256x128 .bf16 := xstM.slice (Rect.unit (s := S2x4x256x128) ![1, 3, 0, 0] S1x1x256x128.size inb_S2x4x256x128_S1x1x256x128_1_3_0_0) (fun _ => rfl)
    let v145 : Memref sig .tc .vmem S256x128 .bf16 := v144.squeeze S256x128 squeezes_S1x1x256x128_S256x128
    Prog.lift (.waitDma2 v142.sem v145 v143 (((Memref.isWhole_whole _ : (xstM).IsWhole).wordExact_slice rfl _ wordsbf16_S2x4x256x128_S1x1x256x128_1_3_0_0).reshape _ _) ((Memref.isWhole_whole _ : (dxM).IsWhole).wordExact_slice rfl _ (k0_off71_wordsbf16 i k0_h6 1 3)))
    pure ⟨⟩
  else do
    pure ⟨⟩
  pure ⟨⟩

/-- A half of the dr result: ahead, or done. -/
def rhalf (h : Fin 2) : Bool → sProp 𝕄
  | false => hldE c (rpc h)
  | true => iprop(∃ g, hld c (rpc h) g ∗ ⌜ROK h g⌝)

/-- The output rings drained and every piece done. -/
def outsFin : sProp 𝕄 :=
  iprop((oslot c HOK XOK 0 none ∗ oslot c HOK XOK 1 none) ∗ Ring.AtW (σ := fun _ => Fin 3) (opc c HOK XOK) (fun _ => 2))

theorem outs_640 : outs c HOK XOK 640
    = iprop((oslot c HOK XOK 0 (some 638) ∗ oslot c HOK XOK 1 (some 639))
      ∗ ((opc c HOK XOK 638 1 ∗ opc c HOK XOK 639 1) ∗ Ring.restL (opc c HOK XOK) (pst 640) [638, 639])) := by
  unfold outs
  rw [Ring.AtW_eq_list (oslot c HOK XOK) (ost 640) [0, 1] (by decide) (by decide),
    Ring.AtW_focusL (opc c HOK XOK) (pst 640) [638, 639] (by decide)]
  rfl

theorem outs_fin : iprop((oslot c HOK XOK 0 none ∗ oslot c HOK XOK 1 none)
      ∗ ((opc c HOK XOK 638 2 ∗ opc c HOK XOK 639 2) ∗ Ring.restL (opc c HOK XOK) (pst 640) [638, 639])) ⊢ outsFin c HOK XOK := by
  unfold outsFin
  refine Laws.sep_mono .rfl ?_
  refine (Ring.AtW_refocusL (opc c HOK XOK) (pst 640) (fun _ => 2) [638, 639] (by decide) ?_)
  intro v hv
  have h1 : v.val ≠ 638 := fun e => hv (List.mem_cons.mpr (Or.inl (Fin.ext e)))
  have h2 : v.val ≠ 639 := fun e => hv (List.mem_cons.mpr (Or.inr (List.mem_singleton.mpr (Fin.ext e))))
  have := v.isLt
  show 2 = pst 640 v
  unfold pst; rw [if_pos (by omega)]

theorem slot_back (s : Fin 2) (g0 g1 g2 g3 e0 e1 e2 e3) :
    iprop(cellZ c (csH s) ∗ cellZ c (csX s) ∗ hld c (hsl s 0) g0 ∗ hld c (hsl s 1) g1 ∗ hld c (hsl s 2) g2 ∗ hld c (hsl s 3) g3
      ∗ hld c (xsl s 0) e0 ∗ hld c (xsl s 1) e1 ∗ hld c (xsl s 2) e2 ∗ hld c (xsl s 3) e3) ⊢ oslot c HOK XOK s none := by
  rw [oslot_none]
  iintro ⟨HH, HX, H0, H1, H2, H3, X0, X1, X2, X3⟩
  isplitl [HH]; · iexact HH
  isplitl [HX]; · iexact HX
  isplitl [H0 H1 H2 H3]
  · isplitl [H0]; · iexists _; iexact H0
    isplitl [H1]; · iexists _; iexact H1
    isplitl [H2]; · iexists _; iexact H2
    iexists _; iexact H3
  isplitl [X0]; · iexists _; iexact X0
  isplitl [X1]; · iexists _; iexact X1
  isplitl [X2]; · iexists _; iexact X2
  iexists _; iexact X3

theorem piece_back (v : Fin 640) (a0 a1 a2 a3 b0 b1 b2 b3) (hH : HOK v 0 a0 ∧ HOK v 1 a1 ∧ HOK v 2 a2 ∧ HOK v 3 a3)
    (hX : XOK v 0 b0 ∧ XOK v 1 b1 ∧ XOK v 2 b2 ∧ XOK v 3 b3) :
    iprop(hld c (hpc v 0) a0 ∗ hld c (hpc v 1) a1 ∗ hld c (hpc v 2) a2 ∗ hld c (hpc v 3) a3
      ∗ hld c (xpc v 0) b0 ∗ hld c (xpc v 1) b1 ∗ hld c (xpc v 2) b2 ∗ hld c (xpc v 3) b3) ⊢ opc c HOK XOK v 2 := by
  rw [opc_2]
  iintro ⟨H0, H1, H2, H3, X0, X1, X2, X3⟩
  isplitl [H0 H1 H2 H3]
  · iexists a0, a1, a2, a3
    isplitl [H0 H1 H2 H3]
    · isplitl [H0]; · iexact H0
      isplitl [H1]; · iexact H1
      isplitl [H2]; · iexact H2
      iexact H3
    ipureintro; exact hH
  iexists b0, b1, b2, b3
  isplitl [X0 X1 X2 X3]
  · isplitl [X0]; · iexact X0
    isplitl [X1]; · iexact X1
    isplitl [X2]; · iexact X2
    iexact X3
  ipureintro; exact hX

theorem tail_mid (h5 : ¬ (i 1).val = 19) (fa : Buf (Elt F) (accM.view.loc (c : Thread nD τ))) (b0 b1 : Bool) :
    iprop(hld c accM fa ∗ cellZ c cc0_scratch8 ∗ rhalf c ROK 0 b0 ∗ rhalf c ROK 1 b1 ∗ (∃ W, owes (c : Thread nD τ) 0 W))
      ⊢ wp frame (wpE (defs₀ (F := F)) Variants.none (c : Thread nD τ) none) Set.univ (tailP i arg2 harg2 arg3 harg3 arg4 harg4 arg5 harg5 arg6 harg6 arg7 harg7 arg8 harg8)
        fun _ => iprop(hld c accM fa ∗ cellZ c cc0_scratch8 ∗ rhalf c ROK 0 b0 ∗ rhalf c ROK 1 b1 ∗ (∃ W, owes (c : Thread nD τ) 0 W)) := by
  have C5 : ¬ k0_cond5 i = 1#1 := fun h => h5 ((cond5_iff i).mp h)
  have C6 : ¬ k0_cond6 i = 1#1 := fun h => by have := (cond6_iff i).mp h; have := isl i; unfold stepOf at *; omega
  iintro ⟨Ha, Hc, Hr0, Hr1, ⟨%W, HW⟩⟩
  unfold tailP
  sl_exec
  sl_step
  isplitl [Ha]; · iexact Ha
  isplitl [Hc]; · iexact Hc
  isplitl [Hr0]; · iexact Hr0
  isplitl [Hr1]; · iexact Hr1
  iexists _; iexact HW

theorem tail_half (h5 : (i 1).val = 19) (h0 : (i 0).val = 0) (fa : Buf (Elt F) (accM.view.loc (c : Thread nD τ)))
    (hr : ∀ p, ROK (i 0) ((rpc (i 0)).view.writes (Elt F) p [⟨Rect.whole S32x512x256, ReadAs.same.apply (accM.view.read (Elt F) fa)⟩])) :
    iprop(hld c accM fa ∗ cellZ c cc0_scratch8 ∗ rhalf c ROK (i 0) false ∗ (∃ W, owes (c : Thread nD τ) 0 W))
      ⊢ wp frame (wpE (defs₀ (F := F)) Variants.none (c : Thread nD τ) none) Set.univ (tailP i arg2 harg2 arg3 harg3 arg4 harg4 arg5 harg5 arg6 harg6 arg7 harg7 arg8 harg8)
        fun _ => iprop(hld c accM fa ∗ cellZ c cc0_scratch8 ∗ rhalf c ROK (i 0) true ∗ (∃ W, owes (c : Thread nD τ) 0 W)) := by
  have C5 : k0_cond5 i = 1#1 := (cond5_iff i).mpr h5
  have C6 : ¬ k0_cond6 i = 1#1 := fun h => by have := (cond6_iff i).mp h; have := isl i; unfold stepOf at *; omega
  dsimp only [rhalf]
  iintro ⟨Ha, Hc, ⟨%p, Hr⟩, ⟨%W, HW⟩⟩
  unfold tailP
  sl_exec
  sl_step
  isplitl [Ha]; · iexact Ha
  isplitl [Hc]; · iexact Hc
  isplitl [Hr]
  · iexists _
    isplitl [Hr]; · iexact Hr
    ipureintro; exact hr _
  iexists _; iexact HW

theorem tail_last (h5 : (i 1).val = 19) (h0 : (i 0).val = 1) (fa : Buf (Elt F) (accM.view.loc (c : Thread nD τ)))
    (hr : ∀ p, ROK (i 0) ((rpc (i 0)).view.writes (Elt F) p [⟨Rect.whole S32x512x256, ReadAs.same.apply (accM.view.read (Elt F) fa)⟩])) :
    iprop(hld c accM fa ∗ cellZ c cc0_scratch8 ∗ rhalf c ROK (i 0) false ∗ outs c HOK XOK 640 ∗ (∃ W, owes (c : Thread nD τ) 0 W))
      ⊢ wp frame (wpE (defs₀ (F := F)) Variants.none (c : Thread nD τ) none) Set.univ (tailP i arg2 harg2 arg3 harg3 arg4 harg4 arg5 harg5 arg6 harg6 arg7 harg7 arg8 harg8)
        fun _ => iprop(hld c accM fa ∗ cellZ c cc0_scratch8 ∗ rhalf c ROK (i 0) true ∗ outsFin c HOK XOK ∗ (∃ W, owes (c : Thread nD τ) 0 W)) := by
  have C5 : k0_cond5 i = 1#1 := (cond5_iff i).mpr h5
  have C6 : k0_cond6 i = 1#1 := (cond6_iff i).mpr (by unfold stepOf; omega)
  rw [outs_640]
  dsimp only [rhalf]
  rw [oslot_some, oslot_some]
  unfold flH flX
  iintro ⟨Ha, Hc, ⟨%p, Hr⟩, ⟨⟨⟨⟨%a0, %a1, %a2, %a3, %g0, %g1, %g2, %g3, HcH, %hH⟩, ⟨%b0, %b1, %b2, %b3, %e0, %e1, %e2, %e3, HcX, %hX⟩⟩,
    ⟨⟨%a0', %a1', %a2', %a3', %g0', %g1', %g2', %g3', HcH', %hH'⟩, ⟨%b0', %b1', %b2', %b3', %e0', %e1', %e2', %e3', HcX', %hX'⟩⟩⟩, ⟨-, Hrest⟩⟩, ⟨%W, HW⟩⟩
  unfold tailP
  sl_exec
  sl_step
  isplitl [Ha]; · iexact Ha
  isplitl [Hc]; · iexact Hc
  isplitl [Hr]
  · iexists _
    isplitl [Hr]; · iexact Hr
    ipureintro; exact hr _
  isplitr [HW]
  · iapply (outs_fin c HOK XOK)
    isplitl [HcH_src0 HcX_src0 HcH_src1 HcX_src1 HcH_src2 HcX_src2 HcH_src3 HcX_src3 HcH HcX HcH'_src0 HcX'_src0 HcH'_src1 HcX'_src1 HcH'_src2 HcX'_src2 HcH'_src3 HcX'_src3 HcH' HcX']
    · isplitl [HcH_src0 HcX_src0 HcH_src1 HcX_src1 HcH_src2 HcX_src2 HcH_src3 HcX_src3 HcH HcX]
      · iapply (slot_back c HOK XOK 0)
        isplitl [HcH]; · iexact HcH
        isplitl [HcX]; · iexact HcX
        isplitl [HcH_src0]; · iexact HcH_src0
        isplitl [HcH_src1]; · iexact HcH_src1
        isplitl [HcH_src2]; · iexact HcH_src2
        isplitl [HcH_src3]; · iexact HcH_src3
        isplitl [HcX_src0]; · iexact HcX_src0
        isplitl [HcX_src1]; · iexact HcX_src1
        isplitl [HcX_src2]; · iexact HcX_src2
        iexact HcX_src3
      · iapply (slot_back c HOK XOK 1)
        isplitl [HcH']; · iexact HcH'
        isplitl [HcX']; · iexact HcX'
        isplitl [HcH'_src0]; · iexact HcH'_src0
        isplitl [HcH'_src1]; · iexact HcH'_src1
        isplitl [HcH'_src2]; · iexact HcH'_src2
        isplitl [HcH'_src3]; · iexact HcH'_src3
        isplitl [HcX'_src0]; · iexact HcX'_src0
        isplitl [HcX'_src1]; · iexact HcX'_src1
        isplitl [HcX'_src2]; · iexact HcX'_src2
        iexact HcX'_src3
    · isplitr [Hrest]
      · isplitl [HcH_dst0 HcX_dst0 HcH_dst1 HcX_dst1 HcH_dst2 HcX_dst2 HcH_dst3 HcX_dst3]
        · iapply (piece_back c HOK XOK 638 _ _ _ _ _ _ _ _ hH hX)
          isplitl [HcH_dst0]; · iexact HcH_dst0
          isplitl [HcH_dst1]; · iexact HcH_dst1
          isplitl [HcH_dst2]; · iexact HcH_dst2
          isplitl [HcH_dst3]; · iexact HcH_dst3
          isplitl [HcX_dst0]; · iexact HcX_dst0
          isplitl [HcX_dst1]; · iexact HcX_dst1
          isplitl [HcX_dst2]; · iexact HcX_dst2
          iexact HcX_dst3
        · iapply (piece_back c HOK XOK 639 _ _ _ _ _ _ _ _ hH' hX')
          isplitl [HcH'_dst0]; · iexact HcH'_dst0
          isplitl [HcH'_dst1]; · iexact HcH'_dst1
          isplitl [HcH'_dst2]; · iexact HcH'_dst2
          isplitl [HcH'_dst3]; · iexact HcH'_dst3
          isplitl [HcX'_dst0]; · iexact HcX'_dst0
          isplitl [HcX'_dst1]; · iexact HcX'_dst1
          isplitl [HcX'_dst2]; · iexact HcX'_dst2
          iexact HcX'_dst3
      · iexact Hrest
  iexists _; iexact HW

/-- The dr halves before step `t`: a half is done when its last step is. -/
def rh (t : ℕ) : sProp 𝕄 := iprop(rhalf c ROK 0 (decide (20 ≤ t)) ∗ rhalf c ROK 1 (decide (40 ≤ t)))
/-- The output rings and the pieces before step `t`, and after the last. -/
def outsAt (t : ℕ) : sProp 𝕄 := if t = 40 then outsFin c HOK XOK else outs c HOK XOK (16 * t)

theorem tail_run (fa : Buf (Elt F) (accM.view.loc (c : Thread nD τ)))
    (hr : (i 1).val = 19 → ∀ p, ROK (i 0) ((rpc (i 0)).view.writes (Elt F) p [⟨Rect.whole S32x512x256, ReadAs.same.apply (accM.view.read (Elt F) fa)⟩])) :
    iprop(hld c accM fa ∗ cellZ c cc0_scratch8 ∗ rh c ROK (stepOf i) ∗ outs c HOK XOK (16 * stepOf i + 16) ∗ (∃ W, owes (c : Thread nD τ) 0 W))
      ⊢ wp frame (wpE (defs₀ (F := F)) Variants.none (c : Thread nD τ) none) Set.univ (tailP i arg2 harg2 arg3 harg3 arg4 harg4 arg5 harg5 arg6 harg6 arg7 harg7 arg8 harg8)
        fun _ => iprop(hld c accM fa ∗ cellZ c cc0_scratch8 ∗ rh c ROK (stepOf i + 1) ∗ outsAt c HOK XOK (stepOf i + 1) ∗ (∃ W, owes (c : Thread nD τ) 0 W)) := by
  have hi := isl i
  have hs : stepOf i = 20 * (i 0).val + (i 1).val := rfl
  unfold rh outsAt
  by_cases h5 : (i 1).val = 19
  · rcases (show (i 0).val = 0 ∨ (i 0).val = 1 by omega) with h0 | h0
    · have e0 : i 0 = (0 : Fin 2) := Fin.ext h0
      have hst : stepOf i = 19 := by omega
      have T := tail_half c i arg2 harg2 arg3 harg3 arg4 harg4 arg5 harg5 arg6 harg6 arg7 harg7 arg8 harg8 ROK h5 h0 fa (hr h5)
      rw [e0] at T
      rw [hst, if_neg (by decide)]
      iintro ⟨Ha, Hc, ⟨Hr0, Hr1⟩, Ho, HW⟩
      iapply (wp_wand_r frame (wpE (defs₀ (F := F)) Variants.none (c : Thread nD τ) none) Set.univ)
      isplitr [Hr1 Ho]
      · iapply T
        isplitl [Ha]; · iexact Ha
        isplitl [Hc]; · iexact Hc
        isplitl [Hr0]; · iexact Hr0
        iexact HW
      · iintro %u ⟨Ha, Hc, Hr0, HW⟩
        isplitl [Ha]; · iexact Ha
        isplitl [Hc]; · iexact Hc
        isplitl [Hr0 Hr1]
        · isplitl [Hr0]; · iexact Hr0
          iexact Hr1
        isplitl [Ho]; · iexact Ho
        iexact HW
    · have e0 : i 0 = (1 : Fin 2) := Fin.ext h0
      have hst : stepOf i = 39 := by omega
      have T := tail_last c i arg2 harg2 arg3 harg3 arg4 harg4 arg5 harg5 arg6 harg6 arg7 harg7 arg8 harg8 HOK XOK ROK h5 h0 fa (hr h5)
      rw [e0] at T
      rw [hst, if_pos (by decide)]
      iintro ⟨Ha, Hc, ⟨Hr0, Hr1⟩, Ho, HW⟩
      iapply (wp_wand_r frame (wpE (defs₀ (F := F)) Variants.none (c : Thread nD τ) none) Set.univ)
      isplitr [Hr0]
      · iapply T
        isplitl [Ha]; · iexact Ha
        isplitl [Hc]; · iexact Hc
        isplitl [Hr1]; · iexact Hr1
        isplitl [Ho]; · iexact Ho
        iexact HW
      · iintro %u ⟨Ha, Hc, Hr1, Ho, HW⟩
        isplitl [Ha]; · iexact Ha
        isplitl [Hc]; · iexact Hc
        isplitl [Hr0 Hr1]
        · isplitl [Hr0]; · iexact Hr0
          iexact Hr1
        isplitl [Ho]; · iexact Ho
        iexact HW
  · have T := tail_mid c i arg2 harg2 arg3 harg3 arg4 harg4 arg5 harg5 arg6 harg6 arg7 harg7 arg8 harg8 ROK h5 fa (decide (20 ≤ stepOf i)) (decide (40 ≤ stepOf i))
    have d1 : decide (20 ≤ stepOf i + 1) = decide (20 ≤ stepOf i) := decide_eq_decide.mpr (by omega)
    have d2 : decide (40 ≤ stepOf i + 1) = decide (40 ≤ stepOf i) := decide_eq_decide.mpr (by omega)
    have d3 : 16 * (stepOf i + 1) = 16 * stepOf i + 16 := by omega
    rw [d1, d2, d3, if_neg (by omega)]
    iintro ⟨Ha, Hc, ⟨Hr0, Hr1⟩, Ho, HW⟩
    iapply (wp_wand_r frame (wpE (defs₀ (F := F)) Variants.none (c : Thread nD τ) none) Set.univ)
    isplitr [Ho]
    · iapply T
      isplitl [Ha]; · iexact Ha
      isplitl [Hc]; · iexact Hc
      isplitl [Hr0]; · iexact Hr0
      isplitl [Hr1]; · iexact Hr1
      iexact HW
    · iintro %u ⟨Ha, Hc, Hr0, Hr1, HW⟩
      isplitl [Ha]; · iexact Ha
      isplitl [Hc]; · iexact Hc
      isplitl [Hr0 Hr1]
      · isplitl [Hr0]; · iexact Hr0
        iexact Hr1
      isplitl [Ho]; · iexact Ho
      iexact HW
end

end Cert.Kernel.Hand
-- ==== Proof.K.Loop1.lean ====
module

public import proofs.«01_k».proof.Proof.K.Loop2

/-! One trip of the dh half's loop: a copy issued three chunks ahead, the chunk's own copy waited for, the inner loop. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section
variable (c : Dev nD) (XA : Buf (Elt F) (dyM.view.loc (c : Thread nD τ)))

theorem dslot_none (s : Fin 4) : dslot c XA s none = iprop(cellZ c (csD s) ∗ hldE c (dsl s) ∗ dtok c XA s Finset.univ) := rfl
theorem dslot_some (s : Fin 4) (j : ℕ) : dslot c XA s (some j)
    = iprop((∃ f, Transfers.Flight (countersEmb (U := Pipeline.UD sig nD τ)) (c : Thread nD τ) (SemLoc.dma (csD s).sem) () 16384
        iprop(hld c (dsl s) (dland c XA s j f) ∗ dtok c XA s (dbk (Ring.sl 160 j)).view.set))
      ∗ dtok c XA s (Finset.univ \ (dbk (Ring.sl 160 j)).view.set)) := rfl

/-- The ring before chunk `n`, three copies ahead as far as there are chunks. -/
def dringN (n : ℕ) : sProp 𝕄 := dring c XA n (min (n + 3) 320)

theorem sl4_ne (n : ℕ) : Ring.sl 4 (n + 3) ≠ Ring.sl 4 n := fun h => by
  have := congrArg Fin.val h
  rw [Ring.sl_val, Ring.sl_val] at this
  omega

theorem sl4_nodup (n : ℕ) : [Ring.sl 4 (n + 3), Ring.sl 4 n].Nodup := by
  rw [List.nodup_cons]; exact ⟨fun h => sl4_ne n (List.mem_singleton.mp h), List.nodup_singleton _⟩

/-- The ring opened where a copy is to be issued: the slot three ahead free, the current slot's copy in flight. -/
theorem dring_open (n : ℕ) (h : n + 3 < 320) :
    dringN c XA n = iprop((dslot c XA (Ring.sl 4 (n + 3)) none ∗ dslot c XA (Ring.sl 4 n) (some n))
      ∗ Ring.restL (dslot c XA) (dst n (n + 3)) [Ring.sl 4 (n + 3), Ring.sl 4 n]) := by
  have e : min (n + 3) 320 = n + 3 := by omega
  unfold dringN; rw [e]
  refine (Ring.AtW_focusL (dslot c XA) (dst n (n + 3)) _ (sl4_nodup n)).trans ?_
  show iprop((dslot c XA (Ring.sl 4 (n + 3)) (dst n (n + 3) (Ring.sl 4 (n + 3))) ∗ dslot c XA (Ring.sl 4 n) (dst n (n + 3) (Ring.sl 4 n))) ∗ _) = _
  rw [dst_at n (n + 3) (n + 3) (by omega) (by omega), if_neg (by omega), dst_at n (n + 3) n (by omega) (by omega), if_pos (by omega)]
/-- The ring closed again one chunk on. -/
theorem dring_close (n : ℕ) (h : n + 3 < 320) :
    iprop((dslot c XA (Ring.sl 4 (n + 3)) (some (n + 3)) ∗ dslot c XA (Ring.sl 4 n) none)
      ∗ Ring.restL (dslot c XA) (dst n (n + 3)) [Ring.sl 4 (n + 3), Ring.sl 4 n]) ⊢ dringN c XA (n + 1) := by
  have e : min (n + 1 + 3) 320 = n + 3 + 1 := by omega
  unfold dringN; rw [e]
  refine .trans ?_ (Ring.AtW_refocusL (dslot c XA) (dst n (n + 3)) (dst (n + 1) (n + 3 + 1)) [Ring.sl 4 (n + 3), Ring.sl 4 n] (sl4_nodup n) ?_)
  · refine Laws.sep_mono (Entails.of_eq ?_) .rfl
    have e1 : dst (n + 1) (n + 3 + 1) (Ring.sl 4 (n + 3)) = some (n + 3) := by
      rw [dst_at (n + 1) (n + 3 + 1) (n + 3) (by omega) (by omega), if_pos (by omega)]
    have e2 : dst (n + 1) (n + 3 + 1) (Ring.sl 4 n) = none := dst_wait_self n (n + 3 + 1) (by omega)
    show _ = iprop(dslot c XA (Ring.sl 4 (n + 3)) (dst (n + 1) (n + 3 + 1) (Ring.sl 4 (n + 3))) ∗ dslot c XA (Ring.sl 4 n) (dst (n + 1) (n + 3 + 1) (Ring.sl 4 n)))
    rw [e1, e2]
  · intro s hs
    simp only [List.mem_cons, List.not_mem_nil, _root_.or_false, not_or, not_false_eq_true, and_true] at hs
    rw [dst_wait n (n + 3 + 1) (by omega) s hs.2, dst_issue n (n + 3) (by omega) s hs.1]

/-- The ring opened where nothing is left to issue. -/
theorem dring_openL (n : ℕ) (h : ¬ n + 3 < 320) (hn : n < 320) :
    dringN c XA n = iprop(dslot c XA (Ring.sl 4 n) (some n) ∗ Ring.restL (dslot c XA) (dst n 320) [Ring.sl 4 n]) := by
  have e : min (n + 3) 320 = 320 := by omega
  unfold dringN; rw [e]
  refine (Ring.AtW_focusL (dslot c XA) (dst n 320) [Ring.sl 4 n] (by simp)).trans ?_
  show iprop(dslot c XA (Ring.sl 4 n) (dst n 320 (Ring.sl 4 n)) ∗ _) = _
  rw [dst_at n 320 n (by omega) (by omega), if_pos hn]
theorem dring_closeL (n : ℕ) (h : ¬ n + 3 < 320) (hn : n < 320) :
    iprop(dslot c XA (Ring.sl 4 n) none ∗ Ring.restL (dslot c XA) (dst n 320) [Ring.sl 4 n]) ⊢ dringN c XA (n + 1) := by
  have e : min (n + 1 + 3) 320 = 320 := by omega
  unfold dringN; rw [e]
  refine .trans ?_ (Ring.AtW_refocusL (dslot c XA) (dst n 320) (dst (n + 1) 320) [Ring.sl 4 n] (by simp) ?_)
  · refine Laws.sep_mono (Entails.of_eq ?_) .rfl
    have e2 : dst (n + 1) 320 (Ring.sl 4 n) = none := dst_wait_self n 320 (by omega)
    show _ = dslot c XA (Ring.sl 4 n) (dst (n + 1) 320 (Ring.sl 4 n))
    rw [e2]
  · intro s hs
    simp only [List.mem_cons, List.not_mem_nil, _root_.or_false] at hs
    exact dst_wait n 320 (by omega) s hs
end

section
variable (c : Dev nD) (XA : Buf (Elt F) (dyM.view.loc (c : Thread nD τ))) (i : grid0.Coords)
  (arg2 : Memref sig .tc .smem S64 .f32) (harg2 : arg2.IsWhole) (arg3 : Memref sig .tc .vmem S256x8192 .fp8e4m3) (harg3 : arg3.IsWhole)
  (arg4 : Memref sig .tc .vmem S8x16x256 .bf16) (harg4 : arg4.IsWhole) (arg5 : Memref sig .tc .vmem S32x1x256 .f32) (harg5 : arg5.IsWhole)
  (arg6 : Memref sig .tc .vmem S64x256x256 .fp8e4m3) (harg6 : arg6.IsWhole) (arg7 : Memref sig .tc .vmem S512x128 .f32) (harg7 : arg7.IsWhole)
  (arg8 : Memref sig .tc .vmem S32x512x256 .fp8e4m3) (harg8 : arg8.IsWhole)
  (f4 : Buf (Elt F) (arg4.view.loc (c : Thread nD τ))) (f6 : Buf (Elt F) (arg6.view.loc (c : Thread nD τ)))
  (f7 : Buf (Elt F) (arg7.view.loc (c : Thread nD τ)))

abbrev trip1 (w1 : BitVec 32) (k1 : Fin k0_t1_loop.trips) : Prog (TpuEff nD τ sig (Elt F) Λ₀ .tc) Unit :=
  k0_t1_body (F := F) i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 w1 k1 ()

/-- The transposed dh buffer after a chunk, from `fo`. -/
def dhtChunk (k1 : Fin k0_t1_loop.trips) (fo : Buf (Elt F) (dhtM.view.loc (c : Thread nD τ))) : Buf (Elt F) (dhtM.view.loc (c : Thread nD τ)) :=
  dhtIter c i arg4 arg6 arg7 f4 f6 f7 k1 (dland c XA (Ring.sl 4 (cnt i k1)) (cnt i k1) (dsl (Ring.sl 4 (cnt i k1))).view.junk) fo k0_t2_loop.trips

theorem trip1_run (w1 : BitVec 32) (k1 : Fin k0_t1_loop.trips) (fo : Buf (Elt F) (dhtM.view.loc (c : Thread nD τ))) :
    iprop(dringN c XA (cnt i k1) ∗ hld c arg4 f4 ∗ hld c arg6 f6 ∗ hld c arg7 f7 ∗ hld c dhtM fo ∗ (∃ W, owes (c : Thread nD τ) 0 W))
      ⊢ wp frame (wpE (defs₀ (F := F)) Variants.none (c : Thread nD τ) none) Set.univ (trip1 i arg2 harg2 arg3 harg3 arg4 harg4 arg5 harg5 arg6 harg6 arg7 harg7 arg8 harg8 w1 k1)
        fun _ => iprop(dringN c XA (cnt i k1 + 1) ∗ hld c arg4 f4 ∗ hld c arg6 f6 ∗ hld c arg7 f7
          ∗ hld c dhtM (dhtChunk c XA i arg4 arg6 arg7 f4 f6 f7 k1 fo) ∗ (∃ W, owes (c : Thread nD τ) 0 W)) := by
  have hk1 : k1.val < 8 := k1l k1
  rcases Classical.em (k0_cond3 i k1 = 1#1) with hc | hc
  · have hn := (cond3_iff i k1).mp hc
    rw [dring_open c XA _ hn]
    rw [dslot_none, dslot_some]
    iintro ⟨⟨⟨⟨Hz, ⟨%fz, Hs⟩, Ht⟩, ⟨⟨%ff, HF⟩, Hx⟩⟩, Hrest⟩, H4, H6, H7, Ho, ⟨%W, HW⟩⟩
    dsimp only [trip1]
    sl_unfold [k0_t1_body]
    sl_exec
    sl_step
    isplitl [Hrest Hz Ht Hx HF HF_dst]
    · iapply (dring_close c XA _ hn)
      isplitr [Hrest]
      · rw [dslot_none, dslot_some]
        isplitl [Hz Ht]
        · isplitl [Hz]
          · iexists fz; iexact Hz
          · iexact Ht
        · isplitl [HF]; · iexact HF
          isplitl [HF_dst]
          · iexists _; iexact HF_dst
          · iexact Hx
      · iexact Hrest
    isplitl [H4]; · iexact H4
    isplitl [H6]; · iexact H6
    isplitl [H7]; · iexact H7
    isplitl [Ho]; · iexact Ho
    iexists _; iexact HW
  · have hn : ¬ cnt i k1 + 3 < 320 := fun h => hc ((cond3_iff i k1).mpr h)
    have hn' : cnt i k1 < 320 := by have := isl i; show 8 * (20 * (i 0).val + (i 1).val) + k1.val < 320; omega
    rw [dring_openL c XA _ hn hn', dslot_some]
    iintro ⟨⟨⟨⟨%ff, HF⟩, Hx⟩, Hrest⟩, H4, H6, H7, Ho, ⟨%W, HW⟩⟩
    dsimp only [trip1]
    sl_unfold [k0_t1_body]
    sl_exec
    sl_step
    isplitl [Hrest Hx HF HF_dst]
    · iapply (dring_closeL c XA _ hn hn')
      isplitr [Hrest]
      · rw [dslot_none]
        isplitl [HF]; · iexact HF
        isplitl [HF_dst]
        · iexists _; iexact HF_dst
        · iexact Hx
      · iexact Hrest
    isplitl [H4]; · iexact H4
    isplitl [H6]; · iexact H6
    isplitl [H7]; · iexact H7
    isplitl [Ho]; · iexact Ho
    iexists _; iexact HW

end

end Cert.Kernel.Hand
-- ==== Proof.K.Loop1b.lean ====
module

public import proofs.«01_k».proof.Proof.K.Loop1

/-! The dh half's loop, whole. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section
variable (c : Dev nD) (XA : Buf (Elt F) (dyM.view.loc (c : Thread nD τ))) (i : grid0.Coords)
  (arg2 : Memref sig .tc .smem S64 .f32) (harg2 : arg2.IsWhole) (arg3 : Memref sig .tc .vmem S256x8192 .fp8e4m3) (harg3 : arg3.IsWhole)
  (arg4 : Memref sig .tc .vmem S8x16x256 .bf16) (harg4 : arg4.IsWhole) (arg5 : Memref sig .tc .vmem S32x1x256 .f32) (harg5 : arg5.IsWhole)
  (arg6 : Memref sig .tc .vmem S64x256x256 .fp8e4m3) (harg6 : arg6.IsWhole) (arg7 : Memref sig .tc .vmem S512x128 .f32) (harg7 : arg7.IsWhole)
  (arg8 : Memref sig .tc .vmem S32x512x256 .fp8e4m3) (harg8 : arg8.IsWhole)
  (f4 : Buf (Elt F) (arg4.view.loc (c : Thread nD τ))) (f6 : Buf (Elt F) (arg6.view.loc (c : Thread nD τ)))
  (f7 : Buf (Elt F) (arg7.view.loc (c : Thread nD τ)))

/-- The transposed dh buffer through the first `n` chunks of a step, from `fo`. -/
def dhtIter1 (fo : Buf (Elt F) (dhtM.view.loc (c : Thread nD τ))) (n : ℕ) : Buf (Elt F) (dhtM.view.loc (c : Thread nD τ)) :=
  iterFin k0_t1_loop.trips (fun k1 => dhtChunk c XA i arg4 arg6 arg7 f4 f6 f7 k1) fo n

/-- What the chunk loop holds before trip `n`. -/
def inv1 (fo : Buf (Elt F) (dhtM.view.loc (c : Thread nD τ))) (n : ℕ) (_ : Unit) : sProp 𝕄 :=
  iprop(dringN c XA (8 * stepOf i + n) ∗ hld c arg4 f4 ∗ hld c arg6 f6 ∗ hld c arg7 f7
    ∗ hld c dhtM (dhtIter1 c XA i arg4 arg6 arg7 f4 f6 f7 fo n) ∗ (∃ W, owes (c : Thread nD τ) 0 W))

attribute [local irreducible] k0_t1_body

theorem step1 (w1 : BitVec 32) (fo : Buf (Elt F) (dhtM.view.loc (c : Thread nD τ))) (k : Fin k0_t1_loop.trips) :
    inv1 c XA i arg4 arg6 arg7 f4 f6 f7 fo k.val () ⊢ wp frame (wpE (defs₀ (F := F)) Variants.none (c : Thread nD τ) none) Set.univ (trip1 i arg2 harg2 arg3 harg3 arg4 harg4 arg5 harg5 arg6 harg6 arg7 harg7 arg8 harg8 w1 k)
      fun u => inv1 c XA i arg4 arg6 arg7 f4 f6 f7 fo (k.val + 1) u := by
  unfold inv1
  have e : dhtIter1 c XA i arg4 arg6 arg7 f4 f6 f7 fo (k.val + 1)
      = dhtChunk c XA i arg4 arg6 arg7 f4 f6 f7 k (dhtIter1 c XA i arg4 arg6 arg7 f4 f6 f7 fo k.val) := by
    unfold dhtIter1; exact iterFin_succ _ _ _ k
  have e2 : 8 * stepOf i + (k.val + 1) = cnt i k + 1 := by unfold cnt; omega
  have e3 : 8 * stepOf i + k.val = cnt i k := by unfold cnt; omega
  rw [e, e2, e3]
  have h := trip1_run c XA i arg2 harg2 arg3 harg3 arg4 harg4 arg5 harg5 arg6 harg6 arg7 harg7 arg8 harg8 f4 f6 f7 w1 k (dhtIter1 c XA i arg4 arg6 arg7 f4 f6 f7 fo k.val)
  exact h

set_option warn.classDefReducibility false in
/-- The chunk loop's invariant. -/
@[sl_loop] def loopInv1 (w1 : BitVec 32) (fo : Buf (Elt F) (dhtM.view.loc (c : Thread nD τ))) :
    LoopInvTy_k0_t1 (F := F) Unit ℕ (Pipeline.UD sig nD τ) ℕ Variants.none c none Set.univ i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8 w1 where
  inv n u := inv1 c XA i arg4 arg6 arg7 f4 f6 f7 fo n u
  step k u := by
    cases u
    exact step1 c XA i arg2 harg2 arg3 harg3 arg4 harg4 arg5 harg5 arg6 harg6 arg7 harg7 arg8 harg8 f4 f6 f7 w1 fo k
end

end Cert.Kernel.Hand
-- ==== Proof.K.Body.lean ====
module

public import proofs.«01_k».proof.Proof.K.Tail
public import proofs.«01_k».proof.Proof.K.Loop1b

/-! The body at one grid point, by the point's case. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- The step's number as the program computes it, tested for zero. -/
abbrev c1 (i : grid0.Coords) : BitVec 1 :=
  Scalar.cmpi .ne (Scalar.extui (Scalar.cmpi .eq (Scalar.addi (Scalar.muli (BitVec.ofNat 32 (i 0).val) 20#32) (BitVec.ofNat 32 (i 1).val)) 0#32)) 0#32
abbrev c2 (i : grid0.Coords) : BitVec 1 :=
  Scalar.cmpi .ne (Scalar.extui (Scalar.cmpi .eq (BitVec.ofNat 32 (i 1).val) 0#32)) 0#32
theorem c1_iff : ∀ i : grid0.Coords, c1 i = 1#1 ↔ stepOf i = 0 := by decide +kernel
theorem c2_iff : ∀ i : grid0.Coords, c2 i = 1#1 ↔ (i 1).val = 0 := by decide +kernel

section
variable (c : Dev nD) (XA : Buf (Elt F) (dyM.view.loc (c : Thread nD τ)))

/-- The ring all free, by its four slots. -/
theorem dring_zero : dring c XA 0 0 = iprop(dslot c XA 0 none ∗ dslot c XA 1 none ∗ dslot c XA 2 none ∗ dslot c XA 3 none) := by
  exact (Ring.AtW_eq_list (dslot c XA) (dst 0 0) [0, 1, 2, 3] (by decide) (by decide)).trans rfl
/-- The ring after the prologue, by its four slots. -/
theorem dring_three : dring c XA 0 3 = iprop(dslot c XA 0 (some 0) ∗ dslot c XA 1 (some 1) ∗ dslot c XA 2 (some 2) ∗ dslot c XA 3 none) := by
  exact (Ring.AtW_eq_list (dslot c XA) (dst 0 3) [0, 1, 2, 3] (by decide) (by decide)).trans rfl

variable (i : grid0.Coords)
  (arg2 : Memref sig .tc .smem S64 .f32) (harg2 : arg2.IsWhole) (arg3 : Memref sig .tc .vmem S256x8192 .fp8e4m3) (harg3 : arg3.IsWhole)
  (arg4 : Memref sig .tc .vmem S8x16x256 .bf16) (harg4 : arg4.IsWhole) (arg5 : Memref sig .tc .vmem S32x1x256 .f32) (harg5 : arg5.IsWhole)
  (arg6 : Memref sig .tc .vmem S64x256x256 .fp8e4m3) (harg6 : arg6.IsWhole) (arg7 : Memref sig .tc .vmem S512x128 .f32) (harg7 : arg7.IsWhole)
  (arg8 : Memref sig .tc .vmem S32x512x256 .fp8e4m3) (harg8 : arg8.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))
  (f8 : Buf (Elt F) (arg8.view.loc (c : Thread nD τ)))
  (HOK : ∀ (v : Fin 640) (q : Fin 4), Buf (Elt F) ((hpc v q).view.loc (c : Thread nD τ)) → Prop)
  (XOK : ∀ (v : Fin 640) (q : Fin 4), Buf (Elt F) ((xpc v q).view.loc (c : Thread nD τ)) → Prop)
  (ROK : ∀ h : Fin 2, Buf (Elt F) ((rpc h).view.loc (c : Thread nD τ)) → Prop)

abbrev bodyP : Prog (TpuEff nD τ sig (Elt F) Λ₀ .tc) PUnit :=
  cc0_monarch_dx (F := F) i arg2 harg2 arg3 harg3 arg4 harg4 arg5 harg5 arg6 harg6 arg7 harg7 arg8 harg8 dyM (Memref.isWhole_whole _) dxM (Memref.isWhole_whole _) dhM (Memref.isWhole_whole _) dRM (Memref.isWhole_whole _) ringM (Memref.isWhole_whole _) dhtM (Memref.isWhole_whole _) accM (Memref.isWhole_whole _) hstM (Memref.isWhole_whole _) xstM (Memref.isWhole_whole _) cc0_scratch5 cc0_scratch6 cc0_scratch7 cc0_scratch8

/-- The operands, read only. -/
def reads : sProp 𝕄 := iprop(hld c arg2 f2 ∗ hld c arg3 f3 ∗ hld c arg4 f4 ∗ hld c arg5 f5 ∗ hld c arg6 f6 ∗ hld c arg7 f7 ∗ hld c arg8 f8)

/-- The accumulator zeroed. -/
def accZ : Buf (Elt F) (accM.view.loc (c : Thread nD τ)) :=
  accM.view.writes (Elt F) accM.view.junk [⟨Rect.unit (s := S32x512x256) ![0, 0, 0] S32x512x256.size inb_S32x512x256_S32x512x256_0_0_0, k0_pay2⟩]

attribute [local irreducible] k0_t3_body k0_t1_body

/-- A grid point that starts no half. -/
theorem body_mid (h1 : ¬ (i 1).val = 0) (fo : Buf (Elt F) (dhtM.view.loc (c : Thread nD τ))) (fa : Buf (Elt F) (accM.view.loc (c : Thread nD τ)))
    (hok : ∀ k, TripOK c i arg2 arg8 f2 f8 k (dhtIter1 c XA i arg4 arg6 arg7 f4 f6 f7 fo k0_t1_loop.trips) HOK XOK)
    (hr : (i 1).val = 19 → ∀ p, ROK (i 0) ((rpc (i 0)).view.writes (Elt F) p [⟨Rect.whole S32x512x256, ReadAs.same.apply (accM.view.read (Elt F) (accIter c arg3 arg5 f3 f5 (dhtIter1 c XA i arg4 arg6 arg7 f4 f6 f7 fo k0_t1_loop.trips) (fa) k0_t3_loop.trips))⟩])) :
    iprop(reads c arg2 arg3 arg4 arg5 arg6 arg7 arg8 f2 f3 f4 f5 f6 f7 f8 ∗ dringN c XA (8 * stepOf i + 0) ∗ hld c dhtM fo ∗ hld c accM fa ∗ cellZ c cc0_scratch8 ∗ rh c ROK (stepOf i) ∗ outs c HOK XOK (16 * stepOf i + 0) ∗ (∃ W, owes (c : Thread nD τ) 0 W))
      ⊢ wp frame (wpE (defs₀ (F := F)) Variants.none (c : Thread nD τ) none) Set.univ (bodyP i arg2 harg2 arg3 harg3 arg4 harg4 arg5 harg5 arg6 harg6 arg7 harg7 arg8 harg8)
        fun _ => iprop(reads c arg2 arg3 arg4 arg5 arg6 arg7 arg8 f2 f3 f4 f5 f6 f7 f8
          ∗ dringN c XA (8 * stepOf i + 8) ∗ hld c dhtM (dhtIter1 c XA i arg4 arg6 arg7 f4 f6 f7 fo k0_t1_loop.trips)
          ∗ hld c accM (accIter c arg3 arg5 f3 f5 (dhtIter1 c XA i arg4 arg6 arg7 f4 f6 f7 fo k0_t1_loop.trips) (fa) k0_t3_loop.trips) ∗ cellZ c cc0_scratch8 ∗ rh c ROK (stepOf i + 1) ∗ outsAt c HOK XOK (stepOf i + 1) ∗ (∃ W, owes (c : Thread nD τ) 0 W)) := by
  have C1 : ¬ c1 i = 1#1 := fun h => by have := (c1_iff i).mp h; unfold stepOf at this; omega
  have C2 : ¬ c2 i = 1#1 := fun h => h1 ((c2_iff i).mp h)
  dsimp only [c1] at C1
  dsimp only [c2] at C2
  unfold reads dringN outs
  iintro ⟨⟨H2, H3, H4, H5, H6, H7, H8⟩, Hr, Hd, Ha, Hc, Hrh, ⟨Ho, Hp⟩, ⟨%W, HW⟩⟩
  dsimp only [bodyP]
  simp only [cc0_monarch_dx_eq_skeleton]; unfold cc0_monarch_dx_skel
  sl_exec
  dsimp only [loopInv1, loopInv3]
  iapply (wp_wand_r frame (wpE (defs₀ (F := F)) Variants.none (c : Thread nD τ) none) Set.univ)
  isplitl [Ha Hc Hrh Ho Hp HW]
  · iapply (tail_run c i arg2 harg2 arg3 harg3 arg4 harg4 arg5 harg5 arg6 harg6 arg7 harg7 arg8 harg8 HOK XOK ROK (accIter c arg3 arg5 f3 f5 (dhtIter1 c XA i arg4 arg6 arg7 f4 f6 f7 fo k0_t1_loop.trips) (fa) k0_t3_loop.trips) hr)
    isplitl [Ha]; · iexact Ha
    isplitl [Hc]; · iexact Hc
    isplitl [Hrh]; · iexact Hrh
    isplitl [Ho Hp]
    · unfold outs
      isplitl [Ho]; · iexact Ho
      iexact Hp
    iexists _; iexact HW
  iintro %u ⟨Ha, Hc, Hrh, Ho, HW⟩
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  isplitl [Hr]; · iexact Hr
  isplitl [Hd]; · iexact Hd
  isplitl [Ha]; · iexact Ha
  isplitl [Hc]; · iexact Hc
  isplitl [Hrh]; · iexact Hrh
  isplitl [Ho]; · iexact Ho
  iexact HW

/-- The first grid point of a half, but for the first of all. -/
theorem body_half (h1 : (i 1).val = 0) (h0 : ¬ stepOf i = 0) (fo : Buf (Elt F) (dhtM.view.loc (c : Thread nD τ))) (fa : Buf (Elt F) (accM.view.loc (c : Thread nD τ)))
    (hok : ∀ k, TripOK c i arg2 arg8 f2 f8 k (dhtIter1 c XA i arg4 arg6 arg7 f4 f6 f7 fo k0_t1_loop.trips) HOK XOK)
    (hr : (i 1).val = 19 → ∀ p, ROK (i 0) ((rpc (i 0)).view.writes (Elt F) p [⟨Rect.whole S32x512x256, ReadAs.same.apply (accM.view.read (Elt F) (accIter c arg3 arg5 f3 f5 (dhtIter1 c XA i arg4 arg6 arg7 f4 f6 f7 fo k0_t1_loop.trips) (accZ c) k0_t3_loop.trips))⟩])) :
    iprop(reads c arg2 arg3 arg4 arg5 arg6 arg7 arg8 f2 f3 f4 f5 f6 f7 f8 ∗ dringN c XA (8 * stepOf i + 0) ∗ hld c dhtM fo ∗ hld c accM fa ∗ cellZ c cc0_scratch8 ∗ rh c ROK (stepOf i) ∗ outs c HOK XOK (16 * stepOf i + 0) ∗ (∃ W, owes (c : Thread nD τ) 0 W))
      ⊢ wp frame (wpE (defs₀ (F := F)) Variants.none (c : Thread nD τ) none) Set.univ (bodyP i arg2 harg2 arg3 harg3 arg4 harg4 arg5 harg5 arg6 harg6 arg7 harg7 arg8 harg8)
        fun _ => iprop(reads c arg2 arg3 arg4 arg5 arg6 arg7 arg8 f2 f3 f4 f5 f6 f7 f8
          ∗ dringN c XA (8 * stepOf i + 8) ∗ hld c dhtM (dhtIter1 c XA i arg4 arg6 arg7 f4 f6 f7 fo k0_t1_loop.trips)
          ∗ hld c accM (accIter c arg3 arg5 f3 f5 (dhtIter1 c XA i arg4 arg6 arg7 f4 f6 f7 fo k0_t1_loop.trips) (accZ c) k0_t3_loop.trips) ∗ cellZ c cc0_scratch8 ∗ rh c ROK (stepOf i + 1) ∗ outsAt c HOK XOK (stepOf i + 1) ∗ (∃ W, owes (c : Thread nD τ) 0 W)) := by
  have C1 : ¬ c1 i = 1#1 := fun h => h0 ((c1_iff i).mp h)
  have C2 : c2 i = 1#1 := (c2_iff i).mpr h1
  obtain ⟨fz, hz⟩ : ∃ fz, accZ (F := F) c = fz := ⟨accZ (F := F) c, rfl⟩
  rw [hz] at hr ⊢
  dsimp only [c1] at C1
  dsimp only [c2] at C2
  unfold reads outs
  iintro ⟨⟨H2, H3, H4, H5, H6, H7, H8⟩, Hr, Hd, Ha, Hc, Hrh, ⟨Ho, Hp⟩, ⟨%W, HW⟩⟩
  dsimp only [bodyP]
  simp only [cc0_monarch_dx_eq_skeleton]; unfold cc0_monarch_dx_skel
  sl_exec
  ihave Ha : hld c accM fz $$ [Ha]
  · rw [← hz]; iexact Ha
  unfold dringN
  sl_exec
  dsimp only [loopInv1, loopInv3]
  iapply (wp_wand_r frame (wpE (defs₀ (F := F)) Variants.none (c : Thread nD τ) none) Set.univ)
  isplitl [Ha Hc Hrh Ho Hp HW]
  · iapply (tail_run c i arg2 harg2 arg3 harg3 arg4 harg4 arg5 harg5 arg6 harg6 arg7 harg7 arg8 harg8 HOK XOK ROK (accIter c arg3 arg5 f3 f5 (dhtIter1 c XA i arg4 arg6 arg7 f4 f6 f7 fo k0_t1_loop.trips) (fz) k0_t3_loop.trips) hr)
    isplitl [Ha]; · iexact Ha
    isplitl [Hc]; · iexact Hc
    isplitl [Hrh]; · iexact Hrh
    isplitl [Ho Hp]
    · unfold outs
      isplitl [Ho]; · iexact Ho
      iexact Hp
    iexists _; iexact HW
  iintro %u ⟨Ha, Hc, Hrh, Ho, HW⟩
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  isplitl [Hr]; · iexact Hr
  isplitl [Hd]; · iexact Hd
  isplitl [Ha]; · iexact Ha
  isplitl [Hc]; · iexact Hc
  isplitl [Hrh]; · iexact Hrh
  isplitl [Ho]; · iexact Ho
  iexact HW

/-- The first grid point. -/
theorem body_first (h1 : (i 1).val = 0) (h0 : stepOf i = 0) (fo : Buf (Elt F) (dhtM.view.loc (c : Thread nD τ))) (fa : Buf (Elt F) (accM.view.loc (c : Thread nD τ)))
    (hok : ∀ k, TripOK c i arg2 arg8 f2 f8 k (dhtIter1 c XA i arg4 arg6 arg7 f4 f6 f7 fo k0_t1_loop.trips) HOK XOK)
    (hr : (i 1).val = 19 → ∀ p, ROK (i 0) ((rpc (i 0)).view.writes (Elt F) p [⟨Rect.whole S32x512x256, ReadAs.same.apply (accM.view.read (Elt F) (accIter c arg3 arg5 f3 f5 (dhtIter1 c XA i arg4 arg6 arg7 f4 f6 f7 fo k0_t1_loop.trips) (accZ c) k0_t3_loop.trips))⟩])) :
    iprop(reads c arg2 arg3 arg4 arg5 arg6 arg7 arg8 f2 f3 f4 f5 f6 f7 f8 ∗ dring c XA 0 0 ∗ hld c dhtM fo ∗ hld c accM fa ∗ cellZ c cc0_scratch8 ∗ rh c ROK (stepOf i) ∗ outs c HOK XOK (16 * stepOf i + 0) ∗ (∃ W, owes (c : Thread nD τ) 0 W))
      ⊢ wp frame (wpE (defs₀ (F := F)) Variants.none (c : Thread nD τ) none) Set.univ (bodyP i arg2 harg2 arg3 harg3 arg4 harg4 arg5 harg5 arg6 harg6 arg7 harg7 arg8 harg8)
        fun _ => iprop(reads c arg2 arg3 arg4 arg5 arg6 arg7 arg8 f2 f3 f4 f5 f6 f7 f8
          ∗ dringN c XA (8 * stepOf i + 8) ∗ hld c dhtM (dhtIter1 c XA i arg4 arg6 arg7 f4 f6 f7 fo k0_t1_loop.trips)
          ∗ hld c accM (accIter c arg3 arg5 f3 f5 (dhtIter1 c XA i arg4 arg6 arg7 f4 f6 f7 fo k0_t1_loop.trips) (accZ c) k0_t3_loop.trips) ∗ cellZ c cc0_scratch8 ∗ rh c ROK (stepOf i + 1) ∗ outsAt c HOK XOK (stepOf i + 1) ∗ (∃ W, owes (c : Thread nD τ) 0 W)) := by
  have C1 : c1 i = 1#1 := (c1_iff i).mpr h0
  have C2 : c2 i = 1#1 := (c2_iff i).mpr h1
  obtain ⟨fz, hz⟩ : ∃ fz, accZ (F := F) c = fz := ⟨accZ (F := F) c, rfl⟩
  rw [hz] at hr ⊢
  dsimp only [c1] at C1
  dsimp only [c2] at C2
  rw [dring_zero, dslot_none, dslot_none, dslot_none]
  unfold reads outs
  iintro ⟨⟨H2, H3, H4, H5, H6, H7, H8⟩, ⟨⟨Hz0, ⟨%z0, Hs0⟩, Ht0⟩, ⟨Hz1, ⟨%z1, Hs1⟩, Ht1⟩, ⟨Hz2, ⟨%z2, Hs2⟩, Ht2⟩, Hl⟩, Hd, Ha, Hc, Hrh, ⟨Ho, Hp⟩, ⟨%W, HW⟩⟩
  dsimp only [bodyP]
  simp only [cc0_monarch_dx_eq_skeleton]; unfold cc0_monarch_dx_skel
  sl_exec
  have hring : dring c XA (8 * stepOf i + 0) (min (8 * stepOf i + 0 + 3) 320) = dring c XA 0 3 := by rw [h0]; rfl
  ihave Hr : dring c XA (8 * stepOf i + 0) (min (8 * stepOf i + 0 + 3) 320) $$ [Hz0 Ht0 Hz1 Ht1 Hz2 Ht2 Hl]
  · rw [hring, dring_three, dslot_some, dslot_some, dslot_some]
    isplitl [Hz0 Ht0]
    · isplitl [Hz0]; · iexists z0; iexact Hz0
      iexact Ht0
    isplitl [Hz1 Ht1]
    · isplitl [Hz1]; · iexists z1; iexact Hz1
      iexact Ht1
    isplitl [Hz2 Ht2]
    · isplitl [Hz2]; · iexists z2; iexact Hz2
      iexact Ht2
    iexact Hl
  ihave Ha : hld c accM fz $$ [Ha]
  · rw [← hz]; iexact Ha
  unfold dringN
  sl_exec
  dsimp only [loopInv1, loopInv3]
  iapply (wp_wand_r frame (wpE (defs₀ (F := F)) Variants.none (c : Thread nD τ) none) Set.univ)
  isplitl [Ha Hc Hrh Ho Hp HW]
  · iapply (tail_run c i arg2 harg2 arg3 harg3 arg4 harg4 arg5 harg5 arg6 harg6 arg7 harg7 arg8 harg8 HOK XOK ROK (accIter c arg3 arg5 f3 f5 (dhtIter1 c XA i arg4 arg6 arg7 f4 f6 f7 fo k0_t1_loop.trips) (fz) k0_t3_loop.trips) hr)
    isplitl [Ha]; · iexact Ha
    isplitl [Hc]; · iexact Hc
    isplitl [Hrh]; · iexact Hrh
    isplitl [Ho Hp]
    · unfold outs
      isplitl [Ho]; · iexact Ho
      iexact Hp
    iexists _; iexact HW
  iintro %u ⟨Ha, Hc, Hrh, Ho, HW⟩
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  isplitl [Hr]; · iexact Hr
  isplitl [Hd]; · iexact Hd
  isplitl [Ha]; · iexact Ha
  isplitl [Hc]; · iexact Hc
  isplitl [Hrh]; · iexact Hrh
  isplitl [Ho]; · iexact Ho
  iexact HW

end

end Cert.Kernel.Hand
-- ==== Proof.K.Split.lean ====
module

public import proofs.«01_k».proof.Proof.K.Out
public import Idealize.ShloMosaic.Lib.Pipeline.ValueKit.Geometry

/-! Cutting the buffers the launch hands over whole into the pieces the body works on, and joining them back. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-! ## A buffer cut into `n` groups of four pieces -/

section four
variable {ℓ : Loc nD τ sig} {n : ℕ} (S : Fin n → Fin 4 → Finset (Idx ℓ))
  (hd : ∀ v q v' q', (v ≠ v' ∨ q ≠ q') → Disjoint (S v q) (S v' q')) (hc : ∀ i, ∃ v q, i ∈ S v q)

include hd in
theorem four_disjoint (v v' : Fin n) (h : v ≠ v') : Disjoint (Finset.univ.biUnion (S v)) (Finset.univ.biUnion (S v')) := by
  rw [Finset.disjoint_biUnion_left]; intro q _
  rw [Finset.disjoint_biUnion_right]; intro q' _
  exact hd v q v' q' (Or.inl h)

include hc in
theorem four_cover : Finset.univ.biUnion (fun v => Finset.univ.biUnion (S v)) = Finset.univ := by
  ext i
  simp only [Finset.mem_biUnion, Finset.mem_univ, true_and, iff_true]
  obtain ⟨v, q, h⟩ := hc i
  exact ⟨v, q, h⟩

include hd in
theorem four_one (v : Fin n) (f : Buf (Elt F) ℓ) :
    (ℓ ↦[Finset.univ.biUnion (S v)]{fullShare} f : sProp 𝕄)
      = iprop((ℓ ↦[S v 0]{fullShare} f) ∗ (ℓ ↦[S v 1]{fullShare} f) ∗ (ℓ ↦[S v 2]{fullShare} f) ∗ (ℓ ↦[S v 3]{fullShare} f)) :=
  (pointsTo_biUnion Finset.univ (S v) (fun q _ q' _ h => hd v q v q' (Or.inr h))).trans
    (BI.bigSep_univ_eq_bigSepL [(0 : Fin 4), 1, 2, 3] (by decide) (by decide) _)

include hd hc in
theorem four_cut (f : Buf (Elt F) ℓ) :
    (ℓ ↦{fullShare} f : sProp 𝕄)
      = bigSep Finset.univ fun v => iprop((ℓ ↦[S v 0]{fullShare} f) ∗ (ℓ ↦[S v 1]{fullShare} f) ∗ (ℓ ↦[S v 2]{fullShare} f) ∗ (ℓ ↦[S v 3]{fullShare} f)) := by
  rw [Ring.pointsTo_blocks (fun v => Finset.univ.biUnion (S v)) (four_disjoint S hd) (four_cover S hc) f]
  exact congrArg (bigSep Finset.univ) (funext fun v => four_one S hd v f)

abbrev fourE (v : Fin n) : sProp 𝕄 :=
  iprop((∃ f : Buf (Elt F) ℓ, ℓ ↦[S v 0]{fullShare} f) ∗ (∃ f : Buf (Elt F) ℓ, ℓ ↦[S v 1]{fullShare} f) ∗ (∃ f : Buf (Elt F) ℓ, ℓ ↦[S v 2]{fullShare} f) ∗ (∃ f : Buf (Elt F) ℓ, ℓ ↦[S v 3]{fullShare} f))

include hd hc in
theorem four_cutE : (iprop(∃ f : Buf (Elt F) ℓ, ℓ ↦{fullShare} f) : sProp 𝕄) ⊢ bigSep Finset.univ (fourE (F := F) S) := by
  have h : ∀ f : Buf (Elt F) ℓ, (ℓ ↦{fullShare} f : sProp 𝕄) ⊢ bigSep Finset.univ (fourE (F := F) S) := fun f => by
    rw [four_cut S hd hc f]
    exact BI.bigSep_mono fun v _ => show _ ⊢ fourE (F := F) S v from by
      iintro ⟨H0, H1, H2, H3⟩
      isplitl [H0]; · iexists f; iexact H0
      isplitl [H1]; · iexists f; iexact H1
      isplitl [H2]; · iexists f; iexact H2
      iexists f; iexact H3
  iintro ⟨%f, H⟩
  iapply (h f); iexact H

include hd hc in
theorem four_glueE (f₀ : Buf (Elt F) ℓ) : bigSep Finset.univ (fourE (F := F) S) ⊢ (iprop(∃ f : Buf (Elt F) ℓ, ℓ ↦{fullShare} f) : sProp 𝕄) := by
  have h : ∀ v, fourE (F := F) S v ⊢ (iprop(∃ f : Buf (Elt F) ℓ, ℓ ↦[Finset.univ.biUnion (S v)]{fullShare} f) : sProp 𝕄) := fun v =>
    (Entails.of_eq (BI.bigSep_univ_eq_bigSepL [(0 : Fin 4), 1, 2, 3] (by decide) (by decide) (fun q => iprop(∃ f : Buf (Elt F) ℓ, ℓ ↦[S v q]{fullShare} f))).symm).trans
      (Ring.pointsTo_sub_blocks_join_exists (S v) (fun q q' h => hd v q v q' (Or.inr h)) _ rfl f₀)
  exact (BI.bigSep_mono fun v _ => h v).trans
    (Ring.pointsTo_blocks_join_exists (fun v => Finset.univ.biUnion (S v)) (four_disjoint S hd) (four_cover S hc) f₀)
end four

/-! ## The pieces of the results and of the staging buffers, as sets of elements -/

variable (c : Dev nD)

abbrev hS (v : Fin 640) (q : Fin 4) : Finset (Idx ((c : Thread nD τ).loc main_v20_1)) := (hpc v q).view.set
abbrev xS (v : Fin 640) (q : Fin 4) : Finset (Idx ((c : Thread nD τ).loc main_v20_0)) := (xpc v q).view.set
abbrev rS (h : Fin 2) : Finset (Idx ((c : Thread nD τ).loc main_v20_2)) := (rpc h).view.set
abbrev hsS (s : Fin 2) (q : Fin 4) : Finset (Idx ((c : Thread nD τ).loc cc0_scratch3)) := (hsl s q).view.set
abbrev xsS (s : Fin 2) (q : Fin 4) : Finset (Idx ((c : Thread nD τ).loc cc0_scratch4)) := (xsl s q).view.set
abbrev dsS (s : Fin 4) : Finset (Idx ((c : Thread nD τ).loc cc0_scratch0)) := (dsl s).view.set

theorem hS_eq (v q) : hS c v q = (Rect.unit (s := S5120x64x512) (hpcOff v q) S256x2x128.size (hpcOff_inb v q)).set := View.set_slice_whole _ _
theorem xS_eq (v q) : xS c v q = (Rect.unit (s := S5120x16384) (xpcOff v q) S256x128.size (xpcOff_inb v q)).set := View.set_slice_whole _ _
theorem rS_eq (h) : rS c h = (Rect.unit (s := S64x512x256) (rpcOff h) S32x512x256.size (rpcOff_inb h)).set := View.set_slice_whole _ _
theorem hsS_eq (s q) : hsS c s q = (Rect.unit (s := S2x4x256x2x128) (hslOff s q) S1x1x256x2x128.size (hslOff_inb s q)).set :=
  (View.set_reshape _ _).trans (View.set_slice_whole _ _)
theorem xsS_eq (s q) : xsS c s q = (Rect.unit (s := S2x4x256x128) (xslOff s q) S1x1x256x128.size (xslOff_inb s q)).set :=
  (View.set_reshape _ _).trans (View.set_slice_whole _ _)
theorem dsS_eq (s) : dsS c s = (Rect.unit (s := S4x8x256x256) (dslOff s) S1x8x256x256.size (dslOff_inb s)).set :=
  (View.set_reshape _ _).trans (View.set_slice_whole _ _)

theorem hS_mem (v q) (i : S5120x64x512.Idx) : i ∈ hS c v q ↔
    (256 * (v.val / 16 % 20) ≤ (i 0).val ∧ (i 0).val < 256 * (v.val / 16 % 20) + 256)
    ∧ (32 * (v.val / 320) + 2 * (v.val % 16) ≤ (i 1).val ∧ (i 1).val < 32 * (v.val / 320) + 2 * (v.val % 16) + 2)
    ∧ (128 * q.val ≤ (i 2).val ∧ (i 2).val < 128 * q.val + 128) := by
  rw [hS_eq, Rect.mem_set_unit]; exact ValueKit.forall_fin_iff_conj (n := 3)
theorem xS_mem (v q) (i : S5120x16384.Idx) : i ∈ xS c v q ↔
    (256 * (v.val / 16 % 20) ≤ (i 0).val ∧ (i 0).val < 256 * (v.val / 16 % 20) + 256)
    ∧ (8192 * (v.val / 320) + 512 * (v.val % 16) + 128 * q.val ≤ (i 1).val ∧ (i 1).val < 8192 * (v.val / 320) + 512 * (v.val % 16) + 128 * q.val + 128) := by
  rw [xS_eq, Rect.mem_set_unit]; exact ValueKit.forall_fin_iff_conj (n := 2)
theorem rS_mem (h) (i : S64x512x256.Idx) : i ∈ rS c h ↔
    (32 * h.val ≤ (i 0).val ∧ (i 0).val < 32 * h.val + 32) ∧ (0 ≤ (i 1).val ∧ (i 1).val < 0 + 512) ∧ (0 ≤ (i 2).val ∧ (i 2).val < 0 + 256) := by
  rw [rS_eq, Rect.mem_set_unit]; exact ValueKit.forall_fin_iff_conj (n := 3)
theorem hsS_mem (s q) (i : S2x4x256x2x128.Idx) : i ∈ hsS c s q ↔
    (s.val ≤ (i 0).val ∧ (i 0).val < s.val + 1) ∧ (q.val ≤ (i 1).val ∧ (i 1).val < q.val + 1) ∧ (0 ≤ (i 2).val ∧ (i 2).val < 0 + 256)
    ∧ (0 ≤ (i 3).val ∧ (i 3).val < 0 + 2) ∧ (0 ≤ (i 4).val ∧ (i 4).val < 0 + 128) := by
  rw [hsS_eq, Rect.mem_set_unit]; exact ValueKit.forall_fin_iff_conj (n := 5)
theorem xsS_mem (s q) (i : S2x4x256x128.Idx) : i ∈ xsS c s q ↔
    (s.val ≤ (i 0).val ∧ (i 0).val < s.val + 1) ∧ (q.val ≤ (i 1).val ∧ (i 1).val < q.val + 1) ∧ (0 ≤ (i 2).val ∧ (i 2).val < 0 + 256)
    ∧ (0 ≤ (i 3).val ∧ (i 3).val < 0 + 128) := by
  rw [xsS_eq, Rect.mem_set_unit]; exact ValueKit.forall_fin_iff_conj (n := 4)

theorem hS_disjoint (v q v' q') (h : v ≠ v' ∨ q ≠ q') : Disjoint (hS c v q) (hS c v' q') := by
  rw [Finset.disjoint_left]; intro i h1 h2
  obtain ⟨⟨a1, a2⟩, ⟨b1, b2⟩, ⟨d1, d2⟩⟩ := (hS_mem c v q i).mp h1
  obtain ⟨⟨a1', a2'⟩, ⟨b1', b2'⟩, ⟨d1', d2'⟩⟩ := (hS_mem c v' q' i).mp h2
  have := v.isLt; have := v'.isLt
  rcases h with h | h
  · refine h (Fin.ext ?_); omega
  · refine h (Fin.ext ?_); omega
theorem hS_cover (i : S5120x64x512.Idx) : ∃ v q, i ∈ hS c v q := by
  have h0 : (i 0).val < 5120 := (i 0).isLt
  have h1 : (i 1).val < 64 := (i 1).isLt
  have h2 : (i 2).val < 512 := (i 2).isLt
  refine ⟨⟨320 * ((i 1).val / 32) + 16 * ((i 0).val / 256) + (i 1).val % 32 / 2, by omega⟩, ⟨(i 2).val / 128, by omega⟩, (hS_mem c _ _ i).mpr ?_⟩
  refine ⟨⟨?_, ?_⟩, ⟨?_, ?_⟩, ⟨?_, ?_⟩⟩ <;> dsimp only <;> omega
theorem xS_disjoint (v q v' q') (h : v ≠ v' ∨ q ≠ q') : Disjoint (xS c v q) (xS c v' q') := by
  rw [Finset.disjoint_left]; intro i h1 h2
  obtain ⟨⟨a1, a2⟩, ⟨b1, b2⟩⟩ := (xS_mem c v q i).mp h1
  obtain ⟨⟨a1', a2'⟩, ⟨b1', b2'⟩⟩ := (xS_mem c v' q' i).mp h2
  have := v.isLt; have := v'.isLt; have := q.isLt; have := q'.isLt
  rcases h with h | h
  · refine h (Fin.ext ?_); omega
  · refine h (Fin.ext ?_); omega
theorem xS_cover (i : S5120x16384.Idx) : ∃ v q, i ∈ xS c v q := by
  have h0 : (i 0).val < 5120 := (i 0).isLt
  have h1 : (i 1).val < 16384 := (i 1).isLt
  refine ⟨⟨320 * ((i 1).val / 8192) + 16 * ((i 0).val / 256) + (i 1).val % 8192 / 512, by omega⟩, ⟨(i 1).val % 512 / 128, by omega⟩, (xS_mem c _ _ i).mpr ?_⟩
  refine ⟨⟨?_, ?_⟩, ⟨?_, ?_⟩⟩ <;> dsimp only <;> omega
theorem rS_disjoint (h h' : Fin 2) (e : h ≠ h') : Disjoint (rS c h) (rS c h') := by
  rw [Finset.disjoint_left]; intro i h1 h2
  obtain ⟨⟨a1, a2⟩, -, -⟩ := (rS_mem c h i).mp h1
  obtain ⟨⟨a1', a2'⟩, -, -⟩ := (rS_mem c h' i).mp h2
  refine e (Fin.ext ?_); omega
theorem rS_cover : Finset.univ.biUnion (rS c) = Finset.univ := by
  ext i
  simp only [Finset.mem_biUnion, Finset.mem_univ, true_and, iff_true]
  have h0 : (i 0).val < 64 := (i 0).isLt
  have h1 : (i 1).val < 512 := (i 1).isLt
  have h2 : (i 2).val < 256 := (i 2).isLt
  refine ⟨⟨(i 0).val / 32, by omega⟩, (rS_mem c _ i).mpr ⟨⟨?_, ?_⟩, ⟨?_, ?_⟩, ⟨?_, ?_⟩⟩⟩ <;> dsimp only <;> omega
theorem hsS_disjoint (v q v' q') (h : v ≠ v' ∨ q ≠ q') : Disjoint (hsS c v q) (hsS c v' q') := by
  rw [Finset.disjoint_left]; intro i h1 h2
  obtain ⟨⟨a1, a2⟩, ⟨b1, b2⟩, -⟩ := (hsS_mem c v q i).mp h1
  obtain ⟨⟨a1', a2'⟩, ⟨b1', b2'⟩, -⟩ := (hsS_mem c v' q' i).mp h2
  rcases h with h | h
  · refine h (Fin.ext ?_); omega
  · refine h (Fin.ext ?_); omega
theorem hsS_cover (i : S2x4x256x2x128.Idx) : ∃ v q, i ∈ hsS c v q := by
  have h0 : (i 0).val < 2 := (i 0).isLt
  have h1 : (i 1).val < 4 := (i 1).isLt
  have h2 : (i 2).val < 256 := (i 2).isLt
  have h3 : (i 3).val < 2 := (i 3).isLt
  have h4 : (i 4).val < 128 := (i 4).isLt
  refine ⟨⟨(i 0).val, h0⟩, ⟨(i 1).val, h1⟩, (hsS_mem c _ _ i).mpr ⟨⟨?_, ?_⟩, ⟨?_, ?_⟩, ⟨?_, ?_⟩, ⟨?_, ?_⟩, ⟨?_, ?_⟩⟩⟩ <;> dsimp only <;> omega
theorem xsS_disjoint (v q v' q') (h : v ≠ v' ∨ q ≠ q') : Disjoint (xsS c v q) (xsS c v' q') := by
  rw [Finset.disjoint_left]; intro i h1 h2
  obtain ⟨⟨a1, a2⟩, ⟨b1, b2⟩, -⟩ := (xsS_mem c v q i).mp h1
  obtain ⟨⟨a1', a2'⟩, ⟨b1', b2'⟩, -⟩ := (xsS_mem c v' q' i).mp h2
  rcases h with h | h
  · refine h (Fin.ext ?_); omega
  · refine h (Fin.ext ?_); omega
theorem xsS_cover (i : S2x4x256x128.Idx) : ∃ v q, i ∈ xsS c v q := by
  have h0 : (i 0).val < 2 := (i 0).isLt
  have h1 : (i 1).val < 4 := (i 1).isLt
  have h2 : (i 2).val < 256 := (i 2).isLt
  have h4 : (i 3).val < 128 := (i 3).isLt
  refine ⟨⟨(i 0).val, h0⟩, ⟨(i 1).val, h1⟩, (xsS_mem c _ _ i).mpr ⟨⟨?_, ?_⟩, ⟨?_, ?_⟩, ⟨?_, ?_⟩, ⟨?_, ?_⟩⟩⟩ <;> dsimp only <;> omega
theorem dsS_disjoint (s s' : Fin 4) (h : s ≠ s') : Disjoint (dsS c s) (dsS c s') := by
  rw [dsS_eq, dsS_eq]
  exact Ring.lead_disjoint (s := S4x8x256x256) (0 : Fin 4) 1 dslOff S1x8x256x256.size dslOff_inb (by decide) rfl s s' h
theorem dsS_cover : Finset.univ.biUnion (dsS c) = Finset.univ := by
  refine (Finset.biUnion_congr rfl fun s _ => dsS_eq c s).trans ?_
  exact Ring.lead_cover (s := S4x8x256x256) (0 : Fin 4) 1 dslOff S1x8x256x256.size dslOff_inb (by decide) (by decide) rfl (by decide) rfl

end Cert.Kernel.Hand
-- ==== Proof.K.Glue.lean ====
module

public import proofs.«01_k».proof.Proof.K.Split
public import proofs.«01_k».proof.Proof.K.Tail
public import proofs.«01_k».proof.Proof.K.Loop1b

/-! Joining the pieces of a result into the whole result, with what is known of each element; the two rings and the
    pieces at the start and at the end of the launch. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

section glue
variable {ℓ : Loc nD τ sig}

/-- Disjoint pieces, each at contents of which `P` holds element by element, join to their union at contents of which
    `P` holds element by element. `P` sees of the contents only the element it speaks of. -/
theorem glueP {B : Type} [Fintype B] [DecidableEq B] (I : B → Finset (Idx ℓ)) (hd : ∀ b b', b ≠ b' → Disjoint (I b) (I b'))
    (S : Finset (Idx ℓ)) (hS : Finset.univ.biUnion I = S) (P : Idx ℓ → Buf (Elt F) ℓ → Prop)
    (hP : ∀ i f g, f i = g i → P i f → P i g) (f₀ : Buf (Elt F) ℓ) :
    bigSep Finset.univ (fun b => iprop(∃ f : Buf (Elt F) ℓ, ⌜∀ i ∈ I b, P i f⌝ ∗ ℓ ↦[I b]{fullShare} f))
      ⊢ (iprop(∃ g : Buf (Elt F) ℓ, ⌜∀ i ∈ S, P i g⌝ ∗ ℓ ↦[S]{fullShare} g) : sProp 𝕄) := by
  have : Nonempty (Buf (Elt F) ℓ) := ⟨f₀⟩
  refine (Idealize.SL.BI.bigSep_exists_pi Finset.univ (fun b (f : Buf (Elt F) ℓ) => (iprop(⌜∀ i ∈ I b, P i f⌝ ∗ ℓ ↦[I b]{fullShare} f) : sProp 𝕄))).trans ?_
  iintro ⟨%fs, H⟩
  ihave H := (Idealize.SL.BI.bigSep_pure_sep Finset.univ (fun b => ∀ i ∈ I b, P i (fs b)) (fun b => (ℓ ↦[I b]{fullShare} fs b : sProp 𝕄))) $$ H
  icases H with ⟨%hp, H⟩
  ihave H := (pointsTo_biUnion_join Finset.univ I fs f₀ (fun b _ b' _ h => hd b b' h)) $$ H
  icases H with ⟨%g, %hg, H⟩
  iexists g
  isplitr
  · ipureintro
    intro i hi
    rw [← hS] at hi
    obtain ⟨b, hb, hib⟩ := Finset.mem_biUnion.mp hi
    exact hP i (fs b) g (hg b hb i hib).symm (hp b hb i hib)
  · rw [← hS]; iexact H

/-- The same for groups of four pieces. -/
theorem four_glueP {n : ℕ} (S : Fin n → Fin 4 → Finset (Idx ℓ))
    (hd : ∀ v q v' q', (v ≠ v' ∨ q ≠ q') → Disjoint (S v q) (S v' q')) (hc : ∀ i, ∃ v q, i ∈ S v q)
    (P : Idx ℓ → Buf (Elt F) ℓ → Prop) (hP : ∀ i f g, f i = g i → P i f → P i g) (f₀ : Buf (Elt F) ℓ) :
    bigSep Finset.univ (fun v => iprop(∃ a0 a1 a2 a3 : Buf (Elt F) ℓ,
        ((ℓ ↦[S v 0]{fullShare} a0) ∗ (ℓ ↦[S v 1]{fullShare} a1) ∗ (ℓ ↦[S v 2]{fullShare} a2) ∗ (ℓ ↦[S v 3]{fullShare} a3))
        ∗ ⌜(∀ i ∈ S v 0, P i a0) ∧ (∀ i ∈ S v 1, P i a1) ∧ (∀ i ∈ S v 2, P i a2) ∧ (∀ i ∈ S v 3, P i a3)⌝))
      ⊢ (iprop(∃ g : Buf (Elt F) ℓ, ⌜∀ i, P i g⌝ ∗ ℓ ↦{fullShare} g) : sProp 𝕄) := by
  have h : ∀ v, (iprop(∃ a0 a1 a2 a3 : Buf (Elt F) ℓ,
        ((ℓ ↦[S v 0]{fullShare} a0) ∗ (ℓ ↦[S v 1]{fullShare} a1) ∗ (ℓ ↦[S v 2]{fullShare} a2) ∗ (ℓ ↦[S v 3]{fullShare} a3))
        ∗ ⌜(∀ i ∈ S v 0, P i a0) ∧ (∀ i ∈ S v 1, P i a1) ∧ (∀ i ∈ S v 2, P i a2) ∧ (∀ i ∈ S v 3, P i a3)⌝) : sProp 𝕄)
      ⊢ iprop(∃ f : Buf (Elt F) ℓ, ⌜∀ i ∈ Finset.univ.biUnion (S v), P i f⌝ ∗ ℓ ↦[Finset.univ.biUnion (S v)]{fullShare} f) := fun v => by
    refine .trans ?_ (glueP (S v) (fun q q' h => hd v q v q' (Or.inr h)) _ rfl P hP f₀)
    rw [BI.bigSep_univ_eq_bigSepL [(0 : Fin 4), 1, 2, 3] (by decide) (by decide) (fun q => iprop(∃ f : Buf (Elt F) ℓ, ⌜∀ i ∈ S v q, P i f⌝ ∗ ℓ ↦[S v q]{fullShare} f))]
    show _ ⊢ iprop((∃ f : Buf (Elt F) ℓ, ⌜∀ i ∈ S v 0, P i f⌝ ∗ ℓ ↦[S v 0]{fullShare} f) ∗ (∃ f : Buf (Elt F) ℓ, ⌜∀ i ∈ S v 1, P i f⌝ ∗ ℓ ↦[S v 1]{fullShare} f)
      ∗ (∃ f : Buf (Elt F) ℓ, ⌜∀ i ∈ S v 2, P i f⌝ ∗ ℓ ↦[S v 2]{fullShare} f) ∗ (∃ f : Buf (Elt F) ℓ, ⌜∀ i ∈ S v 3, P i f⌝ ∗ ℓ ↦[S v 3]{fullShare} f))
    iintro ⟨%a0, %a1, %a2, %a3, ⟨H0, H1, H2, H3⟩, %hh⟩
    isplitl [H0]
    · iexists a0; isplitr; · ipureintro; exact hh.1
      iexact H0
    isplitl [H1]
    · iexists a1; isplitr; · ipureintro; exact hh.2.1
      iexact H1
    isplitl [H2]
    · iexists a2; isplitr; · ipureintro; exact hh.2.2.1
      iexact H2
    iexists a3; isplitr; · ipureintro; exact hh.2.2.2
    iexact H3
  refine (BI.bigSep_mono fun v _ => h v).trans ?_
  refine (glueP (fun v => Finset.univ.biUnion (S v)) (four_disjoint S hd) Finset.univ (four_cover S hc) P hP f₀).trans ?_
  iintro ⟨%g, %hg, H⟩
  iexists g
  isplitr
  · ipureintro; exact fun i => hg i (Finset.mem_univ i)
  · iexact H
end glue

variable (c : Dev nD)

/-! ## The dy ring -/

section
variable (XA : Buf (Elt F) (dyM.view.loc (c : Thread nD τ)))

/-- The share of the dy array no slot of the ring holds. -/
abbrev drest : sProp 𝕄 := dyM.view.loc (c : Thread nD τ) ↦[Finset.univ]{Transfers.shareDrop fullShare 4} XA

theorem dring_free (n : ℕ) (st : Fin 4 → Option ℕ) (h : ∀ s, st s = none) :
    Ring.AtW (σ := fun _ => Option ℕ) (dslot c XA) st
      = iprop(dslot c XA 0 none ∗ dslot c XA 1 none ∗ dslot c XA 2 none ∗ dslot c XA 3 none) := by
  rw [Ring.AtW_eq_list (dslot c XA) st [0, 1, 2, 3] (by decide) (by decide)]
  show iprop(dslot c XA 0 (st 0) ∗ dslot c XA 1 (st 1) ∗ dslot c XA 2 (st 2) ∗ dslot c XA 3 (st 3)) = _
  rw [h, h, h, h]

theorem ring_cut (f : Buf (Elt F) ((c : Thread nD τ).loc cc0_scratch0)) :
    (((c : Thread nD τ).loc cc0_scratch0) ↦{fullShare} f : sProp 𝕄)
      ⊢ iprop(hldE c (dsl 0) ∗ hldE c (dsl 1) ∗ hldE c (dsl 2) ∗ hldE c (dsl 3)) := by
  rw [Ring.pointsTo_blocks (dsS c) (dsS_disjoint c) (dsS_cover c) f,
    BI.bigSep_univ_eq_bigSepL [(0 : Fin 4), 1, 2, 3] (by decide) (by decide)]
  show iprop(hld c (dsl 0) f ∗ hld c (dsl 1) f ∗ hld c (dsl 2) f ∗ hld c (dsl 3) f) ⊢ _
  iintro ⟨H0, H1, H2, H3⟩
  isplitl [H0]; · iexists _; iexact H0
  isplitl [H1]; · iexists _; iexact H1
  isplitl [H2]; · iexists _; iexact H2
  iexists _; iexact H3
theorem ring_glue : iprop(hldE c (dsl 0) ∗ hldE c (dsl 1) ∗ hldE c (dsl 2) ∗ hldE c (dsl 3))
    ⊢ (iprop(∃ f : Buf (Elt F) ((c : Thread nD τ).loc cc0_scratch0), ((c : Thread nD τ).loc cc0_scratch0) ↦{fullShare} f) : sProp 𝕄) := by
  refine .trans (Entails.of_eq ?_) (Ring.pointsTo_blocks_join_exists (dsS c) (dsS_disjoint c) (dsS_cover c) (ringM.view.junk))
  exact (BI.bigSep_univ_eq_bigSepL [(0 : Fin 4), 1, 2, 3] (by decide) (by decide) (fun s => iprop(∃ f : Buf (Elt F) ((c : Thread nD τ).loc cc0_scratch0), ((c : Thread nD τ).loc cc0_scratch0) ↦[dsS c s]{fullShare} f))).symm

theorem dtoks : (((c : Thread nD τ).loc main_v2) ↦{fullShare} XA : sProp 𝕄)
    ⊣⊢ iprop(drest c XA ∗ dtok c XA 0 Finset.univ ∗ dtok c XA 1 Finset.univ ∗ dtok c XA 2 Finset.univ ∗ dtok c XA 3 Finset.univ) := by
  have h := Transfers.pointsTo_toks (Val := Elt F) (Ix := Unit) (Name := ℕ) (U := Pipeline.UD sig nD τ) (Lvl := ℕ) (ℓ := (c : Thread nD τ).loc main_v2) (S := Finset.univ) (f := XA) fullShare 4
  rw [BI.bigSep_univ_eq_bigSepL [(0 : Fin 4), 1, 2, 3] (by decide) (by decide)] at h
  exact h

end

/-! ## The results and the staging buffers -/

section
variable (HOK : ∀ (v : Fin 640) (q : Fin 4), Buf (Elt F) ((hpc v q).view.loc (c : Thread nD τ)) → Prop)
  (XOK : ∀ (v : Fin 640) (q : Fin 4), Buf (Elt F) ((xpc v q).view.loc (c : Thread nD τ)) → Prop)

/-- A family of pairs is a pair of families. -/
theorem sep_out {M I : Type} [URA M] (s : Finset I) (Φ Ψ : I → sProp M) : bigSep s (fun i => iprop(Φ i ∗ Ψ i)) ⊢ iprop(bigSep s Φ ∗ bigSep s Ψ) :=
  Entails.of_eq (BI.bigSep_sep s Φ Ψ)
theorem sep_in {M I : Type} [URA M] (s : Finset I) (Φ Ψ : I → sProp M) : iprop(bigSep s Φ ∗ bigSep s Ψ) ⊢ bigSep s (fun i => iprop(Φ i ∗ Ψ i)) :=
  Entails.of_eq (BI.bigSep_sep s Φ Ψ).symm
theorem two_eq {M : Type} [URA M] (Φ : Fin 2 → sProp M) : bigSep Finset.univ Φ = iprop(Φ 0 ∗ Φ 1) :=
  BI.bigSep_univ_eq_bigSepL [(0 : Fin 2), 1] (by decide) (by decide) Φ

theorem outs_start :
    iprop((cellZ c (csH 0) ∗ cellZ c (csH 1) ∗ cellZ c (csX 0) ∗ cellZ c (csX 1))
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)
      ∗ (∃ f : Buf (Elt F) ((c : Thread nD τ).loc main_v20_0), ((c : Thread nD τ).loc main_v20_0) ↦{fullShare} f)
      ∗ (∃ f : Buf (Elt F) ((c : Thread nD τ).loc main_v20_1), ((c : Thread nD τ).loc main_v20_1) ↦{fullShare} f))
      ⊢ outs c HOK XOK 0 := by
  have e : ∀ v, opc c HOK XOK v (pst 0 v) = iprop(fourE (F := F) (hS c) v ∗ fourE (F := F) (xS c) v) := fun v => by
    have : pst 0 v = 0 := by unfold pst; rw [if_neg (by omega), if_neg (by omega)]
    rw [this]; rfl
  have e2 : Ring.AtW (σ := fun _ => Fin 3) (opc c HOK XOK) (pst 0) = bigSep Finset.univ fun v => iprop(fourE (F := F) (hS c) v ∗ fourE (F := F) (xS c) v) :=
    BI.bigSep_congr fun v _ => e v
  have e3 : Ring.AtW (σ := fun _ => Option (Fin 640)) (oslot c HOK XOK) (ost 0) = iprop(oslot c HOK XOK 0 none ∗ oslot c HOK XOK 1 none) := by
    rw [Ring.AtW_eq_list (oslot c HOK XOK) (ost 0) [0, 1] (by decide) (by decide)]
    rfl
  unfold outs
  rw [e2, e3, oslot_none, oslot_none]
  iintro ⟨⟨C0, C1, D0, D1⟩, H3, H4, HX, HH⟩
  ihave H3 := (four_cutE (hsS c) (hsS_disjoint c) (hsS_cover c)) $$ H3
  ihave H4 := (four_cutE (xsS c) (xsS_disjoint c) (xsS_cover c)) $$ H4
  ihave HX := (four_cutE (xS c) (xS_disjoint c) (xS_cover c)) $$ HX
  ihave HH := (four_cutE (hS c) (hS_disjoint c) (hS_cover c)) $$ HH
  ihave H3 := (Entails.of_eq (two_eq (fourE (F := F) (hsS c)))) $$ H3
  ihave H4 := (Entails.of_eq (two_eq (fourE (F := F) (xsS c)))) $$ H4
  icases H3 with ⟨H30, H31⟩
  icases H4 with ⟨H40, H41⟩
  isplitr [HX HH]
  · isplitl [C0 D0 H30 H40]
    · isplitl [C0]; · iexact C0
      isplitl [D0]; · iexact D0
      isplitl [H30]; · iexact H30
      iexact H40
    isplitl [C1]; · iexact C1
    isplitl [D1]; · iexact D1
    isplitl [H31]; · iexact H31
    iexact H41
  · iapply (sep_in Finset.univ (fourE (F := F) (hS c)) (fourE (F := F) (xS c)))
    isplitl [HH]; · iexact HH
    iexact HX

theorem outs_end
    (PH : Idx ((c : Thread nD τ).loc main_v20_1) → Buf (Elt F) ((c : Thread nD τ).loc main_v20_1) → Prop) (hPH : ∀ i f g, f i = g i → PH i f → PH i g)
    (PX : Idx ((c : Thread nD τ).loc main_v20_0) → Buf (Elt F) ((c : Thread nD τ).loc main_v20_0) → Prop) (hPX : ∀ i f g, f i = g i → PX i f → PX i g) :
    outsFin c (fun v q f => ∀ i ∈ hS c v q, PH i f) (fun v q f => ∀ i ∈ xS c v q, PX i f)
      ⊢ (iprop((cellZ c (csH 0) ∗ cellZ c (csH 1) ∗ cellZ c (csX 0) ∗ cellZ c (csX 1))
        ∗ (∃ f : Buf (Elt F) ((c : Thread nD τ).loc cc0_scratch3), ((c : Thread nD τ).loc cc0_scratch3) ↦{fullShare} f)
        ∗ (∃ f : Buf (Elt F) ((c : Thread nD τ).loc cc0_scratch4), ((c : Thread nD τ).loc cc0_scratch4) ↦{fullShare} f)
        ∗ (∃ f : Buf (Elt F) ((c : Thread nD τ).loc main_v20_0), ⌜∀ i, PX i f⌝ ∗ ((c : Thread nD τ).loc main_v20_0) ↦{fullShare} f)
        ∗ (∃ f : Buf (Elt F) ((c : Thread nD τ).loc main_v20_1), ⌜∀ i, PH i f⌝ ∗ ((c : Thread nD τ).loc main_v20_1) ↦{fullShare} f)) : sProp 𝕄) := by
  have e : ∀ v, opc c (fun v q f => ∀ i ∈ hS c v q, PH i f) (fun v q f => ∀ i ∈ xS c v q, PX i f) v 2
      = iprop((∃ a0 a1 a2 a3, (hld c (hpc v 0) a0 ∗ hld c (hpc v 1) a1 ∗ hld c (hpc v 2) a2 ∗ hld c (hpc v 3) a3)
          ∗ ⌜(∀ i ∈ hS c v 0, PH i a0) ∧ (∀ i ∈ hS c v 1, PH i a1) ∧ (∀ i ∈ hS c v 2, PH i a2) ∧ (∀ i ∈ hS c v 3, PH i a3)⌝)
        ∗ (∃ a0 a1 a2 a3, (hld c (xpc v 0) a0 ∗ hld c (xpc v 1) a1 ∗ hld c (xpc v 2) a2 ∗ hld c (xpc v 3) a3)
          ∗ ⌜(∀ i ∈ xS c v 0, PX i a0) ∧ (∀ i ∈ xS c v 1, PX i a1) ∧ (∀ i ∈ xS c v 2, PX i a2) ∧ (∀ i ∈ xS c v 3, PX i a3)⌝)) := fun v => opc_2 c _ _ v
  have e2 := BI.bigSep_congr (s := (Finset.univ : Finset (Fin 640))) fun v _ => e v
  have gH : bigSep Finset.univ (fun v => iprop(∃ a0 a1 a2 a3, (hld c (hpc v 0) a0 ∗ hld c (hpc v 1) a1 ∗ hld c (hpc v 2) a2 ∗ hld c (hpc v 3) a3)
          ∗ ⌜(∀ i ∈ hS c v 0, PH i a0) ∧ (∀ i ∈ hS c v 1, PH i a1) ∧ (∀ i ∈ hS c v 2, PH i a2) ∧ (∀ i ∈ hS c v 3, PH i a3)⌝))
      ⊢ (iprop(∃ f : Buf (Elt F) ((c : Thread nD τ).loc main_v20_1), ⌜∀ i, PH i f⌝ ∗ ((c : Thread nD τ).loc main_v20_1) ↦{fullShare} f) : sProp 𝕄) :=
    four_glueP (hS c) (hS_disjoint c) (hS_cover c) PH hPH dhM.view.junk
  have gX : bigSep Finset.univ (fun v => iprop(∃ a0 a1 a2 a3, (hld c (xpc v 0) a0 ∗ hld c (xpc v 1) a1 ∗ hld c (xpc v 2) a2 ∗ hld c (xpc v 3) a3)
          ∗ ⌜(∀ i ∈ xS c v 0, PX i a0) ∧ (∀ i ∈ xS c v 1, PX i a1) ∧ (∀ i ∈ xS c v 2, PX i a2) ∧ (∀ i ∈ xS c v 3, PX i a3)⌝))
      ⊢ (iprop(∃ f : Buf (Elt F) ((c : Thread nD τ).loc main_v20_0), ⌜∀ i, PX i f⌝ ∗ ((c : Thread nD τ).loc main_v20_0) ↦{fullShare} f) : sProp 𝕄) :=
    four_glueP (xS c) (xS_disjoint c) (xS_cover c) PX hPX dxM.view.junk
  unfold outsFin
  rw [oslot_none, oslot_none]
  unfold Ring.AtW
  rw [e2]
  iintro ⟨⟨⟨C0, D0, H30, H40⟩, ⟨C1, D1, H31, H41⟩⟩, HP⟩
  ihave HP := (sep_out Finset.univ _ _) $$ HP
  icases HP with ⟨HH, HX⟩
  ihave HH := gH $$ HH
  ihave HX := gX $$ HX
  ihave H3 : bigSep Finset.univ (fourE (F := F) (hsS c)) $$ [H30 H31]
  · rw [two_eq]
    isplitl [H30]; · iexact H30
    iexact H31
  ihave H4 : bigSep Finset.univ (fourE (F := F) (xsS c)) $$ [H40 H41]
  · rw [two_eq]
    isplitl [H40]; · iexact H40
    iexact H41
  ihave H3 := (four_glueE (hsS c) (hsS_disjoint c) (hsS_cover c) hstM.view.junk) $$ H3
  ihave H4 := (four_glueE (xsS c) (xsS_disjoint c) (xsS_cover c) xstM.view.junk) $$ H4
  isplitl [C0 C1 D0 D1]
  · isplitl [C0]; · iexact C0
    isplitl [C1]; · iexact C1
    isplitl [D0]; · iexact D0
    iexact D1
  isplitl [H3]; · iexact H3
  isplitl [H4]; · iexact H4
  isplitl [HX]; · iexact HX
  iexact HH
end

/-! ## The dr result -/

section
variable (PR : Idx ((c : Thread nD τ).loc main_v20_2) → Buf (Elt F) ((c : Thread nD τ).loc main_v20_2) → Prop) (hPR : ∀ i f g, f i = g i → PR i f → PR i g)

theorem rh_start (ROK : ∀ h : Fin 2, Buf (Elt F) ((rpc h).view.loc (c : Thread nD τ)) → Prop) :
    (iprop(∃ f : Buf (Elt F) ((c : Thread nD τ).loc main_v20_2), ((c : Thread nD τ).loc main_v20_2) ↦{fullShare} f) : sProp 𝕄) ⊢ rh c ROK 0 := by
  have h : ∀ f, (((c : Thread nD τ).loc main_v20_2) ↦{fullShare} f : sProp 𝕄) = iprop(hld c (rpc 0) f ∗ hld c (rpc 1) f) := fun f => by
    rw [Ring.pointsTo_blocks (rS c) (rS_disjoint c) (rS_cover c) f, two_eq]; rfl
  show _ ⊢ iprop(hldE c (rpc 0) ∗ hldE c (rpc 1))
  iintro ⟨%f, H⟩
  ihave H := (Entails.of_eq (h f)) $$ H
  icases H with ⟨H0, H1⟩
  isplitl [H0]; · iexists _; iexact H0
  iexists _; iexact H1

include hPR in
theorem rh_end : rh c (fun h f => ∀ i ∈ rS c h, PR i f) 40
    ⊢ (iprop(∃ f : Buf (Elt F) ((c : Thread nD τ).loc main_v20_2), ⌜∀ i, PR i f⌝ ∗ ((c : Thread nD τ).loc main_v20_2) ↦{fullShare} f) : sProp 𝕄) := by
  show iprop((∃ g, hld c (rpc 0) g ∗ ⌜∀ i ∈ rS c 0, PR i g⌝) ∗ (∃ g, hld c (rpc 1) g ∗ ⌜∀ i ∈ rS c 1, PR i g⌝)) ⊢ _
  iintro ⟨⟨%g0, H0, %h0⟩, ⟨%g1, H1, %h1⟩⟩
  ihave H : bigSep Finset.univ (fun b => iprop(∃ f : Buf (Elt F) ((c : Thread nD τ).loc main_v20_2), ⌜∀ i ∈ rS c b, PR i f⌝ ∗ ((c : Thread nD τ).loc main_v20_2) ↦[rS c b]{fullShare} f)) $$ [H0 H1]
  · rw [two_eq]
    isplitl [H0]
    · iexists g0; isplitr; · ipureintro; exact h0
      iexact H0
    iexists g1; isplitr; · ipureintro; exact h1
    iexact H1
  ihave H := (glueP (rS c) (rS_disjoint c) Finset.univ (rS_cover c) PR hPR dRM.view.junk) $$ H
  icases H with ⟨%g, %hg, H⟩
  iexists g
  isplitr
  · ipureintro; exact fun i => hg i (Finset.mem_univ i)
  · iexact H
end

end Cert.Kernel.Hand
-- ==== Proof.K.Run.lean ====
module

public import proofs.«01_k».proof.Proof.K.Body
public import proofs.«01_k».proof.Proof.K.Glue
public import proofs.«01_k».proof.Proof.Gen.Kernel.Frame
public import Idealize.ShloMosaic.Lib.Pipeline.FrameValue

/-! The launch: the invariant between grid points, the body at every point, the run of `main`. What the three results
    hold is left to a `Spec`: for each element of each result, a property the kernel's writes give it. The frame takes
    the trivial one. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

theorem stepOf_coords : ∀ t : Fin cfg0.N, stepOf (grid0.coords t) = t.val := by decide +kernel
theorem coords1 : ∀ t : Fin cfg0.N, (grid0.coords t 1).val = t.val % 20 := by decide +kernel
theorem coords0 : ∀ t : Fin cfg0.N, (grid0.coords t 0).val = t.val / 20 := by decide +kernel

variable (m : (ℓ : Loc nD τ sig) → Buf (Elt F) ℓ) (ρ : Dev nD → PrngReg)

/-- What the operands' staging buffers hold at a point: each its block. -/
structure Stg (c : Dev nD) (t : Fin cfg0.N) where
  f2 : Buf (Elt F) ((st0_0 t).view.loc (c : Thread nD τ))
  f3 : Buf (Elt F) ((st0_1 t).view.loc (c : Thread nD τ))
  f4 : Buf (Elt F) ((st0_2 t).view.loc (c : Thread nD τ))
  f5 : Buf (Elt F) ((st0_3 t).view.loc (c : Thread nD τ))
  f6 : Buf (Elt F) ((st0_4 t).view.loc (c : Thread nD τ))
  f7 : Buf (Elt F) ((st0_5 t).view.loc (c : Thread nD τ))
  f8 : Buf (Elt F) ((st0_6 t).view.loc (c : Thread nD τ))
  e2 : (st0_0 t).view.read (Elt F) f2 = iblk m c 0 t
  e3 : (st0_1 t).view.read (Elt F) f3 = iblk m c 1 t
  e4 : (st0_2 t).view.read (Elt F) f4 = iblk m c 2 t
  e5 : (st0_3 t).view.read (Elt F) f5 = iblk m c 3 t
  e6 : (st0_4 t).view.read (Elt F) f6 = iblk m c 4 t
  e7 : (st0_5 t).view.read (Elt F) f7 = iblk m c 5 t
  e8 : (st0_6 t).view.read (Elt F) f8 = iblk m c 6 t

/-- The dy array as the kernel finds it. -/
abbrev XA (c : Dev nD) : Buf (Elt F) (dyM.view.loc (c : Thread nD τ)) := V m c main_v2

/-- The dh chunk after a point's computing loop. -/
abbrev dhtAt (c : Dev nD) (t : Fin cfg0.N) (S : Stg m c t) (fo : Buf (Elt F) (dhtM.view.loc (c : Thread nD τ))) : Buf (Elt F) (dhtM.view.loc (c : Thread nD τ)) :=
  dhtIter1 c (XA m c) (grid0.coords t) (st0_2 t) (st0_4 t) (st0_5 t) S.f4 S.f6 S.f7 fo k0_t1_loop.trips
/-- The accumulator after a point's storing loop, entered at `fa`. -/
abbrev accAt (c : Dev nD) (t : Fin cfg0.N) (S : Stg m c t) (fo : Buf (Elt F) (dhtM.view.loc (c : Thread nD τ))) (fa : Buf (Elt F) (accM.view.loc (c : Thread nD τ))) : Buf (Elt F) (accM.view.loc (c : Thread nD τ)) :=
  accIter c (st0_1 t) (st0_3 t) S.f3 S.f5 (dhtAt m c t S fo) fa k0_t3_loop.trips

/-- What is to hold of each element of the three results, what the accumulator is to hold between points, and that the
    kernel's writes give it. -/
structure Spec (c : Dev nD) where
  PH : Idx ((c : Thread nD τ).loc main_v20_1) → Buf (Elt F) ((c : Thread nD τ).loc main_v20_1) → Prop
  PX : Idx ((c : Thread nD τ).loc main_v20_0) → Buf (Elt F) ((c : Thread nD τ).loc main_v20_0) → Prop
  PR : Idx ((c : Thread nD τ).loc main_v20_2) → Buf (Elt F) ((c : Thread nD τ).loc main_v20_2) → Prop
  locH : ∀ i f g, f i = g i → PH i f → PH i g
  locX : ∀ i f g, f i = g i → PX i f → PX i g
  locR : ∀ i f g, f i = g i → PR i f → PR i g
  AOK : ℕ → Buf (Elt F) (accM.view.loc (c : Thread nD τ)) → Prop
  trip : ∀ (t : Fin cfg0.N) (S : Stg m c t) fo k, TripOK c (grid0.coords t) (st0_0 t) (st0_6 t) S.f2 S.f8 k (dhtAt m c t S fo)
    (fun v q f => ∀ i ∈ hS c v q, PH i f) (fun v q f => ∀ i ∈ xS c v q, PX i f)
  accS : ∀ (t : Fin cfg0.N) (S : Stg m c t) fo, t.val % 20 = 0 → AOK (t.val + 1) (accAt m c t S fo (accZ c))
  accN : ∀ (t : Fin cfg0.N) (S : Stg m c t) fo fa, t.val % 20 ≠ 0 → AOK t.val fa → AOK (t.val + 1) (accAt m c t S fo fa)
  accR : ∀ (t : Fin cfg0.N) fa, t.val % 20 = 19 → AOK (t.val + 1) fa → ∀ p, ∀ i ∈ rS c (grid0.coords t 0),
    PR i ((rpc (grid0.coords t 0)).view.writes (Elt F) p [⟨Rect.whole S32x512x256, ReadAs.same.apply (accM.view.read (Elt F) fa)⟩])

variable {m} in
abbrev Spec.HOK {c : Dev nD} (s : Spec m c) : ∀ (v : Fin 640) (q : Fin 4), Buf (Elt F) ((hpc v q).view.loc (c : Thread nD τ)) → Prop := fun v q f => ∀ i ∈ hS c v q, s.PH i f
variable {m} in
abbrev Spec.XOK {c : Dev nD} (s : Spec m c) : ∀ (v : Fin 640) (q : Fin 4), Buf (Elt F) ((xpc v q).view.loc (c : Thread nD τ)) → Prop := fun v q f => ∀ i ∈ xS c v q, s.PX i f
variable {m} in
abbrev Spec.ROK {c : Dev nD} (s : Spec m c) : ∀ h : Fin 2, Buf (Elt F) ((rpc h).view.loc (c : Thread nD τ)) → Prop := fun h f => ∀ i ∈ rS c h, s.PR i f

/-- The trivial one. -/
def Spec.triv (c : Dev nD) : Spec m c where
  PH _ _ := True
  PX _ _ := True
  PR _ _ := True
  locH _ _ _ _ _ := trivial
  locX _ _ _ _ _ := trivial
  locR _ _ _ _ _ := trivial
  AOK _ _ := True
  trip _ _ _ _ := ⟨fun _ _ _ _ => trivial, fun _ _ _ _ => trivial, fun _ _ _ _ => trivial, fun _ _ _ _ => trivial, fun _ _ _ _ => trivial, fun _ _ _ _ => trivial, fun _ _ _ _ => trivial, fun _ _ _ _ => trivial⟩
  accS _ _ _ _ := trivial
  accN _ _ _ _ _ _ := trivial
  accR _ _ _ _ _ _ _ := trivial

variable (sp : (c : Dev nD) → Spec m c)

/-- The dy ring between points: filled by the first point. -/
def ringAt (c : Dev nD) (t : ℕ) : sProp 𝕄 := if t = 0 then dring c (XA m c) 0 0 else dringN c (XA m c) (8 * t)

/-- The invariant before point `t`. -/
def inv (c : Dev nD) (t : ℕ) : sProp 𝕄 :=
  iprop(ringAt m c t ∗ drest c (XA m c) ∗ (∃ f, hld c dhtM f) ∗ (∃ fa, hld c accM fa ∗ ⌜t % 20 ≠ 0 → (sp c).AOK t fa⌝)
    ∗ cellZ c cc0_scratch8 ∗ rh c (sp c).ROK t ∗ outsAt c (sp c).HOK (sp c).XOK t ∗ (∃ r, prngReg c r))

/-- The body at a point, from what the operands' staging buffers hold: the three cases in one. -/
theorem body_at (c : Dev nD) (t : Fin cfg0.N) (S : Stg m c t) :
    iprop(reads c (st0_0 t) (st0_1 t) (st0_2 t) (st0_3 t) (st0_4 t) (st0_5 t) (st0_6 t) S.f2 S.f3 S.f4 S.f5 S.f6 S.f7 S.f8
        ∗ inv m sp c t.val ∗ (∃ W, owes (c : Thread nD τ) 0 W))
      ⊢ wp frame (wpE (defs₀ (F := F)) Variants.none (c : Thread nD τ) none) Set.univ (bodyAt0 t)
        fun _ => iprop(reads c (st0_0 t) (st0_1 t) (st0_2 t) (st0_3 t) (st0_4 t) (st0_5 t) (st0_6 t) S.f2 S.f3 S.f4 S.f5 S.f6 S.f7 S.f8
          ∗ inv m sp c (t.val + 1) ∗ (∃ W, owes (c : Thread nD τ) 0 W)) := by
  have es := stepOf_coords t
  have e1 := coords1 t
  have ht : t.val < 40 := lt_of_lt_of_eq t.isLt N_0
  have hring : ringAt m c (t.val + 1) = dringN c (XA m c) (8 * t.val + 8) := by
    unfold ringAt; rw [if_neg (by omega), Nat.mul_add]
  have houts : outsAt c (sp c).HOK (sp c).XOK t.val = outs c (sp c).HOK (sp c).XOK (16 * t.val) := by
    unfold outsAt; rw [if_neg (by omega)]
  unfold inv
  rw [hring, houts]
  iintro ⟨HR, ⟨Hr, Hd, ⟨%fo, Ho⟩, ⟨%fa, Ha, %hfa⟩, Hc, Hrh, Hout, Hp⟩, HW⟩
  by_cases h1 : t.val % 20 = 0
  · have hA := (sp c).accS t S fo h1
    have hr : (grid0.coords t 1).val = 19 → ∀ p, (sp c).ROK (grid0.coords t 0) ((rpc (grid0.coords t 0)).view.writes (Elt F) p [⟨Rect.whole S32x512x256, ReadAs.same.apply (accM.view.read (Elt F) (accAt m c t S fo (accZ c)))⟩]) :=
      fun h => by omega
    by_cases h0 : t.val = 0
    · have B := body_first (F := F) c (XA m c) (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _)
        S.f2 S.f3 S.f4 S.f5 S.f6 S.f7 S.f8 (sp c).HOK (sp c).XOK (sp c).ROK (e1.trans h1) (es.trans h0) fo fa ((sp c).trip t S fo) hr
      rw [es] at B
      have hr0 : ringAt m c t.val = dring c (XA m c) 0 0 := by unfold ringAt; rw [if_pos h0]
      ihave Hr := (Entails.of_eq hr0) $$ Hr
      iapply (wp_wand_r frame (wpE (defs₀ (F := F)) Variants.none (c : Thread nD τ) none) Set.univ)
      isplitl [HR Hr Ho Ha Hc Hrh Hout HW]
      · iapply B
        isplitl [HR]; · iexact HR
        isplitl [Hr]; · iexact Hr
        isplitl [Ho]; · iexact Ho
        isplitl [Ha]; · iexact Ha
        isplitl [Hc]; · iexact Hc
        isplitl [Hrh]; · iexact Hrh
        isplitl [Hout]; · iexact Hout
        iexact HW
      iintro %u ⟨HR, Hr, Ho, Ha, Hc, Hrh, Hout, HW⟩
      isplitl [HR]; · iexact HR
      isplitr [HW]
      · isplitl [Hr]; · iexact Hr
        isplitl [Hd]; · iexact Hd
        isplitl [Ho]; · iexists _; iexact Ho
        isplitl [Ha]
        · iexists _
          isplitl [Ha]; · iexact Ha
          ipureintro; exact fun _ => hA
        isplitl [Hc]; · iexact Hc
        isplitl [Hrh]; · iexact Hrh
        isplitl [Hout]; · iexact Hout
        iexact Hp
      iexact HW
    · have B := body_half (F := F) c (XA m c) (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _)
        S.f2 S.f3 S.f4 S.f5 S.f6 S.f7 S.f8 (sp c).HOK (sp c).XOK (sp c).ROK (e1.trans h1) (by rw [es]; exact h0) fo fa ((sp c).trip t S fo) hr
      rw [es] at B
      have hr0 : ringAt m c t.val = dringN c (XA m c) (8 * t.val) := by unfold ringAt; rw [if_neg h0]
      ihave Hr := (Entails.of_eq hr0) $$ Hr
      iapply (wp_wand_r frame (wpE (defs₀ (F := F)) Variants.none (c : Thread nD τ) none) Set.univ)
      isplitl [HR Hr Ho Ha Hc Hrh Hout HW]
      · iapply B
        isplitl [HR]; · iexact HR
        isplitl [Hr]; · iexact Hr
        isplitl [Ho]; · iexact Ho
        isplitl [Ha]; · iexact Ha
        isplitl [Hc]; · iexact Hc
        isplitl [Hrh]; · iexact Hrh
        isplitl [Hout]; · iexact Hout
        iexact HW
      iintro %u ⟨HR, Hr, Ho, Ha, Hc, Hrh, Hout, HW⟩
      isplitl [HR]; · iexact HR
      isplitr [HW]
      · isplitl [Hr]; · iexact Hr
        isplitl [Hd]; · iexact Hd
        isplitl [Ho]; · iexists _; iexact Ho
        isplitl [Ha]
        · iexists _
          isplitl [Ha]; · iexact Ha
          ipureintro; exact fun _ => hA
        isplitl [Hc]; · iexact Hc
        isplitl [Hrh]; · iexact Hrh
        isplitl [Hout]; · iexact Hout
        iexact Hp
      iexact HW
  · have hA := (sp c).accN t S fo fa h1 (hfa h1)
    have hr : (grid0.coords t 1).val = 19 → ∀ p, (sp c).ROK (grid0.coords t 0) ((rpc (grid0.coords t 0)).view.writes (Elt F) p [⟨Rect.whole S32x512x256, ReadAs.same.apply (accM.view.read (Elt F) (accAt m c t S fo fa))⟩]) :=
      fun h p => (sp c).accR t _ (by omega) hA p
    have B := body_mid (F := F) c (XA m c) (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _)
      S.f2 S.f3 S.f4 S.f5 S.f6 S.f7 S.f8 (sp c).HOK (sp c).XOK (sp c).ROK (by rw [e1]; exact h1) fo fa ((sp c).trip t S fo) hr
    rw [es] at B
    have hr0 : ringAt m c t.val = dringN c (XA m c) (8 * t.val) := by unfold ringAt; rw [if_neg (by omega)]
    ihave Hr := (Entails.of_eq hr0) $$ Hr
    iapply (wp_wand_r frame (wpE (defs₀ (F := F)) Variants.none (c : Thread nD τ) none) Set.univ)
    isplitl [HR Hr Ho Ha Hc Hrh Hout HW]
    · iapply B
      isplitl [HR]; · iexact HR
      isplitl [Hr]; · iexact Hr
      isplitl [Ho]; · iexact Ho
      isplitl [Ha]; · iexact Ha
      isplitl [Hc]; · iexact Hc
      isplitl [Hrh]; · iexact Hrh
      isplitl [Hout]; · iexact Hout
      iexact HW
    iintro %u ⟨HR, Hr, Ho, Ha, Hc, Hrh, Hout, HW⟩
    isplitl [HR]; · iexact HR
    isplitr [HW]
    · isplitl [Hr]; · iexact Hr
      isplitl [Hd]; · iexact Hd
      isplitl [Ho]; · iexists _; iexact Ho
      isplitl [Ha]
      · iexists _
        isplitl [Ha]; · iexact Ha
        ipureintro; exact fun _ => hA
      isplitl [Hc]; · iexact Hc
      isplitl [Hrh]; · iexact Hrh
      isplitl [Hout]; · iexact Hout
      iexact Hp
    iexact HW

end Cert.Kernel.Hand
-- ==== Proof.K.Launch.lean ====
module

public import proofs.«01_k».proof.Proof.K.Run

/-! The run of `main`: entry into the invariant, exit from it, and the claims' posts. -/

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg) (sp : (c : Dev nD) → Spec m c)

/-- The proof data. -/
def dats (_ : Fin 1) (c : Dev nD) : Dat τ (Elt F) Unit ℕ (Pipeline.UD sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t | 6 => iblk m c 6 t
  Φ t := inv m sp c t.val
  q _ := fullShare
  owed _ := 0

theorem A_eq (c : Dev nD) (w) : (dats m sp 0 c).A w = V m c (Pipeline.arrRef spec0 w) := by dsimp only [dats]
theorem after0 (c : Dev nD) (t) : (dats m sp 0 c).after 0 t = iblk m c 0 t := by dsimp only [dats]
theorem after1 (c : Dev nD) (t) : (dats m sp 0 c).after 1 t = iblk m c 1 t := by dsimp only [dats]
theorem after2 (c : Dev nD) (t) : (dats m sp 0 c).after 2 t = iblk m c 2 t := by dsimp only [dats]
theorem after3 (c : Dev nD) (t) : (dats m sp 0 c).after 3 t = iblk m c 3 t := by dsimp only [dats]
theorem after4 (c : Dev nD) (t) : (dats m sp 0 c).after 4 t = iblk m c 4 t := by dsimp only [dats]
theorem after5 (c : Dev nD) (t) : (dats m sp 0 c).after 5 t = iblk m c 5 t := by dsimp only [dats]
theorem after6 (c : Dev nD) (t) : (dats m sp 0 c).after 6 t = iblk m c 6 t := by dsimp only [dats]
theorem before0 (c : Dev nD) (t : Fin cfg0.N) (d) : (dats m sp 0 c).before 0 t d = iblk m c 0 t :=
  ((dats m sp 0 c).before_in_eq_fetched 0 rfl (fun _ => rfl) (fun _ _ _ => rfl) (fun t => by rw [after0 m sp c]; unfold Dat.blockOf iblk; rw [A_eq m sp c]; try rfl) t d).trans
    (by unfold Dat.fetched Dat.blockOf iblk; rw [A_eq m sp c]; try rfl)
theorem before1 (c : Dev nD) (t : Fin cfg0.N) (d) : (dats m sp 0 c).before 1 t d = iblk m c 1 t :=
  ((dats m sp 0 c).before_in_eq_fetched 1 rfl (fun _ => rfl) (fun _ _ _ => rfl) (fun t => by rw [after1 m sp c]; unfold Dat.blockOf iblk; rw [A_eq m sp c]; try rfl) t d).trans
    (by unfold Dat.fetched Dat.blockOf iblk; rw [A_eq m sp c]; try rfl)
theorem before2 (c : Dev nD) (t : Fin cfg0.N) (d) : (dats m sp 0 c).before 2 t d = iblk m c 2 t :=
  ((dats m sp 0 c).before_in_eq_fetched 2 rfl (fun _ => rfl) (fun _ _ _ => rfl) (fun t => by rw [after2 m sp c]; unfold Dat.blockOf iblk; rw [A_eq m sp c]; try rfl) t d).trans
    (by unfold Dat.fetched Dat.blockOf iblk; rw [A_eq m sp c]; try rfl)
theorem before3 (c : Dev nD) (t : Fin cfg0.N) (d) : (dats m sp 0 c).before 3 t d = iblk m c 3 t :=
  ((dats m sp 0 c).before_in_eq_fetched 3 rfl (fun _ => rfl) (fun _ _ _ => rfl) (fun t => by rw [after3 m sp c]; unfold Dat.blockOf iblk; rw [A_eq m sp c]; try rfl) t d).trans
    (by unfold Dat.fetched Dat.blockOf iblk; rw [A_eq m sp c]; try rfl)
theorem before4 (c : Dev nD) (t : Fin cfg0.N) (d) : (dats m sp 0 c).before 4 t d = iblk m c 4 t :=
  ((dats m sp 0 c).before_in_eq_fetched 4 rfl (fun _ => rfl) (fun _ _ _ => rfl) (fun t => by rw [after4 m sp c]; unfold Dat.blockOf iblk; rw [A_eq m sp c]; try rfl) t d).trans
    (by unfold Dat.fetched Dat.blockOf iblk; rw [A_eq m sp c]; try rfl)
theorem before5 (c : Dev nD) (t : Fin cfg0.N) (d) : (dats m sp 0 c).before 5 t d = iblk m c 5 t :=
  ((dats m sp 0 c).before_in_eq_fetched 5 rfl (fun _ => rfl) (fun _ _ _ => rfl) (fun t => by rw [after5 m sp c]; unfold Dat.blockOf iblk; rw [A_eq m sp c]; try rfl) t d).trans
    (by unfold Dat.fetched Dat.blockOf iblk; rw [A_eq m sp c]; try rfl)
theorem before6 (c : Dev nD) (t : Fin cfg0.N) (d) : (dats m sp 0 c).before 6 t d = iblk m c 6 t :=
  ((dats m sp 0 c).before_in_eq_fetched 6 rfl (fun _ => rfl) (fun _ _ _ => rfl) (fun t => by rw [after6 m sp c]; unfold Dat.blockOf iblk; rw [A_eq m sp c]; try rfl) t d).trans
    (by unfold Dat.fetched Dat.blockOf iblk; rw [A_eq m sp c]; try rfl)

/-- A whole buffer held through its memref is the buffer held. -/
theorem hld_whole {sp : Space} {S : Shape} {e : EltTy} (c : Dev nD) (M : Memref sig .tc sp S e) (f : Buf (Elt F) (M.view.loc (c : Thread nD τ))) (h : M.view.set = Finset.univ) :
    (M.view.loc (c : Thread nD τ) ↦{fullShare} f : sProp 𝕄) ⊢ hld c M f := by
  unfold hld; rw [h]
theorem hld_whole' {sp : Space} {S : Shape} {e : EltTy} (c : Dev nD) (M : Memref sig .tc sp S e) (f : Buf (Elt F) (M.view.loc (c : Thread nD τ))) (h : M.view.set = Finset.univ) :
    hld c M f ⊢ (M.view.loc (c : Thread nD τ) ↦{fullShare} f : sProp 𝕄) := by
  unfold hld; rw [h]

/-- What the body meets at a point, and what it leaves. -/
def bodyPre (c : Dev nD) (t : Fin cfg0.N) : sProp 𝕄 :=
  iprop((dats m sp 0 c).Φ t.castSucc ∗ (dats m sp 0 c).owesAt () t.castSucc
    ∗ (∃ d, owns (c : Thread nD τ) (st0_0 t) fullShare ((dats m sp 0 c).before 0 t d))
    ∗ (∃ d, owns (c : Thread nD τ) (st0_1 t) fullShare ((dats m sp 0 c).before 1 t d))
    ∗ (∃ d, owns (c : Thread nD τ) (st0_2 t) fullShare ((dats m sp 0 c).before 2 t d))
    ∗ (∃ d, owns (c : Thread nD τ) (st0_3 t) fullShare ((dats m sp 0 c).before 3 t d))
    ∗ (∃ d, owns (c : Thread nD τ) (st0_4 t) fullShare ((dats m sp 0 c).before 4 t d))
    ∗ (∃ d, owns (c : Thread nD τ) (st0_5 t) fullShare ((dats m sp 0 c).before 5 t d))
    ∗ (∃ d, owns (c : Thread nD τ) (st0_6 t) fullShare ((dats m sp 0 c).before 6 t d)))
def bodyPost (c : Dev nD) (t : Fin cfg0.N) : sProp 𝕄 :=
  iprop((dats m sp 0 c).Φ t.succ ∗ (dats m sp 0 c).owesAt () t.succ
    ∗ owns (c : Thread nD τ) (st0_0 t) fullShare ((dats m sp 0 c).after 0 t)
    ∗ owns (c : Thread nD τ) (st0_1 t) fullShare ((dats m sp 0 c).after 1 t)
    ∗ owns (c : Thread nD τ) (st0_2 t) fullShare ((dats m sp 0 c).after 2 t)
    ∗ owns (c : Thread nD τ) (st0_3 t) fullShare ((dats m sp 0 c).after 3 t)
    ∗ owns (c : Thread nD τ) (st0_4 t) fullShare ((dats m sp 0 c).after 4 t)
    ∗ owns (c : Thread nD τ) (st0_5 t) fullShare ((dats m sp 0 c).after 5 t)
    ∗ owns (c : Thread nD τ) (st0_6 t) fullShare ((dats m sp 0 c).after 6 t))

theorem sound_body (c : Dev nD) (t : Fin cfg0.N) :
    bodyPre m sp c t ⊢ wp frame (wpE (defs₀ (F := F)) Variants.none c none) Set.univ (bodyAt0 t) (fun _ => bodyPost m sp c t) := by
  unfold bodyPre bodyPost
  rw [show (dats m sp 0 c).Φ t.succ = inv m sp c (t.val + 1) from rfl, show (dats m sp 0 c).Φ t.castSucc = inv m sp c t.val from rfl,
    after0, after1, after2, after3, after4, after5, after6]
  simp only [before0, before1, before2, before3, before4, before5, before6]
  unfold Dat.owesAt Pipeline.owesWithin
  rw [show (dats m sp 0 c).owed t.castSucc = 0 from rfl, show (dats m sp 0 c).owed t.succ = 0 from rfl]
  unfold owns
  iintro ⟨HΦ, ⟨%W, -, HW⟩, ⟨%d0, %f2, %e2, H2⟩, ⟨%d1, %f3, %e3, H3⟩, ⟨%d2, %f4, %e4, H4⟩, ⟨%d3, %f5, %e5, H5⟩, ⟨%d4, %f6, %e6, H6⟩, ⟨%d5, %f7, %e7, H7⟩, ⟨%d6, %f8, %e8, H8⟩⟩
  iapply (wp_wand_r frame (wpE (defs₀ (F := F)) Variants.none (c : Thread nD τ) none) Set.univ)
  isplitl [HΦ HW H2 H3 H4 H5 H6 H7 H8]
  · iapply (body_at m sp c t ⟨f2, f3, f4, f5, f6, f7, f8, e2, e3, e4, e5, e6, e7, e8⟩)
    unfold reads
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    isplitl [HΦ]; · iexact HΦ
    iexists W; iexact HW
  unfold reads
  iintro %u ⟨⟨H2, H3, H4, H5, H6, H7, H8⟩, HΦ, ⟨%W', HW⟩⟩
  isplitl [HΦ]; · iexact HΦ
  isplitl [HW]
  · iexists W'; isplitr; · ipureintro; exact fun _ _ => Or.inl trivial
    iexact HW
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  iexists f8; isplitr; · ipureintro; exact e8
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m sp 0 c) (defs₀ (F := F)) Variants.none () Set.univ := fun t => by
  rw [bigSep_W0, bigSep_W0, defs₀_row]
  exact triple_restated (sound_body m sp c t) rfl .rfl fun _ => .rfl

/-! ## Entry and exit -/

/-- The kernel's own cells. -/
abbrev osem0 : Fin 9 → SemLoc sig := fun j => (![SemLoc.dma 10, SemLoc.dma 11, SemLoc.dma 12, SemLoc.dma 13, SemLoc.dma 14, SemLoc.dma 15, SemLoc.dma 16, SemLoc.dma 17, SemLoc.dma 18] : Fin 9 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellZ c (csD 0) ∗ cellZ c (csD 1) ∗ cellZ c (csD 2) ∗ cellZ c (csD 3) ∗ cellZ c (csH 0) ∗ cellZ c (csH 1) ∗ cellZ c (csX 0) ∗ cellZ c (csX 1) ∗ cellZ c cc0_scratch8) := by
  have hD : ∀ s : Fin 4, (csD s).sem = ⟨10 + s.val, by have := s.isLt; show 10 + s.val < 19; omega⟩ := by decide
  have hH : ∀ s : Fin 2, (csH s).sem = ⟨14 + s.val, by have := s.isLt; show 14 + s.val < 19; omega⟩ := by decide
  have hX : ∀ s : Fin 2, (csX s).sem = ⟨16 + s.val, by have := s.isLt; show 16 + s.val < 19; omega⟩ := by decide
  have h8 : cc0_scratch8.sem = 18 := by decide
  unfold cellZ
  rw [hD, hD, hD, hD, hH, hH, hX, hX, h8, Pipeline.ownSems0_eq_of_list c osem0 [0, 1, 2, 3, 4, 5, 6, 7, 8] (by decide) (by decide)]; rfl

/-- The array the kernel copies from, and the three results. -/
def H0 : Finset (Ref sig .tc) := {main_v2}
def R0 : Finset (Ref sig .tc) := {main_v20_0, main_v20_1, main_v20_2}
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} V m c b) : sProp 𝕄) = iprop(((c : Thread nD τ).loc main_v2) ↦{fullShare} V m c main_v2) := by
  rw [BI.bigSep_eq_bigSepL_of_eq [main_v2] (by decide) (by decide)]; rfl
theorem ownedPts0_eq (c : Dev nD) :
    (Pipeline.owned R0 c : sProp 𝕄)
      = iprop((∃ f : Buf (Elt F) ((c : Thread nD τ).loc main_v20_0), ((c : Thread nD τ).loc main_v20_0) ↦{fullShare} f)
        ∗ (∃ f : Buf (Elt F) ((c : Thread nD τ).loc main_v20_1), ((c : Thread nD τ).loc main_v20_1) ↦{fullShare} f)
        ∗ (∃ f : Buf (Elt F) ((c : Thread nD τ).loc main_v20_2), ((c : Thread nD τ).loc main_v20_2) ↦{fullShare} f)) := by
  unfold Pipeline.owned; rw [BI.bigSep_eq_bigSepL_of_eq [main_v20_0, main_v20_1, main_v20_2] (by decide) (by decide)]; rfl
theorem routedPts0_eq (c : Dev nD) (G : (b : Ref sig .tc) → Buf (Elt F) ((c : Thread nD τ).loc b)) :
    (Pipeline.routed R0 c G : sProp 𝕄)
      = iprop((((c : Thread nD τ).loc main_v20_0) ↦{fullShare} G main_v20_0)
        ∗ (((c : Thread nD τ).loc main_v20_1) ↦{fullShare} G main_v20_1)
        ∗ (((c : Thread nD τ).loc main_v20_2) ↦{fullShare} G main_v20_2)) := by
  unfold Pipeline.routed; rw [BI.bigSep_eq_bigSepL_of_eq [main_v20_0, main_v20_1, main_v20_2] (by decide) (by decide)]; rfl

theorem enter (c : Dev nD) : Pipeline.ΦDR osem0 spec0 H0 R0 (V m) c ⊢ inv m sp c 0 := by
  rw [Pipeline.ΦDR_eq, scopedRest0_eq, ownSems00_eq, hbmPts0_eq, ownedPts0_eq]
  have hr0 : ringAt m c 0 = iprop(dslot c (XA m c) 0 none ∗ dslot c (XA m c) 1 none ∗ dslot c (XA m c) 2 none ∗ dslot c (XA m c) 3 none) := by
    unfold ringAt; rw [if_pos rfl, dring_zero]
  have ho0 : outsAt c (sp c).HOK (sp c).XOK 0 = outs c (sp c).HOK (sp c).XOK 0 := by unfold outsAt; rw [if_neg (by decide)]
  unfold inv
  rw [hr0, ho0, dslot_none, dslot_none, dslot_none, dslot_none]
  iintro ⟨⟨⟨%r0, S0⟩, S1, ⟨%a0, S2⟩, S3, S4⟩, Hg, ⟨D0, D1, D2, D3, CH0, CH1, CX0, CX1, C8⟩, Hy, ⟨HX, HH, HR⟩⟩
  ihave S0 := (ring_cut c r0) $$ S0
  icases S0 with ⟨T0, T1, T2, T3⟩
  ihave Hy := ((dtoks c (XA m c)).mp) $$ Hy
  icases Hy with ⟨Hd, K0, K1, K2, K3⟩
  isplitl [D0 D1 D2 D3 T0 T1 T2 T3 K0 K1 K2 K3]
  · isplitl [D0 T0 K0]
    · isplitl [D0]; · iexact D0
      isplitl [T0]; · iexact T0
      iexact K0
    isplitl [D1 T1 K1]
    · isplitl [D1]; · iexact D1
      isplitl [T1]; · iexact T1
      iexact K1
    isplitl [D2 T2 K2]
    · isplitl [D2]; · iexact D2
      isplitl [T2]; · iexact T2
      iexact K2
    isplitl [D3]; · iexact D3
    isplitl [T3]; · iexact T3
    iexact K3
  isplitl [Hd]; · iexact Hd
  isplitl [S1]
  · icases S1 with ⟨%f1, S1⟩
    iexists f1; iapply (hld_whole c dhtM f1 (View.set_whole _)); iexact S1
  isplitl [S2]
  · iexists a0
    isplitl [S2]; · iapply (hld_whole c accM a0 (View.set_whole _)); iexact S2
    ipureintro; intro h; exact absurd rfl h
  isplitl [C8]; · iexact C8
  isplitl [HR]; · iapply (rh_start c (sp c).ROK); iexact HR
  isplitr [Hg]
  · iapply (outs_start c (sp c).HOK (sp c).XOK)
    isplitl [CH0 CH1 CX0 CX1]
    · isplitl [CH0]; · iexact CH0
      isplitl [CH1]; · iexact CH1
      isplitl [CX0]; · iexact CX0
      iexact CX1
    isplitl [S3]; · iexact S3
    isplitl [S4]; · iexact S4
    isplitl [HX]; · iexact HX
    iexact HH
  iexact Hg

/-- At the end the pieces are whole again, each result at contents of which what was asked holds. -/
theorem leave' (c : Dev nD) : inv m sp c 40 ⊢
    iprop(Pipeline.scopedRest (Ix := Unit) (Name := ℕ) (U := Pipeline.UD sig nD τ) (Lvl := ℕ) (Val := Elt F) spec0 c ∗ (∃ r, prngReg c r)
      ∗ Pipeline.ownSems0 (Ix := Unit) (Name := ℕ) (U := Pipeline.UD sig nD τ) (Lvl := ℕ) (Val := Elt F) (τ := τ) osem0 c
      ∗ (bigSep H0 fun b => ((c : Thread nD τ).loc b) ↦{fullShare} V m c b)
      ∗ (∃ f : Buf (Elt F) ((c : Thread nD τ).loc main_v20_0), ⌜∀ i, (sp c).PX i f⌝ ∗ ((c : Thread nD τ).loc main_v20_0) ↦{fullShare} f)
      ∗ (∃ f : Buf (Elt F) ((c : Thread nD τ).loc main_v20_1), ⌜∀ i, (sp c).PH i f⌝ ∗ ((c : Thread nD τ).loc main_v20_1) ↦{fullShare} f)
      ∗ (∃ f : Buf (Elt F) ((c : Thread nD τ).loc main_v20_2), ⌜∀ i, (sp c).PR i f⌝ ∗ ((c : Thread nD τ).loc main_v20_2) ↦{fullShare} f)) := by
  rw [scopedRest0_eq, ownSems00_eq, hbmPts0_eq]
  have hr0 : ringAt m c 40 = iprop(dslot c (XA m c) 0 none ∗ dslot c (XA m c) 1 none ∗ dslot c (XA m c) 2 none ∗ dslot c (XA m c) 3 none) := by
    unfold ringAt; rw [if_neg (by decide)]
    exact dring_free c (XA m c) 320 (dst 320 320) (by decide)
  have ho0 : outsAt c (sp c).HOK (sp c).XOK 40 = outsFin c (sp c).HOK (sp c).XOK := by unfold outsAt; rw [if_pos rfl]
  unfold inv
  rw [hr0, ho0, dslot_none, dslot_none, dslot_none, dslot_none]
  iintro ⟨⟨⟨D0, T0, K0⟩, ⟨D1, T1, K1⟩, ⟨D2, T2, K2⟩, ⟨D3, T3, K3⟩⟩, Hd, ⟨%f1, S1⟩, ⟨%a0, S2, -⟩, C8, HR, HO, Hg⟩
  ihave HO := (outs_end c (sp c).PH (sp c).locH (sp c).PX (sp c).locX) $$ HO
  icases HO with ⟨⟨CH0, CH1, CX0, CX1⟩, S3, S4, HX, HH⟩
  ihave HR := (rh_end c (sp c).PR (sp c).locR) $$ HR
  isplitl [T0 T1 T2 T3 S1 S2 S3 S4]
  · isplitl [T0 T1 T2 T3]
    · iapply (ring_glue c)
      isplitl [T0]; · iexact T0
      isplitl [T1]; · iexact T1
      isplitl [T2]; · iexact T2
      iexact T3
    isplitl [S1]; · iexists f1; iapply (hld_whole' c dhtM f1 (View.set_whole _)); iexact S1
    isplitl [S2]; · iexists a0; iapply (hld_whole' c accM a0 (View.set_whole _)); iexact S2
    isplitl [S3]; · iexact S3
    iexact S4
  isplitl [Hg]; · iexact Hg
  isplitl [D0 D1 D2 D3 CH0 CH1 CX0 CX1 C8]
  · isplitl [D0]; · iexact D0
    isplitl [D1]; · iexact D1
    isplitl [D2]; · iexact D2
    isplitl [D3]; · iexact D3
    isplitl [CH0]; · iexact CH0
    isplitl [CH1]; · iexact CH1
    isplitl [CX0]; · iexact CX0
    isplitl [CX1]; · iexact CX1
    iexact C8
  isplitl [Hd K0 K1 K2 K3]
  · iapply ((dtoks c (XA m c)).mpr)
    isplitl [Hd]; · iexact Hd
    isplitl [K0]; · iexact K0
    isplitl [K1]; · iexact K1
    isplitl [K2]; · iexact K2
    iexact K3
  isplitl [HX]; · iexact HX
  isplitl [HH]; · iexact HH
  iexact HR

theorem leave (c : Dev nD) : inv m sp c 40 ⊢ Pipeline.ΦDR osem0 spec0 H0 R0 (V m) c := by
  refine (leave' m sp c).trans ?_
  rw [Pipeline.ΦDR_eq, ownedPts0_eq]
  iintro ⟨S, Hg, Ho, Hy, ⟨%f, -, HX⟩, ⟨%g, -, HH⟩, ⟨%h, -, HR⟩⟩
  isplitl [S]; · iexact S
  isplitl [Hg]; · iexact Hg
  isplitl [Ho]; · iexact Ho
  isplitl [Hy]; · iexact Hy
  isplitl [HX]; · iexists f; iexact HX
  isplitl [HH]; · iexists g; iexact HH
  iexists h; iexact HR

/-- The results, when the properties asked of them fix them. -/
theorem leaveG (c : Dev nD) (G : (c : Dev nD) → (b : Ref sig .tc) → Buf (Elt F) ((c : Thread nD τ).loc b))
    (hX : ∀ f, (∀ i, (sp c).PX i f) → f = G c main_v20_0) (hH : ∀ f, (∀ i, (sp c).PH i f) → f = G c main_v20_1) (hR : ∀ f, (∀ i, (sp c).PR i f) → f = G c main_v20_2) :
    inv m sp c 40 ⊢ Pipeline.ΦDRG osem0 spec0 H0 R0 (V m) G c := by
  refine (leave' m sp c).trans ?_
  rw [Pipeline.ΦDRG_eq, routedPts0_eq]
  iintro ⟨S, Hg, Ho, Hy, ⟨%f, %hf, HX⟩, ⟨%g, %hg, HH⟩, ⟨%h, %hh, HR⟩⟩
  rw [← hX f hf, ← hH g hg, ← hR h hh]
  isplitl [S]; · iexact S
  isplitl [Hg]; · iexact Hg
  isplitl [Ho]; · iexact Ho
  isplitl [Hy]; · iexact Hy
  isplitl [HX]; · iexact HX
  isplitl [HH]; · iexact HH
  iexact HR

/-! ## The run -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePostR cfgs (dats m sp) 0 R0 (V m) r ∧ r.2.sem = fun _ => 0) :=
  Pipeline.θ_run_frame_dmaR (Q' := _) cfgs (dats m sp) (0 : Fin 1) launch0 osem0 defs₀ Variants.none ownSemFacts0 H0 R0 H0_sub R0_sub m ρ main
    (hbody := fun c => (body_obligation m sp c).loose) (hshare := fun c => (dats m sp 0 c).share_full fun _ => rfl)
    (howed := fun _ _ => rfl) (V := V m) (hmain := hmainD m Variants.none) (hA := A_eq m sp)
    (hin := fun c => enter m sp c) (hout := fun c => leave m sp c)

set_option backward.isDefEq.respectTransparency.types false in
theorem run_mainG (G : (c : Dev nD) → (b : Ref sig .tc) → Buf (Elt F) ((c : Thread nD τ).loc b))
    (hX : ∀ c f, (∀ i, (sp c).PX i f) → f = G c main_v20_0) (hH : ∀ c f, (∀ i, (sp c).PH i f) → f = G c main_v20_1) (hR : ∀ c f, (∀ i, (sp c).PR i f) → f = G c main_v20_2) :
    θ_run defs (onTc (τ := τ) (main (F := F))) (s₀ m ρ) (fun r => Pipeline.FramePostRG cfgs (dats m sp) 0 R0 (V m) G r ∧ r.2.sem = fun _ => 0) :=
  Pipeline.θ_run_frame_dmaRG (Q' := _) cfgs (dats m sp) (0 : Fin 1) launch0 osem0 defs₀ Variants.none ownSemFacts0 H0 R0 H0_sub R0_sub m ρ main
    (hbody := fun c => (body_obligation m sp c).loose) (hshare := fun c => (dats m sp 0 c).share_full fun _ => rfl)
    (howed := fun _ _ => rfl) (V := V m) (hmain := hmainD m Variants.none) (hA := A_eq m sp) G
    (hin := fun c => (Pipeline.ΦDRG_ΦDR osem0 spec0 H0 R0 (V m) (V m) c).trans (enter m sp c)) (hout := fun c => leaveG m sp c G (hX c) (hH c) (hR c))

/-- The arguments, off a run's post. -/
theorem args_of (r : PUnit × MemSt nD τ sig (Elt F)) (h : Pipeline.FramePostR cfgs (dats m sp) 0 R0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Finset.mem_sdiff.mpr ⟨Pipeline.mem_restRefs_of main_arg0 (by decide) (by decide), by decide⟩)).trans (V_main_arg0 m c),
    ((h c).2 main_arg1 (Finset.mem_sdiff.mpr ⟨Pipeline.mem_restRefs_of main_arg1 (by decide) (by decide), by decide⟩)).trans (V_main_arg1 m c),
    ((h c).2 main_arg2 (Finset.mem_sdiff.mpr ⟨Pipeline.mem_restRefs_of main_arg2 (by decide) (by decide), by decide⟩)).trans (V_main_arg2 m c),
    ((h c).2 main_arg3 (Finset.mem_sdiff.mpr ⟨Pipeline.mem_restRefs_of main_arg3 (by decide) (by decide), by decide⟩)).trans (V_main_arg3 m c),
    ((h c).1 6).trans (((dats m sp 0 c).arrAt_in 6 rfl _).trans ((A_eq m sp c 6).trans (V_main_arg4 m c))),
    ((h c).1 0).trans (((dats m sp 0 c).arrAt_in 0 rfl _).trans ((A_eq m sp c 0).trans (V_main_arg5 m c))),
    ((h c).2 main_arg6 (Finset.mem_sdiff.mpr ⟨Pipeline.mem_restRefs_of main_arg6 (by decide) (by decide), by decide⟩)).trans (V_main_arg6 m c),
    ((h c).2 main_arg7 (Finset.mem_sdiff.mpr ⟨Pipeline.mem_restRefs_of main_arg7 (by decide) (by decide), by decide⟩)).trans (V_main_arg7 m c)⟩

/-- The frame: every run ends with the arguments as launched and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => args_of m (fun c => Spec.triv m c) r h.1 c, h.2⟩) (run_main m ρ fun c => Spec.triv m c)

end Cert.Kernel.Hand
-- ==== Proof.KV.Pay.lean ====
module

public import proofs.«01_k».proof.Proof.Gen.KernelIdeal.Skeleton
public import Idealize.ShloMosaic.Lib.Pointwise

/-! What the kernel's composed operations compute over the extended reals, element by element. -/

@[expose] public section

noncomputable section

namespace Cert.KernelIdeal.Hand

open Cert.KernelIdeal Cert.KernelIdeal.Gen
open Idealize.ShloMosaic

/-- The column of the packed product that holds source column `s` of row residue `r`. -/
def em (r : Fin 8) (s : Fin 32) : Fin 256 := ⟨s.val / 4 * 32 + r.val * 4 + s.val % 4, by have := r.isLt; have := s.isLt; omega⟩

theorem em_inj (r : Fin 8) : Function.Injective (em r) := by
  intro a b h
  have := congrArg Fin.val h
  simp only [em] at this
  exact Fin.ext (by omega)

/-- A sum over the packed columns, those of another residue masked out, is the sum over the source columns. -/
theorem sum_masked (r : Fin 8) (A B : Fin 256 → EReal) :
    ∑ l : Fin 256, (if r.val = l.val / 4 % 8 then A l else 0) * B l = ∑ s : Fin 32, A (em r s) * B (em r s) := by
  refine (Fintype.sum_of_injective (em r) (em_inj r) _ _ (fun l hl => ?_) (fun s => ?_)).symm
  · rw [if_neg, zero_mul]
    intro h
    refine hl ⟨⟨l.val / 32 * 4 + l.val % 4, by have := l.isLt; omega⟩, Fin.ext ?_⟩
    have := l.isLt
    simp only [em]; omega
  · rw [if_pos]
    have := r.isLt; have := s.isLt
    simp only [em]; omega

theorem mask_bits (a b : Fin 256) : IntOp.cmpi .eq (IntOp.andi (BitVec.ofNat 32 a.val) 7#32) (IntOp.andi (IntOp.shrsi .vector (BitVec.ofNat 32 b.val) 2#32) 7#32)
    = if a.val % 8 = b.val / 4 % 8 then 1#1 else 0#1 := by
  have e1 : ∀ a : Fin 256, IntOp.andi (BitVec.ofNat 32 a.val) 7#32 = BitVec.ofNat 32 (a.val % 8) := by decide +kernel
  have e2 : ∀ b : Fin 256, IntOp.andi (IntOp.shrsi .vector (BitVec.ofNat 32 b.val) 2#32) 7#32 = BitVec.ofNat 32 (b.val / 4 % 8) := by decide +kernel
  have e3 : ∀ x y : Fin 8, IntOp.cmpi .eq (BitVec.ofNat 32 x.val) (BitVec.ofNat 32 y.val) = if x.val = y.val then 1#1 else 0#1 := by decide +kernel
  rw [e1, e2]
  exact e3 ⟨a.val % 8, by omega⟩ ⟨b.val / 4 % 8, by omega⟩

/-- The mask at an index. -/
theorem mask_apply (a b : Fin 256) : (k0_pay1 : IVec S256x256 1) (ix2 a b) = if a.val % 8 = b.val / 4 % 8 then 1#1 else 0#1 := by
  rw [← mask_bits]
  pointwise [k0_pay1]

/-- A masked factor keeps the columns of the row's residue. -/
theorem sum_sel (r : Fin 8) (a : Fin 256) (ha : a.val % 8 = r.val) (A : Fin 256 → EReal) :
    ∑ x : Fin 256, Scalar.select ((k0_pay1 : IVec S256x256 1) (ix2 a x)) (A x) 0 = ∑ s : Fin 32, A (em r s) := by
  have h := sum_masked r A (fun _ => 1)
  simp only [mul_one] at h
  rw [← h]
  refine Finset.sum_congr rfl fun x _ => ?_
  rw [mask_apply, ha]
  by_cases hx : r.val = x.val / 4 % 8
  · rw [if_pos hx, if_pos hx]; rfl
  · rw [if_neg hx, if_neg hx]; rfl

/-- One element of the dh chunk: the codes of dy at their scales against those of the left factor, the sum scaled. -/
def dhE (r : Vec Ideal S1x1x256x256 .fp8e5m2) (d : Vec Ideal S8x16x256 .bf16) (l : Vec Ideal S1x256x256 .fp8e4m3) (s : Vec Ideal S8x128 .f32)
    (k : Fin 32) (a : Fin 8) (t : Fin 256) (b : Fin 128) : EReal :=
  (∑ x : Fin 32, (l (ix3 0 (⟨k.val * 8 + a.val, by omega⟩ : Fin 256) (em a x)) : EReal)
    * ((r (ix4 0 0 (em a x) t) : EReal) * (d (ix3 (⟨(em a x).val / 32, by have := (em a x).isLt; omega⟩ : Fin 8) (⟨(em a x).val % 16, by omega⟩ : Fin 16) t) : EReal)))
    * (s (ix2 a b) : EReal)

section
variable (r : Vec Ideal S1x1x256x256 .fp8e5m2) (d : Vec Ideal S8x16x256 .bf16) (l : Vec Ideal S1x256x256 .fp8e4m3) (s : Vec Ideal S8x128 .f32)

theorem dhE_eq (k : Fin 32) (a : Fin 8) (t : Fin 256) (b : Fin 128) :
    dhE r d l s k a t b = (∑ x : Fin 256, (Scalar.select ((k0_pay1 : IVec S256x256 1) (ix2 (⟨k.val * 8 + a.val, by omega⟩ : Fin 256) x))
      ((l (ix3 0 (⟨k.val * 8 + a.val, by omega⟩ : Fin 256) x) : EReal)
        * ((r (ix4 0 0 x t) : EReal) * (d (ix3 (⟨x.val / 32, by have := x.isLt; omega⟩ : Fin 8) (⟨x.val % 16, by omega⟩ : Fin 16) t) : EReal))) 0 : EReal))
      * (s (ix2 a b) : EReal) := by
  have ha := a.isLt
  rw [sum_sel a (⟨k.val * 8 + a.val, by omega⟩ : Fin 256) (by show (k.val * 8 + a.val) % 8 = a.val; omega)
    (fun x => (l (ix3 0 (⟨k.val * 8 + a.val, by omega⟩ : Fin 256) x) : EReal)
        * ((r (ix4 0 0 x t) : EReal) * (d (ix3 (⟨x.val / 32, by have := x.isLt; omega⟩ : Fin 8) (⟨x.val % 16, by omega⟩ : Fin 16) t) : EReal)))]
  rfl

theorem pay7_apply (k : Fin 32) (a : Fin 8) (b : Fin 128) :
    (k0_pay7 k0_pay1 r d l s (ix3 k a b) : EReal) = dhE r d l s k a ⟨b.val, by omega⟩ b := by
  rw [dhE_eq]
  pointwise [k0_pay7, k0_pay6, k0_pay5]

theorem pay8_apply (k : Fin 32) (a : Fin 8) (b : Fin 128) :
    (k0_pay8 k0_pay1 r d l s (ix3 k a b) : EReal) = dhE r d l s k a ⟨128 + b.val, by omega⟩ b := by
  rw [dhE_eq]
  pointwise [k0_pay8, k0_pay6, k0_pay5]

theorem pay11_apply (k : Fin 32) (a : Fin 8) (b : Fin 128) :
    (k0_pay11 k0_pay1 r d l s (ix3 k a b) : EReal) = dhE r d l s k a ⟨128 + b.val, by omega⟩ b := by
  rw [dhE_eq]
  pointwise [k0_pay11, k0_pay10, k0_pay9]

theorem pay3_apply (x : FVec Ideal S32x8x128 .f32) (k : Fin 32) (a : Fin 16) (b : Fin 128) :
    (k0_pay3 (k0_pay12 k0_pay1 x r d l s) (ix4 k 0 a b) : EReal)
      = if h : a.val < 8 then (x (ix3 k ⟨a.val, h⟩ b) : EReal) else dhE r d l s k ⟨a.val - 8, by omega⟩ ⟨b.val, by omega⟩ b := by
  by_cases h : a.val < 8
  · rw [dif_pos h]
    pointwise [k0_pay3, k0_pay12, k0_pay10, k0_pay9]
    rw [dif_pos h]
  · rw [dif_neg h, dhE_eq]
    pointwise [k0_pay3, k0_pay12, k0_pay10, k0_pay9]
    rw [dif_neg h]

theorem pay4_apply (x y : FVec Ideal S32x8x128 .f32) (k : Fin 32) (a : Fin 16) (b : Fin 128) :
    (k0_pay4 x y (ix4 k 0 a b) : EReal)
      = if h : a.val < 8 then (x (ix3 k ⟨a.val, h⟩ b) : EReal) else (y (ix3 k ⟨a.val - 8, by omega⟩ b) : EReal) := by
  pointwise [k0_pay4]
end

section
variable (x y : Vec Ideal S1x1x512x128 .bf16)
/-- One element of a head's dh rows, the two token halves put side by side. -/
def catE (q : Fin 512) (t : Fin 256) : EReal :=
  if h : t.val < 128 then (x (ix4 0 0 q ⟨t.val, h⟩) : EReal) else (y (ix4 0 0 q ⟨t.val - 128, by omega⟩) : EReal)

theorem pay13_apply (q : Fin 512) (t : Fin 256) : (k0_pay13 x y (ix2 q t) : EReal) = catE x y q t := by
  unfold catE
  pointwise [k0_pay13]
theorem pay21_apply (q : Fin 512) (t : Fin 256) : (k0_pay21 (k0_pay20 x) y (ix2 q t) : EReal) = catE x y q t := by
  unfold catE
  pointwise [k0_pay21, k0_pay20]

theorem pay15_apply (a : Vec Ideal S1x1x256 .f32) (b : Vec Ideal S256x256 .fp8e4m3) (f : Vec Ideal S1x512x256 .f32) (q : Fin 512) (t : Fin 256) :
    (k0_pay15 (k0_pay14 x y a b f) (ix3 0 q t) : EReal) = (f (ix3 0 q t) : EReal) + ∑ z : Fin 256, catE x y q z * (a (ix3 0 0 z) : EReal) * (b (ix2 z t) : EReal) := by
  simp only [← pay13_apply]
  pointwise [k0_pay15, k0_pay14]
theorem pay22_apply (a : Vec Ideal S1x1x256 .f32) (b : Vec Ideal S256x256 .fp8e4m3) (f : Vec Ideal S1x512x256 .f32) (q : Fin 512) (t : Fin 256) :
    (k0_pay22 (k0_pay20 x) y a b f (ix3 0 q t) : EReal) = (f (ix3 0 q t) : EReal) + ∑ z : Fin 256, catE x y q z * (a (ix3 0 0 z) : EReal) * (b (ix2 z t) : EReal) := by
  simp only [← pay21_apply]
  pointwise [k0_pay22]

theorem pay18_apply (a : Vec Ideal S1x512x256 .fp8e4m3) (b : Elt Ideal .f32) (q : Fin 256) (t : Fin 128) :
    (k0_pay18 (k0_pay13 x y) a b (ix4 0 0 q t) : EReal) = (∑ z : Fin 512, catE x y z q * (a (ix3 0 z (⟨t.val, by omega⟩ : Fin 256)) : EReal)) * (b : EReal) := by
  simp only [← pay13_apply]
  pointwise [k0_pay18, k0_pay17, k0_pay16]
theorem pay19_apply (a : Vec Ideal S1x512x256 .fp8e4m3) (b : Elt Ideal .f32) (q : Fin 256) (t : Fin 128) :
    (k0_pay19 (k0_pay13 x y) a b (ix4 0 0 q t) : EReal) = (∑ z : Fin 512, catE x y z q * (a (ix3 0 z (⟨128 + t.val, by omega⟩ : Fin 256)) : EReal)) * (b : EReal) := by
  simp only [← pay13_apply]
  pointwise [k0_pay19, k0_pay17, k0_pay16]
theorem pay25_apply (a : Vec Ideal S1x512x256 .fp8e4m3) (b : Elt Ideal .f32) (q : Fin 256) (t : Fin 128) :
    (k0_pay25 (k0_pay20 x) y a b (ix4 0 0 q t) : EReal) = (∑ z : Fin 512, catE x y z q * (a (ix3 0 z (⟨t.val, by omega⟩ : Fin 256)) : EReal)) * (b : EReal) := by
  simp only [← pay21_apply]
  pointwise [k0_pay25, k0_pay24, k0_pay23]
theorem pay27_apply (a : Vec Ideal S1x512x256 .fp8e4m3) (b : Elt Ideal .f32) (q : Fin 256) (t : Fin 128) :
    (k0_pay27 (k0_pay26 (k0_pay20 x) y a b) (ix4 0 0 q t) : EReal) = (∑ z : Fin 512, catE x y z q * (a (ix3 0 z (⟨128 + t.val, by omega⟩ : Fin 256)) : EReal)) * (b : EReal) := by
  simp only [← pay21_apply]
  pointwise [k0_pay27, k0_pay26, k0_pay24, k0_pay23]

theorem pay28_apply (q : Fin 256) (t : Fin 128) :
    (k0_pay28 (k0_pay16 (k0_pay13 x y)) (ix5 0 0 q 0 t) : EReal) = catE x y (⟨0 + t.val, by omega⟩ : Fin 512) q := by
  rw [← pay13_apply]
  pointwise [k0_pay28, k0_pay16]
theorem pay30_apply (q : Fin 256) (t : Fin 128) :
    (k0_pay30 (k0_pay16 (k0_pay13 x y)) (ix5 0 0 q 0 t) : EReal) = catE x y (⟨128 + t.val, by omega⟩ : Fin 512) q := by
  rw [← pay13_apply]
  pointwise [k0_pay30, k0_pay16]
theorem pay32_apply (q : Fin 256) (t : Fin 128) :
    (k0_pay32 (k0_pay16 (k0_pay13 x y)) (ix5 0 0 q 0 t) : EReal) = catE x y (⟨256 + t.val, by omega⟩ : Fin 512) q := by
  rw [← pay13_apply]
  pointwise [k0_pay32, k0_pay16]
theorem pay35_apply (q : Fin 256) (t : Fin 128) :
    (k0_pay35 (k0_pay16 (k0_pay13 x y)) (ix5 0 0 q 0 t) : EReal) = catE x y (⟨384 + t.val, by omega⟩ : Fin 512) q := by
  rw [← pay13_apply]
  pointwise [k0_pay35, k0_pay16]
theorem pay29_apply (q : Fin 256) (t : Fin 128) :
    (k0_pay29 (k0_pay23 (k0_pay20 x) y) (ix5 0 0 q 0 t) : EReal) = catE x y (⟨0 + t.val, by omega⟩ : Fin 512) q := by
  rw [← pay21_apply]
  pointwise [k0_pay29, k0_pay23]
theorem pay31_apply (q : Fin 256) (t : Fin 128) :
    (k0_pay31 (k0_pay23 (k0_pay20 x) y) (ix5 0 0 q 0 t) : EReal) = catE x y (⟨128 + t.val, by omega⟩ : Fin 512) q := by
  rw [← pay21_apply]
  pointwise [k0_pay31, k0_pay23]
theorem pay34_apply (q : Fin 256) (t : Fin 128) :
    (k0_pay34 (k0_pay33 (k0_pay23 (k0_pay20 x) y)) (ix5 0 0 q 0 t) : EReal) = catE x y (⟨256 + t.val, by omega⟩ : Fin 512) q := by
  rw [← pay21_apply]
  pointwise [k0_pay34, k0_pay33, k0_pay23]
theorem pay36_apply (q : Fin 256) (t : Fin 128) :
    (k0_pay36 (k0_pay23 (k0_pay20 x) y) (ix5 0 0 q 0 t) : EReal) = catE x y (⟨384 + t.val, by omega⟩ : Fin 512) q := by
  rw [← pay21_apply]
  pointwise [k0_pay36, k0_pay23]
end

end Cert.KernelIdeal.Hand
-- ==== Proof.KV.Host.lean ====
module

public import proofs.«01_k».proof.Proof.KI.Launch
public import proofs.«01_k».proof.Proof.KV.Pay
public import Idealize.ShloMosaic.Lib.Pointwise

/-! The arrays the kernel's region finds, element by element, from the launch's arguments. -/

@[expose] public section

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

abbrev g0 : Vec Ideal S2x2560x16384 .fp8e5m2 := m ((c : Thread nD τ).loc main_arg0)
abbrev g1 : Vec Ideal S2x2560x32 .f32 := m ((c : Thread nD τ).loc main_arg1)
abbrev g2 : Vec Ideal S2x2560x16384 .fp8e4m3 := m ((c : Thread nD τ).loc main_arg2)
abbrev g3 : Vec Ideal S2x2560x64 .f32 := m ((c : Thread nD τ).loc main_arg3)
abbrev g4 : Vec Ideal S64x512x256 .fp8e4m3 := m ((c : Thread nD τ).loc main_arg4)
abbrev g5 : Vec Ideal S64 .f32 := m ((c : Thread nD τ).loc main_arg5)
abbrev g6 : Vec Ideal S512x32x64 .fp8e4m3 := m ((c : Thread nD τ).loc main_arg6)
abbrev g7 : Vec Ideal S512 .f32 := m ((c : Thread nD τ).loc main_arg7)

theorem hv2 (b : Fin 20) (g : Fin 64) (l t : Fin 256) :
    (V m c main_v2 : Vec Ideal S20x64x256x256 .fp8e5m2) (ix4 b g l t)
      = (g0 m c (ix3 ⟨b.val / 10, by omega⟩ ⟨b.val % 10 * 256 + t.val, by omega⟩ ⟨l.val / 32 * 2048 + l.val % 4 * 512 + g.val * 8 + l.val / 4 % 8, by omega⟩) : EReal) := by
  have e : V m c main_v2 = shapeCast S20x64x256x256 (transpose S20x64x8x8x4x256 [0, 4, 2, 5, 3, 1] (shapeCast S20x256x8x4x64x8 (g0 m c) shapeCasts_S2x2560x16384_S20x256x8x4x64x8) transposes_S20x256x8x4x64x8_S20x64x8x8x4x256_0_4_2_5_3_1) shapeCasts_S20x64x8x8x4x256_S20x64x256x256 := by
    show StableHlo.after hostOps0 _ (Proc.devRef .tc main_v2) = _
    after_results <;> rfl
  rw [e]
  pointwise []

theorem hv3 (t : Fin 5120) (l : Fin 16384) :
    (V m c main_v3 : Vec Ideal S5120x16384 .fp8e4m3) (ix2 t l) = (g2 m c (ix3 ⟨t.val / 2560, by omega⟩ ⟨t.val % 2560, by omega⟩ l) : EReal) := by
  have e : V m c main_v3 = shapeCast S5120x16384 (g2 m c) shapeCasts_S2x2560x16384_S5120x16384 := by
    show StableHlo.after hostOps0 _ (Proc.devRef .tc main_v3) = _
    after_results <;> rfl
  rw [e]
  pointwise []

theorem hv9 (a : Fin 8) (b : Fin 16) (t : Fin 5120) :
    (V m c main_v9 : Vec Ideal S8x16x5120 .bf16) (ix3 a b t) = (g1 m c (ix3 ⟨t.val / 2560, by omega⟩ ⟨t.val % 2560, by omega⟩ ⟨a.val * 4 + b.val % 4, by omega⟩) : EReal) := by
  have e : V m c main_v9 = shapeCast S8x16x5120 (broadcastInDim S8x4x4x5120 ![0, 1, 2, 3] bcast_S8x1x4x5120_S8x4x4x5120_0_1_2_3 (shapeCast S8x1x4x5120 (truncf (F := Ideal) .bf16 (transpose S32x5120 [1, 0] (shapeCast S5120x32 (g1 m c) shapeCasts_S2x2560x32_S5120x32) transposes_S5120x32_S32x5120_1_0) bitsLt_bf16_f32) shapeCasts_S32x5120_S8x1x4x5120)) shapeCasts_S8x4x4x5120_S8x16x5120 := by
    show StableHlo.after hostOps0 _ (Proc.devRef .tc main_v9) = _
    after_results <;> rfl
  rw [e]
  pointwise []

theorem hv12 (k : Fin 64) (t : Fin 5120) :
    (V m c main_v12 : Vec Ideal S64x1x5120 .f32) (ix3 k 0 t) = (g3 m c (ix3 ⟨t.val / 2560, by omega⟩ ⟨t.val % 2560, by omega⟩ k) : EReal) := by
  have e : V m c main_v12 = shapeCast S64x1x5120 (transpose S64x5120 [1, 0] (shapeCast S5120x64 (g3 m c) shapeCasts_S2x2560x64_S5120x64) transposes_S5120x64_S64x5120_1_0) shapeCasts_S64x5120_S64x1x5120 := by
    show StableHlo.after hostOps0 _ (Proc.devRef .tc main_v12) = _
    after_results <;> rfl
  rw [e]
  pointwise []

theorem hv14 (q : Fin 512) (t : Fin 128) :
    (V m c main_v14 : Vec Ideal S512x128 .f32) (ix2 q t) = (g7 m c (ix1 q) : EReal) := by
  have e : V m c main_v14 = broadcastInDim S512x128 ![0, 1] bcast_S512x1_S512x128_0_1 (broadcastInDim S512x1 ![0] bcast_S512_S512x1_0 (g7 m c)) := by
    show StableHlo.after hostOps0 _ (Proc.devRef .tc main_v14) = _
    after_results <;> rfl
  rw [e]
  pointwise []

theorem hv19 (g : Fin 64) (r : Fin 512) (l : Fin 256) :
    (V m c main_v19 : Vec Ideal S64x512x256 .fp8e4m3) (ix3 g r l) = (g6 m c (ix3 ⟨g.val * 8 + r.val % 8, by omega⟩ ⟨l.val / 32 * 4 + l.val % 4, by omega⟩ ⟨r.val / 8, by omega⟩) : EReal) := by
  have e : V m c main_v19 = shapeCast S64x512x256 (broadcastInDim S64x64x8x8x8x4 ![0, 1, 2, 3, 4, 5] bcast_S64x64x8x8x1x4_S64x64x8x8x8x4_0_1_2_3_4_5 (broadcastInDim S64x64x8x8x1x4 ![0, 1, 2, 3, 5] bcast_S64x64x8x8x4_S64x64x8x8x1x4_0_1_2_3_5 (transpose S64x64x8x8x4 [0, 4, 1, 2, 3] (shapeCast S64x8x8x4x64 (g6 m c) shapeCasts_S512x32x64_S64x8x8x4x64) transposes_S64x8x8x4x64_S64x64x8x8x4_0_4_1_2_3))) shapeCasts_S64x64x8x8x8x4_S64x512x256 := by
    show StableHlo.after hostOps0 _ (Proc.devRef .tc main_v19) = _
    after_results <;> rfl
  rw [e]
  pointwise []

/-! ## The blocks the windows hand the body -/

section
variable (t : Fin cfg0.N)
theorem widx1 : ∀ t : Fin cfg0.N, win0_1.index t 0 = t.val % 20 ∧ win0_1.index t 1 = t.val / 20 := by decide +kernel
theorem widx2 : ∀ t : Fin cfg0.N, win0_2.index t 0 = 0 ∧ win0_2.index t 1 = 0 ∧ win0_2.index t 2 = t.val % 20 := by decide +kernel
theorem widx3 : ∀ t : Fin cfg0.N, win0_3.index t 0 = t.val / 20 ∧ win0_3.index t 1 = 0 ∧ win0_3.index t 2 = t.val % 20 := by decide +kernel
theorem widx4 : ∀ t : Fin cfg0.N, win0_4.index t 0 = 0 ∧ win0_4.index t 1 = t.val / 20 ∧ win0_4.index t 2 = 0 := by decide +kernel
theorem widx5 : ∀ t : Fin cfg0.N, win0_5.index t 0 = 0 ∧ win0_5.index t 1 = 0 := by decide +kernel
theorem widx6 : ∀ t : Fin cfg0.N, win0_6.index t 0 = t.val / 20 ∧ win0_6.index t 1 = 0 ∧ win0_6.index t 2 = 0 := by decide +kernel
theorem widx0 : ∀ t : Fin cfg0.N, win0_0.index t 0 = 0 := by decide +kernel
theorem tlt : t.val < 40 := lt_of_lt_of_eq t.isLt N_0

theorem blk0 (a : Fin 64) : (iblk m c 0 t : Vec Ideal S64 .f32) (ix1 a) = (g5 m c (ix1 a) : EReal) := by
  have h := widx0 t
  unfold iblk
  rw [View.read_apply]
  show V m c main_arg5 _ = _
  rw [V_main_arg5]
  congr 1
  funext x
  apply Fin.ext
  match x with
  | ⟨0, _⟩ => show win0_0.index t 0 * 64 + 1 * a.val = a.val; rw [h]; omega

theorem blk1 (a : Fin 256) (b : Fin 8192) : (iblk m c 1 t : Vec Ideal S256x8192 .fp8e4m3) (ix2 a b)
    = (g2 m c (ix3 ⟨t.val % 20 / 10, by omega⟩ ⟨t.val % 20 % 10 * 256 + a.val, by omega⟩ ⟨t.val / 20 * 8192 + b.val, by have := tlt t; omega⟩) : EReal) := by
  have h := widx1 t
  have ht := tlt t
  have e := hv3 m c ⟨t.val % 20 * 256 + a.val, by omega⟩ ⟨t.val / 20 * 8192 + b.val, by omega⟩
  have e' : (g2 m c (ix3 ⟨(t.val % 20 * 256 + a.val) / 2560, by omega⟩ ⟨(t.val % 20 * 256 + a.val) % 2560, by omega⟩ ⟨t.val / 20 * 8192 + b.val, by omega⟩) : EReal)
      = (g2 m c (ix3 ⟨t.val % 20 / 10, by omega⟩ ⟨t.val % 20 % 10 * 256 + a.val, by omega⟩ ⟨t.val / 20 * 8192 + b.val, by omega⟩) : EReal) := by
    congr 2 <;> exact Fin.ext (by show _ = _; simp only []; omega)
  refine Eq.trans ?_ (e.trans e')
  unfold iblk
  rw [View.read_apply]
  show V m c main_v3 _ = V m c main_v3 _
  congr 1
  funext x
  apply Fin.ext
  match x with
  | ⟨0, _⟩ => show win0_1.index t 0 * 256 + 1 * a.val = t.val % 20 * 256 + a.val; rw [h.1]; omega
  | ⟨1, _⟩ => show win0_1.index t 1 * 8192 + 1 * b.val = t.val / 20 * 8192 + b.val; rw [h.2]; omega

theorem blk2 (a : Fin 8) (b : Fin 16) (u : Fin 256) : (iblk m c 2 t : Vec Ideal S8x16x256 .bf16) (ix3 a b u)
    = (g1 m c (ix3 ⟨t.val % 20 / 10, by omega⟩ ⟨t.val % 20 % 10 * 256 + u.val, by omega⟩ ⟨a.val * 4 + b.val % 4, by omega⟩) : EReal) := by
  have h := widx2 t
  have ht := tlt t
  have e := hv9 m c a b ⟨t.val % 20 * 256 + u.val, by omega⟩
  have e' : (g1 m c (ix3 ⟨(t.val % 20 * 256 + u.val) / 2560, by omega⟩ ⟨(t.val % 20 * 256 + u.val) % 2560, by omega⟩ ⟨a.val * 4 + b.val % 4, by omega⟩) : EReal)
      = (g1 m c (ix3 ⟨t.val % 20 / 10, by omega⟩ ⟨t.val % 20 % 10 * 256 + u.val, by omega⟩ ⟨a.val * 4 + b.val % 4, by omega⟩) : EReal) := by
    congr 2 <;> exact Fin.ext (by show _ = _; simp only []; omega)
  refine Eq.trans ?_ (e.trans e')
  unfold iblk
  rw [View.read_apply]
  show V m c main_v9 _ = V m c main_v9 _
  congr 1
  funext x
  apply Fin.ext
  match x with
  | ⟨0, _⟩ => show win0_2.index t 0 * 8 + 1 * a.val = a.val; rw [h.1]; omega
  | ⟨1, _⟩ => show win0_2.index t 1 * 16 + 1 * b.val = b.val; rw [h.2.1]; omega
  | ⟨2, _⟩ => show win0_2.index t 2 * 256 + 1 * u.val = t.val % 20 * 256 + u.val; rw [h.2.2]; omega

theorem blk3 (k : Fin 32) (u : Fin 256) : (iblk m c 3 t : Vec Ideal S32x1x256 .f32) (ix3 k 0 u)
    = (g3 m c (ix3 ⟨t.val % 20 / 10, by omega⟩ ⟨t.val % 20 % 10 * 256 + u.val, by omega⟩ ⟨t.val / 20 * 32 + k.val, by have := tlt t; omega⟩) : EReal) := by
  have h := widx3 t
  have ht := tlt t
  have e := hv12 m c ⟨t.val / 20 * 32 + k.val, by omega⟩ ⟨t.val % 20 * 256 + u.val, by omega⟩
  have e' : (g3 m c (ix3 ⟨(t.val % 20 * 256 + u.val) / 2560, by omega⟩ ⟨(t.val % 20 * 256 + u.val) % 2560, by omega⟩ ⟨t.val / 20 * 32 + k.val, by omega⟩) : EReal)
      = (g3 m c (ix3 ⟨t.val % 20 / 10, by omega⟩ ⟨t.val % 20 % 10 * 256 + u.val, by omega⟩ ⟨t.val / 20 * 32 + k.val, by omega⟩) : EReal) := by
    congr 2 <;> exact Fin.ext (by show _ = _; simp only []; omega)
  refine Eq.trans ?_ (e.trans e')
  unfold iblk
  rw [View.read_apply]
  show V m c main_v12 _ = V m c main_v12 _
  congr 1
  funext x
  apply Fin.ext
  match x with
  | ⟨0, _⟩ => show win0_3.index t 0 * 32 + 1 * k.val = t.val / 20 * 32 + k.val; rw [h.1]; omega
  | ⟨1, _⟩ => show win0_3.index t 1 * 1 + 1 * 0 = 0; rw [h.2.1]
  | ⟨2, _⟩ => show win0_3.index t 2 * 256 + 1 * u.val = t.val % 20 * 256 + u.val; rw [h.2.2]; omega

theorem blk4 (g : Fin 64) (r : Fin 256) (l : Fin 256) : (iblk m c 4 t : Vec Ideal S64x256x256 .fp8e4m3) (ix3 g r l)
    = (g6 m c (ix3 ⟨g.val * 8 + r.val % 8, by omega⟩ ⟨l.val / 32 * 4 + l.val % 4, by omega⟩ ⟨t.val / 20 * 32 + r.val / 8, by have := tlt t; omega⟩) : EReal) := by
  have h := widx4 t
  have ht := tlt t
  have e := hv19 m c g ⟨t.val / 20 * 256 + r.val, by omega⟩ l
  have e' : (g6 m c (ix3 ⟨g.val * 8 + (t.val / 20 * 256 + r.val) % 8, by omega⟩ ⟨l.val / 32 * 4 + l.val % 4, by omega⟩ ⟨(t.val / 20 * 256 + r.val) / 8, by omega⟩) : EReal)
      = (g6 m c (ix3 ⟨g.val * 8 + r.val % 8, by omega⟩ ⟨l.val / 32 * 4 + l.val % 4, by omega⟩ ⟨t.val / 20 * 32 + r.val / 8, by omega⟩) : EReal) := by
    congr 2 <;> exact Fin.ext (by show _ = _; simp only []; omega)
  refine Eq.trans ?_ (e.trans e')
  unfold iblk
  rw [View.read_apply]
  show V m c main_v19 _ = V m c main_v19 _
  congr 1
  funext x
  apply Fin.ext
  match x with
  | ⟨0, _⟩ => show win0_4.index t 0 * 64 + 1 * g.val = g.val; rw [h.1]; omega
  | ⟨1, _⟩ => show win0_4.index t 1 * 256 + 1 * r.val = t.val / 20 * 256 + r.val; rw [h.2.1]; omega
  | ⟨2, _⟩ => show win0_4.index t 2 * 256 + 1 * l.val = l.val; rw [h.2.2]; omega

theorem blk5 (q : Fin 512) (b : Fin 128) : (iblk m c 5 t : Vec Ideal S512x128 .f32) (ix2 q b) = (g7 m c (ix1 q) : EReal) := by
  have h := widx5 t
  refine Eq.trans ?_ (hv14 m c q b)
  unfold iblk
  rw [View.read_apply]
  show V m c main_v14 _ = V m c main_v14 _
  congr 1
  funext x
  apply Fin.ext
  match x with
  | ⟨0, _⟩ => show win0_5.index t 0 * 512 + 1 * q.val = q.val; rw [h.1]; omega
  | ⟨1, _⟩ => show win0_5.index t 1 * 128 + 1 * b.val = b.val; rw [h.2]; omega

theorem blk6 (k : Fin 32) (q : Fin 512) (p : Fin 256) : (iblk m c 6 t : Vec Ideal S32x512x256 .fp8e4m3) (ix3 k q p)
    = (g4 m c (ix3 ⟨t.val / 20 * 32 + k.val, by have := tlt t; omega⟩ q p) : EReal) := by
  have h := widx6 t
  unfold iblk
  rw [View.read_apply]
  show V m c main_arg4 _ = _
  rw [V_main_arg4]
  congr 1
  funext x
  apply Fin.ext
  match x with
  | ⟨0, _⟩ => show win0_6.index t 0 * 32 + 1 * k.val = t.val / 20 * 32 + k.val; rw [h.1]; omega
  | ⟨1, _⟩ => show win0_6.index t 1 * 512 + 1 * q.val = q.val; rw [h.2.1]; omega
  | ⟨2, _⟩ => show win0_6.index t 2 * 256 + 1 * p.val = p.val; rw [h.2.2]; omega
end

end Cert.KernelIdeal.Hand
-- ==== Proof.KV.Dht.lean ====
module

public import proofs.«01_k».proof.Proof.KV.Host
public import Idealize.ShloMosaic.Lib.WritesUnit

/-! The dh chunk after a grid point's computing loop, element by element. -/

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Rounds

/-! ## Loads at an index -/

section
variable {sig : RefSig} {κ : Kind} {sp : Space} {s : Shape} {e : EltTy} {Val : EltTy → Type}

/-- A load of a unit-stride box reads the view at the box's offset plus the index. -/
theorem readAt_unit_apply (v : View sig κ sp s e) {off off' size : Fin s.rank → ℕ} (inb : ∀ a, off a + size a ≤ s.size a) (f : v.ty.Contents Val)
    (x : (Rect.unit off size inb).shape.Idx) (y : s.Idx) (h : off = off') (hy : ∀ a, (y a).val = off' a + (x a).val) :
    v.readAt Val (Rect.unit off size inb).toLoadRect f x = v.read Val f y := by
  subst h
  rw [View.readAt_apply]
  congr 1
  funext a
  exact Fin.ext (by show off a + 1 * (x a).val = (y a).val; rw [hy a, Nat.one_mul])

/-- A load of the box just stored reads what was stored. -/
theorem readAt_write_unit (v : View sig κ sp s e) {off off' size : Fin s.rank → ℕ} (inb : ∀ a, off a + size a ≤ s.size a) (inb' : ∀ a, off' a + size a ≤ s.size a)
    (h : off = off') (f : v.ty.Contents Val) (w : (Rect.unit off' size inb').shape.Idx → Val e) :
    v.readAt Val (Rect.unit off size inb).toLoadRect ((v.slice (Rect.unit off' size inb')).write Val f w Finset.univ) = w := by
  subst h
  rw [View.readAt_rect]
  exact View.read_write_univ _ _
end

theorem cast1abc : S1x8x256x256.ShapeCasts S8x256x256 := by decide
theorem sq4 {α : Type} (x : S1x8x256x256.Idx → α) (a : Fin 8) (b d : Fin 256) : shapeCast S8x256x256 x cast1abc (ix3 a b d) = x (ix4 0 a b d) := by
  pointwise []

theorem koff8 : ∀ (k1 : Fin k0_t1_loop.trips) (k2 : Fin k0_t2_loop.trips) (w : Fin 2), k0_off8 k1 k2 (BitVec.ofNat 32 w.val) = ![8 * k1.val + 2 * k2.val + w.val, 0, 0] := by decide +kernel
theorem koff9 : ∀ (k1 : Fin k0_t1_loop.trips) (k2 : Fin k0_t2_loop.trips) (w : Fin 2), k0_off9 k1 k2 (BitVec.ofNat 32 w.val) = ![8 * (8 * k1.val + 2 * k2.val + w.val), 0] := by decide +kernel
theorem koff10 : ∀ (k1 : Fin k0_t1_loop.trips) (k2 : Fin k0_t2_loop.trips), k0_off10 k1 k2 = ![0, 0, 16 * (4 * k1.val + k2.val), 0] := by decide +kernel
theorem koff11 : ∀ (k1 : Fin k0_t1_loop.trips) (k2 : Fin k0_t2_loop.trips), k0_off11 k1 k2 = ![0, 1, 16 * (4 * k1.val + k2.val), 0] := by decide +kernel
theorem koff7 (i : grid0.Coords) (k1 : Fin k0_t1_loop.trips) (k2 : Fin k0_t2_loop.trips) (w : Fin 2) :
    k0_off7 i k1 k2 (BitVec.ofNat 32 w.val) = ![(Ring.sl 4 (cnt i k1)).val, 2 * k2.val + w.val, 0, 0] := by
  fin_cases w
  · exact k0_off7_0_eq i k1 k2
  · exact k0_off7_1_eq i k1 k2
theorem t1lt (k1 : Fin k0_t1_loop.trips) : k1.val < 8 := lt_of_lt_of_eq k1.isLt trips1
theorem t2lt (k2 : Fin k0_t2_loop.trips) : k2.val < 4 := lt_of_lt_of_eq k2.isLt trips2
theorem t3lt (k : Fin k0_t3_loop.trips) : k.val < 16 := lt_of_lt_of_eq k.isLt trips3

variable (m : (ℓ : Loc nD τ sig) → Buf (Elt Ideal) ℓ) (c : Dev nD)

/-- What the kernel computes of dh at a batch row, a token, a head's row and a column. -/
def dhG (hi : Fin 2) (lo : Fin 2560) (k : Fin 64) (q : Fin 512) : EReal :=
  (∑ s : Fin 32, (g6 m c (ix3 q s k) : EReal) * ((g0 m c (ix3 hi lo (⟨s.val * 512 + q.val, by omega⟩ : Fin 16384)) : EReal) * (g1 m c (ix3 hi lo s) : EReal)))
    * (g7 m c (ix1 q) : EReal)

section
variable (t : Fin cfg0.N) (S : Stg m c t)

/-- The ring's slot, once its block has landed, at an index. -/
theorem ldR_apply (k1 : Fin k0_t1_loop.trips) (k2 : Fin k0_t2_loop.trips) (w : Fin 2) (f : Buf (Elt Ideal) ((dsl (Ring.sl 4 (cnt (grid0.coords t) k1))).view.loc (c : Thread nD τ))) (l u : Fin 256) :
    (ldR c (grid0.coords t) k1 k2 w (dland c (XA m c) (Ring.sl 4 (cnt (grid0.coords t) k1)) (cnt (grid0.coords t) k1) f) (ix4 0 0 l u) : EReal)
      = (g0 m c (ix3 ⟨t.val % 20 / 10, by omega⟩ ⟨t.val % 20 % 10 * 256 + u.val, by omega⟩
          ⟨l.val / 32 * 2048 + l.val % 4 * 512 + (8 * k1.val + 2 * k2.val + w.val) * 8 + l.val / 4 % 8, by have := t1lt k1; have := t2lt k2; omega⟩) : EReal) := by
  have h1 := t1lt k1
  have h2 := t2lt k2
  have ht := tlt t
  have hc : cnt (grid0.coords t) k1 = 8 * t.val + k1.val := by unfold cnt; rw [stepOf_coords]
  have hb : (Ring.sl 160 (cnt (grid0.coords t) k1)).val = (8 * t.val + k1.val) % 160 := by rw [Ring.sl_val, hc]
  refine Eq.trans ?_ (hv2 m c ⟨t.val % 20, by omega⟩ ⟨8 * k1.val + 2 * k2.val + w.val, by omega⟩ l u)
  refine (readAt_unit_apply ringM.view _ _ _ (ix4 (Ring.sl 4 (cnt (grid0.coords t) k1)) (⟨2 * k2.val + w.val, by omega⟩ : Fin 8) l u) (koff7 _ k1 k2 w) (fun a => ?_)).trans ?_
  · match a with
    | ⟨0, _⟩ => rfl
    | ⟨1, _⟩ => rfl
    | ⟨2, _⟩ => show l.val = 0 + l.val; omega
    | ⟨3, _⟩ => show u.val = 0 + u.val; omega
  · have hs : ∀ g : Buf (Elt Ideal) (ringM.view.loc (c : Thread nD τ)), (dsl (Ring.sl 4 (cnt (grid0.coords t) k1))).view.read (Elt Ideal) g (ix3 (⟨2 * k2.val + w.val, by omega⟩ : Fin 8) l u)
        = ringM.view.read (Elt Ideal) g (ix4 (Ring.sl 4 (cnt (grid0.coords t) k1)) (⟨2 * k2.val + w.val, by omega⟩ : Fin 8) l u) := fun g => by
      unfold dsl
      rw [Memref.read_squeeze_slice (hc := cast1abc)]
      refine (sq4 _ _ _ _).trans ?_
      refine readAt_unit_apply ringM.view _ _ _ _ rfl fun a => ?_
      match a with
      | ⟨0, _⟩ => rfl
      | ⟨1, _⟩ => show 2 * k2.val + w.val = 0 + (2 * k2.val + w.val); omega
      | ⟨2, _⟩ => show l.val = 0 + l.val; omega
      | ⟨3, _⟩ => show u.val = 0 + u.val; omega
    refine (hs _).symm.trans ?_
    unfold dland
    rw [View.read_writes_whole]
    show (dbk (Ring.sl 160 (cnt (grid0.coords t) k1))).view.read (Elt Ideal) (XA m c) (ix3 (⟨2 * k2.val + w.val, by omega⟩ : Fin 8) l u) = _
    unfold dbk
    rw [Memref.read_squeeze_slice (hc := cast1abc)]
    refine (sq4 _ _ _ _).trans ?_
    refine readAt_unit_apply dyM.view _ _ _ _ rfl fun a => ?_
    match a with
    | ⟨0, _⟩ => show t.val % 20 = (Ring.sl 160 (cnt (grid0.coords t) k1)).val / 8 + 0; rw [hb]; omega
    | ⟨1, _⟩ => show 8 * k1.val + 2 * k2.val + w.val = 8 * ((Ring.sl 160 (cnt (grid0.coords t) k1)).val % 8) + (2 * k2.val + w.val); rw [hb]; omega
    | ⟨2, _⟩ => show l.val = 0 + l.val; omega
    | ⟨3, _⟩ => show u.val = 0 + u.val; omega

theorem ldD_apply (a : Fin 8) (b : Fin 16) (u : Fin 256) : (ldD (st0_2 t) c S.f4 (ix3 a b u) : EReal)
    = (g1 m c (ix3 ⟨t.val % 20 / 10, by omega⟩ ⟨t.val % 20 % 10 * 256 + u.val, by omega⟩ ⟨a.val * 4 + b.val % 4, by omega⟩) : EReal) := by
  refine (readAt_unit_apply (st0_2 t).view _ _ _ (ix3 a b u) rfl (fun x => ?_)).trans ?_
  · match x with
    | ⟨0, _⟩ => show a.val = 0 + a.val; omega
    | ⟨1, _⟩ => show b.val = 0 + b.val; omega
    | ⟨2, _⟩ => show u.val = 0 + u.val; omega
  · exact (congrFun S.e4 _).trans (blk2 m c t a b u)

theorem ldL_apply (k1 : Fin k0_t1_loop.trips) (k2 : Fin k0_t2_loop.trips) (w : Fin 2) (r l : Fin 256) : (ldL (st0_4 t) c S.f6 k1 k2 w (ix3 0 r l) : EReal)
    = (g6 m c (ix3 ⟨(8 * k1.val + 2 * k2.val + w.val) * 8 + r.val % 8, by have := t1lt k1; have := t2lt k2; omega⟩ ⟨l.val / 32 * 4 + l.val % 4, by omega⟩ ⟨t.val / 20 * 32 + r.val / 8, by have := tlt t; omega⟩) : EReal) := by
  have h1 := t1lt k1
  have h2 := t2lt k2
  refine (readAt_unit_apply (st0_4 t).view _ _ _ (ix3 (⟨8 * k1.val + 2 * k2.val + w.val, by omega⟩ : Fin 64) r l) (koff8 k1 k2 w) (fun x => ?_)).trans ?_
  · match x with
    | ⟨0, _⟩ => rfl
    | ⟨1, _⟩ => show r.val = 0 + r.val; omega
    | ⟨2, _⟩ => show l.val = 0 + l.val; omega
  · exact (congrFun S.e6 _).trans (blk4 m c t _ r l)

theorem ldS_apply (k1 : Fin k0_t1_loop.trips) (k2 : Fin k0_t2_loop.trips) (w : Fin 2) (a : Fin 8) (b : Fin 128) : (ldS (st0_5 t) c S.f7 k1 k2 w (ix2 a b) : EReal)
    = (g7 m c (ix1 ⟨8 * (8 * k1.val + 2 * k2.val + w.val) + a.val, by have := t1lt k1; have := t2lt k2; omega⟩) : EReal) := by
  have h1 := t1lt k1
  have h2 := t2lt k2
  refine (readAt_unit_apply (st0_5 t).view _ _ _ (ix2 (⟨8 * (8 * k1.val + 2 * k2.val + w.val) + a.val, by omega⟩ : Fin 512) b) (koff9 k1 k2 w) (fun x => ?_)).trans ?_
  · match x with
    | ⟨0, _⟩ => rfl
    | ⟨1, _⟩ => show b.val = 0 + b.val; omega
  · exact (congrFun S.e7 _).trans (blk5 m c t _ b)

/-- A packed product's element over the loads is dh. -/
theorem dhE_ld (k1 : Fin k0_t1_loop.trips) (k2 : Fin k0_t2_loop.trips) (w : Fin 2) (f : Buf (Elt Ideal) ((dsl (Ring.sl 4 (cnt (grid0.coords t) k1))).view.loc (c : Thread nD τ)))
    (k : Fin 32) (a : Fin 8) (u : Fin 256) (b : Fin 128) :
    dhE (ldR c (grid0.coords t) k1 k2 w (dland c (XA m c) (Ring.sl 4 (cnt (grid0.coords t) k1)) (cnt (grid0.coords t) k1) f)) (ldD (st0_2 t) c S.f4) (ldL (st0_4 t) c S.f6 k1 k2 w) (ldS (st0_5 t) c S.f7 k1 k2 w) k a u b
      = dhG m c ⟨t.val % 20 / 10, by omega⟩ ⟨t.val % 20 % 10 * 256 + u.val, by omega⟩ ⟨t.val / 20 * 32 + k.val, by have := tlt t; omega⟩
          ⟨8 * (8 * k1.val + 2 * k2.val + w.val) + a.val, by have := t1lt k1; have := t2lt k2; omega⟩ := by
  have h1 := t1lt k1
  have h2 := t2lt k2
  unfold dhE dhG
  rw [ldS_apply]
  congr 1
  refine Finset.sum_congr rfl fun x _ => ?_
  rw [ldR_apply, ldD_apply, ldL_apply]
  congr 1
  · congr 2 <;> exact Fin.ext (by simp only [em]; omega)
  · congr 1
    · congr 2 <;> exact Fin.ext (by simp only [em]; omega)
    · congr 2 <;> exact Fin.ext (by simp only [em]; omega)

/-- What the dh chunk holds at a point, on its first `n` rows of a head. -/
def DhtTo (n : ℕ) (fd : Buf (Elt Ideal) (dhtM.view.loc (c : Thread nD τ))) : Prop :=
  ∀ (k : Fin 32) (h : Fin 2) (q : Fin 512) (u : Fin 128), q.val < n →
    (dhtM.view.read (Elt Ideal) fd (ix4 k h q u) : EReal)
      = dhG m c ⟨t.val % 20 / 10, by omega⟩ ⟨t.val % 20 % 10 * 256 + (h.val * 128 + u.val), by omega⟩ ⟨t.val / 20 * 32 + k.val, by have := tlt t; omega⟩ q

theorem dhV0_apply (r0 r1 : Vec Ideal S1x1x256x256 .fp8e5m2) (d : Vec Ideal S8x16x256 .bf16) (l0 l1 : Vec Ideal S1x256x256 .fp8e4m3) (s0 s1 : Vec Ideal S8x128 .f32)
    (k : Fin 32) (a : Fin 16) (b : Fin 128) : (dhV0 r0 r1 d l0 l1 s0 s1 (ix4 k 0 a b) : EReal)
      = if h : a.val < 8 then dhE r0 d l0 s0 k ⟨a.val, h⟩ ⟨b.val, by omega⟩ b else dhE r1 d l1 s1 k ⟨a.val - 8, by omega⟩ ⟨b.val, by omega⟩ b := by
  unfold dhV0
  rw [pay3_apply]
  by_cases h : a.val < 8
  · rw [dif_pos h, dif_pos h, pay7_apply]
  · rw [dif_neg h, dif_neg h]
theorem dhV1_apply (r0 r1 : Vec Ideal S1x1x256x256 .fp8e5m2) (d : Vec Ideal S8x16x256 .bf16) (l0 l1 : Vec Ideal S1x256x256 .fp8e4m3) (s0 s1 : Vec Ideal S8x128 .f32)
    (k : Fin 32) (a : Fin 16) (b : Fin 128) : (dhV1 r0 r1 d l0 l1 s0 s1 (ix4 k 0 a b) : EReal)
      = if h : a.val < 8 then dhE r0 d l0 s0 k ⟨a.val, h⟩ ⟨128 + b.val, by omega⟩ b else dhE r1 d l1 s1 k ⟨a.val - 8, by omega⟩ ⟨128 + b.val, by omega⟩ b := by
  unfold dhV1
  rw [pay4_apply]
  by_cases h : a.val < 8
  · rw [dif_pos h, dif_pos h, pay8_apply]
  · rw [dif_neg h, dif_neg h, pay11_apply]

/-- One inner trip adds its sixteen rows. -/
theorem dhtTo_step (k1 : Fin k0_t1_loop.trips) (k2 : Fin k0_t2_loop.trips) (f : Buf (Elt Ideal) ((dsl (Ring.sl 4 (cnt (grid0.coords t) k1))).view.loc (c : Thread nD τ)))
    (fo : Buf (Elt Ideal) (dhtM.view.loc (c : Thread nD τ))) (h : DhtTo m c t (16 * (4 * k1.val + k2.val)) fo) :
    DhtTo m c t (16 * (4 * k1.val + k2.val) + 16)
      (dhtAfter c (grid0.coords t) (st0_2 t) (st0_4 t) (st0_5 t) S.f4 S.f6 S.f7 k1 k2 (dland c (XA m c) (Ring.sl 4 (cnt (grid0.coords t) k1)) (cnt (grid0.coords t) k1) f) fo) := by
  have h1 := t1lt k1
  have h2 := t2lt k2
  intro k hh q u hq
  unfold dhtAfter
  by_cases hlt : q.val < 16 * (4 * k1.val + k2.val)
  · rw [View.read_writes_cons_unit_of_not_mem _ _ _ _ _ _ (koff11 k1 k2) (2 : Fin 4) (Or.inl hlt),
      View.read_writes_cons_unit_of_not_mem _ _ _ _ _ _ (koff10 k1 k2) (2 : Fin 4) (Or.inl hlt)]
    exact h k hh q u hlt
  · have ha : q.val - 16 * (4 * k1.val + k2.val) < 16 := by omega
    have fin : ∀ (v : Fin 256), v.val = hh.val * 128 + u.val →
        (if h : (⟨q.val - 16 * (4 * k1.val + k2.val), ha⟩ : Fin 16).val < 8 then
          dhE (ldR c (grid0.coords t) k1 k2 0 (dland c (XA m c) (Ring.sl 4 (cnt (grid0.coords t) k1)) (cnt (grid0.coords t) k1) f)) (ldD (st0_2 t) c S.f4) (ldL (st0_4 t) c S.f6 k1 k2 0) (ldS (st0_5 t) c S.f7 k1 k2 0) k ⟨(⟨q.val - 16 * (4 * k1.val + k2.val), ha⟩ : Fin 16).val, h⟩ v u
        else dhE (ldR c (grid0.coords t) k1 k2 1 (dland c (XA m c) (Ring.sl 4 (cnt (grid0.coords t) k1)) (cnt (grid0.coords t) k1) f)) (ldD (st0_2 t) c S.f4) (ldL (st0_4 t) c S.f6 k1 k2 1) (ldS (st0_5 t) c S.f7 k1 k2 1) k ⟨(⟨q.val - 16 * (4 * k1.val + k2.val), ha⟩ : Fin 16).val - 8, by show q.val - 16 * (4 * k1.val + k2.val) - 8 < 8; omega⟩ v u)
        = dhG m c ⟨t.val % 20 / 10, by omega⟩ ⟨t.val % 20 % 10 * 256 + (hh.val * 128 + u.val), by omega⟩ ⟨t.val / 20 * 32 + k.val, by have := tlt t; omega⟩ q := by
      intro v hv
      by_cases h8 : (⟨q.val - 16 * (4 * k1.val + k2.val), ha⟩ : Fin 16).val < 8
      · rw [dif_pos h8, dhE_ld]
        congr 1
        · exact Fin.ext (by show _ = _; simp only [hv])
        · refine Fin.ext ?_
          show 8 * (8 * k1.val + 2 * k2.val + 0) + (q.val - 16 * (4 * k1.val + k2.val)) = q.val
          omega
      · rw [dif_neg h8, dhE_ld]
        have h8' : ¬ q.val - 16 * (4 * k1.val + k2.val) < 8 := h8
        congr 1
        · exact Fin.ext (by show _ = _; simp only [hv])
        · refine Fin.ext ?_
          show 8 * (8 * k1.val + 2 * k2.val + 1) + (q.val - 16 * (4 * k1.val + k2.val) - 8) = q.val
          omega
    by_cases hz : hh.val = 0
    · rw [View.read_writes_cons_unit_of_not_mem _ _ _ _ _ _ (koff11 k1 k2) (1 : Fin 4) (Or.inl (by show hh.val < 1; omega))]
      rw [View.read_writes_cons_unit_of_mem _ _ _ _ _ _ (ix4 k (0 : Fin 1) (⟨q.val - 16 * (4 * k1.val + k2.val), ha⟩ : Fin 16) u) (koff10 k1 k2) (fun a => by
        match a with
        | ⟨0, _⟩ => show k.val = 0 + k.val; omega
        | ⟨1, _⟩ => show hh.val = 0 + 0; omega
        | ⟨2, _⟩ => show q.val = 16 * (4 * k1.val + k2.val) + (q.val - 16 * (4 * k1.val + k2.val)); omega
        | ⟨3, _⟩ => show u.val = 0 + u.val; omega)]
      refine (dhV0_apply _ _ _ _ _ _ _ k _ u).trans (fin ⟨u.val, by omega⟩ (by show u.val = _; omega))
    · rw [View.read_writes_cons_unit_of_mem _ _ _ _ _ _ (ix4 k (0 : Fin 1) (⟨q.val - 16 * (4 * k1.val + k2.val), ha⟩ : Fin 16) u) (koff11 k1 k2) (fun a => by
        match a with
        | ⟨0, _⟩ => show k.val = 0 + k.val; omega
        | ⟨1, _⟩ => show hh.val = 1 + 0; omega
        | ⟨2, _⟩ => show q.val = 16 * (4 * k1.val + k2.val) + (q.val - 16 * (4 * k1.val + k2.val)); omega
        | ⟨3, _⟩ => show u.val = 0 + u.val; omega)]
      refine (dhV1_apply _ _ _ _ _ _ _ k _ u).trans (fin ⟨128 + u.val, by omega⟩ (by show 128 + u.val = _; omega))

/-- A chunk adds its sixty-four rows. -/
theorem dhtTo_chunk (k1 : Fin k0_t1_loop.trips) (fo : Buf (Elt Ideal) (dhtM.view.loc (c : Thread nD τ))) (h : DhtTo m c t (64 * k1.val) fo) :
    DhtTo m c t (64 * k1.val + 64) (dhtChunk c (XA m c) (grid0.coords t) (st0_2 t) (st0_4 t) (st0_5 t) S.f4 S.f6 S.f7 k1 fo) := by
  have key : ∀ n : ℕ, n ≤ 4 → DhtTo m c t (64 * k1.val + 16 * n) (dhtIter c (grid0.coords t) (st0_2 t) (st0_4 t) (st0_5 t) S.f4 S.f6 S.f7 k1
      (dland c (XA m c) (Ring.sl 4 (cnt (grid0.coords t) k1)) (cnt (grid0.coords t) k1) (dsl (Ring.sl 4 (cnt (grid0.coords t) k1))).view.junk) fo n) := by
    intro n
    induction n with
    | zero => intro _; unfold dhtIter; rw [iterFin_zero]; exact h
    | succ n ih =>
      intro hn
      have hn' : n < k0_t2_loop.trips := by rw [trips2]; omega
      have := dhtTo_step m c t S k1 ⟨n, hn'⟩ (dsl (Ring.sl 4 (cnt (grid0.coords t) k1))).view.junk _ (by
        have := ih (by omega)
        rwa [show 64 * k1.val + 16 * n = 16 * (4 * k1.val + (⟨n, hn'⟩ : Fin k0_t2_loop.trips).val) from by show _ = 16 * (4 * k1.val + n); omega] at this)
      unfold dhtIter
      rw [iterFin_succ _ _ _ ⟨n, hn'⟩, show 64 * k1.val + 16 * (n + 1) = 16 * (4 * k1.val + (⟨n, hn'⟩ : Fin k0_t2_loop.trips).val) + 16 from by show _ = 16 * (4 * k1.val + n) + 16; omega]
      exact this
  have := key 4 le_rfl
  unfold dhtChunk
  rw [trips2]
  exact this

/-- After the computing loop the chunk is dh at the point's tokens and heads. -/
theorem dhtAt_ok (fo : Buf (Elt Ideal) (dhtM.view.loc (c : Thread nD τ))) : DhtTo m c t 512 (dhtAt m c t S fo) := by
  have key : ∀ n : ℕ, n ≤ 8 → DhtTo m c t (64 * n) (dhtIter1 c (XA m c) (grid0.coords t) (st0_2 t) (st0_4 t) (st0_5 t) S.f4 S.f6 S.f7 fo n) := by
    intro n
    induction n with
    | zero => intro _ k h q u hq; omega
    | succ n ih =>
      intro hn
      have hn' : n < k0_t1_loop.trips := by rw [trips1]; omega
      have := dhtTo_chunk m c t S ⟨n, hn'⟩ _ (ih (by omega))
      unfold dhtIter1
      rw [iterFin_succ _ _ _ ⟨n, hn'⟩, show 64 * (n + 1) = 64 * (⟨n, hn'⟩ : Fin k0_t1_loop.trips).val + 64 from by show _ = 64 * n + 64; omega]
      exact this
  have := key 8 le_rfl
  unfold dhtAt
  rw [trips1]
  exact this
end

end Cert.KernelIdeal.Hand
-- ==== Proof.KV.Trip.lean ====
module

public import proofs.«01_k».proof.Proof.KV.Dht

/-! What a storing trip sends to the results and adds to the accumulator, element by element. -/

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Rounds

theorem koff12 : ∀ (k : Fin k0_t3_loop.trips) (p : Fin 2), k0_off12 k (BitVec.ofNat 32 p.val) = ![2 * k.val + p.val, 0, 0, 0] := by decide +kernel
theorem koff13 : ∀ (k : Fin k0_t3_loop.trips) (p : Fin 2), k0_off13 k (BitVec.ofNat 32 p.val) = ![2 * k.val + p.val, 1, 0, 0] := by decide +kernel
theorem koff14 : ∀ (k : Fin k0_t3_loop.trips) (p : Fin 2), k0_off14 k (BitVec.ofNat 32 p.val) = ![2 * k.val + p.val, 0, 0] := by decide +kernel
theorem koff15 : ∀ (k : Fin k0_t3_loop.trips) (p : Fin 2), k0_off15 k (BitVec.ofNat 32 p.val) = ![0, 256 * (2 * k.val + p.val)] := by decide +kernel
theorem koff16 : ∀ (k : Fin k0_t3_loop.trips) (p : Fin 2), k0_off16 k (BitVec.ofNat 32 p.val) = ![2 * k.val + p.val, 0, 0] := by decide +kernel
theorem koff17 : ∀ (i : grid0.Coords) (k : Fin k0_t3_loop.trips) (p : Fin 2), k0_off17 i k (BitVec.ofNat 32 p.val) = ![32 * (i 0).val + 2 * k.val + p.val] := by decide +kernel

theorem cast11abc : S1x1x256x2x128.ShapeCasts S256x2x128 := by decide
theorem sq5 {α : Type} (x : S1x1x256x2x128.Idx → α) (a : Fin 256) (b : Fin 2) (d : Fin 128) : shapeCast S256x2x128 x cast11abc (ix3 a b d) = x (ix5 0 0 a b d) := by
  pointwise []
theorem cast11ab : S1x1x256x128.ShapeCasts S256x128 := by decide
theorem sq42 {α : Type} (x : S1x1x256x128.Idx → α) (a : Fin 256) (d : Fin 128) : shapeCast S256x128 x cast11ab (ix2 a d) = x (ix4 0 0 a d) := by
  pointwise []

/-- A row stored into a pair of rows: the row's place reads the row, the other what was there. -/
theorem upd_row0 {α : Type} (x : S1x1x256x2x128.Idx → α) (y : S1x1x256x1x128.Idx → α) (u : Fin 256) (l : Fin 128) :
    updateSlice x y ![0, 0, 0, 0, 0] slices_S1x1x256x2x128_S1x1x256x1x128_0_0_0_0_0 (ix5 0 0 u 0 l) = y (ix5 0 0 u 0 l) := by
  unfold updateSlice
  rw [dif_pos (fun a => by
    match a with
    | ⟨0, _⟩ => exact ⟨Nat.zero_le _, Nat.zero_lt_one⟩
    | ⟨1, _⟩ => exact ⟨Nat.zero_le _, Nat.zero_lt_one⟩
    | ⟨2, _⟩ => exact ⟨Nat.zero_le _, (Nat.zero_add 256).symm ▸ u.isLt⟩
    | ⟨3, _⟩ => exact ⟨Nat.zero_le _, Nat.zero_lt_one⟩
    | ⟨4, _⟩ => exact ⟨Nat.zero_le _, (Nat.zero_add 128).symm ▸ l.isLt⟩)]
  congr 1
  funext a
  match a with
  | ⟨0, _⟩ => rfl
  | ⟨1, _⟩ => rfl
  | ⟨2, _⟩ => rfl
  | ⟨3, _⟩ => rfl
  | ⟨4, _⟩ => rfl
theorem upd_row1 {α : Type} (x : S1x1x256x2x128.Idx → α) (y : S1x1x256x1x128.Idx → α) (u : Fin 256) (l : Fin 128) :
    updateSlice x y ![0, 0, 0, 1, 0] slices_S1x1x256x2x128_S1x1x256x1x128_0_0_0_1_0 (ix5 0 0 u 1 l) = y (ix5 0 0 u 0 l) := by
  unfold updateSlice
  rw [dif_pos (fun a => by
    match a with
    | ⟨0, _⟩ => exact ⟨Nat.zero_le _, Nat.zero_lt_one⟩
    | ⟨1, _⟩ => exact ⟨Nat.zero_le _, Nat.zero_lt_one⟩
    | ⟨2, _⟩ => exact ⟨Nat.zero_le _, (Nat.zero_add 256).symm ▸ u.isLt⟩
    | ⟨3, _⟩ => exact ⟨le_refl 1, Nat.lt_succ_self 1⟩
    | ⟨4, _⟩ => exact ⟨Nat.zero_le _, (Nat.zero_add 128).symm ▸ l.isLt⟩)]
  congr 1
  funext a
  match a with
  | ⟨0, _⟩ => rfl
  | ⟨1, _⟩ => rfl
  | ⟨2, _⟩ => rfl
  | ⟨3, _⟩ => rfl
  | ⟨4, _⟩ => rfl
theorem upd_row1_other {α : Type} (x : S1x1x256x2x128.Idx → α) (y : S1x1x256x1x128.Idx → α) (u : Fin 256) (l : Fin 128) :
    updateSlice x y ![0, 0, 0, 1, 0] slices_S1x1x256x2x128_S1x1x256x1x128_0_0_0_1_0 (ix5 0 0 u 0 l) = x (ix5 0 0 u 0 l) := by
  unfold updateSlice
  rw [dif_neg (fun h => absurd (h 3).1 (Nat.not_succ_le_zero 0))]

variable (c : Dev nD)

/-- A slot of the dh staging buffer after its two rows are stored. -/
theorem hsl_pair (s : Fin 2) (q : Fin 4) {o1 o2 : Fin 5 → ℕ} (i1 i2) (e1 : o1 = hslOff s q) (e2 : o2 = hslOff s q) (h : Buf (Elt Ideal) (hstM.view.loc (c : Thread nD τ)))
    (a b : Vec Ideal S1x1x256x1x128 .bf16) (u : Fin 256) (r : Fin 2) (l : Fin 128) :
    (hsl s q).view.read (Elt Ideal)
      (View.write (Elt Ideal) (hstM.access (Rect.unit (s := S2x4x256x2x128) o2 S1x1x256x2x128.size i2))
        (View.write (Elt Ideal) (hstM.access (Rect.unit (s := S2x4x256x2x128) o1 S1x1x256x2x128.size i1)) h
          (updateSlice (hstM.view.readAt (Elt Ideal) (Rect.unit (s := S2x4x256x2x128) o1 S1x1x256x2x128.size i1).toLoadRect h) a ![0, 0, 0, 0, 0] slices_S1x1x256x2x128_S1x1x256x1x128_0_0_0_0_0) Finset.univ)
        (updateSlice (hstM.view.readAt (Elt Ideal) (Rect.unit (s := S2x4x256x2x128) o2 S1x1x256x2x128.size i2).toLoadRect
          (View.write (Elt Ideal) (hstM.access (Rect.unit (s := S2x4x256x2x128) o1 S1x1x256x2x128.size i1)) h
            (updateSlice (hstM.view.readAt (Elt Ideal) (Rect.unit (s := S2x4x256x2x128) o1 S1x1x256x2x128.size i1).toLoadRect h) a ![0, 0, 0, 0, 0] slices_S1x1x256x2x128_S1x1x256x1x128_0_0_0_0_0) Finset.univ))
          b ![0, 0, 0, 1, 0] slices_S1x1x256x2x128_S1x1x256x1x128_0_0_0_1_0) Finset.univ) (ix3 u r l)
      = if r.val = 0 then a (ix5 0 0 u 0 l) else b (ix5 0 0 u 0 l) := by
  unfold hsl
  rw [Memref.read_squeeze_slice (hc := cast11abc)]
  refine (sq5 _ _ _ _).trans ?_
  refine (congrFun (readAt_write_unit hstM.view _ _ e2.symm _ _) _).trans ?_
  by_cases hr : r.val = 0
  · rw [if_pos hr, show r = 0 from Fin.ext hr]
    refine (upd_row1_other _ _ u l).trans ?_
    refine (congrFun (readAt_write_unit hstM.view _ _ (e2.trans e1.symm) _ _) _).trans ?_
    exact upd_row0 _ _ u l
  · rw [if_neg hr, show r = 1 from Fin.ext (by show r.val = 1; omega)]
    exact upd_row1 _ _ u l

/-- A slot of the dx staging buffer after it is stored. -/
theorem xsl_one (s : Fin 2) (q : Fin 4) {o : Fin 4 → ℕ} (i1) (e1 : o = xslOff s q) (h : Buf (Elt Ideal) (xstM.view.loc (c : Thread nD τ)))
    (a : Vec Ideal S1x1x256x128 .bf16) (u : Fin 256) (l : Fin 128) :
    (xsl s q).view.read (Elt Ideal)
      (View.write (Elt Ideal) (xstM.access (Rect.unit (s := S2x4x256x128) o S1x1x256x128.size i1)) h a Finset.univ) (ix2 u l)
      = a (ix4 0 0 u l) := by
  unfold xsl
  rw [Memref.read_squeeze_slice (hc := cast11ab)]
  refine (sq42 _ _ _).trans ?_
  exact congrFun (readAt_write_unit xstM.view _ _ e1.symm _ _) _

variable (m : (ℓ : Loc nD τ sig) → Buf (Elt Ideal) ℓ)

/-- What the kernel computes of dx. -/
def dxG (hi : Fin 2) (lo : Fin 2560) (l : Fin 16384) : EReal :=
  (∑ z : Fin 512, dhG m c hi lo ⟨l.val / 256, by omega⟩ z * (g4 m c (ix3 (⟨l.val / 256, by omega⟩ : Fin 64) z (⟨l.val % 256, by omega⟩ : Fin 256)) : EReal))
    * (g5 m c (ix1 (⟨l.val / 256, by omega⟩ : Fin 64)) : EReal)

/-- What a token block adds to dR. -/
def drB (b : ℕ) (k : Fin 64) (q : Fin 512) (p : Fin 256) : EReal :=
  ∑ z : Fin 256, dhG m c ⟨b % 20 / 10, by omega⟩ ⟨b % 20 % 10 * 256 + z.val, by omega⟩ k q
    * (g3 m c (ix3 ⟨b % 20 / 10, by omega⟩ ⟨b % 20 % 10 * 256 + z.val, by omega⟩ k) : EReal)
    * (g2 m c (ix3 ⟨b % 20 / 10, by omega⟩ ⟨b % 20 % 10 * 256 + z.val, by omega⟩ ⟨k.val * 256 + p.val, by omega⟩) : EReal)
/-- dR through the first `n` token blocks. -/
def drP (n : ℕ) (k : Fin 64) (q : Fin 512) (p : Fin 256) : EReal := ∑ b ∈ Finset.range n, drB c m b k q p

/-- The three results. -/
def GH : S5120x64x512.Idx → EReal := fun i => dhG m c ⟨(i 0).val / 2560, by have := (i 0).isLt; have : (i 0).val < 5120 := this; omega⟩ ⟨(i 0).val % 2560, by omega⟩ (i 1) (i 2)
def GX : S5120x16384.Idx → EReal := fun i => dxG c m ⟨(i 0).val / 2560, by have := (i 0).isLt; have : (i 0).val < 5120 := this; omega⟩ ⟨(i 0).val % 2560, by omega⟩ (i 1)
def GR : S64x512x256.Idx → EReal := fun i => drP c m 20 (i 0) (i 1) (i 2)

section
variable (t : Fin cfg0.N) (S : Stg m c t) (k : Fin k0_t3_loop.trips) (fd : Buf (Elt Ideal) (dhtM.view.loc (c : Thread nD τ))) (hfd : DhtTo m c t 512 fd)
include hfd

/-- A head's dh rows, as a trip loads them. -/
theorem catE_ld (p : Fin 2) (q : Fin 512) (u : Fin 256) : catE (ld12 c k fd p) (ld13 c k fd p) q u
    = dhG m c ⟨t.val % 20 / 10, by omega⟩ ⟨t.val % 20 % 10 * 256 + u.val, by omega⟩ ⟨t.val / 20 * 32 + (2 * k.val + p.val), by have := tlt t; have := t3lt k; omega⟩ q := by
  have hk := t3lt k
  unfold catE
  by_cases h : u.val < 128
  · rw [dif_pos h]
    refine (readAt_unit_apply dhtM.view _ _ _ (ix4 (⟨2 * k.val + p.val, by omega⟩ : Fin 32) (0 : Fin 2) q (⟨u.val, h⟩ : Fin 128)) (koff12 k p) (fun a => ?_)).trans ?_
    · match a with
      | ⟨0, _⟩ => rfl
      | ⟨1, _⟩ => rfl
      | ⟨2, _⟩ => show q.val = 0 + q.val; omega
      | ⟨3, _⟩ => show u.val = 0 + u.val; omega
    · refine (hfd _ _ q _ q.isLt).trans ?_
      congr 1
      exact Fin.ext (by show t.val % 20 % 10 * 256 + (0 * 128 + u.val) = _; simp only []; omega)
  · rw [dif_neg h]
    refine (readAt_unit_apply dhtM.view _ _ _ (ix4 (⟨2 * k.val + p.val, by omega⟩ : Fin 32) (1 : Fin 2) q (⟨u.val - 128, by omega⟩ : Fin 128)) (koff13 k p) (fun a => ?_)).trans ?_
    · match a with
      | ⟨0, _⟩ => rfl
      | ⟨1, _⟩ => rfl
      | ⟨2, _⟩ => show q.val = 0 + q.val; omega
      | ⟨3, _⟩ => show u.val - 128 = 0 + (u.val - 128); omega
    · refine (hfd _ _ q _ q.isLt).trans ?_
      congr 1
      exact Fin.ext (by show t.val % 20 % 10 * 256 + (1 * 128 + (u.val - 128)) = _; simp only []; omega)

omit hfd in
theorem ld14_apply (p : Fin 2) (u : Fin 256) : (ld14 c (st0_3 t) S.f5 k p (ix3 0 0 u) : EReal)
    = (g3 m c (ix3 ⟨t.val % 20 / 10, by omega⟩ ⟨t.val % 20 % 10 * 256 + u.val, by omega⟩ ⟨t.val / 20 * 32 + (2 * k.val + p.val), by have := tlt t; have := t3lt k; omega⟩) : EReal) := by
  have hk := t3lt k
  refine (readAt_unit_apply (st0_3 t).view _ _ _ (ix3 (⟨2 * k.val + p.val, by omega⟩ : Fin 32) (0 : Fin 1) u) (koff14 k p) (fun a => ?_)).trans ?_
  · match a with
    | ⟨0, _⟩ => rfl
    | ⟨1, _⟩ => rfl
    | ⟨2, _⟩ => show u.val = 0 + u.val; omega
  · exact (congrFun S.e5 _).trans (blk3 m c t _ u)

omit hfd in
theorem ld15_apply (p : Fin 2) (u l : Fin 256) : (ld15 c (st0_1 t) S.f3 k p (ix2 u l) : EReal)
    = (g2 m c (ix3 ⟨t.val % 20 / 10, by omega⟩ ⟨t.val % 20 % 10 * 256 + u.val, by omega⟩ ⟨(t.val / 20 * 32 + (2 * k.val + p.val)) * 256 + l.val, by have := tlt t; have := t3lt k; omega⟩) : EReal) := by
  have hk := t3lt k
  refine (readAt_unit_apply (st0_1 t).view _ _ _ (ix2 u (⟨256 * (2 * k.val + p.val) + l.val, by omega⟩ : Fin 8192)) (koff15 k p) (fun a => ?_)).trans ?_
  · match a with
    | ⟨0, _⟩ => show u.val = 0 + u.val; omega
    | ⟨1, _⟩ => rfl
  · refine (congrFun S.e3 _).trans ((blk1 m c t u _).trans ?_)
    congr 2
    exact Fin.ext (by simp only []; omega)

omit hfd in
theorem ld16r_apply (p : Fin 2) (z : Fin 512) (l : Fin 256) : (ld16r c (st0_6 t) S.f8 k p (ix3 0 z l) : EReal)
    = (g4 m c (ix3 ⟨t.val / 20 * 32 + (2 * k.val + p.val), by have := tlt t; have := t3lt k; omega⟩ z l) : EReal) := by
  have hk := t3lt k
  refine (readAt_unit_apply (st0_6 t).view _ _ _ (ix3 (⟨2 * k.val + p.val, by omega⟩ : Fin 32) z l) (koff16 k p) (fun a => ?_)).trans ?_
  · match a with
    | ⟨0, _⟩ => rfl
    | ⟨1, _⟩ => show z.val = 0 + z.val; omega
    | ⟨2, _⟩ => show l.val = 0 + l.val; omega
  · exact (congrFun S.e8 _).trans (blk6 m c t _ z l)

omit hfd in
theorem ld17_apply (p : Fin 2) : (ld17 c (grid0.coords t) (st0_0 t) S.f2 k p : EReal)
    = (g5 m c (ix1 ⟨t.val / 20 * 32 + (2 * k.val + p.val), by have := tlt t; have := t3lt k; omega⟩) : EReal) := by
  have hk := t3lt k
  have ht := tlt t
  refine (readAt_unit_apply (st0_0 t).view _ _ _ (ix1 (⟨t.val / 20 * 32 + (2 * k.val + p.val), by omega⟩ : Fin 64)) (koff17 _ k p) (fun a => ?_)).trans ?_
  · match a with
    | ⟨0, _⟩ => show t.val / 20 * 32 + (2 * k.val + p.val) = 32 * (grid0.coords t 0).val + 2 * k.val + p.val + 0; rw [coords0]; omega
  · exact (congrFun S.e2 _).trans (blk0 m c t _)

/-- A dx element of a trip's head `p` over the loads. -/
theorem dx_ld (p : Fin 2) (u : Fin 256) (l : Fin 256) (j : Fin 16384) (hj : j.val = (t.val / 20 * 32 + (2 * k.val + p.val)) * 256 + l.val) :
    (∑ z : Fin 512, catE (ld12 c k fd p) (ld13 c k fd p) z u * (ld16r c (st0_6 t) S.f8 k p (ix3 0 z l) : EReal)) * (ld17 c (grid0.coords t) (st0_0 t) S.f2 k p : EReal)
      = dxG c m ⟨t.val % 20 / 10, by omega⟩ ⟨t.val % 20 % 10 * 256 + u.val, by omega⟩ j := by
  have hk := t3lt k
  have ht := tlt t
  have e1 : (⟨j.val / 256, by omega⟩ : Fin 64) = ⟨t.val / 20 * 32 + (2 * k.val + p.val), by omega⟩ := Fin.ext (by simp only []; omega)
  have e2 : (⟨j.val % 256, by omega⟩ : Fin 256) = l := Fin.ext (by simp only []; omega)
  unfold dxG
  rw [e1, e2, ld17_apply]
  congr 1
  refine Finset.sum_congr rfl fun z _ => ?_
  rw [catE_ld c m t k fd hfd, ld16r_apply]

theorem hPay0_apply (h : Buf (Elt Ideal) (hstM.view.loc (c : Thread nD τ))) (u : Fin 256) (r : Fin 2) (l : Fin 128) :
    (hPay0 c k fd h (ix3 u r l) : EReal)
      = dhG m c ⟨t.val % 20 / 10, by omega⟩ ⟨t.val % 20 % 10 * 256 + u.val, by omega⟩ ⟨t.val / 20 * 32 + (2 * k.val + r.val), by have := tlt t; have := t3lt k; omega⟩ ⟨128 * 0 + l.val, by omega⟩ := by
  unfold hPay0 hOut0
  refine (hsl_pair c (Ring.sl 2 k.val) 0 _ _ (k0_off37_eq k) (k0_off39_eq k) h _ _ u r l).trans ?_
  by_cases hr : r.val = 0
  · rw [if_pos hr, show r = 0 from Fin.ext hr]
    refine (pay28_apply _ _ u l).trans ?_
    exact catE_ld c m t k fd hfd 0 _ u
  · rw [if_neg hr, show r = 1 from Fin.ext (by show r.val = 1; omega)]
    refine (pay29_apply _ _ u l).trans ?_
    exact catE_ld c m t k fd hfd 1 _ u

theorem hPay1_apply (h : Buf (Elt Ideal) (hstM.view.loc (c : Thread nD τ))) (u : Fin 256) (r : Fin 2) (l : Fin 128) :
    (hPay1 c k fd h (ix3 u r l) : EReal)
      = dhG m c ⟨t.val % 20 / 10, by omega⟩ ⟨t.val % 20 % 10 * 256 + u.val, by omega⟩ ⟨t.val / 20 * 32 + (2 * k.val + r.val), by have := tlt t; have := t3lt k; omega⟩ ⟨128 * 1 + l.val, by omega⟩ := by
  unfold hPay1 hOut1
  refine (hsl_pair c (Ring.sl 2 k.val) 1 _ _ (k0_off41_eq k) (k0_off43_eq k) h _ _ u r l).trans ?_
  by_cases hr : r.val = 0
  · rw [if_pos hr, show r = 0 from Fin.ext hr]
    refine (pay30_apply _ _ u l).trans ?_
    exact catE_ld c m t k fd hfd 0 _ u
  · rw [if_neg hr, show r = 1 from Fin.ext (by show r.val = 1; omega)]
    refine (pay31_apply _ _ u l).trans ?_
    exact catE_ld c m t k fd hfd 1 _ u

theorem hPay2_apply (h : Buf (Elt Ideal) (hstM.view.loc (c : Thread nD τ))) (u : Fin 256) (r : Fin 2) (l : Fin 128) :
    (hPay2 c k fd h (ix3 u r l) : EReal)
      = dhG m c ⟨t.val % 20 / 10, by omega⟩ ⟨t.val % 20 % 10 * 256 + u.val, by omega⟩ ⟨t.val / 20 * 32 + (2 * k.val + r.val), by have := tlt t; have := t3lt k; omega⟩ ⟨128 * 2 + l.val, by omega⟩ := by
  unfold hPay2 hOut2
  refine (hsl_pair c (Ring.sl 2 k.val) 2 _ _ (k0_off45_eq k) (k0_off47_eq k) h _ _ u r l).trans ?_
  by_cases hr : r.val = 0
  · rw [if_pos hr, show r = 0 from Fin.ext hr]
    refine (pay32_apply _ _ u l).trans ?_
    exact catE_ld c m t k fd hfd 0 _ u
  · rw [if_neg hr, show r = 1 from Fin.ext (by show r.val = 1; omega)]
    refine (pay34_apply _ _ u l).trans ?_
    exact catE_ld c m t k fd hfd 1 _ u

theorem hPay3_apply (h : Buf (Elt Ideal) (hstM.view.loc (c : Thread nD τ))) (u : Fin 256) (r : Fin 2) (l : Fin 128) :
    (hPay3 c k fd h (ix3 u r l) : EReal)
      = dhG m c ⟨t.val % 20 / 10, by omega⟩ ⟨t.val % 20 % 10 * 256 + u.val, by omega⟩ ⟨t.val / 20 * 32 + (2 * k.val + r.val), by have := tlt t; have := t3lt k; omega⟩ ⟨128 * 3 + l.val, by omega⟩ := by
  unfold hPay3 hOut3
  refine (hsl_pair c (Ring.sl 2 k.val) 3 _ _ (k0_off49_eq k) (k0_off51_eq k) h _ _ u r l).trans ?_
  by_cases hr : r.val = 0
  · rw [if_pos hr, show r = 0 from Fin.ext hr]
    refine (pay35_apply _ _ u l).trans ?_
    exact catE_ld c m t k fd hfd 0 _ u
  · rw [if_neg hr, show r = 1 from Fin.ext (by show r.val = 1; omega)]
    refine (pay36_apply _ _ u l).trans ?_
    exact catE_ld c m t k fd hfd 1 _ u

theorem xPay0_apply (x : Buf (Elt Ideal) (xstM.view.loc (c : Thread nD τ))) (u : Fin 256) (l : Fin 128) :
    (xPay0 c (grid0.coords t) (st0_0 t) (st0_6 t) S.f2 S.f8 k fd x (ix2 u l) : EReal)
      = dxG c m ⟨t.val % 20 / 10, by omega⟩ ⟨t.val % 20 % 10 * 256 + u.val, by omega⟩ ⟨8192 * (t.val / 20) + 512 * k.val + 128 * 0 + l.val, by have := tlt t; have := t3lt k; omega⟩ := by
  refine (xsl_one c (Ring.sl 2 k.val) 0 _ (k0_off32_eq k) x _ u l).trans ?_
  refine (pay18_apply _ _ _ _ u l).trans ?_
  exact dx_ld c m t S k fd hfd 0 u ⟨l.val, by omega⟩ _ (by show 8192 * (t.val / 20) + 512 * k.val + 128 * 0 + l.val = (t.val / 20 * 32 + (2 * k.val + 0)) * 256 + l.val; omega)

theorem xPay1_apply (x : Buf (Elt Ideal) (xstM.view.loc (c : Thread nD τ))) (u : Fin 256) (l : Fin 128) :
    (xPay1 c (grid0.coords t) (st0_0 t) (st0_6 t) S.f2 S.f8 k fd x (ix2 u l) : EReal)
      = dxG c m ⟨t.val % 20 / 10, by omega⟩ ⟨t.val % 20 % 10 * 256 + u.val, by omega⟩ ⟨8192 * (t.val / 20) + 512 * k.val + 128 * 1 + l.val, by have := tlt t; have := t3lt k; omega⟩ := by
  refine (xsl_one c (Ring.sl 2 k.val) 1 _ (k0_off33_eq k) x _ u l).trans ?_
  refine (pay19_apply _ _ _ _ u l).trans ?_
  exact dx_ld c m t S k fd hfd 0 u ⟨128 + l.val, by omega⟩ _ (by show 8192 * (t.val / 20) + 512 * k.val + 128 * 1 + l.val = (t.val / 20 * 32 + (2 * k.val + 0)) * 256 + (128 + l.val); omega)

theorem xPay2_apply (x : Buf (Elt Ideal) (xstM.view.loc (c : Thread nD τ))) (u : Fin 256) (l : Fin 128) :
    (xPay2 c (grid0.coords t) (st0_0 t) (st0_6 t) S.f2 S.f8 k fd x (ix2 u l) : EReal)
      = dxG c m ⟨t.val % 20 / 10, by omega⟩ ⟨t.val % 20 % 10 * 256 + u.val, by omega⟩ ⟨8192 * (t.val / 20) + 512 * k.val + 128 * 2 + l.val, by have := tlt t; have := t3lt k; omega⟩ := by
  refine (xsl_one c (Ring.sl 2 k.val) 2 _ (k0_off34_eq k) x _ u l).trans ?_
  refine (pay25_apply _ _ _ _ u l).trans ?_
  exact dx_ld c m t S k fd hfd 1 u ⟨l.val, by omega⟩ _ (by show 8192 * (t.val / 20) + 512 * k.val + 128 * 2 + l.val = (t.val / 20 * 32 + (2 * k.val + 1)) * 256 + l.val; omega)

theorem xPay3_apply (x : Buf (Elt Ideal) (xstM.view.loc (c : Thread nD τ))) (u : Fin 256) (l : Fin 128) :
    (xPay3 c (grid0.coords t) (st0_0 t) (st0_6 t) S.f2 S.f8 k fd x (ix2 u l) : EReal)
      = dxG c m ⟨t.val % 20 / 10, by omega⟩ ⟨t.val % 20 % 10 * 256 + u.val, by omega⟩ ⟨8192 * (t.val / 20) + 512 * k.val + 128 * 3 + l.val, by have := tlt t; have := t3lt k; omega⟩ := by
  refine (xsl_one c (Ring.sl 2 k.val) 3 _ (k0_off35_eq k) x _ u l).trans ?_
  refine (pay27_apply _ _ _ _ u l).trans ?_
  exact dx_ld c m t S k fd hfd 1 u ⟨128 + l.val, by omega⟩ _ (by show 8192 * (t.val / 20) + 512 * k.val + 128 * 3 + l.val = (t.val / 20 * 32 + (2 * k.val + 1)) * 256 + (128 + l.val); omega)

/-- A trip's two heads of the accumulator. -/
theorem acc_ld (fa : Buf (Elt Ideal) (accM.view.loc (c : Thread nD τ))) (p : Fin 2) (q : Fin 512) (l : Fin 256) :
    (ld16a c k fa p (ix3 0 q l) : EReal) + ∑ z : Fin 256, catE (ld12 c k fd p) (ld13 c k fd p) q z * (ld14 c (st0_3 t) S.f5 k p (ix3 0 0 z) : EReal) * (ld15 c (st0_1 t) S.f3 k p (ix2 z l) : EReal)
      = (accM.view.read (Elt Ideal) fa (ix3 (⟨2 * k.val + p.val, by have := t3lt k; omega⟩ : Fin 32) q l) : EReal)
        + drB c m (t.val % 20) ⟨t.val / 20 * 32 + (2 * k.val + p.val), by have := tlt t; have := t3lt k; omega⟩ q l := by
  have hk := t3lt k
  congr 1
  · refine readAt_unit_apply accM.view _ _ _ (ix3 (⟨2 * k.val + p.val, by omega⟩ : Fin 32) q l) (koff16 k p) (fun a => ?_)
    match a with
    | ⟨0, _⟩ => rfl
    | ⟨1, _⟩ => show q.val = 0 + q.val; omega
    | ⟨2, _⟩ => show l.val = 0 + l.val; omega
  · unfold drB
    refine Finset.sum_congr rfl fun z _ => ?_
    have e0 : t.val % 20 % 20 = t.val % 20 := Nat.mod_mod _ _
    rw [catE_ld c m t k fd hfd, ld14_apply, ld15_apply]
    simp only [e0]

/-- One storing trip adds the block's share to its two heads. -/
theorem acc_step (A : Fin 32 → Fin 512 → Fin 256 → EReal) (fa : Buf (Elt Ideal) (accM.view.loc (c : Thread nD τ)))
    (h : ∀ (j : Fin 32) q l, (accM.view.read (Elt Ideal) fa (ix3 j q l) : EReal)
      = if j.val < 2 * k.val then A j q l + drB c m (t.val % 20) ⟨t.val / 20 * 32 + j.val, by have := tlt t; omega⟩ q l else A j q l) (j : Fin 32) (q : Fin 512) (l : Fin 256) :
    (accM.view.read (Elt Ideal) (accAfter c (st0_1 t) (st0_3 t) S.f3 S.f5 k fd fa) (ix3 j q l) : EReal)
      = if j.val < 2 * (k.val + 1) then A j q l + drB c m (t.val % 20) ⟨t.val / 20 * 32 + j.val, by have := tlt t; omega⟩ q l else A j q l := by
  have hk := t3lt k
  unfold accAfter
  by_cases h1 : j.val = 2 * k.val + 1
  · rw [View.read_writes_cons_unit_of_mem _ _ _ _ _ _ (ix3 (0 : Fin 1) q l) (koff16 k 1) (fun a => by
      match a with
      | ⟨0, _⟩ => show j.val = 2 * k.val + 1 + 0; omega
      | ⟨1, _⟩ => show q.val = 0 + q.val; omega
      | ⟨2, _⟩ => show l.val = 0 + l.val; omega)]
    refine (pay22_apply _ _ _ _ _ q l).trans ?_
    refine (acc_ld c m t S k fd hfd fa 1 q l).trans ?_
    rw [h, if_neg (by show ¬ 2 * k.val + 1 < 2 * k.val; omega), if_pos (by omega)]
    have e : (⟨2 * k.val + (1 : Fin 2).val, by show 2 * k.val + 1 < 32; omega⟩ : Fin 32) = j := Fin.ext h1.symm
    rw [e]
    congr 2
    exact Fin.ext (by show t.val / 20 * 32 + (2 * k.val + 1) = t.val / 20 * 32 + j.val; omega)
  · rw [View.read_writes_cons_unit_of_not_mem _ _ _ _ _ _ (koff16 k 1) (0 : Fin 3) (by show j.val < 2 * k.val + 1 ∨ 2 * k.val + 1 + 1 ≤ j.val; omega)]
    by_cases h0 : j.val = 2 * k.val
    · rw [View.read_writes_cons_unit_of_mem _ _ _ _ _ _ (ix3 (0 : Fin 1) q l) (koff16 k 0) (fun a => by
        match a with
        | ⟨0, _⟩ => show j.val = 2 * k.val + 0 + 0; omega
        | ⟨1, _⟩ => show q.val = 0 + q.val; omega
        | ⟨2, _⟩ => show l.val = 0 + l.val; omega)]
      refine (pay15_apply _ _ _ _ _ q l).trans ?_
      refine (acc_ld c m t S k fd hfd fa 0 q l).trans ?_
      rw [h, if_neg (by show ¬ 2 * k.val + 0 < 2 * k.val; omega), if_pos (by omega)]
      have e : (⟨2 * k.val + (0 : Fin 2).val, by show 2 * k.val + 0 < 32; omega⟩ : Fin 32) = j := Fin.ext h0.symm
      rw [e]
      congr 2
      exact Fin.ext (by show t.val / 20 * 32 + (2 * k.val + 0) = t.val / 20 * 32 + j.val; omega)
    · rw [View.read_writes_cons_unit_of_not_mem _ _ _ _ _ _ (koff16 k 0) (0 : Fin 3) (by show j.val < 2 * k.val + 0 ∨ 2 * k.val + 0 + 1 ≤ j.val; omega)]
      refine (h j q l).trans ?_
      by_cases h2 : j.val < 2 * k.val
      · rw [if_pos h2, if_pos (by omega)]
      · rw [if_neg h2, if_neg (by omega)]
end

section
variable (t : Fin cfg0.N) (S : Stg m c t) (fo : Buf (Elt Ideal) (dhtM.view.loc (c : Thread nD τ)))

/-- A point adds its token block's share to the accumulator. -/
theorem accAt_apply (fa : Buf (Elt Ideal) (accM.view.loc (c : Thread nD τ))) (j : Fin 32) (q : Fin 512) (l : Fin 256) :
    (accM.view.read (Elt Ideal) (accAt m c t S fo fa) (ix3 j q l) : EReal)
      = (accM.view.read (Elt Ideal) fa (ix3 j q l) : EReal) + drB c m (t.val % 20) ⟨t.val / 20 * 32 + j.val, by have := tlt t; omega⟩ q l := by
  have hfd := dhtAt_ok m c t S fo
  have key : ∀ n : ℕ, n ≤ 16 → ∀ (j : Fin 32) (q : Fin 512) (l : Fin 256),
      (accM.view.read (Elt Ideal) (accIter c (st0_1 t) (st0_3 t) S.f3 S.f5 (dhtAt m c t S fo) fa n) (ix3 j q l) : EReal)
        = if j.val < 2 * n then (accM.view.read (Elt Ideal) fa (ix3 j q l) : EReal) + drB c m (t.val % 20) ⟨t.val / 20 * 32 + j.val, by have := tlt t; omega⟩ q l
          else (accM.view.read (Elt Ideal) fa (ix3 j q l) : EReal) := by
    intro n
    induction n with
    | zero => intro _ j q l; unfold accIter; rw [iterFin_zero, if_neg (by omega)]
    | succ n ih =>
      intro hn j q l
      have hn' : n < k0_t3_loop.trips := by rw [trips3]; omega
      unfold accIter
      rw [iterFin_succ _ _ _ ⟨n, hn'⟩]
      exact acc_step c m t S ⟨n, hn'⟩ _ hfd (fun j q l => (accM.view.read (Elt Ideal) fa (ix3 j q l) : EReal)) _ (ih (by omega)) j q l
  have := key 16 le_rfl j q l
  rw [if_pos (by omega)] at this
  unfold accAt
  rw [trips3]
  exact this
end

/-! ## The specification of the run -/

theorem accZ_apply (j : Fin 32) (q : Fin 512) (l : Fin 256) : (accM.view.read (Elt Ideal) (accZ c) (ix3 j q l) : EReal) = 0 := by
  unfold accZ
  rw [View.read_writes_cons_unit_of_mem _ _ _ _ _ _ (ix3 j q l) rfl (fun a => by
      match a with
      | ⟨0, _⟩ => show j.val = 0 + j.val; omega
      | ⟨1, _⟩ => show q.val = 0 + q.val; omega
      | ⟨2, _⟩ => show l.val = 0 + l.val; omega)]
  pointwise [k0_pay2]

/-- A whole piece written through a view leaves the view's elements at what a buffer holds there, if the piece reads it. -/
theorem writes_on {κ} {sp} {s : Shape} {e} (v : View sig κ sp s e) (p : v.ty.Contents (Elt Ideal)) (pay : s.Idx → Elt Ideal e) (G : v.ty.Contents (Elt Ideal))
    (hp : ∀ x, pay x = v.read (Elt Ideal) G x) : ∀ i ∈ v.set, v.writes (Elt Ideal) p [⟨Rect.whole s, pay⟩] i = G i := by
  intro i hi
  obtain ⟨x, -, rfl⟩ := Finset.mem_map.mp hi
  have h := (congrFun (View.read_writes_whole v p pay) x).trans (hp x)
  rw [View.read_apply, View.read_apply] at h
  exact eq_of_heq ((cast_heq _ _).symm.trans ((heq_of_eq h).trans (cast_heq _ _)))

theorem h_ok (t : Fin cfg0.N) (k : Fin k0_t3_loop.trips) (q : Fin 4) (p : Buf (Elt Ideal) ((hpc ⟨pno (grid0.coords t) k, pno_lt _ k⟩ q).view.loc (c : Thread nD τ)))
    (pay : S256x2x128.Idx → Elt Ideal .bf16)
    (hp : ∀ u r l, (pay (ix3 u r l) : EReal) = dhG m c ⟨t.val % 20 / 10, by omega⟩ ⟨t.val % 20 % 10 * 256 + u.val, by omega⟩ ⟨t.val / 20 * 32 + (2 * k.val + r.val), by have := tlt t; have := t3lt k; omega⟩ ⟨128 * q.val + l.val, by omega⟩) :
    ∀ i ∈ hS c ⟨pno (grid0.coords t) k, pno_lt _ k⟩ q,
      ((hpc ⟨pno (grid0.coords t) k, pno_lt _ k⟩ q).view.writes (Elt Ideal) p [⟨Rect.whole S256x2x128, pay⟩] : Buf (Elt Ideal) ((c : Thread nD τ).loc main_v20_1)) i = GH c m i := by
  have hk := t3lt k
  have ht := tlt t
  have hpn : pno (grid0.coords t) k = 16 * t.val + k.val := by unfold pno; rw [stepOf_coords]
  refine writes_on (hpc ⟨pno (grid0.coords t) k, pno_lt _ k⟩ q).view p pay (GH c m) (fun x => ?_)
  rw [eq_ix3 x]
  refine (hp _ _ _).trans ?_
  show _ = GH c m ((hpc ⟨pno (grid0.coords t) k, pno_lt _ k⟩ q).view.emb (ix3 (x 0) (x 1) (x 2)))
  have h0 := (x 0).isLt
  have h0 : (x 0).val < 256 := h0
  unfold GH
  congr 1
  · refine Fin.ext ?_
    show t.val % 20 / 10 = (256 * (pno (grid0.coords t) k / 16 % 20) + 1 * (x 0).val) / 2560
    rw [hpn]; omega
  · refine Fin.ext ?_
    show t.val % 20 % 10 * 256 + (x 0).val = (256 * (pno (grid0.coords t) k / 16 % 20) + 1 * (x 0).val) % 2560
    rw [hpn]; omega
  · refine Fin.ext ?_
    show t.val / 20 * 32 + (2 * k.val + (x 1).val) = 32 * (pno (grid0.coords t) k / 320) + 2 * (pno (grid0.coords t) k % 16) + 1 * (x 1).val
    rw [hpn]; omega
  · refine Fin.ext ?_
    show 128 * q.val + (x 2).val = 128 * q.val + 1 * (x 2).val
    omega

theorem x_ok (t : Fin cfg0.N) (k : Fin k0_t3_loop.trips) (q : Fin 4) (p : Buf (Elt Ideal) ((xpc ⟨pno (grid0.coords t) k, pno_lt _ k⟩ q).view.loc (c : Thread nD τ)))
    (pay : S256x128.Idx → Elt Ideal .bf16)
    (hp : ∀ u l, (pay (ix2 u l) : EReal) = dxG c m ⟨t.val % 20 / 10, by omega⟩ ⟨t.val % 20 % 10 * 256 + u.val, by omega⟩ ⟨8192 * (t.val / 20) + 512 * k.val + 128 * q.val + l.val, by have := tlt t; have := t3lt k; omega⟩) :
    ∀ i ∈ xS c ⟨pno (grid0.coords t) k, pno_lt _ k⟩ q,
      ((xpc ⟨pno (grid0.coords t) k, pno_lt _ k⟩ q).view.writes (Elt Ideal) p [⟨Rect.whole S256x128, pay⟩] : Buf (Elt Ideal) ((c : Thread nD τ).loc main_v20_0)) i = GX c m i := by
  have hk := t3lt k
  have ht := tlt t
  have hpn : pno (grid0.coords t) k = 16 * t.val + k.val := by unfold pno; rw [stepOf_coords]
  refine writes_on (xpc ⟨pno (grid0.coords t) k, pno_lt _ k⟩ q).view p pay (GX c m) (fun x => ?_)
  rw [eq_ix2 x]
  refine (hp _ _).trans ?_
  show _ = GX c m ((xpc ⟨pno (grid0.coords t) k, pno_lt _ k⟩ q).view.emb (ix2 (x 0) (x 1)))
  have h0 := (x 0).isLt
  have h0 : (x 0).val < 256 := h0
  unfold GX
  congr 1
  · refine Fin.ext ?_
    show t.val % 20 / 10 = (256 * (pno (grid0.coords t) k / 16 % 20) + 1 * (x 0).val) / 2560
    rw [hpn]; omega
  · refine Fin.ext ?_
    show t.val % 20 % 10 * 256 + (x 0).val = (256 * (pno (grid0.coords t) k / 16 % 20) + 1 * (x 0).val) % 2560
    rw [hpn]; omega
  · refine Fin.ext ?_
    show 8192 * (t.val / 20) + 512 * k.val + 128 * q.val + (x 1).val = 8192 * (pno (grid0.coords t) k / 320) + 512 * (pno (grid0.coords t) k % 16) + 128 * q.val + 1 * (x 1).val
    rw [hpn]; omega

/-- A half of dR, read through the memref its copy writes. -/
theorem GR_read (h : Fin 2) (j : Fin 32) (q : Fin 512) (l : Fin 256) :
    ((rpc h).view.read (Elt Ideal) (GR c m : Buf (Elt Ideal) ((rpc h).view.loc (c : Thread nD τ))) (ix3 j q l) : EReal) = drP c m 20 ⟨32 * h.val + j.val, by omega⟩ q l := by
  show GR c m ((rpc h).view.emb (ix3 j q l)) = _
  have e : (rpc h).view.emb (ix3 j q l) = ix3 (⟨32 * h.val + j.val, by omega⟩ : Fin 64) q l := by
    funext a
    match a with
    | ⟨0, _⟩ => exact Fin.ext (by show 32 * h.val + 1 * j.val = 32 * h.val + j.val; omega)
    | ⟨1, _⟩ => exact Fin.ext (by show 0 + 1 * q.val = q.val; omega)
    | ⟨2, _⟩ => exact Fin.ext (by show 0 + 1 * l.val = l.val; omega)
  rw [e]
  rfl

theorem r_ok' (h : Fin 2) (p : Buf (Elt Ideal) ((rpc h).view.loc (c : Thread nD τ))) (pay : S32x512x256.Idx → Elt Ideal .f32)
    (hp : ∀ j q l, (pay (ix3 j q l) : EReal) = drP c m 20 ⟨32 * h.val + j.val, by omega⟩ q l) :
    ∀ i ∈ rS c h, ((rpc h).view.writes (Elt Ideal) p [⟨Rect.whole S32x512x256, pay⟩] : Buf (Elt Ideal) ((c : Thread nD τ).loc main_v20_2)) i = GR c m i := by
  refine writes_on (rpc h).view p pay (GR c m) (fun x => ?_)
  rw [eq_ix3 x]
  exact (hp _ _ _).trans (GR_read c m h _ _ _).symm

theorem r_ok (t : Fin cfg0.N) (fa : Buf (Elt Ideal) (accM.view.loc (c : Thread nD τ)))
    (hp : ∀ (j : Fin 32) q l, (accM.view.read (Elt Ideal) fa (ix3 j q l) : EReal) = drP c m 20 ⟨t.val / 20 * 32 + j.val, by have := tlt t; omega⟩ q l)
    (p : Buf (Elt Ideal) ((rpc (grid0.coords t 0)).view.loc (c : Thread nD τ))) :
    ∀ i ∈ rS c (grid0.coords t 0),
      ((rpc (grid0.coords t 0)).view.writes (Elt Ideal) p [⟨Rect.whole S32x512x256, ReadAs.same.apply (accM.view.read (Elt Ideal) fa)⟩] : Buf (Elt Ideal) ((c : Thread nD τ).loc main_v20_2)) i = GR c m i := by
  refine r_ok' c m (grid0.coords t 0) p (ReadAs.same.apply (accM.view.read (Elt Ideal) fa)) (fun j q l => ?_)
  have h0 := coords0 t
  refine (hp j q l).trans ?_
  congr 1
  exact Fin.ext (by show t.val / 20 * 32 + j.val = 32 * (grid0.coords t 0).val + j.val; rw [h0]; omega)

/-- Every element of the three results at its value, the accumulator at the blocks summed so far. -/
def valSpec : Spec m c where
  PH i f := f i = GH c m i
  PX i f := f i = GX c m i
  PR i f := f i = GR c m i
  locH i f g h p := h.symm.trans p
  locX i f g h p := h.symm.trans p
  locR i f g h p := h.symm.trans p
  AOK T fa := ∀ (j : Fin 32) (K : Fin 64) q l, K.val = (T - 1) / 20 * 32 + j.val → (accM.view.read (Elt Ideal) fa (ix3 j q l) : EReal) = drP c m ((T - 1) % 20 + 1) K q l
  trip t S fo k := {
    h0 := fun p h => h_ok c m t k 0 p _ (hPay0_apply c m t k _ (dhtAt_ok m c t S fo) h)
    x0 := fun p x => x_ok c m t k 0 p _ (xPay0_apply c m t S k _ (dhtAt_ok m c t S fo) x)
    h1 := fun p h => h_ok c m t k 1 p _ (hPay1_apply c m t k _ (dhtAt_ok m c t S fo) h)
    x1 := fun p x => x_ok c m t k 1 p _ (xPay1_apply c m t S k _ (dhtAt_ok m c t S fo) x)
    h2 := fun p h => h_ok c m t k 2 p _ (hPay2_apply c m t k _ (dhtAt_ok m c t S fo) h)
    x2 := fun p x => x_ok c m t k 2 p _ (xPay2_apply c m t S k _ (dhtAt_ok m c t S fo) x)
    h3 := fun p h => h_ok c m t k 3 p _ (hPay3_apply c m t k _ (dhtAt_ok m c t S fo) h)
    x3 := fun p x => x_ok c m t k 3 p _ (xPay3_apply c m t S k _ (dhtAt_ok m c t S fo) x) }
  accS t S fo h j K q l hK := by
    have e : (⟨t.val / 20 * 32 + j.val, by have := tlt t; omega⟩ : Fin 64) = K := Fin.ext (by rw [hK]; simp only []; omega)
    rw [accAt_apply, accZ_apply, e, zero_add, show (t.val + 1 - 1) % 20 + 1 = 1 from by omega]
    unfold drP
    rw [Finset.sum_range_one, h]
  accN t S fo fa h hfa j K q l hK := by
    have e : (⟨t.val / 20 * 32 + j.val, by have := tlt t; omega⟩ : Fin 64) = K := Fin.ext (by rw [hK]; simp only []; omega)
    rw [accAt_apply, e, hfa j K q l (by rw [hK]; omega), show (t.val - 1) % 20 + 1 = t.val % 20 from by omega, show (t.val + 1 - 1) % 20 + 1 = t.val % 20 + 1 from by omega]
    unfold drP
    rw [Finset.sum_range_succ]
  accR t fa h hfa p := r_ok c m t fa (fun j q l => by
    have := hfa j ⟨t.val / 20 * 32 + j.val, by have := tlt t; omega⟩ q l (by simp only []; omega)
    rwa [show (t.val + 1 - 1) % 20 + 1 = 20 from by omega] at this) p

end Cert.KernelIdeal.Hand
-- ==== Proof.KV.Ref.lean ====
module

public import proofs.«01_k».proof.Proof.Gen.ReferenceIdeal.Frame
public import Idealize.ShloMosaic.Lib.Pipeline.ValueKit
public import Idealize.ShloMosaic.Lib.Pointwise

/-! The values of the reference's three results, element by element. -/

@[expose] public section

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

abbrev a0 : Vec Ideal S2x2560x16384 .fp8e5m2 := m ((c : Thread nD τ).loc main_arg0)
abbrev a1 : Vec Ideal S2x2560x32 .f32 := m ((c : Thread nD τ).loc main_arg1)
abbrev a2 : Vec Ideal S2x2560x16384 .fp8e4m3 := m ((c : Thread nD τ).loc main_arg2)
abbrev a3 : Vec Ideal S2x2560x64 .f32 := m ((c : Thread nD τ).loc main_arg3)
abbrev a4 : Vec Ideal S64x512x256 .fp8e4m3 := m ((c : Thread nD τ).loc main_arg4)
abbrev a5 : Vec Ideal S64 .f32 := m ((c : Thread nD τ).loc main_arg5)
abbrev a6 : Vec Ideal S512x32x64 .fp8e4m3 := m ((c : Thread nD τ).loc main_arg6)
abbrev a7 : Vec Ideal S512 .f32 := m ((c : Thread nD τ).loc main_arg7)

theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

abbrev t0_0 : Fin cfg0.N := (⟨0, by decide⟩ : Fin grid0.N)

theorem iblk0 : iblk m c 0 t0_0 = m ((c : Thread nD τ).loc main_arg0) := by
  blk_ext! [iblk, V, idx t0_0]
theorem iblk1 : iblk m c 1 t0_0 = m ((c : Thread nD τ).loc main_arg2) := by
  blk_ext! [iblk, V, idx t0_0]
theorem iblk2 : iblk m c 2 t0_0 = m ((c : Thread nD τ).loc main_arg4) := by
  blk_ext! [iblk, V, idx t0_0]
theorem iblk3 : iblk m c 3 t0_0 = m ((c : Thread nD τ).loc main_arg6) := by
  blk_ext! [iblk, V, idx t0_0]

theorem fin4 : (dats m 0 c).arrAt 4 cfg0.N = (extf .bf16 (a0 m c) bitsLt_fp8e5m2_bf16 : FVec Ideal S2x2560x16384 .bf16) := by
  refine (dats m 0 c).arrAt_eq_of_after_last 4 t0_0 (by decide +kernel) _ fun j => ?_
  blk_simp
  rw [after0_4]
  unfold out0_4
  frame_out
  rw [iblk0]
  rfl
theorem fin5 : (dats m 0 c).arrAt 5 cfg0.N = (extf .bf16 (a2 m c) bitsLt_fp8e4m3_bf16 : FVec Ideal S2x2560x16384 .bf16) := by
  refine (dats m 0 c).arrAt_eq_of_after_last 5 t0_0 (by decide +kernel) _ fun j => ?_
  blk_simp
  rw [after0_5]
  unfold out0_5
  frame_out
  rw [iblk1]
  rfl
theorem fin6 : (dats m 0 c).arrAt 6 cfg0.N = (extf .bf16 (a4 m c) bitsLt_fp8e4m3_bf16 : FVec Ideal S64x512x256 .bf16) := by
  refine (dats m 0 c).arrAt_eq_of_after_last 6 t0_0 (by decide +kernel) _ fun j => ?_
  blk_simp
  rw [after0_6]
  unfold out0_6
  frame_out
  rw [iblk2]
  rfl
theorem fin7 : (dats m 0 c).arrAt 7 cfg0.N = (extf .bf16 (a6 m c) bitsLt_fp8e4m3_bf16 : FVec Ideal S512x32x64 .bf16) := by
  refine (dats m 0 c).arrAt_eq_of_after_last 7 t0_0 (by decide +kernel) _ fun j => ?_
  blk_simp
  rw [after0_7]
  unfold out0_7
  frame_out
  rw [iblk3]
  rfl

/-- What the lines after the region start from. -/
abbrev W0 : Valuation τ sig (Elt Ideal) := Pipeline.withArrays (cfgs 0).spec c (V0 m c) fun w => (dats m 0 c).arrAt w (cfgs 0).N

theorem inj0 : Function.Injective (Pipeline.arrRef spec0) := by decide

theorem W0_0 : W0 m c (Proc.devRef .tc main_v0_0) = (extf .bf16 (a0 m c) bitsLt_fp8e5m2_bf16 : FVec Ideal S2x2560x16384 .bf16) :=
  (Pipeline.withArrays_arr spec0 inj0 c _ _ 4).trans (fin4 m c)
theorem W0_1 : W0 m c (Proc.devRef .tc main_v0_1) = (extf .bf16 (a2 m c) bitsLt_fp8e4m3_bf16 : FVec Ideal S2x2560x16384 .bf16) :=
  (Pipeline.withArrays_arr spec0 inj0 c _ _ 5).trans (fin5 m c)
theorem W0_2 : W0 m c (Proc.devRef .tc main_v0_2) = (extf .bf16 (a4 m c) bitsLt_fp8e4m3_bf16 : FVec Ideal S64x512x256 .bf16) :=
  (Pipeline.withArrays_arr spec0 inj0 c _ _ 6).trans (fin6 m c)
theorem W0_3 : W0 m c (Proc.devRef .tc main_v0_3) = (extf .bf16 (a6 m c) bitsLt_fp8e4m3_bf16 : FVec Ideal S512x32x64 .bf16) :=
  (Pipeline.withArrays_arr spec0 inj0 c _ _ 7).trans (fin7 m c)
theorem W0_a1 : W0 m c (Proc.devRef .tc main_arg1) = a1 m c := Pipeline.withArrays_of_ne _ c (V0 m c) _ main_arg1 (by exact (by decide : ∀ w, Pipeline.arrRef spec0 w ≠ main_arg1))
theorem W0_a3 : W0 m c (Proc.devRef .tc main_arg3) = a3 m c := Pipeline.withArrays_of_ne _ c (V0 m c) _ main_arg3 (by exact (by decide : ∀ w, Pipeline.arrRef spec0 w ≠ main_arg3))
theorem W0_a5 : W0 m c (Proc.devRef .tc main_arg5) = a5 m c := Pipeline.withArrays_of_ne _ c (V0 m c) _ main_arg5 (by exact (by decide : ∀ w, Pipeline.arrRef spec0 w ≠ main_arg5))
theorem W0_a7 : W0 m c (Proc.devRef .tc main_arg7) = a7 m c := Pipeline.withArrays_of_ne _ c (V0 m c) _ main_arg7 (by exact (by decide : ∀ w, Pipeline.arrRef spec0 w ≠ main_arg7))

section
variable (b0 : FVec Ideal S2x2560x16384 .bf16) (b1 : FVec Ideal S2x2560x32 .f32) (b2 : FVec Ideal S2x2560x16384 .bf16) (b3 : FVec Ideal S2x2560x64 .f32)
  (b4 : FVec Ideal S64x512x256 .bf16) (b5 : FVec Ideal S64 .f32) (b6 : FVec Ideal S512x32x64 .bf16) (b7 : FVec Ideal S512 .f32)

/-- dh, as the reference computes it. -/
def e16 : FVec Ideal S2x2560x64x512 .bf16 :=
  truncf .bf16 (mulf
    (transpose S2x2560x64x512 [2, 3, 1, 0] (Host.dotGeneral (φ₁ := .bf16) (φ₂ := .bf16) dot_S512x32x64_S2x2560x32x512_S512x64x2x2560_1_2_2_01_0_3 none b6
      (mulf (shapeCast S2x2560x32x512 b0 shapeCasts_S2x2560x16384_S2x2560x32x512)
        (broadcastInDim S2x2560x32x512 ![0, 1, 2, 3] bcast_S2x2560x32x1_S2x2560x32x512_0_1_2_3 (broadcastInDim S2x2560x32x1 ![0, 1, 2] bcast_S2x2560x32_S2x2560x32x1_0_1_2 (truncf .bf16 b1 bitsLt_bf16_f32 : FVec Ideal S2x2560x32 .bf16))))) transposes_S512x64x2x2560_S2x2560x64x512_2_3_1_0)
    (broadcastInDim S2x2560x64x512 ![0, 1, 2, 3] bcast_S1x1x1x512_S2x2560x64x512_0_1_2_3 (broadcastInDim S1x1x1x512 ![3] bcast_S512_S1x1x1x512_3 b7)) : FVec Ideal S2x2560x64x512 .f32) bitsLt_bf16_f32

/-- The scaled x. -/
def e10 : FVec Ideal S2x2560x64x256 .bf16 :=
  mulf (shapeCast S2x2560x64x256 b2 shapeCasts_S2x2560x16384_S2x2560x64x256)
    (broadcastInDim S2x2560x64x256 ![0, 1, 2, 3] bcast_S2x2560x64x1_S2x2560x64x256_0_1_2_3 (broadcastInDim S2x2560x64x1 ![0, 1, 2] bcast_S2x2560x64_S2x2560x64x1_0_1_2 (truncf .bf16 b3 bitsLt_bf16_f32 : FVec Ideal S2x2560x64 .bf16)))

theorem e10_apply (hi : Fin 2) (lo : Fin 2560) (k : Fin 64) (p : Fin 256) :
    (e10 b2 b3 (ix4 hi lo k p) : EReal) = b2 (ix3 hi lo ⟨k.val * 256 + p.val, by omega⟩) * b3 (ix3 hi lo k) := by
  pointwise [e10]

theorem e16_apply (hi : Fin 2) (lo : Fin 2560) (k : Fin 64) (q : Fin 512) :
    (e16 b0 b1 b6 b7 (ix4 hi lo k q) : EReal)
      = (∑ s : Fin 32, b6 (ix3 q s k) * (b0 (ix3 hi lo ⟨s.val * 512 + q.val, by omega⟩) * b1 (ix3 hi lo s))) * b7 (ix1 q) := by
  pointwise [e16]

def e17 : FVec Ideal S64x512x256 .f32 := Host.dotGeneral (φ₁ := .bf16) (φ₂ := .bf16) dot_S2x2560x64x512_S2x2560x64x256_S64x512x256_01_01_3_3_2_2 none (e16 b0 b1 b6 b7) (e10 b2 b3)

theorem e17_apply (k : Fin 64) (q : Fin 512) (p : Fin 256) :
    (e17 b0 b1 b2 b3 b6 b7 (ix3 k q p) : EReal)
      = ∑ hi : Fin 2, ∑ lo : Fin 2560, e16 b0 b1 b6 b7 (ix4 hi lo k q) * e10 b2 b3 (ix4 hi lo k p) := by
  pointwise [e17]

def e26 : FVec Ideal S5120x16384 .bf16 :=
  shapeCast S5120x16384 (truncf .bf16 (shapeCast S2x2560x16384 (mulf
    (transpose S2x2560x64x256 [2, 3, 0, 1] (Host.dotGeneral (φ₁ := .bf16) (φ₂ := .bf16) dot_S64x512x256_S2x2560x64x512_S64x256x2x2560_1_3_2_01_0_2 none b4 (e16 b0 b1 b6 b7)) transposes_S64x256x2x2560_S2x2560x64x256_2_3_0_1)
    (broadcastInDim S2x2560x64x256 ![0, 1, 2, 3] bcast_S1x1x64x1_S2x2560x64x256_0_1_2_3 (broadcastInDim S1x1x64x1 ![2, 3] bcast_S64x1_S1x1x64x1_2_3 (broadcastInDim S64x1 ![0] bcast_S64_S64x1_0 b5))) : FVec Ideal S2x2560x64x256 .f32) shapeCasts_S2x2560x64x256_S2x2560x16384 : FVec Ideal S2x2560x16384 .f32) bitsLt_bf16_f32 : FVec Ideal S2x2560x16384 .bf16) shapeCasts_S2x2560x16384_S5120x16384

theorem e26_apply (t : Fin 5120) (l : Fin 16384) :
    (e26 b0 b1 b4 b5 b6 b7 (ix2 t l) : EReal)
      = (∑ q : Fin 512, b4 (ix3 (⟨l.val / 256, by omega⟩ : Fin 64) q (⟨l.val % 256, by omega⟩ : Fin 256)) * e16 b0 b1 b6 b7 (ix4 (⟨t.val / 2560, by omega⟩ : Fin 2) (⟨t.val % 2560, by omega⟩ : Fin 2560) (⟨l.val / 256, by omega⟩ : Fin 64) q)) * b5 (ix1 (⟨l.val / 256, by omega⟩ : Fin 64)) := by
  pointwise [e26]

def e27 : FVec Ideal S5120x64x512 .bf16 := shapeCast S5120x64x512 (e16 b0 b1 b6 b7) shapeCasts_S2x2560x64x512_S5120x64x512
theorem e27_apply (t : Fin 5120) (k : Fin 64) (q : Fin 512) :
    (e27 b0 b1 b6 b7 (ix3 t k q) : EReal) = e16 b0 b1 b6 b7 (ix4 (⟨t.val / 2560, by omega⟩ : Fin 2) (⟨t.val % 2560, by omega⟩ : Fin 2560) k q) := by
  pointwise [e27]
end

abbrev x0 := (extf .bf16 (a0 m c) bitsLt_fp8e5m2_bf16 : FVec Ideal S2x2560x16384 .bf16)
abbrev x2 := (extf .bf16 (a2 m c) bitsLt_fp8e4m3_bf16 : FVec Ideal S2x2560x16384 .bf16)
abbrev x4 := (extf .bf16 (a4 m c) bitsLt_fp8e4m3_bf16 : FVec Ideal S64x512x256 .bf16)
abbrev x6 := (extf .bf16 (a6 m c) bitsLt_fp8e4m3_bf16 : FVec Ideal S512x32x64 .bf16)

theorem res17 : Pipeline.afterTail₀ cfgs (dats m) 0 (V0 m) [hostOps1] c main_v17 = e17 (x0 m c) (a1 m c) (x2 m c) (a3 m c) (x6 m c) (a7 m c) := by
  have e : Pipeline.afterTail₀ cfgs (dats m) 0 (V0 m) [hostOps1] c main_v17 = e17 (W0 m c (Proc.devRef .tc main_v0_0)) (W0 m c (Proc.devRef .tc main_arg1)) (W0 m c (Proc.devRef .tc main_v0_1)) (W0 m c (Proc.devRef .tc main_arg3)) (W0 m c (Proc.devRef .tc main_v0_3)) (W0 m c (Proc.devRef .tc main_arg7)) := by
    show StableHlo.after hostOps1 (W0 m c) (Proc.devRef .tc main_v17) = _
    generalize W0 m c = W
    after_results <;> rfl
  rw [e, W0_0, W0_1, W0_3, W0_a1, W0_a3, W0_a7]

theorem res26 : Pipeline.afterTail₀ cfgs (dats m) 0 (V0 m) [hostOps1] c main_v26 = e26 (x0 m c) (a1 m c) (x4 m c) (a5 m c) (x6 m c) (a7 m c) := by
  have e : Pipeline.afterTail₀ cfgs (dats m) 0 (V0 m) [hostOps1] c main_v26 = e26 (W0 m c (Proc.devRef .tc main_v0_0)) (W0 m c (Proc.devRef .tc main_arg1)) (W0 m c (Proc.devRef .tc main_v0_2)) (W0 m c (Proc.devRef .tc main_arg5)) (W0 m c (Proc.devRef .tc main_v0_3)) (W0 m c (Proc.devRef .tc main_arg7)) := by
    show StableHlo.after hostOps1 (W0 m c) (Proc.devRef .tc main_v26) = _
    generalize W0 m c = W
    after_results <;> rfl
  rw [e, W0_0, W0_2, W0_3, W0_a1, W0_a5, W0_a7]

theorem res27 : Pipeline.afterTail₀ cfgs (dats m) 0 (V0 m) [hostOps1] c main_v27 = e27 (x0 m c) (a1 m c) (x6 m c) (a7 m c) := by
  have e : Pipeline.afterTail₀ cfgs (dats m) 0 (V0 m) [hostOps1] c main_v27 = e27 (W0 m c (Proc.devRef .tc main_v0_0)) (W0 m c (Proc.devRef .tc main_arg1)) (W0 m c (Proc.devRef .tc main_v0_3)) (W0 m c (Proc.devRef .tc main_arg7)) := by
    show StableHlo.after hostOps1 (W0 m c) (Proc.devRef .tc main_v27) = _
    generalize W0 m c = W
    after_results <;> rfl
  rw [e, W0_0, W0_3, W0_a1, W0_a7]

end Cert.ReferenceIdeal.Hand
-- ==== Proof.KV.Claim.lean ====
module

public import proofs.«01_k».proof.Defs
public import proofs.«01_k».proof.Proof.KV.Trip
public import proofs.«01_k».proof.Proof.KV.Ref

/-! The kernel's three results over the extended reals are the reference's. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.Sem

section
variable (m : (ℓ : Loc nD τ sig) → Buf (Elt Ideal) ℓ)

/-- The contents the run ends with: the three results at their values. -/
def Gof (c : Dev nD) (b : Ref sig .tc) : Buf (Elt Ideal) ((c : Thread nD τ).loc b) :=
  if h : main_v20_0 = b then cast (congrArg (fun b : Ref sig .tc => Buf (Elt Ideal) ((c : Thread nD τ).loc b)) h) (GX c m)
  else if h : main_v20_1 = b then cast (congrArg (fun b : Ref sig .tc => Buf (Elt Ideal) ((c : Thread nD τ).loc b)) h) (GH c m)
  else if h : main_v20_2 = b then cast (congrArg (fun b : Ref sig .tc => Buf (Elt Ideal) ((c : Thread nD τ).loc b)) h) (GR c m)
  else V m c b

theorem Gof_0 (c : Dev nD) : Gof m c main_v20_0 = GX c m := by unfold Gof; rw [dif_pos rfl]; rfl
theorem Gof_1 (c : Dev nD) : Gof m c main_v20_1 = GH c m := by
  unfold Gof
  rw [dif_neg (by decide), dif_pos rfl]
  rfl
theorem Gof_2 (c : Dev nD) : Gof m c main_v20_2 = GR c m := by
  unfold Gof
  rw [dif_neg (by decide), dif_neg (by decide), dif_pos rfl]
  rfl

/-- The kernel's run: the results at their values, the arguments as launched. -/
theorem run_vals (ρ : Dev nD → PrngReg) : θ_run defs (onTc (τ := τ) (main (F := Ideal))) ⟨m, fun _ => 0, ρ⟩ (fun r => ∀ c : Dev nD,
      r.2.mem ((c.tc : Thread nD τ).loc main_v20_0) = GX c m
      ∧ r.2.mem ((c.tc : Thread nD τ).loc main_v20_1) = GH c m
      ∧ r.2.mem ((c.tc : Thread nD τ).loc main_v20_2) = GR c m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h.1.2 c main_v20_0 (by decide)).trans (Gof_0 m c), (h.1.2 c main_v20_1 (by decide)).trans (Gof_1 m c), (h.1.2 c main_v20_2 (by decide)).trans (Gof_2 m c),
        args_of m (fun c => valSpec c m) r h.1.1 c⟩)
    (run_mainG m ρ (fun c => valSpec c m) (Gof m)
      (fun c f h => (funext h).trans (Gof_0 m c).symm) (fun c f h => (funext h).trans (Gof_1 m c).symm) (fun c f h => (funext h).trans (Gof_2 m c).symm))
end

/-! ## The reference's values are these -/

/-- A token block and a row of it is a token. -/
def blocks : Fin 20 × Fin 256 ≃ Fin 2 × Fin 2560 where
  toFun x := (⟨x.1.val % 20 / 10, by omega⟩, ⟨x.1.val % 20 % 10 * 256 + x.2.val, by omega⟩)
  invFun y := (⟨y.1.val * 10 + y.2.val / 256, by omega⟩, ⟨y.2.val % 256, by omega⟩)
  left_inv := by
    rintro ⟨a, b⟩
    refine Prod.ext (Fin.ext ?_) (Fin.ext ?_)
    · show a.val % 20 / 10 * 10 + (a.val % 20 % 10 * 256 + b.val) / 256 = a.val
      omega
    · show (a.val % 20 % 10 * 256 + b.val) % 256 = b.val
      omega
  right_inv := by
    rintro ⟨a, b⟩
    refine Prod.ext (Fin.ext ?_) (Fin.ext ?_)
    · show (a.val * 10 + b.val / 256) % 20 / 10 = a.val
      omega
    · show (a.val * 10 + b.val / 256) % 20 % 10 * 256 + b.val % 256 = b.val
      omega

/-- A sum over the twenty token blocks and their rows is the sum over the tokens. -/
theorem sum_blocks (f : Fin 2 → Fin 2560 → EReal) :
    ∑ b ∈ Finset.range 20, ∑ z : Fin 256, f ⟨b % 20 / 10, by omega⟩ ⟨b % 20 % 10 * 256 + z.val, by omega⟩ = ∑ hi, ∑ lo, f hi lo := by
  rw [Finset.sum_range, ← Fintype.sum_prod_type' (fun (b : Fin 20) (z : Fin 256) => f ⟨b.val % 20 / 10, by omega⟩ ⟨b.val % 20 % 10 * 256 + z.val, by omega⟩),
    ← Fintype.sum_prod_type' f]
  exact Fintype.sum_equiv blocks _ _ (fun x => rfl)

section
variable (m : (ℓ : Loc nD τ sig) → Buf (Elt Ideal) ℓ) (c : Dev nD)
variable (b0 : Vec Ideal S2x2560x16384 .bf16) (b1 : Vec Ideal S2x2560x32 .f32) (b2 : Vec Ideal S2x2560x16384 .bf16) (b3 : Vec Ideal S2x2560x64 .f32)
  (b4 : Vec Ideal S64x512x256 .bf16) (b5 : Vec Ideal S64 .f32) (b6 : Vec Ideal S512x32x64 .bf16) (b7 : Vec Ideal S512 .f32)
  (h0 : ∀ i, (b0 i : EReal) = g0 m c i) (h1 : ∀ i, (b1 i : EReal) = g1 m c i) (h2 : ∀ i, (b2 i : EReal) = g2 m c i) (h3 : ∀ i, (b3 i : EReal) = g3 m c i)
  (h4 : ∀ i, (b4 i : EReal) = g4 m c i) (h5 : ∀ i, (b5 i : EReal) = g5 m c i) (h6 : ∀ i, (b6 i : EReal) = g6 m c i) (h7 : ∀ i, (b7 i : EReal) = g7 m c i)

include h0 h1 h6 h7 in
theorem ref_dh (hi : Fin 2) (lo : Fin 2560) (k : Fin 64) (q : Fin 512) :
    (ReferenceIdeal.Hand.e16 b0 b1 b6 b7 (ix4 hi lo k q) : EReal) = dhG m c hi lo k q := by
  refine (ReferenceIdeal.Hand.e16_apply b0 b1 b6 b7 hi lo k q).trans ?_
  unfold dhG
  exact congrArg₂ (· * ·) (Finset.sum_congr rfl fun s _ => congrArg₂ (· * ·) (h6 _) (congrArg₂ (· * ·) (h0 _) (h1 _))) (h7 _)

include h0 h1 h6 h7 in
theorem ref_GH (i : S5120x64x512.Idx) : (ReferenceIdeal.Hand.e27 b0 b1 b6 b7 i : EReal) = GH c m i := by
  rw [eq_ix3 i]
  refine (ReferenceIdeal.Hand.e27_apply b0 b1 b6 b7 _ _ _).trans ?_
  exact ref_dh m c b0 b1 b6 b7 h0 h1 h6 h7 _ _ _ _

include h0 h1 h4 h5 h6 h7 in
theorem ref_GX (i : S5120x16384.Idx) : (ReferenceIdeal.Hand.e26 b0 b1 b4 b5 b6 b7 i : EReal) = GX c m i := by
  rw [eq_ix2 i]
  refine (ReferenceIdeal.Hand.e26_apply b0 b1 b4 b5 b6 b7 _ _).trans ?_
  show _ = dxG c m _ _ _
  unfold dxG
  refine congrArg₂ (· * ·) (Finset.sum_congr rfl fun z _ => ?_) (h5 _)
  exact (mul_comm (_ : EReal) _).trans (congrArg₂ (· * ·) (ref_dh m c b0 b1 b6 b7 h0 h1 h6 h7 _ _ _ _) (h4 _))

include h0 h1 h2 h3 h6 h7 in
theorem ref_GR (i : S64x512x256.Idx) : (ReferenceIdeal.Hand.e17 b0 b1 b2 b3 b6 b7 i : EReal) = GR c m i := by
  obtain ⟨k, q, p, rfl⟩ : ∃ (k : Fin 64) (q : Fin 512) (p : Fin 256), i = ix3 k q p := ⟨i 0, i 1, i 2, eq_ix3 i⟩
  refine (ReferenceIdeal.Hand.e17_apply b0 b1 b2 b3 b6 b7 k q p).trans ?_
  show _ = drP c m 20 k q p
  unfold drP drB
  refine Eq.trans ?_ (sum_blocks (fun hi lo => dhG m c hi lo k q * (g3 m c (ix3 hi lo k) : EReal) * (g2 m c (ix3 hi lo ⟨k.val * 256 + p.val, by omega⟩) : EReal))).symm
  refine Finset.sum_congr rfl fun hi _ => Finset.sum_congr rfl fun lo _ => ?_
  refine (congrArg₂ (· * ·) (ref_dh m c b0 b1 b6 b7 h0 h1 h6 h7 hi lo k q) ((ReferenceIdeal.Hand.e10_apply b2 b3 hi lo k p).trans (congrArg₂ (· * ·) (h2 _) (h3 _)))).trans ?_
  exact (congrArg (_ * ·) (mul_comm _ _)).trans (mul_assoc _ _ _).symm
end

end Cert.KernelIdeal.Hand

namespace Cert.ReferenceIdeal.Hand

open Cert.ReferenceIdeal Cert.ReferenceIdeal.Gen
open Idealize.ShloMosaic Idealize.ShloMosaic.TcCoe
open Idealize.SL Idealize.SL.Sem

/-- The reference's run: its three results and the arguments as launched. -/
theorem run_vals (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v26) = e26 (x0 m c) (a1 m c) (x4 m c) (a5 m c) (x6 m c) (a7 m c)
      ∧ r.2.mem ((c.tc : Thread nD τ).loc main_v27) = e27 (x0 m c) (a1 m c) (x6 m c) (a7 m c)
      ∧ r.2.mem ((c.tc : Thread nD τ).loc main_v17) = e17 (x0 m c) (a1 m c) (x2 m c) (a3 m c) (x6 m c) (a7 m c)) :=
  (θ_run defs _ _).mono (fun r h c =>
      ⟨((h c).2 main_v26 (Pipeline.mem_restRefs_of main_v26 (by decide) (by decide))).trans (res26 m c),
        ((h c).2 main_v27 (Pipeline.mem_restRefs_of main_v27 (by decide) (by decide))).trans (res27 m c),
        ((h c).2 main_v17 (Pipeline.mem_restRefs_of main_v17 (by decide) (by decide))).trans (res17 m c)⟩)
    (run_main m ρ)

end Cert.ReferenceIdeal.Hand

namespace Cert.KernelIdeal.Hand

open Idealize.ShloMosaic Idealize.ShloMosaic.TcCoe
open Idealize.SL Idealize.SL.Sem

/-- The kernel's results over the extended reals are the reference's. -/
theorem algebraic : Cert.algebraic_KernelIdeal_ReferenceIdeal (hKernelIdeal := Cert.KernelIdeal.Gen.facts) (hReferenceIdeal := Cert.ReferenceIdeal.Gen.facts) := by
  intro m g m' g' _ hag
  refine ⟨fun c => GX c m, fun c => GH c m, fun c => GR c m, run_vals m g, ?_⟩
  refine (θ_run _ _ _).mono (fun r h c => ?_) (θ_run_and (Cert.ReferenceIdeal.Hand.run_vals m' g') (Cert.ReferenceIdeal.Gen.unchanged m' g'))
  obtain ⟨e0, e1, e2, e3, e4, e5, e6, e7⟩ := hag c
  obtain ⟨r0, r1, r2⟩ := h.1 c
  refine ⟨r0.trans (funext fun i => ?_), r1.trans (funext fun i => ?_), r2.trans (funext fun i => ?_), h.2 c⟩
  · exact ref_GX m c _ _ _ _ _ _ (fun i => congrFun e0 i) (fun i => congrFun e1 i) (fun i => congrFun e4 i) (fun i => congrFun e5 i) (fun i => congrFun e6 i) (fun i => congrFun e7 i) i
  · exact ref_GH m c _ _ _ _ (fun i => congrFun e0 i) (fun i => congrFun e1 i) (fun i => congrFun e6 i) (fun i => congrFun e7 i) i
  · exact ref_GR m c _ _ _ _ _ _ (fun i => congrFun e0 i) (fun i => congrFun e1 i) (fun i => congrFun e2 i) (fun i => congrFun e3 i) (fun i => congrFun e6 i) (fun i => congrFun e7 i) i

end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Frame
public import proofs.«01_k».proof.Proof.KI.Launch
public import proofs.«01_k».proof.Proof.K.Launch
public import proofs.«01_k».proof.Proof.KV.Claim
public import Idealize.ShloMosaic.Adequacy
public import Idealize.ShloMosaic.Init

@[expose] public section

noncomputable section

namespace Cert.Proof

open Idealize.ShloMosaic Idealize.SL.Sem Cert.Kernel

/-- Every claim of the file: the frames of the three programs, that the kernel and its ideal twin are one, and that the twin's three results are the reference's. -/
theorem claim : Cert.Claim :=
  ⟨Cert.Kernel.Gen.facts, Cert.KernelIdeal.Gen.facts, Cert.ReferenceIdeal.Gen.facts,
    fun m g _ => Cert.Kernel.Hand.frame_main m g,
    fun m g _ => Cert.KernelIdeal.Hand.frame_main m g,
    fun m g _ => Cert.ReferenceIdeal.Gen.frame m g,
    trivial,
    Cert.KernelIdeal.Hand.algebraic⟩

end Cert.Proof

end
